-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailIdeal_finite_KernelIdeal [hPre_finite_KernelIdeal : Cert.Pre_finite_KernelIdeal.Facts] (m : (ℓ : Loc Cert.TailIdeal.nD Cert.TailIdeal.τ Cert.TailIdeal.sig) → Buf (Elt Ideal) ℓ) : Prop :=
  ∀ c : Dev Cert.TailIdeal.nD,
    (Cert.Pre_finite_KernelIdeal.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4))) = (fun _ => 1#1)

def Pre_TailReferenceIdeal (m : (ℓ : Loc Cert.TailReferenceIdeal.nD Cert.TailReferenceIdeal.τ Cert.TailReferenceIdeal.sig) → Buf (Elt Ideal) ℓ) : Prop :=
  True

def Pre_TailReferenceIdeal_finite_ReferenceIdeal [hPre_finite_ReferenceIdeal : Cert.Pre_finite_ReferenceIdeal.Facts] (m : (ℓ : Loc Cert.TailReferenceIdeal.nD Cert.TailReferenceIdeal.τ Cert.TailReferenceIdeal.sig) → Buf (Elt Ideal) ℓ) : Prop :=
  ∀ c : Dev Cert.TailReferenceIdeal.nD,
    (Cert.Pre_finite_ReferenceIdeal.fn (F := Ideal) (m ((c.tc : Thread Cert.TailReferenceIdeal.nD Cert.TailReferenceIdeal.τ).loc Cert.TailReferenceIdeal.main_arg0)) (m ((c.tc : Thread Cert.TailReferenceIdeal.nD Cert.TailReferenceIdeal.τ).loc Cert.TailReferenceIdeal.main_arg1)) (m ((c.tc : Thread Cert.TailReferenceIdeal.nD Cert.TailReferenceIdeal.τ).loc Cert.TailReferenceIdeal.main_arg2)) (m ((c.tc : Thread Cert.TailReferenceIdeal.nD Cert.TailReferenceIdeal.τ).loc Cert.TailReferenceIdeal.main_arg3)) (m ((c.tc : Thread Cert.TailReferenceIdeal.nD Cert.TailReferenceIdeal.τ).loc Cert.TailReferenceIdeal.main_arg4))) = (fun _ => 1#1)

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidIdeal_finite_KernelIdeal [hPre_finite_KernelIdeal : Cert.Pre_finite_KernelIdeal.Facts] (m : (ℓ : Loc Cert.MidIdeal.nD Cert.MidIdeal.τ Cert.MidIdeal.sig) → Buf (Elt Ideal) ℓ) : Prop :=
  ∀ c : Dev Cert.MidIdeal.nD,
    (Cert.Pre_finite_KernelIdeal.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4))) = (fun _ => 1#1)

def Pre_MidReferenceIdeal (m : (ℓ : Loc Cert.MidReferenceIdeal.nD Cert.MidReferenceIdeal.τ Cert.MidReferenceIdeal.sig) → Buf (Elt Ideal) ℓ) : Prop :=
  True

def Pre_MidReferenceIdeal_finite_ReferenceIdeal [hPre_finite_ReferenceIdeal : Cert.Pre_finite_ReferenceIdeal.Facts] (m : (ℓ : Loc Cert.MidReferenceIdeal.nD Cert.MidReferenceIdeal.τ Cert.MidReferenceIdeal.sig) → Buf (Elt Ideal) ℓ) : Prop :=
  ∀ c : Dev Cert.MidReferenceIdeal.nD,
    (Cert.Pre_finite_ReferenceIdeal.fn (F := Ideal) (m ((c.tc : Thread Cert.MidReferenceIdeal.nD Cert.MidReferenceIdeal.τ).loc Cert.MidReferenceIdeal.main_arg0)) (m ((c.tc : Thread Cert.MidReferenceIdeal.nD Cert.MidReferenceIdeal.τ).loc Cert.MidReferenceIdeal.main_arg1)) (m ((c.tc : Thread Cert.MidReferenceIdeal.nD Cert.MidReferenceIdeal.τ).loc Cert.MidReferenceIdeal.main_arg2)) (m ((c.tc : Thread Cert.MidReferenceIdeal.nD Cert.MidReferenceIdeal.τ).loc Cert.MidReferenceIdeal.main_arg3)) (m ((c.tc : Thread Cert.MidReferenceIdeal.nD Cert.MidReferenceIdeal.τ).loc Cert.MidReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4))
      ∧ r.2.sem = fun _ => 0)

def quiescent_TailIdeal_pre_finite_KernelIdeal [hTailIdeal : Cert.TailIdeal.Facts] [hPre_finite_KernelIdeal : Cert.Pre_finite_KernelIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal_finite_KernelIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4))
      ∧ r.2.sem = fun _ => 0)

def quiescent_TailReferenceIdeal_pre_finite_ReferenceIdeal [hTailReferenceIdeal : Cert.TailReferenceIdeal.Facts] [hPre_finite_ReferenceIdeal : Cert.Pre_finite_ReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal_finite_ReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4))
      ∧ r.2.sem = fun _ => 0)

def quiescent_MidIdeal_pre_finite_KernelIdeal [hMidIdeal : Cert.MidIdeal.Facts] [hPre_finite_KernelIdeal : Cert.Pre_finite_KernelIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal_finite_KernelIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4))
      ∧ r.2.sem = fun _ => 0)

def quiescent_MidReferenceIdeal [hMidReferenceIdeal : Cert.MidReferenceIdeal.Facts] : Prop :=
  ∀ (m : (ℓ : Loc Cert.MidReferenceIdeal.nD Cert.MidReferenceIdeal.τ Cert.MidReferenceIdeal.sig) → Buf (Elt Ideal) ℓ) (g : Dev Cert.MidReferenceIdeal.nD → PrngReg), Pre_MidReferenceIdeal m →
    θ_run (Cert.MidReferenceIdeal.defs (F := Ideal)) (onTc (τ := Cert.MidReferenceIdeal.τ) (Cert.MidReferenceIdeal.main (F := Ideal))) ⟨m, fun _ => 0, g⟩ (fun r => (∀ c : Dev Cert.MidReferenceIdeal.nD,
      r.2.mem ((c.tc : Thread Cert.MidReferenceIdeal.nD Cert.MidReferenceIdeal.τ).loc Cert.MidReferenceIdeal.main_arg0) = m ((c.tc : Thread Cert.MidReferenceIdeal.nD Cert.MidReferenceIdeal.τ).loc Cert.MidReferenceIdeal.main_arg0)
      ∧ r.2.mem ((c.tc : Thread Cert.MidReferenceIdeal.nD Cert.MidReferenceIdeal.τ).loc Cert.MidReferenceIdeal.main_arg1) = m ((c.tc : Thread Cert.MidReferenceIdeal.nD Cert.MidReferenceIdeal.τ).loc Cert.MidReferenceIdeal.main_arg1)
      ∧ r.2.mem ((c.tc : Thread Cert.MidReferenceIdeal.nD Cert.MidReferenceIdeal.τ).loc Cert.MidReferenceIdeal.main_arg2) = m ((c.tc : Thread Cert.MidReferenceIdeal.nD Cert.MidReferenceIdeal.τ).loc Cert.MidReferenceIdeal.main_arg2)
      ∧ r.2.mem ((c.tc : Thread Cert.MidReferenceIdeal.nD Cert.MidReferenceIdeal.τ).loc Cert.MidReferenceIdeal.main_arg3) = m ((c.tc : Thread Cert.MidReferenceIdeal.nD Cert.MidReferenceIdeal.τ).loc Cert.MidReferenceIdeal.main_arg3)
      ∧ r.2.mem ((c.tc : Thread Cert.MidReferenceIdeal.nD Cert.MidReferenceIdeal.τ).loc Cert.MidReferenceIdeal.main_arg4) = m ((c.tc : Thread Cert.MidReferenceIdeal.nD Cert.MidReferenceIdeal.τ).loc Cert.MidReferenceIdeal.main_arg4))
      ∧ r.2.sem = fun _ => 0)

def quiescent_MidReferenceIdeal_pre_finite_ReferenceIdeal [hMidReferenceIdeal : Cert.MidReferenceIdeal.Facts] [hPre_finite_ReferenceIdeal : Cert.Pre_finite_ReferenceIdeal.Facts] : Prop :=
  ∀ (m : (ℓ : Loc Cert.MidReferenceIdeal.nD Cert.MidReferenceIdeal.τ Cert.MidReferenceIdeal.sig) → Buf (Elt Ideal) ℓ) (g : Dev Cert.MidReferenceIdeal.nD → PrngReg), Pre_MidReferenceIdeal_finite_ReferenceIdeal m →
    θ_run (Cert.MidReferenceIdeal.defs (F := Ideal)) (onTc (τ := Cert.MidReferenceIdeal.τ) (Cert.MidReferenceIdeal.main (F := Ideal))) ⟨m, fun _ => 0, g⟩ (fun r => (∀ c : Dev Cert.MidReferenceIdeal.nD,
      r.2.mem ((c.tc : Thread Cert.MidReferenceIdeal.nD Cert.MidReferenceIdeal.τ).loc Cert.MidReferenceIdeal.main_arg0) = m ((c.tc : Thread Cert.MidReferenceIdeal.nD Cert.MidReferenceIdeal.τ).loc Cert.MidReferenceIdeal.main_arg0)
      ∧ r.2.mem ((c.tc : Thread Cert.MidReferenceIdeal.nD Cert.MidReferenceIdeal.τ).loc Cert.MidReferenceIdeal.main_arg1) = m ((c.tc : Thread Cert.MidReferenceIdeal.nD Cert.MidReferenceIdeal.τ).loc Cert.MidReferenceIdeal.main_arg1)
      ∧ r.2.mem ((c.tc : Thread Cert.MidReferenceIdeal.nD Cert.MidReferenceIdeal.τ).loc Cert.MidReferenceIdeal.main_arg2) = m ((c.tc : Thread Cert.MidReferenceIdeal.nD Cert.MidReferenceIdeal.τ).loc Cert.MidReferenceIdeal.main_arg2)
      ∧ r.2.mem ((c.tc : Thread Cert.MidReferenceIdeal.nD Cert.MidReferenceIdeal.τ).loc Cert.MidReferenceIdeal.main_arg3) = m ((c.tc : Thread Cert.MidReferenceIdeal.nD Cert.MidReferenceIdeal.τ).loc Cert.MidReferenceIdeal.main_arg3)
      ∧ r.2.mem ((c.tc : Thread Cert.MidReferenceIdeal.nD Cert.MidReferenceIdeal.τ).loc Cert.MidReferenceIdeal.main_arg4) = m ((c.tc : Thread Cert.MidReferenceIdeal.nD Cert.MidReferenceIdeal.τ).loc Cert.MidReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![4, 2048, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![4, 2048, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v80) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def preserves_Tail_TailIdeal : Prop :=
  IdealRules.named_const.Statement Cert.TailIdeal.κ "mask" .f32 0xCE6E6B28#32 ⊥

def algebraic_TailIdeal_TailReferenceIdeal_pre_finite_KernelIdeal [hTailIdeal : Cert.TailIdeal.Facts] [hTailReferenceIdeal : Cert.TailReferenceIdeal.Facts] [hPre_finite_KernelIdeal : Cert.Pre_finite_KernelIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailIdeal_finite_KernelIdeal m →
    (∀ c : Dev Cert.TailIdeal.nD,
      m ((c.tc : Thread Cert.TailIdeal.nD Cert.TailIdeal.τ).loc Cert.TailIdeal.main_arg0) = Layout.block ⟨3, ![1, 2048, 1024]⟩ ⟨3, ![4, 2048, 1024]⟩ 0 4 c (m' (((0 : Dev Cert.TailReferenceIdeal.nD).tc : Thread Cert.TailReferenceIdeal.nD Cert.TailReferenceIdeal.τ).loc Cert.TailReferenceIdeal.main_arg0))
      ∧ m ((c.tc : Thread Cert.TailIdeal.nD Cert.TailIdeal.τ).loc Cert.TailIdeal.main_arg1) = Layout.block ⟨2, ![1024, 1024]⟩ ⟨2, ![1024, 4096]⟩ 1 4 c (m' (((0 : Dev Cert.TailReferenceIdeal.nD).tc : Thread Cert.TailReferenceIdeal.nD Cert.TailReferenceIdeal.τ).loc Cert.TailReferenceIdeal.main_arg1))
      ∧ m ((c.tc : Thread Cert.TailIdeal.nD Cert.TailIdeal.τ).loc Cert.TailIdeal.main_arg2) = m' (((0 : Dev Cert.TailReferenceIdeal.nD).tc : Thread Cert.TailReferenceIdeal.nD Cert.TailReferenceIdeal.τ).loc Cert.TailReferenceIdeal.main_arg2)
      ∧ m ((c.tc : Thread Cert.TailIdeal.nD Cert.TailIdeal.τ).loc Cert.TailIdeal.main_arg3) = m' (((0 : Dev Cert.TailReferenceIdeal.nD).tc : Thread Cert.TailReferenceIdeal.nD Cert.TailReferenceIdeal.τ).loc Cert.TailReferenceIdeal.main_arg3)
      ∧ m ((c.tc : Thread Cert.TailIdeal.nD Cert.TailIdeal.τ).loc Cert.TailIdeal.main_arg4) = Layout.block ⟨2, ![1024, 1024]⟩ ⟨2, ![4096, 1024]⟩ 0 4 c (m' (((0 : Dev Cert.TailReferenceIdeal.nD).tc : Thread Cert.TailReferenceIdeal.nD Cert.TailReferenceIdeal.τ).loc Cert.TailReferenceIdeal.main_arg4))) →
    ∃ (v0 : Buf (Elt Ideal) (((0 : Dev Cert.TailReferenceIdeal.nD).tc : Thread Cert.TailReferenceIdeal.nD Cert.TailReferenceIdeal.τ).loc Cert.TailReferenceIdeal.main_v90)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v1) = Layout.block ⟨3, ![1, 2048, 1024]⟩ ⟨3, ![4, 2048, 1024]⟩ 0 4 c v0
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4))
      ∧ θ_run (Cert.TailReferenceIdeal.defs (F := Ideal)) (onTc (τ := Cert.TailReferenceIdeal.τ) (Cert.TailReferenceIdeal.main (F := Ideal))) ⟨m', fun _ => 0, g'⟩ (fun r =>
          r.2.mem (((0 : Dev Cert.TailReferenceIdeal.nD).tc : Thread Cert.TailReferenceIdeal.nD Cert.TailReferenceIdeal.τ).loc Cert.TailReferenceIdeal.main_v90) = v0
          ∧ r.2.mem (((0 : Dev Cert.TailReferenceIdeal.nD).tc : Thread Cert.TailReferenceIdeal.nD Cert.TailReferenceIdeal.τ).loc Cert.TailReferenceIdeal.main_arg0) = m' (((0 : Dev Cert.TailReferenceIdeal.nD).tc : Thread Cert.TailReferenceIdeal.nD Cert.TailReferenceIdeal.τ).loc Cert.TailReferenceIdeal.main_arg0)
          ∧ r.2.mem (((0 : Dev Cert.TailReferenceIdeal.nD).tc : Thread Cert.TailReferenceIdeal.nD Cert.TailReferenceIdeal.τ).loc Cert.TailReferenceIdeal.main_arg1) = m' (((0 : Dev Cert.TailReferenceIdeal.nD).tc : Thread Cert.TailReferenceIdeal.nD Cert.TailReferenceIdeal.τ).loc Cert.TailReferenceIdeal.main_arg1)
          ∧ r.2.mem (((0 : Dev Cert.TailReferenceIdeal.nD).tc : Thread Cert.TailReferenceIdeal.nD Cert.TailReferenceIdeal.τ).loc Cert.TailReferenceIdeal.main_arg2) = m' (((0 : Dev Cert.TailReferenceIdeal.nD).tc : Thread Cert.TailReferenceIdeal.nD Cert.TailReferenceIdeal.τ).loc Cert.TailReferenceIdeal.main_arg2)
          ∧ r.2.mem (((0 : Dev Cert.TailReferenceIdeal.nD).tc : Thread Cert.TailReferenceIdeal.nD Cert.TailReferenceIdeal.τ).loc Cert.TailReferenceIdeal.main_arg3) = m' (((0 : Dev Cert.TailReferenceIdeal.nD).tc : Thread Cert.TailReferenceIdeal.nD Cert.TailReferenceIdeal.τ).loc Cert.TailReferenceIdeal.main_arg3)
          ∧ r.2.mem (((0 : Dev Cert.TailReferenceIdeal.nD).tc : Thread Cert.TailReferenceIdeal.nD Cert.TailReferenceIdeal.τ).loc Cert.TailReferenceIdeal.main_arg4) = m' (((0 : Dev Cert.TailReferenceIdeal.nD).tc : Thread Cert.TailReferenceIdeal.nD Cert.TailReferenceIdeal.τ).loc Cert.TailReferenceIdeal.main_arg4))

def preserves_Mid_MidIdeal : Prop :=
  IdealRules.named_const.Statement Cert.MidIdeal.κ "mask" .f32 0xCE6E6B28#32 ⊥

def algebraic_MidIdeal_MidReferenceIdeal_pre_finite_KernelIdeal [hMidIdeal : Cert.MidIdeal.Facts] [hMidReferenceIdeal : Cert.MidReferenceIdeal.Facts] [hPre_finite_KernelIdeal : Cert.Pre_finite_KernelIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidReferenceIdeal.nD Cert.MidReferenceIdeal.τ Cert.MidReferenceIdeal.sig) → Buf (Elt Ideal) ℓ) (g' : Dev Cert.MidReferenceIdeal.nD → PrngReg), Pre_MidIdeal_finite_KernelIdeal m →
    (∀ c : Dev Cert.MidIdeal.nD,
      m ((c.tc : Thread Cert.MidIdeal.nD Cert.MidIdeal.τ).loc Cert.MidIdeal.main_arg0) = Layout.block ⟨3, ![1, 2048, 1024]⟩ ⟨3, ![4, 2048, 1024]⟩ 0 4 c (m' (((0 : Dev Cert.MidReferenceIdeal.nD).tc : Thread Cert.MidReferenceIdeal.nD Cert.MidReferenceIdeal.τ).loc Cert.MidReferenceIdeal.main_arg0))
      ∧ m ((c.tc : Thread Cert.MidIdeal.nD Cert.MidIdeal.τ).loc Cert.MidIdeal.main_arg1) = Layout.block ⟨2, ![1024, 1024]⟩ ⟨2, ![1024, 4096]⟩ 1 4 c (m' (((0 : Dev Cert.MidReferenceIdeal.nD).tc : Thread Cert.MidReferenceIdeal.nD Cert.MidReferenceIdeal.τ).loc Cert.MidReferenceIdeal.main_arg1))
      ∧ m ((c.tc : Thread Cert.MidIdeal.nD Cert.MidIdeal.τ).loc Cert.MidIdeal.main_arg2) = m' (((0 : Dev Cert.MidReferenceIdeal.nD).tc : Thread Cert.MidReferenceIdeal.nD Cert.MidReferenceIdeal.τ).loc Cert.MidReferenceIdeal.main_arg2)
      ∧ m ((c.tc : Thread Cert.MidIdeal.nD Cert.MidIdeal.τ).loc Cert.MidIdeal.main_arg3) = m' (((0 : Dev Cert.MidReferenceIdeal.nD).tc : Thread Cert.MidReferenceIdeal.nD Cert.MidReferenceIdeal.τ).loc Cert.MidReferenceIdeal.main_arg3)
      ∧ m ((c.tc : Thread Cert.MidIdeal.nD Cert.MidIdeal.τ).loc Cert.MidIdeal.main_arg4) = Layout.block ⟨2, ![1024, 1024]⟩ ⟨2, ![4096, 1024]⟩ 0 4 c (m' (((0 : Dev Cert.MidReferenceIdeal.nD).tc : Thread Cert.MidReferenceIdeal.nD Cert.MidReferenceIdeal.τ).loc Cert.MidReferenceIdeal.main_arg4))) →
    ∃ (v0 : Buf (Elt Ideal) (((0 : Dev Cert.MidReferenceIdeal.nD).tc : Thread Cert.MidReferenceIdeal.nD Cert.MidReferenceIdeal.τ).loc Cert.MidReferenceIdeal.main_v110)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v1) = Layout.block ⟨3, ![1, 2048, 1024]⟩ ⟨3, ![4, 2048, 1024]⟩ 0 4 c v0
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4))
      ∧ θ_run (Cert.MidReferenceIdeal.defs (F := Ideal)) (onTc (τ := Cert.MidReferenceIdeal.τ) (Cert.MidReferenceIdeal.main (F := Ideal))) ⟨m', fun _ => 0, g'⟩ (fun r =>
          r.2.mem (((0 : Dev Cert.MidReferenceIdeal.nD).tc : Thread Cert.MidReferenceIdeal.nD Cert.MidReferenceIdeal.τ).loc Cert.MidReferenceIdeal.main_v110) = v0
          ∧ r.2.mem (((0 : Dev Cert.MidReferenceIdeal.nD).tc : Thread Cert.MidReferenceIdeal.nD Cert.MidReferenceIdeal.τ).loc Cert.MidReferenceIdeal.main_arg0) = m' (((0 : Dev Cert.MidReferenceIdeal.nD).tc : Thread Cert.MidReferenceIdeal.nD Cert.MidReferenceIdeal.τ).loc Cert.MidReferenceIdeal.main_arg0)
          ∧ r.2.mem (((0 : Dev Cert.MidReferenceIdeal.nD).tc : Thread Cert.MidReferenceIdeal.nD Cert.MidReferenceIdeal.τ).loc Cert.MidReferenceIdeal.main_arg1) = m' (((0 : Dev Cert.MidReferenceIdeal.nD).tc : Thread Cert.MidReferenceIdeal.nD Cert.MidReferenceIdeal.τ).loc Cert.MidReferenceIdeal.main_arg1)
          ∧ r.2.mem (((0 : Dev Cert.MidReferenceIdeal.nD).tc : Thread Cert.MidReferenceIdeal.nD Cert.MidReferenceIdeal.τ).loc Cert.MidReferenceIdeal.main_arg2) = m' (((0 : Dev Cert.MidReferenceIdeal.nD).tc : Thread Cert.MidReferenceIdeal.nD Cert.MidReferenceIdeal.τ).loc Cert.MidReferenceIdeal.main_arg2)
          ∧ r.2.mem (((0 : Dev Cert.MidReferenceIdeal.nD).tc : Thread Cert.MidReferenceIdeal.nD Cert.MidReferenceIdeal.τ).loc Cert.MidReferenceIdeal.main_arg3) = m' (((0 : Dev Cert.MidReferenceIdeal.nD).tc : Thread Cert.MidReferenceIdeal.nD Cert.MidReferenceIdeal.τ).loc Cert.MidReferenceIdeal.main_arg3)
          ∧ r.2.mem (((0 : Dev Cert.MidReferenceIdeal.nD).tc : Thread Cert.MidReferenceIdeal.nD Cert.MidReferenceIdeal.τ).loc Cert.MidReferenceIdeal.main_arg4) = m' (((0 : Dev Cert.MidReferenceIdeal.nD).tc : Thread Cert.MidReferenceIdeal.nD Cert.MidReferenceIdeal.τ).loc Cert.MidReferenceIdeal.main_arg4))

def Claim : Prop :=
  ∃ (hKernel : Cert.Kernel.Facts) (hKernelIdeal : Cert.KernelIdeal.Facts) (hReferenceIdeal : Cert.ReferenceIdeal.Facts) (hTail : Cert.Tail.Facts) (hTailIdeal : Cert.TailIdeal.Facts) (hTailReferenceIdeal : Cert.TailReferenceIdeal.Facts) (hMid : Cert.Mid.Facts) (hMidIdeal : Cert.MidIdeal.Facts) (hMidReferenceIdeal : Cert.MidReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ quiescent_Tail (hTail := hTail)
    ∧ quiescent_TailIdeal (hTailIdeal := hTailIdeal)
    ∧ quiescent_TailIdeal_pre_finite_KernelIdeal (hTailIdeal := hTailIdeal) (hPre_finite_KernelIdeal := hPre_finite_KernelIdeal)
    ∧ quiescent_TailReferenceIdeal (hTailReferenceIdeal := hTailReferenceIdeal)
    ∧ quiescent_TailReferenceIdeal_pre_finite_ReferenceIdeal (hTailReferenceIdeal := hTailReferenceIdeal) (hPre_finite_ReferenceIdeal := hPre_finite_ReferenceIdeal)
    ∧ quiescent_Mid (hMid := hMid)
    ∧ quiescent_MidIdeal (hMidIdeal := hMidIdeal)
    ∧ quiescent_MidIdeal_pre_finite_KernelIdeal (hMidIdeal := hMidIdeal) (hPre_finite_KernelIdeal := hPre_finite_KernelIdeal)
    ∧ quiescent_MidReferenceIdeal (hMidReferenceIdeal := hMidReferenceIdeal)
    ∧ quiescent_MidReferenceIdeal_pre_finite_ReferenceIdeal (hMidReferenceIdeal := hMidReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
    ∧ preserves_Tail_TailIdeal
    ∧ algebraic_TailIdeal_TailReferenceIdeal_pre_finite_KernelIdeal (hTailIdeal := hTailIdeal) (hTailReferenceIdeal := hTailReferenceIdeal) (hPre_finite_KernelIdeal := hPre_finite_KernelIdeal)
    ∧ preserves_Mid_MidIdeal
    ∧ algebraic_MidIdeal_MidReferenceIdeal_pre_finite_KernelIdeal (hMidIdeal := hMidIdeal) (hMidReferenceIdeal := hMidReferenceIdeal) (hPre_finite_KernelIdeal := hPre_finite_KernelIdeal)
-- ==== Pre_finite_KernelIdeal.lean ====
abbrev S1x2048x1024 : Shape := ⟨3, ![1, 2048, 1024]⟩
abbrev S1024x1024 : Shape := ⟨2, ![1024, 1024]⟩
abbrev S4x2048x32x128 : Shape := ⟨4, ![4, 2048, 32, 128]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S4x2048x32x128 : S_.BroadcastsInDim S4x2048x32x128 (![] : Fin 0 → Fin S4x2048x32x128.rank)
  reducesTo_S4x2048x32x128_S_d0_1_2_3 : S4x2048x32x128.ReducesTo [0, 1, 2, 3] S_

variable [Facts]

def fn {F : FTy → Type} [FloatOps F] (main_arg0 : FVec F S1x2048x1024 .f32) (main_arg1 : FVec F S1024x1024 .f32) (main_arg2 : FVec F S4x2048x32x128 .f32) (main_arg3 : FVec F S4x2048x32x128 .f32) (main_arg4 : FVec F S1024x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S4x2048x32x128 .f32 := Host.absf main_arg2
  let main_cst_2 : FVec F S_ .f32 := constant S_ .f32 0x7F800000#32
  let main_v10 : FVec F S4x2048x32x128 .f32 := broadcastInDim S4x2048x32x128 ![] bcast_S_S4x2048x32x128 main_cst_2
  let main_v11 : IVec S4x2048x32x128 1 := cmpf .olt main_v9 main_v10
  let main_c_3 : IVec S_ 1 := constantI S_ 1 1#1
  let main_v12 : IVec S_ 1 := (fun x v => Host.reduce IntOp.andi x v reducesTo_S4x2048x32x128_S_d0_1_2_3 h_S_) main_v11 main_c_3
  let main_v13 : IVec S_ 1 := andi main_v8 main_v12
  main_v13
-- ==== Pre_finite_ReferenceIdeal.lean ====
abbrev S4x2048x1024 : Shape := ⟨3, ![4, 2048, 1024]⟩
abbrev S1024x4096 : Shape := ⟨2, ![1024, 4096]⟩
abbrev S4x2048x32x128 : Shape := ⟨4, ![4, 2048, 32, 128]⟩
abbrev S4096x1024 : Shape := ⟨2, ![4096, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4x2048x32x128 : S_.BroadcastsInDim S4x2048x32x128 (![] : Fin 0 → Fin S4x2048x32x128.rank)
  reducesTo_S4x2048x32x128_S_d0_1_2_3 : S4x2048x32x128.ReducesTo [0, 1, 2, 3] S_

variable [Facts]

def fn {F : FTy → Type} [FloatOps F] (main_arg0 : FVec F S4x2048x1024 .f32) (main_arg1 : FVec F S1024x4096 .f32) (main_arg2 : FVec F S4x2048x32x128 .f32) (main_arg3 : FVec F S4x2048x32x128 .f32) (main_arg4 : FVec F S4096x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4x2048x32x128 .f32 := Host.absf main_arg2
  let main_cst_2 : FVec F S_ .f32 := constant S_ .f32 0x7F800000#32
  let main_v10 : FVec F S4x2048x32x128 .f32 := broadcastInDim S4x2048x32x128 ![] bcast_S_S4x2048x32x128 main_cst_2
  let main_v11 : IVec S4x2048x32x128 1 := cmpf .olt main_v9 main_v10
  let main_c_3 : IVec S_ 1 := constantI S_ 1 1#1
  let main_v12 : IVec S_ 1 := (fun x v => Host.reduce IntOp.andi x v reducesTo_S4x2048x32x128_S_d0_1_2_3 h_S_) main_v11 main_c_3
  let main_v13 : IVec S_ 1 := andi main_v8 main_v12
  main_v13
-- ==== Kernel.lean ====
abbrev S1x2048x1024 : Shape := ⟨3, ![1, 2048, 1024]⟩
abbrev S1024x1024 : Shape := ⟨2, ![1024, 1024]⟩
abbrev S4x2048x32x128 : Shape := ⟨4, ![4, 2048, 32, 128]⟩
abbrev S2x1024x512 : Shape := ⟨3, ![2, 1024, 512]⟩
abbrev S2x512x1024 : Shape := ⟨3, ![2, 512, 1024]⟩
abbrev S2048x1024 : Shape := ⟨2, ![2048, 1024]⟩
abbrev S8x2048x128 : Shape := ⟨3, ![8, 2048, 128]⟩
abbrev S4x2 : Shape := ⟨2, ![4, 2]⟩
abbrev S_ : Shape := ⟨0, ![]⟩
abbrev S1024x512 : Shape := ⟨2, ![1024, 512]⟩
abbrev S1x1024x512 : Shape := ⟨3, ![1, 1024, 512]⟩
abbrev S512x1024 : Shape := ⟨2, ![512, 1024]⟩
abbrev S1x512x1024 : Shape := ⟨3, ![1, 512, 1024]⟩
abbrev S1x1 : Shape := ⟨2, ![1, 1]⟩
abbrev S1x2048x128 : Shape := ⟨3, ![1, 2048, 128]⟩
abbrev S2048x128 : Shape := ⟨2, ![2048, 128]⟩
abbrev S1x2048x1x128 : Shape := ⟨4, ![1, 2048, 1, 128]⟩
abbrev S512x512 : Shape := ⟨2, ![512, 512]⟩
abbrev S512x768 : Shape := ⟨2, ![512, 768]⟩
abbrev S512x128 : Shape := ⟨2, ![512, 128]⟩
abbrev S1x768x128 : Shape := ⟨3, ![1, 768, 128]⟩
abbrev S768x128 : Shape := ⟨2, ![768, 128]⟩
abbrev S512 : Shape := ⟨1, ![512]⟩
abbrev S512x1 : Shape := ⟨2, ![512, 1]⟩

abbrev nBuf : Space → Nat
  | .hbm => 6
  | .vmem => 13
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S4x2048x32x128, .f32⟩
  | .hbm, ⟨3, _⟩ => ⟨S4x2048x32x128, .f32⟩
  | .hbm, ⟨4, _⟩ => ⟨S1024x1024, .f32⟩
  | .hbm, ⟨5, _⟩ => ⟨S1x2048x1024, .f32⟩
  | .local _ .vmem, ⟨0, _⟩ => ⟨S1x2048x1024, .f32⟩
  | .local _ .vmem, ⟨1, _⟩ => ⟨S1024x1024, .f32⟩
  | .local _ .vmem, ⟨2, _⟩ => ⟨S1024x1024, .f32⟩
  | .local _ .vmem, ⟨3, _⟩ => ⟨S1x2048x1024, .f32⟩
  | .local _ .vmem, ⟨4, _⟩ => ⟨S2x1024x512, .bf16⟩
  | .local _ .vmem, ⟨5, _⟩ => ⟨S2x512x1024, .bf16⟩
  | .local _ .vmem, ⟨6, _⟩ => ⟨S2x1024x512, .bf16⟩
  | .local _ .vmem, ⟨7, _⟩ => ⟨S2x512x1024, .bf16⟩
  | .local _ .vmem, ⟨8, _⟩ => ⟨S1024x1024, .bf16⟩
  | .local _ .vmem, ⟨9, _⟩ => ⟨S2048x1024, .bf16⟩
  | .local _ .vmem, ⟨10, _⟩ => ⟨S2048x1024, .bf16⟩
  | .local _ .vmem, ⟨11, _⟩ => ⟨S8x2048x128, .f32⟩
  | .local _ .vmem, ⟨12, _⟩ => ⟨S8x2048x128, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_30 : BitVec 32 := 1#32
  let v43 : BitVec 32 := Scalar.muli v5 c1_i32_30
  let v44 : BitVec 32 := Scalar.addi c0_i32 v43
  v44.toNat
def k0_dev2 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_32 : BitVec 32 := 1#32
  let v45 : BitVec 32 := Scalar.muli v7 c1_i32_32
  let v46 : BitVec 32 := Scalar.addi c0_i32_33 v45
  v46.toNat
def k0_dev3 (d0 : Dev nD) : Nat :=
  let c0_i32_46 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_45 : BitVec 32 := 1#32
  let v52 : BitVec 32 := Scalar.muli v7 c1_i32_45
  let v53 : BitVec 32 := Scalar.addi c0_i32_46 v52
  v53.toNat
def k0_dev4 (d0 : Dev nD) : Nat :=
  let c0_i32_58 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_57 : BitVec 32 := 1#32
  let v62 : BitVec 32 := Scalar.muli v7 c1_i32_57
  let v63 : BitVec 32 := Scalar.addi c0_i32_58 v62
  v63.toNat
def k0_dev5 (d0 : Dev nD) : Nat :=
  let c0_i32_70 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_69 : BitVec 32 := 1#32
  let v72 : BitVec 32 := Scalar.muli v5 c1_i32_69
  let v73 : BitVec 32 := Scalar.addi c0_i32_70 v72
  v73.toNat
def k0_dev6 (d0 : Dev nD) : Nat :=
  let c0_i32_81 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_80 : BitVec 32 := 1#32
  let v82 : BitVec 32 := Scalar.muli v5 c1_i32_80
  let v83 : BitVec 32 := Scalar.addi c0_i32_81 v82
  v83.toNat
def k0_off1 (d0 : Dev nD) (true_89 : BitVec 1) (c0_i32_34 : BitVec 32) (c0_i32_86 : BitVec 32) (c0_i32_37 : BitVec 32) (c0_i32_88 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_124 : BitVec 32 := 0#32
  let v47 : BitVec 32 := Scalar.subi v2 c0_i32_34
  let c4_i32_35 : BitVec 32 := 4#32
  let v48 : BitVec 32 := Scalar.addi v47 c4_i32_35
  let c4_i32_36 : BitVec 32 := 4#32
  let v49 : BitVec 32 := Scalar.remsi v48 c4_i32_36
  let c8_i32 : BitVec 32 := 8#32
  let v92 : BitVec 32 := Scalar.muli v49 c8_i32
  let v93 : BitVec 32 := Scalar.addi v92 c0_i32_86
  let v50 : BitVec 32 := Scalar.addi v2 c0_i32_37
  let c4_i32_38 : BitVec 32 := 4#32
  let v51 : BitVec 32 := Scalar.remsi v50 c4_i32_38
  let c8_i32_87 : BitVec 32 := 8#32
  let v94 : BitVec 32 := Scalar.muli v51 c8_i32_87
  let v95 : BitVec 32 := Scalar.addi v94 c0_i32_88
  let v96 : BitVec 32 := Scalar.select true_89 v93 v95
  let c0_i32_125 : BitVec 32 := 0#32
  ![v2.toNat, 0, v96.toNat, 0]
def k0_off1_at (r : Fin 16) : BitVec 1 × BitVec 32 × BitVec 32 × BitVec 32 × BitVec 32 :=
  if r.val < 8 then
    if r.val < 4 then
      if r.val < 2 then
        if r.val < 1 then
          (1#1, 0#32, 0#32, 0#32, 0#32)
        else
          (1#1, 0#32, 1#32, 0#32, 1#32)
      else
        if r.val < 3 then
          (1#1, 0#32, 2#32, 0#32, 2#32)
        else
          (1#1, 0#32, 3#32, 0#32, 3#32)
    else
      if r.val < 6 then
        if r.val < 5 then
          (0#1, 0#32, 4#32, 0#32, 4#32)
        else
          (0#1, 0#32, 5#32, 0#32, 5#32)
      else
        if r.val < 7 then
          (0#1, 0#32, 6#32, 0#32, 6#32)
        else
          (0#1, 0#32, 7#32, 0#32, 7#32)
  else
    if r.val < 12 then
      if r.val < 10 then
        if r.val < 9 then
          (1#1, 1#32, 0#32, 1#32, 0#32)
        else
          (1#1, 1#32, 1#32, 1#32, 1#32)
      else
        if r.val < 11 then
          (1#1, 1#32, 2#32, 1#32, 2#32)
        else
          (1#1, 1#32, 3#32, 1#32, 3#32)
    else
      if r.val < 14 then
        if r.val < 13 then
          (0#1, 1#32, 4#32, 1#32, 4#32)
        else
          (0#1, 1#32, 5#32, 1#32, 5#32)
      else
        if r.val < 15 then
          (0#1, 1#32, 6#32, 1#32, 6#32)
        else
          (0#1, 1#32, 7#32, 1#32, 7#32)
@[reducible] def k0_t1_loop : Scf.Loop 32 :=
  let c0_i32_201 : BitVec 32 := 0#32
  let c4_i32_202 : BitVec 32 := 4#32
  let v196 : BitVec 32 := Scalar.addi c0_i32_201 c4_i32_202
  let c1_i32_203 : BitVec 32 := 1#32
  ⟨c0_i32_201, v196, c1_i32_203⟩
def k0_off2 (k0_t1 : Fin k0_t1_loop.trips) : Fin 2 → Nat :=
  let c0_i32_201 : BitVec 32 := 0#32
  let c1_i32_203 : BitVec 32 := 1#32
  let arg19 : BitVec 32 := Scf.iv c0_i32_201 c1_i32_203 k0_t1
  let c512_i32 : BitVec 32 := 512#32
  let v513 : BitVec 32 := Scalar.muli arg19 c512_i32
  let v514 : Index := Scalar.indexCast v513
  let c0_613 : Index := 0#32
  ![v514.toNat, 0]
def k0_off3 (k0_t1 : Fin k0_t1_loop.trips) : Fin 2 → Nat :=
  let c0_i32_201 : BitVec 32 := 0#32
  let c1_i32_203 : BitVec 32 := 1#32
  let arg19 : BitVec 32 := Scf.iv c0_i32_201 c1_i32_203 k0_t1
  let c512_i32 : BitVec 32 := 512#32
  let v513 : BitVec 32 := Scalar.muli arg19 c512_i32
  let v520 : Index := Scalar.indexCast v513
  let c0_618 : Index := 0#32
  ![v520.toNat, 0]
def k0_off4 (k0_t1 : Fin k0_t1_loop.trips) : Fin 2 → Nat :=
  let c0_i32_201 : BitVec 32 := 0#32
  let c1_i32_203 : BitVec 32 := 1#32
  let arg19 : BitVec 32 := Scf.iv c0_i32_201 c1_i32_203 k0_t1
  let c512_i32 : BitVec 32 := 512#32
  let v513 : BitVec 32 := Scalar.muli arg19 c512_i32
  let v528 : Index := Scalar.indexCast v513
  let c512_623 : Index := 512#32
  ![v528.toNat, 512]
@[reducible] def k0_t2_loop : Scf.Loop 32 :=
  let c0_i32_295 : BitVec 32 := 0#32
  let c4_i32_296 : BitVec 32 := 4#32
  let v271 : BitVec 32 := Scalar.addi c0_i32_295 c4_i32_296
  let c1_i32_297 : BitVec 32 := 1#32
  ⟨c0_i32_295, v271, c1_i32_297⟩
def k0_off5 (k0_t2 : Fin k0_t2_loop.trips) : Fin 2 → Nat :=
  let c0_i32_295 : BitVec 32 := 0#32
  let c1_i32_297 : BitVec 32 := 1#32
  let arg19 : BitVec 32 := Scf.iv c0_i32_295 c1_i32_297 k0_t2
  let c512_i32 : BitVec 32 := 512#32
  let v518 : BitVec 32 := Scalar.muli arg19 c512_i32
  let v533 : Index := Scalar.indexCast v518
  let c0_620 : Index := 0#32
  ![v533.toNat, 0]
def k0_off6 (k0_t2 : Fin k0_t2_loop.trips) : Fin 3 → Nat :=
  let c0_621 : Index := 0#32
  let c10_i32 : BitVec 32 := 10#32
  let c0_i32_615 : BitVec 32 := 0#32
  let c0_i32_295 : BitVec 32 := 0#32
  let c1_i32_297 : BitVec 32 := 1#32
  let arg19 : BitVec 32 := Scf.iv c0_i32_295 c1_i32_297 k0_t2
  let c4_i32_613 : BitVec 32 := 4#32
  let v513 : BitVec 32 := Scalar.muli arg19 c4_i32_613
  let c1_i32_614 : BitVec 32 := 1#32
  let v514 : BitVec 32 := Scalar.subi v513 c1_i32_614
  let v515 : BitVec 32 := Scalar.maxsi c0_i32_615 v514
  let v516 : BitVec 32 := Scalar.minsi c10_i32 v515
  let c128_i32 : BitVec 32 := 128#32
  let v517 : BitVec 32 := Scalar.muli v516 c128_i32
  let v535 : Index := Scalar.indexCast v517
  let c0_622 : Index := 0#32
  ![0, v535.toNat, 0]
def k0_off7 (k0_t2 : Fin k0_t2_loop.trips) : Fin 2 → Nat :=
  let c0_i32_295 : BitVec 32 := 0#32
  let c1_i32_297 : BitVec 32 := 1#32
  let arg19 : BitVec 32 := Scf.iv c0_i32_295 c1_i32_297 k0_t2
  let c512_i32 : BitVec 32 := 512#32
  let v518 : BitVec 32 := Scalar.muli arg19 c512_i32
  let v553 : Index := Scalar.indexCast v518
  let c128 : Index := 128#32
  ![v553.toNat, 128]
def k0_off8 (k0_t2 : Fin k0_t2_loop.trips) : Fin 3 → Nat :=
  let c1_628 : Index := 1#32
  let c10_i32 : BitVec 32 := 10#32
  let c0_i32_615 : BitVec 32 := 0#32
  let c0_i32_295 : BitVec 32 := 0#32
  let c1_i32_297 : BitVec 32 := 1#32
  let arg19 : BitVec 32 := Scf.iv c0_i32_295 c1_i32_297 k0_t2
  let c4_i32_613 : BitVec 32 := 4#32
  let v513 : BitVec 32 := Scalar.muli arg19 c4_i32_613
  let c1_i32_614 : BitVec 32 := 1#32
  let v514 : BitVec 32 := Scalar.subi v513 c1_i32_614
  let v515 : BitVec 32 := Scalar.maxsi c0_i32_615 v514
  let v516 : BitVec 32 := Scalar.minsi c10_i32 v515
  let c128_i32 : BitVec 32 := 128#32
  let v517 : BitVec 32 := Scalar.muli v516 c128_i32
  let v555 : Index := Scalar.indexCast v517
  let c0_629 : Index := 0#32
  ![1, v555.toNat, 0]
def k0_off9 (k0_t2 : Fin k0_t2_loop.trips) : Fin 2 → Nat :=
  let c0_i32_295 : BitVec 32 := 0#32
  let c1_i32_297 : BitVec 32 := 1#32
  let arg19 : BitVec 32 := Scf.iv c0_i32_295 c1_i32_297 k0_t2
  let c512_i32 : BitVec 32 := 512#32
  let v518 : BitVec 32 := Scalar.muli arg19 c512_i32
  let v573 : Index := Scalar.indexCast v518
  let c256 : Index := 256#32
  ![v573.toNat, 256]
def k0_off10 (k0_t2 : Fin k0_t2_loop.trips) : Fin 3 → Nat :=
  let c2 : Index := 2#32
  let c10_i32 : BitVec 32 := 10#32
  let c0_i32_615 : BitVec 32 := 0#32
  let c0_i32_295 : BitVec 32 := 0#32
  let c1_i32_297 : BitVec 32 := 1#32
  let arg19 : BitVec 32 := Scf.iv c0_i32_295 c1_i32_297 k0_t2
  let c4_i32_613 : BitVec 32 := 4#32
  let v513 : BitVec 32 := Scalar.muli arg19 c4_i32_613
  let c1_i32_614 : BitVec 32 := 1#32
  let v514 : BitVec 32 := Scalar.subi v513 c1_i32_614
  let v515 : BitVec 32 := Scalar.maxsi c0_i32_615 v514
  let v516 : BitVec 32 := Scalar.minsi c10_i32 v515
  let c128_i32 : BitVec 32 := 128#32
  let v517 : BitVec 32 := Scalar.muli v516 c128_i32
  let v575 : Index := Scalar.indexCast v517
  let c0_635 : Index := 0#32
  ![2, v575.toNat, 0]
def k0_off11 (k0_t2 : Fin k0_t2_loop.trips) : Fin 2 → Nat :=
  let c0_i32_295 : BitVec 32 := 0#32
  let c1_i32_297 : BitVec 32 := 1#32
  let arg19 : BitVec 32 := Scf.iv c0_i32_295 c1_i32_297 k0_t2
  let c512_i32 : BitVec 32 := 512#32
  let v518 : BitVec 32 := Scalar.muli arg19 c512_i32
  let v593 : Index := Scalar.indexCast v518
  let c384 : Index := 384#32
  ![v593.toNat, 384]
def k0_off12 (k0_t2 : Fin k0_t2_loop.trips) : Fin 3 → Nat :=
  let c3 : Index := 3#32
  let c10_i32 : BitVec 32 := 10#32
  let c0_i32_615 : BitVec 32 := 0#32
  let c0_i32_295 : BitVec 32 := 0#32
  let c1_i32_297 : BitVec 32 := 1#32
  let arg19 : BitVec 32 := Scf.iv c0_i32_295 c1_i32_297 k0_t2
  let c4_i32_613 : BitVec 32 := 4#32
  let v513 : BitVec 32 := Scalar.muli arg19 c4_i32_613
  let c1_i32_614 : BitVec 32 := 1#32
  let v514 : BitVec 32 := Scalar.subi v513 c1_i32_614
  let v515 : BitVec 32 := Scalar.maxsi c0_i32_615 v514
  let v516 : BitVec 32 := Scalar.minsi c10_i32 v515
  let c128_i32 : BitVec 32 := 128#32
  let v517 : BitVec 32 := Scalar.muli v516 c128_i32
  let v595 : Index := Scalar.indexCast v517
  let c0_641 : Index := 0#32
  ![3, v595.toNat, 0]
def k0_off13 (k0_t2 : Fin k0_t2_loop.trips) : Fin 2 → Nat :=
  let c0_i32_295 : BitVec 32 := 0#32
  let c1_i32_297 : BitVec 32 := 1#32
  let arg19 : BitVec 32 := Scf.iv c0_i32_295 c1_i32_297 k0_t2
  let c512_i32 : BitVec 32 := 512#32
  let v518 : BitVec 32 := Scalar.muli arg19 c512_i32
  let v613 : Index := Scalar.indexCast v518
  let c512_647 : Index := 512#32
  ![v613.toNat, 512]
def k0_off14 (k0_t2 : Fin k0_t2_loop.trips) : Fin 3 → Nat :=
  let c4 : Index := 4#32
  let c10_i32 : BitVec 32 := 10#32
  let c0_i32_615 : BitVec 32 := 0#32
  let c0_i32_295 : BitVec 32 := 0#32
  let c1_i32_297 : BitVec 32 := 1#32
  let arg19 : BitVec 32 := Scf.iv c0_i32_295 c1_i32_297 k0_t2
  let c4_i32_613 : BitVec 32 := 4#32
  let v513 : BitVec 32 := Scalar.muli arg19 c4_i32_613
  let c1_i32_614 : BitVec 32 := 1#32
  let v514 : BitVec 32 := Scalar.subi v513 c1_i32_614
  let v515 : BitVec 32 := Scalar.maxsi c0_i32_615 v514
  let v516 : BitVec 32 := Scalar.minsi c10_i32 v515
  let c128_i32 : BitVec 32 := 128#32
  let v517 : BitVec 32 := Scalar.muli v516 c128_i32
  let v615 : Index := Scalar.indexCast v517
  let c0_648 : Index := 0#32
  ![4, v615.toNat, 0]
def k0_off15 (k0_t2 : Fin k0_t2_loop.trips) : Fin 2 → Nat :=
  let c0_i32_295 : BitVec 32 := 0#32
  let c1_i32_297 : BitVec 32 := 1#32
  let arg19 : BitVec 32 := Scf.iv c0_i32_295 c1_i32_297 k0_t2
  let c512_i32 : BitVec 32 := 512#32
  let v518 : BitVec 32 := Scalar.muli arg19 c512_i32
  let v633 : Index := Scalar.indexCast v518
  let c640 : Index := 640#32
  ![v633.toNat, 640]
def k0_off16 (k0_t2 : Fin k0_t2_loop.trips) : Fin 3 → Nat :=
  let c5 : Index := 5#32
  let c10_i32 : BitVec 32 := 10#32
  let c0_i32_615 : BitVec 32 := 0#32
  let c0_i32_295 : BitVec 32 := 0#32
  let c1_i32_297 : BitVec 32 := 1#32
  let arg19 : BitVec 32 := Scf.iv c0_i32_295 c1_i32_297 k0_t2
  let c4_i32_613 : BitVec 32 := 4#32
  let v513 : BitVec 32 := Scalar.muli arg19 c4_i32_613
  let c1_i32_614 : BitVec 32 := 1#32
  let v514 : BitVec 32 := Scalar.subi v513 c1_i32_614
  let v515 : BitVec 32 := Scalar.maxsi c0_i32_615 v514
  let v516 : BitVec 32 := Scalar.minsi c10_i32 v515
  let c128_i32 : BitVec 32 := 128#32
  let v517 : BitVec 32 := Scalar.muli v516 c128_i32
  let v635 : Index := Scalar.indexCast v517
  let c0_654 : Index := 0#32
  ![5, v635.toNat, 0]
def k0_off17 (k0_t2 : Fin k0_t2_loop.trips) : Fin 2 → Nat :=
  let c0_i32_295 : BitVec 32 := 0#32
  let c1_i32_297 : BitVec 32 := 1#32
  let arg19 : BitVec 32 := Scf.iv c0_i32_295 c1_i32_297 k0_t2
  let c512_i32 : BitVec 32 := 512#32
  let v518 : BitVec 32 := Scalar.muli arg19 c512_i32
  let v653 : Index := Scalar.indexCast v518
  let c768 : Index := 768#32
  ![v653.toNat, 768]
def k0_off18 (k0_t2 : Fin k0_t2_loop.trips) : Fin 3 → Nat :=
  let c6 : Index := 6#32
  let c10_i32 : BitVec 32 := 10#32
  let c0_i32_615 : BitVec 32 := 0#32
  let c0_i32_295 : BitVec 32 := 0#32
  let c1_i32_297 : BitVec 32 := 1#32
  let arg19 : BitVec 32 := Scf.iv c0_i32_295 c1_i32_297 k0_t2
  let c4_i32_613 : BitVec 32 := 4#32
  let v513 : BitVec 32 := Scalar.muli arg19 c4_i32_613
  let c1_i32_614 : BitVec 32 := 1#32
  let v514 : BitVec 32 := Scalar.subi v513 c1_i32_614
  let v515 : BitVec 32 := Scalar.maxsi c0_i32_615 v514
  let v516 : BitVec 32 := Scalar.minsi c10_i32 v515
  let c128_i32 : BitVec 32 := 128#32
  let v517 : BitVec 32 := Scalar.muli v516 c128_i32
  let v655 : Index := Scalar.indexCast v517
  let c0_660 : Index := 0#32
  ![6, v655.toNat, 0]
def k0_off19 (k0_t2 : Fin k0_t2_loop.trips) : Fin 2 → Nat :=
  let c0_i32_295 : BitVec 32 := 0#32
  let c1_i32_297 : BitVec 32 := 1#32
  let arg19 : BitVec 32 := Scf.iv c0_i32_295 c1_i32_297 k0_t2
  let c512_i32 : BitVec 32 := 512#32
  let v518 : BitVec 32 := Scalar.muli arg19 c512_i32
  let v673 : Index := Scalar.indexCast v518
  let c896 : Index := 896#32
  ![v673.toNat, 896]
def k0_off20 (k0_t2 : Fin k0_t2_loop.trips) : Fin 3 → Nat :=
  let c7 : Index := 7#32
  let c10_i32 : BitVec 32 := 10#32
  let c0_i32_615 : BitVec 32 := 0#32
  let c0_i32_295 : BitVec 32 := 0#32
  let c1_i32_297 : BitVec 32 := 1#32
  let arg19 : BitVec 32 := Scf.iv c0_i32_295 c1_i32_297 k0_t2
  let c4_i32_613 : BitVec 32 := 4#32
  let v513 : BitVec 32 := Scalar.muli arg19 c4_i32_613
  let c1_i32_614 : BitVec 32 := 1#32
  let v514 : BitVec 32 := Scalar.subi v513 c1_i32_614
  let v515 : BitVec 32 := Scalar.maxsi c0_i32_615 v514
  let v516 : BitVec 32 := Scalar.minsi c10_i32 v515
  let c128_i32 : BitVec 32 := 128#32
  let v517 : BitVec 32 := Scalar.muli v516 c128_i32
  let v675 : Index := Scalar.indexCast v517
  let c0_666 : Index := 0#32
  ![7, v675.toNat, 0]
def k0_off21 (k0_t2 : Fin k0_t2_loop.trips) : Fin 3 → Nat :=
  let c0_675 : Index := 0#32
  let c0_i32_295 : BitVec 32 := 0#32
  let c1_i32_297 : BitVec 32 := 1#32
  let arg19 : BitVec 32 := Scf.iv c0_i32_295 c1_i32_297 k0_t2
  let c512_i32 : BitVec 32 := 512#32
  let v518 : BitVec 32 := Scalar.muli arg19 c512_i32
  let v696 : Index := Scalar.indexCast v518
  let c0_676 : Index := 0#32
  ![0, v696.toNat, 0]
@[reducible] def k0_t3_loop : Scf.Loop 32 :=
  let c0_i32_516 : BitVec 32 := 0#32
  let c4_i32_517 : BitVec 32 := 4#32
  let v437 : BitVec 32 := Scalar.addi c0_i32_516 c4_i32_517
  let c1_i32_518 : BitVec 32 := 1#32
  ⟨c0_i32_516, v437, c1_i32_518⟩
def k0_off22 (k0_t3 : Fin k0_t3_loop.trips) : Fin 2 → Nat :=
  let c0_i32_516 : BitVec 32 := 0#32
  let c1_i32_518 : BitVec 32 := 1#32
  let arg19 : BitVec 32 := Scf.iv c0_i32_516 c1_i32_518 k0_t3
  let c512_i32 : BitVec 32 := 512#32
  let v513 : BitVec 32 := Scalar.muli arg19 c512_i32
  let v514 : Index := Scalar.indexCast v513
  let c0_613 : Index := 0#32
  ![v514.toNat, 0]
def k0_off23 (k0_t3 : Fin k0_t3_loop.trips) : Fin 2 → Nat :=
  let c0_i32_516 : BitVec 32 := 0#32
  let c1_i32_518 : BitVec 32 := 1#32
  let arg19 : BitVec 32 := Scf.iv c0_i32_516 c1_i32_518 k0_t3
  let c512_i32 : BitVec 32 := 512#32
  let v513 : BitVec 32 := Scalar.muli arg19 c512_i32
  let v520 : Index := Scalar.indexCast v513
  let c0_618 : Index := 0#32
  ![v520.toNat, 0]
def k0_off24 (k0_t3 : Fin k0_t3_loop.trips) : Fin 2 → Nat :=
  let c0_i32_516 : BitVec 32 := 0#32
  let c1_i32_518 : BitVec 32 := 1#32
  let arg19 : BitVec 32 := Scf.iv c0_i32_516 c1_i32_518 k0_t3
  let c512_i32 : BitVec 32 := 512#32
  let v513 : BitVec 32 := Scalar.muli arg19 c512_i32
  let v528 : Index := Scalar.indexCast v513
  let c512_623 : Index := 512#32
  ![v528.toNat, 512]
@[reducible] def k0_t4_loop : Scf.Loop 32 :=
  let c0_i32_609 : BitVec 32 := 0#32
  let c4_i32_610 : BitVec 32 := 4#32
  let v512 : BitVec 32 := Scalar.addi c0_i32_609 c4_i32_610
  let c1_i32_611 : BitVec 32 := 1#32
  ⟨c0_i32_609, v512, c1_i32_611⟩
def k0_off25 (k0_t4 : Fin k0_t4_loop.trips) : Fin 2 → Nat :=
  let c0_i32_609 : BitVec 32 := 0#32
  let c1_i32_611 : BitVec 32 := 1#32
  let arg19 : BitVec 32 := Scf.iv c0_i32_609 c1_i32_611 k0_t4
  let c512_i32 : BitVec 32 := 512#32
  let v518 : BitVec 32 := Scalar.muli arg19 c512_i32
  let v533 : Index := Scalar.indexCast v518
  let c0_620 : Index := 0#32
  ![v533.toNat, 0]
def k0_off26 (k0_t4 : Fin k0_t4_loop.trips) : Fin 3 → Nat :=
  let c0_621 : Index := 0#32
  let c10_i32 : BitVec 32 := 10#32
  let c0_i32_615 : BitVec 32 := 0#32
  let c0_i32_609 : BitVec 32 := 0#32
  let c1_i32_611 : BitVec 32 := 1#32
  let arg19 : BitVec 32 := Scf.iv c0_i32_609 c1_i32_611 k0_t4
  let c4_i32_613 : BitVec 32 := 4#32
  let v513 : BitVec 32 := Scalar.muli arg19 c4_i32_613
  let c1_i32_614 : BitVec 32 := 1#32
  let v514 : BitVec 32 := Scalar.subi v513 c1_i32_614
  let v515 : BitVec 32 := Scalar.maxsi c0_i32_615 v514
  let v516 : BitVec 32 := Scalar.minsi c10_i32 v515
  let c128_i32 : BitVec 32 := 128#32
  let v517 : BitVec 32 := Scalar.muli v516 c128_i32
  let v535 : Index := Scalar.indexCast v517
  let c0_622 : Index := 0#32
  ![0, v535.toNat, 0]
def k0_off27 (k0_t4 : Fin k0_t4_loop.trips) : Fin 2 → Nat :=
  let c0_i32_609 : BitVec 32 := 0#32
  let c1_i32_611 : BitVec 32 := 1#32
  let arg19 : BitVec 32 := Scf.iv c0_i32_609 c1_i32_611 k0_t4
  let c512_i32 : BitVec 32 := 512#32
  let v518 : BitVec 32 := Scalar.muli arg19 c512_i32
  let v553 : Index := Scalar.indexCast v518
  let c128 : Index := 128#32
  ![v553.toNat, 128]
def k0_off28 (k0_t4 : Fin k0_t4_loop.trips) : Fin 3 → Nat :=
  let c1_628 : Index := 1#32
  let c10_i32 : BitVec 32 := 10#32
  let c0_i32_615 : BitVec 32 := 0#32
  let c0_i32_609 : BitVec 32 := 0#32
  let c1_i32_611 : BitVec 32 := 1#32
  let arg19 : BitVec 32 := Scf.iv c0_i32_609 c1_i32_611 k0_t4
  let c4_i32_613 : BitVec 32 := 4#32
  let v513 : BitVec 32 := Scalar.muli arg19 c4_i32_613
  let c1_i32_614 : BitVec 32 := 1#32
  let v514 : BitVec 32 := Scalar.subi v513 c1_i32_614
  let v515 : BitVec 32 := Scalar.maxsi c0_i32_615 v514
  let v516 : BitVec 32 := Scalar.minsi c10_i32 v515
  let c128_i32 : BitVec 32 := 128#32
  let v517 : BitVec 32 := Scalar.muli v516 c128_i32
  let v555 : Index := Scalar.indexCast v517
  let c0_629 : Index := 0#32
  ![1, v555.toNat, 0]
def k0_off29 (k0_t4 : Fin k0_t4_loop.trips) : Fin 2 → Nat :=
  let c0_i32_609 : BitVec 32 := 0#32
  let c1_i32_611 : BitVec 32 := 1#32
  let arg19 : BitVec 32 := Scf.iv c0_i32_609 c1_i32_611 k0_t4
  let c512_i32 : BitVec 32 := 512#32
  let v518 : BitVec 32 := Scalar.muli arg19 c512_i32
  let v573 : Index := Scalar.indexCast v518
  let c256 : Index := 256#32
  ![v573.toNat, 256]
def k0_off30 (k0_t4 : Fin k0_t4_loop.trips) : Fin 3 → Nat :=
  let c2 : Index := 2#32
  let c10_i32 : BitVec 32 := 10#32
  let c0_i32_615 : BitVec 32 := 0#32
  let c0_i32_609 : BitVec 32 := 0#32
  let c1_i32_611 : BitVec 32 := 1#32
  let arg19 : BitVec 32 := Scf.iv c0_i32_609 c1_i32_611 k0_t4
  let c4_i32_613 : BitVec 32 := 4#32
  let v513 : BitVec 32 := Scalar.muli arg19 c4_i32_613
  let c1_i32_614 : BitVec 32 := 1#32
  let v514 : BitVec 32 := Scalar.subi v513 c1_i32_614
  let v515 : BitVec 32 := Scalar.maxsi c0_i32_615 v514
  let v516 : BitVec 32 := Scalar.minsi c10_i32 v515
  let c128_i32 : BitVec 32 := 128#32
  let v517 : BitVec 32 := Scalar.muli v516 c128_i32
  let v575 : Index := Scalar.indexCast v517
  let c0_635 : Index := 0#32
  ![2, v575.toNat, 0]
def k0_off31 (k0_t4 : Fin k0_t4_loop.trips) : Fin 2 → Nat :=
  let c0_i32_609 : BitVec 32 := 0#32
  let c1_i32_611 : BitVec 32 := 1#32
  let arg19 : BitVec 32 := Scf.iv c0_i32_609 c1_i32_611 k0_t4
  let c512_i32 : BitVec 32 := 512#32
  let v518 : BitVec 32 := Scalar.muli arg19 c512_i32
  let v593 : Index := Scalar.indexCast v518
  let c384 : Index := 384#32
  ![v593.toNat, 384]
def k0_off32 (k0_t4 : Fin k0_t4_loop.trips) : Fin 3 → Nat :=
  let c3 : Index := 3#32
  let c10_i32 : BitVec 32 := 10#32
  let c0_i32_615 : BitVec 32 := 0#32
  let c0_i32_609 : BitVec 32 := 0#32
  let c1_i32_611 : BitVec 32 := 1#32
  let arg19 : BitVec 32 := Scf.iv c0_i32_609 c1_i32_611 k0_t4
  let c4_i32_613 : BitVec 32 := 4#32
  let v513 : BitVec 32 := Scalar.muli arg19 c4_i32_613
  let c1_i32_614 : BitVec 32 := 1#32
  let v514 : BitVec 32 := Scalar.subi v513 c1_i32_614
  let v515 : BitVec 32 := Scalar.maxsi c0_i32_615 v514
  let v516 : BitVec 32 := Scalar.minsi c10_i32 v515
  let c128_i32 : BitVec 32 := 128#32
  let v517 : BitVec 32 := Scalar.muli v516 c128_i32
  let v595 : Index := Scalar.indexCast v517
  let c0_641 : Index := 0#32
  ![3, v595.toNat, 0]
def k0_off33 (k0_t4 : Fin k0_t4_loop.trips) : Fin 2 → Nat :=
  let c0_i32_609 : BitVec 32 := 0#32
  let c1_i32_611 : BitVec 32 := 1#32
  let arg19 : BitVec 32 := Scf.iv c0_i32_609 c1_i32_611 k0_t4
  let c512_i32 : BitVec 32 := 512#32
  let v518 : BitVec 32 := Scalar.muli arg19 c512_i32
  let v613 : Index := Scalar.indexCast v518
  let c512_647 : Index := 512#32
  ![v613.toNat, 512]
def k0_off34 (k0_t4 : Fin k0_t4_loop.trips) : Fin 3 → Nat :=
  let c4 : Index := 4#32
  let c10_i32 : BitVec 32 := 10#32
  let c0_i32_615 : BitVec 32 := 0#32
  let c0_i32_609 : BitVec 32 := 0#32
  let c1_i32_611 : BitVec 32 := 1#32
  let arg19 : BitVec 32 := Scf.iv c0_i32_609 c1_i32_611 k0_t4
  let c4_i32_613 : BitVec 32 := 4#32
  let v513 : BitVec 32 := Scalar.muli arg19 c4_i32_613
  let c1_i32_614 : BitVec 32 := 1#32
  let v514 : BitVec 32 := Scalar.subi v513 c1_i32_614
  let v515 : BitVec 32 := Scalar.maxsi c0_i32_615 v514
  let v516 : BitVec 32 := Scalar.minsi c10_i32 v515
  let c128_i32 : BitVec 32 := 128#32
  let v517 : BitVec 32 := Scalar.muli v516 c128_i32
  let v615 : Index := Scalar.indexCast v517
  let c0_648 : Index := 0#32
  ![4, v615.toNat, 0]
def k0_off35 (k0_t4 : Fin k0_t4_loop.trips) : Fin 2 → Nat :=
  let c0_i32_609 : BitVec 32 := 0#32
  let c1_i32_611 : BitVec 32 := 1#32
  let arg19 : BitVec 32 := Scf.iv c0_i32_609 c1_i32_611 k0_t4
  let c512_i32 : BitVec 32 := 512#32
  let v518 : BitVec 32 := Scalar.muli arg19 c512_i32
  let v633 : Index := Scalar.indexCast v518
  let c640 : Index := 640#32
  ![v633.toNat, 640]
def k0_off36 (k0_t4 : Fin k0_t4_loop.trips) : Fin 3 → Nat :=
  let c5 : Index := 5#32
  let c10_i32 : BitVec 32 := 10#32
  let c0_i32_615 : BitVec 32 := 0#32
  let c0_i32_609 : BitVec 32 := 0#32
  let c1_i32_611 : BitVec 32 := 1#32
  let arg19 : BitVec 32 := Scf.iv c0_i32_609 c1_i32_611 k0_t4
  let c4_i32_613 : BitVec 32 := 4#32
  let v513 : BitVec 32 := Scalar.muli arg19 c4_i32_613
  let c1_i32_614 : BitVec 32 := 1#32
  let v514 : BitVec 32 := Scalar.subi v513 c1_i32_614
  let v515 : BitVec 32 := Scalar.maxsi c0_i32_615 v514
  let v516 : BitVec 32 := Scalar.minsi c10_i32 v515
  let c128_i32 : BitVec 32 := 128#32
  let v517 : BitVec 32 := Scalar.muli v516 c128_i32
  let v635 : Index := Scalar.indexCast v517
  let c0_654 : Index := 0#32
  ![5, v635.toNat, 0]
def k0_off37 (k0_t4 : Fin k0_t4_loop.trips) : Fin 2 → Nat :=
  let c0_i32_609 : BitVec 32 := 0#32
  let c1_i32_611 : BitVec 32 := 1#32
  let arg19 : BitVec 32 := Scf.iv c0_i32_609 c1_i32_611 k0_t4
  let c512_i32 : BitVec 32 := 512#32
  let v518 : BitVec 32 := Scalar.muli arg19 c512_i32
  let v653 : Index := Scalar.indexCast v518
  let c768 : Index := 768#32
  ![v653.toNat, 768]
def k0_off38 (k0_t4 : Fin k0_t4_loop.trips) : Fin 3 → Nat :=
  let c6 : Index := 6#32
  let c10_i32 : BitVec 32 := 10#32
  let c0_i32_615 : BitVec 32 := 0#32
  let c0_i32_609 : BitVec 32 := 0#32
  let c1_i32_611 : BitVec 32 := 1#32
  let arg19 : BitVec 32 := Scf.iv c0_i32_609 c1_i32_611 k0_t4
  let c4_i32_613 : BitVec 32 := 4#32
  let v513 : BitVec 32 := Scalar.muli arg19 c4_i32_613
  let c1_i32_614 : BitVec 32 := 1#32
  let v514 : BitVec 32 := Scalar.subi v513 c1_i32_614
  let v515 : BitVec 32 := Scalar.maxsi c0_i32_615 v514
  let v516 : BitVec 32 := Scalar.minsi c10_i32 v515
  let c128_i32 : BitVec 32 := 128#32
  let v517 : BitVec 32 := Scalar.muli v516 c128_i32
  let v655 : Index := Scalar.indexCast v517
  let c0_660 : Index := 0#32
  ![6, v655.toNat, 0]
def k0_off39 (k0_t4 : Fin k0_t4_loop.trips) : Fin 2 → Nat :=
  let c0_i32_609 : BitVec 32 := 0#32
  let c1_i32_611 : BitVec 32 := 1#32
  let arg19 : BitVec 32 := Scf.iv c0_i32_609 c1_i32_611 k0_t4
  let c512_i32 : BitVec 32 := 512#32
  let v518 : BitVec 32 := Scalar.muli arg19 c512_i32
  let v673 : Index := Scalar.indexCast v518
  let c896 : Index := 896#32
  ![v673.toNat, 896]
def k0_off40 (k0_t4 : Fin k0_t4_loop.trips) : Fin 3 → Nat :=
  let c7 : Index := 7#32
  let c10_i32 : BitVec 32 := 10#32
  let c0_i32_615 : BitVec 32 := 0#32
  let c0_i32_609 : BitVec 32 := 0#32
  let c1_i32_611 : BitVec 32 := 1#32
  let arg19 : BitVec 32 := Scf.iv c0_i32_609 c1_i32_611 k0_t4
  let c4_i32_613 : BitVec 32 := 4#32
  let v513 : BitVec 32 := Scalar.muli arg19 c4_i32_613
  let c1_i32_614 : BitVec 32 := 1#32
  let v514 : BitVec 32 := Scalar.subi v513 c1_i32_614
  let v515 : BitVec 32 := Scalar.maxsi c0_i32_615 v514
  let v516 : BitVec 32 := Scalar.minsi c10_i32 v515
  let c128_i32 : BitVec 32 := 128#32
  let v517 : BitVec 32 := Scalar.muli v516 c128_i32
  let v675 : Index := Scalar.indexCast v517
  let c0_666 : Index := 0#32
  ![7, v675.toNat, 0]
def k0_off41 (k0_t4 : Fin k0_t4_loop.trips) : Fin 3 → Nat :=
  let c0_675 : Index := 0#32
  let c0_i32_609 : BitVec 32 := 0#32
  let c1_i32_611 : BitVec 32 := 1#32
  let arg19 : BitVec 32 := Scf.iv c0_i32_609 c1_i32_611 k0_t4
  let c512_i32 : BitVec 32 := 512#32
  let v518 : BitVec 32 := Scalar.muli arg19 c512_i32
  let v696 : Index := Scalar.indexCast v518
  let c0_676 : Index := 0#32
  ![0, v696.toNat, 0]
abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S4x2048x1024 : Shape := ⟨3, ![4, 2048, 1024]⟩
abbrev S1024x4096 : Shape := ⟨2, ![1024, 4096]⟩
abbrev S4x2048x32x128 : Shape := ⟨4, ![4, 2048, 32, 128]⟩
abbrev S4096x1024 : Shape := ⟨2, ![4096, 1024]⟩
abbrev S4x2048x4096 : Shape := ⟨3, ![4, 2048, 4096]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S4x32x2048x2048 : Shape := ⟨4, ![4, 32, 2048, 2048]⟩
abbrev S1x1x2048x2048 : Shape := ⟨4, ![1, 1, 2048, 2048]⟩
abbrev S4x32x2048 : Shape := ⟨3, ![4, 32, 2048]⟩
abbrev S4x32x2048x1 : Shape := ⟨4, ![4, 32, 2048, 1]⟩
abbrev S1x1x2048x1 : Shape := ⟨4, ![1, 1, 2048, 1]⟩
abbrev S4x32x128x2048 : Shape := ⟨4, ![4, 32, 128, 2048]⟩
abbrev S4 : Shape := ⟨1, ![4]⟩
abbrev S4x1x1 : Shape := ⟨3, ![4, 1, 1]⟩
abbrev S1x4x1 : Shape := ⟨3, ![1, 4, 1]⟩
abbrev S8 : Shape := ⟨1, ![8]⟩
abbrev S1x1x8 : Shape := ⟨3, ![1, 1, 8]⟩
abbrev S4x4x1 : Shape := ⟨3, ![4, 4, 1]⟩
abbrev S4x4x8 : Shape := ⟨3, ![4, 4, 8]⟩
abbrev S4x1x32x1 : Shape := ⟨4, ![4, 1, 32, 1]⟩

abbrev nBuf : Space → Nat
  | .hbm => 113
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x4096, .f32⟩
  | .hbm, ⟨2, _⟩ => ⟨S4x2048x32x128, .f32⟩
  | .hbm, ⟨3, _⟩ => ⟨S4x2048x32x128, .f32⟩
  | .hbm, ⟨4, _⟩ => ⟨S4096x1024, .f32⟩
  | .hbm, ⟨5, _⟩ => ⟨S4x2048x4096, .f32⟩
  | .hbm, ⟨6, _⟩ => ⟨S4x2048x32x128, .f32⟩
  | .hbm, ⟨7, _⟩ => ⟨S2048, .i32⟩
  | .hbm, ⟨8, _⟩ => ⟨S2048x1, .i32⟩
  | .hbm, ⟨9, _⟩ => ⟨S2048, .i32⟩
  | .hbm, ⟨10, _⟩ => ⟨S1x2048, .i32⟩
  | .hbm, ⟨11, _⟩ => ⟨S2048x2048, .i32⟩
  | .hbm, ⟨12, _⟩ => ⟨S2048x2048, .i32⟩
  | .hbm, ⟨13, _⟩ => ⟨S2048x2048, .i32⟩
  | .hbm, ⟨14, _⟩ => ⟨S2048x2048, .i32⟩
  | .hbm, ⟨15, _⟩ => ⟨S_, .i32⟩
  | .hbm, ⟨16, _⟩ => ⟨S2048x2048, .i32⟩
  | .hbm, ⟨17, _⟩ => ⟨S2048x2048, .i1⟩
  | .hbm, ⟨18, _⟩ => ⟨S4x32x2048x2048, .f32⟩
  | .hbm, ⟨19, _⟩ => ⟨S_, .f32⟩
  | .hbm, ⟨20, _⟩ => ⟨S4x32x2048x2048, .f32⟩
  | .hbm, ⟨21, _⟩ => ⟨S4x32x2048x2048, .f32⟩
  | .hbm, ⟨22, _⟩ => ⟨S1x1x2048x2048, .i1⟩
  | .hbm, ⟨23, _⟩ => ⟨S_, .f32⟩
  | .hbm, ⟨24, _⟩ => ⟨S_, .f32⟩
  | .hbm, ⟨25, _⟩ => ⟨S4x32x2048x2048, .i1⟩
  | .hbm, ⟨26, _⟩ => ⟨S4x32x2048x2048, .f32⟩
  | .hbm, ⟨27, _⟩ => ⟨S4x32x2048x2048, .f32⟩
  | .hbm, ⟨28, _⟩ => ⟨S_, .f32⟩
  | .hbm, ⟨29, _⟩ => ⟨S4x32x2048, .f32⟩
  | .hbm, ⟨30, _⟩ => ⟨S4x32x2048x1, .f32⟩
  | .hbm, ⟨31, _⟩ => ⟨S4x32x2048x2048, .f32⟩
  | .hbm, ⟨32, _⟩ => ⟨S4x32x2048x2048, .f32⟩
  | .hbm, ⟨33, _⟩ => ⟨S4x32x2048x2048, .f32⟩
  | .hbm, ⟨34, _⟩ => ⟨S_, .i1⟩
  | .hbm, ⟨35, _⟩ => ⟨S2048, .i1⟩
  | .hbm, ⟨36, _⟩ => ⟨S1x1x2048x1, .i1⟩
  | .hbm, ⟨37, _⟩ => ⟨S_, .f32⟩
  | .hbm, ⟨38, _⟩ => ⟨S4x32x2048, .f32⟩
  | .hbm, ⟨39, _⟩ => ⟨S4x32x2048x1, .f32⟩
  | .hbm, ⟨40, _⟩ => ⟨S_, .f32⟩
  | .hbm, ⟨41, _⟩ => ⟨S_, .f32⟩
  | .hbm, ⟨42, _⟩ => ⟨S4x32x2048x1, .i1⟩
  | .hbm, ⟨43, _⟩ => ⟨S4x32x2048x1, .f32⟩
  | .hbm, ⟨44, _⟩ => ⟨S4x32x2048x1, .f32⟩
  | .hbm, ⟨45, _⟩ => ⟨S4x32x2048x2048, .f32⟩
  | .hbm, ⟨46, _⟩ => ⟨S4x32x2048x2048, .f32⟩
  | .hbm, ⟨47, _⟩ => ⟨S1x1x2048x1, .i1⟩
  | .hbm, ⟨48, _⟩ => ⟨S_, .f32⟩
  | .hbm, ⟨49, _⟩ => ⟨S_, .f32⟩
  | .hbm, ⟨50, _⟩ => ⟨S4x32x2048x2048, .i1⟩
  | .hbm, ⟨51, _⟩ => ⟨S4x32x2048x2048, .f32⟩
  | .hbm, ⟨52, _⟩ => ⟨S4x32x2048x2048, .f32⟩
  | .hbm, ⟨53, _⟩ => ⟨S4x32x128x2048, .f32⟩
  | .hbm, ⟨54, _⟩ => ⟨S4x2048x32x128, .f32⟩
  | .hbm, ⟨55, _⟩ => ⟨S4, .i32⟩
  | .hbm, ⟨56, _⟩ => ⟨S4x1x1, .i32⟩
  | .hbm, ⟨57, _⟩ => ⟨S4, .i32⟩
  | .hbm, ⟨58, _⟩ => ⟨S1x4x1, .i32⟩
  | .hbm, ⟨59, _⟩ => ⟨S8, .i32⟩
  | .hbm, ⟨60, _⟩ => ⟨S1x1x8, .i32⟩
  | .hbm, ⟨61, _⟩ => ⟨S_, .i32⟩
  | .hbm, ⟨62, _⟩ => ⟨S4x1x1, .i32⟩
  | .hbm, ⟨63, _⟩ => ⟨S4x1x1, .i32⟩
  | .hbm, ⟨64, _⟩ => ⟨S4x4x1, .i32⟩
  | .hbm, ⟨65, _⟩ => ⟨S4x4x1, .i32⟩
  | .hbm, ⟨66, _⟩ => ⟨S4x4x1, .i1⟩
  | .hbm, ⟨67, _⟩ => ⟨S_, .i32⟩
  | .hbm, ⟨68, _⟩ => ⟨S4x1x1, .i32⟩
  | .hbm, ⟨69, _⟩ => ⟨S4x1x1, .i32⟩
  | .hbm, ⟨70, _⟩ => ⟨S4x4x1, .i32⟩
  | .hbm, ⟨71, _⟩ => ⟨S4x4x1, .i32⟩
  | .hbm, ⟨72, _⟩ => ⟨S4x4x1, .i1⟩
  | .hbm, ⟨73, _⟩ => ⟨S4x4x1, .i1⟩
  | .hbm, ⟨74, _⟩ => ⟨S_, .i32⟩
  | .hbm, ⟨75, _⟩ => ⟨S1x1x8, .i32⟩
  | .hbm, ⟨76, _⟩ => ⟨S1x1x8, .i1⟩
  | .hbm, ⟨77, _⟩ => ⟨S4x4x8, .i1⟩
  | .hbm, ⟨78, _⟩ => ⟨S4x4x8, .i1⟩
  | .hbm, ⟨79, _⟩ => ⟨S4x4x8, .i1⟩
  | .hbm, ⟨80, _⟩ => ⟨S_, .i32⟩
  | .hbm, ⟨81, _⟩ => ⟨S4x1x1, .i32⟩
  | .hbm, ⟨82, _⟩ => ⟨S4x1x1, .i32⟩
  | .hbm, ⟨83, _⟩ => ⟨S4x4x1, .i32⟩
  | .hbm, ⟨84, _⟩ => ⟨S4x4x1, .i32⟩
  | .hbm, ⟨85, _⟩ => ⟨S4x4x1, .i1⟩
  | .hbm, ⟨86, _⟩ => ⟨S_, .i32⟩
  | .hbm, ⟨87, _⟩ => ⟨S4x1x1, .i32⟩
  | .hbm, ⟨88, _⟩ => ⟨S4x1x1, .i32⟩
  | .hbm, ⟨89, _⟩ => ⟨S4x4x1, .i32⟩
  | .hbm, ⟨90, _⟩ => ⟨S4x4x1, .i32⟩
  | .hbm, ⟨91, _⟩ => ⟨S4x4x1, .i1⟩
  | .hbm, ⟨92, _⟩ => ⟨S4x4x1, .i1⟩
  | .hbm, ⟨93, _⟩ => ⟨S_, .i32⟩
  | .hbm, ⟨94, _⟩ => ⟨S1x1x8, .i32⟩
  | .hbm, ⟨95, _⟩ => ⟨S1x1x8, .i1⟩
  | .hbm, ⟨96, _⟩ => ⟨S4x4x8, .i1⟩
  | .hbm, ⟨97, _⟩ => ⟨S4x4x8, .i1⟩
  | .hbm, ⟨98, _⟩ => ⟨S4x4x8, .i1⟩
  | .hbm, ⟨99, _⟩ => ⟨S4x4x1, .i32⟩
  | .hbm, ⟨100, _⟩ => ⟨S4x4x1, .i32⟩
  | .hbm, ⟨101, _⟩ => ⟨S4x4x1, .i1⟩
  | .hbm, ⟨102, _⟩ => ⟨S4x4x8, .i1⟩
  | .hbm, ⟨103, _⟩ => ⟨S4x4x8, .i1⟩
  | .hbm, ⟨104, _⟩ => ⟨S4x4x8, .i1⟩
  | .hbm, ⟨105, _⟩ => ⟨S4x1x32x1, .i1⟩
  | .hbm, ⟨106, _⟩ => ⟨S_, .f32⟩
  | .hbm, ⟨107, _⟩ => ⟨S_, .f32⟩
  | .hbm, ⟨108, _⟩ => ⟨S4x2048x32x128, .i1⟩
  | .hbm, ⟨109, _⟩ => ⟨S4x2048x32x128, .f32⟩
  | .hbm, ⟨110, _⟩ => ⟨S4x2048x32x128, .f32⟩
  | .hbm, ⟨111, _⟩ => ⟨S4x2048x4096, .f32⟩
  | .hbm, ⟨112, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_7 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_c_8 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_9 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_c_10 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_11 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_12 : Ref sig .tc := ⟨.hbm, 106, rfl⟩
abbrev main_call3_v0 : Ref sig .tc := ⟨.hbm, 107, rfl⟩
abbrev main_call3_v1 : Ref sig .tc := ⟨.hbm, 108, rfl⟩
abbrev main_call3_v2 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩

abbrev nD : Nat := 1
abbrev τ : Topo := Topo.v7x

variable {F : FTy → Type} [FloatOps F]
-- ==== Tail.lean ====
abbrev S1x2048x1024 : Shape := ⟨3, ![1, 2048, 1024]⟩
abbrev S1024x1024 : Shape := ⟨2, ![1024, 1024]⟩
abbrev S4x2048x32x128 : Shape := ⟨4, ![4, 2048, 32, 128]⟩
abbrev S2x1024x512 : Shape := ⟨3, ![2, 1024, 512]⟩
abbrev S2x512x1024 : Shape := ⟨3, ![2, 512, 1024]⟩
abbrev S2048x1024 : Shape := ⟨2, ![2048, 1024]⟩
abbrev S8x2048x128 : Shape := ⟨3, ![8, 2048, 128]⟩
abbrev S4x2 : Shape := ⟨2, ![4, 2]⟩
abbrev S_ : Shape := ⟨0, ![]⟩
abbrev S1024x512 : Shape := ⟨2, ![1024, 512]⟩
abbrev S1x1024x512 : Shape := ⟨3, ![1, 1024, 512]⟩
abbrev S512x1024 : Shape := ⟨2, ![512, 1024]⟩
abbrev S1x512x1024 : Shape := ⟨3, ![1, 512, 1024]⟩
abbrev S1x1 : Shape := ⟨2, ![1, 1]⟩
abbrev S1x2048x128 : Shape := ⟨3, ![1, 2048, 128]⟩
abbrev S2048x128 : Shape := ⟨2, ![2048, 128]⟩
abbrev S1x2048x1x128 : Shape := ⟨4, ![1, 2048, 1, 128]⟩
abbrev S512x512 : Shape := ⟨2, ![512, 512]⟩
abbrev S512x768 : Shape := ⟨2, ![512, 768]⟩
abbrev S512x128 : Shape := ⟨2, ![512, 128]⟩
abbrev S1x768x128 : Shape := ⟨3, ![1, 768, 128]⟩
abbrev S768x128 : Shape := ⟨2, ![768, 128]⟩
abbrev S512 : Shape := ⟨1, ![512]⟩
abbrev S512x1 : Shape := ⟨2, ![512, 1]⟩

abbrev nBuf : Space → Nat
  | .hbm => 6
  | .vmem => 13
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S4x2048x32x128, .f32⟩
  | .hbm, ⟨3, _⟩ => ⟨S4x2048x32x128, .f32⟩
  | .hbm, ⟨4, _⟩ => ⟨S1024x1024, .f32⟩
  | .hbm, ⟨5, _⟩ => ⟨S1x2048x1024, .f32⟩
  | .local _ .vmem, ⟨0, _⟩ => ⟨S1x2048x1024, .f32⟩
  | .local _ .vmem, ⟨1, _⟩ => ⟨S1024x1024, .f32⟩
  | .local _ .vmem, ⟨2, _⟩ => ⟨S1024x1024, .f32⟩
  | .local _ .vmem, ⟨3, _⟩ => ⟨S1x2048x1024, .f32⟩
  | .local _ .vmem, ⟨4, _⟩ => ⟨S2x1024x512, .bf16⟩
  | .local _ .vmem, ⟨5, _⟩ => ⟨S2x512x1024, .bf16⟩
  | .local _ .vmem, ⟨6, _⟩ => ⟨S2x1024x512, .bf16⟩
  | .local _ .vmem, ⟨7, _⟩ => ⟨S2x512x1024, .bf16⟩
  | .local _ .vmem, ⟨8, _⟩ => ⟨S1024x1024, .bf16⟩
  | .local _ .vmem, ⟨9, _⟩ => ⟨S2048x1024, .bf16⟩
  | .local _ .vmem, ⟨10, _⟩ => ⟨S2048x1024, .bf16⟩
  | .local _ .vmem, ⟨11, _⟩ => ⟨S8x2048x128, .f32⟩
  | .local _ .vmem, ⟨12, _⟩ => ⟨S8x2048x128, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_30 : BitVec 32 := 1#32
  let v43 : BitVec 32 := Scalar.muli v5 c1_i32_30
  let v44 : BitVec 32 := Scalar.addi c0_i32 v43
  v44.toNat
def k0_dev2 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_32 : BitVec 32 := 1#32
  let v45 : BitVec 32 := Scalar.muli v7 c1_i32_32
  let v46 : BitVec 32 := Scalar.addi c0_i32_33 v45
  v46.toNat
def k0_dev3 (d0 : Dev nD) : Nat :=
  let c0_i32_46 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_45 : BitVec 32 := 1#32
  let v52 : BitVec 32 := Scalar.muli v7 c1_i32_45
  let v53 : BitVec 32 := Scalar.addi c0_i32_46 v52
  v53.toNat
def k0_dev4 (d0 : Dev nD) : Nat :=
  let c0_i32_58 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_57 : BitVec 32 := 1#32
  let v62 : BitVec 32 := Scalar.muli v7 c1_i32_57
  let v63 : BitVec 32 := Scalar.addi c0_i32_58 v62
  v63.toNat
def k0_dev5 (d0 : Dev nD) : Nat :=
  let c0_i32_70 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_69 : BitVec 32 := 1#32
  let v72 : BitVec 32 := Scalar.muli v5 c1_i32_69
  let v73 : BitVec 32 := Scalar.addi c0_i32_70 v72
  v73.toNat
def k0_dev6 (d0 : Dev nD) : Nat :=
  let c0_i32_81 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_80 : BitVec 32 := 1#32
  let v82 : BitVec 32 := Scalar.muli v5 c1_i32_80
  let v83 : BitVec 32 := Scalar.addi c0_i32_81 v82
  v83.toNat
def k0_off1 (d0 : Dev nD) (true_89 : BitVec 1) (c2_i32_34 : BitVec 32) (c0_i32_86 : BitVec 32) (c2_i32_37 : BitVec 32) (c0_i32_88 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_124 : BitVec 32 := 0#32
  let v47 : BitVec 32 := Scalar.subi v2 c2_i32_34
  let c4_i32_35 : BitVec 32 := 4#32
  let v48 : BitVec 32 := Scalar.addi v47 c4_i32_35
  let c4_i32_36 : BitVec 32 := 4#32
  let v49 : BitVec 32 := Scalar.remsi v48 c4_i32_36
  let c8_i32 : BitVec 32 := 8#32
  let v92 : BitVec 32 := Scalar.muli v49 c8_i32
  let v93 : BitVec 32 := Scalar.addi v92 c0_i32_86
  let v50 : BitVec 32 := Scalar.addi v2 c2_i32_37
  let c4_i32_38 : BitVec 32 := 4#32
  let v51 : BitVec 32 := Scalar.remsi v50 c4_i32_38
  let c8_i32_87 : BitVec 32 := 8#32
  let v94 : BitVec 32 := Scalar.muli v51 c8_i32_87
  let v95 : BitVec 32 := Scalar.addi v94 c0_i32_88
  let v96 : BitVec 32 := Scalar.select true_89 v93 v95
  let c0_i32_125 : BitVec 32 := 0#32
  ![v2.toNat, 0, v96.toNat, 0]
def k0_off1_at (r : Fin 16) : BitVec 1 × BitVec 32 × BitVec 32 × BitVec 32 × BitVec 32 :=
  if r.val < 8 then
    if r.val < 4 then
      if r.val < 2 then
        if r.val < 1 then
          (1#1, 2#32, 0#32, 2#32, 0#32)
        else
          (1#1, 2#32, 1#32, 2#32, 1#32)
      else
        if r.val < 3 then
          (1#1, 2#32, 2#32, 2#32, 2#32)
        else
          (1#1, 2#32, 3#32, 2#32, 3#32)
    else
      if r.val < 6 then
        if r.val < 5 then
          (0#1, 2#32, 4#32, 2#32, 4#32)
        else
          (0#1, 2#32, 5#32, 2#32, 5#32)
      else
        if r.val < 7 then
          (0#1, 2#32, 6#32, 2#32, 6#32)
        else
          (0#1, 2#32, 7#32, 2#32, 7#32)
  else
    if r.val < 12 then
      if r.val < 10 then
        if r.val < 9 then
          (1#1, 3#32, 0#32, 3#32, 0#32)
        else
          (1#1, 3#32, 1#32, 3#32, 1#32)
      else
        if r.val < 11 then
          (1#1, 3#32, 2#32, 3#32, 2#32)
        else
          (1#1, 3#32, 3#32, 3#32, 3#32)
    else
      if r.val < 14 then
        if r.val < 13 then
          (0#1, 3#32, 4#32, 3#32, 4#32)
        else
          (0#1, 3#32, 5#32, 3#32, 5#32)
      else
        if r.val < 15 then
          (0#1, 3#32, 6#32, 3#32, 6#32)
        else
          (0#1, 3#32, 7#32, 3#32, 7#32)
@[reducible] def k0_t1_loop : Scf.Loop 32 :=
  let c0_i32_201 : BitVec 32 := 0#32
  let c4_i32_202 : BitVec 32 := 4#32
  let v196 : BitVec 32 := Scalar.addi c0_i32_201 c4_i32_202
  let c1_i32_203 : BitVec 32 := 1#32
  ⟨c0_i32_201, v196, c1_i32_203⟩
def k0_off2 (k0_t1 : Fin k0_t1_loop.trips) : Fin 2 → Nat :=
  let c0_i32_201 : BitVec 32 := 0#32
  let c1_i32_203 : BitVec 32 := 1#32
  let arg19 : BitVec 32 := Scf.iv c0_i32_201 c1_i32_203 k0_t1
  let c512_i32 : BitVec 32 := 512#32
  let v513 : BitVec 32 := Scalar.muli arg19 c512_i32
  let v514 : Index := Scalar.indexCast v513
  let c0_613 : Index := 0#32
  ![v514.toNat, 0]
def k0_off3 (k0_t1 : Fin k0_t1_loop.trips) : Fin 2 → Nat :=
  let c0_i32_201 : BitVec 32 := 0#32
  let c1_i32_203 : BitVec 32 := 1#32
  let arg19 : BitVec 32 := Scf.iv c0_i32_201 c1_i32_203 k0_t1
  let c512_i32 : BitVec 32 := 512#32
  let v513 : BitVec 32 := Scalar.muli arg19 c512_i32
  let v520 : Index := Scalar.indexCast v513
  let c0_618 : Index := 0#32
  ![v520.toNat, 0]
def k0_off4 (k0_t1 : Fin k0_t1_loop.trips) : Fin 2 → Nat :=
  let c0_i32_201 : BitVec 32 := 0#32
  let c1_i32_203 : BitVec 32 := 1#32
  let arg19 : BitVec 32 := Scf.iv c0_i32_201 c1_i32_203 k0_t1
  let c512_i32 : BitVec 32 := 512#32
  let v513 : BitVec 32 := Scalar.muli arg19 c512_i32
  let v528 : Index := Scalar.indexCast v513
  let c512_623 : Index := 512#32
  ![v528.toNat, 512]
@[reducible] def k0_t2_loop : Scf.Loop 32 :=
  let c0_i32_295 : BitVec 32 := 0#32
  let c4_i32_296 : BitVec 32 := 4#32
  let v271 : BitVec 32 := Scalar.addi c0_i32_295 c4_i32_296
  let c1_i32_297 : BitVec 32 := 1#32
  ⟨c0_i32_295, v271, c1_i32_297⟩
def k0_off5 (k0_t2 : Fin k0_t2_loop.trips) : Fin 2 → Nat :=
  let c0_i32_295 : BitVec 32 := 0#32
  let c1_i32_297 : BitVec 32 := 1#32
  let arg19 : BitVec 32 := Scf.iv c0_i32_295 c1_i32_297 k0_t2
  let c512_i32 : BitVec 32 := 512#32
  let v518 : BitVec 32 := Scalar.muli arg19 c512_i32
  let v533 : Index := Scalar.indexCast v518
  let c0_620 : Index := 0#32
  ![v533.toNat, 0]
def k0_off6 (k0_t2 : Fin k0_t2_loop.trips) : Fin 3 → Nat :=
  let c0_621 : Index := 0#32
  let c10_i32 : BitVec 32 := 10#32
  let c0_i32_615 : BitVec 32 := 0#32
  let c0_i32_295 : BitVec 32 := 0#32
  let c1_i32_297 : BitVec 32 := 1#32
  let arg19 : BitVec 32 := Scf.iv c0_i32_295 c1_i32_297 k0_t2
  let c4_i32_613 : BitVec 32 := 4#32
  let v513 : BitVec 32 := Scalar.muli arg19 c4_i32_613
  let c1_i32_614 : BitVec 32 := 1#32
  let v514 : BitVec 32 := Scalar.subi v513 c1_i32_614
  let v515 : BitVec 32 := Scalar.maxsi c0_i32_615 v514
  let v516 : BitVec 32 := Scalar.minsi c10_i32 v515
  let c128_i32 : BitVec 32 := 128#32
  let v517 : BitVec 32 := Scalar.muli v516 c128_i32
  let v535 : Index := Scalar.indexCast v517
  let c0_622 : Index := 0#32
  ![0, v535.toNat, 0]
def k0_off7 (k0_t2 : Fin k0_t2_loop.trips) : Fin 2 → Nat :=
  let c0_i32_295 : BitVec 32 := 0#32
  let c1_i32_297 : BitVec 32 := 1#32
  let arg19 : BitVec 32 := Scf.iv c0_i32_295 c1_i32_297 k0_t2
  let c512_i32 : BitVec 32 := 512#32
  let v518 : BitVec 32 := Scalar.muli arg19 c512_i32
  let v553 : Index := Scalar.indexCast v518
  let c128 : Index := 128#32
  ![v553.toNat, 128]
def k0_off8 (k0_t2 : Fin k0_t2_loop.trips) : Fin 3 → Nat :=
  let c1_628 : Index := 1#32
  let c10_i32 : BitVec 32 := 10#32
  let c0_i32_615 : BitVec 32 := 0#32
  let c0_i32_295 : BitVec 32 := 0#32
  let c1_i32_297 : BitVec 32 := 1#32
  let arg19 : BitVec 32 := Scf.iv c0_i32_295 c1_i32_297 k0_t2
  let c4_i32_613 : BitVec 32 := 4#32
  let v513 : BitVec 32 := Scalar.muli arg19 c4_i32_613
  let c1_i32_614 : BitVec 32 := 1#32
  let v514 : BitVec 32 := Scalar.subi v513 c1_i32_614
  let v515 : BitVec 32 := Scalar.maxsi c0_i32_615 v514
  let v516 : BitVec 32 := Scalar.minsi c10_i32 v515
  let c128_i32 : BitVec 32 := 128#32
  let v517 : BitVec 32 := Scalar.muli v516 c128_i32
  let v555 : Index := Scalar.indexCast v517
  let c0_629 : Index := 0#32
  ![1, v555.toNat, 0]
def k0_off9 (k0_t2 : Fin k0_t2_loop.trips) : Fin 2 → Nat :=
  let c0_i32_295 : BitVec 32 := 0#32
  let c1_i32_297 : BitVec 32 := 1#32
  let arg19 : BitVec 32 := Scf.iv c0_i32_295 c1_i32_297 k0_t2
  let c512_i32 : BitVec 32 := 512#32
  let v518 : BitVec 32 := Scalar.muli arg19 c512_i32
  let v573 : Index := Scalar.indexCast v518
  let c256 : Index := 256#32
  ![v573.toNat, 256]
def k0_off10 (k0_t2 : Fin k0_t2_loop.trips) : Fin 3 → Nat :=
  let c2 : Index := 2#32
  let c10_i32 : BitVec 32 := 10#32
  let c0_i32_615 : BitVec 32 := 0#32
  let c0_i32_295 : BitVec 32 := 0#32
  let c1_i32_297 : BitVec 32 := 1#32
  let arg19 : BitVec 32 := Scf.iv c0_i32_295 c1_i32_297 k0_t2
  let c4_i32_613 : BitVec 32 := 4#32
  let v513 : BitVec 32 := Scalar.muli arg19 c4_i32_613
  let c1_i32_614 : BitVec 32 := 1#32
  let v514 : BitVec 32 := Scalar.subi v513 c1_i32_614
  let v515 : BitVec 32 := Scalar.maxsi c0_i32_615 v514
  let v516 : BitVec 32 := Scalar.minsi c10_i32 v515
  let c128_i32 : BitVec 32 := 128#32
  let v517 : BitVec 32 := Scalar.muli v516 c128_i32
  let v575 : Index := Scalar.indexCast v517
  let c0_635 : Index := 0#32
  ![2, v575.toNat, 0]
def k0_off11 (k0_t2 : Fin k0_t2_loop.trips) : Fin 2 → Nat :=
  let c0_i32_295 : BitVec 32 := 0#32
  let c1_i32_297 : BitVec 32 := 1#32
  let arg19 : BitVec 32 := Scf.iv c0_i32_295 c1_i32_297 k0_t2
  let c512_i32 : BitVec 32 := 512#32
  let v518 : BitVec 32 := Scalar.muli arg19 c512_i32
  let v593 : Index := Scalar.indexCast v518
  let c384 : Index := 384#32
  ![v593.toNat, 384]
def k0_off12 (k0_t2 : Fin k0_t2_loop.trips) : Fin 3 → Nat :=
  let c3 : Index := 3#32
  let c10_i32 : BitVec 32 := 10#32
  let c0_i32_615 : BitVec 32 := 0#32
  let c0_i32_295 : BitVec 32 := 0#32
  let c1_i32_297 : BitVec 32 := 1#32
  let arg19 : BitVec 32 := Scf.iv c0_i32_295 c1_i32_297 k0_t2
  let c4_i32_613 : BitVec 32 := 4#32
  let v513 : BitVec 32 := Scalar.muli arg19 c4_i32_613
  let c1_i32_614 : BitVec 32 := 1#32
  let v514 : BitVec 32 := Scalar.subi v513 c1_i32_614
  let v515 : BitVec 32 := Scalar.maxsi c0_i32_615 v514
  let v516 : BitVec 32 := Scalar.minsi c10_i32 v515
  let c128_i32 : BitVec 32 := 128#32
  let v517 : BitVec 32 := Scalar.muli v516 c128_i32
  let v595 : Index := Scalar.indexCast v517
  let c0_641 : Index := 0#32
  ![3, v595.toNat, 0]
def k0_off13 (k0_t2 : Fin k0_t2_loop.trips) : Fin 2 → Nat :=
  let c0_i32_295 : BitVec 32 := 0#32
  let c1_i32_297 : BitVec 32 := 1#32
  let arg19 : BitVec 32 := Scf.iv c0_i32_295 c1_i32_297 k0_t2
  let c512_i32 : BitVec 32 := 512#32
  let v518 : BitVec 32 := Scalar.muli arg19 c512_i32
  let v613 : Index := Scalar.indexCast v518
  let c512_647 : Index := 512#32
  ![v613.toNat, 512]
def k0_off14 (k0_t2 : Fin k0_t2_loop.trips) : Fin 3 → Nat :=
  let c4 : Index := 4#32
  let c10_i32 : BitVec 32 := 10#32
  let c0_i32_615 : BitVec 32 := 0#32
  let c0_i32_295 : BitVec 32 := 0#32
  let c1_i32_297 : BitVec 32 := 1#32
  let arg19 : BitVec 32 := Scf.iv c0_i32_295 c1_i32_297 k0_t2
  let c4_i32_613 : BitVec 32 := 4#32
  let v513 : BitVec 32 := Scalar.muli arg19 c4_i32_613
  let c1_i32_614 : BitVec 32 := 1#32
  let v514 : BitVec 32 := Scalar.subi v513 c1_i32_614
  let v515 : BitVec 32 := Scalar.maxsi c0_i32_615 v514
  let v516 : BitVec 32 := Scalar.minsi c10_i32 v515
  let c128_i32 : BitVec 32 := 128#32
  let v517 : BitVec 32 := Scalar.muli v516 c128_i32
  let v615 : Index := Scalar.indexCast v517
  let c0_648 : Index := 0#32
  ![4, v615.toNat, 0]
def k0_off15 (k0_t2 : Fin k0_t2_loop.trips) : Fin 2 → Nat :=
  let c0_i32_295 : BitVec 32 := 0#32
  let c1_i32_297 : BitVec 32 := 1#32
  let arg19 : BitVec 32 := Scf.iv c0_i32_295 c1_i32_297 k0_t2
  let c512_i32 : BitVec 32 := 512#32
  let v518 : BitVec 32 := Scalar.muli arg19 c512_i32
  let v633 : Index := Scalar.indexCast v518
  let c640 : Index := 640#32
  ![v633.toNat, 640]
def k0_off16 (k0_t2 : Fin k0_t2_loop.trips) : Fin 3 → Nat :=
  let c5 : Index := 5#32
  let c10_i32 : BitVec 32 := 10#32
  let c0_i32_615 : BitVec 32 := 0#32
  let c0_i32_295 : BitVec 32 := 0#32
  let c1_i32_297 : BitVec 32 := 1#32
  let arg19 : BitVec 32 := Scf.iv c0_i32_295 c1_i32_297 k0_t2
  let c4_i32_613 : BitVec 32 := 4#32
  let v513 : BitVec 32 := Scalar.muli arg19 c4_i32_613
  let c1_i32_614 : BitVec 32 := 1#32
  let v514 : BitVec 32 := Scalar.subi v513 c1_i32_614
  let v515 : BitVec 32 := Scalar.maxsi c0_i32_615 v514
  let v516 : BitVec 32 := Scalar.minsi c10_i32 v515
  let c128_i32 : BitVec 32 := 128#32
  let v517 : BitVec 32 := Scalar.muli v516 c128_i32
  let v635 : Index := Scalar.indexCast v517
  let c0_654 : Index := 0#32
  ![5, v635.toNat, 0]
def k0_off17 (k0_t2 : Fin k0_t2_loop.trips) : Fin 2 → Nat :=
  let c0_i32_295 : BitVec 32 := 0#32
  let c1_i32_297 : BitVec 32 := 1#32
  let arg19 : BitVec 32 := Scf.iv c0_i32_295 c1_i32_297 k0_t2
  let c512_i32 : BitVec 32 := 512#32
  let v518 : BitVec 32 := Scalar.muli arg19 c512_i32
  let v653 : Index := Scalar.indexCast v518
  let c768 : Index := 768#32
  ![v653.toNat, 768]
def k0_off18 (k0_t2 : Fin k0_t2_loop.trips) : Fin 3 → Nat :=
  let c6 : Index := 6#32
  let c10_i32 : BitVec 32 := 10#32
  let c0_i32_615 : BitVec 32 := 0#32
  let c0_i32_295 : BitVec 32 := 0#32
  let c1_i32_297 : BitVec 32 := 1#32
  let arg19 : BitVec 32 := Scf.iv c0_i32_295 c1_i32_297 k0_t2
  let c4_i32_613 : BitVec 32 := 4#32
  let v513 : BitVec 32 := Scalar.muli arg19 c4_i32_613
  let c1_i32_614 : BitVec 32 := 1#32
  let v514 : BitVec 32 := Scalar.subi v513 c1_i32_614
  let v515 : BitVec 32 := Scalar.maxsi c0_i32_615 v514
  let v516 : BitVec 32 := Scalar.minsi c10_i32 v515
  let c128_i32 : BitVec 32 := 128#32
  let v517 : BitVec 32 := Scalar.muli v516 c128_i32
  let v655 : Index := Scalar.indexCast v517
  let c0_660 : Index := 0#32
  ![6, v655.toNat, 0]
def k0_off19 (k0_t2 : Fin k0_t2_loop.trips) : Fin 2 → Nat :=
  let c0_i32_295 : BitVec 32 := 0#32
  let c1_i32_297 : BitVec 32 := 1#32
  let arg19 : BitVec 32 := Scf.iv c0_i32_295 c1_i32_297 k0_t2
  let c512_i32 : BitVec 32 := 512#32
  let v518 : BitVec 32 := Scalar.muli arg19 c512_i32
  let v673 : Index := Scalar.indexCast v518
  let c896 : Index := 896#32
  ![v673.toNat, 896]
def k0_off20 (k0_t2 : Fin k0_t2_loop.trips) : Fin 3 → Nat :=
  let c7 : Index := 7#32
  let c10_i32 : BitVec 32 := 10#32
  let c0_i32_615 : BitVec 32 := 0#32
  let c0_i32_295 : BitVec 32 := 0#32
  let c1_i32_297 : BitVec 32 := 1#32
  let arg19 : BitVec 32 := Scf.iv c0_i32_295 c1_i32_297 k0_t2
  let c4_i32_613 : BitVec 32 := 4#32
  let v513 : BitVec 32 := Scalar.muli arg19 c4_i32_613
  let c1_i32_614 : BitVec 32 := 1#32
  let v514 : BitVec 32 := Scalar.subi v513 c1_i32_614
  let v515 : BitVec 32 := Scalar.maxsi c0_i32_615 v514
  let v516 : BitVec 32 := Scalar.minsi c10_i32 v515
  let c128_i32 : BitVec 32 := 128#32
  let v517 : BitVec 32 := Scalar.muli v516 c128_i32
  let v675 : Index := Scalar.indexCast v517
  let c0_666 : Index := 0#32
  ![7, v675.toNat, 0]
def k0_off21 (k0_t2 : Fin k0_t2_loop.trips) : Fin 3 → Nat :=
  let c0_675 : Index := 0#32
  let c0_i32_295 : BitVec 32 := 0#32
  let c1_i32_297 : BitVec 32 := 1#32
  let arg19 : BitVec 32 := Scf.iv c0_i32_295 c1_i32_297 k0_t2
  let c512_i32 : BitVec 32 := 512#32
  let v518 : BitVec 32 := Scalar.muli arg19 c512_i32
  let v696 : Index := Scalar.indexCast v518
  let c0_676 : Index := 0#32
  ![0, v696.toNat, 0]
@[reducible] def k0_t3_loop : Scf.Loop 32 :=
  let c0_i32_516 : BitVec 32 := 0#32
  let c4_i32_517 : BitVec 32 := 4#32
  let v437 : BitVec 32 := Scalar.addi c0_i32_516 c4_i32_517
  let c1_i32_518 : BitVec 32 := 1#32
  ⟨c0_i32_516, v437, c1_i32_518⟩
def k0_off22 (k0_t3 : Fin k0_t3_loop.trips) : Fin 2 → Nat :=
  let c0_i32_516 : BitVec 32 := 0#32
  let c1_i32_518 : BitVec 32 := 1#32
  let arg19 : BitVec 32 := Scf.iv c0_i32_516 c1_i32_518 k0_t3
  let c512_i32 : BitVec 32 := 512#32
  let v513 : BitVec 32 := Scalar.muli arg19 c512_i32
  let v514 : Index := Scalar.indexCast v513
  let c0_613 : Index := 0#32
  ![v514.toNat, 0]
def k0_off23 (k0_t3 : Fin k0_t3_loop.trips) : Fin 2 → Nat :=
  let c0_i32_516 : BitVec 32 := 0#32
  let c1_i32_518 : BitVec 32 := 1#32
  let arg19 : BitVec 32 := Scf.iv c0_i32_516 c1_i32_518 k0_t3
  let c512_i32 : BitVec 32 := 512#32
  let v513 : BitVec 32 := Scalar.muli arg19 c512_i32
  let v520 : Index := Scalar.indexCast v513
  let c0_618 : Index := 0#32
  ![v520.toNat, 0]
def k0_off24 (k0_t3 : Fin k0_t3_loop.trips) : Fin 2 → Nat :=
  let c0_i32_516 : BitVec 32 := 0#32
  let c1_i32_518 : BitVec 32 := 1#32
  let arg19 : BitVec 32 := Scf.iv c0_i32_516 c1_i32_518 k0_t3
  let c512_i32 : BitVec 32 := 512#32
  let v513 : BitVec 32 := Scalar.muli arg19 c512_i32
  let v528 : Index := Scalar.indexCast v513
  let c512_623 : Index := 512#32
  ![v528.toNat, 512]
@[reducible] def k0_t4_loop : Scf.Loop 32 :=
  let c0_i32_609 : BitVec 32 := 0#32
  let c4_i32_610 : BitVec 32 := 4#32
  let v512 : BitVec 32 := Scalar.addi c0_i32_609 c4_i32_610
  let c1_i32_611 : BitVec 32 := 1#32
  ⟨c0_i32_609, v512, c1_i32_611⟩
def k0_off25 (k0_t4 : Fin k0_t4_loop.trips) : Fin 2 → Nat :=
  let c0_i32_609 : BitVec 32 := 0#32
  let c1_i32_611 : BitVec 32 := 1#32
  let arg19 : BitVec 32 := Scf.iv c0_i32_609 c1_i32_611 k0_t4
  let c512_i32 : BitVec 32 := 512#32
  let v518 : BitVec 32 := Scalar.muli arg19 c512_i32
  let v533 : Index := Scalar.indexCast v518
  let c0_620 : Index := 0#32
  ![v533.toNat, 0]
def k0_off26 (k0_t4 : Fin k0_t4_loop.trips) : Fin 3 → Nat :=
  let c0_621 : Index := 0#32
  let c10_i32 : BitVec 32 := 10#32
  let c0_i32_615 : BitVec 32 := 0#32
  let c0_i32_609 : BitVec 32 := 0#32
  let c1_i32_611 : BitVec 32 := 1#32
  let arg19 : BitVec 32 := Scf.iv c0_i32_609 c1_i32_611 k0_t4
  let c4_i32_613 : BitVec 32 := 4#32
  let v513 : BitVec 32 := Scalar.muli arg19 c4_i32_613
  let c1_i32_614 : BitVec 32 := 1#32
  let v514 : BitVec 32 := Scalar.subi v513 c1_i32_614
  let v515 : BitVec 32 := Scalar.maxsi c0_i32_615 v514
  let v516 : BitVec 32 := Scalar.minsi c10_i32 v515
  let c128_i32 : BitVec 32 := 128#32
  let v517 : BitVec 32 := Scalar.muli v516 c128_i32
  let v535 : Index := Scalar.indexCast v517
  let c0_622 : Index := 0#32
  ![0, v535.toNat, 0]
def k0_off27 (k0_t4 : Fin k0_t4_loop.trips) : Fin 2 → Nat :=
  let c0_i32_609 : BitVec 32 := 0#32
  let c1_i32_611 : BitVec 32 := 1#32
  let arg19 : BitVec 32 := Scf.iv c0_i32_609 c1_i32_611 k0_t4
  let c512_i32 : BitVec 32 := 512#32
  let v518 : BitVec 32 := Scalar.muli arg19 c512_i32
  let v553 : Index := Scalar.indexCast v518
  let c128 : Index := 128#32
  ![v553.toNat, 128]
def k0_off28 (k0_t4 : Fin k0_t4_loop.trips) : Fin 3 → Nat :=
  let c1_628 : Index := 1#32
  let c10_i32 : BitVec 32 := 10#32
  let c0_i32_615 : BitVec 32 := 0#32
  let c0_i32_609 : BitVec 32 := 0#32
  let c1_i32_611 : BitVec 32 := 1#32
  let arg19 : BitVec 32 := Scf.iv c0_i32_609 c1_i32_611 k0_t4
  let c4_i32_613 : BitVec 32 := 4#32
  let v513 : BitVec 32 := Scalar.muli arg19 c4_i32_613
  let c1_i32_614 : BitVec 32 := 1#32
  let v514 : BitVec 32 := Scalar.subi v513 c1_i32_614
  let v515 : BitVec 32 := Scalar.maxsi c0_i32_615 v514
  let v516 : BitVec 32 := Scalar.minsi c10_i32 v515
  let c128_i32 : BitVec 32 := 128#32
  let v517 : BitVec 32 := Scalar.muli v516 c128_i32
  let v555 : Index := Scalar.indexCast v517
  let c0_629 : Index := 0#32
  ![1, v555.toNat, 0]
def k0_off29 (k0_t4 : Fin k0_t4_loop.trips) : Fin 2 → Nat :=
  let c0_i32_609 : BitVec 32 := 0#32
  let c1_i32_611 : BitVec 32 := 1#32
  let arg19 : BitVec 32 := Scf.iv c0_i32_609 c1_i32_611 k0_t4
  let c512_i32 : BitVec 32 := 512#32
  let v518 : BitVec 32 := Scalar.muli arg19 c512_i32
  let v573 : Index := Scalar.indexCast v518
  let c256 : Index := 256#32
  ![v573.toNat, 256]
def k0_off30 (k0_t4 : Fin k0_t4_loop.trips) : Fin 3 → Nat :=
  let c2 : Index := 2#32
  let c10_i32 : BitVec 32 := 10#32
  let c0_i32_615 : BitVec 32 := 0#32
  let c0_i32_609 : BitVec 32 := 0#32
  let c1_i32_611 : BitVec 32 := 1#32
  let arg19 : BitVec 32 := Scf.iv c0_i32_609 c1_i32_611 k0_t4
  let c4_i32_613 : BitVec 32 := 4#32
  let v513 : BitVec 32 := Scalar.muli arg19 c4_i32_613
  let c1_i32_614 : BitVec 32 := 1#32
  let v514 : BitVec 32 := Scalar.subi v513 c1_i32_614
  let v515 : BitVec 32 := Scalar.maxsi c0_i32_615 v514
  let v516 : BitVec 32 := Scalar.minsi c10_i32 v515
  let c128_i32 : BitVec 32 := 128#32
  let v517 : BitVec 32 := Scalar.muli v516 c128_i32
  let v575 : Index := Scalar.indexCast v517
  let c0_635 : Index := 0#32
  ![2, v575.toNat, 0]
def k0_off31 (k0_t4 : Fin k0_t4_loop.trips) : Fin 2 → Nat :=
  let c0_i32_609 : BitVec 32 := 0#32
  let c1_i32_611 : BitVec 32 := 1#32
  let arg19 : BitVec 32 := Scf.iv c0_i32_609 c1_i32_611 k0_t4
  let c512_i32 : BitVec 32 := 512#32
  let v518 : BitVec 32 := Scalar.muli arg19 c512_i32
  let v593 : Index := Scalar.indexCast v518
  let c384 : Index := 384#32
  ![v593.toNat, 384]
def k0_off32 (k0_t4 : Fin k0_t4_loop.trips) : Fin 3 → Nat :=
  let c3 : Index := 3#32
  let c10_i32 : BitVec 32 := 10#32
  let c0_i32_615 : BitVec 32 := 0#32
  let c0_i32_609 : BitVec 32 := 0#32
  let c1_i32_611 : BitVec 32 := 1#32
  let arg19 : BitVec 32 := Scf.iv c0_i32_609 c1_i32_611 k0_t4
  let c4_i32_613 : BitVec 32 := 4#32
  let v513 : BitVec 32 := Scalar.muli arg19 c4_i32_613
  let c1_i32_614 : BitVec 32 := 1#32
  let v514 : BitVec 32 := Scalar.subi v513 c1_i32_614
  let v515 : BitVec 32 := Scalar.maxsi c0_i32_615 v514
  let v516 : BitVec 32 := Scalar.minsi c10_i32 v515
  let c128_i32 : BitVec 32 := 128#32
  let v517 : BitVec 32 := Scalar.muli v516 c128_i32
  let v595 : Index := Scalar.indexCast v517
  let c0_641 : Index := 0#32
  ![3, v595.toNat, 0]
def k0_off33 (k0_t4 : Fin k0_t4_loop.trips) : Fin 2 → Nat :=
  let c0_i32_609 : BitVec 32 := 0#32
  let c1_i32_611 : BitVec 32 := 1#32
  let arg19 : BitVec 32 := Scf.iv c0_i32_609 c1_i32_611 k0_t4
  let c512_i32 : BitVec 32 := 512#32
  let v518 : BitVec 32 := Scalar.muli arg19 c512_i32
  let v613 : Index := Scalar.indexCast v518
  let c512_647 : Index := 512#32
  ![v613.toNat, 512]
def k0_off34 (k0_t4 : Fin k0_t4_loop.trips) : Fin 3 → Nat :=
  let c4 : Index := 4#32
  let c10_i32 : BitVec 32 := 10#32
  let c0_i32_615 : BitVec 32 := 0#32
  let c0_i32_609 : BitVec 32 := 0#32
  let c1_i32_611 : BitVec 32 := 1#32
  let arg19 : BitVec 32 := Scf.iv c0_i32_609 c1_i32_611 k0_t4
  let c4_i32_613 : BitVec 32 := 4#32
  let v513 : BitVec 32 := Scalar.muli arg19 c4_i32_613
  let c1_i32_614 : BitVec 32 := 1#32
  let v514 : BitVec 32 := Scalar.subi v513 c1_i32_614
  let v515 : BitVec 32 := Scalar.maxsi c0_i32_615 v514
  let v516 : BitVec 32 := Scalar.minsi c10_i32 v515
  let c128_i32 : BitVec 32 := 128#32
  let v517 : BitVec 32 := Scalar.muli v516 c128_i32
  let v615 : Index := Scalar.indexCast v517
  let c0_648 : Index := 0#32
  ![4, v615.toNat, 0]
def k0_off35 (k0_t4 : Fin k0_t4_loop.trips) : Fin 2 → Nat :=
  let c0_i32_609 : BitVec 32 := 0#32
  let c1_i32_611 : BitVec 32 := 1#32
  let arg19 : BitVec 32 := Scf.iv c0_i32_609 c1_i32_611 k0_t4
  let c512_i32 : BitVec 32 := 512#32
  let v518 : BitVec 32 := Scalar.muli arg19 c512_i32
  let v633 : Index := Scalar.indexCast v518
  let c640 : Index := 640#32
  ![v633.toNat, 640]
def k0_off36 (k0_t4 : Fin k0_t4_loop.trips) : Fin 3 → Nat :=
  let c5 : Index := 5#32
  let c10_i32 : BitVec 32 := 10#32
  let c0_i32_615 : BitVec 32 := 0#32
  let c0_i32_609 : BitVec 32 := 0#32
  let c1_i32_611 : BitVec 32 := 1#32
  let arg19 : BitVec 32 := Scf.iv c0_i32_609 c1_i32_611 k0_t4
  let c4_i32_613 : BitVec 32 := 4#32
  let v513 : BitVec 32 := Scalar.muli arg19 c4_i32_613
  let c1_i32_614 : BitVec 32 := 1#32
  let v514 : BitVec 32 := Scalar.subi v513 c1_i32_614
  let v515 : BitVec 32 := Scalar.maxsi c0_i32_615 v514
  let v516 : BitVec 32 := Scalar.minsi c10_i32 v515
  let c128_i32 : BitVec 32 := 128#32
  let v517 : BitVec 32 := Scalar.muli v516 c128_i32
  let v635 : Index := Scalar.indexCast v517
  let c0_654 : Index := 0#32
  ![5, v635.toNat, 0]
def k0_off37 (k0_t4 : Fin k0_t4_loop.trips) : Fin 2 → Nat :=
  let c0_i32_609 : BitVec 32 := 0#32
  let c1_i32_611 : BitVec 32 := 1#32
  let arg19 : BitVec 32 := Scf.iv c0_i32_609 c1_i32_611 k0_t4
  let c512_i32 : BitVec 32 := 512#32
  let v518 : BitVec 32 := Scalar.muli arg19 c512_i32
  let v653 : Index := Scalar.indexCast v518
  let c768 : Index := 768#32
  ![v653.toNat, 768]
def k0_off38 (k0_t4 : Fin k0_t4_loop.trips) : Fin 3 → Nat :=
  let c6 : Index := 6#32
  let c10_i32 : BitVec 32 := 10#32
  let c0_i32_615 : BitVec 32 := 0#32
  let c0_i32_609 : BitVec 32 := 0#32
  let c1_i32_611 : BitVec 32 := 1#32
  let arg19 : BitVec 32 := Scf.iv c0_i32_609 c1_i32_611 k0_t4
  let c4_i32_613 : BitVec 32 := 4#32
  let v513 : BitVec 32 := Scalar.muli arg19 c4_i32_613
  let c1_i32_614 : BitVec 32 := 1#32
  let v514 : BitVec 32 := Scalar.subi v513 c1_i32_614
  let v515 : BitVec 32 := Scalar.maxsi c0_i32_615 v514
  let v516 : BitVec 32 := Scalar.minsi c10_i32 v515
  let c128_i32 : BitVec 32 := 128#32
  let v517 : BitVec 32 := Scalar.muli v516 c128_i32
  let v655 : Index := Scalar.indexCast v517
  let c0_660 : Index := 0#32
  ![6, v655.toNat, 0]
def k0_off39 (k0_t4 : Fin k0_t4_loop.trips) : Fin 2 → Nat :=
  let c0_i32_609 : BitVec 32 := 0#32
  let c1_i32_611 : BitVec 32 := 1#32
  let arg19 : BitVec 32 := Scf.iv c0_i32_609 c1_i32_611 k0_t4
  let c512_i32 : BitVec 32 := 512#32
  let v518 : BitVec 32 := Scalar.muli arg19 c512_i32
  let v673 : Index := Scalar.indexCast v518
  let c896 : Index := 896#32
  ![v673.toNat, 896]
def k0_off40 (k0_t4 : Fin k0_t4_loop.trips) : Fin 3 → Nat :=
  let c7 : Index := 7#32
  let c10_i32 : BitVec 32 := 10#32
  let c0_i32_615 : BitVec 32 := 0#32
  let c0_i32_609 : BitVec 32 := 0#32
  let c1_i32_611 : BitVec 32 := 1#32
  let arg19 : BitVec 32 := Scf.iv c0_i32_609 c1_i32_611 k0_t4
  let c4_i32_613 : BitVec 32 := 4#32
  let v513 : BitVec 32 := Scalar.muli arg19 c4_i32_613
  let c1_i32_614 : BitVec 32 := 1#32
  let v514 : BitVec 32 := Scalar.subi v513 c1_i32_614
  let v515 : BitVec 32 := Scalar.maxsi c0_i32_615 v514
  let v516 : BitVec 32 := Scalar.minsi c10_i32 v515
  let c128_i32 : BitVec 32 := 128#32
  let v517 : BitVec 32 := Scalar.muli v516 c128_i32
  let v675 : Index := Scalar.indexCast v517
  let c0_666 : Index := 0#32
  ![7, v675.toNat, 0]
def k0_off41 (k0_t4 : Fin k0_t4_loop.trips) : Fin 3 → Nat :=
  let c0_675 : Index := 0#32
  let c0_i32_609 : BitVec 32 := 0#32
  let c1_i32_611 : BitVec 32 := 1#32
  let arg19 : BitVec 32 := Scf.iv c0_i32_609 c1_i32_611 k0_t4
  let c512_i32 : BitVec 32 := 512#32
  let v518 : BitVec 32 := Scalar.muli arg19 c512_i32
  let v696 : Index := Scalar.indexCast v518
  let c0_676 : Index := 0#32
  ![0, v696.toNat, 0]
abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== TailIdeal.lean ====
variable {F : FTy → Type} [FloatOps F] [Named F]
def κ : String → Option EReal := fun
  | "mask" => some ⊥
  | _ => none
-- ==== TailReferenceIdeal.lean ====
abbrev S4x2048x1024 : Shape := ⟨3, ![4, 2048, 1024]⟩
abbrev S1024x4096 : Shape := ⟨2, ![1024, 4096]⟩
abbrev S4x2048x32x128 : Shape := ⟨4, ![4, 2048, 32, 128]⟩
abbrev S4096x1024 : Shape := ⟨2, ![4096, 1024]⟩
abbrev S1024x2048 : Shape := ⟨2, ![1024, 2048]⟩
abbrev S2048x1024 : Shape := ⟨2, ![2048, 1024]⟩
abbrev S4x2048x4096 : Shape := ⟨3, ![4, 2048, 4096]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S4x32x2048x2048 : Shape := ⟨4, ![4, 32, 2048, 2048]⟩
abbrev S1x1x2048x2048 : Shape := ⟨4, ![1, 1, 2048, 2048]⟩
abbrev S4x32x2048 : Shape := ⟨3, ![4, 32, 2048]⟩
abbrev S4x32x2048x1 : Shape := ⟨4, ![4, 32, 2048, 1]⟩
abbrev S1x1x2048x1 : Shape := ⟨4, ![1, 1, 2048, 1]⟩
abbrev S4x32x128x2048 : Shape := ⟨4, ![4, 32, 128, 2048]⟩
abbrev S4 : Shape := ⟨1, ![4]⟩
abbrev S4x1x1 : Shape := ⟨3, ![4, 1, 1]⟩
abbrev S1x4x1 : Shape := ⟨3, ![1, 4, 1]⟩
abbrev S8 : Shape := ⟨1, ![8]⟩
abbrev S1x1x8 : Shape := ⟨3, ![1, 1, 8]⟩
abbrev S4x4x1 : Shape := ⟨3, ![4, 4, 1]⟩
abbrev S4x4x8 : Shape := ⟨3, ![4, 4, 8]⟩
abbrev S4x1x32x1 : Shape := ⟨4, ![4, 1, 32, 1]⟩

abbrev nBuf : Space → Nat
  | .hbm => 129
  | .vmem => 0
  | .smem => 0
  | _ => 0

abbrev hbmTy0_0 (i : Nat) : BufTy := match i % 128 with
  | 0 => ⟨S4x2048x1024, .f32⟩
  | 1 => ⟨S1024x4096, .f32⟩
  | 2 => ⟨S4x2048x32x128, .f32⟩
  | 3 => ⟨S4x2048x32x128, .f32⟩
  | 4 => ⟨S4096x1024, .f32⟩
  | 5 => ⟨S1024x2048, .f32⟩
  | 6 => ⟨S1024x2048, .f32⟩
  | 7 => ⟨S1024x4096, .f32⟩
  | 8 => ⟨S2048x1024, .f32⟩
  | 9 => ⟨S2048x1024, .f32⟩
  | 10 => ⟨S4096x1024, .f32⟩
  | 11 => ⟨S4x2048x4096, .f32⟩
  | 12 => ⟨S4x2048x32x128, .f32⟩
  | 13 => ⟨S2048, .i32⟩
  | 14 => ⟨S2048x1, .i32⟩
  | 15 => ⟨S2048, .i32⟩
  | 16 => ⟨S1x2048, .i32⟩
  | 17 => ⟨S2048x2048, .i32⟩
  | 18 => ⟨S2048x2048, .i32⟩
  | 19 => ⟨S2048x2048, .i32⟩
  | 20 => ⟨S2048x2048, .i32⟩
  | 21 => ⟨S_, .i32⟩
  | 22 => ⟨S2048x2048, .i32⟩
  | 23 => ⟨S2048x2048, .i1⟩
  | 24 => ⟨S4x32x2048x2048, .f32⟩
  | 25 => ⟨S_, .f32⟩
  | 26 => ⟨S4x32x2048x2048, .f32⟩
  | 27 => ⟨S4x32x2048x2048, .f32⟩
  | 28 => ⟨S1x1x2048x2048, .i1⟩
  | 29 => ⟨S_, .f32⟩
  | 30 => ⟨S_, .f32⟩
  | 31 => ⟨S4x32x2048x2048, .i1⟩
  | 32 => ⟨S4x32x2048x2048, .f32⟩
  | 33 => ⟨S4x32x2048x2048, .f32⟩
  | 34 => ⟨S_, .f32⟩
  | 35 => ⟨S4x32x2048, .f32⟩
  | 36 => ⟨S4x32x2048x1, .f32⟩
  | 37 => ⟨S4x32x2048x2048, .f32⟩
  | 38 => ⟨S4x32x2048x2048, .f32⟩
  | 39 => ⟨S4x32x2048x2048, .f32⟩
  | 40 => ⟨S_, .i1⟩
  | 41 => ⟨S2048, .i1⟩
  | 42 => ⟨S1x1x2048x1, .i1⟩
  | 43 => ⟨S_, .f32⟩
  | 44 => ⟨S4x32x2048, .f32⟩
  | 45 => ⟨S4x32x2048x1, .f32⟩
  | 46 => ⟨S_, .f32⟩
  | 47 => ⟨S_, .f32⟩
  | 48 => ⟨S4x32x2048x1, .i1⟩
  | 49 => ⟨S4x32x2048x1, .f32⟩
  | 50 => ⟨S4x32x2048x1, .f32⟩
  | 51 => ⟨S4x32x2048x2048, .f32⟩
  | 52 => ⟨S4x32x2048x2048, .f32⟩
  | 53 => ⟨S1x1x2048x1, .i1⟩
  | 54 => ⟨S_, .f32⟩
  | 55 => ⟨S_, .f32⟩
  | 56 => ⟨S4x32x2048x2048, .i1⟩
  | 57 => ⟨S4x32x2048x2048, .f32⟩
  | 58 => ⟨S4x32x2048x2048, .f32⟩
  | 59 => ⟨S4x32x128x2048, .f32⟩
  | 60 => ⟨S4x2048x32x128, .f32⟩
  | 61 => ⟨S4, .i32⟩
  | 62 => ⟨S4x1x1, .i32⟩
  | 63 => ⟨S4, .i32⟩
  | 64 => ⟨S1x4x1, .i32⟩
  | 65 => ⟨S8, .i32⟩
  | 66 => ⟨S1x1x8, .i32⟩
  | 67 => ⟨S_, .i32⟩
  | 68 => ⟨S4x1x1, .i32⟩
  | 69 => ⟨S4x1x1, .i32⟩
  | 70 => ⟨S4x4x1, .i32⟩
  | 71 => ⟨S4x4x1, .i32⟩
  | 72 => ⟨S4x4x1, .i1⟩
  | 73 => ⟨S_, .i32⟩
  | 74 => ⟨S4x1x1, .i32⟩
  | 75 => ⟨S4x1x1, .i32⟩
  | 76 => ⟨S4x4x1, .i32⟩
  | 77 => ⟨S4x4x1, .i32⟩
  | 78 => ⟨S4x4x1, .i1⟩
  | 79 => ⟨S4x4x1, .i1⟩
  | 80 => ⟨S_, .i32⟩
  | 81 => ⟨S1x1x8, .i32⟩
  | 82 => ⟨S1x1x8, .i1⟩
  | 83 => ⟨S4x4x8, .i1⟩
  | 84 => ⟨S4x4x8, .i1⟩
  | 85 => ⟨S4x4x8, .i1⟩
  | 86 => ⟨S_, .i32⟩
  | 87 => ⟨S4x1x1, .i32⟩
  | 88 => ⟨S4x1x1, .i32⟩
  | 89 => ⟨S4x4x1, .i32⟩
  | 90 => ⟨S4x4x1, .i32⟩
  | 91 => ⟨S4x4x1, .i1⟩
  | 92 => ⟨S_, .i32⟩
  | 93 => ⟨S4x1x1, .i32⟩
  | 94 => ⟨S4x1x1, .i32⟩
  | 95 => ⟨S4x4x1, .i32⟩
  | 96 => ⟨S4x4x1, .i32⟩
  | 97 => ⟨S4x4x1, .i1⟩
  | 98 => ⟨S4x4x1, .i1⟩
  | 99 => ⟨S_, .i32⟩
  | 100 => ⟨S1x1x8, .i32⟩
  | 101 => ⟨S1x1x8, .i1⟩
  | 102 => ⟨S4x4x8, .i1⟩
  | 103 => ⟨S4x4x8, .i1⟩
  | 104 => ⟨S4x4x8, .i1⟩
  | 105 => ⟨S_, .i32⟩
  | 106 => ⟨S4x1x1, .i32⟩
  | 107 => ⟨S4x1x1, .i32⟩
  | 108 => ⟨S4x4x1, .i32⟩
  | 109 => ⟨S4x4x1, .i32⟩
  | 110 => ⟨S4x4x1, .i1⟩
  | 111 => ⟨S_, .i32⟩
  | 112 => ⟨S4x1x1, .i32⟩
  | 113 => ⟨S4x1x1, .i32⟩
  | 114 => ⟨S4x4x1, .i32⟩
  | 115 => ⟨S4x4x1, .i32⟩
  | 116 => ⟨S4x4x1, .i1⟩
  | 117 => ⟨S4x4x1, .i1⟩
  | 118 => ⟨S4x4x8, .i1⟩
  | 119 => ⟨S4x4x8, .i1⟩
  | 120 => ⟨S4x4x8, .i1⟩
  | 121 => ⟨S4x1x32x1, .i1⟩
  | 122 => ⟨S_, .f32⟩
  | 123 => ⟨S_, .f32⟩
  | 124 => ⟨S4x2048x32x128, .i1⟩
  | 125 => ⟨S4x2048x32x128, .f32⟩
  | 126 => ⟨S4x2048x32x128, .f32⟩
  | 127 => ⟨S4x2048x4096, .f32⟩
  | _ => ⟨S4x2048x1024, .f32⟩

abbrev hbmTy0_1 (i : Nat) : BufTy := match i % 128 with
  | 0 => ⟨S4x2048x1024, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_v0 : Ref sig .tc := ⟨.hbm, 7, rfl⟩
abbrev main_call1_v0 : Ref sig .tc := ⟨.hbm, 8, rfl⟩
abbrev main_call1_v1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_0 : Ref sig .tc := ⟨.hbm, 29, rfl⟩
abbrev main_call2_v0 : Ref sig .tc := ⟨.hbm, 30, rfl⟩
abbrev main_call2_v1 : Ref sig .tc := ⟨.hbm, 31, rfl⟩
abbrev main_call2_v2 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_2 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_call3_v0 : Ref sig .tc := ⟨.hbm, 47, rfl⟩
abbrev main_call3_v1 : Ref sig .tc := ⟨.hbm, 48, rfl⟩
abbrev main_call3_v2 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_5 : Ref sig .tc := ⟨.hbm, 54, rfl⟩
abbrev main_call4_v0 : Ref sig .tc := ⟨.hbm, 55, rfl⟩
abbrev main_call4_v1 : Ref sig .tc := ⟨.hbm, 56, rfl⟩
abbrev main_call4_v2 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c_6 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_c_7 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_c_8 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_c_9 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_c_10 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_11 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_c_12 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_c_13 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_14 : Ref sig .tc := ⟨.hbm, 122, rfl⟩
abbrev main_call5_v0 : Ref sig .tc := ⟨.hbm, 123, rfl⟩
abbrev main_call5_v1 : Ref sig .tc := ⟨.hbm, 124, rfl⟩
abbrev main_call5_v2 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩

abbrev nD : Nat := 1
abbrev τ : Topo := Topo.v7x

variable {F : FTy → Type} [FloatOps F]
-- ==== Mid.lean ====
abbrev S1x2048x1024 : Shape := ⟨3, ![1, 2048, 1024]⟩
abbrev S1024x1024 : Shape := ⟨2, ![1024, 1024]⟩
abbrev S4x2048x32x128 : Shape := ⟨4, ![4, 2048, 32, 128]⟩
abbrev S2x1024x512 : Shape := ⟨3, ![2, 1024, 512]⟩
abbrev S2x512x1024 : Shape := ⟨3, ![2, 512, 1024]⟩
abbrev S2048x1024 : Shape := ⟨2, ![2048, 1024]⟩
abbrev S8x2048x128 : Shape := ⟨3, ![8, 2048, 128]⟩
abbrev S4x2 : Shape := ⟨2, ![4, 2]⟩
abbrev S_ : Shape := ⟨0, ![]⟩
abbrev S1024x512 : Shape := ⟨2, ![1024, 512]⟩
abbrev S1x1024x512 : Shape := ⟨3, ![1, 1024, 512]⟩
abbrev S512x1024 : Shape := ⟨2, ![512, 1024]⟩
abbrev S1x512x1024 : Shape := ⟨3, ![1, 512, 1024]⟩
abbrev S1x1 : Shape := ⟨2, ![1, 1]⟩
abbrev S1x2048x128 : Shape := ⟨3, ![1, 2048, 128]⟩
abbrev S2048x128 : Shape := ⟨2, ![2048, 128]⟩
abbrev S1x2048x1x128 : Shape := ⟨4, ![1, 2048, 1, 128]⟩
abbrev S512x512 : Shape := ⟨2, ![512, 512]⟩
abbrev S512x768 : Shape := ⟨2, ![512, 768]⟩
abbrev S512x128 : Shape := ⟨2, ![512, 128]⟩
abbrev S1x768x128 : Shape := ⟨3, ![1, 768, 128]⟩
abbrev S768x128 : Shape := ⟨2, ![768, 128]⟩
abbrev S512 : Shape := ⟨1, ![512]⟩
abbrev S512x1 : Shape := ⟨2, ![512, 1]⟩

abbrev nBuf : Space → Nat
  | .hbm => 6
  | .vmem => 13
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S4x2048x32x128, .f32⟩
  | .hbm, ⟨3, _⟩ => ⟨S4x2048x32x128, .f32⟩
  | .hbm, ⟨4, _⟩ => ⟨S1024x1024, .f32⟩
  | .hbm, ⟨5, _⟩ => ⟨S1x2048x1024, .f32⟩
  | .local _ .vmem, ⟨0, _⟩ => ⟨S1x2048x1024, .f32⟩
  | .local _ .vmem, ⟨1, _⟩ => ⟨S1024x1024, .f32⟩
  | .local _ .vmem, ⟨2, _⟩ => ⟨S1024x1024, .f32⟩
  | .local _ .vmem, ⟨3, _⟩ => ⟨S1x2048x1024, .f32⟩
  | .local _ .vmem, ⟨4, _⟩ => ⟨S2x1024x512, .bf16⟩
  | .local _ .vmem, ⟨5, _⟩ => ⟨S2x512x1024, .bf16⟩
  | .local _ .vmem, ⟨6, _⟩ => ⟨S2x1024x512, .bf16⟩
  | .local _ .vmem, ⟨7, _⟩ => ⟨S2x512x1024, .bf16⟩
  | .local _ .vmem, ⟨8, _⟩ => ⟨S1024x1024, .bf16⟩
  | .local _ .vmem, ⟨9, _⟩ => ⟨S2048x1024, .bf16⟩
  | .local _ .vmem, ⟨10, _⟩ => ⟨S2048x1024, .bf16⟩
  | .local _ .vmem, ⟨11, _⟩ => ⟨S8x2048x128, .f32⟩
  | .local _ .vmem, ⟨12, _⟩ => ⟨S8x2048x128, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_29 : BitVec 32 := 1#32
  let v43 : BitVec 32 := Scalar.muli v5 c1_i32_29
  let v44 : BitVec 32 := Scalar.addi c0_i32 v43
  v44.toNat
def k0_dev2 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_31 : BitVec 32 := 1#32
  let v45 : BitVec 32 := Scalar.muli v7 c1_i32_31
  let v46 : BitVec 32 := Scalar.addi c0_i32_32 v45
  v46.toNat
def k0_dev3 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_44 : BitVec 32 := 1#32
  let v52 : BitVec 32 := Scalar.muli v7 c1_i32_44
  let v53 : BitVec 32 := Scalar.addi c0_i32_45 v52
  v53.toNat
def k0_dev4 (d0 : Dev nD) : Nat :=
  let c0_i32_57 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_56 : BitVec 32 := 1#32
  let v62 : BitVec 32 := Scalar.muli v7 c1_i32_56
  let v63 : BitVec 32 := Scalar.addi c0_i32_57 v62
  v63.toNat
def k0_dev5 (d0 : Dev nD) : Nat :=
  let c0_i32_69 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_68 : BitVec 32 := 1#32
  let v72 : BitVec 32 := Scalar.muli v5 c1_i32_68
  let v73 : BitVec 32 := Scalar.addi c0_i32_69 v72
  v73.toNat
def k0_dev6 (d0 : Dev nD) : Nat :=
  let c0_i32_80 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_79 : BitVec 32 := 1#32
  let v82 : BitVec 32 := Scalar.muli v5 c1_i32_79
  let v83 : BitVec 32 := Scalar.addi c0_i32_80 v82
  v83.toNat
def k0_off1 (d0 : Dev nD) (true_88 : BitVec 1) (c1_i32_33 : BitVec 32) (c0_i32_85 : BitVec 32) (c1_i32_36 : BitVec 32) (c0_i32_87 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_123 : BitVec 32 := 0#32
  let v47 : BitVec 32 := Scalar.subi v2 c1_i32_33
  let c4_i32_34 : BitVec 32 := 4#32
  let v48 : BitVec 32 := Scalar.addi v47 c4_i32_34
  let c4_i32_35 : BitVec 32 := 4#32
  let v49 : BitVec 32 := Scalar.remsi v48 c4_i32_35
  let c8_i32 : BitVec 32 := 8#32
  let v92 : BitVec 32 := Scalar.muli v49 c8_i32
  let v93 : BitVec 32 := Scalar.addi v92 c0_i32_85
  let v50 : BitVec 32 := Scalar.addi v2 c1_i32_36
  let c4_i32_37 : BitVec 32 := 4#32
  let v51 : BitVec 32 := Scalar.remsi v50 c4_i32_37
  let c8_i32_86 : BitVec 32 := 8#32
  let v94 : BitVec 32 := Scalar.muli v51 c8_i32_86
  let v95 : BitVec 32 := Scalar.addi v94 c0_i32_87
  let v96 : BitVec 32 := Scalar.select true_88 v93 v95
  let c0_i32_124 : BitVec 32 := 0#32
  ![v2.toNat, 0, v96.toNat, 0]
def k0_off1_at (r : Fin 16) : BitVec 1 × BitVec 32 × BitVec 32 × BitVec 32 × BitVec 32 :=
  if r.val < 8 then
    if r.val < 4 then
      if r.val < 2 then
        if r.val < 1 then
          (1#1, 1#32, 0#32, 1#32, 0#32)
        else
          (1#1, 1#32, 1#32, 1#32, 1#32)
      else
        if r.val < 3 then
          (1#1, 1#32, 2#32, 1#32, 2#32)
        else
          (1#1, 1#32, 3#32, 1#32, 3#32)
    else
      if r.val < 6 then
        if r.val < 5 then
          (0#1, 1#32, 4#32, 1#32, 4#32)
        else
          (0#1, 1#32, 5#32, 1#32, 5#32)
      else
        if r.val < 7 then
          (0#1, 1#32, 6#32, 1#32, 6#32)
        else
          (0#1, 1#32, 7#32, 1#32, 7#32)
  else
    if r.val < 12 then
      if r.val < 10 then
        if r.val < 9 then
          (1#1, 2#32, 0#32, 2#32, 0#32)
        else
          (1#1, 2#32, 1#32, 2#32, 1#32)
      else
        if r.val < 11 then
          (1#1, 2#32, 2#32, 2#32, 2#32)
        else
          (1#1, 2#32, 3#32, 2#32, 3#32)
    else
      if r.val < 14 then
        if r.val < 13 then
          (0#1, 2#32, 4#32, 2#32, 4#32)
        else
          (0#1, 2#32, 5#32, 2#32, 5#32)
      else
        if r.val < 15 then
          (0#1, 2#32, 6#32, 2#32, 6#32)
        else
          (0#1, 2#32, 7#32, 2#32, 7#32)
@[reducible] def k0_t1_loop : Scf.Loop 32 :=
  let c0_i32_200 : BitVec 32 := 0#32
  let c4_i32_201 : BitVec 32 := 4#32
  let v196 : BitVec 32 := Scalar.addi c0_i32_200 c4_i32_201
  let c1_i32_202 : BitVec 32 := 1#32
  ⟨c0_i32_200, v196, c1_i32_202⟩
def k0_off2 (k0_t1 : Fin k0_t1_loop.trips) : Fin 2 → Nat :=
  let c0_i32_200 : BitVec 32 := 0#32
  let c1_i32_202 : BitVec 32 := 1#32
  let arg19 : BitVec 32 := Scf.iv c0_i32_200 c1_i32_202 k0_t1
  let c512_i32 : BitVec 32 := 512#32
  let v513 : BitVec 32 := Scalar.muli arg19 c512_i32
  let v514 : Index := Scalar.indexCast v513
  let c0_613 : Index := 0#32
  ![v514.toNat, 0]
def k0_off3 (k0_t1 : Fin k0_t1_loop.trips) : Fin 2 → Nat :=
  let c0_i32_200 : BitVec 32 := 0#32
  let c1_i32_202 : BitVec 32 := 1#32
  let arg19 : BitVec 32 := Scf.iv c0_i32_200 c1_i32_202 k0_t1
  let c512_i32 : BitVec 32 := 512#32
  let v513 : BitVec 32 := Scalar.muli arg19 c512_i32
  let v520 : Index := Scalar.indexCast v513
  let c0_618 : Index := 0#32
  ![v520.toNat, 0]
def k0_off4 (k0_t1 : Fin k0_t1_loop.trips) : Fin 2 → Nat :=
  let c0_i32_200 : BitVec 32 := 0#32
  let c1_i32_202 : BitVec 32 := 1#32
  let arg19 : BitVec 32 := Scf.iv c0_i32_200 c1_i32_202 k0_t1
  let c512_i32 : BitVec 32 := 512#32
  let v513 : BitVec 32 := Scalar.muli arg19 c512_i32
  let v528 : Index := Scalar.indexCast v513
  let c512_623 : Index := 512#32
  ![v528.toNat, 512]
@[reducible] def k0_t2_loop : Scf.Loop 32 :=
  let c0_i32_294 : BitVec 32 := 0#32
  let c4_i32_295 : BitVec 32 := 4#32
  let v271 : BitVec 32 := Scalar.addi c0_i32_294 c4_i32_295
  let c1_i32_296 : BitVec 32 := 1#32
  ⟨c0_i32_294, v271, c1_i32_296⟩
def k0_off5 (k0_t2 : Fin k0_t2_loop.trips) : Fin 2 → Nat :=
  let c0_i32_294 : BitVec 32 := 0#32
  let c1_i32_296 : BitVec 32 := 1#32
  let arg19 : BitVec 32 := Scf.iv c0_i32_294 c1_i32_296 k0_t2
  let c512_i32 : BitVec 32 := 512#32
  let v518 : BitVec 32 := Scalar.muli arg19 c512_i32
  let v533 : Index := Scalar.indexCast v518
  let c0_620 : Index := 0#32
  ![v533.toNat, 0]
def k0_off6 (k0_t2 : Fin k0_t2_loop.trips) : Fin 3 → Nat :=
  let c0_621 : Index := 0#32
  let c10_i32 : BitVec 32 := 10#32
  let c0_i32_615 : BitVec 32 := 0#32
  let c0_i32_294 : BitVec 32 := 0#32
  let c1_i32_296 : BitVec 32 := 1#32
  let arg19 : BitVec 32 := Scf.iv c0_i32_294 c1_i32_296 k0_t2
  let c4_i32_613 : BitVec 32 := 4#32
  let v513 : BitVec 32 := Scalar.muli arg19 c4_i32_613
  let c1_i32_614 : BitVec 32 := 1#32
  let v514 : BitVec 32 := Scalar.subi v513 c1_i32_614
  let v515 : BitVec 32 := Scalar.maxsi c0_i32_615 v514
  let v516 : BitVec 32 := Scalar.minsi c10_i32 v515
  let c128_i32 : BitVec 32 := 128#32
  let v517 : BitVec 32 := Scalar.muli v516 c128_i32
  let v535 : Index := Scalar.indexCast v517
  let c0_622 : Index := 0#32
  ![0, v535.toNat, 0]
def k0_off7 (k0_t2 : Fin k0_t2_loop.trips) : Fin 2 → Nat :=
  let c0_i32_294 : BitVec 32 := 0#32
  let c1_i32_296 : BitVec 32 := 1#32
  let arg19 : BitVec 32 := Scf.iv c0_i32_294 c1_i32_296 k0_t2
  let c512_i32 : BitVec 32 := 512#32
  let v518 : BitVec 32 := Scalar.muli arg19 c512_i32
  let v553 : Index := Scalar.indexCast v518
  let c128 : Index := 128#32
  ![v553.toNat, 128]
def k0_off8 (k0_t2 : Fin k0_t2_loop.trips) : Fin 3 → Nat :=
  let c1_628 : Index := 1#32
  let c10_i32 : BitVec 32 := 10#32
  let c0_i32_615 : BitVec 32 := 0#32
  let c0_i32_294 : BitVec 32 := 0#32
  let c1_i32_296 : BitVec 32 := 1#32
  let arg19 : BitVec 32 := Scf.iv c0_i32_294 c1_i32_296 k0_t2
  let c4_i32_613 : BitVec 32 := 4#32
  let v513 : BitVec 32 := Scalar.muli arg19 c4_i32_613
  let c1_i32_614 : BitVec 32 := 1#32
  let v514 : BitVec 32 := Scalar.subi v513 c1_i32_614
  let v515 : BitVec 32 := Scalar.maxsi c0_i32_615 v514
  let v516 : BitVec 32 := Scalar.minsi c10_i32 v515
  let c128_i32 : BitVec 32 := 128#32
  let v517 : BitVec 32 := Scalar.muli v516 c128_i32
  let v555 : Index := Scalar.indexCast v517
  let c0_629 : Index := 0#32
  ![1, v555.toNat, 0]
def k0_off9 (k0_t2 : Fin k0_t2_loop.trips) : Fin 2 → Nat :=
  let c0_i32_294 : BitVec 32 := 0#32
  let c1_i32_296 : BitVec 32 := 1#32
  let arg19 : BitVec 32 := Scf.iv c0_i32_294 c1_i32_296 k0_t2
  let c512_i32 : BitVec 32 := 512#32
  let v518 : BitVec 32 := Scalar.muli arg19 c512_i32
  let v573 : Index := Scalar.indexCast v518
  let c256 : Index := 256#32
  ![v573.toNat, 256]
def k0_off10 (k0_t2 : Fin k0_t2_loop.trips) : Fin 3 → Nat :=
  let c2 : Index := 2#32
  let c10_i32 : BitVec 32 := 10#32
  let c0_i32_615 : BitVec 32 := 0#32
  let c0_i32_294 : BitVec 32 := 0#32
  let c1_i32_296 : BitVec 32 := 1#32
  let arg19 : BitVec 32 := Scf.iv c0_i32_294 c1_i32_296 k0_t2
  let c4_i32_613 : BitVec 32 := 4#32
  let v513 : BitVec 32 := Scalar.muli arg19 c4_i32_613
  let c1_i32_614 : BitVec 32 := 1#32
  let v514 : BitVec 32 := Scalar.subi v513 c1_i32_614
  let v515 : BitVec 32 := Scalar.maxsi c0_i32_615 v514
  let v516 : BitVec 32 := Scalar.minsi c10_i32 v515
  let c128_i32 : BitVec 32 := 128#32
  let v517 : BitVec 32 := Scalar.muli v516 c128_i32
  let v575 : Index := Scalar.indexCast v517
  let c0_635 : Index := 0#32
  ![2, v575.toNat, 0]
def k0_off11 (k0_t2 : Fin k0_t2_loop.trips) : Fin 2 → Nat :=
  let c0_i32_294 : BitVec 32 := 0#32
  let c1_i32_296 : BitVec 32 := 1#32
  let arg19 : BitVec 32 := Scf.iv c0_i32_294 c1_i32_296 k0_t2
  let c512_i32 : BitVec 32 := 512#32
  let v518 : BitVec 32 := Scalar.muli arg19 c512_i32
  let v593 : Index := Scalar.indexCast v518
  let c384 : Index := 384#32
  ![v593.toNat, 384]
def k0_off12 (k0_t2 : Fin k0_t2_loop.trips) : Fin 3 → Nat :=
  let c3 : Index := 3#32
  let c10_i32 : BitVec 32 := 10#32
  let c0_i32_615 : BitVec 32 := 0#32
  let c0_i32_294 : BitVec 32 := 0#32
  let c1_i32_296 : BitVec 32 := 1#32
  let arg19 : BitVec 32 := Scf.iv c0_i32_294 c1_i32_296 k0_t2
  let c4_i32_613 : BitVec 32 := 4#32
  let v513 : BitVec 32 := Scalar.muli arg19 c4_i32_613
  let c1_i32_614 : BitVec 32 := 1#32
  let v514 : BitVec 32 := Scalar.subi v513 c1_i32_614
  let v515 : BitVec 32 := Scalar.maxsi c0_i32_615 v514
  let v516 : BitVec 32 := Scalar.minsi c10_i32 v515
  let c128_i32 : BitVec 32 := 128#32
  let v517 : BitVec 32 := Scalar.muli v516 c128_i32
  let v595 : Index := Scalar.indexCast v517
  let c0_641 : Index := 0#32
  ![3, v595.toNat, 0]
def k0_off13 (k0_t2 : Fin k0_t2_loop.trips) : Fin 2 → Nat :=
  let c0_i32_294 : BitVec 32 := 0#32
  let c1_i32_296 : BitVec 32 := 1#32
  let arg19 : BitVec 32 := Scf.iv c0_i32_294 c1_i32_296 k0_t2
  let c512_i32 : BitVec 32 := 512#32
  let v518 : BitVec 32 := Scalar.muli arg19 c512_i32
  let v613 : Index := Scalar.indexCast v518
  let c512_647 : Index := 512#32
  ![v613.toNat, 512]
def k0_off14 (k0_t2 : Fin k0_t2_loop.trips) : Fin 3 → Nat :=
  let c4 : Index := 4#32
  let c10_i32 : BitVec 32 := 10#32
  let c0_i32_615 : BitVec 32 := 0#32
  let c0_i32_294 : BitVec 32 := 0#32
  let c1_i32_296 : BitVec 32 := 1#32
  let arg19 : BitVec 32 := Scf.iv c0_i32_294 c1_i32_296 k0_t2
  let c4_i32_613 : BitVec 32 := 4#32
  let v513 : BitVec 32 := Scalar.muli arg19 c4_i32_613
  let c1_i32_614 : BitVec 32 := 1#32
  let v514 : BitVec 32 := Scalar.subi v513 c1_i32_614
  let v515 : BitVec 32 := Scalar.maxsi c0_i32_615 v514
  let v516 : BitVec 32 := Scalar.minsi c10_i32 v515
  let c128_i32 : BitVec 32 := 128#32
  let v517 : BitVec 32 := Scalar.muli v516 c128_i32
  let v615 : Index := Scalar.indexCast v517
  let c0_648 : Index := 0#32
  ![4, v615.toNat, 0]
def k0_off15 (k0_t2 : Fin k0_t2_loop.trips) : Fin 2 → Nat :=
  let c0_i32_294 : BitVec 32 := 0#32
  let c1_i32_296 : BitVec 32 := 1#32
  let arg19 : BitVec 32 := Scf.iv c0_i32_294 c1_i32_296 k0_t2
  let c512_i32 : BitVec 32 := 512#32
  let v518 : BitVec 32 := Scalar.muli arg19 c512_i32
  let v633 : Index := Scalar.indexCast v518
  let c640 : Index := 640#32
  ![v633.toNat, 640]
def k0_off16 (k0_t2 : Fin k0_t2_loop.trips) : Fin 3 → Nat :=
  let c5 : Index := 5#32
  let c10_i32 : BitVec 32 := 10#32
  let c0_i32_615 : BitVec 32 := 0#32
  let c0_i32_294 : BitVec 32 := 0#32
  let c1_i32_296 : BitVec 32 := 1#32
  let arg19 : BitVec 32 := Scf.iv c0_i32_294 c1_i32_296 k0_t2
  let c4_i32_613 : BitVec 32 := 4#32
  let v513 : BitVec 32 := Scalar.muli arg19 c4_i32_613
  let c1_i32_614 : BitVec 32 := 1#32
  let v514 : BitVec 32 := Scalar.subi v513 c1_i32_614
  let v515 : BitVec 32 := Scalar.maxsi c0_i32_615 v514
  let v516 : BitVec 32 := Scalar.minsi c10_i32 v515
  let c128_i32 : BitVec 32 := 128#32
  let v517 : BitVec 32 := Scalar.muli v516 c128_i32
  let v635 : Index := Scalar.indexCast v517
  let c0_654 : Index := 0#32
  ![5, v635.toNat, 0]
def k0_off17 (k0_t2 : Fin k0_t2_loop.trips) : Fin 2 → Nat :=
  let c0_i32_294 : BitVec 32 := 0#32
  let c1_i32_296 : BitVec 32 := 1#32
  let arg19 : BitVec 32 := Scf.iv c0_i32_294 c1_i32_296 k0_t2
  let c512_i32 : BitVec 32 := 512#32
  let v518 : BitVec 32 := Scalar.muli arg19 c512_i32
  let v653 : Index := Scalar.indexCast v518
  let c768 : Index := 768#32
  ![v653.toNat, 768]
def k0_off18 (k0_t2 : Fin k0_t2_loop.trips) : Fin 3 → Nat :=
  let c6 : Index := 6#32
  let c10_i32 : BitVec 32 := 10#32
  let c0_i32_615 : BitVec 32 := 0#32
  let c0_i32_294 : BitVec 32 := 0#32
  let c1_i32_296 : BitVec 32 := 1#32
  let arg19 : BitVec 32 := Scf.iv c0_i32_294 c1_i32_296 k0_t2
  let c4_i32_613 : BitVec 32 := 4#32
  let v513 : BitVec 32 := Scalar.muli arg19 c4_i32_613
  let c1_i32_614 : BitVec 32 := 1#32
  let v514 : BitVec 32 := Scalar.subi v513 c1_i32_614
  let v515 : BitVec 32 := Scalar.maxsi c0_i32_615 v514
  let v516 : BitVec 32 := Scalar.minsi c10_i32 v515
  let c128_i32 : BitVec 32 := 128#32
  let v517 : BitVec 32 := Scalar.muli v516 c128_i32
  let v655 : Index := Scalar.indexCast v517
  let c0_660 : Index := 0#32
  ![6, v655.toNat, 0]
def k0_off19 (k0_t2 : Fin k0_t2_loop.trips) : Fin 2 → Nat :=
  let c0_i32_294 : BitVec 32 := 0#32
  let c1_i32_296 : BitVec 32 := 1#32
  let arg19 : BitVec 32 := Scf.iv c0_i32_294 c1_i32_296 k0_t2
  let c512_i32 : BitVec 32 := 512#32
  let v518 : BitVec 32 := Scalar.muli arg19 c512_i32
  let v673 : Index := Scalar.indexCast v518
  let c896 : Index := 896#32
  ![v673.toNat, 896]
def k0_off20 (k0_t2 : Fin k0_t2_loop.trips) : Fin 3 → Nat :=
  let c7 : Index := 7#32
  let c10_i32 : BitVec 32 := 10#32
  let c0_i32_615 : BitVec 32 := 0#32
  let c0_i32_294 : BitVec 32 := 0#32
  let c1_i32_296 : BitVec 32 := 1#32
  let arg19 : BitVec 32 := Scf.iv c0_i32_294 c1_i32_296 k0_t2
  let c4_i32_613 : BitVec 32 := 4#32
  let v513 : BitVec 32 := Scalar.muli arg19 c4_i32_613
  let c1_i32_614 : BitVec 32 := 1#32
  let v514 : BitVec 32 := Scalar.subi v513 c1_i32_614
  let v515 : BitVec 32 := Scalar.maxsi c0_i32_615 v514
  let v516 : BitVec 32 := Scalar.minsi c10_i32 v515
  let c128_i32 : BitVec 32 := 128#32
  let v517 : BitVec 32 := Scalar.muli v516 c128_i32
  let v675 : Index := Scalar.indexCast v517
  let c0_666 : Index := 0#32
  ![7, v675.toNat, 0]
def k0_off21 (k0_t2 : Fin k0_t2_loop.trips) : Fin 3 → Nat :=
  let c0_675 : Index := 0#32
  let c0_i32_294 : BitVec 32 := 0#32
  let c1_i32_296 : BitVec 32 := 1#32
  let arg19 : BitVec 32 := Scf.iv c0_i32_294 c1_i32_296 k0_t2
  let c512_i32 : BitVec 32 := 512#32
  let v518 : BitVec 32 := Scalar.muli arg19 c512_i32
  let v696 : Index := Scalar.indexCast v518
  let c0_676 : Index := 0#32
  ![0, v696.toNat, 0]
@[reducible] def k0_t3_loop : Scf.Loop 32 :=
  let c0_i32_515 : BitVec 32 := 0#32
  let c4_i32_516 : BitVec 32 := 4#32
  let v437 : BitVec 32 := Scalar.addi c0_i32_515 c4_i32_516
  let c1_i32_517 : BitVec 32 := 1#32
  ⟨c0_i32_515, v437, c1_i32_517⟩
def k0_off22 (k0_t3 : Fin k0_t3_loop.trips) : Fin 2 → Nat :=
  let c0_i32_515 : BitVec 32 := 0#32
  let c1_i32_517 : BitVec 32 := 1#32
  let arg19 : BitVec 32 := Scf.iv c0_i32_515 c1_i32_517 k0_t3
  let c512_i32 : BitVec 32 := 512#32
  let v513 : BitVec 32 := Scalar.muli arg19 c512_i32
  let v514 : Index := Scalar.indexCast v513
  let c0_613 : Index := 0#32
  ![v514.toNat, 0]
def k0_off23 (k0_t3 : Fin k0_t3_loop.trips) : Fin 2 → Nat :=
  let c0_i32_515 : BitVec 32 := 0#32
  let c1_i32_517 : BitVec 32 := 1#32
  let arg19 : BitVec 32 := Scf.iv c0_i32_515 c1_i32_517 k0_t3
  let c512_i32 : BitVec 32 := 512#32
  let v513 : BitVec 32 := Scalar.muli arg19 c512_i32
  let v520 : Index := Scalar.indexCast v513
  let c0_618 : Index := 0#32
  ![v520.toNat, 0]
def k0_off24 (k0_t3 : Fin k0_t3_loop.trips) : Fin 2 → Nat :=
  let c0_i32_515 : BitVec 32 := 0#32
  let c1_i32_517 : BitVec 32 := 1#32
  let arg19 : BitVec 32 := Scf.iv c0_i32_515 c1_i32_517 k0_t3
  let c512_i32 : BitVec 32 := 512#32
  let v513 : BitVec 32 := Scalar.muli arg19 c512_i32
  let v528 : Index := Scalar.indexCast v513
  let c512_623 : Index := 512#32
  ![v528.toNat, 512]
@[reducible] def k0_t4_loop : Scf.Loop 32 :=
  let c0_i32_609 : BitVec 32 := 0#32
  let c4_i32_610 : BitVec 32 := 4#32
  let v512 : BitVec 32 := Scalar.addi c0_i32_609 c4_i32_610
  let c1_i32_611 : BitVec 32 := 1#32
  ⟨c0_i32_609, v512, c1_i32_611⟩
def k0_off25 (k0_t4 : Fin k0_t4_loop.trips) : Fin 2 → Nat :=
  let c0_i32_609 : BitVec 32 := 0#32
  let c1_i32_611 : BitVec 32 := 1#32
  let arg19 : BitVec 32 := Scf.iv c0_i32_609 c1_i32_611 k0_t4
  let c512_i32 : BitVec 32 := 512#32
  let v518 : BitVec 32 := Scalar.muli arg19 c512_i32
  let v533 : Index := Scalar.indexCast v518
  let c0_620 : Index := 0#32
  ![v533.toNat, 0]
def k0_off26 (k0_t4 : Fin k0_t4_loop.trips) : Fin 3 → Nat :=
  let c0_621 : Index := 0#32
  let c10_i32 : BitVec 32 := 10#32
  let c0_i32_615 : BitVec 32 := 0#32
  let c0_i32_609 : BitVec 32 := 0#32
  let c1_i32_611 : BitVec 32 := 1#32
  let arg19 : BitVec 32 := Scf.iv c0_i32_609 c1_i32_611 k0_t4
  let c4_i32_613 : BitVec 32 := 4#32
  let v513 : BitVec 32 := Scalar.muli arg19 c4_i32_613
  let c1_i32_614 : BitVec 32 := 1#32
  let v514 : BitVec 32 := Scalar.subi v513 c1_i32_614
  let v515 : BitVec 32 := Scalar.maxsi c0_i32_615 v514
  let v516 : BitVec 32 := Scalar.minsi c10_i32 v515
  let c128_i32 : BitVec 32 := 128#32
  let v517 : BitVec 32 := Scalar.muli v516 c128_i32
  let v535 : Index := Scalar.indexCast v517
  let c0_622 : Index := 0#32
  ![0, v535.toNat, 0]
def k0_off27 (k0_t4 : Fin k0_t4_loop.trips) : Fin 2 → Nat :=
  let c0_i32_609 : BitVec 32 := 0#32
  let c1_i32_611 : BitVec 32 := 1#32
  let arg19 : BitVec 32 := Scf.iv c0_i32_609 c1_i32_611 k0_t4
  let c512_i32 : BitVec 32 := 512#32
  let v518 : BitVec 32 := Scalar.muli arg19 c512_i32
  let v553 : Index := Scalar.indexCast v518
  let c128 : Index := 128#32
  ![v553.toNat, 128]
def k0_off28 (k0_t4 : Fin k0_t4_loop.trips) : Fin 3 → Nat :=
  let c1_628 : Index := 1#32
  let c10_i32 : BitVec 32 := 10#32
  let c0_i32_615 : BitVec 32 := 0#32
  let c0_i32_609 : BitVec 32 := 0#32
  let c1_i32_611 : BitVec 32 := 1#32
  let arg19 : BitVec 32 := Scf.iv c0_i32_609 c1_i32_611 k0_t4
  let c4_i32_613 : BitVec 32 := 4#32
  let v513 : BitVec 32 := Scalar.muli arg19 c4_i32_613
  let c1_i32_614 : BitVec 32 := 1#32
  let v514 : BitVec 32 := Scalar.subi v513 c1_i32_614
  let v515 : BitVec 32 := Scalar.maxsi c0_i32_615 v514
  let v516 : BitVec 32 := Scalar.minsi c10_i32 v515
  let c128_i32 : BitVec 32 := 128#32
  let v517 : BitVec 32 := Scalar.muli v516 c128_i32
  let v555 : Index := Scalar.indexCast v517
  let c0_629 : Index := 0#32
  ![1, v555.toNat, 0]
def k0_off29 (k0_t4 : Fin k0_t4_loop.trips) : Fin 2 → Nat :=
  let c0_i32_609 : BitVec 32 := 0#32
  let c1_i32_611 : BitVec 32 := 1#32
  let arg19 : BitVec 32 := Scf.iv c0_i32_609 c1_i32_611 k0_t4
  let c512_i32 : BitVec 32 := 512#32
  let v518 : BitVec 32 := Scalar.muli arg19 c512_i32
  let v573 : Index := Scalar.indexCast v518
  let c256 : Index := 256#32
  ![v573.toNat, 256]
def k0_off30 (k0_t4 : Fin k0_t4_loop.trips) : Fin 3 → Nat :=
  let c2 : Index := 2#32
  let c10_i32 : BitVec 32 := 10#32
  let c0_i32_615 : BitVec 32 := 0#32
  let c0_i32_609 : BitVec 32 := 0#32
  let c1_i32_611 : BitVec 32 := 1#32
  let arg19 : BitVec 32 := Scf.iv c0_i32_609 c1_i32_611 k0_t4
  let c4_i32_613 : BitVec 32 := 4#32
  let v513 : BitVec 32 := Scalar.muli arg19 c4_i32_613
  let c1_i32_614 : BitVec 32 := 1#32
  let v514 : BitVec 32 := Scalar.subi v513 c1_i32_614
  let v515 : BitVec 32 := Scalar.maxsi c0_i32_615 v514
  let v516 : BitVec 32 := Scalar.minsi c10_i32 v515
  let c128_i32 : BitVec 32 := 128#32
  let v517 : BitVec 32 := Scalar.muli v516 c128_i32
  let v575 : Index := Scalar.indexCast v517
  let c0_635 : Index := 0#32
  ![2, v575.toNat, 0]
def k0_off31 (k0_t4 : Fin k0_t4_loop.trips) : Fin 2 → Nat :=
  let c0_i32_609 : BitVec 32 := 0#32
  let c1_i32_611 : BitVec 32 := 1#32
  let arg19 : BitVec 32 := Scf.iv c0_i32_609 c1_i32_611 k0_t4
  let c512_i32 : BitVec 32 := 512#32
  let v518 : BitVec 32 := Scalar.muli arg19 c512_i32
  let v593 : Index := Scalar.indexCast v518
  let c384 : Index := 384#32
  ![v593.toNat, 384]
def k0_off32 (k0_t4 : Fin k0_t4_loop.trips) : Fin 3 → Nat :=
  let c3 : Index := 3#32
  let c10_i32 : BitVec 32 := 10#32
  let c0_i32_615 : BitVec 32 := 0#32
  let c0_i32_609 : BitVec 32 := 0#32
  let c1_i32_611 : BitVec 32 := 1#32
  let arg19 : BitVec 32 := Scf.iv c0_i32_609 c1_i32_611 k0_t4
  let c4_i32_613 : BitVec 32 := 4#32
  let v513 : BitVec 32 := Scalar.muli arg19 c4_i32_613
  let c1_i32_614 : BitVec 32 := 1#32
  let v514 : BitVec 32 := Scalar.subi v513 c1_i32_614
  let v515 : BitVec 32 := Scalar.maxsi c0_i32_615 v514
  let v516 : BitVec 32 := Scalar.minsi c10_i32 v515
  let c128_i32 : BitVec 32 := 128#32
  let v517 : BitVec 32 := Scalar.muli v516 c128_i32
  let v595 : Index := Scalar.indexCast v517
  let c0_641 : Index := 0#32
  ![3, v595.toNat, 0]
def k0_off33 (k0_t4 : Fin k0_t4_loop.trips) : Fin 2 → Nat :=
  let c0_i32_609 : BitVec 32 := 0#32
  let c1_i32_611 : BitVec 32 := 1#32
  let arg19 : BitVec 32 := Scf.iv c0_i32_609 c1_i32_611 k0_t4
  let c512_i32 : BitVec 32 := 512#32
  let v518 : BitVec 32 := Scalar.muli arg19 c512_i32
  let v613 : Index := Scalar.indexCast v518
  let c512_647 : Index := 512#32
  ![v613.toNat, 512]
def k0_off34 (k0_t4 : Fin k0_t4_loop.trips) : Fin 3 → Nat :=
  let c4 : Index := 4#32
  let c10_i32 : BitVec 32 := 10#32
  let c0_i32_615 : BitVec 32 := 0#32
  let c0_i32_609 : BitVec 32 := 0#32
  let c1_i32_611 : BitVec 32 := 1#32
  let arg19 : BitVec 32 := Scf.iv c0_i32_609 c1_i32_611 k0_t4
  let c4_i32_613 : BitVec 32 := 4#32
  let v513 : BitVec 32 := Scalar.muli arg19 c4_i32_613
  let c1_i32_614 : BitVec 32 := 1#32
  let v514 : BitVec 32 := Scalar.subi v513 c1_i32_614
  let v515 : BitVec 32 := Scalar.maxsi c0_i32_615 v514
  let v516 : BitVec 32 := Scalar.minsi c10_i32 v515
  let c128_i32 : BitVec 32 := 128#32
  let v517 : BitVec 32 := Scalar.muli v516 c128_i32
  let v615 : Index := Scalar.indexCast v517
  let c0_648 : Index := 0#32
  ![4, v615.toNat, 0]
def k0_off35 (k0_t4 : Fin k0_t4_loop.trips) : Fin 2 → Nat :=
  let c0_i32_609 : BitVec 32 := 0#32
  let c1_i32_611 : BitVec 32 := 1#32
  let arg19 : BitVec 32 := Scf.iv c0_i32_609 c1_i32_611 k0_t4
  let c512_i32 : BitVec 32 := 512#32
  let v518 : BitVec 32 := Scalar.muli arg19 c512_i32
  let v633 : Index := Scalar.indexCast v518
  let c640 : Index := 640#32
  ![v633.toNat, 640]
def k0_off36 (k0_t4 : Fin k0_t4_loop.trips) : Fin 3 → Nat :=
  let c5 : Index := 5#32
  let c10_i32 : BitVec 32 := 10#32
  let c0_i32_615 : BitVec 32 := 0#32
  let c0_i32_609 : BitVec 32 := 0#32
  let c1_i32_611 : BitVec 32 := 1#32
  let arg19 : BitVec 32 := Scf.iv c0_i32_609 c1_i32_611 k0_t4
  let c4_i32_613 : BitVec 32 := 4#32
  let v513 : BitVec 32 := Scalar.muli arg19 c4_i32_613
  let c1_i32_614 : BitVec 32 := 1#32
  let v514 : BitVec 32 := Scalar.subi v513 c1_i32_614
  let v515 : BitVec 32 := Scalar.maxsi c0_i32_615 v514
  let v516 : BitVec 32 := Scalar.minsi c10_i32 v515
  let c128_i32 : BitVec 32 := 128#32
  let v517 : BitVec 32 := Scalar.muli v516 c128_i32
  let v635 : Index := Scalar.indexCast v517
  let c0_654 : Index := 0#32
  ![5, v635.toNat, 0]
def k0_off37 (k0_t4 : Fin k0_t4_loop.trips) : Fin 2 → Nat :=
  let c0_i32_609 : BitVec 32 := 0#32
  let c1_i32_611 : BitVec 32 := 1#32
  let arg19 : BitVec 32 := Scf.iv c0_i32_609 c1_i32_611 k0_t4
  let c512_i32 : BitVec 32 := 512#32
  let v518 : BitVec 32 := Scalar.muli arg19 c512_i32
  let v653 : Index := Scalar.indexCast v518
  let c768 : Index := 768#32
  ![v653.toNat, 768]
def k0_off38 (k0_t4 : Fin k0_t4_loop.trips) : Fin 3 → Nat :=
  let c6 : Index := 6#32
  let c10_i32 : BitVec 32 := 10#32
  let c0_i32_615 : BitVec 32 := 0#32
  let c0_i32_609 : BitVec 32 := 0#32
  let c1_i32_611 : BitVec 32 := 1#32
  let arg19 : BitVec 32 := Scf.iv c0_i32_609 c1_i32_611 k0_t4
  let c4_i32_613 : BitVec 32 := 4#32
  let v513 : BitVec 32 := Scalar.muli arg19 c4_i32_613
  let c1_i32_614 : BitVec 32 := 1#32
  let v514 : BitVec 32 := Scalar.subi v513 c1_i32_614
  let v515 : BitVec 32 := Scalar.maxsi c0_i32_615 v514
  let v516 : BitVec 32 := Scalar.minsi c10_i32 v515
  let c128_i32 : BitVec 32 := 128#32
  let v517 : BitVec 32 := Scalar.muli v516 c128_i32
  let v655 : Index := Scalar.indexCast v517
  let c0_660 : Index := 0#32
  ![6, v655.toNat, 0]
def k0_off39 (k0_t4 : Fin k0_t4_loop.trips) : Fin 2 → Nat :=
  let c0_i32_609 : BitVec 32 := 0#32
  let c1_i32_611 : BitVec 32 := 1#32
  let arg19 : BitVec 32 := Scf.iv c0_i32_609 c1_i32_611 k0_t4
  let c512_i32 : BitVec 32 := 512#32
  let v518 : BitVec 32 := Scalar.muli arg19 c512_i32
  let v673 : Index := Scalar.indexCast v518
  let c896 : Index := 896#32
  ![v673.toNat, 896]
def k0_off40 (k0_t4 : Fin k0_t4_loop.trips) : Fin 3 → Nat :=
  let c7 : Index := 7#32
  let c10_i32 : BitVec 32 := 10#32
  let c0_i32_615 : BitVec 32 := 0#32
  let c0_i32_609 : BitVec 32 := 0#32
  let c1_i32_611 : BitVec 32 := 1#32
  let arg19 : BitVec 32 := Scf.iv c0_i32_609 c1_i32_611 k0_t4
  let c4_i32_613 : BitVec 32 := 4#32
  let v513 : BitVec 32 := Scalar.muli arg19 c4_i32_613
  let c1_i32_614 : BitVec 32 := 1#32
  let v514 : BitVec 32 := Scalar.subi v513 c1_i32_614
  let v515 : BitVec 32 := Scalar.maxsi c0_i32_615 v514
  let v516 : BitVec 32 := Scalar.minsi c10_i32 v515
  let c128_i32 : BitVec 32 := 128#32
  let v517 : BitVec 32 := Scalar.muli v516 c128_i32
  let v675 : Index := Scalar.indexCast v517
  let c0_666 : Index := 0#32
  ![7, v675.toNat, 0]
def k0_off41 (k0_t4 : Fin k0_t4_loop.trips) : Fin 3 → Nat :=
  let c0_675 : Index := 0#32
  let c0_i32_609 : BitVec 32 := 0#32
  let c1_i32_611 : BitVec 32 := 1#32
  let arg19 : BitVec 32 := Scf.iv c0_i32_609 c1_i32_611 k0_t4
  let c512_i32 : BitVec 32 := 512#32
  let v518 : BitVec 32 := Scalar.muli arg19 c512_i32
  let v696 : Index := Scalar.indexCast v518
  let c0_676 : Index := 0#32
  ![0, v696.toNat, 0]
abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== MidIdeal.lean ====
variable {F : FTy → Type} [FloatOps F] [Named F]
def κ : String → Option EReal := fun
  | "mask" => some ⊥
  | _ => none
-- ==== MidReferenceIdeal.lean ====
abbrev S4x2048x1024 : Shape := ⟨3, ![4, 2048, 1024]⟩
abbrev S1024x4096 : Shape := ⟨2, ![1024, 4096]⟩
abbrev S4x2048x32x128 : Shape := ⟨4, ![4, 2048, 32, 128]⟩
abbrev S4096x1024 : Shape := ⟨2, ![4096, 1024]⟩
abbrev S1024x4x2x512 : Shape := ⟨4, ![1024, 4, 2, 512]⟩
abbrev S4x2x512x1024 : Shape := ⟨4, ![4, 2, 512, 1024]⟩
abbrev S1024x4x1x512 : Shape := ⟨4, ![1024, 4, 1, 512]⟩
abbrev S1024x4x512 : Shape := ⟨3, ![1024, 4, 512]⟩
abbrev S1024x3x512 : Shape := ⟨3, ![1024, 3, 512]⟩
abbrev S1024x1x512 : Shape := ⟨3, ![1024, 1, 512]⟩
abbrev S4x1x512x1024 : Shape := ⟨4, ![4, 1, 512, 1024]⟩
abbrev S4x512x1024 : Shape := ⟨3, ![4, 512, 1024]⟩
abbrev S3x512x1024 : Shape := ⟨3, ![3, 512, 1024]⟩
abbrev S1x512x1024 : Shape := ⟨3, ![1, 512, 1024]⟩
abbrev S4x2048x4096 : Shape := ⟨3, ![4, 2048, 4096]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S4x32x2048x2048 : Shape := ⟨4, ![4, 32, 2048, 2048]⟩
abbrev S1x1x2048x2048 : Shape := ⟨4, ![1, 1, 2048, 2048]⟩
abbrev S4x32x2048 : Shape := ⟨3, ![4, 32, 2048]⟩
abbrev S4x32x2048x1 : Shape := ⟨4, ![4, 32, 2048, 1]⟩
abbrev S1x1x2048x1 : Shape := ⟨4, ![1, 1, 2048, 1]⟩
abbrev S4x32x128x2048 : Shape := ⟨4, ![4, 32, 128, 2048]⟩
abbrev S4 : Shape := ⟨1, ![4]⟩
abbrev S4x1x1 : Shape := ⟨3, ![4, 1, 1]⟩
abbrev S1x4x1 : Shape := ⟨3, ![1, 4, 1]⟩
abbrev S8 : Shape := ⟨1, ![8]⟩
abbrev S1x1x8 : Shape := ⟨3, ![1, 1, 8]⟩
abbrev S4x4x1 : Shape := ⟨3, ![4, 4, 1]⟩
abbrev S4x4x8 : Shape := ⟨3, ![4, 4, 8]⟩
abbrev S4x1x32x1 : Shape := ⟨4, ![4, 1, 32, 1]⟩

abbrev nBuf : Space → Nat
  | .hbm => 153
  | .vmem => 0
  | .smem => 0
  | _ => 0

abbrev hbmTy0_0 (i : Nat) : BufTy := match i % 128 with
  | 0 => ⟨S4x2048x1024, .f32⟩
  | 1 => ⟨S1024x4096, .f32⟩
  | 2 => ⟨S4x2048x32x128, .f32⟩
  | 3 => ⟨S4x2048x32x128, .f32⟩
  | 4 => ⟨S4096x1024, .f32⟩
  | 5 => ⟨S1024x4x2x512, .f32⟩
  | 6 => ⟨S4x2x512x1024, .f32⟩
  | 7 => ⟨S1024x4x1x512, .f32⟩
  | 8 => ⟨S1024x4x512, .f32⟩
  | 9 => ⟨S1024x3x512, .f32⟩
  | 10 => ⟨S1024x1x512, .f32⟩
  | 11 => ⟨S1024x4x512, .f32⟩
  | 12 => ⟨S1024x4x1x512, .f32⟩
  | 13 => ⟨S1024x4x512, .f32⟩
  | 14 => ⟨S1024x1x512, .f32⟩
  | 15 => ⟨S1024x3x512, .f32⟩
  | 16 => ⟨S1024x4x512, .f32⟩
  | 17 => ⟨S1024x4x1x512, .f32⟩
  | 18 => ⟨S1024x4x1x512, .f32⟩
  | 19 => ⟨S1024x4x2x512, .f32⟩
  | 20 => ⟨S1024x4096, .f32⟩
  | 21 => ⟨S4x1x512x1024, .f32⟩
  | 22 => ⟨S4x512x1024, .f32⟩
  | 23 => ⟨S3x512x1024, .f32⟩
  | 24 => ⟨S1x512x1024, .f32⟩
  | 25 => ⟨S4x512x1024, .f32⟩
  | 26 => ⟨S4x1x512x1024, .f32⟩
  | 27 => ⟨S4x512x1024, .f32⟩
  | 28 => ⟨S1x512x1024, .f32⟩
  | 29 => ⟨S3x512x1024, .f32⟩
  | 30 => ⟨S4x512x1024, .f32⟩
  | 31 => ⟨S4x1x512x1024, .f32⟩
  | 32 => ⟨S4x1x512x1024, .f32⟩
  | 33 => ⟨S4x2x512x1024, .f32⟩
  | 34 => ⟨S4096x1024, .f32⟩
  | 35 => ⟨S4x2048x4096, .f32⟩
  | 36 => ⟨S4x2048x32x128, .f32⟩
  | 37 => ⟨S2048, .i32⟩
  | 38 => ⟨S2048x1, .i32⟩
  | 39 => ⟨S2048, .i32⟩
  | 40 => ⟨S1x2048, .i32⟩
  | 41 => ⟨S2048x2048, .i32⟩
  | 42 => ⟨S2048x2048, .i32⟩
  | 43 => ⟨S2048x2048, .i32⟩
  | 44 => ⟨S2048x2048, .i32⟩
  | 45 => ⟨S_, .i32⟩
  | 46 => ⟨S2048x2048, .i32⟩
  | 47 => ⟨S2048x2048, .i1⟩
  | 48 => ⟨S4x32x2048x2048, .f32⟩
  | 49 => ⟨S_, .f32⟩
  | 50 => ⟨S4x32x2048x2048, .f32⟩
  | 51 => ⟨S4x32x2048x2048, .f32⟩
  | 52 => ⟨S1x1x2048x2048, .i1⟩
  | 53 => ⟨S_, .f32⟩
  | 54 => ⟨S_, .f32⟩
  | 55 => ⟨S4x32x2048x2048, .i1⟩
  | 56 => ⟨S4x32x2048x2048, .f32⟩
  | 57 => ⟨S4x32x2048x2048, .f32⟩
  | 58 => ⟨S_, .f32⟩
  | 59 => ⟨S4x32x2048, .f32⟩
  | 60 => ⟨S4x32x2048x1, .f32⟩
  | 61 => ⟨S4x32x2048x2048, .f32⟩
  | 62 => ⟨S4x32x2048x2048, .f32⟩
  | 63 => ⟨S4x32x2048x2048, .f32⟩
  | 64 => ⟨S_, .i1⟩
  | 65 => ⟨S2048, .i1⟩
  | 66 => ⟨S1x1x2048x1, .i1⟩
  | 67 => ⟨S_, .f32⟩
  | 68 => ⟨S4x32x2048, .f32⟩
  | 69 => ⟨S4x32x2048x1, .f32⟩
  | 70 => ⟨S_, .f32⟩
  | 71 => ⟨S_, .f32⟩
  | 72 => ⟨S4x32x2048x1, .i1⟩
  | 73 => ⟨S4x32x2048x1, .f32⟩
  | 74 => ⟨S4x32x2048x1, .f32⟩
  | 75 => ⟨S4x32x2048x2048, .f32⟩
  | 76 => ⟨S4x32x2048x2048, .f32⟩
  | 77 => ⟨S1x1x2048x1, .i1⟩
  | 78 => ⟨S_, .f32⟩
  | 79 => ⟨S_, .f32⟩
  | 80 => ⟨S4x32x2048x2048, .i1⟩
  | 81 => ⟨S4x32x2048x2048, .f32⟩
  | 82 => ⟨S4x32x2048x2048, .f32⟩
  | 83 => ⟨S4x32x128x2048, .f32⟩
  | 84 => ⟨S4x2048x32x128, .f32⟩
  | 85 => ⟨S4, .i32⟩
  | 86 => ⟨S4x1x1, .i32⟩
  | 87 => ⟨S4, .i32⟩
  | 88 => ⟨S1x4x1, .i32⟩
  | 89 => ⟨S8, .i32⟩
  | 90 => ⟨S1x1x8, .i32⟩
  | 91 => ⟨S_, .i32⟩
  | 92 => ⟨S4x1x1, .i32⟩
  | 93 => ⟨S4x1x1, .i32⟩
  | 94 => ⟨S4x4x1, .i32⟩
  | 95 => ⟨S4x4x1, .i32⟩
  | 96 => ⟨S4x4x1, .i1⟩
  | 97 => ⟨S_, .i32⟩
  | 98 => ⟨S4x1x1, .i32⟩
  | 99 => ⟨S4x1x1, .i32⟩
  | 100 => ⟨S4x4x1, .i32⟩
  | 101 => ⟨S4x4x1, .i32⟩
  | 102 => ⟨S4x4x1, .i1⟩
  | 103 => ⟨S4x4x1, .i1⟩
  | 104 => ⟨S_, .i32⟩
  | 105 => ⟨S1x1x8, .i32⟩
  | 106 => ⟨S1x1x8, .i1⟩
  | 107 => ⟨S4x4x8, .i1⟩
  | 108 => ⟨S4x4x8, .i1⟩
  | 109 => ⟨S4x4x8, .i1⟩
  | 110 => ⟨S_, .i32⟩
  | 111 => ⟨S4x1x1, .i32⟩
  | 112 => ⟨S4x1x1, .i32⟩
  | 113 => ⟨S4x4x1, .i32⟩
  | 114 => ⟨S4x4x1, .i32⟩
  | 115 => ⟨S4x4x1, .i1⟩
  | 116 => ⟨S_, .i32⟩
  | 117 => ⟨S4x1x1, .i32⟩
  | 118 => ⟨S4x1x1, .i32⟩
  | 119 => ⟨S4x4x1, .i32⟩
  | 120 => ⟨S4x4x1, .i32⟩
  | 121 => ⟨S4x4x1, .i1⟩
  | 122 => ⟨S4x4x1, .i1⟩
  | 123 => ⟨S_, .i32⟩
  | 124 => ⟨S1x1x8, .i32⟩
  | 125 => ⟨S1x1x8, .i1⟩
  | 126 => ⟨S4x4x8, .i1⟩
  | 127 => ⟨S4x4x8, .i1⟩
  | _ => ⟨S4x2048x1024, .f32⟩

abbrev hbmTy0_1 (i : Nat) : BufTy := match i % 128 with
  | 0 => ⟨S4x4x8, .i1⟩
  | 1 => ⟨S_, .i32⟩
  | 2 => ⟨S4x1x1, .i32⟩
  | 3 => ⟨S4x1x1, .i32⟩
  | 4 => ⟨S4x4x1, .i32⟩
  | 5 => ⟨S4x4x1, .i32⟩
  | 6 => ⟨S4x4x1, .i1⟩
  | 7 => ⟨S_, .i32⟩
  | 8 => ⟨S4x1x1, .i32⟩
  | 9 => ⟨S4x1x1, .i32⟩
  | 10 => ⟨S4x4x1, .i32⟩
  | 11 => ⟨S4x4x1, .i32⟩
  | 12 => ⟨S4x4x1, .i1⟩
  | 13 => ⟨S4x4x1, .i1⟩
  | 14 => ⟨S4x4x8, .i1⟩
  | 15 => ⟨S4x4x8, .i1⟩
  | 16 => ⟨S4x4x8, .i1⟩
  | 17 => ⟨S4x1x32x1, .i1⟩
  | 18 => ⟨S_, .f32⟩
  | 19 => ⟨S_, .f32⟩
  | 20 => ⟨S4x2048x32x128, .i1⟩
  | 21 => ⟨S4x2048x32x128, .f32⟩
  | 22 => ⟨S4x2048x32x128, .f32⟩
  | 23 => ⟨S4x2048x4096, .f32⟩
  | 24 => ⟨S4x2048x1024, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call1_v0 : Ref sig .tc := ⟨.hbm, 14, rfl⟩
abbrev main_call1_v1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call2_v0 : Ref sig .tc := ⟨.hbm, 23, rfl⟩
abbrev main_call2_v1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call3_v0 : Ref sig .tc := ⟨.hbm, 28, rfl⟩
abbrev main_call3_v1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_0 : Ref sig .tc := ⟨.hbm, 53, rfl⟩
abbrev main_call4_v0 : Ref sig .tc := ⟨.hbm, 54, rfl⟩
abbrev main_call4_v1 : Ref sig .tc := ⟨.hbm, 55, rfl⟩
abbrev main_call4_v2 : Ref sig .tc := ⟨.hbm, 56, rfl⟩
abbrev main_v38 : Ref sig .tc := ⟨.hbm, 57, rfl⟩
abbrev main_cst_1 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_2 : Ref sig .tc := ⟨.hbm, 64, rfl⟩
abbrev main_v44 : Ref sig .tc := ⟨.hbm, 65, rfl⟩
abbrev main_v45 : Ref sig .tc := ⟨.hbm, 66, rfl⟩
abbrev main_cst_3 : Ref sig .tc := ⟨.hbm, 67, rfl⟩
abbrev main_v46 : Ref sig .tc := ⟨.hbm, 68, rfl⟩
abbrev main_v47 : Ref sig .tc := ⟨.hbm, 69, rfl⟩
abbrev main_cst_4 : Ref sig .tc := ⟨.hbm, 70, rfl⟩
abbrev main_call5_v0 : Ref sig .tc := ⟨.hbm, 71, rfl⟩
abbrev main_call5_v1 : Ref sig .tc := ⟨.hbm, 72, rfl⟩
abbrev main_call5_v2 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_5 : Ref sig .tc := ⟨.hbm, 78, rfl⟩
abbrev main_call6_v0 : Ref sig .tc := ⟨.hbm, 79, rfl⟩
abbrev main_call6_v1 : Ref sig .tc := ⟨.hbm, 80, rfl⟩
abbrev main_call6_v2 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_c_6 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_7 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_c_8 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_c_9 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_c_10 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_c_11 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_c_12 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_c_13 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_cst_14 : Ref sig .tc := ⟨.hbm, 146, rfl⟩
abbrev main_call7_v0 : Ref sig .tc := ⟨.hbm, 147, rfl⟩
abbrev main_call7_v1 : Ref sig .tc := ⟨.hbm, 148, rfl⟩
abbrev main_call7_v2 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩

abbrev nD : Nat := 1
abbrev τ : Topo := Topo.v7x

variable {F : FTy → Type} [FloatOps F]
-- ==== Proof.Ring.lean ====
/-
  The exchange protocol of the two-hop slice: the ring of four devices, the buffers and windows the copies move, the
  cells of the barrier and of the four remote copies, and what each cell's units hand over.

  On every device `c`:
  * the barrier cell is signalled once by `nxt c` (which hands over slot 1 of its `wq_r` and `wo_r`, the buffers `c`
    writes by its right-going copies) and once by `prv c` (slot 1 of its `wq_l` and `wo_l`, for the left-going copies);
  * receive cell `i` is credited by the landing of a neighbour's copy in slot 1 of weight buffer `i`, and hands `c` that
    slot holding the neighbour's block;
  * send cell `i` is credited when `c`'s own copy out of slot 0 of weight buffer `i` has been read, and hands back the
    half share of slot 0 that the copy held.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Exec

@[expose] public section

noncomputable section

namespace Cert.KernelIdeal.Slice

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resource algebra: the pipeline's rounds and the ring's -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR

instance ER_landsIn : (ER : Emb UB 𝕄).LandsIn (upEmb : UEmb _ 𝕄) := by unfold ER; infer_instance

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring -/

set_option backward.proofsInPublic true in
/-- The right neighbour of device `c`. -/
def nxt (c : Dev nD) : Dev nD := ⟨(c.val + 1) % 4, Nat.mod_lt _ (by decide)⟩
set_option backward.proofsInPublic true in
/-- The left neighbour of device `c`. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide
theorem nxt_ne_prv (c : Dev nD) : nxt c ≠ prv c := by revert c; decide

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nxt c := Fin.ext (k0_dev3_eq c)
theorem dev4_eq (c : Dev nD) : (⟨k0_dev4 c, k0_dev4_lt c⟩ : Dev nD) = nxt c := Fin.ext (k0_dev4_eq c)
theorem dev5_eq (c : Dev nD) : (⟨k0_dev5 c, k0_dev5_lt c⟩ : Dev nD) = prv c := Fin.ext (k0_dev5_eq c)
theorem dev6_eq (c : Dev nD) : (⟨k0_dev6 c, k0_dev6_lt c⟩ : Dev nD) = prv c := Fin.ext (k0_dev6_eq c)

/-- The ring as a permutation of the devices. -/
def ring : Dev nD ≃ Dev nD := ⟨nxt, prv, prv_nxt, nxt_prv⟩

/-! ## The buffers -/

abbrev xM : Memref sig .tc .vmem S1x2048x1024 .f32 := Memref.whole cc0_stg0_0
abbrev wqM : Memref sig .tc .vmem S1024x1024 .f32 := Memref.whole cc0_stg1_0
abbrev woM : Memref sig .tc .vmem S1024x1024 .f32 := Memref.whole cc0_stg2_0
abbrev kM : Memref sig .tc .hbm S4x2048x32x128 .f32 := Memref.whole main_arg2
abbrev vM : Memref sig .tc .hbm S4x2048x32x128 .f32 := Memref.whole main_arg3
abbrev oM : Memref sig .tc .vmem S1x2048x1024 .f32 := Memref.whole cc0_stg3_0
abbrev aM : Memref sig .tc .vmem S2x1024x512 .bf16 := Memref.whole cc0_scratch0
abbrev bM : Memref sig .tc .vmem S2x512x1024 .bf16 := Memref.whole cc0_scratch1
abbrev cM : Memref sig .tc .vmem S2x1024x512 .bf16 := Memref.whole cc0_scratch2
abbrev dM : Memref sig .tc .vmem S2x512x1024 .bf16 := Memref.whole cc0_scratch3
abbrev wofM : Memref sig .tc .vmem S1024x1024 .bf16 := Memref.whole cc0_scratch4
abbrev xbM : Memref sig .tc .vmem S2048x1024 .bf16 := Memref.whole cc0_scratch5
abbrev qM : Memref sig .tc .vmem S2048x1024 .bf16 := Memref.whole cc0_scratch6
abbrev kbM : Memref sig .tc .vmem S8x2048x128 .f32 := Memref.whole cc0_scratch7
abbrev vbM : Memref sig .tc .vmem S8x2048x128 .f32 := Memref.whole cc0_scratch8

/-- Slot 0 and slot 1 of a query-weight buffer, and of an output-weight buffer, as rectangles and as the windows the copies name. -/
abbrev rq0 : Rect S2x1024x512 := Rect.unit (s := S2x1024x512) ![0, 0, 0] S1x1024x512.size inb_S2x1024x512_S1x1024x512_0_0_0
abbrev rq1 : Rect S2x1024x512 := Rect.unit (s := S2x1024x512) ![1, 0, 0] S1x1024x512.size inb_S2x1024x512_S1x1024x512_1_0_0
abbrev ro0 : Rect S2x512x1024 := Rect.unit (s := S2x512x1024) ![0, 0, 0] S1x512x1024.size inb_S2x512x1024_S1x512x1024_0_0_0
abbrev ro1 : Rect S2x512x1024 := Rect.unit (s := S2x512x1024) ![1, 0, 0] S1x512x1024.size inb_S2x512x1024_S1x512x1024_1_0_0
abbrev aS0 : Memref sig .tc .vmem S1024x512 .bf16 := (aM.slice rq0 (fun _ => rfl)).squeeze S1024x512 squeezes_S1x1024x512_S1024x512
abbrev aS1 : Memref sig .tc .vmem S1024x512 .bf16 := (aM.slice rq1 (fun _ => rfl)).squeeze S1024x512 squeezes_S1x1024x512_S1024x512
abbrev bS0 : Memref sig .tc .vmem S512x1024 .bf16 := (bM.slice ro0 (fun _ => rfl)).squeeze S512x1024 squeezes_S1x512x1024_S512x1024
abbrev bS1 : Memref sig .tc .vmem S512x1024 .bf16 := (bM.slice ro1 (fun _ => rfl)).squeeze S512x1024 squeezes_S1x512x1024_S512x1024
abbrev cS0 : Memref sig .tc .vmem S1024x512 .bf16 := (cM.slice rq0 (fun _ => rfl)).squeeze S1024x512 squeezes_S1x1024x512_S1024x512
abbrev cS1 : Memref sig .tc .vmem S1024x512 .bf16 := (cM.slice rq1 (fun _ => rfl)).squeeze S1024x512 squeezes_S1x1024x512_S1024x512
abbrev dS0 : Memref sig .tc .vmem S512x1024 .bf16 := (dM.slice ro0 (fun _ => rfl)).squeeze S512x1024 squeezes_S1x512x1024_S512x1024
abbrev dS1 : Memref sig .tc .vmem S512x1024 .bf16 := (dM.slice ro1 (fun _ => rfl)).squeeze S512x1024 squeezes_S1x512x1024_S512x1024

/-! ## Contents -/

/-- The three staged blocks of device `c`: its batch of `x`, its columns of `Wq`, its rows of `Wo`. -/
def xC (c : Dev nD) : (cc0_stg0_0 : Ref sig .tc).ty.Contents (Elt F) :=
  (win0_0.blk (0 : Fin 1)).view.read (Elt F) ((s₀ m ρ).mem ((c : Thread nD τ).loc main_arg0))
def wqC (c : Dev nD) : (cc0_stg1_0 : Ref sig .tc).ty.Contents (Elt F) :=
  (win0_1.blk (0 : Fin 1)).view.read (Elt F) ((s₀ m ρ).mem ((c : Thread nD τ).loc main_arg1))
def woC (c : Dev nD) : (cc0_stg2_0 : Ref sig .tc).ty.Contents (Elt F) :=
  (win0_2.blk (0 : Fin 1)).view.read (Elt F) ((s₀ m ρ).mem ((c : Thread nD τ).loc main_arg4))

/-- A query-weight buffer holding `p` in both of its slots; -/
def bothQ (p : Vec F S1x1024x512 .bf16) : S2x1024x512.Idx → F .bf16 :=
  fun i => p (fun | ⟨0, _⟩ => (0 : Fin 1) | ⟨1, _⟩ => i 1 | ⟨2, _⟩ => i 2)
/-- an output-weight buffer holding `p` in both of its slots. -/
def bothO (p : Vec F S1x512x1024 .bf16) : S2x512x1024.Idx → F .bf16 :=
  fun i => p (fun | ⟨0, _⟩ => (0 : Fin 1) | ⟨1, _⟩ => i 1 | ⟨2, _⟩ => i 2)

/-- The right-going and the left-going half of device `c`'s query weights (scaled) and output weights, in both slots of
    their buffers. -/
def aC (c : Dev nD) : (cc0_scratch0 : Ref sig .tc).ty.Contents (Elt F) :=
  bothQ (k0_pay22 (wqM.view.readAt (Elt F) (Rect.unit (s := S1024x1024) ![0, 0] S1024x512.size inb_S1024x1024_S1024x512_0_0).toLoadRect (wqC m ρ c)))
def cC (c : Dev nD) : (cc0_scratch2 : Ref sig .tc).ty.Contents (Elt F) :=
  bothQ (k0_pay23 (wqM.view.readAt (Elt F) (Rect.unit (s := S1024x1024) ![0, 512] S1024x512.size inb_S1024x1024_S1024x512_0_512).toLoadRect (wqC m ρ c)))
def bC (c : Dev nD) : (cc0_scratch1 : Ref sig .tc).ty.Contents (Elt F) :=
  bothO (k0_pay24 (woM.view.readAt (Elt F) (Rect.unit (s := S1024x1024) ![0, 0] S512x1024.size inb_S1024x1024_S512x1024_0_0).toLoadRect (woC m ρ c)))
def dC (c : Dev nD) : (cc0_scratch3 : Ref sig .tc).ty.Contents (Elt F) :=
  bothO (k0_pay25 (woM.view.readAt (Elt F) (Rect.unit (s := S1024x1024) ![512, 0] S512x1024.size inb_S1024x1024_S512x1024_512_0).toLoadRect (woC m ρ c)))

/-- A window of a buffer of device `c`, held at share `q`. -/
abbrev winPts {s : Shape} {e : EltTy} (W : Memref sig .tc .vmem s e) (c : Dev nD) (q : PosShare TreeShare)
    (f : Buf (Elt F) (W.view.loc (c : Thread nD τ))) : sProp 𝕄 :=
  W.view.loc (c : Thread nD τ) ↦[W.view.set]{q} f

/-- A window of a buffer of device `c`, held whole at contents not said. -/
def someWin {s : Shape} {e : EltTy} (W : Memref sig .tc .vmem s e) (c : Dev nD) : sProp 𝕄 :=
  iprop(∃ f, winPts (F := F) W c fullShare f)

instance someWin_storable {s : Shape} {e : EltTy} (W : Memref sig .tc .vmem s e) (c : Dev nD) :
    BI.Storable (upEmb : UEmb _ 𝕄) (someWin (F := F) W c) := by
  unfold someWin; infer_instance

/-- The half of slot 0 that a copy out of it holds, and the half the core keeps. -/
abbrev lentQ : PosShare TreeShare := fullShare.right
abbrev keptQ : PosShare TreeShare := fullShare.left

/-! ## The cells -/

/-- The barrier semaphore of the two-sided handshake. -/
abbrev barS : Sem sig := (SemArray.scalar (sig.barrier 0 rfl) : Sems sig S_).sem

abbrev sS0 : DmaSem sig := ((cc0_scratch9.slice (Rect.unit (s := S4x2) ![0, 0] S1x1.size inb_S4x2_S1x1_0_0)).squeeze S_ squeezes_S1x1_S_).sem
abbrev sS1 : DmaSem sig := ((cc0_scratch9.slice (Rect.unit (s := S4x2) ![1, 0] S1x1.size inb_S4x2_S1x1_1_0)).squeeze S_ squeezes_S1x1_S_).sem
abbrev sS2 : DmaSem sig := ((cc0_scratch9.slice (Rect.unit (s := S4x2) ![2, 0] S1x1.size inb_S4x2_S1x1_2_0)).squeeze S_ squeezes_S1x1_S_).sem
abbrev sS3 : DmaSem sig := ((cc0_scratch9.slice (Rect.unit (s := S4x2) ![3, 0] S1x1.size inb_S4x2_S1x1_3_0)).squeeze S_ squeezes_S1x1_S_).sem
abbrev rS0 : DmaSem sig := ((cc0_scratch10.slice (Rect.unit (s := S4x2) ![0, 1] S1x1.size inb_S4x2_S1x1_0_1)).squeeze S_ squeezes_S1x1_S_).sem
abbrev rS1 : DmaSem sig := ((cc0_scratch10.slice (Rect.unit (s := S4x2) ![1, 1] S1x1.size inb_S4x2_S1x1_1_1)).squeeze S_ squeezes_S1x1_S_).sem
abbrev rS2 : DmaSem sig := ((cc0_scratch10.slice (Rect.unit (s := S4x2) ![2, 1] S1x1.size inb_S4x2_S1x1_2_1)).squeeze S_ squeezes_S1x1_S_).sem
abbrev rS3 : DmaSem sig := ((cc0_scratch10.slice (Rect.unit (s := S4x2) ![3, 1] S1x1.size inb_S4x2_S1x1_3_1)).squeeze S_ squeezes_S1x1_S_).sem

/-- The nine semaphores of the exchange: the barrier, the receive cells 1 to 4, the send cells 5 to 8. -/
abbrev csem : Fin 9 → SemLoc sig
  | 0 => .reg barS
  | 1 => .dma rS0 | 2 => .dma rS1 | 3 => .dma rS2 | 4 => .dma rS3
  | 5 => .dma sS0 | 6 => .dma sS1 | 7 => .dma sS2 | 8 => .dma sS3
abbrev kcell (ck : Dev nD × Fin 9) : GSem nD τ sig := ((ck.1 : Thread nD τ), csem ck.2)

theorem csem_injective : Function.Injective csem := by decide

/-- Which of the nine a semaphore is, if any. -/
def kOf (sm : SemLoc sig) : Option (Fin 9) := (List.finRange 9).find? fun k => csem k = sm

theorem kOf_csem (k : Fin 9) : kOf (csem k) = some k := by revert k; decide

/-- What a copy of a query-weight half and of an output-weight half credits. -/
abbrev NA : ℕ := aS1.view.dmaCredit
abbrev NB : ℕ := bS1.view.dmaCredit
abbrev NC : ℕ := cS1.view.dmaCredit
abbrev ND : ℕ := dS1.view.dmaCredit

/-! ## The schedule -/

/-- What the units of cell `k` of device `c` hand over: the barrier's `false` unit (from `nxt c`) and `true` unit (from
    `prv c`), the four landings, the four read-outs. -/
def pay (k : Fin 9) (d : Bool) (c : Dev nD) : sProp 𝕄 := match k with
  | 0 => if d then iprop(someWin cS1 (prv c) ∗ someWin dS1 (prv c))
      else iprop(someWin aS1 (nxt c) ∗ someWin bS1 (nxt c))
  | 1 => winPts aS1 c fullShare (aC m ρ (prv c))
  | 2 => winPts bS1 c fullShare (bC m ρ (prv c))
  | 3 => winPts cS1 c fullShare (cC m ρ (nxt c))
  | 4 => winPts dS1 c fullShare (dC m ρ (nxt c))
  | 5 => winPts aS0 c lentQ (aC m ρ c)
  | 6 => winPts bS0 c lentQ (bC m ρ c)
  | 7 => winPts cS0 c lentQ (cC m ρ c)
  | 8 => winPts dS0 c lentQ (dC m ρ c)

instance pay_storable (k : Fin 9) (d : Bool) (c : Dev nD) : BI.Storable (upEmb : UEmb _ 𝕄) (pay (F := F) m ρ k d c) := by
  unfold pay
  (repeat' split) <;> infer_instance

/-- The units of each cell. -/
def amt (k : Fin 9) : ℕ := match k with
  | 0 => 1 | 1 => NA | 2 => NB | 3 => NC | 4 => ND | 5 => NA | 6 => NB | 7 => NC | 8 => ND

theorem NA_pos : 0 < NA := View.dmaCredit_pos _ (by decide)
theorem NB_pos : 0 < NB := View.dmaCredit_pos _ (by decide)
theorem NC_pos : 0 < NC := View.dmaCredit_pos _ (by decide)
theorem ND_pos : 0 < ND := View.dmaCredit_pos _ (by decide)
theorem amt_pos (k : Fin 9) : 0 < amt k := by
  unfold amt; split <;> first | exact Nat.one_pos | exact NA_pos | exact NB_pos | exact NC_pos | exact ND_pos

def duts (k : Fin 9) : Finset Bool := if k = 0 then Finset.univ else {false}

/-- One round per cell: the barrier's two duties of one unit, one duty of its copy's credit at each of the others. -/
def rd : Rounds.Schedule (GSem nD τ sig) Bool 𝕄 where
  duties g r := if r = 0 ∧ g.1.2 = .tc then (match kOf g.2 with | some k => duts k | none => ∅) else ∅
  unitless _ := False
  amount g _ _ := match kOf g.2 with | some k => amt k | none => 1
  payload g _ d := match kOf g.2 with | some k => pay m ρ k d g.1.1 | none => iprop(emp)
  amount_pos g _ _ _ := by
    split
    · exact amt_pos _
    · exact Nat.one_pos

instance rd_payload_storable (g : GSem nD τ sig) (r : ℕ) (d : Bool) :
    BI.Storable (upEmb : UEmb _ 𝕄) ((rd (F := F) m ρ).payload g r d) := by
  show BI.Storable upEmb (match kOf g.2 with | some k => pay m ρ k d g.1.1 | none => iprop(emp))
  split <;> infer_instance

section Sched
variable (c : Dev nD) (k : Fin 9)

theorem duties_cell : (rd (F := F) m ρ).duties (kcell (c, k)) 0 = duts k := by
  dsimp only [rd]; rw [if_pos ⟨rfl, rfl⟩, kOf_csem]
theorem duties_later (g : GSem nD τ sig) : ∀ r, 1 ≤ r → (rd (F := F) m ρ).duties g r = ∅ :=
  fun r hr => by dsimp only [rd]; rw [if_neg fun h => by omega]
theorem amount_cell (d : Bool) : (rd (F := F) m ρ).amount (kcell (c, k)) 0 d = amt k := by
  dsimp only [rd]; rw [kOf_csem]
theorem payload_cell (d : Bool) : (rd (F := F) m ρ).payload (kcell (c, k)) 0 d = pay m ρ k d c := by
  dsimp only [rd]; rw [kOf_csem]

theorem expect_bar : (rd (F := F) m ρ).expect (kcell (c, 0)) 0 = 2 := by
  unfold Schedule.expect Schedule.amountOf
  rw [duties_cell, Finset.sum_congr rfl fun d _ => amount_cell m ρ c 0 d, Finset.sum_const]; rfl
theorem expect_cell (hk : k ≠ 0) : (rd (F := F) m ρ).expect (kcell (c, k)) 0 = amt k := by
  unfold Schedule.expect Schedule.amountOf
  rw [duties_cell, duts, if_neg hk, Finset.sum_singleton, amount_cell]

theorem rest_bar : bigSep ((rd (F := F) m ρ).duties (kcell (c, 0)) 0 \ ∅) (fun d => (rd (F := F) m ρ).payload (kcell (c, 0)) 0 d)
    = iprop(pay m ρ 0 false c ∗ pay m ρ 0 true c) := by
  rw [Finset.sdiff_empty, duties_cell]
  show bigSep Finset.univ _ = _
  rw [bigSep_univ_eq_bigSepL [false, true] (by decide) (by decide), bigSepL_cons_cons, bigSepL_singleton, payload_cell, payload_cell]; rfl
theorem rest_cell (hk : k ≠ 0) : bigSep ((rd (F := F) m ρ).duties (kcell (c, k)) 0 \ ∅) (fun d => (rd (F := F) m ρ).payload (kcell (c, k)) 0 d)
    = pay m ρ k false c := by
  rw [Finset.sdiff_empty, duties_cell, duts, if_neg hk, bigSep_singleton, payload_cell]

end Sched

/-! ## What each core owes at launch; the levels -/

/-- After the signals and the first `n` copies device `c` still owes the credits of the other copies. -/
def owe3 (c : Dev nD) : CellTallies nD τ sig Unit := 0 + tallyAt (kcell (prv c, 4)) () ND
def owe2 (c : Dev nD) : CellTallies nD τ sig Unit := owe3 c + tallyAt (kcell (prv c, 3)) () NC
def owe1 (c : Dev nD) : CellTallies nD τ sig Unit := owe2 c + tallyAt (kcell (nxt c, 2)) () NB
def owe0 (c : Dev nD) : CellTallies nD τ sig Unit := owe1 c + tallyAt (kcell (nxt c, 1)) () NA
/-- After the first signal a unit of the right neighbour's barrier too; at launch a unit of each neighbour's. -/
def oweB (c : Dev nD) : CellTallies nD τ sig Unit := owe0 c + tallyAt (kcell (nxt c, 0)) () 1
def O₀ (c : Dev nD) : CellTallies nD τ sig Unit := oweB c + tallyAt (kcell (prv c, 0)) () 1

def L (g : GSem nD τ sig) : Finset Unit := if g.1.2 = .tc then {()} else ∅
/-- Barrier cells at 1, receive cells at 2, everything else at 0. -/
def lvK (k : Fin 9) : ℕ := match k with | 0 => 1 | 1 => 2 | 2 => 2 | 3 => 2 | 4 => 2 | _ => 0
def lv (g : GSem nD τ sig) (_ : Unit) : ℕ := match kOf g.2 with | some k => lvK k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Fin 9) : lv (kcell (c, k)) () = lvK k := by unfold lv; rw [kOf_csem]

theorem tally_pos {g h : GSem nD τ sig} {n : ℕ} {u : Unit} (hp : 0 < (tallyAt g () n : CellTallies nD τ sig Unit) h u) : h = g := by
  rw [tallyAt_apply] at hp
  by_contra hn
  rw [if_neg (fun h' => hn h'.1)] at hp
  exact Nat.lt_irrefl 0 hp
theorem add_pos_cases {A B : CellTallies nD τ sig Unit} {h : GSem nD τ sig} {u : Unit} (hp : 0 < (A + B) h u) : 0 < A h u ∨ 0 < B h u := by
  rw [Pi.add_apply, Finsupp.add_apply] at hp; omega

theorem owe0_pos {c : Dev nD} {g : GSem nD τ sig} {u : Unit} (h : 0 < owe0 c g u) : ∃ d : Dev nD, ∃ k : Fin 9, g = kcell (d, k) ∧ lvK k = 2 := by
  unfold owe0 owe1 owe2 owe3 at h
  rcases add_pos_cases h with h | h
  · rcases add_pos_cases h with h | h
    · rcases add_pos_cases h with h | h
      · rcases add_pos_cases h with h | h
        · exact absurd h (Nat.lt_irrefl 0)
        · exact ⟨_, _, tally_pos h, rfl⟩
      · exact ⟨_, _, tally_pos h, rfl⟩
    · exact ⟨_, _, tally_pos h, rfl⟩
  · exact ⟨_, _, tally_pos h, rfl⟩
theorem O₀_pos {c : Dev nD} {g : GSem nD τ sig} {u : Unit} (h : 0 < O₀ c g u) : ∃ d : Dev nD, ∃ k : Fin 9, g = kcell (d, k) ∧ 0 < lvK k := by
  unfold O₀ oweB at h
  rcases add_pos_cases h with h | h
  · rcases add_pos_cases h with h | h
    · obtain ⟨d, k, hg, hk⟩ := owe0_pos h; exact ⟨d, k, hg, by omega⟩
    · exact ⟨_, _, tally_pos h, by decide⟩
  · exact ⟨_, _, tally_pos h, by decide⟩

/-- A staging semaphore, which is none of the nine, may be waited on whatever of the exchange is owed. -/
theorem mayWait_stage (c : Dev nD) (q : DmaSem sig) (hq : kOf (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨d, k, rfl, _⟩ := O₀_pos hg; exact Finset.mem_singleton_self _)
      (fun p hp => by rw [Finset.mem_singleton.mp hp]; unfold lv; rw [hq])
      (fun g u hg => by obtain ⟨d, k, rfl, hk⟩ := O₀_pos hg; rw [lv_cell]; exact hk)
  · rw [MayWait_zero]; iintro -; iempintro

/-- At its barrier wait a device owes receive credits only, which lie above the barrier. -/
theorem mayWait_bar (c : Dev nD) : (levAts L lv : sProp 𝕄) ⊢ MayWait (c : Thread nD τ) (.reg barS) () (owe0 c) :=
  MayOwe.of_cut (L := L) (lev := lv) 1 (fun p hp => by rw [Finset.mem_singleton.mp hp, L_tc]; exact Finset.mem_singleton_self _)
    (fun g u hg => by obtain ⟨d, k, rfl, _⟩ := owe0_pos hg; exact Finset.mem_singleton_self _)
    (fun p hp => by rw [Finset.mem_singleton.mp hp]; exact le_of_eq (lv_cell c 0))
    (fun g u hg => by obtain ⟨d, k, rfl, hk⟩ := owe0_pos hg; rw [lv_cell, hk]; decide)

end Cert.KernelIdeal.Slice

end
-- ==== Proof.Trips.lean ====
/-
  The four counted loops of the body, one trip at a time: the query projections of the two hops (`t1`, `t3`) and the
  attention blocks of the two hops (`t2`, `t4`), each against the contents it leaves, said as a function of what it reads.
-/
/-
  The four counted loops of the body, one trip at a time: the query projections of the two hops (`t1`, `t3`) and the
  attention blocks of the two hops (`t2`, `t4`), each against the contents it leaves, said as a function of what it reads.
-/
/-
  The four counted loops of the body, one trip at a time: the query projections of the two hops (`t1`, `t3`) and the
  attention blocks of the two hops (`t2`, `t4`), each against the contents it leaves, said as a function of what it reads.
-/
module

public import proofs.«01_k».proof.Proof.Ring
public import Idealize.ShloMosaic.Lib.Writes
public import Idealize.ShloMosaic.Lib.WritesUnit

@[expose] public section

noncomputable section

namespace Cert.KernelIdeal.Slice

open Cert.KernelIdeal Cert.KernelIdeal.Gen

open Idealize.ShloMosaic Idealize.ShloMosaic.Tactic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
-- Any table of bodies: nothing here calls one.
variable {𝒟 : Defs nD τ sig (Elt F) Λ₀}

local notation "𝕄" => MT nD τ sig Unit (Elt F) ℕ UU ℕ

/-- The variants of a kernel without one. -/
abbrev 𝒱₀ : Variants := Variants.none

/-- The regions of the four loops at this kernel's buffers. -/
abbrev t1B (d0 : Dev nD) (k : Fin k0_t1_loop.trips) (u : Unit) :=
  k0_t1_body (F := F) xM (Memref.isWhole_whole _) wqM (Memref.isWhole_whole _) woM (Memref.isWhole_whole _) kM (Memref.isWhole_whole _) vM (Memref.isWhole_whole _)
    oM (Memref.isWhole_whole _) aM (Memref.isWhole_whole _) bM (Memref.isWhole_whole _) cM (Memref.isWhole_whole _) dM (Memref.isWhole_whole _) wofM (Memref.isWhole_whole _)
    xbM (Memref.isWhole_whole _) qM (Memref.isWhole_whole _) kbM (Memref.isWhole_whole _) vbM (Memref.isWhole_whole _) cc0_scratch9 cc0_scratch10 cc0_scratch11 cc0_scratch12 d0 k u
abbrev t2B (d0 : Dev nD) (v7 : BitVec 32) (k : Fin k0_t2_loop.trips) (u : Unit) :=
  k0_t2_body (F := F) xM (Memref.isWhole_whole _) wqM (Memref.isWhole_whole _) woM (Memref.isWhole_whole _) kM (Memref.isWhole_whole _) vM (Memref.isWhole_whole _)
    oM (Memref.isWhole_whole _) aM (Memref.isWhole_whole _) bM (Memref.isWhole_whole _) cM (Memref.isWhole_whole _) dM (Memref.isWhole_whole _) wofM (Memref.isWhole_whole _)
    xbM (Memref.isWhole_whole _) qM (Memref.isWhole_whole _) kbM (Memref.isWhole_whole _) vbM (Memref.isWhole_whole _) cc0_scratch9 cc0_scratch10 cc0_scratch11 cc0_scratch12 d0 v7 k u
abbrev t3B (d0 : Dev nD) (k : Fin k0_t3_loop.trips) (u : Unit) :=
  k0_t3_body (F := F) xM (Memref.isWhole_whole _) wqM (Memref.isWhole_whole _) woM (Memref.isWhole_whole _) kM (Memref.isWhole_whole _) vM (Memref.isWhole_whole _)
    oM (Memref.isWhole_whole _) aM (Memref.isWhole_whole _) bM (Memref.isWhole_whole _) cM (Memref.isWhole_whole _) dM (Memref.isWhole_whole _) wofM (Memref.isWhole_whole _)
    xbM (Memref.isWhole_whole _) qM (Memref.isWhole_whole _) kbM (Memref.isWhole_whole _) vbM (Memref.isWhole_whole _) cc0_scratch9 cc0_scratch10 cc0_scratch11 cc0_scratch12 d0 k u
abbrev t4B (k : Fin k0_t4_loop.trips) (u : Unit) :=
  k0_t4_body (F := F) xM (Memref.isWhole_whole _) wqM (Memref.isWhole_whole _) woM (Memref.isWhole_whole _) kM (Memref.isWhole_whole _) vM (Memref.isWhole_whole _)
    oM (Memref.isWhole_whole _) aM (Memref.isWhole_whole _) bM (Memref.isWhole_whole _) cM (Memref.isWhole_whole _) dM (Memref.isWhole_whole _) wofM (Memref.isWhole_whole _)
    xbM (Memref.isWhole_whole _) qM (Memref.isWhole_whole _) kbM (Memref.isWhole_whole _) vbM (Memref.isWhole_whole _) cc0_scratch9 cc0_scratch10 cc0_scratch11 cc0_scratch12  k u

/-! ## Parts of buffers -/

/-- An index of a matrix, and of a box. -/
def ix2 {a b : ℕ} (i : Fin a) (j : Fin b) : Shape.Idx ⟨2, ![a, b]⟩ := fun | ⟨0, _⟩ => i | ⟨1, _⟩ => j
def ix3 {a b c : ℕ} (i : Fin a) (j : Fin b) (k : Fin c) : Shape.Idx ⟨3, ![a, b, c]⟩ := fun | ⟨0, _⟩ => i | ⟨1, _⟩ => j | ⟨2, _⟩ => k

/-- Row `n`, cut off at the last. -/
def row (n : ℕ) : Fin 2048 := ⟨n % 2048, Nat.mod_lt _ (by decide)⟩
def col (n : ℕ) : Fin 1024 := ⟨n % 1024, Nat.mod_lt _ (by decide)⟩

/-- Rows `512 t …` of the activations; -/
def xbRows (X : S2048x1024.Idx → F .bf16) (t : ℕ) : Vec F S512x1024 .bf16 := fun i => X (ix2 (row (512 * t + (i 0).val)) (i 1))
/-- slot `s` of a query-weight buffer; -/
def slotQ (A : S2x1024x512.Idx → F .bf16) (s : Fin 2) : Vec F S1x1024x512 .bf16 := fun i => A (ix3 s (i 1) (i 2))
/-- slot `s` of an output-weight buffer; -/
def slotO (A : S2x512x1024.Idx → F .bf16) (s : Fin 2) : Vec F S1x512x1024 .bf16 := fun i => A (ix3 s (i 1) (i 2))
/-- the queries of rows `512 t …` and head `h`; -/
def qHead (Q : S2048x1024.Idx → F .bf16) (t h : ℕ) : Vec F S512x128 .bf16 := fun i => Q (ix2 (row (512 * t + (i 0).val)) (col (128 * h + (i 1).val)))
/-- the first key of block `t`'s window; -/
def wnd (t : ℕ) : ℕ := 128 * min 10 (4 * t - 1)
/-- the window's keys (or values) of head `h`; -/
def kHead (K : S8x2048x128.Idx → F .f32) (t : ℕ) (h : Fin 8) : Vec F S1x768x128 .f32 := fun i => K (ix3 h (row (wnd t + (i 1).val)) (i 2))
/-- rows `512 t …` of the result. -/
def oRows (O : S1x2048x1024.Idx → F .f32) (t : ℕ) : Vec F S1x512x1024 .f32 := fun i => O (ix3 0 (row (512 * t + (i 1).val)) (i 2))

/-! ### What the loads read -/

theorem read_x (t : ℕ) (ht : t < 4) (off : Fin S2048x1024.rank → ℕ) (inb : ∀ a, off a + S512x1024.size a ≤ S2048x1024.size a) (ho : off = ![512 * t, 0]) (f : (xbM).view.ty.Contents (Elt F)) :
    (xbM).view.readAt (Elt F) (Rect.unit (s := S2048x1024) off S512x1024.size inb).toLoadRect f = xbRows f t := by
  subst ho; funext i
  refine congrArg f (funext fun a => Fin.ext ?_)
  match a with
  | ⟨0, _⟩ => show 512 * t + 1 * (i 0).val = (512 * t + (i 0).val) % 2048; have : (i 0).val < 512 := (i 0).isLt; omega
  | ⟨1, _⟩ => show 0 + 1 * (i 1).val = (i 1).val; omega

theorem read_a0  (off : Fin S2x1024x512.rank → ℕ) (inb : ∀ a, off a + S1x1024x512.size a ≤ S2x1024x512.size a) (ho : off = ![0, 0, 0]) (f : (aM).view.ty.Contents (Elt F)) :
    (aM).view.readAt (Elt F) (Rect.unit (s := S2x1024x512) off S1x1024x512.size inb).toLoadRect f = slotQ f 0 := by
  subst ho; funext i
  refine congrArg f (funext fun a => Fin.ext ?_)
  match a with
  | ⟨0, _⟩ => show 0 + 1 * (i 0).val = 0; have : (i 0).val < 1 := (i 0).isLt; omega
  | ⟨1, _⟩ => show 0 + 1 * (i 1).val = (i 1).val; omega
  | ⟨2, _⟩ => show 0 + 1 * (i 2).val = (i 2).val; omega

theorem read_a1  (off : Fin S2x1024x512.rank → ℕ) (inb : ∀ a, off a + S1x1024x512.size a ≤ S2x1024x512.size a) (ho : off = ![1, 0, 0]) (f : (aM).view.ty.Contents (Elt F)) :
    (aM).view.readAt (Elt F) (Rect.unit (s := S2x1024x512) off S1x1024x512.size inb).toLoadRect f = slotQ f 1 := by
  subst ho; funext i
  refine congrArg f (funext fun a => Fin.ext ?_)
  match a with
  | ⟨0, _⟩ => show 1 + 1 * (i 0).val = 1; have : (i 0).val < 1 := (i 0).isLt; omega
  | ⟨1, _⟩ => show 0 + 1 * (i 1).val = (i 1).val; omega
  | ⟨2, _⟩ => show 0 + 1 * (i 2).val = (i 2).val; omega

theorem read_c0  (off : Fin S2x1024x512.rank → ℕ) (inb : ∀ a, off a + S1x1024x512.size a ≤ S2x1024x512.size a) (ho : off = ![0, 0, 0]) (f : (cM).view.ty.Contents (Elt F)) :
    (cM).view.readAt (Elt F) (Rect.unit (s := S2x1024x512) off S1x1024x512.size inb).toLoadRect f = slotQ f 0 := by
  subst ho; funext i
  refine congrArg f (funext fun a => Fin.ext ?_)
  match a with
  | ⟨0, _⟩ => show 0 + 1 * (i 0).val = 0; have : (i 0).val < 1 := (i 0).isLt; omega
  | ⟨1, _⟩ => show 0 + 1 * (i 1).val = (i 1).val; omega
  | ⟨2, _⟩ => show 0 + 1 * (i 2).val = (i 2).val; omega

theorem read_c1  (off : Fin S2x1024x512.rank → ℕ) (inb : ∀ a, off a + S1x1024x512.size a ≤ S2x1024x512.size a) (ho : off = ![1, 0, 0]) (f : (cM).view.ty.Contents (Elt F)) :
    (cM).view.readAt (Elt F) (Rect.unit (s := S2x1024x512) off S1x1024x512.size inb).toLoadRect f = slotQ f 1 := by
  subst ho; funext i
  refine congrArg f (funext fun a => Fin.ext ?_)
  match a with
  | ⟨0, _⟩ => show 1 + 1 * (i 0).val = 1; have : (i 0).val < 1 := (i 0).isLt; omega
  | ⟨1, _⟩ => show 0 + 1 * (i 1).val = (i 1).val; omega
  | ⟨2, _⟩ => show 0 + 1 * (i 2).val = (i 2).val; omega

theorem read_b0  (off : Fin S2x512x1024.rank → ℕ) (inb : ∀ a, off a + S1x512x1024.size a ≤ S2x512x1024.size a) (ho : off = ![0, 0, 0]) (f : (bM).view.ty.Contents (Elt F)) :
    (bM).view.readAt (Elt F) (Rect.unit (s := S2x512x1024) off S1x512x1024.size inb).toLoadRect f = slotO f 0 := by
  subst ho; funext i
  refine congrArg f (funext fun a => Fin.ext ?_)
  match a with
  | ⟨0, _⟩ => show 0 + 1 * (i 0).val = 0; have : (i 0).val < 1 := (i 0).isLt; omega
  | ⟨1, _⟩ => show 0 + 1 * (i 1).val = (i 1).val; omega
  | ⟨2, _⟩ => show 0 + 1 * (i 2).val = (i 2).val; omega

theorem read_b1  (off : Fin S2x512x1024.rank → ℕ) (inb : ∀ a, off a + S1x512x1024.size a ≤ S2x512x1024.size a) (ho : off = ![1, 0, 0]) (f : (bM).view.ty.Contents (Elt F)) :
    (bM).view.readAt (Elt F) (Rect.unit (s := S2x512x1024) off S1x512x1024.size inb).toLoadRect f = slotO f 1 := by
  subst ho; funext i
  refine congrArg f (funext fun a => Fin.ext ?_)
  match a with
  | ⟨0, _⟩ => show 1 + 1 * (i 0).val = 1; have : (i 0).val < 1 := (i 0).isLt; omega
  | ⟨1, _⟩ => show 0 + 1 * (i 1).val = (i 1).val; omega
  | ⟨2, _⟩ => show 0 + 1 * (i 2).val = (i 2).val; omega

theorem read_d0  (off : Fin S2x512x1024.rank → ℕ) (inb : ∀ a, off a + S1x512x1024.size a ≤ S2x512x1024.size a) (ho : off = ![0, 0, 0]) (f : (dM).view.ty.Contents (Elt F)) :
    (dM).view.readAt (Elt F) (Rect.unit (s := S2x512x1024) off S1x512x1024.size inb).toLoadRect f = slotO f 0 := by
  subst ho; funext i
  refine congrArg f (funext fun a => Fin.ext ?_)
  match a with
  | ⟨0, _⟩ => show 0 + 1 * (i 0).val = 0; have : (i 0).val < 1 := (i 0).isLt; omega
  | ⟨1, _⟩ => show 0 + 1 * (i 1).val = (i 1).val; omega
  | ⟨2, _⟩ => show 0 + 1 * (i 2).val = (i 2).val; omega

theorem read_d1  (off : Fin S2x512x1024.rank → ℕ) (inb : ∀ a, off a + S1x512x1024.size a ≤ S2x512x1024.size a) (ho : off = ![1, 0, 0]) (f : (dM).view.ty.Contents (Elt F)) :
    (dM).view.readAt (Elt F) (Rect.unit (s := S2x512x1024) off S1x512x1024.size inb).toLoadRect f = slotO f 1 := by
  subst ho; funext i
  refine congrArg f (funext fun a => Fin.ext ?_)
  match a with
  | ⟨0, _⟩ => show 1 + 1 * (i 0).val = 1; have : (i 0).val < 1 := (i 0).isLt; omega
  | ⟨1, _⟩ => show 0 + 1 * (i 1).val = (i 1).val; omega
  | ⟨2, _⟩ => show 0 + 1 * (i 2).val = (i 2).val; omega

theorem read_q (t h : ℕ) (ht : t < 4) (hh : h < 8) (off : Fin S2048x1024.rank → ℕ) (inb : ∀ a, off a + S512x128.size a ≤ S2048x1024.size a) (ho : off = ![512 * t, 128 * h]) (f : (qM).view.ty.Contents (Elt F)) :
    (qM).view.readAt (Elt F) (Rect.unit (s := S2048x1024) off S512x128.size inb).toLoadRect f = qHead f t h := by
  subst ho; funext i
  refine congrArg f (funext fun a => Fin.ext ?_)
  match a with
  | ⟨0, _⟩ => show 512 * t + 1 * (i 0).val = (512 * t + (i 0).val) % 2048; have : (i 0).val < 512 := (i 0).isLt; omega
  | ⟨1, _⟩ => show 128 * h + 1 * (i 1).val = (128 * h + (i 1).val) % 1024; have : (i 1).val < 128 := (i 1).isLt; omega

theorem read_k (t : ℕ) (h : Fin 8) (off : Fin S8x2048x128.rank → ℕ) (inb : ∀ a, off a + S1x768x128.size a ≤ S8x2048x128.size a) (ho : off = ![h.val, wnd t, 0]) (f : (kbM).view.ty.Contents (Elt F)) :
    (kbM).view.readAt (Elt F) (Rect.unit (s := S8x2048x128) off S1x768x128.size inb).toLoadRect f = kHead f t h := by
  subst ho; funext i
  refine congrArg f (funext fun a => Fin.ext ?_)
  match a with
  | ⟨0, _⟩ => show h.val + 1 * (i 0).val = h.val; have : (i 0).val < 1 := (i 0).isLt; omega
  | ⟨1, _⟩ => show wnd t + 1 * (i 1).val = (wnd t + (i 1).val) % 2048; have : (i 1).val < 768 := (i 1).isLt; unfold wnd; omega
  | ⟨2, _⟩ => show 0 + 1 * (i 2).val = (i 2).val; omega

theorem read_v (t : ℕ) (h : Fin 8) (off : Fin S8x2048x128.rank → ℕ) (inb : ∀ a, off a + S1x768x128.size a ≤ S8x2048x128.size a) (ho : off = ![h.val, wnd t, 0]) (f : (vbM).view.ty.Contents (Elt F)) :
    (vbM).view.readAt (Elt F) (Rect.unit (s := S8x2048x128) off S1x768x128.size inb).toLoadRect f = kHead f t h := by
  subst ho; funext i
  refine congrArg f (funext fun a => Fin.ext ?_)
  match a with
  | ⟨0, _⟩ => show h.val + 1 * (i 0).val = h.val; have : (i 0).val < 1 := (i 0).isLt; omega
  | ⟨1, _⟩ => show wnd t + 1 * (i 1).val = (wnd t + (i 1).val) % 2048; have : (i 1).val < 768 := (i 1).isLt; unfold wnd; omega
  | ⟨2, _⟩ => show 0 + 1 * (i 2).val = (i 2).val; omega

theorem read_o (t : ℕ) (ht : t < 4) (off : Fin S1x2048x1024.rank → ℕ) (inb : ∀ a, off a + S1x512x1024.size a ≤ S1x2048x1024.size a) (ho : off = ![0, 512 * t, 0]) (f : (oM).view.ty.Contents (Elt F)) :
    (oM).view.readAt (Elt F) (Rect.unit (s := S1x2048x1024) off S1x512x1024.size inb).toLoadRect f = oRows f t := by
  subst ho; funext i
  refine congrArg f (funext fun a => Fin.ext ?_)
  match a with
  | ⟨0, _⟩ => show 0 + 1 * (i 0).val = 0; have : (i 0).val < 1 := (i 0).isLt; omega
  | ⟨1, _⟩ => show 512 * t + 1 * (i 1).val = (512 * t + (i 1).val) % 2048; have : (i 1).val < 512 := (i 1).isLt; omega
  | ⟨2, _⟩ => show 0 + 1 * (i 2).val = (i 2).val; omega

theorem read_wof  (off : Fin S1024x1024.rank → ℕ) (inb : ∀ a, off a + S1024x1024.size a ≤ S1024x1024.size a) (ho : off = ![0, 0]) (f : (wofM).view.ty.Contents (Elt F)) :
    (wofM).view.readAt (Elt F) (Rect.unit (s := S1024x1024) off S1024x1024.size inb).toLoadRect f = f := by
  subst ho; funext i
  refine congrArg f (funext fun a => Fin.ext ?_)
  match a with
  | ⟨0, _⟩ => show 0 + 1 * (i 0).val = (i 0).val; omega
  | ⟨1, _⟩ => show 0 + 1 * (i 1).val = (i 1).val; omega

/-! ### The offsets of the eight heads' accesses -/

theorem off_q2_0 (k : Fin k0_t2_loop.trips) : k0_off5 k = ![512 * k.val, 128 * 0] := k0_off5_eq k
theorem off_k2_0 : ∀ k : Fin k0_t2_loop.trips, k0_off6 k = ![((0 : Fin 8)).val, wnd k.val, 0] := by decide +kernel
theorem off_q2_1 (k : Fin k0_t2_loop.trips) : k0_off7 k = ![512 * k.val, 128 * 1] := k0_off7_eq k
theorem off_k2_1 : ∀ k : Fin k0_t2_loop.trips, k0_off8 k = ![((1 : Fin 8)).val, wnd k.val, 0] := by decide +kernel
theorem off_q2_2 (k : Fin k0_t2_loop.trips) : k0_off9 k = ![512 * k.val, 128 * 2] := k0_off9_eq k
theorem off_k2_2 : ∀ k : Fin k0_t2_loop.trips, k0_off10 k = ![((2 : Fin 8)).val, wnd k.val, 0] := by decide +kernel
theorem off_q2_3 (k : Fin k0_t2_loop.trips) : k0_off11 k = ![512 * k.val, 128 * 3] := k0_off11_eq k
theorem off_k2_3 : ∀ k : Fin k0_t2_loop.trips, k0_off12 k = ![((3 : Fin 8)).val, wnd k.val, 0] := by decide +kernel
theorem off_q2_4 (k : Fin k0_t2_loop.trips) : k0_off13 k = ![512 * k.val, 128 * 4] := k0_off13_eq k
theorem off_k2_4 : ∀ k : Fin k0_t2_loop.trips, k0_off14 k = ![((4 : Fin 8)).val, wnd k.val, 0] := by decide +kernel
theorem off_q2_5 (k : Fin k0_t2_loop.trips) : k0_off15 k = ![512 * k.val, 128 * 5] := k0_off15_eq k
theorem off_k2_5 : ∀ k : Fin k0_t2_loop.trips, k0_off16 k = ![((5 : Fin 8)).val, wnd k.val, 0] := by decide +kernel
theorem off_q2_6 (k : Fin k0_t2_loop.trips) : k0_off17 k = ![512 * k.val, 128 * 6] := k0_off17_eq k
theorem off_k2_6 : ∀ k : Fin k0_t2_loop.trips, k0_off18 k = ![((6 : Fin 8)).val, wnd k.val, 0] := by decide +kernel
theorem off_q2_7 (k : Fin k0_t2_loop.trips) : k0_off19 k = ![512 * k.val, 128 * 7] := k0_off19_eq k
theorem off_k2_7 : ∀ k : Fin k0_t2_loop.trips, k0_off20 k = ![((7 : Fin 8)).val, wnd k.val, 0] := by decide +kernel
theorem off_q4_0 (k : Fin k0_t4_loop.trips) : k0_off25 k = ![512 * k.val, 128 * 0] := k0_off25_eq k
theorem off_k4_0 : ∀ k : Fin k0_t4_loop.trips, k0_off26 k = ![((0 : Fin 8)).val, wnd k.val, 0] := by decide +kernel
theorem off_q4_1 (k : Fin k0_t4_loop.trips) : k0_off27 k = ![512 * k.val, 128 * 1] := k0_off27_eq k
theorem off_k4_1 : ∀ k : Fin k0_t4_loop.trips, k0_off28 k = ![((1 : Fin 8)).val, wnd k.val, 0] := by decide +kernel
theorem off_q4_2 (k : Fin k0_t4_loop.trips) : k0_off29 k = ![512 * k.val, 128 * 2] := k0_off29_eq k
theorem off_k4_2 : ∀ k : Fin k0_t4_loop.trips, k0_off30 k = ![((2 : Fin 8)).val, wnd k.val, 0] := by decide +kernel
theorem off_q4_3 (k : Fin k0_t4_loop.trips) : k0_off31 k = ![512 * k.val, 128 * 3] := k0_off31_eq k
theorem off_k4_3 : ∀ k : Fin k0_t4_loop.trips, k0_off32 k = ![((3 : Fin 8)).val, wnd k.val, 0] := by decide +kernel
theorem off_q4_4 (k : Fin k0_t4_loop.trips) : k0_off33 k = ![512 * k.val, 128 * 4] := k0_off33_eq k
theorem off_k4_4 : ∀ k : Fin k0_t4_loop.trips, k0_off34 k = ![((4 : Fin 8)).val, wnd k.val, 0] := by decide +kernel
theorem off_q4_5 (k : Fin k0_t4_loop.trips) : k0_off35 k = ![512 * k.val, 128 * 5] := k0_off35_eq k
theorem off_k4_5 : ∀ k : Fin k0_t4_loop.trips, k0_off36 k = ![((5 : Fin 8)).val, wnd k.val, 0] := by decide +kernel
theorem off_q4_6 (k : Fin k0_t4_loop.trips) : k0_off37 k = ![512 * k.val, 128 * 6] := k0_off37_eq k
theorem off_k4_6 : ∀ k : Fin k0_t4_loop.trips, k0_off38 k = ![((6 : Fin 8)).val, wnd k.val, 0] := by decide +kernel
theorem off_q4_7 (k : Fin k0_t4_loop.trips) : k0_off39 k = ![512 * k.val, 128 * 7] := k0_off39_eq k
theorem off_k4_7 : ∀ k : Fin k0_t4_loop.trips, k0_off40 k = ![((7 : Fin 8)).val, wnd k.val, 0] := by decide +kernel

/-! ## What the loops leave -/

/-- The queries: at column `j` of row `i` the projection by the right-going half (`j < 512`) or by the left-going half. -/
def qTgt (X : S2048x1024.Idx → F .bf16) (A C : Vec F S1x1024x512 .bf16) : S2048x1024.Idx → F .bf16 := fun y =>
  if h : (y 1).val < 512 then k0_pay27 (xbRows X ((y 0).val / 512)) A (ix2 ⟨(y 0).val % 512, Nat.mod_lt _ (by decide)⟩ ⟨(y 1).val, h⟩)
  else k0_pay28 (xbRows X ((y 0).val / 512)) C (ix2 ⟨(y 0).val % 512, Nat.mod_lt _ (by decide)⟩ ⟨(y 1).val - 512, by have : (y 1).val < 1024 := (y 1).isLt; omega⟩)

/-- One block of hop 0's result, and of hop 1's (added to the block `O` found there). -/
def oTile0 (k : Fin k0_t2_loop.trips) (Q : S2048x1024.Idx → F .bf16) (K V : S8x2048x128.Idx → F .f32) (W : S1024x1024.Idx → F .bf16) : Vec F S1x512x1024 .f32 :=
  k0_pay31 (k0_pay2 (F := F) 0#32 1#32 k)
    (k0_pay3 0#32 1#32 k (qHead Q k.val 0) (kHead K k.val 0) (kHead V k.val 0))
    (k0_pay4 (k0_pay2 (F := F) 0#32 1#32 k) (qHead Q k.val 1) (kHead K k.val 1) (kHead V k.val 1))
    (k0_pay5 (k0_pay2 (F := F) 0#32 1#32 k) (qHead Q k.val 2) (kHead K k.val 2) (kHead V k.val 2))
    (k0_pay6 (k0_pay2 (F := F) 0#32 1#32 k) (qHead Q k.val 3) (kHead K k.val 3) (kHead V k.val 3))
    (k0_pay7 (k0_pay2 (F := F) 0#32 1#32 k) (qHead Q k.val 4) (kHead K k.val 4) (kHead V k.val 4))
    (k0_pay9 (k0_pay2 (F := F) 0#32 1#32 k) (qHead Q k.val 5) (k0_pay8 (kHead K k.val 5)) (kHead V k.val 5))
    (k0_pay10 (k0_pay2 (F := F) 0#32 1#32 k) (qHead Q k.val 6) (kHead K k.val 6) (kHead V k.val 6))
    (qHead Q k.val 7) (k0_pay11 (kHead K k.val 7)) (kHead V k.val 7) W
def oTile1 (k : Fin k0_t4_loop.trips) (Q : S2048x1024.Idx → F .bf16) (K V : S8x2048x128.Idx → F .f32) (W : S1024x1024.Idx → F .bf16) (O : Vec F S1x512x1024 .f32) : Vec F S1x512x1024 .f32 :=
  k0_pay1 (k0_pay12 (F := F) 0#32 1#32 k)
    (k0_pay13 0#32 1#32 k (qHead Q k.val 0) (kHead K k.val 0) (kHead V k.val 0))
    (k0_pay14 (k0_pay12 (F := F) 0#32 1#32 k) (qHead Q k.val 1) (kHead K k.val 1) (kHead V k.val 1))
    (k0_pay15 (k0_pay12 (F := F) 0#32 1#32 k) (qHead Q k.val 2) (kHead K k.val 2) (kHead V k.val 2))
    (k0_pay16 (k0_pay12 (F := F) 0#32 1#32 k) (qHead Q k.val 3) (kHead K k.val 3) (kHead V k.val 3))
    (k0_pay17 (k0_pay12 (F := F) 0#32 1#32 k) (qHead Q k.val 4) (kHead K k.val 4) (kHead V k.val 4))
    (k0_pay19 (k0_pay12 (F := F) 0#32 1#32 k) (qHead Q k.val 5) (k0_pay18 (kHead K k.val 5)) (kHead V k.val 5))
    (k0_pay20 (k0_pay12 (F := F) 0#32 1#32 k) (qHead Q k.val 6) (kHead K k.val 6) (kHead V k.val 6))
    (qHead Q k.val 7) (k0_pay21 (kHead K k.val 7)) (kHead V k.val 7) W O

theorem trips2 : k0_t2_loop.trips = 4 := by decide
theorem trips4 : k0_t4_loop.trips = 4 := by decide

/-- The result after hop 0, and after hop 1 over what hop 0 left. -/
def oTgt0 (Q : S2048x1024.Idx → F .bf16) (K V : S8x2048x128.Idx → F .f32) (W : S1024x1024.Idx → F .bf16) : S1x2048x1024.Idx → F .f32 := fun y =>
  oTile0 ⟨(y 1).val / 512, by rw [trips2]; have : (y 1).val < 2048 := (y 1).isLt; omega⟩ Q K V W (ix3 0 ⟨(y 1).val % 512, Nat.mod_lt _ (by decide)⟩ (y 2))
def oTgt1 (Q : S2048x1024.Idx → F .bf16) (K V : S8x2048x128.Idx → F .f32) (W : S1024x1024.Idx → F .bf16) (O : S1x2048x1024.Idx → F .f32) : S1x2048x1024.Idx → F .f32 := fun y =>
  oTile1 ⟨(y 1).val / 512, by rw [trips4]; have : (y 1).val < 2048 := (y 1).isLt; omega⟩ Q K V W (oRows O ((y 1).val / 512)) (ix3 0 ⟨(y 1).val % 512, Nat.mod_lt _ (by decide)⟩ (y 2))

/-! ## What a trip's stores leave -/

/-- The two stores of a projection's trip: rows `512 t …` hold the target, the others are as they were. -/
theorem q_step (t : ℕ) (ht : t < 4) (X : S2048x1024.Idx → F .bf16) (A C : Vec F S1x1024x512 .bf16) (f : qM.view.ty.Contents (Elt F))
    (o1 o2 : Fin S2048x1024.rank → ℕ) (inb1 : ∀ a, o1 a + S512x512.size a ≤ S2048x1024.size a) (inb2 : ∀ a, o2 a + S512x512.size a ≤ S2048x1024.size a)
    (h1 : o1 = ![512 * t, 0]) (h2 : o2 = ![512 * t, 512]) (vx : Vec F S512x1024 .bf16) (hx : vx = xbRows X t) (va vc : Vec F S1x1024x512 .bf16) (ha : va = A) (hc : vc = C)
    (hf : ∀ y : S2048x1024.Idx, (y 0).val < 512 * t → f y = qTgt X A C y) :
    ∀ y : S2048x1024.Idx, (y 0).val < 512 * (t + 1) →
      qM.view.writes (Elt F) f [⟨Rect.unit (s := S2048x1024) o2 S512x512.size inb2, k0_pay28 vx vc⟩, ⟨Rect.unit (s := S2048x1024) o1 S512x512.size inb1, k0_pay27 vx va⟩] y = qTgt X A C y := by
  subst hx ha hc; intro y hy
  have hy0 : (y 0).val < 2048 := (y 0).isLt
  have hy1 : (y 1).val < 1024 := (y 1).isLt
  refine (congrFun (View.read_whole (Val := Elt F) cc0_scratch6 _) y).symm.trans ?_
  rcases Nat.lt_or_ge (y 0).val (512 * t) with hlt | hge
  · rw [View.read_writes_cons_unit_of_not_mem qM.view f inb2 _ _ y h2 0 (Or.inl hlt), View.read_writes_cons_unit_of_not_mem qM.view f inb1 _ _ y h1 0 (Or.inl hlt)]
    exact hf y hlt
  · have hq : (y 0).val / 512 = t := by omega
    rcases Nat.lt_or_ge (y 1).val 512 with hc | hc
    · rw [View.read_writes_cons_unit_of_not_mem qM.view f inb2 _ _ y h2 1 (Or.inl hc)]
      refine (View.read_writes_cons_unit_of_mem qM.view f inb1 _ _ y (ix2 ⟨(y 0).val % 512, Nat.mod_lt _ (by decide)⟩ ⟨(y 1).val, hc⟩) h1 (fun a => ?_)).trans ?_
      · match a with
        | ⟨0, _⟩ => show (y 0).val = 512 * t + (y 0).val % 512; omega
        | ⟨1, _⟩ => show (y 1).val = 0 + (y 1).val; omega
      · unfold qTgt; rw [dif_pos hc, hq]
    · refine (View.read_writes_cons_unit_of_mem qM.view f inb2 _ _ y (ix2 ⟨(y 0).val % 512, Nat.mod_lt _ (by decide)⟩ ⟨(y 1).val - 512, by omega⟩) h2 (fun a => ?_)).trans ?_
      · match a with
        | ⟨0, _⟩ => show (y 0).val = 512 * t + (y 0).val % 512; omega
        | ⟨1, _⟩ => show (y 1).val = 512 + ((y 1).val - 512); omega
      · unfold qTgt; rw [dif_neg (Nat.not_lt.mpr hc), hq]

/-- The one store of an attention trip: row `i` of block `t` holds the block's row, the others are as they were. -/
theorem o_step_mem (t : ℕ) (ht : t < 4) (w : Vec F S1x512x1024 .f32) (f : oM.view.ty.Contents (Elt F))
    (o1 : Fin S1x2048x1024.rank → ℕ) (inb1 : ∀ a, o1 a + S1x512x1024.size a ≤ S1x2048x1024.size a) (h1 : o1 = ![0, 512 * t, 0])
    (y : S1x2048x1024.Idx) (hy : (y 1).val / 512 = t) :
    oM.view.writes (Elt F) f [⟨Rect.unit (s := S1x2048x1024) o1 S1x512x1024.size inb1, w⟩] y = w (ix3 0 ⟨(y 1).val % 512, Nat.mod_lt _ (by decide)⟩ (y 2)) := by
  refine (congrFun (View.read_whole (Val := Elt F) cc0_stg3_0 _) y).symm.trans ?_
  refine View.read_writes_cons_unit_of_mem oM.view f inb1 _ _ y (ix3 0 ⟨(y 1).val % 512, Nat.mod_lt _ (by decide)⟩ (y 2)) h1 (fun a => ?_)
  match a with
  | ⟨0, _⟩ => show (y 0).val = 0 + 0; have : (y 0).val < 1 := (y 0).isLt; omega
  | ⟨1, _⟩ => show (y 1).val = 512 * t + (y 1).val % 512; omega
  | ⟨2, _⟩ => show (y 2).val = 0 + (y 2).val; omega
theorem o_step_not_mem (t : ℕ) (w : Vec F S1x512x1024 .f32) (f : oM.view.ty.Contents (Elt F))
    (o1 : Fin S1x2048x1024.rank → ℕ) (inb1 : ∀ a, o1 a + S1x512x1024.size a ≤ S1x2048x1024.size a) (h1 : o1 = ![0, 512 * t, 0])
    (y : S1x2048x1024.Idx) (hy : (y 1).val / 512 ≠ t) :
    oM.view.writes (Elt F) f [⟨Rect.unit (s := S1x2048x1024) o1 S1x512x1024.size inb1, w⟩] y = f y := by
  refine (congrFun (View.read_whole (Val := Elt F) cc0_stg3_0 _) y).symm.trans ?_
  refine (View.read_writes_cons_unit_of_not_mem oM.view f inb1 _ _ y h1 1 ?_).trans rfl
  show (y 1).val < 512 * t ∨ 512 * t + 512 ≤ (y 1).val
  omega

/-! ## The trips -/

/-- What the core holds of the buffers a projection reads and writes, before trip `k`: the activations, a slot of each
    half's weights (at any share), and the query buffer whose first `512 k` rows hold the target. -/
def projInv1 (c : Dev nD) (q : PosShare TreeShare) (X : S2048x1024.Idx → F .bf16) (A C : S2x1024x512.Idx → F .bf16) (k : ℕ) (_ : Unit) : sProp 𝕄 :=
  iprop((xbM.view.loc (c : Thread nD τ) ↦[xbM.view.set]{fullShare} X) ∗ winPts (F := F) aS0 c q A ∗ winPts (F := F) cS0 c q C
    ∗ (∃ f, (qM.view.loc (c : Thread nD τ) ↦[qM.view.set]{fullShare} f) ∗ ⌜∀ y : S2048x1024.Idx, (y 0).val < 512 * k → f y = qTgt X (slotQ A 0) (slotQ C 0) y⌝))
def projInv3 (c : Dev nD) (q : PosShare TreeShare) (X : S2048x1024.Idx → F .bf16) (A C : S2x1024x512.Idx → F .bf16) (k : ℕ) (_ : Unit) : sProp 𝕄 :=
  iprop((xbM.view.loc (c : Thread nD τ) ↦[xbM.view.set]{fullShare} X) ∗ winPts (F := F) aS1 c q A ∗ winPts (F := F) cS1 c q C
    ∗ (∃ f, (qM.view.loc (c : Thread nD τ) ↦[qM.view.set]{fullShare} f) ∗ ⌜∀ y : S2048x1024.Idx, (y 0).val < 512 * k → f y = qTgt X (slotQ A 1) (slotQ C 1) y⌝))
/-- The same for the attention blocks: queries, keys, values and output weights, and the result whose first `512 k` rows hold the target. -/
def attInv2 (c : Dev nD) (Q : S2048x1024.Idx → F .bf16) (K V : S8x2048x128.Idx → F .f32) (Wt : S1024x1024.Idx → F .bf16) (k : ℕ) (_ : Unit) : sProp 𝕄 :=
  iprop((wofM.view.loc (c : Thread nD τ) ↦[wofM.view.set]{fullShare} Wt) ∗ (qM.view.loc (c : Thread nD τ) ↦[qM.view.set]{fullShare} Q)
    ∗ (kbM.view.loc (c : Thread nD τ) ↦[kbM.view.set]{fullShare} K) ∗ (vbM.view.loc (c : Thread nD τ) ↦[vbM.view.set]{fullShare} V)
    ∗ (∃ f, (oM.view.loc (c : Thread nD τ) ↦[oM.view.set]{fullShare} f) ∗ ⌜∀ y : S1x2048x1024.Idx, (y 1).val < 512 * k → f y = oTgt0 Q K V Wt y⌝))
/-- On hop 1 the rows not yet reached still hold what hop 0 left, `O`. -/
def attInv4 (c : Dev nD) (Q : S2048x1024.Idx → F .bf16) (K V : S8x2048x128.Idx → F .f32) (Wt : S1024x1024.Idx → F .bf16) (O : S1x2048x1024.Idx → F .f32) (k : ℕ) (_ : Unit) : sProp 𝕄 :=
  iprop((wofM.view.loc (c : Thread nD τ) ↦[wofM.view.set]{fullShare} Wt) ∗ (qM.view.loc (c : Thread nD τ) ↦[qM.view.set]{fullShare} Q)
    ∗ (kbM.view.loc (c : Thread nD τ) ↦[kbM.view.set]{fullShare} K) ∗ (vbM.view.loc (c : Thread nD τ) ↦[vbM.view.set]{fullShare} V)
    ∗ (∃ f, (oM.view.loc (c : Thread nD τ) ↦[oM.view.set]{fullShare} f) ∗ ⌜∀ y : S1x2048x1024.Idx, f y = if (y 1).val < 512 * k then oTgt1 Q K V Wt O y else O y⌝))

theorem t1_trip (c d0 : Dev nD) (E : Set ℕ) (q : PosShare TreeShare) (X : S2048x1024.Idx → F .bf16) (A C : S2x1024x512.Idx → F .bf16) (k : Fin k0_t1_loop.trips) :
    projInv1 c q X A C k.val () ⊢ wp (M := 𝕄) frame (wpE 𝒟 𝒱₀ (c : Thread nD τ) none) E (t1B d0 k ()) (projInv1 c q X A C (k.val + 1)) := by
  have hk : k.val < 4 := Nat.lt_of_lt_of_le k.isLt k0_t1_abs.2.1
  unfold t1B k0_t1_body projInv1
  iintro ⟨HX, HA, HC, %f, HQ, %hf⟩
  sl_exec
  sl_step
  isplitl [HX]; · iexact HX
  isplitl [HA]; · iexact HA
  isplitl [HC]; · iexact HC
  iexists _
  isplitl [HQ]; · iexact HQ
  ipureintro
  exact q_step k.val hk X (slotQ A 0) (slotQ C 0) f _ _ (k0_off3_inb k) (k0_off4_inb k) (k0_off3_eq k) (k0_off4_eq k)
    _ (read_x k.val hk _ (k0_off2_inb k) (k0_off2_eq k) X) _ _ (read_a0 _ inb_S2x1024x512_S1x1024x512_0_0_0 rfl A) (read_c0 _ inb_S2x1024x512_S1x1024x512_0_0_0 rfl C) hf

theorem t3_trip (c d0 : Dev nD) (E : Set ℕ) (q : PosShare TreeShare) (X : S2048x1024.Idx → F .bf16) (A C : S2x1024x512.Idx → F .bf16) (k : Fin k0_t3_loop.trips) :
    projInv3 c q X A C k.val () ⊢ wp (M := 𝕄) frame (wpE 𝒟 𝒱₀ (c : Thread nD τ) none) E (t3B d0 k ()) (projInv3 c q X A C (k.val + 1)) := by
  have hk : k.val < 4 := Nat.lt_of_lt_of_le k.isLt k0_t3_abs.2.1
  unfold t3B k0_t3_body projInv3
  iintro ⟨HX, HA, HC, %f, HQ, %hf⟩
  sl_exec
  sl_step
  isplitl [HX]; · iexact HX
  isplitl [HA]; · iexact HA
  isplitl [HC]; · iexact HC
  iexists _
  isplitl [HQ]; · iexact HQ
  ipureintro
  exact q_step k.val hk X (slotQ A 1) (slotQ C 1) f _ _ (k0_off23_inb k) (k0_off24_inb k) (k0_off23_eq k) (k0_off24_eq k)
    _ (read_x k.val hk _ (k0_off22_inb k) (k0_off22_eq k) X) _ _ (read_a1 _ inb_S2x1024x512_S1x1024x512_1_0_0 rfl A) (read_c1 _ inb_S2x1024x512_S1x1024x512_1_0_0 rfl C) hf

theorem t2_trip (c : Dev nD) (d0 : Dev nD) (v7 : BitVec 32) (E : Set ℕ) (Q : S2048x1024.Idx → F .bf16) (K V : S8x2048x128.Idx → F .f32) (Wt : S1024x1024.Idx → F .bf16) (k : Fin k0_t2_loop.trips) :
    attInv2 c Q K V Wt k.val () ⊢ wp (M := 𝕄) frame (wpE 𝒟 𝒱₀ (c : Thread nD τ) none) E (t2B d0 v7 k ()) (attInv2 c Q K V Wt (k.val + 1)) := by
  have hk : k.val < 4 := Nat.lt_of_lt_of_le k.isLt k0_t2_abs.2.1
  have e : oTile0 k Q K V Wt = oTile0 k Q K V Wt := rfl
  conv at e =>
    lhs
    unfold oTile0
    rw [← read_q k.val 0 hk (by decide) _ (k0_off5_inb k) (off_q2_0 k) Q,
      ← read_k k.val 0 _ (k0_off6_inb k) (off_k2_0 k) K,
      ← read_v k.val 0 _ (k0_off6_inb k) (off_k2_0 k) V,
      ← read_q k.val 1 hk (by decide) _ (k0_off7_inb k) (off_q2_1 k) Q,
      ← read_k k.val 1 _ (k0_off8_inb k) (off_k2_1 k) K,
      ← read_v k.val 1 _ (k0_off8_inb k) (off_k2_1 k) V,
      ← read_q k.val 2 hk (by decide) _ (k0_off9_inb k) (off_q2_2 k) Q,
      ← read_k k.val 2 _ (k0_off10_inb k) (off_k2_2 k) K,
      ← read_v k.val 2 _ (k0_off10_inb k) (off_k2_2 k) V,
      ← read_q k.val 3 hk (by decide) _ (k0_off11_inb k) (off_q2_3 k) Q,
      ← read_k k.val 3 _ (k0_off12_inb k) (off_k2_3 k) K,
      ← read_v k.val 3 _ (k0_off12_inb k) (off_k2_3 k) V,
      ← read_q k.val 4 hk (by decide) _ (k0_off13_inb k) (off_q2_4 k) Q,
      ← read_k k.val 4 _ (k0_off14_inb k) (off_k2_4 k) K,
      ← read_v k.val 4 _ (k0_off14_inb k) (off_k2_4 k) V,
      ← read_q k.val 5 hk (by decide) _ (k0_off15_inb k) (off_q2_5 k) Q,
      ← read_k k.val 5 _ (k0_off16_inb k) (off_k2_5 k) K,
      ← read_v k.val 5 _ (k0_off16_inb k) (off_k2_5 k) V,
      ← read_q k.val 6 hk (by decide) _ (k0_off17_inb k) (off_q2_6 k) Q,
      ← read_k k.val 6 _ (k0_off18_inb k) (off_k2_6 k) K,
      ← read_v k.val 6 _ (k0_off18_inb k) (off_k2_6 k) V,
      ← read_q k.val 7 hk (by decide) _ (k0_off19_inb k) (off_q2_7 k) Q,
      ← read_k k.val 7 _ (k0_off20_inb k) (off_k2_7 k) K,
      ← read_v k.val 7 _ (k0_off20_inb k) (off_k2_7 k) V,
      ← read_wof _ inb_S1024x1024_S1024x1024_0_0 rfl Wt]
  unfold t2B k0_t2_body attInv2
  iintro ⟨HW, HQ, HK, HV, %f, HO, %hf⟩
  sl_exec
  sl_step
  isplitl [HW]; · iexact HW
  isplitl [HQ]; · iexact HQ
  isplitl [HK]; · iexact HK
  isplitl [HV]; · iexact HV
  iexists _
  isplitl [HO]; · iexact HO
  ipureintro
  intro y hy
  by_cases hb : (y 1).val / 512 = k.val
  · refine (o_step_mem k.val hk _ f _ (k0_off21_inb k) (k0_off21_eq k) y hb).trans ?_
    have hk' : k = ⟨(y 1).val / 512, by rw [trips2]; have : (y 1).val < 2048 := (y 1).isLt; omega⟩ := Fin.ext hb.symm
    refine (congrFun e _).trans ?_
    unfold oTgt0
    rw [← hk']
  · refine (o_step_not_mem k.val _ f _ (k0_off21_inb k) (k0_off21_eq k) y hb).trans (hf y ?_)
    omega

theorem t4_trip (c : Dev nD) (E : Set ℕ) (Q : S2048x1024.Idx → F .bf16) (K V : S8x2048x128.Idx → F .f32) (Wt : S1024x1024.Idx → F .bf16) (O : S1x2048x1024.Idx → F .f32) (k : Fin k0_t4_loop.trips) :
    attInv4 c Q K V Wt O k.val () ⊢ wp (M := 𝕄) frame (wpE 𝒟 𝒱₀ (c : Thread nD τ) none) E (t4B k ()) (attInv4 c Q K V Wt O (k.val + 1)) := by
  have hk : k.val < 4 := Nat.lt_of_lt_of_le k.isLt k0_t4_abs.2.1
  have e : oTile1 k Q K V Wt (oRows O k.val) = oTile1 k Q K V Wt (oRows O k.val) := rfl
  conv at e =>
    lhs
    unfold oTile1
    rw [← read_q k.val 0 hk (by decide) _ (k0_off25_inb k) (off_q4_0 k) Q,
      ← read_k k.val 0 _ (k0_off26_inb k) (off_k4_0 k) K,
      ← read_v k.val 0 _ (k0_off26_inb k) (off_k4_0 k) V,
      ← read_q k.val 1 hk (by decide) _ (k0_off27_inb k) (off_q4_1 k) Q,
      ← read_k k.val 1 _ (k0_off28_inb k) (off_k4_1 k) K,
      ← read_v k.val 1 _ (k0_off28_inb k) (off_k4_1 k) V,
      ← read_q k.val 2 hk (by decide) _ (k0_off29_inb k) (off_q4_2 k) Q,
      ← read_k k.val 2 _ (k0_off30_inb k) (off_k4_2 k) K,
      ← read_v k.val 2 _ (k0_off30_inb k) (off_k4_2 k) V,
      ← read_q k.val 3 hk (by decide) _ (k0_off31_inb k) (off_q4_3 k) Q,
      ← read_k k.val 3 _ (k0_off32_inb k) (off_k4_3 k) K,
      ← read_v k.val 3 _ (k0_off32_inb k) (off_k4_3 k) V,
      ← read_q k.val 4 hk (by decide) _ (k0_off33_inb k) (off_q4_4 k) Q,
      ← read_k k.val 4 _ (k0_off34_inb k) (off_k4_4 k) K,
      ← read_v k.val 4 _ (k0_off34_inb k) (off_k4_4 k) V,
      ← read_q k.val 5 hk (by decide) _ (k0_off35_inb k) (off_q4_5 k) Q,
      ← read_k k.val 5 _ (k0_off36_inb k) (off_k4_5 k) K,
      ← read_v k.val 5 _ (k0_off36_inb k) (off_k4_5 k) V,
      ← read_q k.val 6 hk (by decide) _ (k0_off37_inb k) (off_q4_6 k) Q,
      ← read_k k.val 6 _ (k0_off38_inb k) (off_k4_6 k) K,
      ← read_v k.val 6 _ (k0_off38_inb k) (off_k4_6 k) V,
      ← read_q k.val 7 hk (by decide) _ (k0_off39_inb k) (off_q4_7 k) Q,
      ← read_k k.val 7 _ (k0_off40_inb k) (off_k4_7 k) K,
      ← read_v k.val 7 _ (k0_off40_inb k) (off_k4_7 k) V,
      ← read_wof _ inb_S1024x1024_S1024x1024_0_0 rfl Wt]
  unfold t4B k0_t4_body attInv4
  iintro ⟨HW, HQ, HK, HV, %f, HO, %hf⟩
  sl_exec
  sl_step
  isplitl [HW]; · iexact HW
  isplitl [HQ]; · iexact HQ
  isplitl [HK]; · iexact HK
  isplitl [HV]; · iexact HV
  iexists _
  isplitl [HO]; · iexact HO
  ipureintro
  intro y
  by_cases hb : (y 1).val / 512 = k.val
  · have hrow : oRows f k.val = oRows O k.val := funext fun i => by
      refine (hf _).trans (if_neg ?_)
      have : (i 1).val < 512 := (i 1).isLt
      show ¬ (512 * k.val + (i 1).val) % 2048 < 512 * k.val
      omega
    rw [← hrow, ← read_o k.val hk _ (k0_off41_inb k) (k0_off41_eq k) f] at e
    refine (o_step_mem k.val hk _ f _ (k0_off41_inb k) (k0_off41_eq k) y hb).trans ?_
    have hk' : k = ⟨(y 1).val / 512, by rw [trips4]; have : (y 1).val < 2048 := (y 1).isLt; omega⟩ := Fin.ext hb.symm
    refine (congrFun e _).trans ?_
    rw [if_pos (by omega)]
    unfold oTgt1
    rw [← hk', hb, read_o k.val hk _ (k0_off41_inb k) (k0_off41_eq k) f, hrow]
  · refine (o_step_not_mem k.val _ f _ (k0_off41_inb k) (k0_off41_eq k) y hb).trans ((hf y).trans ?_)
    rcases Nat.lt_or_ge (y 1).val (512 * k.val) with h | h
    · rw [if_pos h, if_pos (by omega)]
    · rw [if_neg (by omega), if_neg (by omega)]

end Cert.KernelIdeal.Slice

end
-- ==== Proof.Soft.lean ====
module

public import Idealize.ShloMosaic.PureOps.Ideal

@[expose] public section

noncomputable section

namespace Cert.Soft

open Idealize.ShloMosaic

/-! # A softmax's mean over the extended reals

The weights are real, the values any extended reals. -/

variable {ι κ : Type} [Fintype ι] [Fintype κ]

/-- A common nonnegative real factor comes out of a sum of extended reals. -/
theorem sum_mul_real (s : Finset ι) (f : ι → EReal) (r : ℝ) (hr : 0 ≤ r) : (∑ i ∈ s, f i) * (r : EReal) = ∑ i ∈ s, f i * (r : EReal) := by
  classical
  induction s using Finset.induction with
  | empty => simp
  | insert a s ha ih => rw [Finset.sum_insert ha, Finset.sum_insert ha, ← ih, EReal.right_distrib_of_nonneg_of_ne_top (EReal.coe_nonneg.mpr hr) (EReal.coe_ne_top r)]

/-- A sum of reals is real. -/
theorem coe_sum (s : Finset ι) (f : ι → ℝ) : ((∑ i ∈ s, f i : ℝ) : EReal) = ∑ i ∈ s, (f i : EReal) := by
  classical
  induction s using Finset.induction with
  | empty => simp
  | insert a s ha ih => rw [Finset.sum_insert ha, Finset.sum_insert ha, ← ih, EReal.coe_add]

/-- The quotient by a positive real. -/
theorem div_real (a : EReal) (r : ℝ) (hr : 0 < r) : Ideal.div a (r : EReal) = a * ((r⁻¹ : ℝ) : EReal) := by
  unfold Ideal.div
  rw [if_neg (by exact_mod_cast hr.ne'), EReal.coe_inv]

/-- The weight of a key of score `s` where the mask is `p`, unshifted. -/
def wt (p : Prop) [Decidable p] (s : ℝ) : ℝ := if p then Real.exp s else 0

/-- The mean of the values `v` under the masked weights of the scores `s`. -/
def mean (p : ι → Prop) [DecidablePred p] (s : ι → ℝ) (v : ι → EReal) : EReal :=
  ∑ k, v k * ((wt (p k) (s k) / ∑ j, wt (p j) (s j) : ℝ) : EReal)

theorem wt_nonneg (p : Prop) [Decidable p] (s : ℝ) : 0 ≤ wt p s := by unfold wt; split <;> positivity

theorem wt_pos (p : ι → Prop) [DecidablePred p] (s : ι → ℝ) (k : ι) (hk : p k) : 0 < ∑ j, wt (p j) (s j) :=
  Finset.sum_pos' (fun j _ => wt_nonneg _ _) ⟨k, Finset.mem_univ _, by unfold wt; rw [if_pos hk]; exact Real.exp_pos _⟩

/-- The weight as the exponential of a score plus a bias that is 0 or −∞. -/
theorem exp_bias (p : Prop) [Decidable p] (s : ℝ) (b : EReal) (hb : b = if p then 0 else ⊥) : Ideal.exp ((s : EReal) + b) = (wt p s : EReal) := by
  subst hb; unfold wt; split
  · rw [add_zero]; rfl
  · rw [EReal.add_bot]; rfl

/-- The unnormalised sum divided by the weights' sum, over the keys of a window that holds every key the mask keeps. -/
theorem window_mean (p : ι → Prop) [DecidablePred p] (s : ι → ℝ) (v : ι → EReal) (k : ι) (hk : p k) (w : κ → ι) (hw : Function.Injective w) (hp : ∀ i, p i → ∃ j, w j = i) :
    Ideal.div (∑ j, (wt (p (w j)) (s (w j)) : EReal) * v (w j)) (∑ j, (wt (p (w j)) (s (w j)) : EReal)) = mean p s v := by
  classical
  have h1 : ∀ f : ι → EReal, (∀ i, ¬ p i → f i = 0) → ∑ j, f (w j) = ∑ i, f i := by
    intro f hf
    rw [← Finset.sum_image (f := f) (s := Finset.univ) (g := w) (fun a _ b _ h => hw h)]
    refine Finset.sum_subset (Finset.subset_univ _) (fun i _ hi => hf i fun hpi => hi ?_)
    obtain ⟨j, hj⟩ := hp i hpi
    exact Finset.mem_image.mpr ⟨j, Finset.mem_univ _, hj⟩
  have hz : ∀ i, ¬ p i → wt (p i) (s i) = 0 := fun i hi => by unfold wt; rw [if_neg hi]
  rw [h1 (fun i => (wt (p i) (s i) : EReal) * v i) (fun i hi => by simp only [hz i hi, EReal.coe_zero, zero_mul]),
    h1 (fun i => (wt (p i) (s i) : EReal)) (fun i hi => by simp only [hz i hi, EReal.coe_zero]), ← coe_sum, div_real _ _ (wt_pos p s k hk),
    sum_mul_real _ _ _ (inv_nonneg.mpr (wt_pos p s k hk).le)]
  unfold mean
  refine Finset.sum_congr rfl fun i _ => ?_
  rw [mul_comm (wt (p i) (s i) : EReal), mul_assoc, ← EReal.coe_mul, div_eq_mul_inv]

/-- The masked scores. -/
def msc (p : Prop) [Decidable p] (s : ℝ) : EReal := if p then (s : EReal) else ⊥

/-- The same mean by weights shifted by the greatest score. -/
theorem shifted_mean (p : ι → Prop) [DecidablePred p] (s : ι → ℝ) (v : ι → EReal) (k : ι) (hk : p k) (M : EReal)
    (hM : ∀ i, msc (p i) (s i) ≤ M) (hM' : ∃ i, M = msc (p i) (s i)) :
    ∑ i, v i * Ideal.div (Ideal.exp (msc (p i) (s i) - M)) (∑ j, Ideal.exp (msc (p j) (s j) - M)) = mean p s v := by
  obtain ⟨r, rfl⟩ : ∃ r : ℝ, M = (r : EReal) := by
    obtain ⟨i, hi⟩ := hM'
    have h := hM k
    unfold msc at h hi
    rw [if_pos hk] at h
    split at hi
    · exact ⟨_, hi⟩
    · rw [hi] at h; exact absurd (le_bot_iff.mp h) (EReal.coe_ne_bot _)
  have he : ∀ i, Ideal.exp (msc (p i) (s i) - (r : EReal)) = ((wt (p i) (s i) * Real.exp (-r) : ℝ) : EReal) := by
    intro i; unfold msc wt; split
    · rw [← EReal.coe_sub, ← Real.exp_add, ← sub_eq_add_neg]; rfl
    · rw [EReal.bot_sub, zero_mul]; rfl
  simp only [he]
  rw [← coe_sum]
  have hS : 0 < ∑ j, wt (p j) (s j) * Real.exp (-r) := by rw [← Finset.sum_mul]; exact mul_pos (wt_pos p s k hk) (Real.exp_pos _)
  unfold mean
  refine Finset.sum_congr rfl fun i _ => ?_
  rw [div_real _ _ hS, ← EReal.coe_mul, ← Finset.sum_mul]
  congr 2
  have := (Real.exp_pos (-r)).ne'
  have := (wt_pos p s k hk).ne'
  field_simp

end Cert.Soft

end
-- ==== Proof.Word.lean ====
module

public import Idealize.ShloMosaic.Lib.WordCmp

@[expose] public section

noncomputable section

namespace Cert.Soft

open Idealize.ShloMosaic

/-- Positions within the sliding window of each other. -/
def near (a b : ℕ) : Prop := a ≤ b + 128 ∧ b ≤ a + 128

instance (a b : ℕ) : Decidable (near a b) := by unfold near; infer_instance

/-- A difference of two small naturals, taken in words, is at most 128 in absolute value just when each is within 128 of the other. -/
theorem near_word (a b : ℕ) (ha : a < 4096) (hb : b < 4096) :
    IntOp.cmpi .sle (IntOp.absi (IntOp.subi (BitVec.ofNat 32 a) (BitVec.ofNat 32 b))) 128#32 = BitVec.ofBool (decide (near a b)) := by
  have key : ∀ n : ℕ, n < 4096 → (n ≤ 128 ↔ near a b) → IntOp.cmpi .sle (BitVec.ofNat 32 n) 128#32 = BitVec.ofBool (decide (near a b)) := by
    intro n hn h
    rw [Idealize.ShloMosaic.WordCmp.cmpi_sle_ofNat (w := 32) (a := n) (b := 128) (by omega) (by omega)]
    congr 1
    exact decide_eq_decide.mpr h
  have hms : ∀ n : ℕ, n < 4096 → (BitVec.ofNat 32 n).msb = false := by
    intro n hn
    rw [BitVec.msb_eq_false_iff_two_mul_lt, BitVec.toNat_ofNat, Nat.mod_eq_of_lt (by omega)]
    omega
  unfold near at *
  rcases Nat.lt_or_ge a b with h | h
  · have e : IntOp.subi (BitVec.ofNat 32 a) (BitVec.ofNat 32 b) = - BitVec.ofNat 32 (b - a) := by
      apply BitVec.eq_of_toNat_eq
      simp only [IntOp.subi, BitVec.toNat_sub, BitVec.toNat_neg, BitVec.toNat_ofNat]
      omega
    have e2 : (- BitVec.ofNat 32 (b - a)).msb = true := by
      rw [BitVec.msb_eq_true_iff_two_mul_ge, BitVec.toNat_neg, BitVec.toNat_ofNat]
      omega
    rw [e, IntOp.absi, if_pos e2, BitVec.neg_neg, key _ (by omega) (by omega)]
  · have e : IntOp.subi (BitVec.ofNat 32 a) (BitVec.ofNat 32 b) = BitVec.ofNat 32 (a - b) := by
      apply BitVec.eq_of_toNat_eq
      simp only [IntOp.subi, BitVec.toNat_sub, BitVec.toNat_ofNat]
      omega
    rw [e, IntOp.absi, if_neg (by rw [hms _ (by omega)]; decide), key _ (by omega) (by omega)]

end Cert.Soft

end
-- ==== Proof.Spec.lean ====
module

public import proofs.«01_k».proof.Proof.Soft
public import proofs.«01_k».proof.Proof.Word

@[expose] public section

noncomputable section

namespace Cert.Soft

open Idealize.ShloMosaic

/-! # One head's part of one entry of the result -/

/-- The scale of the scores is real. -/
theorem scale_real : ∃ r : ℝ, Ideal.ofBits .f32 0x3DB504F3#32 = (r : EReal) := by
  simp only [Ideal.ofBits, Ideal.ieee]
  split <;> first | exact ⟨_, rfl⟩ | skip
  all_goals (split <;> first | exact ⟨_, rfl⟩ | skip)
  all_goals simp_all

/-- The scale. -/
def scale : ℝ := (Ideal.ofBits .f32 0x3DB504F3#32).toReal

theorem scale_eq : Ideal.ofBits .f32 0x3DB504F3#32 = (scale : EReal) := by
  obtain ⟨r, hr⟩ := scale_real
  unfold scale; rw [hr, EReal.toReal_coe]

/-- The scaled score of a query row `x`, one head's query weights `w` and a key `k`. -/
def score (x : Fin 1024 → ℝ) (w : Fin 1024 → Fin 128 → ℝ) (k : Fin 128 → ℝ) : ℝ := (∑ d, (∑ e, x e * w e d) * k d) * scale

/-- Scaled after the products. -/
theorem score_after (x : Fin 1024 → ℝ) (w : Fin 1024 → Fin 128 → ℝ) (k : Fin 128 → ℝ) :
    (∑ d, (∑ e, (x e : EReal) * (w e d : EReal)) * (k d : EReal)) * (scale : EReal) = (score x w k : EReal) := by
  simp only [← EReal.coe_mul, ← coe_sum]; rfl

/-- Scaled at the weights. -/
theorem score_before (x : Fin 1024 → ℝ) (w : Fin 1024 → Fin 128 → ℝ) (k : Fin 128 → ℝ) :
    ∑ d, (∑ e, (x e : EReal) * ((w e d : EReal) * (scale : EReal))) * (k d : EReal) = (score x w k : EReal) := by
  simp only [← EReal.coe_mul, ← coe_sum]
  congr 1
  unfold score
  rw [Finset.sum_mul]
  refine Finset.sum_congr rfl fun d _ => ?_
  rw [Finset.sum_mul, Finset.sum_mul, Finset.sum_mul]
  exact Finset.sum_congr rfl fun e _ => by ring

/-- Head `h`'s part of entry `(b, i, n)` of the result: its context, the mean of the values near row `i`, against its rows of the output weights. -/
def part (X : Fin 4 → Fin 2048 → Fin 1024 → ℝ) (W : Fin 1024 → Fin 32 → Fin 128 → ℝ) (K : Fin 4 → Fin 2048 → Fin 32 → Fin 128 → ℝ)
    (V : Fin 4 → Fin 2048 → Fin 32 → Fin 128 → EReal) (O : Fin 32 → Fin 128 → Fin 1024 → EReal) (b : Fin 4) (i : Fin 2048) (n : Fin 1024) (h : Fin 32) : EReal :=
  ∑ d, mean (fun j : Fin 2048 => near i.val j.val) (fun j => score (X b i) (fun e d => W e h d) (K b j h)) (fun j => V b j h d) * O h d n

/-- Head `l` of the eight of device `b`; and of the eight that two halves bring it, from the left neighbour below 4 and from the right one from 4 on. -/
def own (b : Fin 4) (l : Fin 8) : Fin 32 := ⟨8 * b.val + l.val, by omega⟩
def brought (b : Fin 4) (l : Fin 8) : Fin 32 := if l.val < 4 then ⟨8 * ((b.val + 3) % 4) + l.val, by omega⟩ else ⟨8 * ((b.val + 1) % 4) + l.val, by omega⟩

/-- The heads whose parts device `b` adds up. -/
def taken (b : Fin 4) (h : Fin 32) : Bool :=
  h.val / 8 == b.val || (h.val / 8 == (b.val + 3) % 4 && decide (h.val % 8 < 4)) || (h.val / 8 == (b.val + 1) % 4 && decide (4 ≤ h.val % 8))

/-- The same of the slice that begins across the ring: the eight heads two devices on, and those that its two halves
    bring, from the right neighbour's below 4 and the left one's from 4 on. -/
def across (b : Fin 4) (l : Fin 8) : Fin 32 := ⟨8 * ((b.val + 2) % 4) + l.val, by omega⟩
def far (b : Fin 4) (l : Fin 8) : Fin 32 := if l.val < 4 then ⟨8 * ((b.val + 1) % 4) + l.val, by omega⟩ else ⟨8 * ((b.val + 3) % 4) + l.val, by omega⟩

/-- The heads of the slice between: those brought, and those across the ring. -/
def between (b : Fin 4) (h : Fin 32) : Bool :=
  h.val / 8 == (b.val + 2) % 4 || (h.val / 8 == (b.val + 3) % 4 && decide (h.val % 8 < 4)) || (h.val / 8 == (b.val + 1) % 4 && decide (4 ≤ h.val % 8))

/-- A sum over chosen heads, by two lists of eight that hold each chosen head once. -/
theorem sum_two (t : Fin 32 → Bool) (p q : Fin 8 → Fin 32) (e : Finset.univ.filter (fun h => t h = true) = Finset.univ.image p ∪ Finset.univ.image q)
    (d : Disjoint (Finset.univ.image p) (Finset.univ.image q)) (i1 : Function.Injective p) (i2 : Function.Injective q) (f : Fin 32 → EReal) :
    ∑ h, (if t h then f h else 0) = ∑ l, f (p l) + ∑ l, f (q l) := by
  rw [← Finset.sum_filter, e, Finset.sum_union d, Finset.sum_image (fun _ _ _ _ h => i1 h), Finset.sum_image (fun _ _ _ _ h => i2 h)]

/-- A sum over the heads taken is the sum over the own ones and the sum over those brought; -/
theorem sum_taken (b : Fin 4) (f : Fin 32 → EReal) : ∑ h, (if taken b h then f h else 0) = ∑ l, f (own b l) + ∑ l, f (brought b l) :=
  sum_two _ _ _ (by revert b; decide) (by revert b; decide) (by revert b; decide) (by revert b; decide) f
/-- over the heads between, the sum over those brought and over those across the ring; -/
theorem sum_between (b : Fin 4) (f : Fin 32 → EReal) : ∑ h, (if between b h then f h else 0) = ∑ l, f (brought b l) + ∑ l, f (across b l) :=
  sum_two _ _ _ (by revert b; decide) (by revert b; decide) (by revert b; decide) (by revert b; decide) f
/-- and over the heads left, the sum over those across the ring and over those brought from there. -/
theorem sum_left (b : Fin 4) (f : Fin 32 → EReal) : ∑ h, (if !taken b h then f h else 0) = ∑ l, f (across b l) + ∑ l, f (far b l) :=
  sum_two (fun h => !taken b h) _ _ (by revert b; decide) (by revert b; decide) (by revert b; decide) (by revert b; decide) f

end Cert.Soft

end
-- ==== Proof.Wins.lean ====
module

public import proofs.«01_k».proof.Proof.Trips
public import proofs.«01_k».proof.Proof.Spec
public import Idealize.ShloMosaic.Lib.Batch
public import Idealize.ShloMosaic.Lib.Writes
public import Idealize.ShloMosaic.Lib.WritesUnit

@[expose] public section

noncomputable section

namespace Cert.KernelIdeal.Slice

open Cert.KernelIdeal Cert.KernelIdeal.Gen

open Idealize.ShloMosaic Idealize.ShloMosaic.Tactic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Soft (own brought)

variable {F : FTy → Type} [FloatOps F] [Named F]

local notation "𝕄" => MT nD τ sig Unit (Elt F) ℕ UU ℕ

/-- The head windows of the two key and value buffers. -/
abbrev kbW0 : Memref sig .tc .vmem S2048x128 .f32 := (kbM.slice (Rect.unit (s := S8x2048x128) ![0, 0, 0] S1x2048x128.size inb_S8x2048x128_S1x2048x128_0_0_0) (fun _ => rfl)).squeeze S2048x128 squeezes_S1x2048x128_S2048x128
abbrev kbW1 : Memref sig .tc .vmem S2048x128 .f32 := (kbM.slice (Rect.unit (s := S8x2048x128) ![1, 0, 0] S1x2048x128.size inb_S8x2048x128_S1x2048x128_1_0_0) (fun _ => rfl)).squeeze S2048x128 squeezes_S1x2048x128_S2048x128
abbrev kbW2 : Memref sig .tc .vmem S2048x128 .f32 := (kbM.slice (Rect.unit (s := S8x2048x128) ![2, 0, 0] S1x2048x128.size inb_S8x2048x128_S1x2048x128_2_0_0) (fun _ => rfl)).squeeze S2048x128 squeezes_S1x2048x128_S2048x128
abbrev kbW3 : Memref sig .tc .vmem S2048x128 .f32 := (kbM.slice (Rect.unit (s := S8x2048x128) ![3, 0, 0] S1x2048x128.size inb_S8x2048x128_S1x2048x128_3_0_0) (fun _ => rfl)).squeeze S2048x128 squeezes_S1x2048x128_S2048x128
abbrev kbW4 : Memref sig .tc .vmem S2048x128 .f32 := (kbM.slice (Rect.unit (s := S8x2048x128) ![4, 0, 0] S1x2048x128.size inb_S8x2048x128_S1x2048x128_4_0_0) (fun _ => rfl)).squeeze S2048x128 squeezes_S1x2048x128_S2048x128
abbrev kbW5 : Memref sig .tc .vmem S2048x128 .f32 := (kbM.slice (Rect.unit (s := S8x2048x128) ![5, 0, 0] S1x2048x128.size inb_S8x2048x128_S1x2048x128_5_0_0) (fun _ => rfl)).squeeze S2048x128 squeezes_S1x2048x128_S2048x128
abbrev kbW6 : Memref sig .tc .vmem S2048x128 .f32 := (kbM.slice (Rect.unit (s := S8x2048x128) ![6, 0, 0] S1x2048x128.size inb_S8x2048x128_S1x2048x128_6_0_0) (fun _ => rfl)).squeeze S2048x128 squeezes_S1x2048x128_S2048x128
abbrev kbW7 : Memref sig .tc .vmem S2048x128 .f32 := (kbM.slice (Rect.unit (s := S8x2048x128) ![7, 0, 0] S1x2048x128.size inb_S8x2048x128_S1x2048x128_7_0_0) (fun _ => rfl)).squeeze S2048x128 squeezes_S1x2048x128_S2048x128
abbrev vbW0 : Memref sig .tc .vmem S2048x128 .f32 := (vbM.slice (Rect.unit (s := S8x2048x128) ![0, 0, 0] S1x2048x128.size inb_S8x2048x128_S1x2048x128_0_0_0) (fun _ => rfl)).squeeze S2048x128 squeezes_S1x2048x128_S2048x128
abbrev vbW1 : Memref sig .tc .vmem S2048x128 .f32 := (vbM.slice (Rect.unit (s := S8x2048x128) ![1, 0, 0] S1x2048x128.size inb_S8x2048x128_S1x2048x128_1_0_0) (fun _ => rfl)).squeeze S2048x128 squeezes_S1x2048x128_S2048x128
abbrev vbW2 : Memref sig .tc .vmem S2048x128 .f32 := (vbM.slice (Rect.unit (s := S8x2048x128) ![2, 0, 0] S1x2048x128.size inb_S8x2048x128_S1x2048x128_2_0_0) (fun _ => rfl)).squeeze S2048x128 squeezes_S1x2048x128_S2048x128
abbrev vbW3 : Memref sig .tc .vmem S2048x128 .f32 := (vbM.slice (Rect.unit (s := S8x2048x128) ![3, 0, 0] S1x2048x128.size inb_S8x2048x128_S1x2048x128_3_0_0) (fun _ => rfl)).squeeze S2048x128 squeezes_S1x2048x128_S2048x128
abbrev vbW4 : Memref sig .tc .vmem S2048x128 .f32 := (vbM.slice (Rect.unit (s := S8x2048x128) ![4, 0, 0] S1x2048x128.size inb_S8x2048x128_S1x2048x128_4_0_0) (fun _ => rfl)).squeeze S2048x128 squeezes_S1x2048x128_S2048x128
abbrev vbW5 : Memref sig .tc .vmem S2048x128 .f32 := (vbM.slice (Rect.unit (s := S8x2048x128) ![5, 0, 0] S1x2048x128.size inb_S8x2048x128_S1x2048x128_5_0_0) (fun _ => rfl)).squeeze S2048x128 squeezes_S1x2048x128_S2048x128
abbrev vbW6 : Memref sig .tc .vmem S2048x128 .f32 := (vbM.slice (Rect.unit (s := S8x2048x128) ![6, 0, 0] S1x2048x128.size inb_S8x2048x128_S1x2048x128_6_0_0) (fun _ => rfl)).squeeze S2048x128 squeezes_S1x2048x128_S2048x128
abbrev vbW7 : Memref sig .tc .vmem S2048x128 .f32 := (vbM.slice (Rect.unit (s := S8x2048x128) ![7, 0, 0] S1x2048x128.size inb_S8x2048x128_S1x2048x128_7_0_0) (fun _ => rfl)).squeeze S2048x128 squeezes_S1x2048x128_S2048x128

/-! ## Where the windows lie -/

/-- A matrix index behind a unit axis in front. -/
theorem resh3 {a b : ℕ} (h : (⟨2, ![a, b]⟩ : Shape).numel = (⟨3, ![1, a, b]⟩ : Shape).numel) (z : (⟨2, ![a, b]⟩ : Shape).Idx) :
    Shape.reshapeEquiv h z = ix3 (a := 1) (b := a) (c := b) ⟨0, Nat.one_pos⟩ (z 0) (z 1) :=
  Shape.reshapeEquiv_eq_of_rowMajor h (by
    rw [Shape.rowMajor_val_three, Shape.rowMajor_val_two]
    show ((0 * a + (z 0).val) * b + (z 1).val) = (z 0).val * b + (z 1).val
    rw [Nat.zero_mul, Nat.zero_add])

/-- An index of four coordinates. -/
def ix4 {a b c d : ℕ} (i : Fin a) (j : Fin b) (k : Fin c) (l : Fin d) : Shape.Idx ⟨4, ![a, b, c, d]⟩ :=
  fun | ⟨0, _⟩ => i | ⟨1, _⟩ => j | ⟨2, _⟩ => k | ⟨3, _⟩ => l

/-- A matrix index with unit axes in front of its row and of its column. -/
theorem resh4 {a b : ℕ} (h : (⟨2, ![a, b]⟩ : Shape).numel = (⟨4, ![1, a, 1, b]⟩ : Shape).numel) (z : (⟨2, ![a, b]⟩ : Shape).Idx) :
    Shape.reshapeEquiv h z = ix4 (a := 1) (b := a) (c := 1) (d := b) ⟨0, Nat.one_pos⟩ (z 0) ⟨0, Nat.one_pos⟩ (z 1) :=
  Shape.reshapeEquiv_eq_of_rowMajor h (by
    rw [Shape.rowMajor_val_four, Shape.rowMajor_val_two]
    show (((0 * a + (z 0).val) * 1 + 0) * b + (z 1).val) = (z 0).val * b + (z 1).val
    rw [Nat.zero_mul, Nat.zero_add, Nat.mul_one, Nat.add_zero])

/-- Slot `s` of a two-slot buffer, or head `s` of an eight-head one: the window's element at `z`. -/
theorem slot_emb {n a b : ℕ} {sp : Space} {e : EltTy} (M : Memref sig .tc sp ⟨3, ![n, a, b]⟩ e) (s : ℕ) (hs : s < n)
    (inb : ∀ x, (![s, 0, 0] : Fin 3 → ℕ) x + (⟨3, ![1, a, b]⟩ : Shape).size x ≤ (⟨3, ![n, a, b]⟩ : Shape).size x)
    (hr) (hq : (⟨3, ![1, a, b]⟩ : Shape).Squeezes ⟨2, ![a, b]⟩) (z : (⟨2, ![a, b]⟩ : Shape).Idx) :
    ((M.slice (Rect.unit (s := ⟨3, ![n, a, b]⟩) ![s, 0, 0] (⟨3, ![1, a, b]⟩ : Shape).size inb) hr).squeeze ⟨2, ![a, b]⟩ hq).view.emb z
      = M.view.emb (ix3 (a := n) (b := a) (c := b) ⟨s, hs⟩ (z 0) (z 1)) := by
  have h1 : ((M.slice (Rect.unit (s := ⟨3, ![n, a, b]⟩) ![s, 0, 0] (⟨3, ![1, a, b]⟩ : Shape).size inb) hr).squeeze ⟨2, ![a, b]⟩ hq).view.emb z
      = M.view.emb ((Rect.unit (s := ⟨3, ![n, a, b]⟩) ![s, 0, 0] (⟨3, ![1, a, b]⟩ : Shape).size inb).emb (Shape.reshapeEquiv hq.numel_eq z)) := rfl
  rw [h1, resh3]
  congr 1
  funext x
  apply Fin.ext
  rw [Rect.emb_apply]
  match x with
  | ⟨0, _⟩ => show s + 1 * 0 = s; omega
  | ⟨1, _⟩ => show 0 + 1 * (z 0).val = (z 0).val; omega
  | ⟨2, _⟩ => show 0 + 1 * (z 1).val = (z 1).val; omega

/-- One head of one batch of the keys or the values, read through its window. -/
theorem head_read {sp : Space} (M : Memref sig .tc sp S4x2048x32x128 .f32) (off : Fin 4 → ℕ) (i : Fin 4) (g : Fin 32)
    (ho : off = ![i.val, 0, g.val, 0]) (inb : ∀ x, off x + S1x2048x1x128.size x ≤ S4x2048x32x128.size x)
    (hr) (hq : S1x2048x1x128.Squeezes S2048x128) (f : M.view.ty.Contents (Elt F)) (z : S2048x128.Idx) :
    ((M.slice (Rect.unit (s := S4x2048x32x128) off S1x2048x1x128.size inb) hr).squeeze S2048x128 hq).view.read (Elt F) f z
      = M.view.read (Elt F) f (ix4 (a := 4) (b := 2048) (c := 32) (d := 128) i (z 0) g (z 1)) := by
  subst ho
  have h1 : ((M.slice (Rect.unit (s := S4x2048x32x128) ![i.val, 0, g.val, 0] S1x2048x1x128.size inb) hr).squeeze S2048x128 hq).view.read (Elt F) f z
      = M.view.read (Elt F) f ((Rect.unit (s := S4x2048x32x128) ![i.val, 0, g.val, 0] S1x2048x1x128.size inb).emb (Shape.reshapeEquiv hq.numel_eq z)) := rfl
  rw [h1]
  refine congrArg _ ?_
  rw [resh4 (a := 2048) (b := 128) hq.numel_eq z]
  funext x
  apply Fin.ext
  rw [Rect.emb_apply]
  match x with
  | ⟨0, _⟩ => show i.val + 1 * 0 = i.val; omega
  | ⟨1, _⟩ => show 0 + 1 * (z 0).val = (z 0).val; omega
  | ⟨2, _⟩ => show g.val + 1 * 0 = g.val; omega
  | ⟨3, _⟩ => show 0 + 1 * (z 1).val = (z 1).val; omega

/-- A window that a copy has filled holds any contents that agree with the copied vector on it. -/
theorem landed {s : Shape} {e : EltTy} (W : Memref sig .tc .vmem s e) (c : Dev nD) (q : PosShare TreeShare)
    (f G : W.view.ty.Contents (Elt F)) (v : s.Idx → Elt F e) (h : ∀ z, v z = W.view.read (Elt F) G z) :
    (W.view.loc (c : Thread nD τ) ↦[W.view.set]{q} W.view.writes (Elt F) f [⟨Rect.whole s, v⟩] : sProp 𝕄) ⊢ W.view.loc (c : Thread nD τ) ↦[W.view.set]{q} G := by
  refine Entails.of_eq (pointsTo_congr fun i hi => ?_)
  obtain ⟨z, _, rfl⟩ := Finset.mem_map.mp hi
  have h1 := h z
  have h2 := View.read_writes_cons_emb (Val := Elt F) W.view f (Rect.whole s) v [] z
  rw [Rect.emb_whole_apply] at h2
  rw [← h2] at h1
  exact (Equiv.cast (congrArg (Elt F) W.view.elt_eq)).injective h1

/-- The same of a copy's own write. -/
theorem landed' {s : Shape} {e : EltTy} (W : Memref sig .tc .vmem s e) (c : Dev nD) (q : PosShare TreeShare)
    (f G : W.view.ty.Contents (Elt F)) (v : s.Idx → Elt F e) (h : ∀ z, v z = W.view.read (Elt F) G z) :
    (W.view.loc (c : Thread nD τ) ↦[W.view.set]{q} W.view.write (Elt F) f v Finset.univ : sProp 𝕄) ⊢ W.view.loc (c : Thread nD τ) ↦[W.view.set]{q} G := by
  refine Entails.of_eq (pointsTo_congr fun i hi => ?_)
  obtain ⟨z, _, rfl⟩ := Finset.mem_map.mp hi
  have h1 := h z
  have h2 := congrFun (View.read_write_univ (Val := Elt F) (v := W.view) f v) z
  rw [← h2] at h1
  exact (Equiv.cast (congrArg (Elt F) W.view.elt_eq)).injective h1

/-! ## The head windows -/

/-- Heads of the key and value buffers, as sets of indices. -/
def headSet (i : Fin 8) : Finset S8x2048x128.Idx := Finset.univ.filter fun y => (y 0).val = i.val

theorem headSet_disj : ∀ t ∈ (Finset.univ : Finset (Fin 8)), ∀ t' ∈ (Finset.univ : Finset (Fin 8)), t ≠ t' → Disjoint (headSet t) (headSet t') := by
  intro t _ t' _ hne
  rw [Finset.disjoint_left]
  intro y h h'
  exact hne (Fin.ext ((Finset.mem_filter.mp h).2.symm.trans (Finset.mem_filter.mp h').2))

theorem headSet_union : (Finset.univ : Finset (Fin 8)).biUnion headSet = Finset.univ :=
  Finset.eq_univ_iff_forall.mpr fun y => Finset.mem_biUnion.mpr ⟨(⟨(y 0).val, (y 0).isLt⟩ : Fin 8), Finset.mem_univ _, Finset.mem_filter.mpr ⟨Finset.mem_univ _, rfl⟩⟩

/-- The window of head `i` is the head's elements. -/
theorem kb_set (i : ℕ) (hi : i < 8) (inb : ∀ x, (![i, 0, 0] : Fin 3 → ℕ) x + S1x2048x128.size x ≤ S8x2048x128.size x) (hr) (hq : S1x2048x128.Squeezes S2048x128) :
    ((kbM.slice (Rect.unit (s := S8x2048x128) ![i, 0, 0] S1x2048x128.size inb) hr).squeeze S2048x128 hq).view.set = headSet ⟨i, hi⟩ := by
  ext y
  constructor
  · intro h
    obtain ⟨z, _, rfl⟩ := Finset.mem_map.mp h
    rw [slot_emb (n := 8) (a := 2048) (b := 128) kbM i hi inb hr hq z]
    exact Finset.mem_filter.mpr ⟨Finset.mem_univ _, rfl⟩
  · intro h
    have h0 := (Finset.mem_filter.mp h).2
    refine Finset.mem_map.mpr ⟨ix2 (a := 2048) (b := 128) (y 1) (y 2), Finset.mem_univ _, ?_⟩
    rw [slot_emb (n := 8) (a := 2048) (b := 128) kbM i hi inb hr hq _]
    show ix3 (a := 8) (b := 2048) (c := 128) ⟨i, hi⟩ (y 1) (y 2) = y
    funext x
    match x with
    | ⟨0, _⟩ => exact Fin.ext h0.symm
    | ⟨1, _⟩ => rfl
    | ⟨2, _⟩ => rfl

/-- The buffer held whole is its eight head windows held. -/
theorem kb_split (c : Dev nD) (f : S8x2048x128.Idx → F .f32) :
    (kbM.view.loc (c : Thread nD τ) ↦[kbM.view.set]{fullShare} f : sProp 𝕄)
      = iprop(winPts kbW0 c fullShare f ∗ winPts kbW1 c fullShare f ∗ winPts kbW2 c fullShare f ∗ winPts kbW3 c fullShare f ∗ winPts kbW4 c fullShare f ∗ winPts kbW5 c fullShare f ∗ winPts kbW6 c fullShare f ∗ winPts kbW7 c fullShare f) := by
  have h0 : (kbM.view.set : Finset S8x2048x128.Idx) = (Finset.univ : Finset (Fin 8)).biUnion headSet := by
    rw [headSet_union]; exact (Memref.isWhole_whole _).set_eq_univ
  have h1 : (kbM.view.loc (c : Thread nD τ) ↦[kbM.view.set]{fullShare} f : sProp 𝕄)
      = bigSep Finset.univ fun t : Fin 8 => (kbM.view.loc (c : Thread nD τ) ↦[headSet t]{fullShare} f : sProp 𝕄) :=
    (congrArg (fun S => (kbM.view.loc (c : Thread nD τ) ↦[S]{fullShare} f : sProp 𝕄)) h0).trans (pointsTo_biUnion _ _ headSet_disj)
  rw [h1, bigSep_univ_eq_bigSepL [0, 1, 2, 3, 4, 5, 6, 7] (by decide) (by decide)]
  simp only [bigSepL_cons_cons, bigSepL_singleton]
  unfold winPts
  rw [kb_set 0 (by decide) inb_S8x2048x128_S1x2048x128_0_0_0 (fun _ => rfl) squeezes_S1x2048x128_S2048x128]
  rw [kb_set 1 (by decide) inb_S8x2048x128_S1x2048x128_1_0_0 (fun _ => rfl) squeezes_S1x2048x128_S2048x128]
  rw [kb_set 2 (by decide) inb_S8x2048x128_S1x2048x128_2_0_0 (fun _ => rfl) squeezes_S1x2048x128_S2048x128]
  rw [kb_set 3 (by decide) inb_S8x2048x128_S1x2048x128_3_0_0 (fun _ => rfl) squeezes_S1x2048x128_S2048x128]
  rw [kb_set 4 (by decide) inb_S8x2048x128_S1x2048x128_4_0_0 (fun _ => rfl) squeezes_S1x2048x128_S2048x128]
  rw [kb_set 5 (by decide) inb_S8x2048x128_S1x2048x128_5_0_0 (fun _ => rfl) squeezes_S1x2048x128_S2048x128]
  rw [kb_set 6 (by decide) inb_S8x2048x128_S1x2048x128_6_0_0 (fun _ => rfl) squeezes_S1x2048x128_S2048x128]
  rw [kb_set 7 (by decide) inb_S8x2048x128_S1x2048x128_7_0_0 (fun _ => rfl) squeezes_S1x2048x128_S2048x128]
  rfl

/-- The window of head `i` is the head's elements. -/
theorem vb_set (i : ℕ) (hi : i < 8) (inb : ∀ x, (![i, 0, 0] : Fin 3 → ℕ) x + S1x2048x128.size x ≤ S8x2048x128.size x) (hr) (hq : S1x2048x128.Squeezes S2048x128) :
    ((vbM.slice (Rect.unit (s := S8x2048x128) ![i, 0, 0] S1x2048x128.size inb) hr).squeeze S2048x128 hq).view.set = headSet ⟨i, hi⟩ := by
  ext y
  constructor
  · intro h
    obtain ⟨z, _, rfl⟩ := Finset.mem_map.mp h
    rw [slot_emb (n := 8) (a := 2048) (b := 128) vbM i hi inb hr hq z]
    exact Finset.mem_filter.mpr ⟨Finset.mem_univ _, rfl⟩
  · intro h
    have h0 := (Finset.mem_filter.mp h).2
    refine Finset.mem_map.mpr ⟨ix2 (a := 2048) (b := 128) (y 1) (y 2), Finset.mem_univ _, ?_⟩
    rw [slot_emb (n := 8) (a := 2048) (b := 128) vbM i hi inb hr hq _]
    show ix3 (a := 8) (b := 2048) (c := 128) ⟨i, hi⟩ (y 1) (y 2) = y
    funext x
    match x with
    | ⟨0, _⟩ => exact Fin.ext h0.symm
    | ⟨1, _⟩ => rfl
    | ⟨2, _⟩ => rfl

/-- The buffer held whole is its eight head windows held. -/
theorem vb_split (c : Dev nD) (f : S8x2048x128.Idx → F .f32) :
    (vbM.view.loc (c : Thread nD τ) ↦[vbM.view.set]{fullShare} f : sProp 𝕄)
      = iprop(winPts vbW0 c fullShare f ∗ winPts vbW1 c fullShare f ∗ winPts vbW2 c fullShare f ∗ winPts vbW3 c fullShare f ∗ winPts vbW4 c fullShare f ∗ winPts vbW5 c fullShare f ∗ winPts vbW6 c fullShare f ∗ winPts vbW7 c fullShare f) := by
  have h0 : (vbM.view.set : Finset S8x2048x128.Idx) = (Finset.univ : Finset (Fin 8)).biUnion headSet := by
    rw [headSet_union]; exact (Memref.isWhole_whole _).set_eq_univ
  have h1 : (vbM.view.loc (c : Thread nD τ) ↦[vbM.view.set]{fullShare} f : sProp 𝕄)
      = bigSep Finset.univ fun t : Fin 8 => (vbM.view.loc (c : Thread nD τ) ↦[headSet t]{fullShare} f : sProp 𝕄) :=
    (congrArg (fun S => (vbM.view.loc (c : Thread nD τ) ↦[S]{fullShare} f : sProp 𝕄)) h0).trans (pointsTo_biUnion _ _ headSet_disj)
  rw [h1, bigSep_univ_eq_bigSepL [0, 1, 2, 3, 4, 5, 6, 7] (by decide) (by decide)]
  simp only [bigSepL_cons_cons, bigSepL_singleton]
  unfold winPts
  rw [vb_set 0 (by decide) inb_S8x2048x128_S1x2048x128_0_0_0 (fun _ => rfl) squeezes_S1x2048x128_S2048x128]
  rw [vb_set 1 (by decide) inb_S8x2048x128_S1x2048x128_1_0_0 (fun _ => rfl) squeezes_S1x2048x128_S2048x128]
  rw [vb_set 2 (by decide) inb_S8x2048x128_S1x2048x128_2_0_0 (fun _ => rfl) squeezes_S1x2048x128_S2048x128]
  rw [vb_set 3 (by decide) inb_S8x2048x128_S1x2048x128_3_0_0 (fun _ => rfl) squeezes_S1x2048x128_S2048x128]
  rw [vb_set 4 (by decide) inb_S8x2048x128_S1x2048x128_4_0_0 (fun _ => rfl) squeezes_S1x2048x128_S2048x128]
  rw [vb_set 5 (by decide) inb_S8x2048x128_S1x2048x128_5_0_0 (fun _ => rfl) squeezes_S1x2048x128_S2048x128]
  rw [vb_set 6 (by decide) inb_S8x2048x128_S1x2048x128_6_0_0 (fun _ => rfl) squeezes_S1x2048x128_S2048x128]
  rw [vb_set 7 (by decide) inb_S8x2048x128_S1x2048x128_7_0_0 (fun _ => rfl) squeezes_S1x2048x128_S2048x128]
  rfl

/-! ## The slots of the ring's buffers -/

/-- Where the slots of `aM` lie. -/
theorem aS_set (i : ℕ) (hi : i < 2) (inb : ∀ x, (![i, 0, 0] : Fin 3 → ℕ) x + S1x1024x512.size x ≤ S2x1024x512.size x) (hr) (hq : S1x1024x512.Squeezes S1024x512) :
    ((aM.slice (Rect.unit (s := S2x1024x512) ![i, 0, 0] S1x1024x512.size inb) hr).squeeze S1024x512 hq).view.set = (Finset.univ.filter fun y : S2x1024x512.Idx => (y 0).val = i) := by
  ext y
  constructor
  · intro h
    obtain ⟨z, _, rfl⟩ := Finset.mem_map.mp h
    rw [slot_emb (n := 2) (a := 1024) (b := 512) aM i hi inb hr hq z]
    exact Finset.mem_filter.mpr ⟨Finset.mem_univ _, rfl⟩
  · intro h
    have h0 := (Finset.mem_filter.mp h).2
    refine Finset.mem_map.mpr ⟨ix2 (a := 1024) (b := 512) (y 1) (y 2), Finset.mem_univ _, ?_⟩
    rw [slot_emb (n := 2) (a := 1024) (b := 512) aM i hi inb hr hq _]
    show ix3 (a := 2) (b := 1024) (c := 512) ⟨i, hi⟩ (y 1) (y 2) = y
    funext x
    match x with
    | ⟨0, _⟩ => exact Fin.ext h0.symm
    | ⟨1, _⟩ => rfl
    | ⟨2, _⟩ => rfl

theorem aS0_mem (y : S2x1024x512.Idx) : y ∈ (aS0.view.set : Finset S2x1024x512.Idx) ↔ (y 0).val = 0 := by
  have h := aS_set 0 (by decide) inb_S2x1024x512_S1x1024x512_0_0_0 (fun _ => rfl) squeezes_S1x1024x512_S1024x512
  rw [show (aS0.view.set : Finset S2x1024x512.Idx) = _ from h]; simp

theorem aS1_mem (y : S2x1024x512.Idx) : y ∈ (aS1.view.set : Finset S2x1024x512.Idx) ↔ (y 0).val = 1 := by
  have h := aS_set 1 (by decide) inb_S2x1024x512_S1x1024x512_1_0_0 (fun _ => rfl) squeezes_S1x1024x512_S1024x512
  rw [show (aS1.view.set : Finset S2x1024x512.Idx) = _ from h]; simp

/-- The buffer held whole is its two slots held. -/
theorem a_split (c : Dev nD) (f : S2x1024x512.Idx → F .bf16) :
    (aM.view.loc (c : Thread nD τ) ↦[aM.view.set]{fullShare} f : sProp 𝕄) ⊣⊢ iprop(winPts aS0 c fullShare f ∗ winPts aS1 c fullShare f) := by
  have h0 : (aM.view.set : Finset S2x1024x512.Idx) = aS0.view.set ∪ aS1.view.set := by
    rw [(Memref.isWhole_whole _).set_eq_univ]
    refine (Finset.eq_univ_iff_forall.mpr fun y => Finset.mem_union.mpr ?_).symm
    rw [aS0_mem, aS1_mem]
    have : (y 0).val < 2 := (y 0).isLt
    omega
  rw [show (aM.view.loc (c : Thread nD τ) ↦[aM.view.set]{fullShare} f : sProp 𝕄) = (aM.view.loc (c : Thread nD τ) ↦[aS0.view.set ∪ aS1.view.set]{fullShare} f : sProp 𝕄) from
    congrArg (fun S => (aM.view.loc (c : Thread nD τ) ↦[S]{fullShare} f : sProp 𝕄)) h0]
  refine pointsTo_union ?_
  rw [Finset.disjoint_left]
  intro y h h'
  have e := (aS0_mem y).mp h
  have e' := (aS1_mem y).mp h'
  omega

/-- The two slots, at whatever contents, are the buffer at some contents. -/
theorem a_join (c : Dev nD) (f g : S2x1024x512.Idx → F .bf16) :
    iprop(winPts aS0 c fullShare f ∗ winPts aS1 c fullShare g) ⊢ (iprop(∃ h, aM.view.loc (c : Thread nD τ) ↦[aM.view.set]{fullShare} h) : sProp 𝕄) := by
  let h : S2x1024x512.Idx → F .bf16 := fun y => if (y 0).val = 0 then f y else g y
  have e0 : (winPts aS0 c fullShare f : sProp 𝕄) = winPts aS0 c fullShare h :=
    pointsTo_congr fun y hy => (if_pos ((aS0_mem y).mp hy)).symm
  have e1 : (winPts aS1 c fullShare g : sProp 𝕄) = winPts aS1 c fullShare h :=
    pointsTo_congr fun y hy => (if_neg (by have := (aS1_mem y).mp hy; omega)).symm
  rw [e0, e1]
  iintro H
  iexists h
  iapply (a_split c h).2 $$ H

/-- Where the slots of `bM` lie. -/
theorem bS_set (i : ℕ) (hi : i < 2) (inb : ∀ x, (![i, 0, 0] : Fin 3 → ℕ) x + S1x512x1024.size x ≤ S2x512x1024.size x) (hr) (hq : S1x512x1024.Squeezes S512x1024) :
    ((bM.slice (Rect.unit (s := S2x512x1024) ![i, 0, 0] S1x512x1024.size inb) hr).squeeze S512x1024 hq).view.set = (Finset.univ.filter fun y : S2x512x1024.Idx => (y 0).val = i) := by
  ext y
  constructor
  · intro h
    obtain ⟨z, _, rfl⟩ := Finset.mem_map.mp h
    rw [slot_emb (n := 2) (a := 512) (b := 1024) bM i hi inb hr hq z]
    exact Finset.mem_filter.mpr ⟨Finset.mem_univ _, rfl⟩
  · intro h
    have h0 := (Finset.mem_filter.mp h).2
    refine Finset.mem_map.mpr ⟨ix2 (a := 512) (b := 1024) (y 1) (y 2), Finset.mem_univ _, ?_⟩
    rw [slot_emb (n := 2) (a := 512) (b := 1024) bM i hi inb hr hq _]
    show ix3 (a := 2) (b := 512) (c := 1024) ⟨i, hi⟩ (y 1) (y 2) = y
    funext x
    match x with
    | ⟨0, _⟩ => exact Fin.ext h0.symm
    | ⟨1, _⟩ => rfl
    | ⟨2, _⟩ => rfl

theorem bS0_mem (y : S2x512x1024.Idx) : y ∈ (bS0.view.set : Finset S2x512x1024.Idx) ↔ (y 0).val = 0 := by
  have h := bS_set 0 (by decide) inb_S2x512x1024_S1x512x1024_0_0_0 (fun _ => rfl) squeezes_S1x512x1024_S512x1024
  rw [show (bS0.view.set : Finset S2x512x1024.Idx) = _ from h]; simp

theorem bS1_mem (y : S2x512x1024.Idx) : y ∈ (bS1.view.set : Finset S2x512x1024.Idx) ↔ (y 0).val = 1 := by
  have h := bS_set 1 (by decide) inb_S2x512x1024_S1x512x1024_1_0_0 (fun _ => rfl) squeezes_S1x512x1024_S512x1024
  rw [show (bS1.view.set : Finset S2x512x1024.Idx) = _ from h]; simp

/-- The buffer held whole is its two slots held. -/
theorem b_split (c : Dev nD) (f : S2x512x1024.Idx → F .bf16) :
    (bM.view.loc (c : Thread nD τ) ↦[bM.view.set]{fullShare} f : sProp 𝕄) ⊣⊢ iprop(winPts bS0 c fullShare f ∗ winPts bS1 c fullShare f) := by
  have h0 : (bM.view.set : Finset S2x512x1024.Idx) = bS0.view.set ∪ bS1.view.set := by
    rw [(Memref.isWhole_whole _).set_eq_univ]
    refine (Finset.eq_univ_iff_forall.mpr fun y => Finset.mem_union.mpr ?_).symm
    rw [bS0_mem, bS1_mem]
    have : (y 0).val < 2 := (y 0).isLt
    omega
  rw [show (bM.view.loc (c : Thread nD τ) ↦[bM.view.set]{fullShare} f : sProp 𝕄) = (bM.view.loc (c : Thread nD τ) ↦[bS0.view.set ∪ bS1.view.set]{fullShare} f : sProp 𝕄) from
    congrArg (fun S => (bM.view.loc (c : Thread nD τ) ↦[S]{fullShare} f : sProp 𝕄)) h0]
  refine pointsTo_union ?_
  rw [Finset.disjoint_left]
  intro y h h'
  have e := (bS0_mem y).mp h
  have e' := (bS1_mem y).mp h'
  omega

/-- The two slots, at whatever contents, are the buffer at some contents. -/
theorem b_join (c : Dev nD) (f g : S2x512x1024.Idx → F .bf16) :
    iprop(winPts bS0 c fullShare f ∗ winPts bS1 c fullShare g) ⊢ (iprop(∃ h, bM.view.loc (c : Thread nD τ) ↦[bM.view.set]{fullShare} h) : sProp 𝕄) := by
  let h : S2x512x1024.Idx → F .bf16 := fun y => if (y 0).val = 0 then f y else g y
  have e0 : (winPts bS0 c fullShare f : sProp 𝕄) = winPts bS0 c fullShare h :=
    pointsTo_congr fun y hy => (if_pos ((bS0_mem y).mp hy)).symm
  have e1 : (winPts bS1 c fullShare g : sProp 𝕄) = winPts bS1 c fullShare h :=
    pointsTo_congr fun y hy => (if_neg (by have := (bS1_mem y).mp hy; omega)).symm
  rw [e0, e1]
  iintro H
  iexists h
  iapply (b_split c h).2 $$ H

/-- Where the slots of `cM` lie. -/
theorem cS_set (i : ℕ) (hi : i < 2) (inb : ∀ x, (![i, 0, 0] : Fin 3 → ℕ) x + S1x1024x512.size x ≤ S2x1024x512.size x) (hr) (hq : S1x1024x512.Squeezes S1024x512) :
    ((cM.slice (Rect.unit (s := S2x1024x512) ![i, 0, 0] S1x1024x512.size inb) hr).squeeze S1024x512 hq).view.set = (Finset.univ.filter fun y : S2x1024x512.Idx => (y 0).val = i) := by
  ext y
  constructor
  · intro h
    obtain ⟨z, _, rfl⟩ := Finset.mem_map.mp h
    rw [slot_emb (n := 2) (a := 1024) (b := 512) cM i hi inb hr hq z]
    exact Finset.mem_filter.mpr ⟨Finset.mem_univ _, rfl⟩
  · intro h
    have h0 := (Finset.mem_filter.mp h).2
    refine Finset.mem_map.mpr ⟨ix2 (a := 1024) (b := 512) (y 1) (y 2), Finset.mem_univ _, ?_⟩
    rw [slot_emb (n := 2) (a := 1024) (b := 512) cM i hi inb hr hq _]
    show ix3 (a := 2) (b := 1024) (c := 512) ⟨i, hi⟩ (y 1) (y 2) = y
    funext x
    match x with
    | ⟨0, _⟩ => exact Fin.ext h0.symm
    | ⟨1, _⟩ => rfl
    | ⟨2, _⟩ => rfl

theorem cS0_mem (y : S2x1024x512.Idx) : y ∈ (cS0.view.set : Finset S2x1024x512.Idx) ↔ (y 0).val = 0 := by
  have h := cS_set 0 (by decide) inb_S2x1024x512_S1x1024x512_0_0_0 (fun _ => rfl) squeezes_S1x1024x512_S1024x512
  rw [show (cS0.view.set : Finset S2x1024x512.Idx) = _ from h]; simp

theorem cS1_mem (y : S2x1024x512.Idx) : y ∈ (cS1.view.set : Finset S2x1024x512.Idx) ↔ (y 0).val = 1 := by
  have h := cS_set 1 (by decide) inb_S2x1024x512_S1x1024x512_1_0_0 (fun _ => rfl) squeezes_S1x1024x512_S1024x512
  rw [show (cS1.view.set : Finset S2x1024x512.Idx) = _ from h]; simp

/-- The buffer held whole is its two slots held. -/
theorem c_split (c : Dev nD) (f : S2x1024x512.Idx → F .bf16) :
    (cM.view.loc (c : Thread nD τ) ↦[cM.view.set]{fullShare} f : sProp 𝕄) ⊣⊢ iprop(winPts cS0 c fullShare f ∗ winPts cS1 c fullShare f) := by
  have h0 : (cM.view.set : Finset S2x1024x512.Idx) = cS0.view.set ∪ cS1.view.set := by
    rw [(Memref.isWhole_whole _).set_eq_univ]
    refine (Finset.eq_univ_iff_forall.mpr fun y => Finset.mem_union.mpr ?_).symm
    rw [cS0_mem, cS1_mem]
    have : (y 0).val < 2 := (y 0).isLt
    omega
  rw [show (cM.view.loc (c : Thread nD τ) ↦[cM.view.set]{fullShare} f : sProp 𝕄) = (cM.view.loc (c : Thread nD τ) ↦[cS0.view.set ∪ cS1.view.set]{fullShare} f : sProp 𝕄) from
    congrArg (fun S => (cM.view.loc (c : Thread nD τ) ↦[S]{fullShare} f : sProp 𝕄)) h0]
  refine pointsTo_union ?_
  rw [Finset.disjoint_left]
  intro y h h'
  have e := (cS0_mem y).mp h
  have e' := (cS1_mem y).mp h'
  omega

/-- The two slots, at whatever contents, are the buffer at some contents. -/
theorem c_join (c : Dev nD) (f g : S2x1024x512.Idx → F .bf16) :
    iprop(winPts cS0 c fullShare f ∗ winPts cS1 c fullShare g) ⊢ (iprop(∃ h, cM.view.loc (c : Thread nD τ) ↦[cM.view.set]{fullShare} h) : sProp 𝕄) := by
  let h : S2x1024x512.Idx → F .bf16 := fun y => if (y 0).val = 0 then f y else g y
  have e0 : (winPts cS0 c fullShare f : sProp 𝕄) = winPts cS0 c fullShare h :=
    pointsTo_congr fun y hy => (if_pos ((cS0_mem y).mp hy)).symm
  have e1 : (winPts cS1 c fullShare g : sProp 𝕄) = winPts cS1 c fullShare h :=
    pointsTo_congr fun y hy => (if_neg (by have := (cS1_mem y).mp hy; omega)).symm
  rw [e0, e1]
  iintro H
  iexists h
  iapply (c_split c h).2 $$ H

/-- Where the slots of `dM` lie. -/
theorem dS_set (i : ℕ) (hi : i < 2) (inb : ∀ x, (![i, 0, 0] : Fin 3 → ℕ) x + S1x512x1024.size x ≤ S2x512x1024.size x) (hr) (hq : S1x512x1024.Squeezes S512x1024) :
    ((dM.slice (Rect.unit (s := S2x512x1024) ![i, 0, 0] S1x512x1024.size inb) hr).squeeze S512x1024 hq).view.set = (Finset.univ.filter fun y : S2x512x1024.Idx => (y 0).val = i) := by
  ext y
  constructor
  · intro h
    obtain ⟨z, _, rfl⟩ := Finset.mem_map.mp h
    rw [slot_emb (n := 2) (a := 512) (b := 1024) dM i hi inb hr hq z]
    exact Finset.mem_filter.mpr ⟨Finset.mem_univ _, rfl⟩
  · intro h
    have h0 := (Finset.mem_filter.mp h).2
    refine Finset.mem_map.mpr ⟨ix2 (a := 512) (b := 1024) (y 1) (y 2), Finset.mem_univ _, ?_⟩
    rw [slot_emb (n := 2) (a := 512) (b := 1024) dM i hi inb hr hq _]
    show ix3 (a := 2) (b := 512) (c := 1024) ⟨i, hi⟩ (y 1) (y 2) = y
    funext x
    match x with
    | ⟨0, _⟩ => exact Fin.ext h0.symm
    | ⟨1, _⟩ => rfl
    | ⟨2, _⟩ => rfl

theorem dS0_mem (y : S2x512x1024.Idx) : y ∈ (dS0.view.set : Finset S2x512x1024.Idx) ↔ (y 0).val = 0 := by
  have h := dS_set 0 (by decide) inb_S2x512x1024_S1x512x1024_0_0_0 (fun _ => rfl) squeezes_S1x512x1024_S512x1024
  rw [show (dS0.view.set : Finset S2x512x1024.Idx) = _ from h]; simp

theorem dS1_mem (y : S2x512x1024.Idx) : y ∈ (dS1.view.set : Finset S2x512x1024.Idx) ↔ (y 0).val = 1 := by
  have h := dS_set 1 (by decide) inb_S2x512x1024_S1x512x1024_1_0_0 (fun _ => rfl) squeezes_S1x512x1024_S512x1024
  rw [show (dS1.view.set : Finset S2x512x1024.Idx) = _ from h]; simp

/-- The buffer held whole is its two slots held. -/
theorem d_split (c : Dev nD) (f : S2x512x1024.Idx → F .bf16) :
    (dM.view.loc (c : Thread nD τ) ↦[dM.view.set]{fullShare} f : sProp 𝕄) ⊣⊢ iprop(winPts dS0 c fullShare f ∗ winPts dS1 c fullShare f) := by
  have h0 : (dM.view.set : Finset S2x512x1024.Idx) = dS0.view.set ∪ dS1.view.set := by
    rw [(Memref.isWhole_whole _).set_eq_univ]
    refine (Finset.eq_univ_iff_forall.mpr fun y => Finset.mem_union.mpr ?_).symm
    rw [dS0_mem, dS1_mem]
    have : (y 0).val < 2 := (y 0).isLt
    omega
  rw [show (dM.view.loc (c : Thread nD τ) ↦[dM.view.set]{fullShare} f : sProp 𝕄) = (dM.view.loc (c : Thread nD τ) ↦[dS0.view.set ∪ dS1.view.set]{fullShare} f : sProp 𝕄) from
    congrArg (fun S => (dM.view.loc (c : Thread nD τ) ↦[S]{fullShare} f : sProp 𝕄)) h0]
  refine pointsTo_union ?_
  rw [Finset.disjoint_left]
  intro y h h'
  have e := (dS0_mem y).mp h
  have e' := (dS1_mem y).mp h'
  omega

/-- The two slots, at whatever contents, are the buffer at some contents. -/
theorem d_join (c : Dev nD) (f g : S2x512x1024.Idx → F .bf16) :
    iprop(winPts dS0 c fullShare f ∗ winPts dS1 c fullShare g) ⊢ (iprop(∃ h, dM.view.loc (c : Thread nD τ) ↦[dM.view.set]{fullShare} h) : sProp 𝕄) := by
  let h : S2x512x1024.Idx → F .bf16 := fun y => if (y 0).val = 0 then f y else g y
  have e0 : (winPts dS0 c fullShare f : sProp 𝕄) = winPts dS0 c fullShare h :=
    pointsTo_congr fun y hy => (if_pos ((dS0_mem y).mp hy)).symm
  have e1 : (winPts dS1 c fullShare g : sProp 𝕄) = winPts dS1 c fullShare h :=
    pointsTo_congr fun y hy => (if_neg (by have := (dS1_mem y).mp hy; omega)).symm
  rw [e0, e1]
  iintro H
  iexists h
  iapply (d_split c h).2 $$ H

/-! ## The heads a hop takes -/

/-- The heads that the two hops copy: which they are, and where they begin in the arrays of keys and values. -/
structure Heads where
  hd : Fin 2 → Dev nD → Fin 8 → Fin 32
  off : Fin 2 → Dev nD → Fin 8 → Fin 4 → ℕ
  eq : ∀ h c i, off h c i = ![c.val, 0, (hd h c i).val, 0]

theorem Heads.inb (H : Heads) (h : Fin 2) (c : Dev nD) (i : Fin 8) : ∀ x, H.off h c i x + S1x2048x1x128.size x ≤ S4x2048x32x128.size x := by
  rw [H.eq]
  exact (by decide : ∀ (c : Fin 4) (g : Fin 32) (x : Fin 4), (![c.val, 0, g.val, 0] : Fin 4 → ℕ) x + S1x2048x1x128.size x ≤ S4x2048x32x128.size x) c (H.hd h c i)

/-- Where hop number `w` of the ring begins head `i`. -/
abbrev hopOff (w : BitVec 32) (c : Dev nD) (i : Fin 8) : Fin 4 → ℕ :=
  k0_off1 c (![1#1, 1#1, 1#1, 1#1, 0#1, 0#1, 0#1, 0#1] i) w (![0#32, 1#32, 2#32, 3#32, 4#32, 5#32, 6#32, 7#32] i) w (![0#32, 1#32, 2#32, 3#32, 4#32, 5#32, 6#32, 7#32] i)

/-- The first two hops: the device's own heads; then the first four of its left neighbour's and the last four of its right one's. -/
def firstHops : Heads where
  hd := ![own, brought]
  off h := hopOff (![0#32, 1#32] h)
  eq := by decide

/-- What the key buffer, or the value buffer, of device `c` holds when the array holds `A` and slot `s` takes head `hd s`. -/
def kvAt (hd : Fin 8 → Fin 32) (c : Dev nD) (A : S4x2048x32x128.Idx → F .f32) : S8x2048x128.Idx → F .f32 :=
  fun y => A (ix4 (a := 4) (b := 2048) (c := 32) (d := 128) ⟨c.val, c.isLt⟩ (y 1) (hd (y 0)) (y 2))

/-- What it holds on hop `h`. -/
abbrev kvTgt (H : Heads) (h : Fin 2) (c : Dev nD) (A : S4x2048x32x128.Idx → F .f32) : S8x2048x128.Idx → F .f32 := kvAt (H.hd h c) c A

end Cert.KernelIdeal.Slice

end
-- ==== Proof.Body.lean ====
module

public import proofs.«01_k».proof.Proof.Wins
public import Idealize.ShloMosaic.Lib.Batch
public import Idealize.ShloMosaic.Lib.Writes
public import Idealize.ShloMosaic.Lib.WritesUnit

@[expose] public section

noncomputable section

namespace Cert.KernelIdeal.Slice

open Cert.KernelIdeal Cert.KernelIdeal.Gen

open Idealize.ShloMosaic Idealize.ShloMosaic.Tactic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
-- Any table of bodies: nothing here calls one.
variable {𝒟 : Defs nD τ sig (Elt F) Λ₀}

local notation "𝕄" => MT nD τ sig Unit (Elt F) ℕ UU ℕ

/-! The parts of the body at this kernel's buffers. -/

abbrev p9  := k0_part9_skel (F := F) xM (Memref.isWhole_whole _) wqM (Memref.isWhole_whole _) woM (Memref.isWhole_whole _) kM (Memref.isWhole_whole _) vM (Memref.isWhole_whole _)
    oM (Memref.isWhole_whole _) aM (Memref.isWhole_whole _) bM (Memref.isWhole_whole _) cM (Memref.isWhole_whole _) dM (Memref.isWhole_whole _) wofM (Memref.isWhole_whole _)
    xbM (Memref.isWhole_whole _) qM (Memref.isWhole_whole _) kbM (Memref.isWhole_whole _) vbM (Memref.isWhole_whole _) cc0_scratch9 cc0_scratch10 cc0_scratch11 cc0_scratch12
abbrev p10 (d0 : Dev nD) (v2 v5 v7 : BitVec 32) := k0_part10_skel (F := F) xM (Memref.isWhole_whole _) wqM (Memref.isWhole_whole _) woM (Memref.isWhole_whole _) kM (Memref.isWhole_whole _) vM (Memref.isWhole_whole _)
    oM (Memref.isWhole_whole _) aM (Memref.isWhole_whole _) bM (Memref.isWhole_whole _) cM (Memref.isWhole_whole _) dM (Memref.isWhole_whole _) wofM (Memref.isWhole_whole _)
    xbM (Memref.isWhole_whole _) qM (Memref.isWhole_whole _) kbM (Memref.isWhole_whole _) vbM (Memref.isWhole_whole _) cc0_scratch9 cc0_scratch10 cc0_scratch11 cc0_scratch12 d0 v2 v5 v7
abbrev p11 (d0 : Dev nD) (v5 v7 : BitVec 32) := k0_part11_skel (F := F) xM (Memref.isWhole_whole _) wqM (Memref.isWhole_whole _) woM (Memref.isWhole_whole _) kM (Memref.isWhole_whole _) vM (Memref.isWhole_whole _)
    oM (Memref.isWhole_whole _) aM (Memref.isWhole_whole _) bM (Memref.isWhole_whole _) cM (Memref.isWhole_whole _) dM (Memref.isWhole_whole _) wofM (Memref.isWhole_whole _)
    xbM (Memref.isWhole_whole _) qM (Memref.isWhole_whole _) kbM (Memref.isWhole_whole _) vbM (Memref.isWhole_whole _) cc0_scratch9 cc0_scratch10 cc0_scratch11 cc0_scratch12 d0 v5 v7
abbrev p12 (d0 : Dev nD) (v5 v49 v51 : BitVec 32) := k0_part12_skel (F := F) xM (Memref.isWhole_whole _) wqM (Memref.isWhole_whole _) woM (Memref.isWhole_whole _) kM (Memref.isWhole_whole _) vM (Memref.isWhole_whole _)
    oM (Memref.isWhole_whole _) aM (Memref.isWhole_whole _) bM (Memref.isWhole_whole _) cM (Memref.isWhole_whole _) dM (Memref.isWhole_whole _) wofM (Memref.isWhole_whole _)
    xbM (Memref.isWhole_whole _) qM (Memref.isWhole_whole _) kbM (Memref.isWhole_whole _) vbM (Memref.isWhole_whole _) cc0_scratch9 cc0_scratch10 cc0_scratch11 cc0_scratch12 d0 v5 v49 v51

abbrev p20 (v7 v278 : BitVec 32) := k0_part20_skel (F := F) xM (Memref.isWhole_whole _) wqM (Memref.isWhole_whole _) woM (Memref.isWhole_whole _) kM (Memref.isWhole_whole _) vM (Memref.isWhole_whole _)
    oM (Memref.isWhole_whole _) aM (Memref.isWhole_whole _) bM (Memref.isWhole_whole _) cM (Memref.isWhole_whole _) dM (Memref.isWhole_whole _) wofM (Memref.isWhole_whole _)
    xbM (Memref.isWhole_whole _) qM (Memref.isWhole_whole _) kbM (Memref.isWhole_whole _) vbM (Memref.isWhole_whole _) cc0_scratch9 cc0_scratch10 cc0_scratch11 cc0_scratch12 v7 v278
abbrev p21 (v5 : BitVec 32) := k0_part21_skel (F := F) xM (Memref.isWhole_whole _) wqM (Memref.isWhole_whole _) woM (Memref.isWhole_whole _) kM (Memref.isWhole_whole _) vM (Memref.isWhole_whole _)
    oM (Memref.isWhole_whole _) aM (Memref.isWhole_whole _) bM (Memref.isWhole_whole _) cM (Memref.isWhole_whole _) dM (Memref.isWhole_whole _) wofM (Memref.isWhole_whole _)
    xbM (Memref.isWhole_whole _) qM (Memref.isWhole_whole _) kbM (Memref.isWhole_whole _) vbM (Memref.isWhole_whole _) cc0_scratch9 cc0_scratch10 cc0_scratch11 cc0_scratch12 v5
abbrev p22 (v2 : BitVec 32) := k0_part22_skel (F := F) xM (Memref.isWhole_whole _) wqM (Memref.isWhole_whole _) woM (Memref.isWhole_whole _) kM (Memref.isWhole_whole _) vM (Memref.isWhole_whole _)
    oM (Memref.isWhole_whole _) aM (Memref.isWhole_whole _) bM (Memref.isWhole_whole _) cM (Memref.isWhole_whole _) dM (Memref.isWhole_whole _) wofM (Memref.isWhole_whole _)
    xbM (Memref.isWhole_whole _) qM (Memref.isWhole_whole _) kbM (Memref.isWhole_whole _) vbM (Memref.isWhole_whole _) cc0_scratch9 cc0_scratch10 cc0_scratch11 cc0_scratch12 v2

abbrev kSem : DmaSem sig := cc0_scratch11.sem
abbrev vSem : DmaSem sig := cc0_scratch12.sem

/-- The nine read shares of an array: one per head copy, and what is left. -/
def toks (c : Dev nD) (W : Memref sig .tc .hbm S4x2048x32x128 .f32) (f : Buf (Elt F) (W.view.loc (c : Thread nD τ))) : sProp 𝕄 :=
  iprop((W.view.loc (c : Thread nD τ) ↦[W.view.set]{Transfers.shareDrop fullShare 8} f)
    ∗ (W.view.loc (c : Thread nD τ) ↦[W.view.set]{Transfers.shareTok fullShare 8 0} f) ∗ (W.view.loc (c : Thread nD τ) ↦[W.view.set]{Transfers.shareTok fullShare 8 1} f)
    ∗ (W.view.loc (c : Thread nD τ) ↦[W.view.set]{Transfers.shareTok fullShare 8 2} f) ∗ (W.view.loc (c : Thread nD τ) ↦[W.view.set]{Transfers.shareTok fullShare 8 3} f)
    ∗ (W.view.loc (c : Thread nD τ) ↦[W.view.set]{Transfers.shareTok fullShare 8 4} f) ∗ (W.view.loc (c : Thread nD τ) ↦[W.view.set]{Transfers.shareTok fullShare 8 5} f)
    ∗ (W.view.loc (c : Thread nD τ) ↦[W.view.set]{Transfers.shareTok fullShare 8 6} f) ∗ (W.view.loc (c : Thread nD τ) ↦[W.view.set]{Transfers.shareTok fullShare 8 7} f))

theorem toks_eq (c : Dev nD) (W : Memref sig .tc .hbm S4x2048x32x128 .f32) (f : Buf (Elt F) (W.view.loc (c : Thread nD τ))) :
    (W.view.loc (c : Thread nD τ) ↦[W.view.set]{fullShare} f : sProp 𝕄) ⊣⊢ toks c W f := by
  have h := Transfers.pointsTo_toks (Ix := Unit) (Val := Elt F) (Name := ℕ) (U := UU) (Lvl := ℕ) (ℓ := W.view.loc (c : Thread nD τ)) (S := W.view.set) (f := f) fullShare 8
  rw [bigSep_univ_eq_bigSepL [0, 1, 2, 3, 4, 5, 6, 7] (by decide) (by decide)] at h
  simp only [bigSepL_cons_cons, bigSepL_singleton] at h
  exact h

/-- A copy's cell at its one round, as its owner waits on it: the invariant, the credit, the position. -/
def cellRes (m : (ℓ : Loc nD τ sig) → Buf (Elt F) ℓ) (ρ : Dev nD → PrngReg) (c : Dev nD) (k : Fin 9) (κ : ℕ) : sProp 𝕄 :=
  iprop(cellInv ER (rd m ρ) κ (kcell (c, k)) ∗ cred (tallyAt (kcell (c, k)) () (amt k)) ∗ atPos ER (kcell (c, k)) 0 ∅ 0)

/-- The wait on a copy's cell hands over what the cell's unit pays and leaves the cell closed at zero. -/
theorem wait_one {α : Type} (m : (ℓ : Loc nD τ sig) → Buf (Elt F) ℓ) (ρ : Dev nD → PrngReg) (c : Dev nD) (k : Fin 9) (hk : k ≠ 0) (κ : ℕ) (W : Waits sig Unit)
    (sem : DmaSem sig) (hs : csem k = .dma sem) {s s' : Shape} {e e' : EltTy} {sp sp' : Space} (src : Memref sig .tc sp' s' e') (dst : Memref sig .tc sp s e) (h1 : src.view.WordExact) (h2 : dst.view.WordExact)
    (hn : dst.view.dmaCredit = amt k) (kk : PUnit → Prog (TpuEff nD τ sig (Elt F) Λ₀ .tc) α) (Q : α → sProp 𝕄) :
    iprop(cellRes m ρ c k κ ∗ owes (c : Thread nD τ) 0 W)
      ⊢ iprop(((owes (c : Thread nD τ) 0 (insert (csem k, ()) W) ∗ semVal (kcell (c, k)) 0 ∗ pay m ρ k false c)
            -∗ wp (M := 𝕄) frame (wpE 𝒟 𝒱₀ (c : Thread nD τ) none) Set.univ (kk ⟨⟩) Q)
          -∗ wp (M := 𝕄) frame (wpE 𝒟 𝒱₀ (c : Thread nD τ) none) Set.univ (.op (.waitDma2 sem src dst h1 h2) kk) Q) := by
  unfold cellRes
  iintro ⟨⟨#HI, Hc, Hat⟩, HO⟩ Hk
  iapply (Rounds.wp_wait_rest_token 𝒱₀ ER (rd m ρ) (c : Thread nD τ) none (sm := csem k) (k' := amt k) (κ := κ)
      (by rw [hs, ← hn]; exact wpE_waitDma2_eq 𝒱₀ (c : Thread nD τ) none Set.univ) (Set.mem_univ _) () (O := 0) (W := W) (R := 0) (m := 0) (T := ∅)
      (by rw [Nat.zero_add]; exact (expect_cell m ρ c k hk).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hx := (Entails.of_eq (rest_cell m ρ c k hk)) $$ Hpay
  imod (Rounds.cell_close ER (rd m ρ) (Set.mem_univ κ) (fun h => h) (R := 0 + 1) (duties_later m ρ (kcell (c, k)))) $$ [Hat] with Hz
  · isplitr; · iexact HI
    iexact Hat
  iapply Hk
  isplitl [HO]; · iexact HO
  isplitl [Hz] <;> iassumption

/-- The output-weight buffer after both halves are stored. -/
def wTgt (p1 p2 : Vec F S512x1024 .bf16) : S1024x1024.Idx → F .bf16 :=
  fun y => if h : (y 0).val < 512 then p1 (ix2 ⟨(y 0).val, h⟩ (y 1))
    else p2 (ix2 ⟨(y 0).val - 512, by have : (y 0).val < 1024 := (y 0).isLt; omega⟩ (y 1))

theorem w_step (f : wofM.view.ty.Contents (Elt F)) (p1 p2 : Vec F S512x1024 .bf16) (y : S1024x1024.Idx) :
    wofM.view.writes (Elt F) f [⟨Rect.unit (s := S1024x1024) ![512, 0] S512x1024.size inb_S1024x1024_S512x1024_512_0, p2⟩, ⟨Rect.unit (s := S1024x1024) ![0, 0] S512x1024.size inb_S1024x1024_S512x1024_0_0, p1⟩] y
      = wTgt p1 p2 y := by
  have hy0 : (y 0).val < 1024 := (y 0).isLt
  refine (congrFun (View.read_whole (Val := Elt F) cc0_scratch4 _) y).symm.trans ?_
  rcases Nat.lt_or_ge (y 0).val 512 with hc | hc
  · rw [View.read_writes_cons_unit_of_not_mem wofM.view f _ _ _ y rfl 0 (Or.inl hc)]
    refine (View.read_writes_cons_unit_of_mem wofM.view f _ _ _ y (ix2 ⟨(y 0).val, hc⟩ (y 1)) rfl (fun a => ?_)).trans ?_
    · match a with
      | ⟨0, _⟩ => show (y 0).val = 0 + (y 0).val; omega
      | ⟨1, _⟩ => show (y 1).val = 0 + (y 1).val; omega
    · unfold wTgt; rw [dif_pos hc]; rfl
  · refine (View.read_writes_cons_unit_of_mem wofM.view f _ _ _ y (ix2 ⟨(y 0).val - 512, by omega⟩ (y 1)) rfl (fun a => ?_)).trans ?_
    · match a with
      | ⟨0, _⟩ => show (y 0).val = 512 + ((y 0).val - 512); omega
      | ⟨1, _⟩ => show (y 1).val = 0 + (y 1).val; omega
    · unfold wTgt; rw [dif_neg (Nat.not_lt.mpr hc)]; rfl

/-- Head slot `s` of the key buffer at its target is the head's rows of the array; -/
theorem kb_tgt (hd : Fin 8 → Fin 32) (c : Dev nD) (K : S4x2048x32x128.Idx → F .f32) (s : ℕ) (hs : s < 8)
    (inb : ∀ x, (![s, 0, 0] : Fin 3 → ℕ) x + S1x2048x128.size x ≤ S8x2048x128.size x) (hr) (hq : S1x2048x128.Squeezes S2048x128) (z : S2048x128.Idx) :
    ((kbM.slice (Rect.unit (s := S8x2048x128) ![s, 0, 0] S1x2048x128.size inb) hr).squeeze S2048x128 hq).view.read (Elt F) (kvAt hd c K) z
      = K (ix4 (a := 4) (b := 2048) (c := 32) (d := 128) ⟨c.val, c.isLt⟩ (z 0) (hd ⟨s, hs⟩) (z 1)) :=
  congrArg (kvAt hd c K) (slot_emb kbM s hs inb hr hq z)
/-- the same of the value buffer. -/
theorem vb_tgt (hd : Fin 8 → Fin 32) (c : Dev nD) (K : S4x2048x32x128.Idx → F .f32) (s : ℕ) (hs : s < 8)
    (inb : ∀ x, (![s, 0, 0] : Fin 3 → ℕ) x + S1x2048x128.size x ≤ S8x2048x128.size x) (hr) (hq : S1x2048x128.Squeezes S2048x128) (z : S2048x128.Idx) :
    ((vbM.slice (Rect.unit (s := S8x2048x128) ![s, 0, 0] S1x2048x128.size inb) hr).squeeze S2048x128 hq).view.read (Elt F) (kvAt hd c K) z
      = K (ix4 (a := 4) (b := 2048) (c := 32) (d := 128) ⟨c.val, c.isLt⟩ (z 0) (hd ⟨s, hs⟩) (z 1)) :=
  congrArg (kvAt hd c K) (slot_emb vbM s hs inb hr hq z)

/-- Hop `h`'s sixteen copies of heads started, -/
abbrev startHeads (H : Heads) (h : Fin 2) (c : Dev nD) : Prog (TpuEff nD τ sig (Elt F) Λ₀ .tc) PUnit := do
  Prog.lift (.enqueueDma ((kM.slice (Rect.unit (s := S4x2048x32x128) (H.off h c 0) S1x2048x1x128.size (H.inb h c 0)) (fun _ => rfl)).squeeze S2048x128 squeezes_S1x2048x1x128_S2048x128) (.here kbW0) (.dma cc0_scratch11.sem) ((View.wordExact_bits rfl).reshape _ _) ((View.wordExact_bits rfl).reshape _ _) ⟨Or.inl rfl, trivial⟩)
  Prog.lift (.enqueueDma ((vM.slice (Rect.unit (s := S4x2048x32x128) (H.off h c 0) S1x2048x1x128.size (H.inb h c 0)) (fun _ => rfl)).squeeze S2048x128 squeezes_S1x2048x1x128_S2048x128) (.here vbW0) (.dma cc0_scratch12.sem) ((View.wordExact_bits rfl).reshape _ _) ((View.wordExact_bits rfl).reshape _ _) ⟨Or.inl rfl, trivial⟩)
  Prog.lift (.enqueueDma ((kM.slice (Rect.unit (s := S4x2048x32x128) (H.off h c 1) S1x2048x1x128.size (H.inb h c 1)) (fun _ => rfl)).squeeze S2048x128 squeezes_S1x2048x1x128_S2048x128) (.here kbW1) (.dma cc0_scratch11.sem) ((View.wordExact_bits rfl).reshape _ _) ((View.wordExact_bits rfl).reshape _ _) ⟨Or.inl rfl, trivial⟩)
  Prog.lift (.enqueueDma ((vM.slice (Rect.unit (s := S4x2048x32x128) (H.off h c 1) S1x2048x1x128.size (H.inb h c 1)) (fun _ => rfl)).squeeze S2048x128 squeezes_S1x2048x1x128_S2048x128) (.here vbW1) (.dma cc0_scratch12.sem) ((View.wordExact_bits rfl).reshape _ _) ((View.wordExact_bits rfl).reshape _ _) ⟨Or.inl rfl, trivial⟩)
  Prog.lift (.enqueueDma ((kM.slice (Rect.unit (s := S4x2048x32x128) (H.off h c 2) S1x2048x1x128.size (H.inb h c 2)) (fun _ => rfl)).squeeze S2048x128 squeezes_S1x2048x1x128_S2048x128) (.here kbW2) (.dma cc0_scratch11.sem) ((View.wordExact_bits rfl).reshape _ _) ((View.wordExact_bits rfl).reshape _ _) ⟨Or.inl rfl, trivial⟩)
  Prog.lift (.enqueueDma ((vM.slice (Rect.unit (s := S4x2048x32x128) (H.off h c 2) S1x2048x1x128.size (H.inb h c 2)) (fun _ => rfl)).squeeze S2048x128 squeezes_S1x2048x1x128_S2048x128) (.here vbW2) (.dma cc0_scratch12.sem) ((View.wordExact_bits rfl).reshape _ _) ((View.wordExact_bits rfl).reshape _ _) ⟨Or.inl rfl, trivial⟩)
  Prog.lift (.enqueueDma ((kM.slice (Rect.unit (s := S4x2048x32x128) (H.off h c 3) S1x2048x1x128.size (H.inb h c 3)) (fun _ => rfl)).squeeze S2048x128 squeezes_S1x2048x1x128_S2048x128) (.here kbW3) (.dma cc0_scratch11.sem) ((View.wordExact_bits rfl).reshape _ _) ((View.wordExact_bits rfl).reshape _ _) ⟨Or.inl rfl, trivial⟩)
  Prog.lift (.enqueueDma ((vM.slice (Rect.unit (s := S4x2048x32x128) (H.off h c 3) S1x2048x1x128.size (H.inb h c 3)) (fun _ => rfl)).squeeze S2048x128 squeezes_S1x2048x1x128_S2048x128) (.here vbW3) (.dma cc0_scratch12.sem) ((View.wordExact_bits rfl).reshape _ _) ((View.wordExact_bits rfl).reshape _ _) ⟨Or.inl rfl, trivial⟩)
  Prog.lift (.enqueueDma ((kM.slice (Rect.unit (s := S4x2048x32x128) (H.off h c 4) S1x2048x1x128.size (H.inb h c 4)) (fun _ => rfl)).squeeze S2048x128 squeezes_S1x2048x1x128_S2048x128) (.here kbW4) (.dma cc0_scratch11.sem) ((View.wordExact_bits rfl).reshape _ _) ((View.wordExact_bits rfl).reshape _ _) ⟨Or.inl rfl, trivial⟩)
  Prog.lift (.enqueueDma ((vM.slice (Rect.unit (s := S4x2048x32x128) (H.off h c 4) S1x2048x1x128.size (H.inb h c 4)) (fun _ => rfl)).squeeze S2048x128 squeezes_S1x2048x1x128_S2048x128) (.here vbW4) (.dma cc0_scratch12.sem) ((View.wordExact_bits rfl).reshape _ _) ((View.wordExact_bits rfl).reshape _ _) ⟨Or.inl rfl, trivial⟩)
  Prog.lift (.enqueueDma ((kM.slice (Rect.unit (s := S4x2048x32x128) (H.off h c 5) S1x2048x1x128.size (H.inb h c 5)) (fun _ => rfl)).squeeze S2048x128 squeezes_S1x2048x1x128_S2048x128) (.here kbW5) (.dma cc0_scratch11.sem) ((View.wordExact_bits rfl).reshape _ _) ((View.wordExact_bits rfl).reshape _ _) ⟨Or.inl rfl, trivial⟩)
  Prog.lift (.enqueueDma ((vM.slice (Rect.unit (s := S4x2048x32x128) (H.off h c 5) S1x2048x1x128.size (H.inb h c 5)) (fun _ => rfl)).squeeze S2048x128 squeezes_S1x2048x1x128_S2048x128) (.here vbW5) (.dma cc0_scratch12.sem) ((View.wordExact_bits rfl).reshape _ _) ((View.wordExact_bits rfl).reshape _ _) ⟨Or.inl rfl, trivial⟩)
  Prog.lift (.enqueueDma ((kM.slice (Rect.unit (s := S4x2048x32x128) (H.off h c 6) S1x2048x1x128.size (H.inb h c 6)) (fun _ => rfl)).squeeze S2048x128 squeezes_S1x2048x1x128_S2048x128) (.here kbW6) (.dma cc0_scratch11.sem) ((View.wordExact_bits rfl).reshape _ _) ((View.wordExact_bits rfl).reshape _ _) ⟨Or.inl rfl, trivial⟩)
  Prog.lift (.enqueueDma ((vM.slice (Rect.unit (s := S4x2048x32x128) (H.off h c 6) S1x2048x1x128.size (H.inb h c 6)) (fun _ => rfl)).squeeze S2048x128 squeezes_S1x2048x1x128_S2048x128) (.here vbW6) (.dma cc0_scratch12.sem) ((View.wordExact_bits rfl).reshape _ _) ((View.wordExact_bits rfl).reshape _ _) ⟨Or.inl rfl, trivial⟩)
  Prog.lift (.enqueueDma ((kM.slice (Rect.unit (s := S4x2048x32x128) (H.off h c 7) S1x2048x1x128.size (H.inb h c 7)) (fun _ => rfl)).squeeze S2048x128 squeezes_S1x2048x1x128_S2048x128) (.here kbW7) (.dma cc0_scratch11.sem) ((View.wordExact_bits rfl).reshape _ _) ((View.wordExact_bits rfl).reshape _ _) ⟨Or.inl rfl, trivial⟩)
  Prog.lift (.enqueueDma ((vM.slice (Rect.unit (s := S4x2048x32x128) (H.off h c 7) S1x2048x1x128.size (H.inb h c 7)) (fun _ => rfl)).squeeze S2048x128 squeezes_S1x2048x1x128_S2048x128) (.here vbW7) (.dma cc0_scratch12.sem) ((View.wordExact_bits rfl).reshape _ _) ((View.wordExact_bits rfl).reshape _ _) ⟨Or.inl rfl, trivial⟩)

/-- and waited for. -/
abbrev waitHeads (H : Heads) (h : Fin 2) (c : Dev nD) : Prog (TpuEff nD τ sig (Elt F) Λ₀ .tc) PUnit := do
  Prog.lift (.waitDma2 cc0_scratch11.sem ((kM.slice (Rect.unit (s := S4x2048x32x128) (H.off h c 0) S1x2048x1x128.size (H.inb h c 0)) (fun _ => rfl)).squeeze S2048x128 squeezes_S1x2048x1x128_S2048x128) kbW0 ((View.wordExact_bits rfl).reshape _ _) ((View.wordExact_bits rfl).reshape _ _))
  Prog.lift (.waitDma2 cc0_scratch12.sem ((vM.slice (Rect.unit (s := S4x2048x32x128) (H.off h c 0) S1x2048x1x128.size (H.inb h c 0)) (fun _ => rfl)).squeeze S2048x128 squeezes_S1x2048x1x128_S2048x128) vbW0 ((View.wordExact_bits rfl).reshape _ _) ((View.wordExact_bits rfl).reshape _ _))
  Prog.lift (.waitDma2 cc0_scratch11.sem ((kM.slice (Rect.unit (s := S4x2048x32x128) (H.off h c 1) S1x2048x1x128.size (H.inb h c 1)) (fun _ => rfl)).squeeze S2048x128 squeezes_S1x2048x1x128_S2048x128) kbW1 ((View.wordExact_bits rfl).reshape _ _) ((View.wordExact_bits rfl).reshape _ _))
  Prog.lift (.waitDma2 cc0_scratch12.sem ((vM.slice (Rect.unit (s := S4x2048x32x128) (H.off h c 1) S1x2048x1x128.size (H.inb h c 1)) (fun _ => rfl)).squeeze S2048x128 squeezes_S1x2048x1x128_S2048x128) vbW1 ((View.wordExact_bits rfl).reshape _ _) ((View.wordExact_bits rfl).reshape _ _))
  Prog.lift (.waitDma2 cc0_scratch11.sem ((kM.slice (Rect.unit (s := S4x2048x32x128) (H.off h c 2) S1x2048x1x128.size (H.inb h c 2)) (fun _ => rfl)).squeeze S2048x128 squeezes_S1x2048x1x128_S2048x128) kbW2 ((View.wordExact_bits rfl).reshape _ _) ((View.wordExact_bits rfl).reshape _ _))
  Prog.lift (.waitDma2 cc0_scratch12.sem ((vM.slice (Rect.unit (s := S4x2048x32x128) (H.off h c 2) S1x2048x1x128.size (H.inb h c 2)) (fun _ => rfl)).squeeze S2048x128 squeezes_S1x2048x1x128_S2048x128) vbW2 ((View.wordExact_bits rfl).reshape _ _) ((View.wordExact_bits rfl).reshape _ _))
  Prog.lift (.waitDma2 cc0_scratch11.sem ((kM.slice (Rect.unit (s := S4x2048x32x128) (H.off h c 3) S1x2048x1x128.size (H.inb h c 3)) (fun _ => rfl)).squeeze S2048x128 squeezes_S1x2048x1x128_S2048x128) kbW3 ((View.wordExact_bits rfl).reshape _ _) ((View.wordExact_bits rfl).reshape _ _))
  Prog.lift (.waitDma2 cc0_scratch12.sem ((vM.slice (Rect.unit (s := S4x2048x32x128) (H.off h c 3) S1x2048x1x128.size (H.inb h c 3)) (fun _ => rfl)).squeeze S2048x128 squeezes_S1x2048x1x128_S2048x128) vbW3 ((View.wordExact_bits rfl).reshape _ _) ((View.wordExact_bits rfl).reshape _ _))
  Prog.lift (.waitDma2 cc0_scratch11.sem ((kM.slice (Rect.unit (s := S4x2048x32x128) (H.off h c 4) S1x2048x1x128.size (H.inb h c 4)) (fun _ => rfl)).squeeze S2048x128 squeezes_S1x2048x1x128_S2048x128) kbW4 ((View.wordExact_bits rfl).reshape _ _) ((View.wordExact_bits rfl).reshape _ _))
  Prog.lift (.waitDma2 cc0_scratch12.sem ((vM.slice (Rect.unit (s := S4x2048x32x128) (H.off h c 4) S1x2048x1x128.size (H.inb h c 4)) (fun _ => rfl)).squeeze S2048x128 squeezes_S1x2048x1x128_S2048x128) vbW4 ((View.wordExact_bits rfl).reshape _ _) ((View.wordExact_bits rfl).reshape _ _))
  Prog.lift (.waitDma2 cc0_scratch11.sem ((kM.slice (Rect.unit (s := S4x2048x32x128) (H.off h c 5) S1x2048x1x128.size (H.inb h c 5)) (fun _ => rfl)).squeeze S2048x128 squeezes_S1x2048x1x128_S2048x128) kbW5 ((View.wordExact_bits rfl).reshape _ _) ((View.wordExact_bits rfl).reshape _ _))
  Prog.lift (.waitDma2 cc0_scratch12.sem ((vM.slice (Rect.unit (s := S4x2048x32x128) (H.off h c 5) S1x2048x1x128.size (H.inb h c 5)) (fun _ => rfl)).squeeze S2048x128 squeezes_S1x2048x1x128_S2048x128) vbW5 ((View.wordExact_bits rfl).reshape _ _) ((View.wordExact_bits rfl).reshape _ _))
  Prog.lift (.waitDma2 cc0_scratch11.sem ((kM.slice (Rect.unit (s := S4x2048x32x128) (H.off h c 6) S1x2048x1x128.size (H.inb h c 6)) (fun _ => rfl)).squeeze S2048x128 squeezes_S1x2048x1x128_S2048x128) kbW6 ((View.wordExact_bits rfl).reshape _ _) ((View.wordExact_bits rfl).reshape _ _))
  Prog.lift (.waitDma2 cc0_scratch12.sem ((vM.slice (Rect.unit (s := S4x2048x32x128) (H.off h c 6) S1x2048x1x128.size (H.inb h c 6)) (fun _ => rfl)).squeeze S2048x128 squeezes_S1x2048x1x128_S2048x128) vbW6 ((View.wordExact_bits rfl).reshape _ _) ((View.wordExact_bits rfl).reshape _ _))
  Prog.lift (.waitDma2 cc0_scratch11.sem ((kM.slice (Rect.unit (s := S4x2048x32x128) (H.off h c 7) S1x2048x1x128.size (H.inb h c 7)) (fun _ => rfl)).squeeze S2048x128 squeezes_S1x2048x1x128_S2048x128) kbW7 ((View.wordExact_bits rfl).reshape _ _) ((View.wordExact_bits rfl).reshape _ _))
  Prog.lift (.waitDma2 cc0_scratch12.sem ((vM.slice (Rect.unit (s := S4x2048x32x128) (H.off h c 7) S1x2048x1x128.size (H.inb h c 7)) (fun _ => rfl)).squeeze S2048x128 squeezes_S1x2048x1x128_S2048x128) vbW7 ((View.wordExact_bits rfl).reshape _ _) ((View.wordExact_bits rfl).reshape _ _))

/-- Hop 0: copies of the heads, query projection, output weights, attention, and the first wait of the exchange. -/
abbrev hop0B (H : Heads) (c : Dev nD) (v7 : BitVec 32) : Prog (TpuEff nD τ sig (Elt F) Λ₀ .tc) (BitVec 32) := do
  startHeads H 0 c
  Scf.Loop.for k0_t1_loop k0_t1_ok ⟨⟩ (k0_t1_body xM (Memref.isWhole_whole _) wqM (Memref.isWhole_whole _) woM (Memref.isWhole_whole _) kM (Memref.isWhole_whole _) vM (Memref.isWhole_whole _) oM (Memref.isWhole_whole _) aM (Memref.isWhole_whole _) bM (Memref.isWhole_whole _) cM (Memref.isWhole_whole _) dM (Memref.isWhole_whole _) wofM (Memref.isWhole_whole _) xbM (Memref.isWhole_whole _) qM (Memref.isWhole_whole _) kbM (Memref.isWhole_whole _) vbM (Memref.isWhole_whole _) cc0_scratch9 cc0_scratch10 cc0_scratch11 cc0_scratch12 c)
  let v197 : Vec F S1x512x1024 .bf16 ← Prog.lift (.load bM (Rect.unit (s := S2x512x1024) ![0, 0, 0] S1x512x1024.size inb_S2x512x1024_S1x512x1024_0_0_0).toLoadRect (View.loadsAt_vmem h_S1x512x1024))
  let v199 : Vec F S512x1024 .bf16 ← Prog.lift (.load wofM (Rect.unit (s := S1024x1024) ![0, 0] S512x1024.size inb_S1024x1024_S512x1024_0_0).toLoadRect (View.loadsAt_vmem h_S512x1024))
  Prog.lift (.store wofM (Rect.unit (s := S1024x1024) ![0, 0] S512x1024.size inb_S1024x1024_S512x1024_0_0) (k0_pay29 v197) Finset.univ (View.stores_vmem h_S512x1024 ((Memref.isWhole_whole _).storeExact_slice rfl _ packedbf16_S1024x1024_S512x1024_0_0) (fun _ => rfl)) (.inl rfl))
  let v202 : Vec F S1x512x1024 .bf16 ← Prog.lift (.load dM (Rect.unit (s := S2x512x1024) ![0, 0, 0] S1x512x1024.size inb_S2x512x1024_S1x512x1024_0_0_0).toLoadRect (View.loadsAt_vmem h_S1x512x1024))
  let v204 : Vec F S512x1024 .bf16 ← Prog.lift (.load wofM (Rect.unit (s := S1024x1024) ![512, 0] S512x1024.size inb_S1024x1024_S512x1024_512_0).toLoadRect (View.loadsAt_vmem h_S512x1024))
  Prog.lift (.store wofM (Rect.unit (s := S1024x1024) ![512, 0] S512x1024.size inb_S1024x1024_S512x1024_512_0) (k0_pay30 v202) Finset.univ (View.stores_vmem h_S512x1024 ((Memref.isWhole_whole _).storeExact_slice rfl _ packedbf16_S1024x1024_S512x1024_512_0) (fun _ => rfl)) (.inl rfl))
  waitHeads H 0 c
  Scf.Loop.for k0_t2_loop k0_t2_ok ⟨⟩ (k0_t2_body xM (Memref.isWhole_whole _) wqM (Memref.isWhole_whole _) woM (Memref.isWhole_whole _) kM (Memref.isWhole_whole _) vM (Memref.isWhole_whole _) oM (Memref.isWhole_whole _) aM (Memref.isWhole_whole _) bM (Memref.isWhole_whole _) cM (Memref.isWhole_whole _) dM (Memref.isWhole_whole _) wofM (Memref.isWhole_whole _) xbM (Memref.isWhole_whole _) qM (Memref.isWhole_whole _) kbM (Memref.isWhole_whole _) vbM (Memref.isWhole_whole _) cc0_scratch9 cc0_scratch10 cc0_scratch11 cc0_scratch12 c v7)
  let v272 : DmaSems sig S1x1 := cc0_scratch9.slice (Rect.unit (s := S4x2) ![0, 0] S1x1.size inb_S4x2_S1x1_0_0)
  let v273 : DmaSems sig S_ := v272.squeeze S_ squeezes_S1x1_S_
  let v274 : Memref sig .tc .vmem S1x1024x512 .bf16 := aM.slice (Rect.unit (s := S2x1024x512) ![0, 0, 0] S1x1024x512.size inb_S2x1024x512_S1x1024x512_0_0_0) (fun _ => rfl)
  let v275 : Memref sig .tc .vmem S1024x512 .bf16 := v274.squeeze S1024x512 squeezes_S1x1024x512_S1024x512
  let v276 : Memref sig .tc .vmem S1x1024x512 .bf16 := aM.slice (Rect.unit (s := S2x1024x512) ![1, 0, 0] S1x1024x512.size inb_S2x1024x512_S1x1024x512_1_0_0) (fun _ => rfl)
  let v277 : Memref sig .tc .vmem S1024x512 .bf16 := v276.squeeze S1024x512 squeezes_S1x1024x512_S1024x512
  Prog.lift (.waitDma2 v273.sem v277 v275 (((Memref.isWhole_whole _).wordExact_slice rfl _ wordsbf16_S2x1024x512_S1x1024x512_1_0_0).reshape _ _) (((Memref.isWhole_whole _).wordExact_slice rfl _ wordsbf16_S2x1024x512_S1x1024x512_0_0_0).reshape _ _))
  let v278 : BitVec 32 := Scalar.muli v7 1#32
  pure v278

/-- Hop 1: the same, with no wait after it. -/
abbrev hop1B (H : Heads) (c : Dev nD) : Prog (TpuEff nD τ sig (Elt F) Λ₀ .tc) PUnit := do
  startHeads H 1 c
  Scf.Loop.for k0_t3_loop k0_t3_ok ⟨⟩ (k0_t3_body xM (Memref.isWhole_whole _) wqM (Memref.isWhole_whole _) woM (Memref.isWhole_whole _) kM (Memref.isWhole_whole _) vM (Memref.isWhole_whole _) oM (Memref.isWhole_whole _) aM (Memref.isWhole_whole _) bM (Memref.isWhole_whole _) cM (Memref.isWhole_whole _) dM (Memref.isWhole_whole _) wofM (Memref.isWhole_whole _) xbM (Memref.isWhole_whole _) qM (Memref.isWhole_whole _) kbM (Memref.isWhole_whole _) vbM (Memref.isWhole_whole _) cc0_scratch9 cc0_scratch10 cc0_scratch11 cc0_scratch12 c)
  let v438 : Vec F S1x512x1024 .bf16 ← Prog.lift (.load bM (Rect.unit (s := S2x512x1024) ![1, 0, 0] S1x512x1024.size inb_S2x512x1024_S1x512x1024_1_0_0).toLoadRect (View.loadsAt_vmem h_S1x512x1024))
  let v440 : Vec F S512x1024 .bf16 ← Prog.lift (.load wofM (Rect.unit (s := S1024x1024) ![0, 0] S512x1024.size inb_S1024x1024_S512x1024_0_0).toLoadRect (View.loadsAt_vmem h_S512x1024))
  Prog.lift (.store wofM (Rect.unit (s := S1024x1024) ![0, 0] S512x1024.size inb_S1024x1024_S512x1024_0_0) (k0_pay34 v438) Finset.univ (View.stores_vmem h_S512x1024 ((Memref.isWhole_whole _).storeExact_slice rfl _ packedbf16_S1024x1024_S512x1024_0_0) (fun _ => rfl)) (.inl rfl))
  let v443 : Vec F S1x512x1024 .bf16 ← Prog.lift (.load dM (Rect.unit (s := S2x512x1024) ![1, 0, 0] S1x512x1024.size inb_S2x512x1024_S1x512x1024_1_0_0).toLoadRect (View.loadsAt_vmem h_S1x512x1024))
  let v445 : Vec F S512x1024 .bf16 ← Prog.lift (.load wofM (Rect.unit (s := S1024x1024) ![512, 0] S512x1024.size inb_S1024x1024_S512x1024_512_0).toLoadRect (View.loadsAt_vmem h_S512x1024))
  Prog.lift (.store wofM (Rect.unit (s := S1024x1024) ![512, 0] S512x1024.size inb_S1024x1024_S512x1024_512_0) (k0_pay35 v443) Finset.univ (View.stores_vmem h_S512x1024 ((Memref.isWhole_whole _).storeExact_slice rfl _ packedbf16_S1024x1024_S512x1024_512_0) (fun _ => rfl)) (.inl rfl))
  waitHeads H 1 c
  Scf.Loop.for k0_t4_loop k0_t4_ok ⟨⟩ (k0_t4_body xM (Memref.isWhole_whole _) wqM (Memref.isWhole_whole _) woM (Memref.isWhole_whole _) kM (Memref.isWhole_whole _) vM (Memref.isWhole_whole _) oM (Memref.isWhole_whole _) aM (Memref.isWhole_whole _) bM (Memref.isWhole_whole _) cM (Memref.isWhole_whole _) dM (Memref.isWhole_whole _) wofM (Memref.isWhole_whole _) xbM (Memref.isWhole_whole _) qM (Memref.isWhole_whole _) kbM (Memref.isWhole_whole _) vbM (Memref.isWhole_whole _) cc0_scratch9 cc0_scratch10 cc0_scratch11 cc0_scratch12)
  pure ⟨⟩

set_option maxHeartbeats 4000000 in
/-- Hop 0's copies of the heads, query projection, output weights and attention. -/
theorem hop0 (H : Heads) (m : (ℓ : Loc nD τ sig) → Buf (Elt F) ℓ) (ρ : Dev nD → PrngReg) (κ : ℕ) (c : Dev nD) (W : Waits sig Unit) (q : PosShare TreeShare) (X : S2048x1024.Idx → F .bf16) (A C : S2x1024x512.Idx → F .bf16) (B D : S2x512x1024.Idx → F .bf16)
    (KC VC : S4x2048x32x128.Idx → F .f32) (wf : S1024x1024.Idx → F .bf16) (qf : S2048x1024.Idx → F .bf16) (kf vf : S8x2048x128.Idx → F .f32) (of : S1x2048x1024.Idx → F .f32)
    (v7 : BitVec 32) {α : Type} (Q : α → sProp 𝕄) (kk : BitVec 32 → Prog (TpuEff nD τ sig (Elt F) Λ₀ .tc) α)
    (_plK : Transfers.BatchOf (c : Thread nD τ) (SemLoc.dma (sig := sig) kSem) 8)
    (_plV : Transfers.BatchOf (c : Thread nD τ) (SemLoc.dma (sig := sig) vSem) 8) :
    iprop(cellRes m ρ c 5 κ ∗ toks c kM KC ∗ toks c vM VC ∗ (xbM.view.loc (c : Thread nD τ) ↦[xbM.view.set]{fullShare} X) ∗ winPts (F := F) aS0 c q A ∗ winPts (F := F) cS0 c q C
      ∗ (qM.view.loc (c : Thread nD τ) ↦[qM.view.set]{fullShare} qf) ∗ winPts (F := F) bS0 c q B ∗ winPts (F := F) dS0 c q D
      ∗ (wofM.view.loc (c : Thread nD τ) ↦[wofM.view.set]{fullShare} wf)
      ∗ (kbM.view.loc (c : Thread nD τ) ↦[kbM.view.set]{fullShare} kf) ∗ (vbM.view.loc (c : Thread nD τ) ↦[vbM.view.set]{fullShare} vf)
      ∗ (oM.view.loc (c : Thread nD τ) ↦[oM.view.set]{fullShare} of)
      ∗ semVal ((c : Thread nD τ), SemLoc.dma kSem) 0 ∗ semVal ((c : Thread nD τ), SemLoc.dma vSem) 0 ∗ owes (c : Thread nD τ) 0 W
      ∗ (∀ v, (semVal (kcell (c, 5)) 0 ∗ pay m ρ 5 false c ∗ (∃ W', owes (c : Thread nD τ) 0 W') ∗ toks c kM KC ∗ toks c vM VC ∗ (xbM.view.loc (c : Thread nD τ) ↦[xbM.view.set]{fullShare} X) ∗ winPts (F := F) aS0 c q A ∗ winPts (F := F) cS0 c q C
      ∗ (qM.view.loc (c : Thread nD τ) ↦[qM.view.set]{fullShare} (qTgt X (slotQ A 0) (slotQ C 0))) ∗ winPts (F := F) bS0 c q B ∗ winPts (F := F) dS0 c q D
      ∗ (wofM.view.loc (c : Thread nD τ) ↦[wofM.view.set]{fullShare} (wTgt (k0_pay29 (slotO B 0)) (k0_pay30 (slotO D 0))))
      ∗ (kbM.view.loc (c : Thread nD τ) ↦[kbM.view.set]{fullShare} (kvTgt H 0 c KC)) ∗ (vbM.view.loc (c : Thread nD τ) ↦[vbM.view.set]{fullShare} (kvTgt H 0 c VC))
      ∗ (oM.view.loc (c : Thread nD τ) ↦[oM.view.set]{fullShare} (oTgt0 (qTgt X (slotQ A 0) (slotQ C 0)) (kvTgt H 0 c KC) (kvTgt H 0 c VC) (wTgt (k0_pay29 (slotO B 0)) (k0_pay30 (slotO D 0)))))
      ∗ semVal ((c : Thread nD τ), SemLoc.dma kSem) 0 ∗ semVal ((c : Thread nD τ), SemLoc.dma vSem) 0)
          -∗ wp (M := 𝕄) frame (wpE 𝒟 𝒱₀ (c : Thread nD τ) none) Set.univ (kk v) Q))
    ⊢ wp (M := 𝕄) frame (wpE 𝒟 𝒱₀ (c : Thread nD τ) none) Set.univ (do let v ← hop0B (F := F) H c v7; kk v) Q := by
  rw [kb_split c kf, vb_split c vf]
  unfold toks
  iintro ⟨Hcell, ⟨HKr, HK0, HK1, HK2, HK3, HK4, HK5, HK6, HK7⟩, ⟨HVr, HV0, HV1, HV2, HV3, HV4, HV5, HV6, HV7⟩, HX, HA, HC, HQ, HB, HD, HW, ⟨Hkb0, Hkb1, Hkb2, Hkb3, Hkb4, Hkb5, Hkb6, Hkb7⟩, ⟨Hvb0, Hvb1, Hvb2, Hvb3, Hvb4, Hvb5, Hvb6, Hvb7⟩, Hout, HsK, HsV, HO, Hk⟩
  sl_exec
  sl_for (projInv1 c q X A C) $$ [HX HA HC HQ]
  case region => intro k _; exact t1_trip c c Set.univ q X A C k
  · unfold projInv1
    isplitl [HX]; · iexact HX
    isplitl [HA]; · iexact HA
    isplitl [HC]; · iexact HC
    iexists qf
    isplitl [HQ]; · iexact HQ
    ipureintro; intro y hy; exact absurd hy (by omega)
  iintro %u HP
  sl_exec
  ihave Hkb0 := (landed kbW0 c fullShare _ (kvTgt H 0 c KC) (hop0.sl.dma0 H c KC) (fun z => (head_read kM _ ⟨c.val, c.isLt⟩ (H.hd 0 c 0) (H.eq 0 c 0) _ _ _ KC z).trans (kb_tgt (H.hd 0 c) c KC 0 (by decide) _ _ _ z).symm)) $$ Hkb0
  ihave Hvb0 := (landed vbW0 c fullShare _ (kvTgt H 0 c VC) (hop0.sl.dma1 H c VC) (fun z => (head_read vM _ ⟨c.val, c.isLt⟩ (H.hd 0 c 0) (H.eq 0 c 0) _ _ _ VC z).trans (vb_tgt (H.hd 0 c) c VC 0 (by decide) _ _ _ z).symm)) $$ Hvb0
  ihave Hkb1 := (landed kbW1 c fullShare _ (kvTgt H 0 c KC) (hop0.sl.dma2 H c KC) (fun z => (head_read kM _ ⟨c.val, c.isLt⟩ (H.hd 0 c 1) (H.eq 0 c 1) _ _ _ KC z).trans (kb_tgt (H.hd 0 c) c KC 1 (by decide) _ _ _ z).symm)) $$ Hkb1
  ihave Hvb1 := (landed vbW1 c fullShare _ (kvTgt H 0 c VC) (hop0.sl.dma3 H c VC) (fun z => (head_read vM _ ⟨c.val, c.isLt⟩ (H.hd 0 c 1) (H.eq 0 c 1) _ _ _ VC z).trans (vb_tgt (H.hd 0 c) c VC 1 (by decide) _ _ _ z).symm)) $$ Hvb1
  ihave Hkb2 := (landed kbW2 c fullShare _ (kvTgt H 0 c KC) (hop0.sl.dma4 H c KC) (fun z => (head_read kM _ ⟨c.val, c.isLt⟩ (H.hd 0 c 2) (H.eq 0 c 2) _ _ _ KC z).trans (kb_tgt (H.hd 0 c) c KC 2 (by decide) _ _ _ z).symm)) $$ Hkb2
  ihave Hvb2 := (landed vbW2 c fullShare _ (kvTgt H 0 c VC) (hop0.sl.dma5 H c VC) (fun z => (head_read vM _ ⟨c.val, c.isLt⟩ (H.hd 0 c 2) (H.eq 0 c 2) _ _ _ VC z).trans (vb_tgt (H.hd 0 c) c VC 2 (by decide) _ _ _ z).symm)) $$ Hvb2
  ihave Hkb3 := (landed kbW3 c fullShare _ (kvTgt H 0 c KC) (hop0.sl.dma6 H c KC) (fun z => (head_read kM _ ⟨c.val, c.isLt⟩ (H.hd 0 c 3) (H.eq 0 c 3) _ _ _ KC z).trans (kb_tgt (H.hd 0 c) c KC 3 (by decide) _ _ _ z).symm)) $$ Hkb3
  ihave Hvb3 := (landed vbW3 c fullShare _ (kvTgt H 0 c VC) (hop0.sl.dma7 H c VC) (fun z => (head_read vM _ ⟨c.val, c.isLt⟩ (H.hd 0 c 3) (H.eq 0 c 3) _ _ _ VC z).trans (vb_tgt (H.hd 0 c) c VC 3 (by decide) _ _ _ z).symm)) $$ Hvb3
  ihave Hkb4 := (landed kbW4 c fullShare _ (kvTgt H 0 c KC) (hop0.sl.dma8 H c KC) (fun z => (head_read kM _ ⟨c.val, c.isLt⟩ (H.hd 0 c 4) (H.eq 0 c 4) _ _ _ KC z).trans (kb_tgt (H.hd 0 c) c KC 4 (by decide) _ _ _ z).symm)) $$ Hkb4
  ihave Hvb4 := (landed vbW4 c fullShare _ (kvTgt H 0 c VC) (hop0.sl.dma9 H c VC) (fun z => (head_read vM _ ⟨c.val, c.isLt⟩ (H.hd 0 c 4) (H.eq 0 c 4) _ _ _ VC z).trans (vb_tgt (H.hd 0 c) c VC 4 (by decide) _ _ _ z).symm)) $$ Hvb4
  ihave Hkb5 := (landed kbW5 c fullShare _ (kvTgt H 0 c KC) (hop0.sl.dma10 H c KC) (fun z => (head_read kM _ ⟨c.val, c.isLt⟩ (H.hd 0 c 5) (H.eq 0 c 5) _ _ _ KC z).trans (kb_tgt (H.hd 0 c) c KC 5 (by decide) _ _ _ z).symm)) $$ Hkb5
  ihave Hvb5 := (landed vbW5 c fullShare _ (kvTgt H 0 c VC) (hop0.sl.dma11 H c VC) (fun z => (head_read vM _ ⟨c.val, c.isLt⟩ (H.hd 0 c 5) (H.eq 0 c 5) _ _ _ VC z).trans (vb_tgt (H.hd 0 c) c VC 5 (by decide) _ _ _ z).symm)) $$ Hvb5
  ihave Hkb6 := (landed kbW6 c fullShare _ (kvTgt H 0 c KC) (hop0.sl.dma12 H c KC) (fun z => (head_read kM _ ⟨c.val, c.isLt⟩ (H.hd 0 c 6) (H.eq 0 c 6) _ _ _ KC z).trans (kb_tgt (H.hd 0 c) c KC 6 (by decide) _ _ _ z).symm)) $$ Hkb6
  ihave Hvb6 := (landed vbW6 c fullShare _ (kvTgt H 0 c VC) (hop0.sl.dma13 H c VC) (fun z => (head_read vM _ ⟨c.val, c.isLt⟩ (H.hd 0 c 6) (H.eq 0 c 6) _ _ _ VC z).trans (vb_tgt (H.hd 0 c) c VC 6 (by decide) _ _ _ z).symm)) $$ Hvb6
  ihave Hkb7 := (landed kbW7 c fullShare _ (kvTgt H 0 c KC) (hop0.sl.dma14 H c KC) (fun z => (head_read kM _ ⟨c.val, c.isLt⟩ (H.hd 0 c 7) (H.eq 0 c 7) _ _ _ KC z).trans (kb_tgt (H.hd 0 c) c KC 7 (by decide) _ _ _ z).symm)) $$ Hkb7
  ihave Hvb7 := (landed vbW7 c fullShare _ (kvTgt H 0 c VC) (hop0.sl.dma15 H c VC) (fun z => (head_read vM _ ⟨c.val, c.isLt⟩ (H.hd 0 c 7) (H.eq 0 c 7) _ _ _ VC z).trans (vb_tgt (H.hd 0 c) c VC 7 (by decide) _ _ _ z).symm)) $$ Hvb7
  ihave Hkb := (Entails.of_eq (kb_split c (kvTgt H 0 c KC)).symm) $$ [Hkb0 Hkb1 Hkb2 Hkb3 Hkb4 Hkb5 Hkb6 Hkb7]
  · isplitl [Hkb0]; · iexact Hkb0
    isplitl [Hkb1]; · iexact Hkb1
    isplitl [Hkb2]; · iexact Hkb2
    isplitl [Hkb3]; · iexact Hkb3
    isplitl [Hkb4]; · iexact Hkb4
    isplitl [Hkb5]; · iexact Hkb5
    isplitl [Hkb6]; · iexact Hkb6
    iexact Hkb7
  ihave Hvb := (Entails.of_eq (vb_split c (kvTgt H 0 c VC)).symm) $$ [Hvb0 Hvb1 Hvb2 Hvb3 Hvb4 Hvb5 Hvb6 Hvb7]
  · isplitl [Hvb0]; · iexact Hvb0
    isplitl [Hvb1]; · iexact Hvb1
    isplitl [Hvb2]; · iexact Hvb2
    isplitl [Hvb3]; · iexact Hvb3
    isplitl [Hvb4]; · iexact Hvb4
    isplitl [Hvb5]; · iexact Hvb5
    isplitl [Hvb6]; · iexact Hvb6
    iexact Hvb7
  unfold projInv1
  icases HP with ⟨HX, HA, HC, %qf', HQ, %hq⟩
  ihave HQ := (Entails.of_eq (pointsTo_congr (g := (qTgt X (slotQ A 0) (slotQ C 0))) fun y _ => hq y (lt_of_lt_of_le (y 0).isLt (by decide : 2048 ≤ 512 * k0_t1_loop.trips)))) $$ HQ
  ihave HW := (Entails.of_eq (pointsTo_congr (g := (wTgt (k0_pay29 (slotO B 0)) (k0_pay30 (slotO D 0)))) fun y _ => (w_step _ _ _ y).trans (congrArg₂ (fun u v => wTgt (k0_pay29 u) (k0_pay30 v) y) (read_b0 _ _ rfl B) (read_d0 _ _ rfl D)))) $$ HW
  sl_for (attInv2 c (qTgt X (slotQ A 0) (slotQ C 0)) (kvTgt H 0 c KC) (kvTgt H 0 c VC) (wTgt (k0_pay29 (slotO B 0)) (k0_pay30 (slotO D 0)))) $$ [HW HQ Hkb Hvb Hout]
  case region => intro k _; exact t2_trip c c v7 Set.univ (qTgt X (slotQ A 0) (slotQ C 0)) (kvTgt H 0 c KC) (kvTgt H 0 c VC) (wTgt (k0_pay29 (slotO B 0)) (k0_pay30 (slotO D 0))) k
  · unfold attInv2
    isplitl [HW]; · iexact HW
    isplitl [HQ]; · iexact HQ
    isplitl [Hkb]; · iexact Hkb
    isplitl [Hvb]; · iexact Hvb
    iexists of
    isplitl [Hout]; · iexact Hout
    ipureintro; intro y; exact fun hy => absurd hy (by omega)
  iintro %u2 HP2
  unfold attInv2
  icases HP2 with ⟨HW, HQ, Hkb, Hvb, %of', Hout, %ho⟩
  ihave Hout := (Entails.of_eq (pointsTo_congr (g := (oTgt0 (qTgt X (slotQ A 0) (slotQ C 0)) (kvTgt H 0 c KC) (kvTgt H 0 c VC) (wTgt (k0_pay29 (slotO B 0)) (k0_pay30 (slotO D 0))))) fun y _ => ho y (lt_of_lt_of_le (y 1).isLt (by decide : 2048 ≤ 512 * k0_t2_loop.trips)))) $$ Hout
  iapply (wait_one m ρ c 5 (by decide) κ _ sS0 rfl aS1 aS0 _ _ rfl (fun _ => Pure.pure (Scalar.muli v7 1#32)) _) $$ [Hcell HO]
  · isplitl [Hcell]; · iexact Hcell
    iexact HO
  iintro ⟨HO, Hz, Hpay⟩
  rw [wp_pure]; imodintro
  iapply Hk
  isplitl [Hz]; · iexact Hz
  isplitl [Hpay]; · iexact Hpay
  isplitl [HO]; · iexists _; iexact HO
  isplitl [HKr HK0 HK1 HK2 HK3 HK4 HK5 HK6 HK7]
  · isplitl [HKr]; · iexact HKr
    isplitl [HK0]; · iexact HK0
    isplitl [HK1]; · iexact HK1
    isplitl [HK2]; · iexact HK2
    isplitl [HK3]; · iexact HK3
    isplitl [HK4]; · iexact HK4
    isplitl [HK5]; · iexact HK5
    isplitl [HK6]; · iexact HK6
    iexact HK7
  isplitl [HVr HV0 HV1 HV2 HV3 HV4 HV5 HV6 HV7]
  · isplitl [HVr]; · iexact HVr
    isplitl [HV0]; · iexact HV0
    isplitl [HV1]; · iexact HV1
    isplitl [HV2]; · iexact HV2
    isplitl [HV3]; · iexact HV3
    isplitl [HV4]; · iexact HV4
    isplitl [HV5]; · iexact HV5
    isplitl [HV6]; · iexact HV6
    iexact HV7
  isplitl [HX]; · iexact HX
  isplitl [HA]; · iexact HA
  isplitl [HC]; · iexact HC
  isplitl [HQ]; · iexact HQ
  isplitl [HB]; · iexact HB
  isplitl [HD]; · iexact HD
  isplitl [HW]; · iexact HW
  isplitl [Hkb]; · iexact Hkb
  isplitl [Hvb]; · iexact Hvb
  isplitl [Hout]; · iexact Hout
  isplitl [HsK]; · iexact HsK
  iexact HsV

set_option maxHeartbeats 4000000 in
/-- Hop 1's copies of the heads, query projection, output weights and attention. -/
theorem hop1 (H : Heads) (c : Dev nD) (W : Waits sig Unit) (q : PosShare TreeShare) (X : S2048x1024.Idx → F .bf16) (A C : S2x1024x512.Idx → F .bf16) (B D : S2x512x1024.Idx → F .bf16)
    (KC VC : S4x2048x32x128.Idx → F .f32) (wf : S1024x1024.Idx → F .bf16) (qf : S2048x1024.Idx → F .bf16) (kf vf : S8x2048x128.Idx → F .f32) (of : S1x2048x1024.Idx → F .f32)
    (Q : PUnit → sProp 𝕄)
    (_plK : Transfers.BatchOf (c : Thread nD τ) (SemLoc.dma (sig := sig) kSem) 8)
    (_plV : Transfers.BatchOf (c : Thread nD τ) (SemLoc.dma (sig := sig) vSem) 8) :
    iprop(toks c kM KC ∗ toks c vM VC ∗ (xbM.view.loc (c : Thread nD τ) ↦[xbM.view.set]{fullShare} X) ∗ winPts (F := F) aS1 c q A ∗ winPts (F := F) cS1 c q C
      ∗ (qM.view.loc (c : Thread nD τ) ↦[qM.view.set]{fullShare} qf) ∗ winPts (F := F) bS1 c q B ∗ winPts (F := F) dS1 c q D
      ∗ (wofM.view.loc (c : Thread nD τ) ↦[wofM.view.set]{fullShare} wf)
      ∗ (kbM.view.loc (c : Thread nD τ) ↦[kbM.view.set]{fullShare} kf) ∗ (vbM.view.loc (c : Thread nD τ) ↦[vbM.view.set]{fullShare} vf)
      ∗ (oM.view.loc (c : Thread nD τ) ↦[oM.view.set]{fullShare} of)
      ∗ semVal ((c : Thread nD τ), SemLoc.dma kSem) 0 ∗ semVal ((c : Thread nD τ), SemLoc.dma vSem) 0 ∗ owes (c : Thread nD τ) 0 W
      ∗ (((∃ W', owes (c : Thread nD τ) 0 W') ∗ toks c kM KC ∗ toks c vM VC ∗ (xbM.view.loc (c : Thread nD τ) ↦[xbM.view.set]{fullShare} X) ∗ winPts (F := F) aS1 c q A ∗ winPts (F := F) cS1 c q C
      ∗ (qM.view.loc (c : Thread nD τ) ↦[qM.view.set]{fullShare} (qTgt X (slotQ A 1) (slotQ C 1))) ∗ winPts (F := F) bS1 c q B ∗ winPts (F := F) dS1 c q D
      ∗ (wofM.view.loc (c : Thread nD τ) ↦[wofM.view.set]{fullShare} (wTgt (k0_pay34 (slotO B 1)) (k0_pay35 (slotO D 1))))
      ∗ (kbM.view.loc (c : Thread nD τ) ↦[kbM.view.set]{fullShare} (kvTgt H 1 c KC)) ∗ (vbM.view.loc (c : Thread nD τ) ↦[vbM.view.set]{fullShare} (kvTgt H 1 c VC))
      ∗ (oM.view.loc (c : Thread nD τ) ↦[oM.view.set]{fullShare} (oTgt1 (qTgt X (slotQ A 1) (slotQ C 1)) (kvTgt H 1 c KC) (kvTgt H 1 c VC) (wTgt (k0_pay34 (slotO B 1)) (k0_pay35 (slotO D 1))) of))
      ∗ semVal ((c : Thread nD τ), SemLoc.dma kSem) 0 ∗ semVal ((c : Thread nD τ), SemLoc.dma vSem) 0)
          -∗ Q ⟨⟩))
    ⊢ wp (M := 𝕄) frame (wpE 𝒟 𝒱₀ (c : Thread nD τ) none) Set.univ (hop1B (F := F) H c) Q := by
  rw [kb_split c kf, vb_split c vf]
  unfold toks
  iintro ⟨⟨HKr, HK0, HK1, HK2, HK3, HK4, HK5, HK6, HK7⟩, ⟨HVr, HV0, HV1, HV2, HV3, HV4, HV5, HV6, HV7⟩, HX, HA, HC, HQ, HB, HD, HW, ⟨Hkb0, Hkb1, Hkb2, Hkb3, Hkb4, Hkb5, Hkb6, Hkb7⟩, ⟨Hvb0, Hvb1, Hvb2, Hvb3, Hvb4, Hvb5, Hvb6, Hvb7⟩, Hout, HsK, HsV, HO, Hk⟩
  sl_exec
  sl_for (projInv3 c q X A C) $$ [HX HA HC HQ]
  case region => intro k _; exact t3_trip c c Set.univ q X A C k
  · unfold projInv3
    isplitl [HX]; · iexact HX
    isplitl [HA]; · iexact HA
    isplitl [HC]; · iexact HC
    iexists qf
    isplitl [HQ]; · iexact HQ
    ipureintro; intro y hy; exact absurd hy (by omega)
  iintro %u HP
  sl_exec
  ihave Hkb0 := (landed kbW0 c fullShare _ (kvTgt H 1 c KC) (hop1.sl.dma0 H c KC) (fun z => (head_read kM _ ⟨c.val, c.isLt⟩ (H.hd 1 c 0) (H.eq 1 c 0) _ _ _ KC z).trans (kb_tgt (H.hd 1 c) c KC 0 (by decide) _ _ _ z).symm)) $$ Hkb0
  ihave Hvb0 := (landed vbW0 c fullShare _ (kvTgt H 1 c VC) (hop1.sl.dma1 H c VC) (fun z => (head_read vM _ ⟨c.val, c.isLt⟩ (H.hd 1 c 0) (H.eq 1 c 0) _ _ _ VC z).trans (vb_tgt (H.hd 1 c) c VC 0 (by decide) _ _ _ z).symm)) $$ Hvb0
  ihave Hkb1 := (landed kbW1 c fullShare _ (kvTgt H 1 c KC) (hop1.sl.dma2 H c KC) (fun z => (head_read kM _ ⟨c.val, c.isLt⟩ (H.hd 1 c 1) (H.eq 1 c 1) _ _ _ KC z).trans (kb_tgt (H.hd 1 c) c KC 1 (by decide) _ _ _ z).symm)) $$ Hkb1
  ihave Hvb1 := (landed vbW1 c fullShare _ (kvTgt H 1 c VC) (hop1.sl.dma3 H c VC) (fun z => (head_read vM _ ⟨c.val, c.isLt⟩ (H.hd 1 c 1) (H.eq 1 c 1) _ _ _ VC z).trans (vb_tgt (H.hd 1 c) c VC 1 (by decide) _ _ _ z).symm)) $$ Hvb1
  ihave Hkb2 := (landed kbW2 c fullShare _ (kvTgt H 1 c KC) (hop1.sl.dma4 H c KC) (fun z => (head_read kM _ ⟨c.val, c.isLt⟩ (H.hd 1 c 2) (H.eq 1 c 2) _ _ _ KC z).trans (kb_tgt (H.hd 1 c) c KC 2 (by decide) _ _ _ z).symm)) $$ Hkb2
  ihave Hvb2 := (landed vbW2 c fullShare _ (kvTgt H 1 c VC) (hop1.sl.dma5 H c VC) (fun z => (head_read vM _ ⟨c.val, c.isLt⟩ (H.hd 1 c 2) (H.eq 1 c 2) _ _ _ VC z).trans (vb_tgt (H.hd 1 c) c VC 2 (by decide) _ _ _ z).symm)) $$ Hvb2
  ihave Hkb3 := (landed kbW3 c fullShare _ (kvTgt H 1 c KC) (hop1.sl.dma6 H c KC) (fun z => (head_read kM _ ⟨c.val, c.isLt⟩ (H.hd 1 c 3) (H.eq 1 c 3) _ _ _ KC z).trans (kb_tgt (H.hd 1 c) c KC 3 (by decide) _ _ _ z).symm)) $$ Hkb3
  ihave Hvb3 := (landed vbW3 c fullShare _ (kvTgt H 1 c VC) (hop1.sl.dma7 H c VC) (fun z => (head_read vM _ ⟨c.val, c.isLt⟩ (H.hd 1 c 3) (H.eq 1 c 3) _ _ _ VC z).trans (vb_tgt (H.hd 1 c) c VC 3 (by decide) _ _ _ z).symm)) $$ Hvb3
  ihave Hkb4 := (landed kbW4 c fullShare _ (kvTgt H 1 c KC) (hop1.sl.dma8 H c KC) (fun z => (head_read kM _ ⟨c.val, c.isLt⟩ (H.hd 1 c 4) (H.eq 1 c 4) _ _ _ KC z).trans (kb_tgt (H.hd 1 c) c KC 4 (by decide) _ _ _ z).symm)) $$ Hkb4
  ihave Hvb4 := (landed vbW4 c fullShare _ (kvTgt H 1 c VC) (hop1.sl.dma9 H c VC) (fun z => (head_read vM _ ⟨c.val, c.isLt⟩ (H.hd 1 c 4) (H.eq 1 c 4) _ _ _ VC z).trans (vb_tgt (H.hd 1 c) c VC 4 (by decide) _ _ _ z).symm)) $$ Hvb4
  ihave Hkb5 := (landed kbW5 c fullShare _ (kvTgt H 1 c KC) (hop1.sl.dma10 H c KC) (fun z => (head_read kM _ ⟨c.val, c.isLt⟩ (H.hd 1 c 5) (H.eq 1 c 5) _ _ _ KC z).trans (kb_tgt (H.hd 1 c) c KC 5 (by decide) _ _ _ z).symm)) $$ Hkb5
  ihave Hvb5 := (landed vbW5 c fullShare _ (kvTgt H 1 c VC) (hop1.sl.dma11 H c VC) (fun z => (head_read vM _ ⟨c.val, c.isLt⟩ (H.hd 1 c 5) (H.eq 1 c 5) _ _ _ VC z).trans (vb_tgt (H.hd 1 c) c VC 5 (by decide) _ _ _ z).symm)) $$ Hvb5
  ihave Hkb6 := (landed kbW6 c fullShare _ (kvTgt H 1 c KC) (hop1.sl.dma12 H c KC) (fun z => (head_read kM _ ⟨c.val, c.isLt⟩ (H.hd 1 c 6) (H.eq 1 c 6) _ _ _ KC z).trans (kb_tgt (H.hd 1 c) c KC 6 (by decide) _ _ _ z).symm)) $$ Hkb6
  ihave Hvb6 := (landed vbW6 c fullShare _ (kvTgt H 1 c VC) (hop1.sl.dma13 H c VC) (fun z => (head_read vM _ ⟨c.val, c.isLt⟩ (H.hd 1 c 6) (H.eq 1 c 6) _ _ _ VC z).trans (vb_tgt (H.hd 1 c) c VC 6 (by decide) _ _ _ z).symm)) $$ Hvb6
  ihave Hkb7 := (landed kbW7 c fullShare _ (kvTgt H 1 c KC) (hop1.sl.dma14 H c KC) (fun z => (head_read kM _ ⟨c.val, c.isLt⟩ (H.hd 1 c 7) (H.eq 1 c 7) _ _ _ KC z).trans (kb_tgt (H.hd 1 c) c KC 7 (by decide) _ _ _ z).symm)) $$ Hkb7
  ihave Hvb7 := (landed vbW7 c fullShare _ (kvTgt H 1 c VC) (hop1.sl.dma15 H c VC) (fun z => (head_read vM _ ⟨c.val, c.isLt⟩ (H.hd 1 c 7) (H.eq 1 c 7) _ _ _ VC z).trans (vb_tgt (H.hd 1 c) c VC 7 (by decide) _ _ _ z).symm)) $$ Hvb7
  ihave Hkb := (Entails.of_eq (kb_split c (kvTgt H 1 c KC)).symm) $$ [Hkb0 Hkb1 Hkb2 Hkb3 Hkb4 Hkb5 Hkb6 Hkb7]
  · isplitl [Hkb0]; · iexact Hkb0
    isplitl [Hkb1]; · iexact Hkb1
    isplitl [Hkb2]; · iexact Hkb2
    isplitl [Hkb3]; · iexact Hkb3
    isplitl [Hkb4]; · iexact Hkb4
    isplitl [Hkb5]; · iexact Hkb5
    isplitl [Hkb6]; · iexact Hkb6
    iexact Hkb7
  ihave Hvb := (Entails.of_eq (vb_split c (kvTgt H 1 c VC)).symm) $$ [Hvb0 Hvb1 Hvb2 Hvb3 Hvb4 Hvb5 Hvb6 Hvb7]
  · isplitl [Hvb0]; · iexact Hvb0
    isplitl [Hvb1]; · iexact Hvb1
    isplitl [Hvb2]; · iexact Hvb2
    isplitl [Hvb3]; · iexact Hvb3
    isplitl [Hvb4]; · iexact Hvb4
    isplitl [Hvb5]; · iexact Hvb5
    isplitl [Hvb6]; · iexact Hvb6
    iexact Hvb7
  unfold projInv3
  icases HP with ⟨HX, HA, HC, %qf', HQ, %hq⟩
  ihave HQ := (Entails.of_eq (pointsTo_congr (g := (qTgt X (slotQ A 1) (slotQ C 1))) fun y _ => hq y (lt_of_lt_of_le (y 0).isLt (by decide : 2048 ≤ 512 * k0_t3_loop.trips)))) $$ HQ
  ihave HW := (Entails.of_eq (pointsTo_congr (g := (wTgt (k0_pay34 (slotO B 1)) (k0_pay35 (slotO D 1)))) fun y _ => (w_step _ _ _ y).trans (congrArg₂ (fun u v => wTgt (k0_pay34 u) (k0_pay35 v) y) (read_b1 _ _ rfl B) (read_d1 _ _ rfl D)))) $$ HW
  sl_for (attInv4 c (qTgt X (slotQ A 1) (slotQ C 1)) (kvTgt H 1 c KC) (kvTgt H 1 c VC) (wTgt (k0_pay34 (slotO B 1)) (k0_pay35 (slotO D 1))) of) $$ [HW HQ Hkb Hvb Hout]
  case region => intro k _; exact t4_trip c Set.univ (qTgt X (slotQ A 1) (slotQ C 1)) (kvTgt H 1 c KC) (kvTgt H 1 c VC) (wTgt (k0_pay34 (slotO B 1)) (k0_pay35 (slotO D 1))) of k
  · unfold attInv4
    isplitl [HW]; · iexact HW
    isplitl [HQ]; · iexact HQ
    isplitl [Hkb]; · iexact Hkb
    isplitl [Hvb]; · iexact Hvb
    iexists of
    isplitl [Hout]; · iexact Hout
    ipureintro; intro y; rw [if_neg (by omega)]
  iintro %u2 HP2
  unfold attInv4
  icases HP2 with ⟨HW, HQ, Hkb, Hvb, %of', Hout, %ho⟩
  ihave Hout := (Entails.of_eq (pointsTo_congr (g := (oTgt1 (qTgt X (slotQ A 1) (slotQ C 1)) (kvTgt H 1 c KC) (kvTgt H 1 c VC) (wTgt (k0_pay34 (slotO B 1)) (k0_pay35 (slotO D 1))) of)) fun y _ => (ho y).trans (if_pos (lt_of_lt_of_le (y 1).isLt (by decide : 2048 ≤ 512 * k0_t4_loop.trips))))) $$ Hout
  unfold hop1.sl.prog.cont_2
  rw [wp_pure]; imodintro
  iapply Hk
  isplitl [HO]; · iexists _; iexact HO
  isplitl [HKr HK0 HK1 HK2 HK3 HK4 HK5 HK6 HK7]
  · isplitl [HKr]; · iexact HKr
    isplitl [HK0]; · iexact HK0
    isplitl [HK1]; · iexact HK1
    isplitl [HK2]; · iexact HK2
    isplitl [HK3]; · iexact HK3
    isplitl [HK4]; · iexact HK4
    isplitl [HK5]; · iexact HK5
    isplitl [HK6]; · iexact HK6
    iexact HK7
  isplitl [HVr HV0 HV1 HV2 HV3 HV4 HV5 HV6 HV7]
  · isplitl [HVr]; · iexact HVr
    isplitl [HV0]; · iexact HV0
    isplitl [HV1]; · iexact HV1
    isplitl [HV2]; · iexact HV2
    isplitl [HV3]; · iexact HV3
    isplitl [HV4]; · iexact HV4
    isplitl [HV5]; · iexact HV5
    isplitl [HV6]; · iexact HV6
    iexact HV7
  isplitl [HX]; · iexact HX
  isplitl [HA]; · iexact HA
  isplitl [HC]; · iexact HC
  isplitl [HQ]; · iexact HQ
  isplitl [HB]; · iexact HB
  isplitl [HD]; · iexact HD
  isplitl [HW]; · iexact HW
  isplitl [Hkb]; · iexact Hkb
  isplitl [Hvb]; · iexact Hvb
  isplitl [Hout]; · iexact Hout
  isplitl [HsK]; · iexact HsK
  iexact HsV

end Cert.KernelIdeal.Slice

end
-- ==== Proof.Exch.lean ====
module

public import proofs.«01_k».proof.Proof.Body
public import Idealize.ShloMosaic.Lib.Batch
public import Idealize.ShloMosaic.Lib.Writes
public import Idealize.ShloMosaic.Lib.WritesUnit

@[expose] public section

noncomputable section

namespace Cert.KernelIdeal.Slice

open Cert.KernelIdeal Cert.KernelIdeal.Gen

open Idealize.ShloMosaic Idealize.ShloMosaic.Tactic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
-- Any table of bodies: nothing here calls one.
variable {𝒟 : Defs nD τ sig (Elt F) Λ₀}

local notation "𝕄" => MT nD τ sig Unit (Elt F) ℕ UU ℕ

variable (m : (ℓ : Loc nD τ sig) → Buf (Elt F) ℓ) (ρ : Dev nD → PrngReg)

/-- A whole buffer of device `c` at contents `f`. -/
abbrev bufPts {s : Shape} {e : EltTy} {sp : Space} (W : Memref sig .tc sp s e) (c : Dev nD) (f : Buf (Elt F) (W.view.loc (c : Thread nD τ))) : sProp 𝕄 :=
  W.view.loc (c : Thread nD τ) ↦[W.view.set]{fullShare} f

/-- The rows of `x` rounded, as the kernel keeps them. -/
def xbC (c : Dev nD) : S2048x1024.Idx → F .bf16 :=
  k0_pay26 (xM.view.readAt (Elt F) (Rect.unit (s := S1x2048x1024) ![0, 0, 0] S1x2048x1024.size inb_S1x2048x1024_S1x2048x1024_0_0_0).toLoadRect (xC m ρ c))

/-- Every cell's invariant, and that it has reached its round, under the names the launch allocated. -/
def allInv (K : Dev nD × Fin 9 → ℕ) : sProp 𝕄 :=
  bigSep Finset.univ fun ck : Dev nD × Fin 9 => iprop(cellInv ER (rd m ρ) (K ck) (kcell ck) ∗ reached ER (kcell ck) 0)

instance allInv_persistent (K : Dev nD × Fin 9 → ℕ) : BI.Persistent (allInv (F := F) m ρ K) := by unfold allInv; infer_instance

/-- One copy to a neighbour's slot: the source's share and the duty tokens of its two cells go in, the credit of the send cell comes out. -/
theorem send_one {α : Type} {s : Shape} {e : EltTy} (src dst : Memref sig .tc .vmem s e) (c n n' : Dev nD) (hn : n' = n) (k₁ k₂ : Fin 9) (hk₁ : k₁ ≠ 0) (hk₂ : k₂ ≠ 0)
    (sS rS : DmaSem sig) (h₁ : csem k₁ = .dma sS) (h₂ : csem k₂ = .dma rS) (hN : dst.view.amount (.dma rS) = amt k₂) (hA : amt k₁ = amt k₂) (κ₁ κ₂ : ℕ)
    (q : PosShare TreeShare) (fs : Buf (Elt F) (src.view.loc (c : Thread nD τ))) (fd : Buf (Elt F) (dst.view.loc (n : Thread nD τ)))
    {hsc : (dst : Memref sig (Dev.tc n' : Thread nD τ).2.kind .vmem s e).view.ref.isScScratch = false} {hsrc : src.view.WordExact} {hdst : dst.view.WordExact}
    {hsem : DmaTarget.Typed .vmem (.dma rS) (.remote (Dev.tc n' : Thread nD τ) (dst : Memref sig (Dev.tc n' : Thread nD τ).2.kind .vmem s e) (.dma sS) hsc)}
    (O : CellTallies nD τ sig Unit) (W : Waits sig Unit)
    (hp₁ : winPts (F := F) src c q fs ⊢ pay m ρ k₁ false c)
    (hp₂ : (dst.view.loc (n : Thread nD τ) ↦[dst.view.set]{fullShare} (dst.view.write (Elt F) fd (src.view.read (Elt F) fs) Finset.univ) : sProp 𝕄) ⊢ pay m ρ k₂ false n)
    (k : PUnit → Prog (TpuEff nD τ sig (Elt F) Λ₀ .tc) α) (Q : α → sProp 𝕄) :
    iprop(cellInv ER (rd m ρ) κ₁ (kcell (c, k₁)) ∗ cellInv ER (rd m ρ) κ₂ (kcell (n, k₂)) ∗ winPts (F := F) src c q fs ∗ winPts (F := F) dst n fullShare fd
        ∗ owes (c : Thread nD τ) (O + tallyAt (kcell (n, k₂)) () (amt k₂)) W
        ∗ dutyTok ER (kcell (c, k₁)) 0 false ∗ reached ER (kcell (c, k₁)) 0 ∗ dutyTok ER (kcell (n, k₂)) 0 false ∗ reached ER (kcell (n, k₂)) 0)
      ⊢ iprop(((cred (tallyAt (kcell (c, k₁)) () (amt k₁)) ∗ owes (c : Thread nD τ) O W) -∗ wp (M := 𝕄) frame (wpE 𝒟 𝒱₀ (c : Thread nD τ) none) Set.univ (k ⟨⟩) Q)
          -∗ wp (M := 𝕄) frame (wpE 𝒟 𝒱₀ (c : Thread nD τ) none) Set.univ
              (.op (.enqueueDma src (.remote (Dev.tc n' : Thread nD τ) dst (.dma sS) hsc) (.dma rS) hsrc hdst hsem) k) Q) := by
  subst hn
  have e₁ : kcell (c, k₁) = ((c : Thread nD τ), SemLoc.dma sS) := by show ((c : Thread nD τ), csem k₁) = _; rw [h₁]
  have e₂ : kcell (n', k₂) = ((n' : Thread nD τ), SemLoc.dma rS) := by show ((n' : Thread nD τ), csem k₂) = _; rw [h₂]
  have d₁ : false ∈ (rd (F := F) m ρ).duties ((c : Thread nD τ), SemLoc.dma sS) 0 := by rw [← e₁, duties_cell, duts, if_neg hk₁]; exact Finset.mem_singleton_self _
  have d₂ : false ∈ (rd (F := F) m ρ).duties ((n' : Thread nD τ), SemLoc.dma rS) 0 := by rw [← e₂, duties_cell, duts, if_neg hk₂]; exact Finset.mem_singleton_self _
  have a₁ : (rd (F := F) m ρ).amount ((c : Thread nD τ), SemLoc.dma sS) 0 false = amt k₂ := by rw [← e₁, amount_cell, hA]
  have a₂ : (rd (F := F) m ρ).amount ((n' : Thread nD τ), SemLoc.dma rS) 0 false = amt k₂ := by rw [← e₂, amount_cell]
  have p₁ := payload_cell (F := F) m ρ c k₁ false
  have p₂ := payload_cell (F := F) m ρ n' k₂ false
  rw [e₁] at p₁ ⊢
  rw [e₂] at p₂ ⊢
  rw [hA]
  exact Rounds.wp_send_pointsTo 𝒱₀ ER (rd m ρ) (c : Thread nD τ) none (κ₁ := κ₁) (κ₂ := κ₂)
    (r₁ := 0) (r₂ := 0) (d₁ := false) (d₂ := false) (fd := fd) d₁ d₂ () () (amt k₂) hN a₁ a₂ O rfl (W := W) (by rw [p₁]; exact hp₁) (by rw [p₂]; exact hp₂)

theorem inv_at (K : Dev nD × Fin 9 → ℕ) (ck : Dev nD × Fin 9) :
    allInv (F := F) m ρ K ⊢ iprop(cellInv ER (rd m ρ) (K ck) (kcell ck) ∗ reached ER (kcell ck) 0) := by
  unfold allInv
  rw [bigSep_univ_at _ ck]
  iintro ⟨H, -⟩; iexact H

theorem a_fill (f : aM.view.ty.Contents (Elt F)) (p : Vec F S1x1024x512 .bf16) (y : S2x1024x512.Idx) (hy : (y 0).val = 0) :
    aM.view.writes (Elt F) f [⟨Rect.unit (s := S2x1024x512) ![0, 0, 0] S1x1024x512.size inb_S2x1024x512_S1x1024x512_0_0_0, p⟩] y = bothQ p y := by
  refine (congrFun (View.read_whole (Val := Elt F) cc0_scratch0 _) y).symm.trans ?_
  refine (View.read_writes_cons_unit_of_mem aM.view f _ _ _ y (ix3 0 (y 1) (y 2)) rfl (fun a => ?_)).trans ?_
  · match a with
    | ⟨0, _⟩ => show (y 0).val = 0 + 0; omega
    | ⟨1, _⟩ => show (y 1).val = 0 + (y 1).val; omega
    | ⟨2, _⟩ => show (y 2).val = 0 + (y 2).val; omega
  · unfold bothQ
    refine congrArg p (funext fun a => ?_)
    match a with
    | ⟨0, _⟩ => rfl
    | ⟨1, _⟩ => rfl
    | ⟨2, _⟩ => rfl
/-- The landing in slot 1 of what slot 0 of the neighbour holds. -/
theorem a_land (c n : Dev nD) (fd : Buf (Elt F) (aS1.view.loc (n : Thread nD τ))) (p : Vec F S1x1024x512 .bf16) :
    (aS1.view.loc (n : Thread nD τ) ↦[aS1.view.set]{fullShare} (aS1.view.write (Elt F) fd (aS0.view.read (Elt F) (bothQ p)) Finset.univ) : sProp 𝕄)
      ⊢ winPts aS1 n fullShare (bothQ p) :=
  landed' aS1 n fullShare fd (bothQ p) (aS0.view.read (Elt F) (bothQ p)) (fun z =>
    (congrArg (bothQ p) (slot_emb aM 0 (by decide) inb_S2x1024x512_S1x1024x512_0_0_0 (fun _ => rfl) squeezes_S1x1024x512_S1024x512 z)).trans
      (congrArg (bothQ p) (slot_emb aM 1 (by decide) inb_S2x1024x512_S1x1024x512_1_0_0 (fun _ => rfl) squeezes_S1x1024x512_S1024x512 z)).symm)
theorem b_fill (f : bM.view.ty.Contents (Elt F)) (p : Vec F S1x512x1024 .bf16) (y : S2x512x1024.Idx) (hy : (y 0).val = 0) :
    bM.view.writes (Elt F) f [⟨Rect.unit (s := S2x512x1024) ![0, 0, 0] S1x512x1024.size inb_S2x512x1024_S1x512x1024_0_0_0, p⟩] y = bothO p y := by
  refine (congrFun (View.read_whole (Val := Elt F) cc0_scratch1 _) y).symm.trans ?_
  refine (View.read_writes_cons_unit_of_mem bM.view f _ _ _ y (ix3 0 (y 1) (y 2)) rfl (fun a => ?_)).trans ?_
  · match a with
    | ⟨0, _⟩ => show (y 0).val = 0 + 0; omega
    | ⟨1, _⟩ => show (y 1).val = 0 + (y 1).val; omega
    | ⟨2, _⟩ => show (y 2).val = 0 + (y 2).val; omega
  · unfold bothO
    refine congrArg p (funext fun a => ?_)
    match a with
    | ⟨0, _⟩ => rfl
    | ⟨1, _⟩ => rfl
    | ⟨2, _⟩ => rfl
/-- The landing in slot 1 of what slot 0 of the neighbour holds. -/
theorem b_land (c n : Dev nD) (fd : Buf (Elt F) (bS1.view.loc (n : Thread nD τ))) (p : Vec F S1x512x1024 .bf16) :
    (bS1.view.loc (n : Thread nD τ) ↦[bS1.view.set]{fullShare} (bS1.view.write (Elt F) fd (bS0.view.read (Elt F) (bothO p)) Finset.univ) : sProp 𝕄)
      ⊢ winPts bS1 n fullShare (bothO p) :=
  landed' bS1 n fullShare fd (bothO p) (bS0.view.read (Elt F) (bothO p)) (fun z =>
    (congrArg (bothO p) (slot_emb bM 0 (by decide) inb_S2x512x1024_S1x512x1024_0_0_0 (fun _ => rfl) squeezes_S1x512x1024_S512x1024 z)).trans
      (congrArg (bothO p) (slot_emb bM 1 (by decide) inb_S2x512x1024_S1x512x1024_1_0_0 (fun _ => rfl) squeezes_S1x512x1024_S512x1024 z)).symm)
theorem c_fill (f : cM.view.ty.Contents (Elt F)) (p : Vec F S1x1024x512 .bf16) (y : S2x1024x512.Idx) (hy : (y 0).val = 0) :
    cM.view.writes (Elt F) f [⟨Rect.unit (s := S2x1024x512) ![0, 0, 0] S1x1024x512.size inb_S2x1024x512_S1x1024x512_0_0_0, p⟩] y = bothQ p y := by
  refine (congrFun (View.read_whole (Val := Elt F) cc0_scratch2 _) y).symm.trans ?_
  refine (View.read_writes_cons_unit_of_mem cM.view f _ _ _ y (ix3 0 (y 1) (y 2)) rfl (fun a => ?_)).trans ?_
  · match a with
    | ⟨0, _⟩ => show (y 0).val = 0 + 0; omega
    | ⟨1, _⟩ => show (y 1).val = 0 + (y 1).val; omega
    | ⟨2, _⟩ => show (y 2).val = 0 + (y 2).val; omega
  · unfold bothQ
    refine congrArg p (funext fun a => ?_)
    match a with
    | ⟨0, _⟩ => rfl
    | ⟨1, _⟩ => rfl
    | ⟨2, _⟩ => rfl
/-- The landing in slot 1 of what slot 0 of the neighbour holds. -/
theorem c_land (c n : Dev nD) (fd : Buf (Elt F) (cS1.view.loc (n : Thread nD τ))) (p : Vec F S1x1024x512 .bf16) :
    (cS1.view.loc (n : Thread nD τ) ↦[cS1.view.set]{fullShare} (cS1.view.write (Elt F) fd (cS0.view.read (Elt F) (bothQ p)) Finset.univ) : sProp 𝕄)
      ⊢ winPts cS1 n fullShare (bothQ p) :=
  landed' cS1 n fullShare fd (bothQ p) (cS0.view.read (Elt F) (bothQ p)) (fun z =>
    (congrArg (bothQ p) (slot_emb cM 0 (by decide) inb_S2x1024x512_S1x1024x512_0_0_0 (fun _ => rfl) squeezes_S1x1024x512_S1024x512 z)).trans
      (congrArg (bothQ p) (slot_emb cM 1 (by decide) inb_S2x1024x512_S1x1024x512_1_0_0 (fun _ => rfl) squeezes_S1x1024x512_S1024x512 z)).symm)
theorem d_fill (f : dM.view.ty.Contents (Elt F)) (p : Vec F S1x512x1024 .bf16) (y : S2x512x1024.Idx) (hy : (y 0).val = 0) :
    dM.view.writes (Elt F) f [⟨Rect.unit (s := S2x512x1024) ![0, 0, 0] S1x512x1024.size inb_S2x512x1024_S1x512x1024_0_0_0, p⟩] y = bothO p y := by
  refine (congrFun (View.read_whole (Val := Elt F) cc0_scratch3 _) y).symm.trans ?_
  refine (View.read_writes_cons_unit_of_mem dM.view f _ _ _ y (ix3 0 (y 1) (y 2)) rfl (fun a => ?_)).trans ?_
  · match a with
    | ⟨0, _⟩ => show (y 0).val = 0 + 0; omega
    | ⟨1, _⟩ => show (y 1).val = 0 + (y 1).val; omega
    | ⟨2, _⟩ => show (y 2).val = 0 + (y 2).val; omega
  · unfold bothO
    refine congrArg p (funext fun a => ?_)
    match a with
    | ⟨0, _⟩ => rfl
    | ⟨1, _⟩ => rfl
    | ⟨2, _⟩ => rfl
/-- The landing in slot 1 of what slot 0 of the neighbour holds. -/
theorem d_land (c n : Dev nD) (fd : Buf (Elt F) (dS1.view.loc (n : Thread nD τ))) (p : Vec F S1x512x1024 .bf16) :
    (dS1.view.loc (n : Thread nD τ) ↦[dS1.view.set]{fullShare} (dS1.view.write (Elt F) fd (dS0.view.read (Elt F) (bothO p)) Finset.univ) : sProp 𝕄)
      ⊢ winPts dS1 n fullShare (bothO p) :=
  landed' dS1 n fullShare fd (bothO p) (dS0.view.read (Elt F) (bothO p)) (fun z =>
    (congrArg (bothO p) (slot_emb dM 0 (by decide) inb_S2x512x1024_S1x512x1024_0_0_0 (fun _ => rfl) squeezes_S1x512x1024_S512x1024 z)).trans
      (congrArg (bothO p) (slot_emb dM 1 (by decide) inb_S2x512x1024_S1x512x1024_1_0_0 (fun _ => rfl) squeezes_S1x512x1024_S512x1024 z)).symm)

theorem xb_fill (f : xbM.view.ty.Contents (Elt F)) (p : Vec F S2048x1024 .bf16) (y : S2048x1024.Idx) :
    xbM.view.writes (Elt F) f [⟨Rect.unit (s := S2048x1024) ![0, 0] S2048x1024.size inb_S2048x1024_S2048x1024_0_0, p⟩] y = p y := by
  refine (congrFun (View.read_whole (Val := Elt F) cc0_scratch5 _) y).symm.trans ?_
  refine View.read_writes_cons_unit_of_mem xbM.view f _ _ _ y y rfl (fun a => ?_)
  match a with
  | ⟨0, _⟩ => show (y 0).val = 0 + (y 0).val; omega
  | ⟨1, _⟩ => show (y 1).val = 0 + (y 1).val; omega

theorem pay_bar_false (c : Dev nD) : pay (F := F) m ρ 0 false (prv c) = iprop(someWin aS1 c ∗ someWin bS1 c) := by
  show iprop(someWin aS1 (nxt (prv c)) ∗ someWin bS1 (nxt (prv c))) = _
  rw [nxt_prv]
theorem pay_bar_true (c : Dev nD) : pay (F := F) m ρ 0 true (nxt c) = iprop(someWin cS1 c ∗ someWin dS1 c) := by
  show iprop(someWin cS1 (prv (nxt c)) ∗ someWin dS1 (prv (nxt c))) = _
  rw [prv_nxt]

/-- A signal to a neighbour's barrier: the unit's payload and duty token go in. -/
theorem signal_one {α : Type} (c n n' : Dev nD) (hn : n' = n) (d : Bool) (κ : ℕ) (O : CellTallies nD τ sig Unit) (W : Waits sig Unit) (sem : Sem sig) (hs : sem = barS)
    (k : PUnit → Prog (TpuEff nD τ sig (Elt F) Λ₀ .tc) α) (Q : α → sProp 𝕄) :
    iprop(cellInv ER (rd m ρ) κ (kcell (n, 0)) ∗ owes (c : Thread nD τ) (O + tallyAt (kcell (n, 0)) () 1) W ∗ dutyTok ER (kcell (n, 0)) 0 d
        ∗ pay m ρ 0 d n ∗ reached ER (kcell (n, 0)) 0)
      ⊢ iprop((owes (c : Thread nD τ) O W -∗ wp (M := 𝕄) frame (wpE 𝒟 𝒱₀ (c : Thread nD τ) none) Set.univ (k ⟨⟩) Q)
          -∗ wp (M := 𝕄) frame (wpE 𝒟 𝒱₀ (c : Thread nD τ) none) Set.univ (.op (.semSignal (n' : Thread nD τ) sem (1#32 : BitVec 32).toInt) k) Q) := by
  subst hn hs
  rw [← payload_cell (F := F) m ρ n' 0 d]
  exact Rounds.wp_signal 𝒱₀ ER (rd (F := F) m ρ) (c : Thread nD τ) none (dst := (n' : Thread nD τ)) (sem := barS) (r := 0) (κ := κ)
      (d := d) (k' := 1) (by show d ∈ (rd (F := F) m ρ).duties (kcell (n', 0)) 0; rw [duties_cell]; exact Finset.mem_univ _)
      (amount_cell m ρ n' 0 d) () (O₀ := O + tallyAt (kcell (n', 0)) () 1) O rfl

/-- The barrier wait: both neighbours' units, which hand over the slots the copies write. -/
theorem wait_bar {α : Type} (c : Dev nD) (κ : ℕ) (W : Waits sig Unit) (sem : Sem sig) (hs : sem = barS)
    (k : PUnit → Prog (TpuEff nD τ sig (Elt F) Λ₀ .tc) α) (Q : α → sProp 𝕄) :
    iprop(cellInv ER (rd m ρ) κ (kcell (c, 0)) ∗ levAts L lv ∗ cred (tallyAt (kcell (c, 0)) () 2) ∗ owes (c : Thread nD τ) (owe0 c) W ∗ atPos ER (kcell (c, 0)) 0 ∅ 0)
      ⊢ iprop(((owes (c : Thread nD τ) (owe0 c) (insert (csem 0, ()) W) ∗ semVal (kcell (c, 0)) 0 ∗ pay m ρ 0 false c ∗ pay m ρ 0 true c)
            -∗ wp (M := 𝕄) frame (wpE 𝒟 𝒱₀ (c : Thread nD τ) none) Set.univ (k ⟨⟩) Q)
          -∗ wp (M := 𝕄) frame (wpE 𝒟 𝒱₀ (c : Thread nD τ) none) Set.univ (.op (.semWait sem (2#32 : BitVec 32).toInt) k) Q) := by
  subst hs
  iintro ⟨#HI, #Hlev, Hc, HO, Hat⟩ Hk
  iapply (Rounds.wp_wait_rest_token 𝒱₀ ER (rd m ρ) (c : Thread nD τ) none (κ := κ)
      (wpE_semWait_eq 𝒱₀ (c : Thread nD τ) none Set.univ) (Set.mem_univ _) () (O := owe0 c) (W := W) (R := 0) (m := 0) (T := ∅)
      (by show _ = (rd (F := F) m ρ).expect (kcell (c, 0)) 0; rw [expect_bar]; decide)) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (rd m ρ) (Set.mem_univ κ) (fun h => h) (R := 0 + 1) (duties_later m ρ (kcell (c, 0)))) $$ [Hat] with Hz
  · isplitr; · iexact HI
    iexact Hat
  iapply Hk
  isplitl [HO]; · iexact HO
  isplitl [Hz] <;> iassumption

/-- The duty tokens device `c` pays with: its neighbours' barrier units, their receive cells, its own send cells. -/
def payToks (c : Dev nD) : sProp 𝕄 :=
  iprop(dutyTok ER (kcell (prv c, 0)) 0 false ∗ dutyTok ER (kcell (nxt c, 0)) 0 true
    ∗ dutyTok ER (kcell (nxt c, 1)) 0 false ∗ dutyTok ER (kcell (nxt c, 2)) 0 false ∗ dutyTok ER (kcell (prv c, 3)) 0 false ∗ dutyTok ER (kcell (prv c, 4)) 0 false
    ∗ dutyTok ER (kcell (c, 5)) 0 false ∗ dutyTok ER (kcell (c, 6)) 0 false ∗ dutyTok ER (kcell (c, 7)) 0 false ∗ dutyTok ER (kcell (c, 8)) 0 false)

set_option maxHeartbeats 2000000 in
/-- The start of the body: the stores into slot 0, the handshake, the four copies. -/
theorem exch (K : Dev nD × Fin 9 → ℕ) (c : Dev nD) (W : Waits sig Unit) (af cf : S2x1024x512.Idx → F .bf16) (bf df : S2x512x1024.Idx → F .bf16) (xf : S2048x1024.Idx → F .bf16)
    {α : Type} (Q : α → sProp 𝕄) (kk : Dev nD → BitVec 32 → BitVec 32 → BitVec 32 → BitVec 32 → BitVec 32 → Prog (TpuEff nD τ sig (Elt F) Λ₀ .tc) α) :
    iprop(allInv m ρ K ∗ levAts L lv ∗ payToks (F := F) c ∗ cred (tallyAt (kcell (c, 0)) () 2) ∗ atPos ER (kcell (c, 0)) 0 ∅ 0
      ∗ bufPts xM c (xC m ρ c) ∗ bufPts wqM c (wqC m ρ c) ∗ bufPts woM c (woC m ρ c)
      ∗ bufPts (F := F) aM c af ∗ bufPts (F := F) bM c bf ∗ bufPts (F := F) cM c cf ∗ bufPts (F := F) dM c df ∗ bufPts (F := F) xbM c xf
      ∗ owes (c : Thread nD τ) (O₀ c) W
      ∗ (∀ v2 v5 v7 v49 v51, ((∃ W', owes (c : Thread nD τ) 0 W') ∗ bufPts xM c (xC m ρ c) ∗ bufPts wqM c (wqC m ρ c) ∗ bufPts woM c (woC m ρ c) ∗ bufPts xbM c (xbC m ρ c)
        ∗ winPts aS0 c keptQ (aC m ρ c) ∗ winPts bS0 c keptQ (bC m ρ c) ∗ winPts cS0 c keptQ (cC m ρ c) ∗ winPts dS0 c keptQ (dC m ρ c)
        ∗ semVal (kcell (c, 0)) 0 ∗ cred (tallyAt (kcell (c, 5)) () (amt 5)) ∗ cred (tallyAt (kcell (c, 6)) () (amt 6)) ∗ cred (tallyAt (kcell (c, 7)) () (amt 7)) ∗ cred (tallyAt (kcell (c, 8)) () (amt 8)))
          -∗ wp (M := 𝕄) frame (wpE 𝒟 𝒱₀ (c : Thread nD τ) none) Set.univ (kk c v2 v5 v7 v49 v51) Q))
    ⊢ wp (M := 𝕄) frame (wpE 𝒟 𝒱₀ (c : Thread nD τ) none) Set.univ
        (do let ⟨d0, v2, v5, v7⟩ ← p9 (F := F); let ⟨v49, v51⟩ ← p10 d0 v2 v5 v7; p11 d0 v5 v7; p12 d0 v5 v49 v51; kk d0 v2 v5 v7 v49 v51) Q := by
  unfold payToks
  iintro ⟨#HI, #Hlev, ⟨HtP0, HtN0, HtN1, HtN2, HtP3, HtP4, Ht5, Ht6, Ht7, Ht8⟩, Hc0, Hat, Hx, Hwq, Hwo, HA, HB, HC, HD, HXB, HO, Hk⟩
  sl_exec
  ihave HXB := (Entails.of_eq (pointsTo_congr (g := xbC m ρ c) fun y _ => xb_fill _ _ y)) $$ HXB
  ihave HA := (a_split c _).1 $$ HA
  icases HA with ⟨HA, HA1⟩
  ihave HA := (Entails.of_eq (pointsTo_congr (g := aC m ρ c) fun y hy => a_fill _ _ y ((aS0_mem y).mp hy))) $$ HA
  ihave HA := (pointsTo_share (PosShare.mem_left_op_right fullShare)).1 $$ HA
  icases HA with ⟨HA, HAL⟩
  ihave HB := (b_split c _).1 $$ HB
  icases HB with ⟨HB, HB1⟩
  ihave HB := (Entails.of_eq (pointsTo_congr (g := bC m ρ c) fun y hy => b_fill _ _ y ((bS0_mem y).mp hy))) $$ HB
  ihave HB := (pointsTo_share (PosShare.mem_left_op_right fullShare)).1 $$ HB
  icases HB with ⟨HB, HBL⟩
  ihave HC := (c_split c _).1 $$ HC
  icases HC with ⟨HC, HC1⟩
  ihave HC := (Entails.of_eq (pointsTo_congr (g := cC m ρ c) fun y hy => c_fill _ _ y ((cS0_mem y).mp hy))) $$ HC
  ihave HC := (pointsTo_share (PosShare.mem_left_op_right fullShare)).1 $$ HC
  icases HC with ⟨HC, HCL⟩
  ihave HD := (d_split c _).1 $$ HD
  icases HD with ⟨HD, HD1⟩
  ihave HD := (Entails.of_eq (pointsTo_congr (g := dC m ρ c) fun y hy => d_fill _ _ y ((dS0_mem y).mp hy))) $$ HD
  ihave HD := (pointsTo_share (PosShare.mem_left_op_right fullShare)).1 $$ HD
  icases HD with ⟨HD, HDL⟩
  ihave #HIP0 := (inv_at m ρ K (prv c, 0)) $$ HI
  icases HIP0 with ⟨#HiP0, #HrP0⟩
  ihave #HIN0 := (inv_at m ρ K (nxt c, 0)) $$ HI
  icases HIN0 with ⟨#HiN0, #HrN0⟩
  ihave #HI0 := (inv_at m ρ K (c, 0)) $$ HI
  icases HI0 with ⟨#Hi0, -⟩
  iapply (signal_one m ρ c (prv c) _ (dev1_eq c) false (K (prv c, 0)) (oweB c) W _ rfl) $$ [HO HtP0 HA1 HB1]
  · isplitr; · iexact HiP0
    isplitl [HO]; · iexact HO
    isplitl [HtP0]; · iexact HtP0
    isplitl [HA1 HB1]
    · iapply (Entails.of_eq (pay_bar_false m ρ c).symm)
      unfold someWin
      isplitl [HA1]
      · iexists _; iexact HA1
      · iexists _; iexact HB1
    · iexact HrP0
  iintro HO
  sl_exec
  iapply (signal_one m ρ c (nxt c) _ (dev2_eq c) true (K (nxt c, 0)) (owe0 c) W _ rfl) $$ [HO HtN0 HC1 HD1]
  · isplitr; · iexact HiN0
    isplitl [HO]; · iexact HO
    isplitl [HtN0]; · iexact HtN0
    isplitl [HC1 HD1]
    · iapply (Entails.of_eq (pay_bar_true m ρ c).symm)
      unfold someWin
      isplitl [HC1]
      · iexists _; iexact HC1
      · iexists _; iexact HD1
    · iexact HrN0
  iintro HO
  sl_exec
  iapply (wait_bar m ρ c (K (c, 0)) W _ rfl) $$ [Hc0 HO Hat]
  · isplitr; · iexact Hi0
    isplitr; · iexact Hlev
    isplitl [Hc0]; · iexact Hc0
    isplitl [HO]; · iexact HO
    iexact Hat
  iintro ⟨HO, Hz, Hpf, Hpt⟩
  ihave Hpf := (show pay m ρ 0 false c ⊢ iprop(someWin aS1 (nxt c) ∗ someWin bS1 (nxt c)) from Entails.refl _) $$ Hpf
  ihave Hpt := (show pay m ρ 0 true c ⊢ iprop(someWin cS1 (prv c) ∗ someWin dS1 (prv c)) from Entails.refl _) $$ Hpt
  unfold someWin
  icases Hpf with ⟨⟨%fa, HA1⟩, ⟨%fb, HB1⟩⟩
  icases Hpt with ⟨⟨%fc, HC1⟩, ⟨%fd, HD1⟩⟩
  sl_exec
  ihave #HIs0 := (inv_at m ρ K (c, 5)) $$ HI
  icases HIs0 with ⟨#His0, #Hrs0⟩
  ihave #HIr0 := (inv_at m ρ K (nxt c, 1)) $$ HI
  icases HIr0 with ⟨#Hir0, #Hrr0⟩
  iapply (send_one m ρ aS0 aS1 c (nxt c) _ (dev3_eq c) 5 1 (by decide) (by decide) sS0 rS0 rfl rfl rfl rfl (K (c, 5)) (K (nxt c, 1)) lentQ (aC m ρ c) fa (owe1 c) (insert (csem 0, ()) W)
      (Entails.refl _) (by
        show _ ⊢ winPts aS1 (nxt c) fullShare (aC m ρ (prv (nxt c)))
        rw [prv_nxt]; exact a_land c (nxt c) fa _)) $$ [HAL HA1 HO Ht5 HtN1]
  · isplitr; · iexact His0
    isplitr; · iexact Hir0
    isplitl [HAL]; · iexact HAL
    isplitl [HA1]; · iexact HA1
    isplitl [HO]; · iexact HO
    isplitl [Ht5]; · iexact Ht5
    isplitr; · iexact Hrs0
    isplitl [HtN1]; · iexact HtN1
    iexact Hrr0
  iintro ⟨Hc5, HO⟩
  sl_exec
  ihave #HIs1 := (inv_at m ρ K (c, 6)) $$ HI
  icases HIs1 with ⟨#His1, #Hrs1⟩
  ihave #HIr1 := (inv_at m ρ K (nxt c, 2)) $$ HI
  icases HIr1 with ⟨#Hir1, #Hrr1⟩
  iapply (send_one m ρ bS0 bS1 c (nxt c) _ (dev4_eq c) 6 2 (by decide) (by decide) sS1 rS1 rfl rfl rfl rfl (K (c, 6)) (K (nxt c, 2)) lentQ (bC m ρ c) fb (owe2 c) (insert (csem 0, ()) W)
      (Entails.refl _) (by
        show _ ⊢ winPts bS1 (nxt c) fullShare (bC m ρ (prv (nxt c)))
        rw [prv_nxt]; exact b_land c (nxt c) fb _)) $$ [HBL HB1 HO Ht6 HtN2]
  · isplitr; · iexact His1
    isplitr; · iexact Hir1
    isplitl [HBL]; · iexact HBL
    isplitl [HB1]; · iexact HB1
    isplitl [HO]; · iexact HO
    isplitl [Ht6]; · iexact Ht6
    isplitr; · iexact Hrs1
    isplitl [HtN2]; · iexact HtN2
    iexact Hrr1
  iintro ⟨Hc6, HO⟩
  sl_exec
  ihave #HIs2 := (inv_at m ρ K (c, 7)) $$ HI
  icases HIs2 with ⟨#His2, #Hrs2⟩
  ihave #HIr2 := (inv_at m ρ K (prv c, 3)) $$ HI
  icases HIr2 with ⟨#Hir2, #Hrr2⟩
  iapply (send_one m ρ cS0 cS1 c (prv c) _ (dev5_eq c) 7 3 (by decide) (by decide) sS2 rS2 rfl rfl rfl rfl (K (c, 7)) (K (prv c, 3)) lentQ (cC m ρ c) fc (owe3 c) (insert (csem 0, ()) W)
      (Entails.refl _) (by
        show _ ⊢ winPts cS1 (prv c) fullShare (cC m ρ (nxt (prv c)))
        rw [nxt_prv]; exact c_land c (prv c) fc _)) $$ [HCL HC1 HO Ht7 HtP3]
  · isplitr; · iexact His2
    isplitr; · iexact Hir2
    isplitl [HCL]; · iexact HCL
    isplitl [HC1]; · iexact HC1
    isplitl [HO]; · iexact HO
    isplitl [Ht7]; · iexact Ht7
    isplitr; · iexact Hrs2
    isplitl [HtP3]; · iexact HtP3
    iexact Hrr2
  iintro ⟨Hc7, HO⟩
  sl_exec
  ihave #HIs3 := (inv_at m ρ K (c, 8)) $$ HI
  icases HIs3 with ⟨#His3, #Hrs3⟩
  ihave #HIr3 := (inv_at m ρ K (prv c, 4)) $$ HI
  icases HIr3 with ⟨#Hir3, #Hrr3⟩
  iapply (send_one m ρ dS0 dS1 c (prv c) _ (dev6_eq c) 8 4 (by decide) (by decide) sS3 rS3 rfl rfl rfl rfl (K (c, 8)) (K (prv c, 4)) lentQ (dC m ρ c) fd (0) (insert (csem 0, ()) W)
      (Entails.refl _) (by
        show _ ⊢ winPts dS1 (prv c) fullShare (dC m ρ (nxt (prv c)))
        rw [nxt_prv]; exact d_land c (prv c) fd _)) $$ [HDL HD1 HO Ht8 HtP4]
  · isplitr; · iexact His3
    isplitr; · iexact Hir3
    isplitl [HDL]; · iexact HDL
    isplitl [HD1]; · iexact HD1
    isplitl [HO]; · iexact HO
    isplitl [Ht8]; · iexact Ht8
    isplitr; · iexact Hrs3
    isplitl [HtP4]; · iexact HtP4
    iexact Hrr3
  iintro ⟨Hc8, HO⟩
  sl_exec
  iapply Hk
  isplitl [HO]; · iexists _; iexact HO
  isplitl [Hx]; · iexact Hx
  isplitl [Hwq]; · iexact Hwq
  isplitl [Hwo]; · iexact Hwo
  isplitl [HXB]; · iexact HXB
  isplitl [HA]; · iexact HA
  isplitl [HB]; · iexact HB
  isplitl [HC]; · iexact HC
  isplitl [HD]; · iexact HD
  isplitl [Hz]; · iexact Hz
  isplitl [Hc5]; · iexact Hc5
  isplitl [Hc6]; · iexact Hc6
  isplitl [Hc7]; · iexact Hc7
  iexact Hc8

end Cert.KernelIdeal.Slice

end
-- ==== Proof.Whole.lean ====
module

public import proofs.«01_k».proof.Proof.Exch
public import Idealize.ShloMosaic.Lib.Batch
public import Idealize.ShloMosaic.Lib.Writes
public import Idealize.ShloMosaic.Lib.WritesUnit

@[expose] public section

noncomputable section

namespace Cert.KernelIdeal.Slice

open Cert.KernelIdeal Cert.KernelIdeal.Gen

open Idealize.ShloMosaic Idealize.ShloMosaic.Tactic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable {𝒟 : Defs nD τ sig (Elt F) Λ₀} (H : Heads) (m : (ℓ : Loc nD τ sig) → Buf (Elt F) ℓ) (ρ : Dev nD → PrngReg)

set_option maxHeartbeats 1000000 in
/-- The other seven waits of the exchange. -/
theorem waits7 (K : Fin 9 → ℕ) (c : Dev nD) (W : Waits sig Unit) (v2 v5 v7 v278 : BitVec 32) {α : Type} (Q : α → sProp 𝕄) (kk : BitVec 32 → BitVec 32 → Prog (TpuEff nD τ sig (Elt F) Λ₀ .tc) α) :
    iprop(cellRes m ρ c 1 (K 1) ∗ cellRes m ρ c 6 (K 6) ∗ cellRes m ρ c 2 (K 2) ∗ cellRes m ρ c 7 (K 7) ∗ cellRes m ρ c 3 (K 3) ∗ cellRes m ρ c 8 (K 8) ∗ cellRes m ρ c 4 (K 4) ∗ owes (c : Thread nD τ) 0 W
      ∗ (∀ v330 v332, ((∃ W', owes (c : Thread nD τ) 0 W') ∗ (semVal (kcell (c, 1)) 0 ∗ pay m ρ 1 false c) ∗ (semVal (kcell (c, 6)) 0 ∗ pay m ρ 6 false c) ∗ (semVal (kcell (c, 2)) 0 ∗ pay m ρ 2 false c) ∗ (semVal (kcell (c, 7)) 0 ∗ pay m ρ 7 false c) ∗ (semVal (kcell (c, 3)) 0 ∗ pay m ρ 3 false c) ∗ (semVal (kcell (c, 8)) 0 ∗ pay m ρ 8 false c) ∗ (semVal (kcell (c, 4)) 0 ∗ pay m ρ 4 false c))
          -∗ wp (M := 𝕄) frame (wpE 𝒟 𝒱₀ (c : Thread nD τ) none) Set.univ (kk v330 v332) Q))
    ⊢ wp (M := 𝕄) frame (wpE 𝒟 𝒱₀ (c : Thread nD τ) none) Set.univ (do p20 (F := F) v7 v278; p21 v5; let ⟨v330, v332⟩ ← p22 (F := F) v2; kk v330 v332) Q := by
  iintro ⟨H1, H6, H2, H7, H3, H8, H4, HO, Hk⟩
  sl_exec
  iapply (wait_one m ρ c 1 (by decide) (K 1) _ rS0 rfl aS0 aS1 _ _ rfl _ _) $$ [H1 HO]
  · isplitl [H1]; · iexact H1
    iexact HO
  iintro ⟨HO, Hz1, Hp1⟩
  sl_exec
  iapply (wait_one m ρ c 6 (by decide) (K 6) _ sS1 rfl bS1 bS0 _ _ rfl _ _) $$ [H6 HO]
  · isplitl [H6]; · iexact H6
    iexact HO
  iintro ⟨HO, Hz6, Hp6⟩
  sl_exec
  iapply (wait_one m ρ c 2 (by decide) (K 2) _ rS1 rfl bS0 bS1 _ _ rfl _ _) $$ [H2 HO]
  · isplitl [H2]; · iexact H2
    iexact HO
  iintro ⟨HO, Hz2, Hp2⟩
  sl_exec
  iapply (wait_one m ρ c 7 (by decide) (K 7) _ sS2 rfl cS1 cS0 _ _ rfl _ _) $$ [H7 HO]
  · isplitl [H7]; · iexact H7
    iexact HO
  iintro ⟨HO, Hz7, Hp7⟩
  sl_exec
  iapply (wait_one m ρ c 3 (by decide) (K 3) _ rS2 rfl cS0 cS1 _ _ rfl _ _) $$ [H3 HO]
  · isplitl [H3]; · iexact H3
    iexact HO
  iintro ⟨HO, Hz3, Hp3⟩
  sl_exec
  iapply (wait_one m ρ c 8 (by decide) (K 8) _ sS3 rfl dS1 dS0 _ _ rfl _ _) $$ [H8 HO]
  · isplitl [H8]; · iexact H8
    iexact HO
  iintro ⟨HO, Hz8, Hp8⟩
  sl_exec
  iapply (wait_one m ρ c 4 (by decide) (K 4) _ rS3 rfl dS0 dS1 _ _ rfl _ _) $$ [H4 HO]
  · isplitl [H4]; · iexact H4
    iexact HO
  iintro ⟨HO, Hz4, Hp4⟩
  sl_exec
  iapply Hk
  isplitl [HO]; · iexists _; iexact HO
  isplitl [Hz1 Hp1]; · isplitl [Hz1] <;> iassumption
  isplitl [Hz6 Hp6]; · isplitl [Hz6] <;> iassumption
  isplitl [Hz2 Hp2]; · isplitl [Hz2] <;> iassumption
  isplitl [Hz7 Hp7]; · isplitl [Hz7] <;> iassumption
  isplitl [Hz3 Hp3]; · isplitl [Hz3] <;> iassumption
  isplitl [Hz8 Hp8]; · isplitl [Hz8] <;> iassumption
  isplitl [Hz4] <;> iassumption

/-- Device `c`'s keys and values, as launched. -/
abbrev kC (c : Dev nD) : S4x2048x32x128.Idx → F .f32 := (s₀ m ρ).mem ((c : Thread nD τ).loc main_arg2)
abbrev vC (c : Dev nD) : S4x2048x32x128.Idx → F .f32 := (s₀ m ρ).mem ((c : Thread nD τ).loc main_arg3)

/-- The result after hop 0: the device's own eight heads; -/
def outC0 (c : Dev nD) : S1x2048x1024.Idx → F .f32 :=
  oTgt0 (qTgt (xbC m ρ c) (slotQ (aC m ρ c) 0) (slotQ (cC m ρ c) 0)) (kvTgt H 0 c (kC m ρ c)) (kvTgt H 0 c (vC m ρ c))
    (wTgt (k0_pay29 (slotO (bC m ρ c) 0)) (k0_pay30 (slotO (dC m ρ c) 0)))
/-- and after hop 1: four heads of the left neighbour's weights and four of the right neighbour's added. -/
def outC (c : Dev nD) : S1x2048x1024.Idx → F .f32 :=
  oTgt1 (qTgt (xbC m ρ c) (slotQ (aC m ρ (prv c)) 1) (slotQ (cC m ρ (nxt c)) 1)) (kvTgt H 1 c (kC m ρ c)) (kvTgt H 1 c (vC m ρ c))
    (wTgt (k0_pay34 (slotO (bC m ρ (prv c)) 1)) (k0_pay35 (slotO (dC m ρ (nxt c)) 1))) (outC0 H m ρ c)

/-- The nine scratch buffers, at contents not said. -/
def scr (c : Dev nD) : sProp 𝕄 :=
  iprop((∃ f, bufPts (F := F) aM c f) ∗ (∃ f, bufPts (F := F) bM c f) ∗ (∃ f, bufPts (F := F) cM c f) ∗ (∃ f, bufPts (F := F) dM c f) ∗ (∃ f, bufPts (F := F) wofM c f) ∗ (∃ f, bufPts (F := F) xbM c f) ∗ (∃ f, bufPts (F := F) qM c f) ∗ (∃ f, bufPts (F := F) kbM c f) ∗ (∃ f, bufPts (F := F) vbM c f))
/-- The credits device `c` waits on: its barrier's two units and its four landings. -/
def creds (c : Dev nD) : sProp 𝕄 :=
  iprop(cred (tallyAt (kcell (c, 0)) () 2) ∗ cred (tallyAt (kcell (c, 1)) () (amt 1)) ∗ cred (tallyAt (kcell (c, 2)) () (amt 2)) ∗ cred (tallyAt (kcell (c, 3)) () (amt 3)) ∗ cred (tallyAt (kcell (c, 4)) () (amt 4)))
/-- Its positions at the start of its nine cells. -/
def starts (c : Dev nD) : sProp 𝕄 :=
  iprop(atPos ER (kcell (c, 0)) 0 ∅ 0 ∗ atPos ER (kcell (c, 1)) 0 ∅ 0 ∗ atPos ER (kcell (c, 2)) 0 ∅ 0 ∗ atPos ER (kcell (c, 3)) 0 ∅ 0 ∗ atPos ER (kcell (c, 4)) 0 ∅ 0 ∗ atPos ER (kcell (c, 5)) 0 ∅ 0 ∗ atPos ER (kcell (c, 6)) 0 ∅ 0 ∗ atPos ER (kcell (c, 7)) 0 ∅ 0 ∗ atPos ER (kcell (c, 8)) 0 ∅ 0)
/-- The counters of its nine cells at zero. -/
def zeros (c : Dev nD) : sProp 𝕄 :=
  iprop(semVal (kcell (c, 0)) 0 ∗ semVal (kcell (c, 1)) 0 ∗ semVal (kcell (c, 2)) 0 ∗ semVal (kcell (c, 3)) 0 ∗ semVal (kcell (c, 4)) 0 ∗ semVal (kcell (c, 5)) 0 ∗ semVal (kcell (c, 6)) 0 ∗ semVal (kcell (c, 7)) 0 ∗ semVal (kcell (c, 8)) 0)

/-- What the body leaves on device `c`. -/
def bodyRes (c : Dev nD) : sProp 𝕄 :=
  iprop(zeros (F := F) c ∗ semVal ((c : Thread nD τ), SemLoc.dma kSem) 0 ∗ semVal ((c : Thread nD τ), SemLoc.dma vSem) 0 ∗ scr (F := F) c ∗ bufPts kM c (kC m ρ c) ∗ bufPts vM c (vC m ρ c)
    ∗ (∃ W', owes (c : Thread nD τ) 0 W') ∗ bufPts xM c (xC m ρ c) ∗ bufPts wqM c (wqC m ρ c) ∗ bufPts woM c (woC m ρ c) ∗ bufPts oM c (outC H m ρ c))

/-- The body's four stretches, each before what follows it: the exchange sent, -/
def exchP {α : Type} (kk : Dev nD → BitVec 32 → BitVec 32 → BitVec 32 → BitVec 32 → BitVec 32 → Prog (TpuEff nD τ sig (Elt F) Λ₀ .tc) α) : Prog (TpuEff nD τ sig (Elt F) Λ₀ .tc) α := do
  let ⟨d0, v2, v5, v7⟩ ← p9 (F := F)
  let ⟨v49, v51⟩ ← p10 d0 v2 v5 v7
  p11 d0 v5 v7; p12 d0 v5 v49 v51
  kk d0 v2 v5 v7 v49 v51
/-- hop 0, -/
def hop0P {α : Type} (c : Dev nD) (v7 : BitVec 32) (kk : BitVec 32 → Prog (TpuEff nD τ sig (Elt F) Λ₀ .tc) α) : Prog (TpuEff nD τ sig (Elt F) Λ₀ .tc) α := do
  let v278 ← hop0B H c v7
  kk v278
/-- the exchange waited for, -/
def waitsP {α : Type} (v2 v5 v7 v278 : BitVec 32) (kk : BitVec 32 → BitVec 32 → Prog (TpuEff nD τ sig (Elt F) Λ₀ .tc) α) : Prog (TpuEff nD τ sig (Elt F) Λ₀ .tc) α := do
  p20 v7 v278; p21 v5
  let ⟨v330, v332⟩ ← p22 (F := F) v2
  kk v330 v332
/-- The body: these, then hop 1. -/
def rootProg : Prog (TpuEff nD τ sig (Elt F) Λ₀ .tc) PUnit :=
  exchP fun d0 v2 v5 v7 _ _ => hop0P H d0 v7 fun v278 => waitsP v2 v5 v7 v278 fun _ _ => hop1B H d0

set_option maxRecDepth 65536 in
theorem body_eq_root : cc0_body (F := F) xM (Memref.isWhole_whole _) wqM (Memref.isWhole_whole _) woM (Memref.isWhole_whole _) kM (Memref.isWhole_whole _) vM (Memref.isWhole_whole _)
    oM (Memref.isWhole_whole _) aM (Memref.isWhole_whole _) bM (Memref.isWhole_whole _) cM (Memref.isWhole_whole _) dM (Memref.isWhole_whole _) wofM (Memref.isWhole_whole _)
    xbM (Memref.isWhole_whole _) qM (Memref.isWhole_whole _) kbM (Memref.isWhole_whole _) vbM (Memref.isWhole_whole _) cc0_scratch9 cc0_scratch10 cc0_scratch11 cc0_scratch12 = rootProg firstHops := by
  rw [cc0_body_eq_skeleton]; unfold cc0_body_skel
  simp only [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
  unfold rootProg exchP hop0P waitsP
  simp only [k0_part9_skel, k0_part10_skel, k0_part11_skel, k0_part12_skel, k0_part13_skel, k0_part14_skel, k0_part15_skel, k0_part16_skel, k0_part17_skel, k0_part18_skel, k0_part19_skel, k0_part20_skel, k0_part21_skel, k0_part22_skel, k0_part23_skel, k0_part24_skel, k0_part25_skel, k0_part26_skel, k0_part27_skel, k0_part28_skel, bind_assoc, pure_bind]
  rfl

set_option maxHeartbeats 2000000 in
/-- The body of device `c`, from what the launch deals it to `bodyRes`. -/
theorem sound_body (K : Dev nD × Fin 9 → ℕ) (c : Dev nD) (W : Waits sig Unit) (of : S1x2048x1024.Idx → F .f32) (Kt : PUnit → sProp 𝕄) :
    iprop(allInv m ρ K ∗ levAts L lv ∗ payToks (F := F) c ∗ creds (F := F) c ∗ starts (F := F) c
      ∗ semVal ((c : Thread nD τ), SemLoc.dma kSem) 0 ∗ semVal ((c : Thread nD τ), SemLoc.dma vSem) 0
      ∗ bufPts xM c (xC m ρ c) ∗ bufPts wqM c (wqC m ρ c) ∗ bufPts woM c (woC m ρ c) ∗ bufPts kM c (kC m ρ c) ∗ bufPts vM c (vC m ρ c)
      ∗ scr (F := F) c ∗ bufPts (F := F) oM c of ∗ owes (c : Thread nD τ) (O₀ c) W ∗ (bodyRes H m ρ c -∗ Kt ⟨⟩))
    ⊢ wp (M := 𝕄) frame (wpE 𝒟 𝒱₀ (c : Thread nD τ) none) Set.univ (rootProg (F := F) H) Kt := by
  unfold bodyRes scr creds starts rootProg
  iintro ⟨#HI, #Hlev, Htk, ⟨Hc0, Hc1, Hc2, Hc3, Hc4⟩, ⟨Hs0, Hs1, Hs2, Hs3, Hs4, Hs5, Hs6, Hs7, Hs8⟩, HsK, HsV, Hx, Hwq, Hwo, HK, HV,
    ⟨⟨%faM, HaM⟩, ⟨%fbM, HbM⟩, ⟨%fcM, HcM⟩, ⟨%fdM, HdM⟩, ⟨%fwofM, HwofM⟩, ⟨%fxbM, HxbM⟩, ⟨%fqM, HqM⟩, ⟨%fkbM, HkbM⟩, ⟨%fvbM, HvbM⟩⟩, Hout, HO, Hk⟩
  ihave #HIx1 := (inv_at m ρ K (c, 1)) $$ HI
  icases HIx1 with ⟨#Hi1, -⟩
  ihave #HIx2 := (inv_at m ρ K (c, 2)) $$ HI
  icases HIx2 with ⟨#Hi2, -⟩
  ihave #HIx3 := (inv_at m ρ K (c, 3)) $$ HI
  icases HIx3 with ⟨#Hi3, -⟩
  ihave #HIx4 := (inv_at m ρ K (c, 4)) $$ HI
  icases HIx4 with ⟨#Hi4, -⟩
  ihave #HIx5 := (inv_at m ρ K (c, 5)) $$ HI
  icases HIx5 with ⟨#Hi5, -⟩
  ihave #HIx6 := (inv_at m ρ K (c, 6)) $$ HI
  icases HIx6 with ⟨#Hi6, -⟩
  ihave #HIx7 := (inv_at m ρ K (c, 7)) $$ HI
  icases HIx7 with ⟨#Hi7, -⟩
  ihave #HIx8 := (inv_at m ρ K (c, 8)) $$ HI
  icases HIx8 with ⟨#Hi8, -⟩
  unfold exchP
  iapply (exch m ρ K c W faM fcM fbM fdM fxbM Kt (fun d0 v2 v5 v7 _ _ => hop0P H d0 v7 fun v278 => waitsP v2 v5 v7 v278 fun _ _ => hop1B H d0))
  isplitr; · iexact HI
  isplitr; · iexact Hlev
  isplitl [Htk]; · iexact Htk
  isplitl [Hc0]; · iexact Hc0
  isplitl [Hs0]; · iexact Hs0
  isplitl [Hx]; · iexact Hx
  isplitl [Hwq]; · iexact Hwq
  isplitl [Hwo]; · iexact Hwo
  isplitl [HaM]; · iexact HaM
  isplitl [HbM]; · iexact HbM
  isplitl [HcM]; · iexact HcM
  isplitl [HdM]; · iexact HdM
  isplitl [HxbM]; · iexact HxbM
  isplitl [HO]; · iexact HO
  iintro %v2 %v5 %v7 %v49 %v51 ⟨⟨%W1, HO⟩, Hx, Hwq, Hwo, HXB, HA, HB, HC, HD, Hz0, Hc5, Hc6, Hc7, Hc8⟩
  ihave HK := (toks_eq c kM (kC m ρ c)).1 $$ HK
  ihave HV := (toks_eq c vM (vC m ρ c)).1 $$ HV
  unfold hop0P
  iapply (hop0 H m ρ (K (c, 5)) c W1 keptQ (xbC m ρ c) (aC m ρ c) (cC m ρ c) (bC m ρ c) (dC m ρ c) (kC m ρ c) (vC m ρ c) fwofM fqM fkbM fvbM of v7 Kt (fun v278 => waitsP v2 v5 v7 v278 fun _ _ => hop1B H c) trivial trivial)
  isplitl [Hs5 Hc5]
  · unfold cellRes
    isplitr; · iexact Hi5
    isplitl [Hc5] <;> iassumption
  isplitl [HK]; · iexact HK
  isplitl [HV]; · iexact HV
  isplitl [HXB]; · iexact HXB
  isplitl [HA]; · iexact HA
  isplitl [HC]; · iexact HC
  isplitl [HqM]; · iexact HqM
  isplitl [HB]; · iexact HB
  isplitl [HD]; · iexact HD
  isplitl [HwofM]; · iexact HwofM
  isplitl [HkbM]; · iexact HkbM
  isplitl [HvbM]; · iexact HvbM
  isplitl [Hout]; · iexact Hout
  isplitl [HsK]; · iexact HsK
  isplitl [HsV]; · iexact HsV
  isplitl [HO]; · iexact HO
  iintro %v278 ⟨Hz5, Hp5, ⟨%W2, HO⟩, HK, HV, HXB, HA, HC, HqM, HB, HD, HwofM, HkbM, HvbM, Hout, HsK, HsV⟩
  unfold waitsP
  iapply (waits7 m ρ (fun k => K (c, k)) c W2 v2 v5 v7 v278 Kt (fun _ _ => hop1B H c))
  isplitl [Hs1 Hc1]
  · unfold cellRes
    isplitr; · iexact Hi1
    isplitl [Hc1] <;> iassumption
  isplitl [Hs6 Hc6]
  · unfold cellRes
    isplitr; · iexact Hi6
    isplitl [Hc6] <;> iassumption
  isplitl [Hs2 Hc2]
  · unfold cellRes
    isplitr; · iexact Hi2
    isplitl [Hc2] <;> iassumption
  isplitl [Hs7 Hc7]
  · unfold cellRes
    isplitr; · iexact Hi7
    isplitl [Hc7] <;> iassumption
  isplitl [Hs3 Hc3]
  · unfold cellRes
    isplitr; · iexact Hi3
    isplitl [Hc3] <;> iassumption
  isplitl [Hs8 Hc8]
  · unfold cellRes
    isplitr; · iexact Hi8
    isplitl [Hc8] <;> iassumption
  isplitl [Hs4 Hc4]
  · unfold cellRes
    isplitr; · iexact Hi4
    isplitl [Hc4] <;> iassumption
  isplitl [HO]; · iexact HO
  iintro %v330 %v332 ⟨⟨%W3, HO⟩, ⟨Hz1, Hp1⟩, ⟨Hz6, Hp6⟩, ⟨Hz2, Hp2⟩, ⟨Hz7, Hp7⟩, ⟨Hz3, Hp3⟩, ⟨Hz8, Hp8⟩, ⟨Hz4, Hp4⟩⟩
  ihave HA := (show iprop(winPts aS0 c keptQ (aC m ρ c) ∗ pay m ρ 5 false c) ⊢ winPts aS0 c fullShare (aC m ρ c) from (pointsTo_share (PosShare.mem_left_op_right fullShare)).2) $$ [HA Hp5]
  · isplitl [HA] <;> iassumption
  ihave HB := (show iprop(winPts bS0 c keptQ (bC m ρ c) ∗ pay m ρ 6 false c) ⊢ winPts bS0 c fullShare (bC m ρ c) from (pointsTo_share (PosShare.mem_left_op_right fullShare)).2) $$ [HB Hp6]
  · isplitl [HB] <;> iassumption
  ihave HC := (show iprop(winPts cS0 c keptQ (cC m ρ c) ∗ pay m ρ 7 false c) ⊢ winPts cS0 c fullShare (cC m ρ c) from (pointsTo_share (PosShare.mem_left_op_right fullShare)).2) $$ [HC Hp7]
  · isplitl [HC] <;> iassumption
  ihave HD := (show iprop(winPts dS0 c keptQ (dC m ρ c) ∗ pay m ρ 8 false c) ⊢ winPts dS0 c fullShare (dC m ρ c) from (pointsTo_share (PosShare.mem_left_op_right fullShare)).2) $$ [HD Hp8]
  · isplitl [HD] <;> iassumption
  ihave Hp1 := (show pay m ρ 1 false c ⊢ winPts aS1 c fullShare (aC m ρ (prv c)) from .rfl) $$ Hp1
  ihave Hp2 := (show pay m ρ 2 false c ⊢ winPts bS1 c fullShare (bC m ρ (prv c)) from .rfl) $$ Hp2
  ihave Hp3 := (show pay m ρ 3 false c ⊢ winPts cS1 c fullShare (cC m ρ (nxt c)) from .rfl) $$ Hp3
  ihave Hp4 := (show pay m ρ 4 false c ⊢ winPts dS1 c fullShare (dC m ρ (nxt c)) from .rfl) $$ Hp4
  iapply (hop1 H c W3 fullShare (xbC m ρ c) (aC m ρ (prv c)) (cC m ρ (nxt c)) (bC m ρ (prv c)) (dC m ρ (nxt c)) (kC m ρ c) (vC m ρ c) _ _ _ _ (outC0 H m ρ c) Kt trivial trivial)
  isplitl [HK]; · iexact HK
  isplitl [HV]; · iexact HV
  isplitl [HXB]; · iexact HXB
  isplitl [Hp1]; · iexact Hp1
  isplitl [Hp3]; · iexact Hp3
  isplitl [HqM]; · iexact HqM
  isplitl [Hp2]; · iexact Hp2
  isplitl [Hp4]; · iexact Hp4
  isplitl [HwofM]; · iexact HwofM
  isplitl [HkbM]; · iexact HkbM
  isplitl [HvbM]; · iexact HvbM
  isplitl [Hout]; · iexact Hout
  isplitl [HsK]; · iexact HsK
  isplitl [HsV]; · iexact HsV
  isplitl [HO]; · iexact HO
  iintro ⟨⟨%W4, HO⟩, HK, HV, HXB, HA1, HC1, HqM, HB1, HD1, HwofM, HkbM, HvbM, Hout, HsK, HsV⟩
  ihave HK := (toks_eq c kM (kC m ρ c)).2 $$ HK
  ihave HV := (toks_eq c vM (vC m ρ c)).2 $$ HV
  ihave HaM := (a_join c _ _) $$ [HA HA1]
  · isplitl [HA] <;> iassumption
  ihave HbM := (b_join c _ _) $$ [HB HB1]
  · isplitl [HB] <;> iassumption
  ihave HcM := (c_join c _ _) $$ [HC HC1]
  · isplitl [HC] <;> iassumption
  ihave HdM := (d_join c _ _) $$ [HD HD1]
  · isplitl [HD] <;> iassumption
  iapply Hk
  unfold zeros
  isplitl [Hz0 Hz1 Hz2 Hz3 Hz4 Hz5 Hz6 Hz7 Hz8]
  · isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    iexact Hz8
  isplitl [HsK]; · iexact HsK
  isplitl [HsV]; · iexact HsV
  isplitl [HaM HbM HcM HdM HwofM HXB HqM HkbM HvbM]
  · isplitl [HaM]; · iexact HaM
    isplitl [HbM]; · iexact HbM
    isplitl [HcM]; · iexact HcM
    isplitl [HdM]; · iexact HdM
    isplitl [HwofM]; · iexists _; iexact HwofM
    isplitl [HXB]; · iexists _; iexact HXB
    isplitl [HqM]; · iexists _; iexact HqM
    isplitl [HkbM]; · iexists _; iexact HkbM
    iexists _; iexact HvbM
  isplitl [HK]; · iexact HK
  isplitl [HV]; · iexact HV
  isplitl [HO]; · iexists _; iexact HO
  isplitl [Hx]; · iexact Hx
  isplitl [Hwq]; · iexact Hwq
  isplitl [Hwo]; · iexact Hwo
  iexact Hout

end Cert.KernelIdeal.Slice

end
-- ==== Proof.Data.lean ====
module

public import proofs.«01_k».proof.Proof.Whole
public import Idealize.ShloMosaic.Lib.Batch
public import Idealize.ShloMosaic.Lib.Writes
public import proofs.«01_k».proof.Proof.Gen.KernelIdeal.Points
public import Idealize.ShloMosaic.Lib.Pipeline.CollectiveSegs
public import Idealize.ShloMosaic.Lib.Pipeline.Launch

@[expose] public section

noncomputable section

namespace Cert.KernelIdeal.Slice

open Cert.KernelIdeal Cert.KernelIdeal.Gen

open Idealize.ShloMosaic Idealize.ShloMosaic.Tactic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

variable (H : Heads) (m : (ℓ : Loc nD τ sig) → Buf (Elt F) ℓ) (ρ : Dev nD → PrngReg)

/-! ## The proof data -/

/-- The kernel's own eighteen semaphores: the send and receive arrays', the two of the key and value copies. -/
def osem (i : Fin 18) : SemLoc sig := .dma ⟨i.val + 4, by have := i.isLt; show i.val + 4 < 22; omega⟩

/-- Those the two hops leave alone. -/
def idle (c : Dev nD) : sProp 𝕄 :=
  iprop(semVal ((c : Thread nD τ), osem 1) 0 ∗ semVal ((c : Thread nD τ), osem 3) 0 ∗ semVal ((c : Thread nD τ), osem 5) 0 ∗ semVal ((c : Thread nD τ), osem 7) 0 ∗ semVal ((c : Thread nD τ), osem 8) 0 ∗ semVal ((c : Thread nD τ), osem 10) 0 ∗ semVal ((c : Thread nD τ), osem 12) 0 ∗ semVal ((c : Thread nD τ), osem 14) 0)

/-- What device `c` starts from: the exchange's ghost state at some names, its credits, the levels, its idle semaphores and
    the two of the key and value copies, its keys and values. -/
def ghost (c : Dev nD) : sProp 𝕄 := iprop(∃ K, allInv m ρ K ∗ starts (F := F) c ∗ payToks (F := F) c
  ∗ semVal ((c : Thread nD τ), SemLoc.dma kSem) 0 ∗ semVal ((c : Thread nD τ), SemLoc.dma vSem) 0 ∗ idle (F := F) c)
def start (c : Dev nD) : sProp 𝕄 :=
  iprop(ghost m ρ c ∗ creds (F := F) c ∗ levAts L lv ∗ bufPts kM c (kC m ρ c) ∗ bufPts vM c (vC m ρ c))

def Φ₀ (c : Dev nD) : sProp 𝕄 := iprop(start m ρ c ∗ scr (F := F) c)
def Φ₁ (c : Dev nD) : sProp 𝕄 :=
  iprop(zeros (F := F) c ∗ semVal ((c : Thread nD τ), SemLoc.dma kSem) 0 ∗ semVal ((c : Thread nD τ), SemLoc.dma vSem) 0 ∗ idle (F := F) c ∗ scr (F := F) c ∗ bufPts kM c (kC m ρ c) ∗ bufPts vM c (vC m ρ c))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xC m ρ c
    | ⟨1, _⟩ => wqC m ρ c
    | ⟨2, _⟩ => woC m ρ c
    | ⟨3, _⟩ => outC H m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A whole buffer through its own view is the buffer. -/
theorem buf_eq (c : Dev nD) (b : Ref sig .tc) (f : Buf (Elt F) (((c : Dev nD) : Thread nD τ).loc b)) :
    ((Memref.whole b).view.loc (c : Thread nD τ) ↦[(Memref.whole b).view.set]{fullShare} f : sProp 𝕄) = (((c : Thread nD τ).loc b) ↦{fullShare} f) := by
  simp only [Memref.view_whole, View.set_whole]

/-- A staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats H m ρ 0 c).owesAt () t0_0.castSucc
    ∗ (∃ d, stg c cc0_stg0_0 ((dats H m ρ 0 c).before (0 : Fin 4) t0_0 d)) ∗ (∃ d, stg c cc0_stg1_0 ((dats H m ρ 0 c).before (1 : Fin 4) t0_0 d))
    ∗ (∃ d, stg c cc0_stg2_0 ((dats H m ρ 0 c).before (2 : Fin 4) t0_0 d)) ∗ (∃ d, stg c cc0_stg3_0 ((dats H m ρ 0 c).before (3 : Fin 4) t0_0 d)))

def bodyPost (c : Dev nD) : sProp 𝕄 :=
  iprop(Φ₁ m ρ c ∗ (dats H m ρ 0 c).owesAt () t0_0.succ ∗ stg c cc0_stg0_0 (xC m ρ c) ∗ stg c cc0_stg1_0 (wqC m ρ c) ∗ stg c cc0_stg2_0 (woC m ρ c)
    ∗ stg c cc0_stg3_0 (outC H m ρ c))

/-- The table of bodies that has `rootProg` at the heads `H`; -/
def bodies : Defs nD τ sig (Elt F) Λ₀ := Defs.onTc fun
  | 0, _ => rootProg H
  | ⟨_ + 1, h⟩, _ => absurd h (Nat.not_lt.2 (Nat.le_add_left _ _))

/-- this kernel's is the one at the heads of its own hops. -/
theorem bodies_near : defs₀ (F := F) = bodies firstHops :=
  congrArg Defs.onTc (funext fun l => funext fun a => match l, a with
    | 0, (_, _) => body_eq_root
    | ⟨_ + 1, h⟩, _ => absurd h (Nat.not_lt.2 (Nat.le_add_left _ _)))

set_option maxRecDepth 4000 in
/-- The body between what the region hands it and what the region takes back. -/
theorem body_at (c : Dev nD) :
    bodyPre H m ρ c ⊢ wp (M := 𝕄) frame (wpE (bodies (F := F) H) 𝒱₀ (c : Thread nD τ) none) Set.univ (rootProg (F := F) H) (fun _ => bodyPost H m ρ c) := by
  unfold bodyPre Φ₀ start ghost
  iintro ⟨⟨⟨⟨%K, #HI, Hst, Htk, HsK, HsV, Hid⟩, Hcr, #Hlev, HK, HV⟩, Hscr⟩, Ho, ⟨%d0, %g0, %hg0, Hx⟩, ⟨%d1, %g1, %hg1, Hwq⟩, ⟨%d2, %g2, %hg2, Hwo⟩, ⟨%d3, %g3, %hg3, Hout⟩⟩
  have hx : g0 = xC m ρ c := by rw [hg0]; unfold Dat.before; rw [if_pos (fetch0_0 t0_0)]; rfl
  have hq : g1 = wqC m ρ c := by rw [hg1]; unfold Dat.before; rw [if_pos (fetch0_1 t0_0)]; rfl
  have ho : g2 = woC m ρ c := by rw [hg2]; unfold Dat.before; rw [if_pos (fetch0_2 t0_0)]; rfl
  subst hx hq ho
  unfold Dat.owesAt Pipeline.owesWithin
  icases Ho with ⟨%W, %hW, HO⟩
  rw [show (dats H m ρ 0 c).owed t0_0.castSucc = O₀ c from rfl]
  ihave Hx := (Entails.of_eq (buf_eq c cc0_stg0_0 (xC m ρ c)).symm) $$ Hx
  ihave Hwq := (Entails.of_eq (buf_eq c cc0_stg1_0 (wqC m ρ c)).symm) $$ Hwq
  ihave Hwo := (Entails.of_eq (buf_eq c cc0_stg2_0 (woC m ρ c)).symm) $$ Hwo
  ihave Hout := (Entails.of_eq (buf_eq c cc0_stg3_0 g3).symm) $$ Hout
  iapply (sound_body H m ρ K c W g3 _)
  isplitr; · iexact HI
  isplitr; · iexact Hlev
  isplitl [Htk]; · iexact Htk
  isplitl [Hcr]; · iexact Hcr
  isplitl [Hst]; · iexact Hst
  isplitl [HsK]; · iexact HsK
  isplitl [HsV]; · iexact HsV
  isplitl [Hx]; · iexact Hx
  isplitl [Hwq]; · iexact Hwq
  isplitl [Hwo]; · iexact Hwo
  isplitl [HK]; · iexact HK
  isplitl [HV]; · iexact HV
  isplitl [Hscr]; · iexact Hscr
  isplitl [Hout]; · iexact Hout
  isplitl [HO]; · iexact HO
  unfold bodyRes bodyPost Φ₁
  iintro ⟨Hz, HsK, HsV, Hscr, HK, HV, ⟨%W', HO⟩, Hx, Hwq, Hwo, Hout⟩
  isplitl [Hz HsK HsV Hid Hscr HK HV]
  · isplitl [Hz]; · iexact Hz
    isplitl [HsK]; · iexact HsK
    isplitl [HsV]; · iexact HsV
    isplitl [Hid]; · iexact Hid
    isplitl [Hscr]; · iexact Hscr
    isplitl [HK]; · iexact HK
    iexact HV
  isplitl [HO]
  · unfold Dat.owesAt Pipeline.owesWithin
    rw [show (dats H m ρ 0 c).owed t0_0.succ = 0 from rfl]
    iexists W'; isplitr
    · ipureintro; exact fun _ _ => Or.inl trivial
    iexact HO
  ihave Hx := (Entails.of_eq (buf_eq c cc0_stg0_0 (xC m ρ c))) $$ Hx
  ihave Hwq := (Entails.of_eq (buf_eq c cc0_stg1_0 (wqC m ρ c))) $$ Hwq
  ihave Hwo := (Entails.of_eq (buf_eq c cc0_stg2_0 (woC m ρ c))) $$ Hwo
  ihave Hout := (Entails.of_eq (buf_eq c cc0_stg3_0 (outC H m ρ c))) $$ Hout
  isplitl [Hx]
  · iexists _; isplitr; · (ipureintro; rfl)
    iexact Hx
  isplitl [Hwq]
  · iexists _; isplitr; · (ipureintro; rfl)
    iexact Hwq
  isplitl [Hwo]
  · iexists _; isplitr; · (ipureintro; rfl)
    iexact Hwo
  iexists _; isplitr; · (ipureintro; rfl)
  iexact Hout

set_option maxRecDepth 8000 in
/-- The region's obligation about the body on core `c`. -/
theorem body_obligation (c : Dev nD) : BodyObligation (dats (F := F) H m ρ 0 c) (bodies (F := F) H) 𝒱₀ () Set.univ := fun t => by
  rw [fin_N0 t]
  rw [show (bigSep Finset.univ : (Fin cfg0.W → sProp 𝕄) → sProp 𝕄) = fun Φ => iprop(Φ (0 : Fin 4) ∗ Φ (1 : Fin 4) ∗ Φ (2 : Fin 4) ∗ Φ (3 : Fin 4)) from funext bigSep_W0]
  simp only [owns_whole_eq]
  exact body_at H m ρ c

end Cert.KernelIdeal.Slice

end
-- ==== Proof.Launch.lean ====
module

public import proofs.«01_k».proof.Proof.Data
public import Idealize.ShloMosaic.Lib.Batch
public import Idealize.ShloMosaic.Lib.Writes
public import proofs.«01_k».proof.Proof.Gen.KernelIdeal.Points
public import Idealize.ShloMosaic.Lib.Pipeline.CollectiveSegs
public import Idealize.ShloMosaic.Lib.Pipeline.Launch

@[expose] public section

noncomputable section

namespace Cert.KernelIdeal.Slice

open Cert.KernelIdeal Cert.KernelIdeal.Gen

open Idealize.ShloMosaic Idealize.ShloMosaic.Tactic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

variable (H : Heads) (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats H m ρ 0 c).share w = fullShare := by unfold Dat.share; split <;> rfl

theorem kcell_injective : Function.Injective (kcell : Dev nD × Fin 9 → GSem nD τ sig) := by
  rintro ⟨c, k⟩ ⟨c', k'⟩ h
  have h1 : c = c' := congrArg (fun g : GSem nD τ sig => g.1.1) h
  have h2 : k = k' := csem_injective (congrArg Prod.snd h)
  rw [h1, h2]
def ringCells : Finset (GSem nD τ sig) := Finset.univ.map ⟨kcell, kcell_injective⟩

/-- The duties of a device's own cells: the barrier's two, then one of each other cell. -/
def dutyOf (j : Fin 10) : Fin 9 × Bool := match j with
  | 0 => (0, false)
  | 1 => (0, true)
  | 2 => (1, false)
  | 3 => (2, false)
  | 4 => (3, false)
  | 5 => (4, false)
  | 6 => (5, false)
  | 7 => (6, false)
  | 8 => (7, false)
  | 9 => (8, false)

theorem dutyOf_injective : Function.Injective dutyOf := by decide
/-- A device's duty as the cell's, of its only round. -/
def tokOf (cj : Dev nD × Fin 10) : GSem nD τ sig × ℕ × Bool := (kcell (cj.1, (dutyOf cj.2).1), 0, (dutyOf cj.2).2)
theorem tokOf_injective : Function.Injective tokOf := by
  rintro ⟨c, j⟩ ⟨c', j'⟩ h
  have h1 := kcell_injective (congrArg Prod.fst h)
  have h2 : (dutyOf j).2 = (dutyOf j').2 := congrArg (fun x : GSem nD τ sig × ℕ × Bool => x.2.2) h
  have h3 : j = j' := dutyOf_injective (Prod.ext (congrArg Prod.snd h1) h2)
  have h4 : c = c' := congrArg Prod.fst h1
  rw [h3, h4]
def ringToks : Finset (GSem nD τ sig × ℕ × Bool) := Finset.univ.map ⟨tokOf, tokOf_injective⟩

def u₀ : UU := (initOf (Pipeline.cells cfgs cellOf_inj) (Pipeline.launchToks cfgs cellOf_inj), (initOf ringCells ringToks, 1))

/-- The duty tokens of device `c`'s own cells. -/
def ownToks (c : Dev nD) : sProp 𝕄 :=
  iprop(dutyTok ER (kcell (c, 0)) 0 false ∗ dutyTok ER (kcell (c, 0)) 0 true ∗ dutyTok ER (kcell (c, 1)) 0 false ∗ dutyTok ER (kcell (c, 2)) 0 false ∗ dutyTok ER (kcell (c, 3)) 0 false ∗ dutyTok ER (kcell (c, 4)) 0 false ∗ dutyTok ER (kcell (c, 5)) 0 false ∗ dutyTok ER (kcell (c, 6)) 0 false ∗ dutyTok ER (kcell (c, 7)) 0 false ∗ dutyTok ER (kcell (c, 8)) 0 false)

/-- What the launch element deals device `c`, -/
def G (c : Dev nD) : sProp 𝕄 :=
  iprop((bigSep Finset.univ fun k : Fin 9 => roundState ER (rd m ρ) (kcell (c, k)) 0)
    ∗ (bigSep Finset.univ fun k : Fin 9 => iprop(atPos ER (kcell (c, k)) 0 ∅ 0 ∗ reached ER (kcell (c, k)) 0)) ∗ ownToks (F := F) c)

theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ
theorem bigSep_fin10 (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 9 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => ownToks (F := F) c := by
    unfold ringToks; rw [bigSep_map, bigSep_univ_prod]
    exact bigSep_congr fun c _ => by unfold ownToks; rw [bigSep_fin10]; rfl
  iintro HX
  imod (Rounds.fund ER (rd m ρ) ringCells ringToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The own semaphores: the send and receive arrays' sixteen, the key copies' and the value copies'. -/
theorem ownSems0_eq (c : Dev nD) : (Pipeline.ownSems0 (Ix := Unit) (Name := ℕ) (U := UU) (Lvl := ℕ) (Val := Elt F) (τ := τ) osem c : sProp 𝕄)
    = iprop(semVal ((c : Thread nD τ), osem 0) 0 ∗ semVal ((c : Thread nD τ), osem 1) 0 ∗ semVal ((c : Thread nD τ), osem 2) 0 ∗ semVal ((c : Thread nD τ), osem 3) 0 ∗ semVal ((c : Thread nD τ), osem 4) 0 ∗ semVal ((c : Thread nD τ), osem 5) 0 ∗ semVal ((c : Thread nD τ), osem 6) 0 ∗ semVal ((c : Thread nD τ), osem 7) 0 ∗ semVal ((c : Thread nD τ), osem 8) 0 ∗ semVal ((c : Thread nD τ), osem 9) 0 ∗ semVal ((c : Thread nD τ), osem 10) 0 ∗ semVal ((c : Thread nD τ), osem 11) 0 ∗ semVal ((c : Thread nD τ), osem 12) 0 ∗ semVal ((c : Thread nD τ), osem 13) 0 ∗ semVal ((c : Thread nD τ), osem 14) 0 ∗ semVal ((c : Thread nD τ), osem 15) 0 ∗ semVal ((c : Thread nD τ), osem 16) 0 ∗ semVal ((c : Thread nD τ), osem 17) 0) := by
  rw [Pipeline.ownSems0_eq_of_list c osem [0, 1, 2, 3, 4, 5, 6, 7, 8, 9, 10, 11, 12, 13, 14, 15, 16, 17] (by decide) (by decide)]; rfl
/-- The barrier semaphore is the launch's one unscoped semaphore. -/
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

theorem cells_osem : osem 0 = csem 5 ∧ osem 2 = csem 6 ∧ osem 4 = csem 7 ∧ osem 6 = csem 8 ∧ osem 9 = csem 1 ∧ osem 11 = csem 2 ∧ osem 13 = csem 3 ∧ osem 15 = csem 4 ∧ osem 16 = SemLoc.dma kSem ∧ osem 17 = SemLoc.dma vSem := by decide

/-- All of them, sorted: the nine cells, the two of the local copies, the idle ones. -/
theorem sems_sort (c : Dev nD) :
    iprop(unscopedSems0 c ∗ Pipeline.ownSems0 (Ix := Unit) (Name := ℕ) (U := UU) (Lvl := ℕ) (Val := Elt F) (τ := τ) osem c)
      ⊣⊢ iprop(zeros (F := F) c ∗ semVal ((c : Thread nD τ), SemLoc.dma kSem) 0 ∗ semVal ((c : Thread nD τ), SemLoc.dma vSem) 0 ∗ idle (F := F) c) := by
  rw [unscopedSems0_eq, ownSems0_eq]
  obtain ⟨e0, e2, e4, e6, e9, e11, e13, e15, e16, e17⟩ := cells_osem
  rw [e0, e2, e4, e6, e9, e11, e13, e15, e16, e17]
  unfold zeros idle
  constructor
  · iintro ⟨Hb, H0, H1, H2, H3, H4, H5, H6, H7, H8, H9, H10, H11, H12, H13, H14, H15, H16, H17⟩
    isplitl [Hb H0 H2 H4 H6 H9 H11 H13 H15]
    · isplitl [Hb]; · iexact Hb
      isplitl [H9]; · iexact H9
      isplitl [H11]; · iexact H11
      isplitl [H13]; · iexact H13
      isplitl [H15]; · iexact H15
      isplitl [H0]; · iexact H0
      isplitl [H2]; · iexact H2
      isplitl [H4]; · iexact H4
      iexact H6
    isplitl [H16]; · iexact H16
    isplitl [H17]; · iexact H17
    isplitl [H1]; · iexact H1
    isplitl [H3]; · iexact H3
    isplitl [H5]; · iexact H5
    isplitl [H7]; · iexact H7
    isplitl [H8]; · iexact H8
    isplitl [H10]; · iexact H10
    isplitl [H12]; · iexact H12
    iexact H14
  · iintro ⟨⟨Hb, H9, H11, H13, H15, H0, H2, H4, H6⟩, H16, H17, H1, H3, H5, H7, H8, H10, H12, H14⟩
    isplitl [Hb]; · iexact Hb
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17

/-- What the global step leaves device `c` for itself. -/
def linear (c : Dev nD) : sProp 𝕄 :=
  iprop(semVal ((c : Thread nD τ), SemLoc.dma kSem) 0 ∗ semVal ((c : Thread nD τ), SemLoc.dma vSem) 0 ∗ idle (F := F) c)

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ ownToks (F := F) c ∗ linear (F := F) c) := by
  unfold G
  iintro ⟨Hos, Hus, Hst, Hat, Htok⟩
  ihave Hv := (sems_sort (F := F) c).1 $$ [Hos Hus]
  · isplitl [Hus] <;> iassumption
  icases Hv with ⟨Hz, Hlin⟩
  ihave Hz := (show zeros (F := F) c ⊢ (bigSep Finset.univ fun k : Fin 9 => semVal (kcell (c, k)) 0 : sProp 𝕄) from Entails.of_eq (by unfold zeros; rw [bigSep_fin9])) $$ Hz
  imod (show iprop((bigSep Finset.univ fun k : Fin 9 => semVal (kcell (c, k)) 0) ∗ bigSep Finset.univ fun k : Fin 9 => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hz Hst] with Hinv
  · isplitl [Hz] <;> iassumption
  imodintro
  isplitl [Hinv]; · iexact Hinv
  isplitl [Hat]; · iexact Hat
  isplitl [Htok]; · iexact Htok
  unfold linear; iexact Hlin

/-- The tokens dealt around the ring, each to the device that pays its duty. -/
theorem toks_around : (bigSep Finset.univ fun c : Dev nD => (ownToks (F := F) c : sProp 𝕄)) ⊢ bigSep Finset.univ fun c : Dev nD => payToks (F := F) c := by
  unfold ownToks payToks
  simp only [bigSep_sep']
  rw [bigSep_univ_equiv ring.symm (fun c : Dev nD => (dutyTok ER (kcell (c, 0)) 0 false : sProp 𝕄)),
    bigSep_univ_equiv ring (fun c : Dev nD => (dutyTok ER (kcell (c, 0)) 0 true : sProp 𝕄)),
    bigSep_univ_equiv ring (fun c : Dev nD => (dutyTok ER (kcell (c, 1)) 0 false : sProp 𝕄)),
    bigSep_univ_equiv ring (fun c : Dev nD => (dutyTok ER (kcell (c, 2)) 0 false : sProp 𝕄)),
    bigSep_univ_equiv ring.symm (fun c : Dev nD => (dutyTok ER (kcell (c, 3)) 0 false : sProp 𝕄)),
    bigSep_univ_equiv ring.symm (fun c : Dev nD => (dutyTok ER (kcell (c, 4)) 0 false : sProp 𝕄))]
  exact .rfl

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 9 → ℕ) (c : Dev nD) :
    iprop(allInv m ρ K ∗ ((bigSep Finset.univ fun k : Fin 9 => atPos ER (kcell (c, k)) 0 ∅ 0) ∗ payToks (F := F) c ∗ linear (F := F) c)) ⊢ ghost m ρ c := by
  rw [bigSep_fin9]
  unfold ghost starts linear
  iintro ⟨#HI, Hat, Htk, HK, HV, Hid⟩
  iexists K
  isplitr; · iexact HI
  isplitl [Hat]; · iexact Hat
  isplitl [Htk]; · iexact Htk
  isplitl [HK]; · iexact HK
  isplitl [HV] <;> iassumption

theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ ownToks (F := F) c ∗ linear (F := F) c) : sProp 𝕄)
      ⊢ bigSep Finset.univ (ghost m ρ) := by
  rw [bigSep_sep', bigSep_sep', bigSep_sep', ← bigSep_univ_prod (fun ck : Dev nD × Fin 9 => iprop(∃ κ : ℕ, cellInv ER (rd m ρ) κ (kcell ck))),
    bigSep_congr (s := Finset.univ) (fun (c : Dev nD) _ => bigSep_sep' Finset.univ (fun k : Fin 9 => (atPos ER (kcell (c, k)) 0 ∅ 0 : sProp 𝕄)) (fun k => reached ER (kcell (c, k)) 0)),
    bigSep_sep', ← bigSep_univ_prod (fun ck : Dev nD × Fin 9 => (reached ER (kcell ck) 0 : sProp 𝕄))]
  iintro ⟨HI, ⟨Hat, #HR⟩, Htok, Hlin⟩
  ihave HK := (BI.bigSep_exists_pi Finset.univ (fun (ck : Dev nD × Fin 9) (κ : ℕ) => (cellInv ER (rd m ρ) κ (kcell ck) : sProp 𝕄))) $$ HI
  icases HK with ⟨%K, #HI⟩
  ihave Htk := (toks_around (F := F)) $$ Htok
  iapply (bigSep_with_persistent (R := allInv m ρ K) fun c _ => ghost_intro m ρ K c)
  isplitr
  · unfold allInv; rw [bigSep_sep']; isplitl; · iexact HI
    iexact HR
  · rw [bigSep_sep', bigSep_sep']
    isplitl [Hat]; · iexact Hat
    isplitl [Htk] <;> iassumption

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (ghost m ρ) :=
  ((bigSep_mono fun c _ => core_alloc m ρ c).trans (bigSep_fupd _ _)).trans (BI.fupd_mono (regroup m ρ))

/-! ### The launch credit -/

theorem tally_cell (a c : Dev nD) (j k : Fin 9) (n : ℕ) :
    (tallyAt (kcell (a, j)) () n : CellTallies nD τ sig Unit) (kcell (c, k)) () = if a = c then (if j = k then n else 0) else 0 := by
  rw [tallyAt_apply]
  by_cases h : a = c
  · by_cases h' : j = k
    · subst h h'; rw [if_pos ⟨rfl, rfl⟩, if_pos rfl, if_pos rfl]
    · rw [if_neg fun e => h' (congrArg Prod.snd (kcell_injective e.1)).symm, if_pos h, if_neg h']
  · rw [if_neg fun e => h (congrArg Prod.fst (kcell_injective e.1)).symm, if_neg h]

/-- One device's turn of a unit per device around the ring. -/
theorem sum_turn (e : Dev nD ≃ Dev nD) (c : Dev nD) (n : ℕ) : ∑ d : Dev nD, (if e d = c then n else 0) = n := by
  rw [Finset.sum_congr rfl fun d _ => if_congr (e.apply_eq_iff_eq_symm_apply) rfl rfl, Finset.sum_ite_eq' Finset.univ, if_pos (Finset.mem_univ _)]

/-- What all devices owe a cell `k` together. -/
def tot (a b c d : ℕ) (k : Fin 9) : ℕ :=
  0 + (if 4 = k then d else 0) + (if 3 = k then c else 0) + (if 2 = k then b else 0) + (if 1 = k then a else 0) + (if 0 = k then 1 else 0) + (if 0 = k then 1 else 0)

theorem owed_sum (c : Dev nD) (k : Fin 9) : ∑ d : Dev nD, O₀ d (kcell (c, k)) () = tot NA NB NC ND k := by
  unfold tot O₀ oweB owe0 owe1 owe2 owe3
  simp only [Pi.add_apply, Finsupp.add_apply, Finset.sum_add_distrib, tally_cell]
  congr 1; congr 1; congr 1; congr 1; congr 1; congr 1
  · exact sum_turn ring.symm c _
  · exact sum_turn ring.symm c _
  · exact sum_turn ring c _
  · exact sum_turn ring c _
  · exact sum_turn ring c _
  · exact sum_turn ring.symm c _

theorem launch_cell (c : Dev nD) (k : Fin 9) :
    tallyOn (kcell (c, k)) (launchCredit (Pipeline.owing O₀) 0 (kcell (c, k))) = (tallyAt (kcell (c, k)) () (tot NA NB NC ND k) : CellTallies nD τ sig Unit) := by
  unfold tallyAt; refine congrArg _ (Finsupp.ext fun u => ?_); cases u
  rw [Pipeline.launchCredit_owing, Finsupp.single_eq_same, owed_sum]

theorem tot_eq (a b c d : ℕ) : tot a b c d 0 = 2 ∧ tot a b c d 1 = a ∧ tot a b c d 2 = b ∧ tot a b c d 3 = c ∧ tot a b c d 4 = d := by
  simp [tot]

theorem drop_right (P Q : sProp 𝕄) : iprop(P ∗ Q) ⊢ P := by
  iintro ⟨H, -⟩; iexact H

theorem creds_intro (c : Dev nD) : (Pipeline.launchCred O₀ c : sProp 𝕄) ⊢ creds (F := F) c := by
  unfold Pipeline.launchCred creds
  rw [bigSep_sdiff_split (t := [csem 0, csem 1, csem 2, csem 3, csem 4].toFinset) (Finset.subset_univ _)]
  refine (drop_right _ _).trans ?_
  rw [bigSep_eq_bigSepL_of_eq [csem 0, csem 1, csem 2, csem 3, csem 4] rfl (by decide)]
  obtain ⟨h0, h1, h2, h3, h4⟩ := tot_eq NA NB NC ND
  refine Entails.of_eq ?_
  simp only [bigSepL_cons_cons, bigSepL_singleton]
  have e (k : Fin 9) := launch_cell c k
  have e0 := e 0; have e1 := e 1; have e2 := e 2; have e3 := e 3; have e4 := e 4
  rw [h0] at e0; rw [h1] at e1; rw [h2] at e2; rw [h3] at e3; rw [h4] at e4
  show iprop(cred (tallyOn (kcell (c, 0)) _) ∗ cred (tallyOn (kcell (c, 1)) _) ∗ cred (tallyOn (kcell (c, 2)) _) ∗ cred (tallyOn (kcell (c, 3)) _) ∗ cred (tallyOn (kcell (c, 4)) _)) = _
  rw [e0, e1, e2, e3, e4]
  rfl

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m ρ c)
      ⊢ |={Set.univ}=> iprop(start m ρ c ∗ emp) := by
  rw [Pipeline.unscopedRestP_none, unscopedRest0_eq]
  iintro ⟨⟨HK, HV⟩, Hlev, Hcr, -, HG⟩
  ihave Hc := (creds_intro (F := F) c) $$ Hcr
  ihave HK := (Entails.of_eq (buf_eq c main_arg2 (m ((c : Thread nD τ).loc main_arg2))).symm) $$ HK
  ihave HV := (Entails.of_eq (buf_eq c main_arg3 (m ((c : Thread nD τ).loc main_arg3))).symm) $$ HV
  imodintro
  unfold start
  isplitl
  · isplitl [HG]; · iexact HG
    isplitl [Hc]; · iexact Hc
    isplitl [Hlev]; · iexact Hlev
    isplitl [HK]; · iexact HK
    iexact HV
  · iempintro

theorem ex_buf (c : Dev nD) (b : Ref sig .tc) :
    (iprop(∃ f : Buf (Elt F) (((c : Dev nD) : Thread nD τ).loc b), (((c : Thread nD τ).loc b) ↦{fullShare} f)) : sProp 𝕄)
      = iprop(∃ f, ((Memref.whole b).view.loc (c : Thread nD τ) ↦[(Memref.whole b).view.set]{fullShare} f)) := by
  simp only [Memref.view_whole, View.set_whole]

theorem scr_eq (c : Dev nD) : (Pipeline.scopedRest cfg0.spec c : sProp 𝕄) = scr (F := F) c := by
  rw [show (Pipeline.scopedRest cfg0.spec c : sProp 𝕄) = Pipeline.scopedRest spec0 c from rfl, scopedRest0_eq]
  unfold scr
  refine congrArg₂ (fun a b : sProp 𝕄 => iprop(a ∗ b)) (ex_buf c cc0_scratch0) ?_
  refine congrArg₂ (fun a b : sProp 𝕄 => iprop(a ∗ b)) (ex_buf c cc0_scratch1) ?_
  refine congrArg₂ (fun a b : sProp 𝕄 => iprop(a ∗ b)) (ex_buf c cc0_scratch2) ?_
  refine congrArg₂ (fun a b : sProp 𝕄 => iprop(a ∗ b)) (ex_buf c cc0_scratch3) ?_
  refine congrArg₂ (fun a b : sProp 𝕄 => iprop(a ∗ b)) (ex_buf c cc0_scratch4) ?_
  refine congrArg₂ (fun a b : sProp 𝕄 => iprop(a ∗ b)) (ex_buf c cc0_scratch5) ?_
  refine congrArg₂ (fun a b : sProp 𝕄 => iprop(a ∗ b)) (ex_buf c cc0_scratch6) ?_
  refine congrArg₂ (fun a b : sProp 𝕄 => iprop(a ∗ b)) (ex_buf c cc0_scratch7) ?_
  exact ex_buf c cc0_scratch8

theorem phi0_intro (c : Dev nD) :
    iprop(start m ρ c ∗ Pipeline.prefHeld Pipeline.Prefetch.none c (fun _ => fullShare.right) (fun k => k.elim0) ∗ Pipeline.scopedRest cfg0.spec c)
      ⊢ (dats H m ρ 0 c).Φ 0 := by
  rw [show (dats H m ρ 0 c).Φ 0 = Φ₀ m ρ c from rfl, scr_eq]
  unfold Φ₀
  iintro ⟨Hs, -, Hr⟩
  isplitl [Hs] <;> iassumption

/-- What is left of device `c` when the region ends: its barrier's counter at zero, its keys and values as they were. -/
def leftover (c : Dev nD) : sProp 𝕄 := iprop(unscopedSems0 c ∗ bufPts kM c (kC m ρ c) ∗ bufPts vM c (vC m ρ c))

theorem phi1_exit (c : Dev nD) :
    (dats H m ρ 0 c).Φ (Fin.last cfg0.N) ⊢ iprop(leftover m ρ c ∗ Pipeline.ownSems0 osem c ∗ Pipeline.scopedRest cfg0.spec c) := by
  rw [show (dats H m ρ 0 c).Φ (Fin.last cfg0.N) = Φ₁ m ρ c from rfl, scr_eq]
  unfold Φ₁ leftover
  iintro ⟨Hz, HsK, HsV, Hid, Hscr, HK, HV⟩
  ihave Hs := (sems_sort (F := F) c).2 $$ [Hz HsK HsV Hid]
  · isplitl [Hz]; · iexact Hz
    isplitl [HsK]; · iexact HsK
    isplitl [HsV] <;> iassumption
  icases Hs with ⟨Hu, Ho⟩
  isplitl [Hu HK HV]
  · isplitl [Hu]; · iexact Hu
    isplitl [HK] <;> iassumption
  isplitl [Ho] <;> iassumption

theorem waits (c : Dev nD) : (levAts L lv : sProp 𝕄) ⊢ Pipeline.cellsWaits cfgs (dats H m ρ) () 0 c :=
  Pipeline.cellsWaits_intro cfgs (dats H m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats H m ρ 0 c).arrAt w cfg0.N

/-- What the run ends in: every window's array at the computed contents, the keys and the values as they were. -/
def QC : PUnit × MemSt nD τ sig (Elt F) → Prop := fun r =>
  ∀ c : Dev nD, (∀ w : Fin cfg0.W, r.2.mem ((cfg0.win w).arr.view.loc (c : Thread nD τ)) = finalA H m ρ c w)
    ∧ r.2.mem ((c : Thread nD τ).loc main_arg2) = m ((c : Thread nD τ).loc main_arg2) ∧ r.2.mem ((c : Thread nD τ).loc main_arg3) = m ((c : Thread nD τ).loc main_arg3)

/-- What is left says of the memory that the keys and the values are as they were and the barrier's counter is zero. -/
theorem leftover_read (c : Dev nD) (s' : Phys nD τ sig (Elt F)) :
    iprop(leftover m ρ c ∗ emp ∗ SI s') ⊢ |={Set.univ}=> iprop(⌜(s'.mem.mem ((c : Thread nD τ).loc main_arg2) = m ((c : Thread nD τ).loc main_arg2)
        ∧ s'.mem.mem ((c : Thread nD τ).loc main_arg3) = m ((c : Thread nD τ).loc main_arg3))
        ∧ ∀ sm : SemLoc sig, sm.isScoped .tc = false → s'.mem.sem ((c.tc : Thread nD τ), sm) = 0⌝ ∗ SI s' : sProp 𝕄) := by
  unfold leftover
  rw [show bufPts kM c (kC m ρ c) = _ from buf_eq c main_arg2 (kC m ρ c), show bufPts vM c (vC m ρ c) = _ from buf_eq c main_arg3 (vC m ρ c)]
  iintro ⟨⟨Hu, HK, HV⟩, -, HSI⟩
  icombine HSI HK gives %hk
  icombine HSI HV gives %hv
  imod (Pipeline.unscopedSems0_read (X := unscopedSems0 c) (c := c) fupd_intro s') $$ [Hu HSI] with ⟨%hs, HSI⟩
  · isplitl [Hu] <;> iassumption
  imodintro
  isplitr
  · ipureintro; exact ⟨⟨Buf.eq_of_forall_mem_univ hk, Buf.eq_of_forall_mem_univ hv⟩, hs⟩
  iexact HSI

set_option maxRecDepth 8000 in
/-- From any memory with zero counters every weakly fair execution of the four devices ends, the arrays at the computed
    contents, the keys and the values as they were, every counter at zero. -/
theorem run_main : θ_run (Pipeline.defs pcfgs (bodies H)) (onTc (τ := τ) (main (F := F))) (s₀ m ρ) (fun r => QC H m ρ r ∧ r.2.sem = fun _ => 0) :=
  Pipeline.θ_run_region_owing_glob_pf (fun p => (cfgs p).toPCfg) (fun p => (cfgs p).toPCfg_adm) (dats H m ρ) () cellOf_inj (0 : Fin 1)
    winFacts0.to₀ ownSemFacts (Pipeline.PreFacts.none _) EP (bodies H) 𝒱₀ m ρ main
    (hmain := fun _ => rfl)
    (hbody := body_obligation H m ρ) (hne := block_pos0) (harr := arr_whole0) (hstage := stage_whole0) (hshare := share_eq H m ρ)
    (hdistinct := winFacts0.arr_inj)
    (O₀ := O₀) (howed₀ := fun _ => rfl) (howedN := fun _ => rfl)
    (L := L) (lv := lv) (hL := L_of_ne) (hwaits := waits H m ρ)
    (G := G m ρ) (G' := ghost m ρ) (u₀ := u₀)
    (hu₀ := by
      unfold u₀
      iintro Hu
      ihave H := (ownU_pair _ _) $$ Hu
      icases H with ⟨HP, HX⟩
      ihave HX := (own_pair_emb embR (initOf ringCells ringToks) (1 : Counters)) $$ HX
      icases HX with ⟨HX, -⟩
      imod (show iprop(BI.own (((Emb.inl : Emb UB (UB × Counters)).trans embR) (initOf ringCells ringToks))) ⊢ (|==> bigSep Finset.univ (G m ρ) : sProp 𝕄) from fund_ring m ρ) $$ HX with HG
      imodintro
      isplitl [HP] <;> iassumption)
    (hglob := glob m ρ)
    (hA := fun _ _ => rfl) (hpf := fun _ k => k.elim0)
    (X := start m ρ) (Y := leftover m ρ) (Z := fun _ => iprop(emp))
    (hX := start_intro m ρ) (hin := phi0_intro H m ρ) (hout := phi1_exit H m ρ)
    (QY := fun c s => (s.mem ((c : Thread nD τ).loc main_arg2) = m ((c : Thread nD τ).loc main_arg2)
        ∧ s.mem ((c : Thread nD τ).loc main_arg3) = m ((c : Thread nD τ).loc main_arg3))
        ∧ ∀ sm : SemLoc sig, sm.isScoped .tc = false → s.sem ((c.tc : Thread nD τ), sm) = 0)
    (hY := leftover_read m ρ)
    (hQ := fun _ h hs => ⟨fun c => ⟨fun w => (h c).1 w, (h c).2.2.1⟩, sem_eq_zero hs fun c => (h c).2.2.2⟩)

/-- How a run ends: the arguments as they were, the result of each device at what the copies left, every counter at zero. -/
abbrev Ends : PUnit × MemSt nD τ sig (Elt F) → Prop := fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v1) = finalA H m ρ c (3 : Fin 4)) ∧ r.2.sem = fun _ => 0

/-- From any memory every execution of the four devices ends so, whichever heads the hops copy; -/
theorem run_heads : θ_run (Pipeline.defs pcfgs (bodies H)) (onTc (τ := τ) (main (F := F))) ⟨m, fun _ => 0, ρ⟩ (Ends H m ρ) :=
  (θ_run (Pipeline.defs pcfgs (bodies H)) _ _).mono (fun _ h => ⟨fun c => ⟨⟨((h.1 c).1 0).trans ((dats H m ρ 0 c).arrAt_in 0 rfl _),
      ((h.1 c).1 1).trans ((dats H m ρ 0 c).arrAt_in 1 rfl _), (h.1 c).2.1, (h.1 c).2.2, ((h.1 c).1 2).trans ((dats H m ρ 0 c).arrAt_in 2 rfl _)⟩,
      (h.1 c).1 3⟩, h.2⟩) (run_main H m ρ)

/-- with this kernel's, too. -/
theorem run_out : θ_run defs (onTc (τ := τ) (main (F := F))) ⟨m, fun _ => 0, ρ⟩ (Ends firstHops m ρ) := by
  unfold defs
  rw [bodies_near]
  exact run_heads firstHops m ρ

end Cert.KernelIdeal.Slice

end
-- ==== Proof.Heads.lean ====
module

public import proofs.«01_k».proof.Proof.Whole
public import proofs.«01_k».proof.Proof.Soft
public import Idealize.ShloMosaic.Lib.Pointwise

@[expose] public section

noncomputable section

namespace Cert.KernelIdeal.Slice

open Cert.KernelIdeal Cert.KernelIdeal.Gen Idealize.ShloMosaic Idealize.ShloMosaic.TcCoe Idealize.SL.Sem

/-! # One block of the result over the extended reals -/

/-- One head's context at row `i`, column `d` of a block: the weighted sum of the values over the weights' sum. -/
def headAt (b : FVec Ideal S512x768 .f32) (q : Vec Ideal S512x128 .bf16) (K V : Vec Ideal S1x768x128 .f32) (i : Fin 512) (d : Fin 128) : EReal :=
  Ideal.div (∑ j : Fin 768, Ideal.exp ((∑ e : Fin 128, q (ix2 i e) * K (ix3 (0 : Fin 1) j e)) + b (ix2 i j)) * V (ix3 (0 : Fin 1) j d))
    (∑ j : Fin 768, Ideal.exp ((∑ e : Fin 128, q (ix2 i e) * K (ix3 (0 : Fin 1) j e)) + b (ix2 i j)))

theorem ix2_eq {a b : ℕ} (i : Fin a) (j : Fin b) : ix2 i j = Idealize.ShloMosaic.ix2 i j := by
  funext x; match x with | ⟨0, _⟩ => rfl | ⟨1, _⟩ => rfl
theorem ix3_eq {a b c : ℕ} (i : Fin a) (j : Fin b) (k : Fin c) : ix3 i j k = Idealize.ShloMosaic.ix3 i j k := by
  funext x; match x with | ⟨0, _⟩ => rfl | ⟨1, _⟩ => rfl | ⟨2, _⟩ => rfl

theorem head_apply (b : FVec Ideal S512x768 .f32) (q : Vec Ideal S512x128 .bf16) (K V : Vec Ideal S1x768x128 .f32) (i : Fin 512) (d : Fin 128) :
    k0_pay4 b q K V (ix2 i d) = headAt b q K V i d := by
  unfold headAt
  simp only [ix2_eq, ix3_eq]
  pointwise [k0_pay4]

/-- The other six payloads of a head are the same function. -/
theorem pay3_eq (k : Fin k0_t2_loop.trips) (q : Vec Ideal S512x128 .bf16) (K V : Vec Ideal S1x768x128 .f32) : k0_pay3 0#32 1#32 k q K V = k0_pay4 (k0_pay2 (F := Ideal) 0#32 1#32 k) q K V := rfl
theorem pay13_eq (k : Fin k0_t4_loop.trips) (q : Vec Ideal S512x128 .bf16) (K V : Vec Ideal S1x768x128 .f32) : k0_pay13 0#32 1#32 k q K V = k0_pay4 (k0_pay12 (F := Ideal) 0#32 1#32 k) q K V := rfl

/-- A sum over the 1024 columns, head by head. -/
theorem sum_heads (g : Fin 1024 → EReal) :
    ∑ f, g f = ∑ h : Fin 8, ∑ d : Fin 128, g ⟨128 * h.val + d.val, by have := h.isLt; have := d.isLt; omega⟩ := by
  rw [← Finset.sum_product', ← (finProdFinEquiv (m := 8) (n := 128)).sum_comp g]
  refine Finset.sum_congr rfl fun x _ => congrArg g (Fin.ext ?_)
  show x.2.val + 128 * x.1.val = 128 * x.1.val + x.2.val; omega

/-- Column `d` of head `h`. -/
def at8 (h : Fin 8) (d : Fin 128) : Fin 1024 := ⟨128 * h.val + d.val, by have := h.isLt; have := d.isLt; omega⟩

set_option maxHeartbeats 1000000 in
/-- The last payload of a block: the eight contexts against the output weights. -/
theorem last_apply (b : FVec Ideal S512x768 .f32) (p0 p1 p2 p3 p4 p5 p6 : FVec Ideal S512x128 .bf16) (q : Vec Ideal S512x128 .bf16) (K V : Vec Ideal S1x768x128 .f32)
    (W : Vec Ideal S1024x1024 .bf16) (i : Fin 512) (n : Fin 1024) :
    k0_pay31 b p0 p1 p2 p3 p4 p5 p6 q (k0_pay11 K) V W (ix3 0 i n)
      = (∑ d : Fin 128, p0 (ix2 i d) * W (ix2 (at8 0 d) n)) + (∑ d : Fin 128, p1 (ix2 i d) * W (ix2 (at8 1 d) n)) + (∑ d : Fin 128, p2 (ix2 i d) * W (ix2 (at8 2 d) n)) + (∑ d : Fin 128, p3 (ix2 i d) * W (ix2 (at8 3 d) n)) + (∑ d : Fin 128, p4 (ix2 i d) * W (ix2 (at8 4 d) n)) + (∑ d : Fin 128, p5 (ix2 i d) * W (ix2 (at8 5 d) n)) + (∑ d : Fin 128, p6 (ix2 i d) * W (ix2 (at8 6 d) n)) + (∑ d : Fin 128, headAt b q K V i d * W (ix2 (at8 7 d) n)) := by
  simp only [ix2_eq, ix3_eq, headAt]
  pointwise [k0_pay31, k0_pay11]
  rw [sum_heads, Fin.sum_univ_eight]
  refine congrArg₂ _ (congrArg₂ _ (congrArg₂ _ (congrArg₂ _ (congrArg₂ _ (congrArg₂ _ (congrArg₂ _ ?_ ?_) ?_) ?_) ?_) ?_) ?_) ?_
  all_goals
    refine Finset.sum_congr rfl fun x _ => ?_
    have hx := x.isLt
  · rw [dif_pos (by show 128 * 0 + x.val < 128; omega)]; congr 3; exact Fin.ext (by show 128 * 0 + x.val = x.val; omega)
  · rw [dif_neg (by show ¬ (128 * 1 + x.val < 128); omega), dif_pos (by show 128 * 1 + x.val - 128 < 128; omega)]; congr 3; exact Fin.ext (by show 128 * 1 + x.val - 128 = x.val; omega)
  · rw [dif_neg (by show ¬ (128 * 2 + x.val < 128); omega), dif_neg (by show ¬ (128 * 2 + x.val - 128 < 128); omega), dif_pos (by show 128 * 2 + x.val - 128 - 128 < 128; omega)]; congr 3; exact Fin.ext (by show 128 * 2 + x.val - 128 - 128 = x.val; omega)
  · rw [dif_neg (by show ¬ (128 * 3 + x.val < 128); omega), dif_neg (by show ¬ (128 * 3 + x.val - 128 < 128); omega), dif_neg (by show ¬ (128 * 3 + x.val - 128 - 128 < 128); omega), dif_pos (by show 128 * 3 + x.val - 128 - 128 - 128 < 128; omega)]; congr 3; exact Fin.ext (by show 128 * 3 + x.val - 128 - 128 - 128 = x.val; omega)
  · rw [dif_neg (by show ¬ (128 * 4 + x.val < 128); omega), dif_neg (by show ¬ (128 * 4 + x.val - 128 < 128); omega), dif_neg (by show ¬ (128 * 4 + x.val - 128 - 128 < 128); omega), dif_neg (by show ¬ (128 * 4 + x.val - 128 - 128 - 128 < 128); omega), dif_pos (by show 128 * 4 + x.val - 128 - 128 - 128 - 128 < 128; omega)]; congr 3; exact Fin.ext (by show 128 * 4 + x.val - 128 - 128 - 128 - 128 = x.val; omega)
  · rw [dif_neg (by show ¬ (128 * 5 + x.val < 128); omega), dif_neg (by show ¬ (128 * 5 + x.val - 128 < 128); omega), dif_neg (by show ¬ (128 * 5 + x.val - 128 - 128 < 128); omega), dif_neg (by show ¬ (128 * 5 + x.val - 128 - 128 - 128 < 128); omega), dif_neg (by show ¬ (128 * 5 + x.val - 128 - 128 - 128 - 128 < 128); omega), dif_pos (by show 128 * 5 + x.val - 128 - 128 - 128 - 128 - 128 < 128; omega)]; congr 3; exact Fin.ext (by show 128 * 5 + x.val - 128 - 128 - 128 - 128 - 128 = x.val; omega)
  · rw [dif_neg (by show ¬ (128 * 6 + x.val < 128); omega), dif_neg (by show ¬ (128 * 6 + x.val - 128 < 128); omega), dif_neg (by show ¬ (128 * 6 + x.val - 128 - 128 < 128); omega), dif_neg (by show ¬ (128 * 6 + x.val - 128 - 128 - 128 < 128); omega), dif_neg (by show ¬ (128 * 6 + x.val - 128 - 128 - 128 - 128 < 128); omega), dif_neg (by show ¬ (128 * 6 + x.val - 128 - 128 - 128 - 128 - 128 < 128); omega), dif_pos (by show 128 * 6 + x.val - 128 - 128 - 128 - 128 - 128 - 128 < 128; omega)]; congr 3; exact Fin.ext (by show 128 * 6 + x.val - 128 - 128 - 128 - 128 - 128 - 128 = x.val; omega)
  · rw [dif_neg (by show ¬ (128 * 7 + x.val < 128); omega), dif_neg (by show ¬ (128 * 7 + x.val - 128 < 128); omega), dif_neg (by show ¬ (128 * 7 + x.val - 128 - 128 < 128); omega), dif_neg (by show ¬ (128 * 7 + x.val - 128 - 128 - 128 < 128); omega), dif_neg (by show ¬ (128 * 7 + x.val - 128 - 128 - 128 - 128 < 128); omega), dif_neg (by show ¬ (128 * 7 + x.val - 128 - 128 - 128 - 128 - 128 < 128); omega), dif_neg (by show ¬ (128 * 7 + x.val - 128 - 128 - 128 - 128 - 128 - 128 < 128); omega)]
    have hd : ∀ y : Fin 128, y = x → ∀ g : Fin 128 → EReal, g y = g x := fun y h g => congrArg g h
    refine congrArg (· * _) (congrArg₂ Ideal.div (Finset.sum_congr rfl fun z _ => congrArg₂ (fun u v : EReal => u * v) rfl ?_) rfl)
    exact hd _ (Fin.ext (by show 128 * 7 + x.val - 128 - 128 - 128 - 128 - 128 - 128 - 128 = x.val; omega)) fun y => V (Idealize.ShloMosaic.ix3 0 z y)

/-- One block of hop 0's result: over the eight heads, the contexts against the output weights. -/
theorem tile0 (k : Fin k0_t2_loop.trips) (Q : S2048x1024.Idx → Ideal .bf16) (K V : S8x2048x128.Idx → Ideal .f32) (W : S1024x1024.Idx → Ideal .bf16) (i : Fin 512) (n : Fin 1024) :
    oTile0 k Q K V W (ix3 0 i n)
      = ∑ h : Fin 8, ∑ d : Fin 128, headAt (k0_pay2 (F := Ideal) 0#32 1#32 k) (qHead Q k.val h.val) (kHead K k.val h) (kHead V k.val h) i d * W (ix2 (at8 h d) n) := by
  rw [Fin.sum_univ_eight]
  let hd : Fin 8 → FVec Ideal S512x128 .bf16 := fun h => k0_pay4 (k0_pay2 (F := Ideal) 0#32 1#32 k) (qHead Q k.val h.val) (kHead K k.val h) (kHead V k.val h)
  refine (last_apply (k0_pay2 (F := Ideal) 0#32 1#32 k) (hd 0) (hd 1) (hd 2) (hd 3) (hd 4) (hd 5) (hd 6) (qHead Q k.val 7) (kHead K k.val 7) (kHead V k.val 7) W i n).trans ?_
  simp only [hd, head_apply]
  rfl

/-- The last payload of hop 1's block is that of hop 0's, added to what was found there. -/
theorem add_apply (b : FVec Ideal S512x768 .f32) (p0 p1 p2 p3 p4 p5 p6 : FVec Ideal S512x128 .bf16) (q : Vec Ideal S512x128 .bf16) (K V : Vec Ideal S1x768x128 .f32)
    (W : Vec Ideal S1024x1024 .bf16) (O : Vec Ideal S1x512x1024 .f32) (i : Fin 512) (n : Fin 1024) :
    k0_pay1 b p0 p1 p2 p3 p4 p5 p6 q (k0_pay21 K) V W O (ix3 0 i n) = O (ix3 0 i n) + k0_pay31 b p0 p1 p2 p3 p4 p5 p6 q (k0_pay11 K) V W (ix3 0 i n) := by
  simp only [ix3_eq]
  pointwise [k0_pay1, k0_pay31, k0_pay11, k0_pay21]

/-- One block of hop 1's result: what was found there and the same sum. -/
theorem tile1 (k : Fin k0_t4_loop.trips) (Q : S2048x1024.Idx → Ideal .bf16) (K V : S8x2048x128.Idx → Ideal .f32) (W : S1024x1024.Idx → Ideal .bf16) (O : Vec Ideal S1x512x1024 .f32) (i : Fin 512) (n : Fin 1024) :
    oTile1 k Q K V W O (ix3 0 i n)
      = O (ix3 0 i n) + ∑ h : Fin 8, ∑ d : Fin 128, headAt (k0_pay12 (F := Ideal) 0#32 1#32 k) (qHead Q k.val h.val) (kHead K k.val h) (kHead V k.val h) i d * W (ix2 (at8 h d) n) := by
  rw [Fin.sum_univ_eight]
  let hd : Fin 8 → FVec Ideal S512x128 .bf16 := fun h => k0_pay4 (k0_pay12 (F := Ideal) 0#32 1#32 k) (qHead Q k.val h.val) (kHead K k.val h) (kHead V k.val h)
  refine (add_apply (k0_pay12 (F := Ideal) 0#32 1#32 k) (hd 0) (hd 1) (hd 2) (hd 3) (hd 4) (hd 5) (hd 6) (qHead Q k.val 7) (kHead K k.val 7) (kHead V k.val 7) W O i n).trans (congrArg (O (ix3 0 i n) + ·) ?_)
  refine (last_apply (k0_pay12 (F := Ideal) 0#32 1#32 k) (hd 0) (hd 1) (hd 2) (hd 3) (hd 4) (hd 5) (hd 6) (qHead Q k.val 7) (kHead K k.val 7) (kHead V k.val 7) W i n).trans ?_
  simp only [hd, head_apply]
  rfl

end Cert.KernelIdeal.Slice

end
-- ==== Proof.Bias.lean ====
module

public import proofs.«01_k».proof.Proof.Heads
public import proofs.«01_k».proof.Proof.Spec
public import Idealize.ShloMosaic.Lib.Pointwise

@[expose] public section

noncomputable section

namespace Cert.KernelIdeal.Slice

open Cert.KernelIdeal Cert.KernelIdeal.Gen Idealize.ShloMosaic Idealize.ShloMosaic.TcCoe Idealize.SL.Sem Cert.Soft

/-! # The bias of a block: 0 near the row, −∞ elsewhere -/

theorem ofNat_add (a b : ℕ) : IntOp.addi (BitVec.ofNat 32 a) (BitVec.ofNat 32 b) = BitVec.ofNat 32 (a + b) := (BitVec.ofNat_add a b).symm

theorem row_word (k : ℕ) (hk : k < 4) : Scalar.muli (Scf.iv 0#32 1#32 k) 512#32 = BitVec.ofNat 32 (512 * k) := by
  interval_cases k <;> decide

theorem wnd_word (k : ℕ) (hk : k < 4) :
    Scalar.muli (Scalar.minsi 10#32 (Scalar.maxsi 0#32 (Scalar.subi (Scalar.muli (Scf.iv 0#32 1#32 k) 4#32) 1#32))) 128#32 = BitVec.ofNat 32 (wnd k) := by
  interval_cases k <;> decide

theorem mask_bot : Named.named (F := Ideal) κ "mask" (φ := .f32) 0xCE6E6B28#32 = (⊥ : EReal) := rfl

theorem bias_word (k : ℕ) (hk : k < 4) (i : Fin 512) (j : Fin 768) :
    IntOp.cmpi .sle (IntOp.absi (IntOp.subi (IntOp.addi (Scalar.muli (Scf.iv 0#32 1#32 k) 512#32) (BitVec.ofNat 32 i.val))
      (IntOp.addi (Scalar.muli (Scalar.minsi 10#32 (Scalar.maxsi 0#32 (Scalar.subi (Scalar.muli (Scf.iv 0#32 1#32 k) 4#32) 1#32))) 128#32) (BitVec.ofNat 32 j.val)))) 128#32
      = BitVec.ofBool (decide (near (512 * k + i.val) (wnd k + j.val))) := by
  rw [row_word k hk, wnd_word k hk, ofNat_add, ofNat_add]
  exact near_word _ _ (by omega) (by unfold wnd; omega)

theorem select_bias (p : Prop) [Decidable p] : Scalar.select (BitVec.ofBool (decide p)) (0 : EReal) ⊥ = if p then 0 else ⊥ := by
  by_cases h : p
  · rw [if_pos h, decide_eq_true h]; rfl
  · rw [if_neg h, decide_eq_false h]; rfl

/-- At the own heads; -/
theorem bias0 (k : Fin k0_t2_loop.trips) (i : Fin 512) (j : Fin 768) :
    k0_pay2 (F := Ideal) 0#32 1#32 k (ix2 i j) = if near (512 * k.val + i.val) (wnd k.val + j.val) then (0 : EReal) else ⊥ := by
  rw [← select_bias, ← bias_word k.val k.isLt, ix2_eq, ← mask_bot]
  pointwise [k0_pay2]

/-- and at those brought. -/
theorem bias1 (k : Fin k0_t4_loop.trips) (i : Fin 512) (j : Fin 768) :
    k0_pay12 (F := Ideal) 0#32 1#32 k (ix2 i j) = if near (512 * k.val + i.val) (wnd k.val + j.val) then (0 : EReal) else ⊥ := by
  rw [← select_bias, ← bias_word k.val k.isLt, ix2_eq, ← mask_bot]
  pointwise [k0_pay12]

end Cert.KernelIdeal.Slice

end
-- ==== Proof.Values.lean ====
module

public import proofs.«01_k».proof.Proof.Bias
public import proofs.«01_k».proof.Proof.Launch
public import Idealize.ShloMosaic.Lib.Pipeline.ValueKit

@[expose] public section

noncomputable section

namespace Cert.KernelIdeal.Slice

open Cert.KernelIdeal Cert.KernelIdeal.Gen Idealize.ShloMosaic Idealize.ShloMosaic.TcCoe Idealize.SL.Sem Cert.Soft

variable (m : (ℓ : Loc nD τ sig) → Buf (Elt Ideal) ℓ) (ρ : Dev nD → PrngReg)

/-! # The run's result over the extended reals -/

/-- The result array ends holding what the body leaves. -/
theorem finalA_out (H : Heads) (c : Dev nD) : finalA H m ρ c (3 : Fin 4) = outC H m ρ c := by
  unfold finalA
  refine (dats H m ρ 0 c).arrAt_eq_of_after_last (3 : Fin cfg0.W) (⟨0, by decide⟩ : Fin cfg0.N) ⟨flush0_3 _, fun t _ => Subsingleton.elim (α := Fin 1) t 0, fun a => ⟨rfl, rfl⟩⟩ _ (fun j => ?_)
  rfl

/-! ## The staged blocks are the arrays -/

/-- The arrays of device `c`. -/
abbrev xA (c : Dev nD) : S1x2048x1024.Idx → EReal := m ((c.tc : Thread nD τ).loc main_arg0)
abbrev wA (c : Dev nD) : S1024x1024.Idx → EReal := m ((c.tc : Thread nD τ).loc main_arg1)
abbrev oA (c : Dev nD) : S1024x1024.Idx → EReal := m ((c.tc : Thread nD τ).loc main_arg4)
abbrev kA (c : Dev nD) : S4x2048x32x128.Idx → EReal := m ((c.tc : Thread nD τ).loc main_arg2)
abbrev vA (c : Dev nD) : S4x2048x32x128.Idx → EReal := m ((c.tc : Thread nD τ).loc main_arg3)

theorem idx0 (a : Fin win0_0.shape.rank) : win0_0.index (0 : Fin 1) a = 0 := rfl
theorem idx1 (a : Fin win0_1.shape.rank) : win0_1.index (0 : Fin 1) a = 0 := rfl
theorem idx2 (a : Fin win0_2.shape.rank) : win0_2.index (0 : Fin 1) a = 0 := rfl

theorem xC_eq (c : Dev nD) (y : S1x2048x1024.Idx) : xC m ρ c y = xA m c y := by
  unfold xC
  have e : (win0_0.blk (0 : Fin 1)).view.emb y = y := by blk_ext [] <;> first | rfl | (refine (congrArg (· * _ + _) (idx0 _)).trans ?_; simp)
  exact congrArg (m ((c.tc : Thread nD τ).loc main_arg0)) e

theorem wqC_eq (c : Dev nD) (y : S1024x1024.Idx) : wqC m ρ c y = wA m c y := by
  unfold wqC
  have e : (win0_1.blk (0 : Fin 1)).view.emb y = y := by blk_ext [] <;> first | rfl | (refine (congrArg (· * _ + _) (idx1 _)).trans ?_; simp)
  exact congrArg (m ((c.tc : Thread nD τ).loc main_arg1)) e

theorem woC_eq (c : Dev nD) (y : S1024x1024.Idx) : woC m ρ c y = oA m c y := by
  unfold woC
  have e : (win0_2.blk (0 : Fin 1)).view.emb y = y := by blk_ext [] <;> first | rfl | (refine (congrArg (· * _ + _) (idx2 _)).trans ?_; simp)
  exact congrArg (m ((c.tc : Thread nD τ).loc main_arg4)) e

/-! ## Queries and output weights -/

theorem xbC_apply (c : Dev nD) (i : Fin 2048) (e : Fin 1024) : xbC m ρ c (ix2 i e) = xA m c (ix3 0 i e) := by
  rw [← xC_eq m ρ c, ix2_eq, ix3_eq]
  unfold xbC
  pointwise [k0_pay26]
  refine congrArg (xC m ρ c) (funext fun a => Fin.ext ?_)
  match a with
  | ⟨0, _⟩ => rfl
  | ⟨1, _⟩ => show 0 + 1 * i.val = i.val; omega
  | ⟨2, _⟩ => show 0 + 1 * e.val = e.val; omega

theorem pay22_apply (u : Vec Ideal S1024x512 .f32) (e : Fin 1024) (f : Fin 512) : k0_pay22 u (ix3 (0 : Fin 1) e f) = u (ix2 e f) * Ideal.ofBits .f32 0x3DB504F3#32 := by
  rw [ix2_eq, ix3_eq]; pointwise [k0_pay22]
theorem pay23_apply (u : Vec Ideal S1024x512 .f32) (e : Fin 1024) (f : Fin 512) : k0_pay23 u (ix3 (0 : Fin 1) e f) = u (ix2 e f) * Ideal.ofBits .f32 0x3DB504F3#32 := by
  rw [ix2_eq, ix3_eq]; pointwise [k0_pay23]
theorem pay24_apply (u : Vec Ideal S512x1024 .f32) (e : Fin 512) (f : Fin 1024) : k0_pay24 u (ix3 (0 : Fin 1) e f) = u (ix2 e f) := by
  rw [ix2_eq, ix3_eq]; pointwise [k0_pay24]
theorem pay25_apply (u : Vec Ideal S512x1024 .f32) (e : Fin 512) (f : Fin 1024) : k0_pay25 u (ix3 (0 : Fin 1) e f) = u (ix2 e f) := by
  rw [ix2_eq, ix3_eq]; pointwise [k0_pay25]
theorem pay27_apply (x : Vec Ideal S512x1024 .bf16) (u : Vec Ideal S1x1024x512 .bf16) (i f : Fin 512) : k0_pay27 x u (ix2 i f) = ∑ e : Fin 1024, x (ix2 i e) * u (ix3 (0 : Fin 1) e f) := by
  simp only [ix2_eq, ix3_eq]; pointwise [k0_pay27]
theorem pay28_apply (x : Vec Ideal S512x1024 .bf16) (u : Vec Ideal S1x1024x512 .bf16) (i f : Fin 512) : k0_pay28 x u (ix2 i f) = ∑ e : Fin 1024, x (ix2 i e) * u (ix3 (0 : Fin 1) e f) := by
  simp only [ix2_eq, ix3_eq]; pointwise [k0_pay28]
theorem pay29_apply (u : Vec Ideal S1x512x1024 .bf16) (e : Fin 512) (f : Fin 1024) : k0_pay29 u (ix2 e f) = u (ix3 (0 : Fin 1) e f) := by
  rw [ix2_eq, ix3_eq]; pointwise [k0_pay29]
theorem pay30_apply (u : Vec Ideal S1x512x1024 .bf16) (e : Fin 512) (f : Fin 1024) : k0_pay30 u (ix2 e f) = u (ix3 (0 : Fin 1) e f) := by
  rw [ix2_eq, ix3_eq]; pointwise [k0_pay30]

/-- The halves in a slot: the right-going columns and the left-going ones, scaled; the right-going rows and the left-going ones. -/
theorem aC_apply (c : Dev nD) (s : Fin 2) (e : Fin 1024) (f : Fin 512) :
    slotQ (aC m ρ c) s (ix3 (0 : Fin 1) e f) = wA m c (ix2 e (⟨f.val, by omega⟩ : Fin 1024)) * (scale : EReal) := by
  rw [← wqC_eq m ρ c, ← scale_eq]
  refine (congrArg (k0_pay22 _) (?_ : _ = ix3 (0 : Fin 1) e f)).trans ((pay22_apply _ e f).trans (congrArg (· * _) (congrArg (wqC m ρ c) (funext fun a => Fin.ext ?_))))
  · funext a; match a with | ⟨0, _⟩ => rfl | ⟨1, _⟩ => rfl | ⟨2, _⟩ => rfl
  · match a with
    | ⟨0, _⟩ => show 0 + 1 * e.val = e.val; omega
    | ⟨1, _⟩ => show 0 + 1 * f.val = f.val; omega

theorem cC_apply (c : Dev nD) (s : Fin 2) (e : Fin 1024) (f : Fin 512) :
    slotQ (cC m ρ c) s (ix3 (0 : Fin 1) e f) = wA m c (ix2 e (⟨512 + f.val, by omega⟩ : Fin 1024)) * (scale : EReal) := by
  rw [← wqC_eq m ρ c, ← scale_eq]
  refine (congrArg (k0_pay23 _) (?_ : _ = ix3 (0 : Fin 1) e f)).trans ((pay23_apply _ e f).trans (congrArg (· * _) (congrArg (wqC m ρ c) (funext fun a => Fin.ext ?_))))
  · funext a; match a with | ⟨0, _⟩ => rfl | ⟨1, _⟩ => rfl | ⟨2, _⟩ => rfl
  · match a with
    | ⟨0, _⟩ => show 0 + 1 * e.val = e.val; omega
    | ⟨1, _⟩ => show 512 + 1 * f.val = 512 + f.val; omega

theorem bC_apply (c : Dev nD) (s : Fin 2) (f : Fin 512) (n : Fin 1024) :
    slotO (bC m ρ c) s (ix3 (0 : Fin 1) f n) = oA m c (ix2 (⟨f.val, by omega⟩ : Fin 1024) n) := by
  rw [← woC_eq m ρ c]
  refine (congrArg (k0_pay24 _) (?_ : _ = ix3 (0 : Fin 1) f n)).trans ((pay24_apply _ f n).trans (congrArg (woC m ρ c) (funext fun a => Fin.ext ?_)))
  · funext a; match a with | ⟨0, _⟩ => rfl | ⟨1, _⟩ => rfl | ⟨2, _⟩ => rfl
  · match a with
    | ⟨0, _⟩ => show 0 + 1 * f.val = f.val; omega
    | ⟨1, _⟩ => show 0 + 1 * n.val = n.val; omega

theorem dC_apply (c : Dev nD) (s : Fin 2) (f : Fin 512) (n : Fin 1024) :
    slotO (dC m ρ c) s (ix3 (0 : Fin 1) f n) = oA m c (ix2 (⟨512 + f.val, by omega⟩ : Fin 1024) n) := by
  rw [← woC_eq m ρ c]
  refine (congrArg (k0_pay25 _) (?_ : _ = ix3 (0 : Fin 1) f n)).trans ((pay25_apply _ f n).trans (congrArg (woC m ρ c) (funext fun a => Fin.ext ?_)))
  · funext a; match a with | ⟨0, _⟩ => rfl | ⟨1, _⟩ => rfl | ⟨2, _⟩ => rfl
  · match a with
    | ⟨0, _⟩ => show 512 + 1 * f.val = 512 + f.val; omega
    | ⟨1, _⟩ => show 0 + 1 * n.val = n.val; omega

/-- The device a column's weights come from: `l` below 512, `r` from there on. -/
def side (l r : Dev nD) (f : Fin 1024) : Dev nD := if f.val < 512 then l else r

/-- A query: the row of `x` against a column of the scaled weights. -/
theorem q_apply (c l r : Dev nD) (s : Fin 2) (i : Fin 2048) (f : Fin 1024) :
    qTgt (xbC m ρ c) (slotQ (aC m ρ l) s) (slotQ (cC m ρ r) s) (ix2 i f)
      = ∑ e : Fin 1024, xA m c (ix3 0 i e) * (wA m (side l r f) (ix2 e f) * (scale : EReal)) := by
  have hr : row (512 * (i.val / 512) + i.val % 512) = i := Fin.ext (by show (512 * (i.val / 512) + i.val % 512) % 2048 = i.val; omega)
  have hx : ∀ e : Fin 1024, xbRows (xbC m ρ c) (i.val / 512) (ix2 (⟨i.val % 512, Nat.mod_lt _ (by decide)⟩ : Fin 512) e) = xA m c (ix3 0 i e) := by
    intro e
    show xbC m ρ c (ix2 (row (512 * (i.val / 512) + i.val % 512)) e) = _
    rw [hr]; exact xbC_apply m ρ c i e
  unfold qTgt side
  by_cases h : f.val < 512
  · rw [if_pos h]
    refine (dif_pos h).trans ?_
    refine (pay27_apply _ _ _ _).trans ?_
    refine Finset.sum_congr rfl fun e _ => ?_
    exact congrArg₂ (fun u v : EReal => u * v) (hx e) (aC_apply m ρ l s e _)
  · rw [if_neg h]
    refine (dif_neg h).trans ?_
    refine (pay28_apply _ _ _ _).trans ?_
    refine Finset.sum_congr rfl fun e _ => ?_
    refine (congrArg₂ (fun u v : EReal => u * v) (hx e) (cC_apply m ρ r s e _)).trans ?_
    refine congrArg (fun g : Fin 1024 => xA m c (ix3 0 i e) * (wA m r (ix2 e g) * (scale : EReal))) (Fin.ext ?_)
    show 512 + (f.val - 512) = f.val; omega

/-- A row of the output weights. -/
theorem w_apply (l r : Dev nD) (s : Fin 2) (f n : Fin 1024) :
    wTgt (k0_pay29 (slotO (bC m ρ l) s)) (k0_pay30 (slotO (dC m ρ r) s)) (ix2 f n) = oA m (side l r f) (ix2 f n) := by
  unfold wTgt side
  by_cases h : f.val < 512
  · rw [if_pos h]
    refine (dif_pos h).trans ?_
    refine (pay29_apply _ _ n).trans ((bC_apply m ρ l s _ n).trans ?_)
    rfl
  · rw [if_neg h]
    refine (dif_neg h).trans ?_
    refine (pay30_apply _ _ n).trans ((dC_apply m ρ r s _ n).trans ?_)
    refine congrArg (fun g : Fin 1024 => oA m r (ix2 g n)) (Fin.ext ?_)
    show 512 + (f.val - 512) = f.val; omega

/-! ## A head's context -/

/-- A head's context is the mean of the values near the row: the block's window holds every key near it. -/
theorem headAt_mean (t : ℕ) (ht : t < 4) (b : FVec Ideal S512x768 .f32) (q : Vec Ideal S512x128 .bf16) (K V : Vec Ideal S1x768x128 .f32) (i : Fin 512) (d : Fin 128)
    (hb : ∀ j : Fin 768, b (ix2 i j) = if near (512 * t + i.val) (wnd t + j.val) then (0 : EReal) else ⊥)
    (s : Fin 2048 → ℝ) (hs : ∀ j : Fin 768, ∑ e : Fin 128, q (ix2 i e) * K (ix3 (0 : Fin 1) j e) = (s (row (wnd t + j.val)) : EReal))
    (v : Fin 2048 → EReal) (hv : ∀ j : Fin 768, V (ix3 (0 : Fin 1) j d) = v (row (wnd t + j.val))) :
    headAt b q K V i d = mean (fun j : Fin 2048 => near (512 * t + i.val) j.val) s v := by
  have hw : wnd t ≤ 1280 := by unfold wnd; omega
  have hrow : ∀ j : Fin 768, (row (wnd t + j.val)).val = wnd t + j.val := fun j => Nat.mod_eq_of_lt (by omega)
  have he : ∀ j : Fin 768, Ideal.exp ((∑ e : Fin 128, q (ix2 i e) * K (ix3 (0 : Fin 1) j e)) + b (ix2 i j))
      = (wt (near (512 * t + i.val) (row (wnd t + j.val)).val) (s (row (wnd t + j.val))) : EReal) := by
    intro j
    rw [hs]
    refine exp_bias _ _ _ ?_
    rw [hb, hrow]
  unfold headAt
  simp only [he, hv]
  refine window_mean (fun j : Fin 2048 => near (512 * t + i.val) j.val) s v ⟨512 * t + i.val, by omega⟩ (by unfold near; exact ⟨by simp, by simp⟩) (fun j : Fin 768 => row (wnd t + j.val)) ?_ ?_
  · intro j j' h
    have := congrArg Fin.val h
    rw [hrow, hrow] at this
    exact Fin.ext (by omega)
  · intro j hj
    have hlo : wnd t ≤ j.val := by unfold near at hj; unfold wnd; omega
    have hhi : j.val < wnd t + 768 := by have := j.isLt; unfold near at hj; unfold wnd; omega
    exact ⟨⟨j.val - wnd t, by omega⟩, Fin.ext (by rw [hrow]; show wnd t + (j.val - wnd t) = j.val; omega)⟩

section Real

variable (X : Fin 4 → Fin 2048 → Fin 1024 → ℝ) (W : Fin 1024 → Fin 32 → Fin 128 → ℝ) (K : Fin 4 → Fin 2048 → Fin 32 → Fin 128 → ℝ)
  (V : Fin 4 → Fin 2048 → Fin 32 → Fin 128 → EReal) (O : Fin 32 → Fin 128 → Fin 1024 → EReal)

/-- One hop's eight heads at a row: the queries from the weights of `l` and `r`, the keys and values of heads `hd`. -/
theorem hop_real (c l r : Dev nD) (s : Fin 2) (hd : Fin 8 → Fin 32) (KB VB : S8x2048x128.Idx → EReal)
    (hx : ∀ i e, xA m c (ix3 0 i e) = (X c i e : EReal))
    (hw : ∀ e a d, wA m (side l r (at8 a d)) (ix2 e (at8 a d)) = (W e (hd a) d : EReal))
    (hk : ∀ j a d, KB (ix3 a j d) = (K c j (hd a) d : EReal))
    (hv : ∀ j a d, VB (ix3 a j d) = V c j (hd a) d)
    (ho : ∀ a d n, oA m (side l r (at8 a d)) (ix2 (at8 a d) n) = O (hd a) d n)
    (i : Fin 2048) (n : Fin 1024) (b : FVec Ideal S512x768 .f32)
    (hb : ∀ j : Fin 768, b (ix2 (⟨i.val % 512, Nat.mod_lt _ (by decide)⟩ : Fin 512) j) = if near (512 * (i.val / 512) + i.val % 512) (wnd (i.val / 512) + j.val) then (0 : EReal) else ⊥) :
    ∑ a : Fin 8, ∑ d : Fin 128, headAt b (qHead (qTgt (xbC m ρ c) (slotQ (aC m ρ l) s) (slotQ (cC m ρ r) s)) (i.val / 512) a.val) (kHead KB (i.val / 512) a)
        (kHead VB (i.val / 512) a) ⟨i.val % 512, Nat.mod_lt _ (by decide)⟩ d
        * wTgt (k0_pay29 (slotO (bC m ρ l) s)) (k0_pay30 (slotO (dC m ρ r) s)) (ix2 (at8 a d) n)
      = ∑ a : Fin 8, part X W K V O c i n (hd a) := by
  refine Finset.sum_congr rfl fun a _ => ?_
  unfold part
  refine Finset.sum_congr rfl fun d _ => ?_
  have hi : 512 * (i.val / 512) + i.val % 512 = i.val := by omega
  have hr : row (512 * (i.val / 512) + i.val % 512) = i := Fin.ext (by show (512 * (i.val / 512) + i.val % 512) % 2048 = i.val; omega)
  have hc : ∀ e : Fin 128, col (128 * a.val + e.val) = at8 a e := fun e => Fin.ext (by show (128 * a.val + e.val) % 1024 = 128 * a.val + e.val; omega)
  rw [w_apply, ho, headAt_mean (i.val / 512) (by omega) b _ _ _ _ d hb (fun j => score (X c i) (fun e d => W e (hd a) d) (K c j (hd a))) ?_ (fun j => V c j (hd a) d) ?_]
  · simp only [hi]
  · intro j
    rw [← score_before]
    refine Finset.sum_congr rfl fun e _ => ?_
    refine congrArg₂ (fun u v : EReal => u * v) ?_ ?_
    · show qTgt _ _ _ (ix2 (row (512 * (i.val / 512) + i.val % 512)) (col (128 * a.val + e.val))) = _
      rw [hr, hc, q_apply]
      simp only [hx, hw]
    · exact hk _ a e
  · intro j
    exact hv _ a d

/-- The device whose half brings head `a`. -/
theorem brought_eq (c : Dev nD) (a : Fin 8) (d : Fin 128) : brought c a = own (side (prv c) (nxt c) (at8 a d)) a := by
  have h : (at8 a d).val < 512 ↔ a.val < 4 := by show 128 * a.val + d.val < 512 ↔ _; omega
  unfold side
  by_cases ha : a.val < 4
  · rw [if_pos (h.mpr ha)]; unfold brought; rw [if_pos ha]; rfl
  · rw [if_neg (fun q => ha (h.mp q))]; unfold brought; rw [if_neg ha]; rfl

theorem side_self (c : Dev nD) (f : Fin 1024) : side c c f = c := by unfold side; split <;> rfl

/-- An entry of the result: the parts of hop 0's heads and of hop 1's, if these are the ones brought. -/
theorem outC_real (H : Heads) (hb : ∀ c a (d : Fin 128), H.hd 1 c a = H.hd 0 (side (prv c) (nxt c) (at8 a d)) a) (c : Dev nD)
    (hx : ∀ c i e, xA m c (ix3 0 i e) = (X c i e : EReal))
    (hw : ∀ (c : Dev nD) e a d, wA m c (ix2 e (at8 a d)) = (W e (H.hd 0 c a) d : EReal))
    (hk : ∀ (c : Dev nD) j a d, kA m c (ix4 (a := 4) (b := 2048) (c := 32) (d := 128) ⟨c.val, c.isLt⟩ j a d) = (K c j a d : EReal))
    (hv : ∀ (c : Dev nD) j a d, vA m c (ix4 (a := 4) (b := 2048) (c := 32) (d := 128) ⟨c.val, c.isLt⟩ j a d) = V c j a d)
    (ho : ∀ (c : Dev nD) a d n, oA m c (ix2 (at8 a d) n) = O (H.hd 0 c a) d n)
    (i : Fin 2048) (n : Fin 1024) :
    outC H m ρ c (ix3 0 i n) = ∑ a, part X W K V O c i n (H.hd 0 c a) + ∑ a, part X W K V O c i n (H.hd 1 c a) := by
  have h0 : outC0 H m ρ c (ix3 0 i n) = ∑ a, part X W K V O c i n (H.hd 0 c a) := by
    unfold outC0 oTgt0
    refine (tile0 _ _ _ _ _ _ _).trans ?_
    refine hop_real m ρ X W K V O c c c 0 (H.hd 0 c) _ _ (hx c) (fun e a d => ?_) (fun j a d => hk c j _ d) (fun j a d => hv c j _ d) (fun a d n => ?_) i n _ (fun j => bias0 _ _ j)
    · rw [side_self]; exact hw c e a d
    · rw [side_self]; exact ho c a d n
  have hr : row (512 * (i.val / 512) + i.val % 512) = i := Fin.ext (by show (512 * (i.val / 512) + i.val % 512) % 2048 = i.val; omega)
  unfold outC oTgt1
  refine (tile1 _ _ _ _ _ _ _ _).trans (congrArg₂ (fun u v : EReal => u + v) ?_ ?_)
  · rw [← h0]
    show outC0 H m ρ c (ix3 0 (row (512 * (i.val / 512) + i.val % 512)) n) = _
    rw [hr]
  · refine hop_real m ρ X W K V O c (prv c) (nxt c) 1 (H.hd 1 c) _ _ (hx c) (fun e a d => ?_) (fun j a d => hk c j _ d) (fun j a d => hv c j _ d) (fun a d n => ?_) i n _ (fun j => bias1 _ _ j)
    · rw [hb c a d]; exact hw _ e a d
    · rw [hb c a d]; exact ho _ a d n

end Real

end Cert.KernelIdeal.Slice

end
-- ==== Proof.Ref.lean ====
module

public import proofs.«01_k».proof.Proof.Gen.ReferenceIdeal.Run
public import proofs.«01_k».proof.Proof.Spec
public import Idealize.ShloMosaic.Lib.Pointwise
public import Idealize.ShloMosaic.Lib.Routing.OpsOrder

@[expose] public section

noncomputable section

namespace Cert.ReferenceIdeal.Slice

open Cert.ReferenceIdeal Cert.ReferenceIdeal.Gen Idealize.ShloMosaic Idealize.ShloMosaic.TcCoe Idealize.SL.Sem Idealize.ShloMosaic.StableHlo Cert.Soft

/-! # The reference's result, step by step -/

/-- The sliding-window mask. -/
def maskV : IVec S2048x2048 1 :=
  cmpi .sle (absi (subi (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0))))) (broadcastInDim S2048x2048 ![] bcast_S_S2048x2048 (constantI S_ 32 128#32))

/-- The scaled scores. -/
def scoreV (x : FVec Ideal S4x2048x1024 .f32) (wq : FVec Ideal S1024x4096 .f32) (k : FVec Ideal S4x2048x32x128 .f32) : FVec Ideal S4x32x2048x2048 .f32 :=
  mulf (Host.dotGeneral dot_S4x2048x32x128_S4x2048x32x128_S4x32x2048x2048_3_3_1_1_02_02 none (shapeCast _ (Host.dotGeneral dot_S4x2048x1024_S1024x4096_S4x2048x4096_2_0_01_1_n_n none x wq) shapeCasts_S4x2048x4096_S4x2048x32x128) k) (broadcastInDim S4x32x2048x2048 ![] bcast_S_S4x32x2048x2048 (constant S_ .f32 0x3DB504F3#32))

/-- The masked scores. -/
def maskedV (x : FVec Ideal S4x2048x1024 .f32) (wq : FVec Ideal S1024x4096 .f32) (k : FVec Ideal S4x2048x32x128 .f32) : FVec Ideal S4x32x2048x2048 .f32 :=
  select (broadcastInDim S4x32x2048x2048 ![0, 1, 2, 3] bcast_S1x1x2048x2048_S4x32x2048x2048_0_1_2_3 (broadcastInDim S1x1x2048x2048 ![2, 3] bcast_S2048x2048_S1x1x2048x2048_2_3 maskV)) (scoreV x wq k) (broadcastInDim S4x32x2048x2048 ![] bcast_S_S4x32x2048x2048 (id (constant S_ .f32 0xFF800000#32)))

/-- Each row's greatest score. -/
def maxV (x : FVec Ideal S4x2048x1024 .f32) (wq : FVec Ideal S1024x4096 .f32) (k : FVec Ideal S4x2048x32x128 .f32) : FVec Ideal S4x32x2048 .f32 :=
  Host.reduce FloatOps.maximumf (maskedV x wq k) (constant S_ .f32 0xFF800000#32) reducesTo_S4x32x2048x2048_S4x32x2048_d3 h_S_

/-- The shifted weights before normalising. -/
def expV (x : FVec Ideal S4x2048x1024 .f32) (wq : FVec Ideal S1024x4096 .f32) (k : FVec Ideal S4x2048x32x128 .f32) : FVec Ideal S4x32x2048x2048 .f32 :=
  Host.exp (subf (maskedV x wq k) (broadcastInDim S4x32x2048x2048 ![0, 1, 2, 3] bcast_S4x32x2048x1_S4x32x2048x2048_0_1_2_3 (broadcastInDim S4x32x2048x1 ![0, 1, 2] bcast_S4x32x2048_S4x32x2048x1_0_1_2 (maxV x wq k))))

/-- Which rows keep a key. -/
def keepV : IVec S2048 1 :=
  Host.reduce IntOp.ori maskV (constantI S_ 1 0#1) reducesTo_S2048x2048_S2048_d1 h_S_

/-- Each row's sum of weights. -/
def sumOf (p : IVec S2048 1) (e : FVec Ideal S4x32x2048x2048 .f32) : FVec Ideal S4x32x2048x1 .f32 :=
  select (broadcastInDim S4x32x2048x1 ![0, 1, 2, 3] bcast_S1x1x2048x1_S4x32x2048x1_0_1_2_3 (broadcastInDim S1x1x2048x1 ![2] bcast_S2048_S1x1x2048x1_2 p)) (broadcastInDim S4x32x2048x1 ![0, 1, 2] bcast_S4x32x2048_S4x32x2048x1_0_1_2 (Host.reduceAdd e (constant S_ .f32 0x00000000#32) reducesTo_S4x32x2048x2048_S4x32x2048_d3 h_S_)) (broadcastInDim S4x32x2048x1 ![] bcast_S_S4x32x2048x1 (id (constant S_ .f32 0x3F800000#32)))
/-- The same at the reference's own. -/
def sumV (x : FVec Ideal S4x2048x1024 .f32) (wq : FVec Ideal S1024x4096 .f32) (k : FVec Ideal S4x2048x32x128 .f32) : FVec Ideal S4x32x2048x1 .f32 := sumOf keepV (expV x wq k)

/-- The weights. -/
def weightOf (p : IVec S2048 1) (e : FVec Ideal S4x32x2048x2048 .f32) (t : FVec Ideal S4x32x2048x1 .f32) : FVec Ideal S4x32x2048x2048 .f32 :=
  select (broadcastInDim S4x32x2048x2048 ![0, 1, 2, 3] bcast_S1x1x2048x1_S4x32x2048x2048_0_1_2_3 (broadcastInDim S1x1x2048x1 ![2] bcast_S2048_S1x1x2048x1_2 p)) (Host.divf e (broadcastInDim S4x32x2048x2048 ![0, 1, 2, 3] bcast_S4x32x2048x1_S4x32x2048x2048_0_1_2_3 t)) (broadcastInDim S4x32x2048x2048 ![] bcast_S_S4x32x2048x2048 (id (constant S_ .f32 0x00000000#32)))
/-- The same at the reference's own. -/
def weightV (x : FVec Ideal S4x2048x1024 .f32) (wq : FVec Ideal S1024x4096 .f32) (k : FVec Ideal S4x2048x32x128 .f32) : FVec Ideal S4x32x2048x2048 .f32 := weightOf keepV (expV x wq k) (sumV x wq k)

/-- The contexts of every head. -/
def ctxV (x : FVec Ideal S4x2048x1024 .f32) (wq : FVec Ideal S1024x4096 .f32) (k : FVec Ideal S4x2048x32x128 .f32) (v : FVec Ideal S4x2048x32x128 .f32) : FVec Ideal S4x2048x32x128 .f32 :=
  transpose S4x2048x32x128 [0, 3, 1, 2] (Host.dotGeneral dot_S4x2048x32x128_S4x32x2048x2048_S4x32x128x2048_1_3_3_2_02_01 none v (weightV x wq k)) transposes_S4x32x128x2048_S4x2048x32x128_0_3_1_2

/-- Which heads a batch takes. -/
def headsV : IVec S4x1x32x1 1 :=
  shapeCast _ (ori (ori (broadcastInDim S4x4x8 ![0, 1, 2] bcast_S4x4x1_S4x4x8_0_1_2 (cmpi .eq (broadcastInDim S4x4x1 ![0, 1, 2] bcast_S1x4x1_S4x4x1_0_1_2 (broadcastInDim S1x4x1 ![1] bcast_S4_S1x4x1_1 (iotaInDim S4 32 0))) (broadcastInDim S4x4x1 ![0, 1, 2] bcast_S4x1x1_S4x4x1_0_1_2 (broadcastInDim S4x1x1 ![0] bcast_S4_S4x1x1_0 (iotaInDim S4 32 0))))) (andi (broadcastInDim S4x4x8 ![0, 1, 2] bcast_S4x4x1_S4x4x8_0_1_2 (ori (cmpi .eq (broadcastInDim S4x4x1 ![0, 1, 2] bcast_S1x4x1_S4x4x1_0_1_2 (broadcastInDim S1x4x1 ![1] bcast_S4_S1x4x1_1 (iotaInDim S4 32 0))) (broadcastInDim S4x4x1 ![0, 1, 2] bcast_S4x1x1_S4x4x1_0_1_2 (subi (broadcastInDim S4x1x1 ![0] bcast_S4_S4x1x1_0 (iotaInDim S4 32 0)) (broadcastInDim S4x1x1 ![] bcast_S_S4x1x1 (constantI S_ 32 1#32))))) (cmpi .eq (broadcastInDim S4x4x1 ![0, 1, 2] bcast_S1x4x1_S4x4x1_0_1_2 (broadcastInDim S1x4x1 ![1] bcast_S4_S1x4x1_1 (iotaInDim S4 32 0))) (broadcastInDim S4x4x1 ![0, 1, 2] bcast_S4x1x1_S4x4x1_0_1_2 (addi (broadcastInDim S4x1x1 ![0] bcast_S4_S4x1x1_0 (iotaInDim S4 32 0)) (broadcastInDim S4x1x1 ![] bcast_S_S4x1x1 (constantI S_ 32 3#32))))))) (broadcastInDim S4x4x8 ![0, 1, 2] bcast_S1x1x8_S4x4x8_0_1_2 (cmpi .slt (broadcastInDim S1x1x8 ![2] bcast_S8_S1x1x8_2 (iotaInDim S8 32 0)) (broadcastInDim S1x1x8 ![] bcast_S_S1x1x8 (constantI S_ 32 4#32)))))) (andi (broadcastInDim S4x4x8 ![0, 1, 2] bcast_S4x4x1_S4x4x8_0_1_2 (ori (cmpi .eq (broadcastInDim S4x4x1 ![0, 1, 2] bcast_S1x4x1_S4x4x1_0_1_2 (broadcastInDim S1x4x1 ![1] bcast_S4_S1x4x1_1 (iotaInDim S4 32 0))) (broadcastInDim S4x4x1 ![0, 1, 2] bcast_S4x1x1_S4x4x1_0_1_2 (addi (broadcastInDim S4x1x1 ![0] bcast_S4_S4x1x1_0 (iotaInDim S4 32 0)) (broadcastInDim S4x1x1 ![] bcast_S_S4x1x1 (constantI S_ 32 1#32))))) (cmpi .eq (broadcastInDim S4x4x1 ![0, 1, 2] bcast_S1x4x1_S4x4x1_0_1_2 (broadcastInDim S1x4x1 ![1] bcast_S4_S1x4x1_1 (iotaInDim S4 32 0))) (broadcastInDim S4x4x1 ![0, 1, 2] bcast_S4x1x1_S4x4x1_0_1_2 (subi (broadcastInDim S4x1x1 ![0] bcast_S4_S4x1x1_0 (iotaInDim S4 32 0)) (broadcastInDim S4x1x1 ![] bcast_S_S4x1x1 (constantI S_ 32 3#32))))))) (broadcastInDim S4x4x8 ![0, 1, 2] bcast_S1x1x8_S4x4x8_0_1_2 (cmpi .sge (broadcastInDim S1x1x8 ![2] bcast_S8_S1x1x8_2 (iotaInDim S8 32 0)) (broadcastInDim S1x1x8 ![] bcast_S_S1x1x8 (constantI S_ 32 4#32)))))) shapeCasts_S4x4x8_S4x1x32x1

/-- The contexts of the heads taken, the others 0. -/
def takenOf (p : IVec S4x1x32x1 1) (c : FVec Ideal S4x2048x32x128 .f32) : FVec Ideal S4x2048x4096 .f32 :=
  shapeCast _ (select (broadcastInDim S4x2048x32x128 ![0, 1, 2, 3] bcast_S4x1x32x1_S4x2048x32x128_0_1_2_3 p) c (broadcastInDim S4x2048x32x128 ![] bcast_S_S4x2048x32x128 (id (constant S_ .f32 0x00000000#32)))) shapeCasts_S4x2048x32x128_S4x2048x4096
/-- The result when the heads `p` are taken, -/
def outOf (p : IVec S4x1x32x1 1) (x : FVec Ideal S4x2048x1024 .f32) (wq : FVec Ideal S1024x4096 .f32) (k : FVec Ideal S4x2048x32x128 .f32) (v : FVec Ideal S4x2048x32x128 .f32) (wo : FVec Ideal S4096x1024 .f32) : FVec Ideal S4x2048x1024 .f32 :=
  Host.dotGeneral dot_S4x2048x4096_S4096x1024_S4x2048x1024_2_0_01_1_n_n none (takenOf p (ctxV x wq k v)) wo
/-- and at the reference's own. -/
def outV (x : FVec Ideal S4x2048x1024 .f32) (wq : FVec Ideal S1024x4096 .f32) (k : FVec Ideal S4x2048x32x128 .f32) (v : FVec Ideal S4x2048x32x128 .f32) (wo : FVec Ideal S4096x1024 .f32) : FVec Ideal S4x2048x1024 .f32 := outOf headsV x wq k v wo

/-- The run's composed term is these steps. -/
theorem res_eq (m : (ℓ : Loc nD τ sig) → Buf (Elt Ideal) ℓ) (c : Dev nD) :
    Value.res_main_v80 m c = outV (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

/-- The mask keeps the keys near the row. -/
theorem mask_apply (i j : Fin 2048) : maskV (ix2 i j) = BitVec.ofBool (decide (near i.val j.val)) := by
  rw [← near_word i.val j.val (by omega) (by omega)]
  pointwise [maskV]

variable (x : FVec Ideal S4x2048x1024 .f32) (wq : FVec Ideal S1024x4096 .f32) (k v : FVec Ideal S4x2048x32x128 .f32) (wo : FVec Ideal S4096x1024 .f32)

/-- Column `d` of head `h`. -/
def at32 (h : Fin 32) (d : Fin 128) : Fin 4096 := ⟨h.val * 128 + d.val, by omega⟩

theorem score_apply (b : Fin 4) (h : Fin 32) (i j : Fin 2048) :
    scoreV x wq k (ix4 b h i j) = (∑ d : Fin 128, (∑ e : Fin 1024, x (ix3 b i e) * wq (ix2 e (at32 h d))) * k (ix4 b j h d)) * Ideal.ofBits .f32 0x3DB504F3#32 := by
  unfold at32
  pointwise [scoreV]

theorem masked_apply (b : Fin 4) (h : Fin 32) (i j : Fin 2048) :
    maskedV x wq k (ix4 b h i j) = Scalar.select (maskV (ix2 i j)) (scoreV x wq k (ix4 b h i j)) (Ideal.ofBits .f32 0xFF800000#32) := by
  pointwise [maskedV]
  rfl

theorem max_apply (b : Fin 4) (h : Fin 32) (i : Fin 2048) :
    maxV x wq k (ix3 b h i) = Finset.fold max (Ideal.ofBits .f32 0xFF800000#32) (fun j => maskedV x wq k (ix4 b h i j)) Finset.univ := by
  pointwise [maxV]

theorem exp_apply (b : Fin 4) (h : Fin 32) (i j : Fin 2048) :
    expV x wq k (ix4 b h i j) = Ideal.exp (maskedV x wq k (ix4 b h i j) - maxV x wq k (ix3 b h i)) := by
  pointwise [expV]

/-- Every row keeps a key, its own. -/
theorem keep_apply (i : Fin 2048) : keepV (ix1 i) = 1#1 := by
  have h : keepV (ix1 i) = Finset.fold IntOp.ori (0#1) (fun j => maskV (ix2 i j)) Finset.univ := by pointwise [keepV]
  rw [h, Routing.fold_ori]
  refine ⟨i, Finset.mem_univ _, ?_⟩
  rw [mask_apply, decide_eq_true (by unfold near; omega)]
  rfl

theorem sumOf_apply (p : IVec S2048 1) (e : FVec Ideal S4x32x2048x2048 .f32) (z : EReal) (hz : z = Ideal.ofBits .f32 0x3F800000#32) (b : Fin 4) (h : Fin 32) (i : Fin 2048) :
    sumOf p e (ix4 b h i 0) = Scalar.select (p (ix1 i)) (∑ j : Fin 2048, e (ix4 b h i j)) z := by
  pointwise [sumOf]
  rw [hz]; rfl

theorem sum_apply (b : Fin 4) (h : Fin 32) (i : Fin 2048) : sumV x wq k (ix4 b h i 0) = ∑ j : Fin 2048, expV x wq k (ix4 b h i j) := by
  unfold sumV; rw [sumOf_apply _ _ _ rfl, keep_apply]; exact if_pos rfl

theorem weightOf_apply (p : IVec S2048 1) (e : FVec Ideal S4x32x2048x2048 .f32) (t : FVec Ideal S4x32x2048x1 .f32) (z : EReal) (hz : z = Ideal.ofBits .f32 0x00000000#32) (b : Fin 4) (h : Fin 32) (i j : Fin 2048) :
    weightOf p e t (ix4 b h i j) = Scalar.select (p (ix1 i)) (Ideal.div (e (ix4 b h i j)) (t (ix4 b h i 0))) z := by
  pointwise [weightOf]
  rw [hz]; rfl

theorem weight_apply (b : Fin 4) (h : Fin 32) (i j : Fin 2048) :
    weightV x wq k (ix4 b h i j) = Ideal.div (expV x wq k (ix4 b h i j)) (∑ l : Fin 2048, expV x wq k (ix4 b h i l)) := by
  unfold weightV; rw [weightOf_apply _ _ _ _ rfl, keep_apply, sum_apply]; exact if_pos rfl

theorem ctx_apply (b : Fin 4) (h : Fin 32) (i : Fin 2048) (d : Fin 128) :
    ctxV x wq k v (ix4 b i h d) = ∑ j : Fin 2048, v (ix4 b j h d) * weightV x wq k (ix4 b h i j) := by
  pointwise [ctxV]

theorem heads_apply (b : Fin 4) (h : Fin 32) : headsV (ix4 b 0 h 0) = BitVec.ofBool (taken b h) := by
  pointwise [headsV]
  revert b h
  decide

theorem takenOf_apply (p : IVec S4x1x32x1 1) (c : FVec Ideal S4x2048x32x128 .f32) (z : EReal) (hz : z = Ideal.ofBits .f32 0x00000000#32) (b : Fin 4) (i : Fin 2048) (f : Fin 4096) :
    takenOf p c (ix3 b i f) = Scalar.select (p (ix4 b 0 (⟨f.val / 128, by omega⟩ : Fin 32) 0)) (c (ix4 b i (⟨f.val / 128, by omega⟩ : Fin 32) (⟨f.val % 128, by omega⟩ : Fin 128)))
      z := by
  pointwise [takenOf]
  rw [hz]; rfl

theorem taken_apply (p : IVec S4x1x32x1 1) (b : Fin 4) (h : Fin 32) (i : Fin 2048) (d : Fin 128) :
    takenOf p (ctxV x wq k v) (ix3 b i (at32 h d)) = Scalar.select (p (ix4 b 0 h 0)) (ctxV x wq k v (ix4 b i h d)) (Ideal.ofBits .f32 0x00000000#32) := by
  have e1 : (⟨(at32 h d).val / 128, by omega⟩ : Fin 32) = h := Fin.ext (by show (h.val * 128 + d.val) / 128 = h.val; omega)
  have e2 : (⟨(at32 h d).val % 128, by omega⟩ : Fin 128) = d := Fin.ext (by show (h.val * 128 + d.val) % 128 = d.val; omega)
  rw [takenOf_apply _ _ _ rfl, e1, e2]

theorem out_apply (p : IVec S4x1x32x1 1) (b : Fin 4) (i : Fin 2048) (n : Fin 1024) :
    outOf p x wq k v wo (ix3 b i n) = ∑ f : Fin 4096, takenOf p (ctxV x wq k v) (ix3 b i f) * wo (ix2 f n) := by
  pointwise [outOf]

/-- A sum over the 4096 columns, head by head. -/
theorem sum_cols (g : Fin 4096 → EReal) : ∑ f : Fin 4096, g f = ∑ h : Fin 32, ∑ d : Fin 128, g (at32 h d) := by
  rw [← Finset.sum_product', ← (finProdFinEquiv (m := 32) (n := 128)).sum_comp g]
  refine Finset.sum_congr rfl fun y _ => congrArg g (Fin.ext ?_)
  show y.2.val + 128 * y.1.val = y.1.val * 128 + y.2.val; omega

section Real

variable (X : Fin 4 → Fin 2048 → Fin 1024 → ℝ) (W : Fin 1024 → Fin 32 → Fin 128 → ℝ) (K : Fin 4 → Fin 2048 → Fin 32 → Fin 128 → ℝ)
  (hx : ∀ b i e, x (ix3 b i e) = (X b i e : EReal)) (hw : ∀ e h d, wq (ix2 e (at32 h d)) = (W e h d : EReal)) (hk : ∀ b j h d, k (ix4 b j h d) = (K b j h d : EReal))
include hx hw hk

/-- The masked scores of real queries and keys. -/
theorem masked_real (b : Fin 4) (h : Fin 32) (i j : Fin 2048) :
    maskedV x wq k (ix4 b h i j) = msc (near i.val j.val) (score (X b i) (fun e d => W e h d) (K b j h)) := by
  have hs : scoreV x wq k (ix4 b h i j) = (score (X b i) (fun e d => W e h d) (K b j h) : EReal) := by
    rw [score_apply, scale_eq, ← score_after]
    simp only [hx, hw, hk]
  rw [masked_apply, mask_apply, hs]
  unfold msc
  by_cases h : near i.val j.val
  · rw [if_pos h, decide_eq_true h]; rfl
  · rw [if_neg h, decide_eq_false h]
    show Ideal.ofBits .f32 0xFF800000#32 = ⊥
    simp [Ideal.ofBits, Ideal.ieee]

/-- A context is the mean of the values near the row. -/
theorem ctx_real (b : Fin 4) (h : Fin 32) (i : Fin 2048) (d : Fin 128) :
    ctxV x wq k v (ix4 b i h d) = mean (fun j : Fin 2048 => near i.val j.val) (fun j => score (X b i) (fun e d => W e h d) (K b j h)) (fun j => v (ix4 b j h d)) := by
  have hm := fun j => masked_real x wq k X W K hx hw hk b h i j
  have hbot : Ideal.ofBits .f32 0xFF800000#32 = ⊥ := by simp [Ideal.ofBits, Ideal.ieee]
  have hmax := max_apply x wq k b h i
  rw [hbot] at hmax
  simp only [hm] at hmax
  have hself : near i.val i.val := by unfold near; omega
  rw [← shifted_mean (fun j : Fin 2048 => near i.val j.val) _ _ i hself (maxV x wq k (ix3 b h i)) ?_ ?_, ctx_apply]
  · refine Finset.sum_congr rfl fun j _ => ?_
    simp only [weight_apply, exp_apply, hm]
  · intro j
    rw [hmax, Finset.le_fold_max]
    exact Or.inr ⟨j, Finset.mem_univ _, le_rfl⟩
  · have : ∃ j ∈ (Finset.univ : Finset (Fin 2048)), Finset.fold max ⊥ (fun j : Fin 2048 => msc (near i.val j.val) (score (X b i) (fun e d => W e h d) (K b j h))) Finset.univ
        ≤ msc (near i.val j.val) (score (X b i) (fun e d => W e h d) (K b j h)) := by
      obtain ⟨j, hj, hle⟩ := Finset.exists_max_image (Finset.univ : Finset (Fin 2048)) (fun j : Fin 2048 => msc (near i.val j.val) (score (X b i) (fun e d => W e h d) (K b j h))) ⟨i, Finset.mem_univ _⟩
      exact ⟨j, hj, (Finset.fold_max_le _).mpr ⟨bot_le, hle⟩⟩
    obtain ⟨j, _, hle⟩ := this
    refine ⟨j, le_antisymm (hmax ▸ hle) ?_⟩
    rw [hmax, Finset.le_fold_max]
    exact Or.inr ⟨j, Finset.mem_univ _, le_rfl⟩

/-- An entry of the result when the heads `t` are taken: their parts. -/
theorem outOf_real (p : IVec S4x1x32x1 1) (t : Fin 4 → Fin 32 → Bool) (ht : ∀ b h, p (ix4 b 0 h 0) = BitVec.ofBool (t b h)) (b : Fin 4) (i : Fin 2048) (n : Fin 1024) :
    outOf p x wq k v wo (ix3 b i n)
      = ∑ h, if t b h then part X W K (fun b j h d => v (ix4 b j h d)) (fun h d n => wo (ix2 (at32 h d) n)) b i n h else 0 := by
  rw [out_apply, sum_cols]
  refine Finset.sum_congr rfl fun h _ => ?_
  have hz : Ideal.ofBits .f32 0x00000000#32 = 0 := by simp [Ideal.ofBits, Ideal.ieee]
  simp only [taken_apply, ht, hz]
  unfold part
  cases t b h
  · rw [if_neg (by decide)]
    refine Finset.sum_eq_zero fun d _ => ?_
    show (0 : EReal) * _ = 0
    rw [zero_mul]
  · rw [if_pos rfl]
    refine Finset.sum_congr rfl fun d _ => ?_
    show ctxV x wq k v (ix4 b i h d) * _ = _
    rw [ctx_real x wq k v X W K hx hw hk]

/-- An entry of the reference's result. -/
theorem out_real (b : Fin 4) (i : Fin 2048) (n : Fin 1024) :
    outV x wq k v wo (ix3 b i n)
      = ∑ l, part X W K (fun b j h d => v (ix4 b j h d)) (fun h d n => wo (ix2 (at32 h d) n)) b i n (own b l)
        + ∑ l, part X W K (fun b j h d => v (ix4 b j h d)) (fun h d n => wo (ix2 (at32 h d) n)) b i n (brought b l) :=
  (outOf_real x wq k v wo X W K hx hw hk headsV taken heads_apply b i n).trans (sum_taken _ _)

end Real

end Cert.ReferenceIdeal.Slice

end
-- ==== Proof.Equal.lean ====
module

public import proofs.«01_k».proof.Defs
public import proofs.«01_k».proof.Proof.Values
public import proofs.«01_k».proof.Proof.Ref
public import Idealize.ShloMosaic.Lib.ReduceAll
public import Idealize.ShloMosaic.Lib.Affine

@[expose] public section

noncomputable section

/-- What the precondition's operations ask of their shapes. -/
instance Cert.Pre_finite_KernelIdeal.facts : Cert.Pre_finite_KernelIdeal.Facts where
  bcast_S_S1x2048x1024 := by decide
  reducesTo_S1x2048x1024_S_d0_1_2 := by decide
  h_S_ := by decide
  bcast_S_S1024x1024 := by decide
  reducesTo_S1024x1024_S_d0_1 := by decide
  bcast_S_S4x2048x32x128 := by decide
  reducesTo_S4x2048x32x128_S_d0_1_2_3 := by decide

/-- The same at the reference's shapes. -/
instance Cert.Pre_finite_ReferenceIdeal.facts : Cert.Pre_finite_ReferenceIdeal.Facts where
  bcast_S_S4x2048x1024 := by decide
  reducesTo_S4x2048x1024_S_d0_1_2 := by decide
  h_S_ := by decide
  bcast_S_S1024x4096 := by decide
  reducesTo_S1024x4096_S_d0_1 := by decide
  bcast_S_S4x2048x32x128 := by decide
  reducesTo_S4x2048x32x128_S_d0_1_2_3 := by decide

namespace Cert.KernelIdeal.Slice

open Cert.KernelIdeal Cert.KernelIdeal.Gen Idealize Idealize.ShloMosaic Idealize.ShloMosaic.TcCoe Idealize.SL.Sem Cert.Soft

/-! # The kernel's blocks are the reference's -/

/-! ## The precondition -/

/-- An entry whose magnitude compares below +∞ is a real. -/
theorem real_of_lt (x : EReal) (h : FloatOps.cmpf (F := Ideal) (φ := .f32) .olt (FloatOps.hostAbsf (F := Ideal) (φ := .f32) x) (Ideal.ofBits .f32 0x7F800000#32) = 1#1) :
    x = (x.toReal : EReal) := by
  have ht : Ideal.ofBits .f32 0x7F800000#32 = ⊤ := by simp [Ideal.ofBits, Ideal.ieee]
  rw [ht] at h
  induction x using EReal.rec with
  | bot => exact absurd h (by show ¬ Ideal.cmp .olt (max (⊥ : EReal) (-⊥)) ⊤ = 1#1; simp [Ideal.cmp])
  | top => exact absurd h (by show ¬ Ideal.cmp .olt (max (⊤ : EReal) (-⊤)) ⊤ = 1#1; simp [Ideal.cmp])
  | coe r => rfl

instance : Subsingleton (Shape.Idx ⟨0, ![]⟩) := ⟨fun _ _ => funext fun x => x.elim0⟩

/-- Under the precondition every entry of the activations, the query weights and the keys is a real. -/
theorem real_of_pre (x : FVec Ideal S1x2048x1024 .f32) (w : FVec Ideal S1024x1024 .f32) (k v : FVec Ideal S4x2048x32x128 .f32) (o : FVec Ideal S1024x1024 .f32)
    (h : Cert.Pre_finite_KernelIdeal.fn (F := Ideal) x w k v o = fun _ => 1#1) :
    (∀ y, x y = ((x y : EReal).toReal : EReal)) ∧ (∀ y, w y = ((w y : EReal).toReal : EReal)) ∧ ∀ y, k y = ((k y : EReal).toReal : EReal) := by
  have h0 := congrFun h (fun a => a.elim0)
  obtain ⟨h12, h3⟩ := IntOp.andi_eq_one.1 h0
  obtain ⟨h1, h2⟩ := IntOp.andi_eq_one.1 h12
  exact ⟨fun y => real_of_lt _ (Host.reduce_andi_all _ _ _ _ _ h1 y), fun y => real_of_lt _ (Host.reduce_andi_all _ _ _ _ _ h2 y),
    fun y => real_of_lt _ (Host.reduce_andi_all _ _ _ _ _ h3 y)⟩

/-! ## Where a block's entries lie -/

theorem ix4_eq {a b c d : ℕ} (i : Fin a) (j : Fin b) (k : Fin c) (l : Fin d) : ix4 i j k l = ShloMosaic.ix4 i j k l := by
  funext x; match x with | ⟨0, _⟩ => rfl | ⟨1, _⟩ => rfl | ⟨2, _⟩ => rfl | ⟨3, _⟩ => rfl

/-- Rows of one batch entry. -/
theorem rows_idx (h : Layout.Tiles ⟨3, ![1, 2048, 1024]⟩ ⟨3, ![4, 2048, 1024]⟩ 0 4) (c : Fin 4) (i : Fin 2048) (e : Fin 1024) :
    h.idx c (ix3 0 i e) = ShloMosaic.ix3 c i e := by
  funext x; match x with
  | ⟨0, _⟩ => exact Fin.ext (by show c.val * 1 + 0 = c.val; omega)
  | ⟨1, _⟩ => rfl
  | ⟨2, _⟩ => rfl

/-- Columns of one device's heads. -/
theorem cols_idx (h : Layout.Tiles ⟨2, ![1024, 1024]⟩ ⟨2, ![1024, 4096]⟩ 1 4) (c : Fin 4) (e : Fin 1024) (a : Fin 8) (d : Fin 128) :
    h.idx c (ix2 e (at8 a d)) = ShloMosaic.ix2 e (Cert.ReferenceIdeal.Slice.at32 (own c a) d) := by
  funext x; match x with
  | ⟨0, _⟩ => rfl
  | ⟨1, _⟩ => exact Fin.ext (by show c.val * 1024 + (128 * a.val + d.val) = (8 * c.val + a.val) * 128 + d.val; omega)

/-- Rows of one device's heads. -/
theorem heads_idx (h : Layout.Tiles ⟨2, ![1024, 1024]⟩ ⟨2, ![4096, 1024]⟩ 0 4) (c : Fin 4) (a : Fin 8) (d : Fin 128) (n : Fin 1024) :
    h.idx c (ix2 (at8 a d) n) = ShloMosaic.ix2 (Cert.ReferenceIdeal.Slice.at32 (own c a) d) n := by
  funext x; match x with
  | ⟨0, _⟩ => exact Fin.ext (by show c.val * 1024 + (128 * a.val + d.val) = (8 * c.val + a.val) * 128 + d.val; omega)
  | ⟨1, _⟩ => rfl

/-- Every head is some device's. -/
theorem own_onto (h : Fin 32) : ∃ (c : Fin 4) (a : Fin 8), h = own c a :=
  ⟨⟨h.val / 8, by omega⟩, ⟨h.val % 8, Nat.mod_lt _ (by decide)⟩, Fin.ext (by show h.val = 8 * (h.val / 8) + h.val % 8; omega)⟩

/-! ## The two results -/

/-- Where every device holds its blocks of the reference's arrays, and the precondition holds, its result is its block of the reference's. -/
theorem result_block (m : (ℓ : Loc nD τ sig) → Buf (Elt Ideal) ℓ) (ρ : Dev nD → PrngReg)
    (x : FVec Ideal Cert.ReferenceIdeal.S4x2048x1024 .f32) (wq : FVec Ideal Cert.ReferenceIdeal.S1024x4096 .f32) (k v : FVec Ideal Cert.ReferenceIdeal.S4x2048x32x128 .f32) (wo : FVec Ideal Cert.ReferenceIdeal.S4096x1024 .f32)
    (hp : Cert.Pre_KernelIdeal_finite_KernelIdeal m)
    (h0 : ∀ c, xA m c = Layout.block ⟨3, ![1, 2048, 1024]⟩ ⟨3, ![4, 2048, 1024]⟩ 0 4 c x)
    (h1 : ∀ c, wA m c = Layout.block ⟨2, ![1024, 1024]⟩ ⟨2, ![1024, 4096]⟩ 1 4 c wq)
    (h2 : ∀ c, kA m c = k) (h3 : ∀ c, vA m c = v)
    (h4 : ∀ c, oA m c = Layout.block ⟨2, ![1024, 1024]⟩ ⟨2, ![4096, 1024]⟩ 0 4 c wo) (c : Dev nD) :
    finalA firstHops m ρ c (3 : Fin 4) = Layout.block ⟨3, ![1, 2048, 1024]⟩ ⟨3, ![4, 2048, 1024]⟩ 0 4 c (Cert.ReferenceIdeal.Slice.outV x wq k v wo) := by
  have hr := fun c => real_of_pre _ _ _ _ _ (hp c)
  have ex : ∀ (c : Dev nD) i e, xA m c (ix3 0 i e) = x (ShloMosaic.ix3 c i e) := fun c i e => by
    rw [h0 c, Layout.block_apply, rows_idx]
  have ew : ∀ (c : Dev nD) e a d, wA m c (ix2 e (at8 a d)) = wq (ShloMosaic.ix2 e (Cert.ReferenceIdeal.Slice.at32 (own c a) d)) := fun c e a d => by
    rw [h1 c, Layout.block_apply, cols_idx]
  have eo : ∀ (c : Dev nD) a d n, oA m c (ix2 (at8 a d) n) = wo (ShloMosaic.ix2 (Cert.ReferenceIdeal.Slice.at32 (own c a) d) n) := fun c a d n => by
    rw [h4 c, Layout.block_apply, heads_idx]
  have rx : ∀ (b : Fin 4) i e, x (ShloMosaic.ix3 b i e) = ((x (ShloMosaic.ix3 b i e) : EReal).toReal : EReal) := fun b i e => by
    rw [← ex b i e]; exact (hr b).1 _
  have rw' : ∀ e h d, wq (ShloMosaic.ix2 e (Cert.ReferenceIdeal.Slice.at32 h d)) = ((wq (ShloMosaic.ix2 e (Cert.ReferenceIdeal.Slice.at32 h d)) : EReal).toReal : EReal) := fun e h d => by
    obtain ⟨b, a, rfl⟩ := own_onto h
    rw [← ew b e a d]; exact (hr b).2.1 _
  have rk : ∀ y, k y = ((k y : EReal).toReal : EReal) := fun y => by
    rw [← h2 0]; exact (hr 0).2.2 _
  suffices key : ∀ (i : Fin 2048) (n : Fin 1024), outC firstHops m ρ c (ix3 0 i n) = Cert.ReferenceIdeal.Slice.outV x wq k v wo (ShloMosaic.ix3 c i n) by
    refine (finalA_out m ρ firstHops c).trans (funext fun y => ?_)
    have hy : y = ix3 0 (y 1) (y 2) := by
      funext t; match t with
      | ⟨0, _⟩ => exact Subsingleton.elim (α := Fin 1) _ _
      | ⟨1, _⟩ => rfl
      | ⟨2, _⟩ => rfl
    refine (congrArg (outC firstHops m ρ c) hy).trans ((key (y 1) (y 2)).trans ?_)
    exact (congrArg (Cert.ReferenceIdeal.Slice.outV x wq k v wo) ((congrArg (Layout.Tiles.idx (by decide) c) hy).trans (rows_idx _ c _ _))).symm
  intro i n
  refine (outC_real m ρ (fun b i e => (x (ShloMosaic.ix3 b i e) : EReal).toReal) (fun e h d => (wq (ShloMosaic.ix2 e (Cert.ReferenceIdeal.Slice.at32 h d)) : EReal).toReal)
    (fun b j h d => (k (ShloMosaic.ix4 b j h d) : EReal).toReal) (fun b j h d => v (ShloMosaic.ix4 b j h d)) (fun h d n => wo (ShloMosaic.ix2 (Cert.ReferenceIdeal.Slice.at32 h d) n)) firstHops brought_eq c
    (fun c i e => (ex c i e).trans (rx c i e)) (fun c e a d => (ew c e a d).trans (rw' _ _ _)) (fun c j a d => ?_) (fun c j a d => ?_) (fun c a d n => eo c a d n) i n).trans
    (Cert.ReferenceIdeal.Slice.out_real x wq k v wo _ _ _ rx rw' (fun b j h d => rk _) c i n).symm
  · rw [h2 c, ix4_eq]; exact rk _
  · rw [h3 c, ix4_eq]

end Cert.KernelIdeal.Slice

namespace Cert.Proof

open Idealize.ShloMosaic Idealize.SL.Sem

/-- Every device's result is its block of the reference's, and the arguments of both end unchanged. -/
theorem algebraic : Cert.algebraic_KernelIdeal_ReferenceIdeal_pre_finite_KernelIdeal := by
  intro m g m' g' hp hb
  refine ⟨Cert.ReferenceIdeal.Value.res_main_v80 m' 0,
    (θ_run Cert.KernelIdeal.defs _ _).mono (fun r h c => ?_) (Cert.KernelIdeal.Slice.run_out m g),
    (θ_run Cert.ReferenceIdeal.defs _ _).mono (fun r h => h 0) (Cert.ReferenceIdeal.Value.run m' g')⟩
  refine ⟨((h.1 c).2).trans ?_, (h.1 c).1⟩
  rw [Cert.ReferenceIdeal.Slice.res_eq]
  exact Cert.KernelIdeal.Slice.result_block m g _ _ _ _ _ hp (fun c => (hb c).1) (fun c => (hb c).2.1) (fun c => (hb c).2.2.1) (fun c => (hb c).2.2.2.1) (fun c => (hb c).2.2.2.2) c

end Cert.Proof

end
-- ==== Proof.Tail.Launch.lean ====
module

public import proofs.«01_k».proof.Proof.Launch
public import proofs.«01_k».proof.Proof.Gen.TailIdeal.Skeleton

@[expose] public section

noncomputable section

namespace Cert.TailIdeal.Slice

open Cert.KernelIdeal Cert.KernelIdeal.Gen Cert.KernelIdeal.Slice

open Idealize.ShloMosaic Idealize.ShloMosaic.TcCoe Idealize.SL.Sem
open Cert.Soft (across far)

variable {F : FTy → Type} [FloatOps F] [Named F]

/-! # The second slice is the first one's program at other heads -/

/-- The last two hops: the heads of the device across the ring; then four of its left neighbour's and four of its right one's. -/
def lastHops : Heads where
  hd := ![across, far]
  off h := hopOff (![2#32, 3#32] h)
  eq := by decide

set_option maxRecDepth 65536 in
theorem body_eq_root : Cert.TailIdeal.cc0_body (F := F) xM (Memref.isWhole_whole _) wqM (Memref.isWhole_whole _) woM (Memref.isWhole_whole _) kM (Memref.isWhole_whole _) vM (Memref.isWhole_whole _)
    oM (Memref.isWhole_whole _) aM (Memref.isWhole_whole _) bM (Memref.isWhole_whole _) cM (Memref.isWhole_whole _) dM (Memref.isWhole_whole _) wofM (Memref.isWhole_whole _)
    xbM (Memref.isWhole_whole _) qM (Memref.isWhole_whole _) kbM (Memref.isWhole_whole _) vbM (Memref.isWhole_whole _) cc0_scratch9 cc0_scratch10 cc0_scratch11 cc0_scratch12 = rootProg lastHops := by
  rw [Cert.TailIdeal.Gen.cc0_body_eq_skeleton]; unfold Cert.TailIdeal.Gen.cc0_body_skel
  simp only [Cert.TailIdeal.Gen.k0_part9_eq_skeleton, Cert.TailIdeal.Gen.k0_part10_eq_skeleton, Cert.TailIdeal.Gen.k0_part11_eq_skeleton, Cert.TailIdeal.Gen.k0_part12_eq_skeleton, Cert.TailIdeal.Gen.k0_part13_eq_skeleton, Cert.TailIdeal.Gen.k0_part14_eq_skeleton, Cert.TailIdeal.Gen.k0_part15_eq_skeleton, Cert.TailIdeal.Gen.k0_part16_eq_skeleton, Cert.TailIdeal.Gen.k0_part17_eq_skeleton, Cert.TailIdeal.Gen.k0_part18_eq_skeleton, Cert.TailIdeal.Gen.k0_part19_eq_skeleton, Cert.TailIdeal.Gen.k0_part20_eq_skeleton, Cert.TailIdeal.Gen.k0_part21_eq_skeleton, Cert.TailIdeal.Gen.k0_part22_eq_skeleton, Cert.TailIdeal.Gen.k0_part23_eq_skeleton, Cert.TailIdeal.Gen.k0_part24_eq_skeleton, Cert.TailIdeal.Gen.k0_part25_eq_skeleton, Cert.TailIdeal.Gen.k0_part26_eq_skeleton, Cert.TailIdeal.Gen.k0_part27_eq_skeleton, Cert.TailIdeal.Gen.k0_part28_eq_skeleton]
  unfold rootProg exchP hop0P waitsP
  simp only [Cert.TailIdeal.Gen.k0_part9_skel, Cert.TailIdeal.Gen.k0_part10_skel, Cert.TailIdeal.Gen.k0_part11_skel, Cert.TailIdeal.Gen.k0_part12_skel, Cert.TailIdeal.Gen.k0_part13_skel, Cert.TailIdeal.Gen.k0_part14_skel, Cert.TailIdeal.Gen.k0_part15_skel, Cert.TailIdeal.Gen.k0_part16_skel, Cert.TailIdeal.Gen.k0_part17_skel, Cert.TailIdeal.Gen.k0_part18_skel, Cert.TailIdeal.Gen.k0_part19_skel, Cert.TailIdeal.Gen.k0_part20_skel, Cert.TailIdeal.Gen.k0_part21_skel, Cert.TailIdeal.Gen.k0_part22_skel, Cert.TailIdeal.Gen.k0_part23_skel, Cert.TailIdeal.Gen.k0_part24_skel, Cert.TailIdeal.Gen.k0_part25_skel, Cert.TailIdeal.Gen.k0_part26_skel, Cert.TailIdeal.Gen.k0_part27_skel, Cert.TailIdeal.Gen.k0_part28_skel,
    k0_part9_skel, k0_part10_skel, k0_part11_skel, k0_part12_skel, k0_part20_skel, k0_part21_skel, k0_part22_skel, bind_assoc, pure_bind]
  rfl

/-- The second slice's table of bodies. -/
theorem bodies_last : Cert.TailIdeal.defs₀ (F := F) = bodies lastHops :=
  congrArg Defs.onTc (funext fun l => funext fun a => match l, a with
    | 0, (_, _) => body_eq_root
    | ⟨_ + 1, h⟩, _ => absurd h (Nat.not_lt.2 (Nat.le_add_left _ _)))

/-- From any memory every execution of the second slice ends, the arguments as they were, every counter at zero. -/
theorem run_out (m : (ℓ : Loc nD τ sig) → Buf (Elt F) ℓ) (ρ : Dev nD → PrngReg) :
    θ_run Cert.TailIdeal.defs (onTc (τ := τ) (Cert.TailIdeal.main (F := F))) ⟨m, fun _ => 0, ρ⟩ (Ends lastHops m ρ) := by
  have h := run_heads lastHops m ρ
  rw [← bodies_last] at h
  exact h

end Cert.TailIdeal.Slice

end
-- ==== Proof.Tail.Ref.lean ====
module

public import proofs.«01_k».proof.Proof.Gen.TailReferenceIdeal.Run
public import proofs.«01_k».proof.Proof.Ref

@[expose] public section

noncomputable section

namespace Cert.TailReferenceIdeal.Slice

open Cert.TailReferenceIdeal Cert.TailReferenceIdeal.Gen Idealize.ShloMosaic Idealize.ShloMosaic.TcCoe Idealize.SL.Sem Idealize.ShloMosaic.StableHlo Cert.Soft
open Cert.ReferenceIdeal.Slice (at32 outOf outOf_real sum_cols)

/-! # The second reference's result, by the first one's steps -/

/-- Which heads a batch takes. -/
def headsV : IVec S4x1x32x1 1 :=
  shapeCast _ (ori (ori (broadcastInDim S4x4x8 ![0, 1, 2] bcast_S4x4x1_S4x4x8_0_1_2 (ori (cmpi .eq (broadcastInDim S4x4x1 ![0, 1, 2] bcast_S1x4x1_S4x4x1_0_1_2 (broadcastInDim S1x4x1 ![1] bcast_S4_S1x4x1_1 (iotaInDim S4 32 0))) (broadcastInDim S4x4x1 ![0, 1, 2] bcast_S4x1x1_S4x4x1_0_1_2 (addi (broadcastInDim S4x1x1 ![0] bcast_S4_S4x1x1_0 (iotaInDim S4 32 0)) (broadcastInDim S4x1x1 ![] bcast_S_S4x1x1 (constantI S_ 32 2#32))))) (cmpi .eq (broadcastInDim S4x4x1 ![0, 1, 2] bcast_S1x4x1_S4x4x1_0_1_2 (broadcastInDim S1x4x1 ![1] bcast_S4_S1x4x1_1 (iotaInDim S4 32 0))) (broadcastInDim S4x4x1 ![0, 1, 2] bcast_S4x1x1_S4x4x1_0_1_2 (subi (broadcastInDim S4x1x1 ![0] bcast_S4_S4x1x1_0 (iotaInDim S4 32 0)) (broadcastInDim S4x1x1 ![] bcast_S_S4x1x1 (constantI S_ 32 2#32))))))) (andi (broadcastInDim S4x4x8 ![0, 1, 2] bcast_S4x4x1_S4x4x8_0_1_2 (ori (cmpi .eq (broadcastInDim S4x4x1 ![0, 1, 2] bcast_S1x4x1_S4x4x1_0_1_2 (broadcastInDim S1x4x1 ![1] bcast_S4_S1x4x1_1 (iotaInDim S4 32 0))) (broadcastInDim S4x4x1 ![0, 1, 2] bcast_S4x1x1_S4x4x1_0_1_2 (subi (broadcastInDim S4x1x1 ![0] bcast_S4_S4x1x1_0 (iotaInDim S4 32 0)) (broadcastInDim S4x1x1 ![] bcast_S_S4x1x1 (constantI S_ 32 1#32))))) (cmpi .eq (broadcastInDim S4x4x1 ![0, 1, 2] bcast_S1x4x1_S4x4x1_0_1_2 (broadcastInDim S1x4x1 ![1] bcast_S4_S1x4x1_1 (iotaInDim S4 32 0))) (broadcastInDim S4x4x1 ![0, 1, 2] bcast_S4x1x1_S4x4x1_0_1_2 (addi (broadcastInDim S4x1x1 ![0] bcast_S4_S4x1x1_0 (iotaInDim S4 32 0)) (broadcastInDim S4x1x1 ![] bcast_S_S4x1x1 (constantI S_ 32 3#32))))))) (broadcastInDim S4x4x8 ![0, 1, 2] bcast_S1x1x8_S4x4x8_0_1_2 (cmpi .sge (broadcastInDim S1x1x8 ![2] bcast_S8_S1x1x8_2 (iotaInDim S8 32 0)) (broadcastInDim S1x1x8 ![] bcast_S_S1x1x8 (constantI S_ 32 4#32)))))) (andi (broadcastInDim S4x4x8 ![0, 1, 2] bcast_S4x4x1_S4x4x8_0_1_2 (ori (cmpi .eq (broadcastInDim S4x4x1 ![0, 1, 2] bcast_S1x4x1_S4x4x1_0_1_2 (broadcastInDim S1x4x1 ![1] bcast_S4_S1x4x1_1 (iotaInDim S4 32 0))) (broadcastInDim S4x4x1 ![0, 1, 2] bcast_S4x1x1_S4x4x1_0_1_2 (addi (broadcastInDim S4x1x1 ![0] bcast_S4_S4x1x1_0 (iotaInDim S4 32 0)) (broadcastInDim S4x1x1 ![] bcast_S_S4x1x1 (constantI S_ 32 1#32))))) (cmpi .eq (broadcastInDim S4x4x1 ![0, 1, 2] bcast_S1x4x1_S4x4x1_0_1_2 (broadcastInDim S1x4x1 ![1] bcast_S4_S1x4x1_1 (iotaInDim S4 32 0))) (broadcastInDim S4x4x1 ![0, 1, 2] bcast_S4x1x1_S4x4x1_0_1_2 (subi (broadcastInDim S4x1x1 ![0] bcast_S4_S4x1x1_0 (iotaInDim S4 32 0)) (broadcastInDim S4x1x1 ![] bcast_S_S4x1x1 (constantI S_ 32 3#32))))))) (broadcastInDim S4x4x8 ![0, 1, 2] bcast_S1x1x8_S4x4x8_0_1_2 (cmpi .slt (broadcastInDim S1x1x8 ![2] bcast_S8_S1x1x8_2 (iotaInDim S8 32 0)) (broadcastInDim S1x1x8 ![] bcast_S_S1x1x8 (constantI S_ 32 4#32)))))) shapeCasts_S4x4x8_S4x1x32x1

/-- The query weights with their columns put back by half the ring. -/
def colsV (w : FVec Ideal S1024x4096 .f32) : FVec Ideal S1024x4096 .f32 :=
  concatenate S1024x4096 1 [⟨S1024x2048, (extractStridedSlice S1024x2048 ![0, 2048] w slices_S1024x4096_S1024x2048_0_2048)⟩, ⟨S1024x2048, (extractStridedSlice S1024x2048 ![0, 0] w slices_S1024x4096_S1024x2048_0_0)⟩] concatenates_S1024x2048_S1024x2048_S1024x4096_d1

/-- The output weights with their rows put back. -/
def rowsV (w : FVec Ideal S4096x1024 .f32) : FVec Ideal S4096x1024 .f32 :=
  concatenate S4096x1024 0 [⟨S2048x1024, (extractStridedSlice S2048x1024 ![2048, 0] w slices_S4096x1024_S2048x1024_2048_0)⟩, ⟨S2048x1024, (extractStridedSlice S2048x1024 ![0, 0] w slices_S4096x1024_S2048x1024_0_0)⟩] concatenates_S2048x1024_S2048x1024_S4096x1024_d0

/-- The run's composed term is the first reference's steps over these heads and weights. -/
theorem res_eq (m : (ℓ : Loc nD τ sig) → Buf (Elt Ideal) ℓ) (c : Dev nD) :
    Value.res_main_v90 m c = outOf headsV (m ((c.tc : Thread nD τ).loc main_arg0)) (colsV (m ((c.tc : Thread nD τ).loc main_arg1))) (m ((c.tc : Thread nD τ).loc main_arg2))
      (m ((c.tc : Thread nD τ).loc main_arg3)) (rowsV (m ((c.tc : Thread nD τ).loc main_arg4))) := rfl

theorem heads_apply (b : Fin 4) (h : Fin 32) : headsV (ix4 b 0 h 0) = BitVec.ofBool (!taken b h) := by
  pointwise [headsV]
  revert b h
  decide

/-- The head half the ring away. -/
def opp (h : Fin 32) : Fin 32 := ⟨(h.val + 16) % 32, Nat.mod_lt _ (by decide)⟩

theorem opp_of (h : Fin 32) (d : Fin 128) : (if (at32 h d).val < 2048 then 2048 + (at32 h d).val else (at32 h d).val - 2048) = (at32 (opp h) d).val := by
  show (if h.val * 128 + d.val < 2048 then 2048 + (h.val * 128 + d.val) else h.val * 128 + d.val - 2048) = (h.val + 16) % 32 * 128 + d.val
  split <;> omega

theorem cols_at (w : FVec Ideal S1024x4096 .f32) (e : Fin 1024) (f : Fin 4096) :
    colsV w (ix2 e f) = if h : f.val < 2048 then w (ix2 e (⟨2048 + f.val, by omega⟩ : Fin 4096)) else w (ix2 e (⟨f.val - 2048, by omega⟩ : Fin 4096)) := by
  pointwise [colsV]

theorem rows_at (w : FVec Ideal S4096x1024 .f32) (f : Fin 4096) (n : Fin 1024) :
    rowsV w (ix2 f n) = if h : f.val < 2048 then w (ix2 (⟨2048 + f.val, by omega⟩ : Fin 4096) n) else w (ix2 (⟨f.val - 2048, by omega⟩ : Fin 4096) n) := by
  unfold rowsV
  split
  · next h =>
    refine (Idealize.ShloMosaic.concatenate_pair_apply_left (s₁ := S2048x1024) (s₂ := S2048x1024) 0 _ _ _ (ix2 f n) rfl (ix2 (⟨f.val, h⟩ : Fin 2048) n) (fun b => by match b with | ⟨0, _⟩ => rfl | ⟨1, _⟩ => rfl)).trans (congrArg w (funext fun b => Fin.ext ?_))
    match b with
    | ⟨0, _⟩ => rfl
    | ⟨1, _⟩ => exact Nat.zero_add _
  · next h =>
    refine (Idealize.ShloMosaic.concatenate_pair_apply_right (s₁ := S2048x1024) (s₂ := S2048x1024) 0 _ _ _ (ix2 f n) rfl rfl (ix2 (⟨f.val - 2048, by omega⟩ : Fin 2048) n) (fun b hb => by match b with | ⟨0, _⟩ => exact absurd rfl hb | ⟨1, _⟩ => rfl)
      (by show f.val - 2048 + 2048 = f.val; omega)).trans (congrArg w (funext fun b => Fin.ext ?_))
    match b with
    | ⟨0, _⟩ => exact Nat.zero_add _
    | ⟨1, _⟩ => exact Nat.zero_add _

theorem cols_apply (w : FVec Ideal S1024x4096 .f32) (e : Fin 1024) (h : Fin 32) (d : Fin 128) : colsV w (ix2 e (at32 h d)) = w (ix2 e (at32 (opp h) d)) := by
  rw [cols_at]
  have o := opp_of h d
  split
  · next hf => rw [if_pos hf] at o; exact congrArg (fun f : Fin 4096 => w (ix2 e f)) (Fin.ext o)
  · next hf => rw [if_neg hf] at o; exact congrArg (fun f : Fin 4096 => w (ix2 e f)) (Fin.ext o)

theorem rows_apply (w : FVec Ideal S4096x1024 .f32) (h : Fin 32) (d : Fin 128) (n : Fin 1024) : rowsV w (ix2 (at32 h d) n) = w (ix2 (at32 (opp h) d) n) := by
  rw [rows_at]
  have o := opp_of h d
  split
  · next hf => rw [if_pos hf] at o; exact congrArg (fun f : Fin 4096 => w (ix2 f n)) (Fin.ext o)
  · next hf => rw [if_neg hf] at o; exact congrArg (fun f : Fin 4096 => w (ix2 f n)) (Fin.ext o)

end Cert.TailReferenceIdeal.Slice

end
-- ==== Proof.Tail.Equal.lean ====
module

public import proofs.«01_k».proof.Proof.Equal
public import proofs.«01_k».proof.Proof.Tail.Launch
public import proofs.«01_k».proof.Proof.Tail.Ref

@[expose] public section

noncomputable section

namespace Cert.TailIdeal.Slice

open Cert.KernelIdeal Cert.KernelIdeal.Gen Idealize Idealize.ShloMosaic Idealize.ShloMosaic.TcCoe Idealize.SL.Sem Cert.Soft
open Cert.KernelIdeal.Slice (finalA finalA_out outC outC_real prv nxt side at8 xA wA oA kA vA real_of_pre ix4_eq rows_idx cols_idx heads_idx)
open Cert.ReferenceIdeal.Slice (at32 outOf outOf_real)
open Cert.TailReferenceIdeal.Slice (opp headsV colsV rowsV cols_apply rows_apply heads_apply)

/-! # The second slice's blocks are its reference's -/

theorem opp_across (c : Fin 4) (a : Fin 8) : opp (across c a) = own c a := by revert c a; decide

/-- Every head lies across the ring from some device. -/
theorem across_onto (h : Fin 32) : ∃ (c : Fin 4) (a : Fin 8), h = across c a := by revert h; decide

/-- The device whose half brings head `a`. -/
theorem far_eq (c : Dev nD) (a : Fin 8) (d : Fin 128) : far c a = across (side (prv c) (nxt c) (at8 a d)) a := by
  have h : (at8 a d).val < 512 ↔ a.val < 4 := by show 128 * a.val + d.val < 512 ↔ _; omega
  unfold side
  by_cases ha : a.val < 4
  · rw [if_pos (h.mpr ha)]; clear h; revert c a; decide
  · rw [if_neg (fun q => ha (h.mp q))]; clear h; revert c a; decide

/-- Where every device holds its blocks of the reference's arrays, and the precondition holds, its result is its block of the reference's. -/
theorem result_block (m : (ℓ : Loc nD τ sig) → Buf (Elt Ideal) ℓ) (ρ : Dev nD → PrngReg)
    (x : FVec Ideal Cert.ReferenceIdeal.S4x2048x1024 .f32) (wq : FVec Ideal Cert.ReferenceIdeal.S1024x4096 .f32) (k v : FVec Ideal Cert.ReferenceIdeal.S4x2048x32x128 .f32) (wo : FVec Ideal Cert.ReferenceIdeal.S4096x1024 .f32)
    (hp : Cert.Pre_TailIdeal_finite_KernelIdeal m)
    (h0 : ∀ c, xA m c = Layout.block ⟨3, ![1, 2048, 1024]⟩ ⟨3, ![4, 2048, 1024]⟩ 0 4 c x)
    (h1 : ∀ c, wA m c = Layout.block ⟨2, ![1024, 1024]⟩ ⟨2, ![1024, 4096]⟩ 1 4 c wq)
    (h2 : ∀ c, kA m c = k) (h3 : ∀ c, vA m c = v)
    (h4 : ∀ c, oA m c = Layout.block ⟨2, ![1024, 1024]⟩ ⟨2, ![4096, 1024]⟩ 0 4 c wo) (c : Dev nD) :
    finalA lastHops m ρ c (3 : Fin 4) = Layout.block ⟨3, ![1, 2048, 1024]⟩ ⟨3, ![4, 2048, 1024]⟩ 0 4 c (outOf headsV x (colsV wq) k v (rowsV wo)) := by
  have hr := fun c => real_of_pre _ _ _ _ _ (hp c)
  have ex : ∀ (c : Dev nD) i e, xA m c (ix3 0 i e) = x (ShloMosaic.ix3 c i e) := fun c i e => by
    rw [h0 c, Layout.block_apply]; exact congrArg x (rows_idx _ c i e)
  have ew : ∀ (c : Dev nD) e a d, wA m c (ix2 e (at8 a d)) = colsV wq (ShloMosaic.ix2 e (at32 (across c a) d)) := fun c e a d => by
    rw [h1 c, Layout.block_apply, cols_apply, opp_across]; exact congrArg wq (cols_idx _ c e a d)
  have eo : ∀ (c : Dev nD) a d n, oA m c (ix2 (at8 a d) n) = rowsV wo (ShloMosaic.ix2 (at32 (across c a) d) n) := fun c a d n => by
    rw [h4 c, Layout.block_apply, rows_apply, opp_across]; exact congrArg wo (heads_idx _ c a d n)
  have rx : ∀ (b : Fin 4) i e, x (ShloMosaic.ix3 b i e) = ((x (ShloMosaic.ix3 b i e) : EReal).toReal : EReal) := fun b i e => by
    rw [← ex b i e]; exact (hr b).1 _
  have rw' : ∀ e h d, colsV wq (ShloMosaic.ix2 e (at32 h d)) = ((colsV wq (ShloMosaic.ix2 e (at32 h d)) : EReal).toReal : EReal) := fun e h d => by
    obtain ⟨b, a, rfl⟩ := across_onto h
    rw [← ew b e a d]; exact (hr b).2.1 _
  have rk : ∀ y, k y = ((k y : EReal).toReal : EReal) := fun y => by
    rw [← h2 0]; exact (hr 0).2.2 _
  suffices key : ∀ (i : Fin 2048) (n : Fin 1024), outC lastHops m ρ c (ix3 0 i n) = outOf headsV x (colsV wq) k v (rowsV wo) (ShloMosaic.ix3 c i n) by
    refine (finalA_out m ρ lastHops c).trans (funext fun y => ?_)
    have hy : y = ix3 0 (y 1) (y 2) := by
      funext t; match t with
      | ⟨0, _⟩ => exact Subsingleton.elim (α := Fin 1) _ _
      | ⟨1, _⟩ => rfl
      | ⟨2, _⟩ => rfl
    refine (congrArg (outC lastHops m ρ c) hy).trans ((key (y 1) (y 2)).trans ?_)
    exact (congrArg (outOf headsV x (colsV wq) k v (rowsV wo)) ((congrArg (Layout.Tiles.idx (by decide) c) hy).trans (rows_idx _ c _ _))).symm
  intro i n
  refine (outC_real m ρ (fun b i e => (x (ShloMosaic.ix3 b i e) : EReal).toReal) (fun e h d => (colsV wq (ShloMosaic.ix2 e (at32 h d)) : EReal).toReal)
    (fun b j h d => (k (ShloMosaic.ix4 b j h d) : EReal).toReal) (fun b j h d => v (ShloMosaic.ix4 b j h d)) (fun h d n => rowsV wo (ShloMosaic.ix2 (at32 h d) n)) lastHops far_eq c
    (fun c i e => (ex c i e).trans (rx c i e)) (fun c e a d => (ew c e a d).trans (rw' _ _ _)) (fun c j a d => ?_) (fun c j a d => ?_) (fun c a d n => eo c a d n) i n).trans
    ((outOf_real x (colsV wq) k v (rowsV wo) _ _ _ rx rw' (fun b j h d => rk _) headsV _ heads_apply c i n).trans (sum_left _ _)).symm
  · rw [h2 c]; exact (congrArg k (ix4_eq _ _ _ _)).trans (rk _)
  · rw [h3 c]; exact congrArg v (ix4_eq _ _ _ _)

end Cert.TailIdeal.Slice

namespace Cert.Proof

open Idealize.ShloMosaic Idealize.SL.Sem

/-- Every device's result of the second slice is its block of its reference's, and the arguments of both end unchanged. -/
theorem algebraic_tail : Cert.algebraic_TailIdeal_TailReferenceIdeal_pre_finite_KernelIdeal := by
  intro m g m' g' hp hb
  refine ⟨Cert.TailReferenceIdeal.Value.res_main_v90 m' 0,
    (θ_run Cert.TailIdeal.defs _ _).mono (fun r h c => ?_) (Cert.TailIdeal.Slice.run_out m g),
    (θ_run Cert.TailReferenceIdeal.defs _ _).mono (fun r h => h 0) (Cert.TailReferenceIdeal.Value.run m' g')⟩
  refine ⟨((h.1 c).2).trans ?_, (h.1 c).1⟩
  rw [Cert.TailReferenceIdeal.Slice.res_eq]
  exact Cert.TailIdeal.Slice.result_block m g _ _ _ _ _ hp (fun c => (hb c).1) (fun c => (hb c).2.1) (fun c => (hb c).2.2.1) (fun c => (hb c).2.2.2.1) (fun c => (hb c).2.2.2.2) c

end Cert.Proof

end
-- ==== Proof.Mid.Ring.lean ====
/-
  The exchange protocol of the two-hop slice: the ring of four devices, the buffers and windows the copies move, the
  cells of the barrier and of the four remote copies, and what each cell's units hand over.

  On every device `c`:
  * the barrier cell is signalled once by `nxt c` (which hands over slot 1 of its `wq_r` and `wo_r`, the buffers `c`
    writes by its right-going copies) and once by `prv c` (slot 1 of its `wq_l` and `wo_l`, for the left-going copies);
  * receive cell `i` is credited by the landing of a neighbour's copy in slot 1 of weight buffer `i`, and hands `c` that
    slot holding the neighbour's block;
  * send cell `i` is credited when `c`'s own copy out of slot 0 of weight buffer `i` has been read, and hands back the
    half share of slot 0 that the copy held.
-/
module

public import proofs.«01_k».proof.Defs
public import proofs.«01_k».proof.Proof.Gen.MidIdeal
public import proofs.«01_k».proof.Proof.Gen.MidIdeal.Skeleton
public import proofs.«01_k».proof.Proof.Gen.MidIdeal.Launch
public import Idealize.ShloMosaic.Lib.Pipeline.Launch
public import Idealize.ShloMosaic.Lib.Pipeline.Kit
public import Idealize.ShloMosaic.Lib.Tactic
public import Idealize.ShloMosaic.Lib.Exec

@[expose] public section

noncomputable section

namespace Cert.MidIdeal.Slice

open Cert.MidIdeal Cert.MidIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resource algebra: the pipeline's rounds and the ring's -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR

instance ER_landsIn : (ER : Emb UB 𝕄).LandsIn (upEmb : UEmb _ 𝕄) := by unfold ER; infer_instance

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring -/

set_option backward.proofsInPublic true in
/-- The right neighbour of device `c`. -/
def nxt (c : Dev nD) : Dev nD := ⟨(c.val + 1) % 4, Nat.mod_lt _ (by decide)⟩
set_option backward.proofsInPublic true in
/-- The left neighbour of device `c`. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide
theorem nxt_ne_prv (c : Dev nD) : nxt c ≠ prv c := by revert c; decide

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nxt c := Fin.ext (k0_dev3_eq c)
theorem dev4_eq (c : Dev nD) : (⟨k0_dev4 c, k0_dev4_lt c⟩ : Dev nD) = nxt c := Fin.ext (k0_dev4_eq c)
theorem dev5_eq (c : Dev nD) : (⟨k0_dev5 c, k0_dev5_lt c⟩ : Dev nD) = prv c := Fin.ext (k0_dev5_eq c)
theorem dev6_eq (c : Dev nD) : (⟨k0_dev6 c, k0_dev6_lt c⟩ : Dev nD) = prv c := Fin.ext (k0_dev6_eq c)

/-- The ring as a permutation of the devices. -/
def ring : Dev nD ≃ Dev nD := ⟨nxt, prv, prv_nxt, nxt_prv⟩

/-! ## The buffers -/

abbrev xM : Memref sig .tc .vmem S1x2048x1024 .f32 := Memref.whole cc0_stg0_0
abbrev wqM : Memref sig .tc .vmem S1024x1024 .f32 := Memref.whole cc0_stg1_0
abbrev woM : Memref sig .tc .vmem S1024x1024 .f32 := Memref.whole cc0_stg2_0
abbrev kM : Memref sig .tc .hbm S4x2048x32x128 .f32 := Memref.whole main_arg2
abbrev vM : Memref sig .tc .hbm S4x2048x32x128 .f32 := Memref.whole main_arg3
abbrev oM : Memref sig .tc .vmem S1x2048x1024 .f32 := Memref.whole cc0_stg3_0
abbrev aM : Memref sig .tc .vmem S2x1024x512 .bf16 := Memref.whole cc0_scratch0
abbrev bM : Memref sig .tc .vmem S2x512x1024 .bf16 := Memref.whole cc0_scratch1
abbrev cM : Memref sig .tc .vmem S2x1024x512 .bf16 := Memref.whole cc0_scratch2
abbrev dM : Memref sig .tc .vmem S2x512x1024 .bf16 := Memref.whole cc0_scratch3
abbrev wofM : Memref sig .tc .vmem S1024x1024 .bf16 := Memref.whole cc0_scratch4
abbrev xbM : Memref sig .tc .vmem S2048x1024 .bf16 := Memref.whole cc0_scratch5
abbrev qM : Memref sig .tc .vmem S2048x1024 .bf16 := Memref.whole cc0_scratch6
abbrev kbM : Memref sig .tc .vmem S8x2048x128 .f32 := Memref.whole cc0_scratch7
abbrev vbM : Memref sig .tc .vmem S8x2048x128 .f32 := Memref.whole cc0_scratch8

/-- Slot 1, from which this exchange starts, and slot 0, where it lands, of a query-weight buffer, and of an output-weight buffer, as rectangles and as the windows the copies name. -/
abbrev rq0 : Rect S2x1024x512 := Rect.unit (s := S2x1024x512) ![1, 0, 0] S1x1024x512.size inb_S2x1024x512_S1x1024x512_1_0_0
abbrev rq1 : Rect S2x1024x512 := Rect.unit (s := S2x1024x512) ![0, 0, 0] S1x1024x512.size inb_S2x1024x512_S1x1024x512_0_0_0
abbrev ro0 : Rect S2x512x1024 := Rect.unit (s := S2x512x1024) ![1, 0, 0] S1x512x1024.size inb_S2x512x1024_S1x512x1024_1_0_0
abbrev ro1 : Rect S2x512x1024 := Rect.unit (s := S2x512x1024) ![0, 0, 0] S1x512x1024.size inb_S2x512x1024_S1x512x1024_0_0_0
abbrev aS0 : Memref sig .tc .vmem S1024x512 .bf16 := (aM.slice rq0 (fun _ => rfl)).squeeze S1024x512 squeezes_S1x1024x512_S1024x512
abbrev aS1 : Memref sig .tc .vmem S1024x512 .bf16 := (aM.slice rq1 (fun _ => rfl)).squeeze S1024x512 squeezes_S1x1024x512_S1024x512
abbrev bS0 : Memref sig .tc .vmem S512x1024 .bf16 := (bM.slice ro0 (fun _ => rfl)).squeeze S512x1024 squeezes_S1x512x1024_S512x1024
abbrev bS1 : Memref sig .tc .vmem S512x1024 .bf16 := (bM.slice ro1 (fun _ => rfl)).squeeze S512x1024 squeezes_S1x512x1024_S512x1024
abbrev cS0 : Memref sig .tc .vmem S1024x512 .bf16 := (cM.slice rq0 (fun _ => rfl)).squeeze S1024x512 squeezes_S1x1024x512_S1024x512
abbrev cS1 : Memref sig .tc .vmem S1024x512 .bf16 := (cM.slice rq1 (fun _ => rfl)).squeeze S1024x512 squeezes_S1x1024x512_S1024x512
abbrev dS0 : Memref sig .tc .vmem S512x1024 .bf16 := (dM.slice ro0 (fun _ => rfl)).squeeze S512x1024 squeezes_S1x512x1024_S512x1024
abbrev dS1 : Memref sig .tc .vmem S512x1024 .bf16 := (dM.slice ro1 (fun _ => rfl)).squeeze S512x1024 squeezes_S1x512x1024_S512x1024

/-! ## Contents -/

/-- The three staged blocks of device `c`: its batch of `x`, its columns of `Wq`, its rows of `Wo`. -/
def xC (c : Dev nD) : (cc0_stg0_0 : Ref sig .tc).ty.Contents (Elt F) :=
  (win0_0.blk (0 : Fin 1)).view.read (Elt F) ((s₀ m ρ).mem ((c : Thread nD τ).loc main_arg0))
def wqC (c : Dev nD) : (cc0_stg1_0 : Ref sig .tc).ty.Contents (Elt F) :=
  (win0_1.blk (0 : Fin 1)).view.read (Elt F) ((s₀ m ρ).mem ((c : Thread nD τ).loc main_arg1))
def woC (c : Dev nD) : (cc0_stg2_0 : Ref sig .tc).ty.Contents (Elt F) :=
  (win0_2.blk (0 : Fin 1)).view.read (Elt F) ((s₀ m ρ).mem ((c : Thread nD τ).loc main_arg4))

/-- A query-weight buffer holding `p` in both of its slots; -/
def bothQ (p : Vec F S1x1024x512 .bf16) : S2x1024x512.Idx → F .bf16 :=
  fun i => p (fun | ⟨0, _⟩ => (0 : Fin 1) | ⟨1, _⟩ => i 1 | ⟨2, _⟩ => i 2)
/-- an output-weight buffer holding `p` in both of its slots. -/
def bothO (p : Vec F S1x512x1024 .bf16) : S2x512x1024.Idx → F .bf16 :=
  fun i => p (fun | ⟨0, _⟩ => (0 : Fin 1) | ⟨1, _⟩ => i 1 | ⟨2, _⟩ => i 2)

/-- The right-going and the left-going half of device `c`'s query weights (scaled) and output weights, in both slots of
    their buffers. -/
def aC (c : Dev nD) : (cc0_scratch0 : Ref sig .tc).ty.Contents (Elt F) :=
  bothQ (k0_pay22 (wqM.view.readAt (Elt F) (Rect.unit (s := S1024x1024) ![0, 0] S1024x512.size inb_S1024x1024_S1024x512_0_0).toLoadRect (wqC m ρ c)))
def cC (c : Dev nD) : (cc0_scratch2 : Ref sig .tc).ty.Contents (Elt F) :=
  bothQ (k0_pay23 (wqM.view.readAt (Elt F) (Rect.unit (s := S1024x1024) ![0, 512] S1024x512.size inb_S1024x1024_S1024x512_0_512).toLoadRect (wqC m ρ c)))
def bC (c : Dev nD) : (cc0_scratch1 : Ref sig .tc).ty.Contents (Elt F) :=
  bothO (k0_pay24 (woM.view.readAt (Elt F) (Rect.unit (s := S1024x1024) ![0, 0] S512x1024.size inb_S1024x1024_S512x1024_0_0).toLoadRect (woC m ρ c)))
def dC (c : Dev nD) : (cc0_scratch3 : Ref sig .tc).ty.Contents (Elt F) :=
  bothO (k0_pay25 (woM.view.readAt (Elt F) (Rect.unit (s := S1024x1024) ![512, 0] S512x1024.size inb_S1024x1024_S512x1024_512_0).toLoadRect (woC m ρ c)))

/-- A window of a buffer of device `c`, held at share `q`. -/
abbrev winPts {s : Shape} {e : EltTy} (W : Memref sig .tc .vmem s e) (c : Dev nD) (q : PosShare TreeShare)
    (f : Buf (Elt F) (W.view.loc (c : Thread nD τ))) : sProp 𝕄 :=
  W.view.loc (c : Thread nD τ) ↦[W.view.set]{q} f

/-- A window of a buffer of device `c`, held whole at contents not said. -/
def someWin {s : Shape} {e : EltTy} (W : Memref sig .tc .vmem s e) (c : Dev nD) : sProp 𝕄 :=
  iprop(∃ f, winPts (F := F) W c fullShare f)

instance someWin_storable {s : Shape} {e : EltTy} (W : Memref sig .tc .vmem s e) (c : Dev nD) :
    BI.Storable (upEmb : UEmb _ 𝕄) (someWin (F := F) W c) := by
  unfold someWin; infer_instance

/-- The half of slot 0 that a copy out of it holds, and the half the core keeps. -/
abbrev lentQ : PosShare TreeShare := fullShare.right
abbrev keptQ : PosShare TreeShare := fullShare.left

/-! ## The cells -/

/-- The barrier semaphore of the two-sided handshake. -/
abbrev barS : Sem sig := (SemArray.scalar (sig.barrier 0 rfl) : Sems sig S_).sem

abbrev sS0 : DmaSem sig := ((cc0_scratch9.slice (Rect.unit (s := S4x2) ![0, 1] S1x1.size inb_S4x2_S1x1_0_1)).squeeze S_ squeezes_S1x1_S_).sem
abbrev sS1 : DmaSem sig := ((cc0_scratch9.slice (Rect.unit (s := S4x2) ![1, 1] S1x1.size inb_S4x2_S1x1_1_1)).squeeze S_ squeezes_S1x1_S_).sem
abbrev sS2 : DmaSem sig := ((cc0_scratch9.slice (Rect.unit (s := S4x2) ![2, 1] S1x1.size inb_S4x2_S1x1_2_1)).squeeze S_ squeezes_S1x1_S_).sem
abbrev sS3 : DmaSem sig := ((cc0_scratch9.slice (Rect.unit (s := S4x2) ![3, 1] S1x1.size inb_S4x2_S1x1_3_1)).squeeze S_ squeezes_S1x1_S_).sem
abbrev rS0 : DmaSem sig := ((cc0_scratch10.slice (Rect.unit (s := S4x2) ![0, 0] S1x1.size inb_S4x2_S1x1_0_0)).squeeze S_ squeezes_S1x1_S_).sem
abbrev rS1 : DmaSem sig := ((cc0_scratch10.slice (Rect.unit (s := S4x2) ![1, 0] S1x1.size inb_S4x2_S1x1_1_0)).squeeze S_ squeezes_S1x1_S_).sem
abbrev rS2 : DmaSem sig := ((cc0_scratch10.slice (Rect.unit (s := S4x2) ![2, 0] S1x1.size inb_S4x2_S1x1_2_0)).squeeze S_ squeezes_S1x1_S_).sem
abbrev rS3 : DmaSem sig := ((cc0_scratch10.slice (Rect.unit (s := S4x2) ![3, 0] S1x1.size inb_S4x2_S1x1_3_0)).squeeze S_ squeezes_S1x1_S_).sem

/-- The nine semaphores of the exchange: the barrier, the receive cells 1 to 4, the send cells 5 to 8. -/
abbrev csem : Fin 9 → SemLoc sig
  | 0 => .reg barS
  | 1 => .dma rS0 | 2 => .dma rS1 | 3 => .dma rS2 | 4 => .dma rS3
  | 5 => .dma sS0 | 6 => .dma sS1 | 7 => .dma sS2 | 8 => .dma sS3
abbrev kcell (ck : Dev nD × Fin 9) : GSem nD τ sig := ((ck.1 : Thread nD τ), csem ck.2)

theorem csem_injective : Function.Injective csem := by decide

/-- Which of the nine a semaphore is, if any. -/
def kOf (sm : SemLoc sig) : Option (Fin 9) := (List.finRange 9).find? fun k => csem k = sm

theorem kOf_csem (k : Fin 9) : kOf (csem k) = some k := by revert k; decide

/-- What a copy of a query-weight half and of an output-weight half credits. -/
abbrev NA : ℕ := aS1.view.dmaCredit
abbrev NB : ℕ := bS1.view.dmaCredit
abbrev NC : ℕ := cS1.view.dmaCredit
abbrev ND : ℕ := dS1.view.dmaCredit

/-! ## The schedule -/

/-- What the units of cell `k` of device `c` hand over: the barrier's `false` unit (from `nxt c`) and `true` unit (from
    `prv c`), the four landings, the four read-outs. -/
def pay (k : Fin 9) (d : Bool) (c : Dev nD) : sProp 𝕄 := match k with
  | 0 => if d then iprop(someWin cS1 (prv c) ∗ someWin dS1 (prv c))
      else iprop(someWin aS1 (nxt c) ∗ someWin bS1 (nxt c))
  | 1 => winPts aS1 c fullShare (aC m ρ (prv c))
  | 2 => winPts bS1 c fullShare (bC m ρ (prv c))
  | 3 => winPts cS1 c fullShare (cC m ρ (nxt c))
  | 4 => winPts dS1 c fullShare (dC m ρ (nxt c))
  | 5 => winPts aS0 c lentQ (aC m ρ c)
  | 6 => winPts bS0 c lentQ (bC m ρ c)
  | 7 => winPts cS0 c lentQ (cC m ρ c)
  | 8 => winPts dS0 c lentQ (dC m ρ c)

instance pay_storable (k : Fin 9) (d : Bool) (c : Dev nD) : BI.Storable (upEmb : UEmb _ 𝕄) (pay (F := F) m ρ k d c) := by
  unfold pay
  (repeat' split) <;> infer_instance

/-- The units of each cell. -/
def amt (k : Fin 9) : ℕ := match k with
  | 0 => 1 | 1 => NA | 2 => NB | 3 => NC | 4 => ND | 5 => NA | 6 => NB | 7 => NC | 8 => ND

theorem NA_pos : 0 < NA := View.dmaCredit_pos _ (by decide)
theorem NB_pos : 0 < NB := View.dmaCredit_pos _ (by decide)
theorem NC_pos : 0 < NC := View.dmaCredit_pos _ (by decide)
theorem ND_pos : 0 < ND := View.dmaCredit_pos _ (by decide)
theorem amt_pos (k : Fin 9) : 0 < amt k := by
  unfold amt; split <;> first | exact Nat.one_pos | exact NA_pos | exact NB_pos | exact NC_pos | exact ND_pos

def duts (k : Fin 9) : Finset Bool := if k = 0 then Finset.univ else {false}

/-- One round per cell: the barrier's two duties of one unit, one duty of its copy's credit at each of the others. -/
def rd : Rounds.Schedule (GSem nD τ sig) Bool 𝕄 where
  duties g r := if r = 0 ∧ g.1.2 = .tc then (match kOf g.2 with | some k => duts k | none => ∅) else ∅
  unitless _ := False
  amount g _ _ := match kOf g.2 with | some k => amt k | none => 1
  payload g _ d := match kOf g.2 with | some k => pay m ρ k d g.1.1 | none => iprop(emp)
  amount_pos g _ _ _ := by
    split
    · exact amt_pos _
    · exact Nat.one_pos

instance rd_payload_storable (g : GSem nD τ sig) (r : ℕ) (d : Bool) :
    BI.Storable (upEmb : UEmb _ 𝕄) ((rd (F := F) m ρ).payload g r d) := by
  show BI.Storable upEmb (match kOf g.2 with | some k => pay m ρ k d g.1.1 | none => iprop(emp))
  split <;> infer_instance

section Sched
variable (c : Dev nD) (k : Fin 9)

theorem duties_cell : (rd (F := F) m ρ).duties (kcell (c, k)) 0 = duts k := by
  dsimp only [rd]; rw [if_pos ⟨rfl, rfl⟩, kOf_csem]
theorem duties_later (g : GSem nD τ sig) : ∀ r, 1 ≤ r → (rd (F := F) m ρ).duties g r = ∅ :=
  fun r hr => by dsimp only [rd]; rw [if_neg fun h => by omega]
theorem amount_cell (d : Bool) : (rd (F := F) m ρ).amount (kcell (c, k)) 0 d = amt k := by
  dsimp only [rd]; rw [kOf_csem]
theorem payload_cell (d : Bool) : (rd (F := F) m ρ).payload (kcell (c, k)) 0 d = pay m ρ k d c := by
  dsimp only [rd]; rw [kOf_csem]

theorem expect_bar : (rd (F := F) m ρ).expect (kcell (c, 0)) 0 = 2 := by
  unfold Schedule.expect Schedule.amountOf
  rw [duties_cell, Finset.sum_congr rfl fun d _ => amount_cell m ρ c 0 d, Finset.sum_const]; rfl
theorem expect_cell (hk : k ≠ 0) : (rd (F := F) m ρ).expect (kcell (c, k)) 0 = amt k := by
  unfold Schedule.expect Schedule.amountOf
  rw [duties_cell, duts, if_neg hk, Finset.sum_singleton, amount_cell]

theorem rest_bar : bigSep ((rd (F := F) m ρ).duties (kcell (c, 0)) 0 \ ∅) (fun d => (rd (F := F) m ρ).payload (kcell (c, 0)) 0 d)
    = iprop(pay m ρ 0 false c ∗ pay m ρ 0 true c) := by
  rw [Finset.sdiff_empty, duties_cell]
  show bigSep Finset.univ _ = _
  rw [bigSep_univ_eq_bigSepL [false, true] (by decide) (by decide), bigSepL_cons_cons, bigSepL_singleton, payload_cell, payload_cell]; rfl
theorem rest_cell (hk : k ≠ 0) : bigSep ((rd (F := F) m ρ).duties (kcell (c, k)) 0 \ ∅) (fun d => (rd (F := F) m ρ).payload (kcell (c, k)) 0 d)
    = pay m ρ k false c := by
  rw [Finset.sdiff_empty, duties_cell, duts, if_neg hk, bigSep_singleton, payload_cell]

end Sched

/-! ## What each core owes at launch; the levels -/

/-- After the signals and the first `n` copies device `c` still owes the credits of the other copies. -/
def owe3 (c : Dev nD) : CellTallies nD τ sig Unit := 0 + tallyAt (kcell (prv c, 4)) () ND
def owe2 (c : Dev nD) : CellTallies nD τ sig Unit := owe3 c + tallyAt (kcell (prv c, 3)) () NC
def owe1 (c : Dev nD) : CellTallies nD τ sig Unit := owe2 c + tallyAt (kcell (nxt c, 2)) () NB
def owe0 (c : Dev nD) : CellTallies nD τ sig Unit := owe1 c + tallyAt (kcell (nxt c, 1)) () NA
/-- After the first signal a unit of the right neighbour's barrier too; at launch a unit of each neighbour's. -/
def oweB (c : Dev nD) : CellTallies nD τ sig Unit := owe0 c + tallyAt (kcell (nxt c, 0)) () 1
def O₀ (c : Dev nD) : CellTallies nD τ sig Unit := oweB c + tallyAt (kcell (prv c, 0)) () 1

def L (g : GSem nD τ sig) : Finset Unit := if g.1.2 = .tc then {()} else ∅
/-- Barrier cells at 1, receive cells at 2, everything else at 0. -/
def lvK (k : Fin 9) : ℕ := match k with | 0 => 1 | 1 => 2 | 2 => 2 | 3 => 2 | 4 => 2 | _ => 0
def lv (g : GSem nD τ sig) (_ : Unit) : ℕ := match kOf g.2 with | some k => lvK k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Fin 9) : lv (kcell (c, k)) () = lvK k := by unfold lv; rw [kOf_csem]

theorem tally_pos {g h : GSem nD τ sig} {n : ℕ} {u : Unit} (hp : 0 < (tallyAt g () n : CellTallies nD τ sig Unit) h u) : h = g := by
  rw [tallyAt_apply] at hp
  by_contra hn
  rw [if_neg (fun h' => hn h'.1)] at hp
  exact Nat.lt_irrefl 0 hp
theorem add_pos_cases {A B : CellTallies nD τ sig Unit} {h : GSem nD τ sig} {u : Unit} (hp : 0 < (A + B) h u) : 0 < A h u ∨ 0 < B h u := by
  rw [Pi.add_apply, Finsupp.add_apply] at hp; omega

theorem owe0_pos {c : Dev nD} {g : GSem nD τ sig} {u : Unit} (h : 0 < owe0 c g u) : ∃ d : Dev nD, ∃ k : Fin 9, g = kcell (d, k) ∧ lvK k = 2 := by
  unfold owe0 owe1 owe2 owe3 at h
  rcases add_pos_cases h with h | h
  · rcases add_pos_cases h with h | h
    · rcases add_pos_cases h with h | h
      · rcases add_pos_cases h with h | h
        · exact absurd h (Nat.lt_irrefl 0)
        · exact ⟨_, _, tally_pos h, rfl⟩
      · exact ⟨_, _, tally_pos h, rfl⟩
    · exact ⟨_, _, tally_pos h, rfl⟩
  · exact ⟨_, _, tally_pos h, rfl⟩
theorem O₀_pos {c : Dev nD} {g : GSem nD τ sig} {u : Unit} (h : 0 < O₀ c g u) : ∃ d : Dev nD, ∃ k : Fin 9, g = kcell (d, k) ∧ 0 < lvK k := by
  unfold O₀ oweB at h
  rcases add_pos_cases h with h | h
  · rcases add_pos_cases h with h | h
    · obtain ⟨d, k, hg, hk⟩ := owe0_pos h; exact ⟨d, k, hg, by omega⟩
    · exact ⟨_, _, tally_pos h, by decide⟩
  · exact ⟨_, _, tally_pos h, by decide⟩

/-- A staging semaphore, which is none of the nine, may be waited on whatever of the exchange is owed. -/
theorem mayWait_stage (c : Dev nD) (q : DmaSem sig) (hq : kOf (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨d, k, rfl, _⟩ := O₀_pos hg; exact Finset.mem_singleton_self _)
      (fun p hp => by rw [Finset.mem_singleton.mp hp]; unfold lv; rw [hq])
      (fun g u hg => by obtain ⟨d, k, rfl, hk⟩ := O₀_pos hg; rw [lv_cell]; exact hk)
  · rw [MayWait_zero]; iintro -; iempintro

/-- At its barrier wait a device owes receive credits only, which lie above the barrier. -/
theorem mayWait_bar (c : Dev nD) : (levAts L lv : sProp 𝕄) ⊢ MayWait (c : Thread nD τ) (.reg barS) () (owe0 c) :=
  MayOwe.of_cut (L := L) (lev := lv) 1 (fun p hp => by rw [Finset.mem_singleton.mp hp, L_tc]; exact Finset.mem_singleton_self _)
    (fun g u hg => by obtain ⟨d, k, rfl, _⟩ := owe0_pos hg; exact Finset.mem_singleton_self _)
    (fun p hp => by rw [Finset.mem_singleton.mp hp]; exact le_of_eq (lv_cell c 0))
    (fun g u hg => by obtain ⟨d, k, rfl, hk⟩ := owe0_pos hg; rw [lv_cell, hk]; decide)

end Cert.MidIdeal.Slice

end
-- ==== Proof.Mid.Trips.lean ====
/-
  The four counted loops of the body, one trip at a time: the query projections of the two hops (`t1`, `t3`) and the
  attention blocks of the two hops (`t2`, `t4`), each against the contents it leaves, said as a function of what it reads.
-/
/-
  The four counted loops of the body, one trip at a time: the query projections of the two hops (`t1`, `t3`) and the
  attention blocks of the two hops (`t2`, `t4`), each against the contents it leaves, said as a function of what it reads.
-/
/-
  The four counted loops of the body, one trip at a time: the query projections of the two hops (`t1`, `t3`) and the
  attention blocks of the two hops (`t2`, `t4`), each against the contents it leaves, said as a function of what it reads.
-/
module

public import proofs.«01_k».proof.Proof.Mid.Ring
public import Idealize.ShloMosaic.Lib.Writes
public import Idealize.ShloMosaic.Lib.WritesUnit
public import Idealize.ShloMosaic.Lib.WritesUnit
public import Idealize.ShloMosaic.Lib.WritesUnit

@[expose] public section

noncomputable section

namespace Cert.MidIdeal.Slice

open Cert.MidIdeal Cert.MidIdeal.Gen

open Idealize.ShloMosaic Idealize.ShloMosaic.Tactic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- The variants of a kernel without one. -/
abbrev 𝒱₀ : Variants := Variants.none

/-- The regions of the four loops at this kernel's buffers. -/
abbrev t1B (d0 : Dev nD) (k : Fin k0_t1_loop.trips) (u : Unit) :=
  k0_t1_body (F := F) xM (Memref.isWhole_whole _) wqM (Memref.isWhole_whole _) woM (Memref.isWhole_whole _) kM (Memref.isWhole_whole _) vM (Memref.isWhole_whole _)
    oM (Memref.isWhole_whole _) aM (Memref.isWhole_whole _) bM (Memref.isWhole_whole _) cM (Memref.isWhole_whole _) dM (Memref.isWhole_whole _) wofM (Memref.isWhole_whole _)
    xbM (Memref.isWhole_whole _) qM (Memref.isWhole_whole _) kbM (Memref.isWhole_whole _) vbM (Memref.isWhole_whole _) cc0_scratch9 cc0_scratch10 cc0_scratch11 cc0_scratch12 d0 k u
abbrev t2B (d0 : Dev nD) (v7 : BitVec 32) (k : Fin k0_t2_loop.trips) (u : Unit) :=
  k0_t2_body (F := F) xM (Memref.isWhole_whole _) wqM (Memref.isWhole_whole _) woM (Memref.isWhole_whole _) kM (Memref.isWhole_whole _) vM (Memref.isWhole_whole _)
    oM (Memref.isWhole_whole _) aM (Memref.isWhole_whole _) bM (Memref.isWhole_whole _) cM (Memref.isWhole_whole _) dM (Memref.isWhole_whole _) wofM (Memref.isWhole_whole _)
    xbM (Memref.isWhole_whole _) qM (Memref.isWhole_whole _) kbM (Memref.isWhole_whole _) vbM (Memref.isWhole_whole _) cc0_scratch9 cc0_scratch10 cc0_scratch11 cc0_scratch12 d0 v7 k u
abbrev t3B (d0 : Dev nD) (k : Fin k0_t3_loop.trips) (u : Unit) :=
  k0_t3_body (F := F) xM (Memref.isWhole_whole _) wqM (Memref.isWhole_whole _) woM (Memref.isWhole_whole _) kM (Memref.isWhole_whole _) vM (Memref.isWhole_whole _)
    oM (Memref.isWhole_whole _) aM (Memref.isWhole_whole _) bM (Memref.isWhole_whole _) cM (Memref.isWhole_whole _) dM (Memref.isWhole_whole _) wofM (Memref.isWhole_whole _)
    xbM (Memref.isWhole_whole _) qM (Memref.isWhole_whole _) kbM (Memref.isWhole_whole _) vbM (Memref.isWhole_whole _) cc0_scratch9 cc0_scratch10 cc0_scratch11 cc0_scratch12 d0 k u
abbrev t4B (k : Fin k0_t4_loop.trips) (u : Unit) :=
  k0_t4_body (F := F) xM (Memref.isWhole_whole _) wqM (Memref.isWhole_whole _) woM (Memref.isWhole_whole _) kM (Memref.isWhole_whole _) vM (Memref.isWhole_whole _)
    oM (Memref.isWhole_whole _) aM (Memref.isWhole_whole _) bM (Memref.isWhole_whole _) cM (Memref.isWhole_whole _) dM (Memref.isWhole_whole _) wofM (Memref.isWhole_whole _)
    xbM (Memref.isWhole_whole _) qM (Memref.isWhole_whole _) kbM (Memref.isWhole_whole _) vbM (Memref.isWhole_whole _) cc0_scratch9 cc0_scratch10 cc0_scratch11 cc0_scratch12  k u

/-! ## Parts of buffers -/

/-- An index of a matrix, and of a box. -/
def ix2 {a b : ℕ} (i : Fin a) (j : Fin b) : Shape.Idx ⟨2, ![a, b]⟩ := fun | ⟨0, _⟩ => i | ⟨1, _⟩ => j
def ix3 {a b c : ℕ} (i : Fin a) (j : Fin b) (k : Fin c) : Shape.Idx ⟨3, ![a, b, c]⟩ := fun | ⟨0, _⟩ => i | ⟨1, _⟩ => j | ⟨2, _⟩ => k

/-- Row `n`, cut off at the last. -/
def row (n : ℕ) : Fin 2048 := ⟨n % 2048, Nat.mod_lt _ (by decide)⟩
def col (n : ℕ) : Fin 1024 := ⟨n % 1024, Nat.mod_lt _ (by decide)⟩

/-- Rows `512 t …` of the activations; -/
def xbRows (X : S2048x1024.Idx → F .bf16) (t : ℕ) : Vec F S512x1024 .bf16 := fun i => X (ix2 (row (512 * t + (i 0).val)) (i 1))
/-- slot `s` of a query-weight buffer; -/
def slotQ (A : S2x1024x512.Idx → F .bf16) (s : Fin 2) : Vec F S1x1024x512 .bf16 := fun i => A (ix3 s (i 1) (i 2))
/-- slot `s` of an output-weight buffer; -/
def slotO (A : S2x512x1024.Idx → F .bf16) (s : Fin 2) : Vec F S1x512x1024 .bf16 := fun i => A (ix3 s (i 1) (i 2))
/-- the queries of rows `512 t …` and head `h`; -/
def qHead (Q : S2048x1024.Idx → F .bf16) (t h : ℕ) : Vec F S512x128 .bf16 := fun i => Q (ix2 (row (512 * t + (i 0).val)) (col (128 * h + (i 1).val)))
/-- the first key of block `t`'s window; -/
def wnd (t : ℕ) : ℕ := 128 * min 10 (4 * t - 1)
/-- the window's keys (or values) of head `h`; -/
def kHead (K : S8x2048x128.Idx → F .f32) (t : ℕ) (h : Fin 8) : Vec F S1x768x128 .f32 := fun i => K (ix3 h (row (wnd t + (i 1).val)) (i 2))
/-- rows `512 t …` of the result. -/
def oRows (O : S1x2048x1024.Idx → F .f32) (t : ℕ) : Vec F S1x512x1024 .f32 := fun i => O (ix3 0 (row (512 * t + (i 1).val)) (i 2))

/-! ### What the loads read -/

theorem read_x (t : ℕ) (ht : t < 4) (off : Fin S2048x1024.rank → ℕ) (inb : ∀ a, off a + S512x1024.size a ≤ S2048x1024.size a) (ho : off = ![512 * t, 0]) (f : (xbM).view.ty.Contents (Elt F)) :
    (xbM).view.readAt (Elt F) (Rect.unit (s := S2048x1024) off S512x1024.size inb).toLoadRect f = xbRows f t := by
  subst ho; funext i
  refine congrArg f (funext fun a => Fin.ext ?_)
  match a with
  | ⟨0, _⟩ => show 512 * t + 1 * (i 0).val = (512 * t + (i 0).val) % 2048; have : (i 0).val < 512 := (i 0).isLt; omega
  | ⟨1, _⟩ => show 0 + 1 * (i 1).val = (i 1).val; omega

theorem read_a0  (off : Fin S2x1024x512.rank → ℕ) (inb : ∀ a, off a + S1x1024x512.size a ≤ S2x1024x512.size a) (ho : off = ![0, 0, 0]) (f : (aM).view.ty.Contents (Elt F)) :
    (aM).view.readAt (Elt F) (Rect.unit (s := S2x1024x512) off S1x1024x512.size inb).toLoadRect f = slotQ f 0 := by
  subst ho; funext i
  refine congrArg f (funext fun a => Fin.ext ?_)
  match a with
  | ⟨0, _⟩ => show 0 + 1 * (i 0).val = 0; have : (i 0).val < 1 := (i 0).isLt; omega
  | ⟨1, _⟩ => show 0 + 1 * (i 1).val = (i 1).val; omega
  | ⟨2, _⟩ => show 0 + 1 * (i 2).val = (i 2).val; omega

theorem read_a1  (off : Fin S2x1024x512.rank → ℕ) (inb : ∀ a, off a + S1x1024x512.size a ≤ S2x1024x512.size a) (ho : off = ![1, 0, 0]) (f : (aM).view.ty.Contents (Elt F)) :
    (aM).view.readAt (Elt F) (Rect.unit (s := S2x1024x512) off S1x1024x512.size inb).toLoadRect f = slotQ f 1 := by
  subst ho; funext i
  refine congrArg f (funext fun a => Fin.ext ?_)
  match a with
  | ⟨0, _⟩ => show 1 + 1 * (i 0).val = 1; have : (i 0).val < 1 := (i 0).isLt; omega
  | ⟨1, _⟩ => show 0 + 1 * (i 1).val = (i 1).val; omega
  | ⟨2, _⟩ => show 0 + 1 * (i 2).val = (i 2).val; omega

theorem read_c0  (off : Fin S2x1024x512.rank → ℕ) (inb : ∀ a, off a + S1x1024x512.size a ≤ S2x1024x512.size a) (ho : off = ![0, 0, 0]) (f : (cM).view.ty.Contents (Elt F)) :
    (cM).view.readAt (Elt F) (Rect.unit (s := S2x1024x512) off S1x1024x512.size inb).toLoadRect f = slotQ f 0 := by
  subst ho; funext i
  refine congrArg f (funext fun a => Fin.ext ?_)
  match a with
  | ⟨0, _⟩ => show 0 + 1 * (i 0).val = 0; have : (i 0).val < 1 := (i 0).isLt; omega
  | ⟨1, _⟩ => show 0 + 1 * (i 1).val = (i 1).val; omega
  | ⟨2, _⟩ => show 0 + 1 * (i 2).val = (i 2).val; omega

theorem read_c1  (off : Fin S2x1024x512.rank → ℕ) (inb : ∀ a, off a + S1x1024x512.size a ≤ S2x1024x512.size a) (ho : off = ![1, 0, 0]) (f : (cM).view.ty.Contents (Elt F)) :
    (cM).view.readAt (Elt F) (Rect.unit (s := S2x1024x512) off S1x1024x512.size inb).toLoadRect f = slotQ f 1 := by
  subst ho; funext i
  refine congrArg f (funext fun a => Fin.ext ?_)
  match a with
  | ⟨0, _⟩ => show 1 + 1 * (i 0).val = 1; have : (i 0).val < 1 := (i 0).isLt; omega
  | ⟨1, _⟩ => show 0 + 1 * (i 1).val = (i 1).val; omega
  | ⟨2, _⟩ => show 0 + 1 * (i 2).val = (i 2).val; omega

theorem read_b0  (off : Fin S2x512x1024.rank → ℕ) (inb : ∀ a, off a + S1x512x1024.size a ≤ S2x512x1024.size a) (ho : off = ![0, 0, 0]) (f : (bM).view.ty.Contents (Elt F)) :
    (bM).view.readAt (Elt F) (Rect.unit (s := S2x512x1024) off S1x512x1024.size inb).toLoadRect f = slotO f 0 := by
  subst ho; funext i
  refine congrArg f (funext fun a => Fin.ext ?_)
  match a with
  | ⟨0, _⟩ => show 0 + 1 * (i 0).val = 0; have : (i 0).val < 1 := (i 0).isLt; omega
  | ⟨1, _⟩ => show 0 + 1 * (i 1).val = (i 1).val; omega
  | ⟨2, _⟩ => show 0 + 1 * (i 2).val = (i 2).val; omega

theorem read_b1  (off : Fin S2x512x1024.rank → ℕ) (inb : ∀ a, off a + S1x512x1024.size a ≤ S2x512x1024.size a) (ho : off = ![1, 0, 0]) (f : (bM).view.ty.Contents (Elt F)) :
    (bM).view.readAt (Elt F) (Rect.unit (s := S2x512x1024) off S1x512x1024.size inb).toLoadRect f = slotO f 1 := by
  subst ho; funext i
  refine congrArg f (funext fun a => Fin.ext ?_)
  match a with
  | ⟨0, _⟩ => show 1 + 1 * (i 0).val = 1; have : (i 0).val < 1 := (i 0).isLt; omega
  | ⟨1, _⟩ => show 0 + 1 * (i 1).val = (i 1).val; omega
  | ⟨2, _⟩ => show 0 + 1 * (i 2).val = (i 2).val; omega

theorem read_d0  (off : Fin S2x512x1024.rank → ℕ) (inb : ∀ a, off a + S1x512x1024.size a ≤ S2x512x1024.size a) (ho : off = ![0, 0, 0]) (f : (dM).view.ty.Contents (Elt F)) :
    (dM).view.readAt (Elt F) (Rect.unit (s := S2x512x1024) off S1x512x1024.size inb).toLoadRect f = slotO f 0 := by
  subst ho; funext i
  refine congrArg f (funext fun a => Fin.ext ?_)
  match a with
  | ⟨0, _⟩ => show 0 + 1 * (i 0).val = 0; have : (i 0).val < 1 := (i 0).isLt; omega
  | ⟨1, _⟩ => show 0 + 1 * (i 1).val = (i 1).val; omega
  | ⟨2, _⟩ => show 0 + 1 * (i 2).val = (i 2).val; omega

theorem read_d1  (off : Fin S2x512x1024.rank → ℕ) (inb : ∀ a, off a + S1x512x1024.size a ≤ S2x512x1024.size a) (ho : off = ![1, 0, 0]) (f : (dM).view.ty.Contents (Elt F)) :
    (dM).view.readAt (Elt F) (Rect.unit (s := S2x512x1024) off S1x512x1024.size inb).toLoadRect f = slotO f 1 := by
  subst ho; funext i
  refine congrArg f (funext fun a => Fin.ext ?_)
  match a with
  | ⟨0, _⟩ => show 1 + 1 * (i 0).val = 1; have : (i 0).val < 1 := (i 0).isLt; omega
  | ⟨1, _⟩ => show 0 + 1 * (i 1).val = (i 1).val; omega
  | ⟨2, _⟩ => show 0 + 1 * (i 2).val = (i 2).val; omega

theorem read_q (t h : ℕ) (ht : t < 4) (hh : h < 8) (off : Fin S2048x1024.rank → ℕ) (inb : ∀ a, off a + S512x128.size a ≤ S2048x1024.size a) (ho : off = ![512 * t, 128 * h]) (f : (qM).view.ty.Contents (Elt F)) :
    (qM).view.readAt (Elt F) (Rect.unit (s := S2048x1024) off S512x128.size inb).toLoadRect f = qHead f t h := by
  subst ho; funext i
  refine congrArg f (funext fun a => Fin.ext ?_)
  match a with
  | ⟨0, _⟩ => show 512 * t + 1 * (i 0).val = (512 * t + (i 0).val) % 2048; have : (i 0).val < 512 := (i 0).isLt; omega
  | ⟨1, _⟩ => show 128 * h + 1 * (i 1).val = (128 * h + (i 1).val) % 1024; have : (i 1).val < 128 := (i 1).isLt; omega

theorem read_k (t : ℕ) (h : Fin 8) (off : Fin S8x2048x128.rank → ℕ) (inb : ∀ a, off a + S1x768x128.size a ≤ S8x2048x128.size a) (ho : off = ![h.val, wnd t, 0]) (f : (kbM).view.ty.Contents (Elt F)) :
    (kbM).view.readAt (Elt F) (Rect.unit (s := S8x2048x128) off S1x768x128.size inb).toLoadRect f = kHead f t h := by
  subst ho; funext i
  refine congrArg f (funext fun a => Fin.ext ?_)
  match a with
  | ⟨0, _⟩ => show h.val + 1 * (i 0).val = h.val; have : (i 0).val < 1 := (i 0).isLt; omega
  | ⟨1, _⟩ => show wnd t + 1 * (i 1).val = (wnd t + (i 1).val) % 2048; have : (i 1).val < 768 := (i 1).isLt; unfold wnd; omega
  | ⟨2, _⟩ => show 0 + 1 * (i 2).val = (i 2).val; omega

theorem read_v (t : ℕ) (h : Fin 8) (off : Fin S8x2048x128.rank → ℕ) (inb : ∀ a, off a + S1x768x128.size a ≤ S8x2048x128.size a) (ho : off = ![h.val, wnd t, 0]) (f : (vbM).view.ty.Contents (Elt F)) :
    (vbM).view.readAt (Elt F) (Rect.unit (s := S8x2048x128) off S1x768x128.size inb).toLoadRect f = kHead f t h := by
  subst ho; funext i
  refine congrArg f (funext fun a => Fin.ext ?_)
  match a with
  | ⟨0, _⟩ => show h.val + 1 * (i 0).val = h.val; have : (i 0).val < 1 := (i 0).isLt; omega
  | ⟨1, _⟩ => show wnd t + 1 * (i 1).val = (wnd t + (i 1).val) % 2048; have : (i 1).val < 768 := (i 1).isLt; unfold wnd; omega
  | ⟨2, _⟩ => show 0 + 1 * (i 2).val = (i 2).val; omega

theorem read_o (t : ℕ) (ht : t < 4) (off : Fin S1x2048x1024.rank → ℕ) (inb : ∀ a, off a + S1x512x1024.size a ≤ S1x2048x1024.size a) (ho : off = ![0, 512 * t, 0]) (f : (oM).view.ty.Contents (Elt F)) :
    (oM).view.readAt (Elt F) (Rect.unit (s := S1x2048x1024) off S1x512x1024.size inb).toLoadRect f = oRows f t := by
  subst ho; funext i
  refine congrArg f (funext fun a => Fin.ext ?_)
  match a with
  | ⟨0, _⟩ => show 0 + 1 * (i 0).val = 0; have : (i 0).val < 1 := (i 0).isLt; omega
  | ⟨1, _⟩ => show 512 * t + 1 * (i 1).val = (512 * t + (i 1).val) % 2048; have : (i 1).val < 512 := (i 1).isLt; omega
  | ⟨2, _⟩ => show 0 + 1 * (i 2).val = (i 2).val; omega

theorem read_wof  (off : Fin S1024x1024.rank → ℕ) (inb : ∀ a, off a + S1024x1024.size a ≤ S1024x1024.size a) (ho : off = ![0, 0]) (f : (wofM).view.ty.Contents (Elt F)) :
    (wofM).view.readAt (Elt F) (Rect.unit (s := S1024x1024) off S1024x1024.size inb).toLoadRect f = f := by
  subst ho; funext i
  refine congrArg f (funext fun a => Fin.ext ?_)
  match a with
  | ⟨0, _⟩ => show 0 + 1 * (i 0).val = (i 0).val; omega
  | ⟨1, _⟩ => show 0 + 1 * (i 1).val = (i 1).val; omega

/-! ### The offsets of the eight heads' accesses -/

theorem off_q2_0 (k : Fin k0_t2_loop.trips) : k0_off5 k = ![512 * k.val, 128 * 0] := k0_off5_eq k
theorem off_k2_0 : ∀ k : Fin k0_t2_loop.trips, k0_off6 k = ![((0 : Fin 8)).val, wnd k.val, 0] := by decide +kernel
theorem off_q2_1 (k : Fin k0_t2_loop.trips) : k0_off7 k = ![512 * k.val, 128 * 1] := k0_off7_eq k
theorem off_k2_1 : ∀ k : Fin k0_t2_loop.trips, k0_off8 k = ![((1 : Fin 8)).val, wnd k.val, 0] := by decide +kernel
theorem off_q2_2 (k : Fin k0_t2_loop.trips) : k0_off9 k = ![512 * k.val, 128 * 2] := k0_off9_eq k
theorem off_k2_2 : ∀ k : Fin k0_t2_loop.trips, k0_off10 k = ![((2 : Fin 8)).val, wnd k.val, 0] := by decide +kernel
theorem off_q2_3 (k : Fin k0_t2_loop.trips) : k0_off11 k = ![512 * k.val, 128 * 3] := k0_off11_eq k
theorem off_k2_3 : ∀ k : Fin k0_t2_loop.trips, k0_off12 k = ![((3 : Fin 8)).val, wnd k.val, 0] := by decide +kernel
theorem off_q2_4 (k : Fin k0_t2_loop.trips) : k0_off13 k = ![512 * k.val, 128 * 4] := k0_off13_eq k
theorem off_k2_4 : ∀ k : Fin k0_t2_loop.trips, k0_off14 k = ![((4 : Fin 8)).val, wnd k.val, 0] := by decide +kernel
theorem off_q2_5 (k : Fin k0_t2_loop.trips) : k0_off15 k = ![512 * k.val, 128 * 5] := k0_off15_eq k
theorem off_k2_5 : ∀ k : Fin k0_t2_loop.trips, k0_off16 k = ![((5 : Fin 8)).val, wnd k.val, 0] := by decide +kernel
theorem off_q2_6 (k : Fin k0_t2_loop.trips) : k0_off17 k = ![512 * k.val, 128 * 6] := k0_off17_eq k
theorem off_k2_6 : ∀ k : Fin k0_t2_loop.trips, k0_off18 k = ![((6 : Fin 8)).val, wnd k.val, 0] := by decide +kernel
theorem off_q2_7 (k : Fin k0_t2_loop.trips) : k0_off19 k = ![512 * k.val, 128 * 7] := k0_off19_eq k
theorem off_k2_7 : ∀ k : Fin k0_t2_loop.trips, k0_off20 k = ![((7 : Fin 8)).val, wnd k.val, 0] := by decide +kernel
theorem off_q4_0 (k : Fin k0_t4_loop.trips) : k0_off25 k = ![512 * k.val, 128 * 0] := k0_off25_eq k
theorem off_k4_0 : ∀ k : Fin k0_t4_loop.trips, k0_off26 k = ![((0 : Fin 8)).val, wnd k.val, 0] := by decide +kernel
theorem off_q4_1 (k : Fin k0_t4_loop.trips) : k0_off27 k = ![512 * k.val, 128 * 1] := k0_off27_eq k
theorem off_k4_1 : ∀ k : Fin k0_t4_loop.trips, k0_off28 k = ![((1 : Fin 8)).val, wnd k.val, 0] := by decide +kernel
theorem off_q4_2 (k : Fin k0_t4_loop.trips) : k0_off29 k = ![512 * k.val, 128 * 2] := k0_off29_eq k
theorem off_k4_2 : ∀ k : Fin k0_t4_loop.trips, k0_off30 k = ![((2 : Fin 8)).val, wnd k.val, 0] := by decide +kernel
theorem off_q4_3 (k : Fin k0_t4_loop.trips) : k0_off31 k = ![512 * k.val, 128 * 3] := k0_off31_eq k
theorem off_k4_3 : ∀ k : Fin k0_t4_loop.trips, k0_off32 k = ![((3 : Fin 8)).val, wnd k.val, 0] := by decide +kernel
theorem off_q4_4 (k : Fin k0_t4_loop.trips) : k0_off33 k = ![512 * k.val, 128 * 4] := k0_off33_eq k
theorem off_k4_4 : ∀ k : Fin k0_t4_loop.trips, k0_off34 k = ![((4 : Fin 8)).val, wnd k.val, 0] := by decide +kernel
theorem off_q4_5 (k : Fin k0_t4_loop.trips) : k0_off35 k = ![512 * k.val, 128 * 5] := k0_off35_eq k
theorem off_k4_5 : ∀ k : Fin k0_t4_loop.trips, k0_off36 k = ![((5 : Fin 8)).val, wnd k.val, 0] := by decide +kernel
theorem off_q4_6 (k : Fin k0_t4_loop.trips) : k0_off37 k = ![512 * k.val, 128 * 6] := k0_off37_eq k
theorem off_k4_6 : ∀ k : Fin k0_t4_loop.trips, k0_off38 k = ![((6 : Fin 8)).val, wnd k.val, 0] := by decide +kernel
theorem off_q4_7 (k : Fin k0_t4_loop.trips) : k0_off39 k = ![512 * k.val, 128 * 7] := k0_off39_eq k
theorem off_k4_7 : ∀ k : Fin k0_t4_loop.trips, k0_off40 k = ![((7 : Fin 8)).val, wnd k.val, 0] := by decide +kernel

/-! ## What the loops leave -/

/-- The queries: at column `j` of row `i` the projection by the right-going half (`j < 512`) or by the left-going half. -/
def qTgt (X : S2048x1024.Idx → F .bf16) (A C : Vec F S1x1024x512 .bf16) : S2048x1024.Idx → F .bf16 := fun y =>
  if h : (y 1).val < 512 then k0_pay27 (xbRows X ((y 0).val / 512)) A (ix2 ⟨(y 0).val % 512, Nat.mod_lt _ (by decide)⟩ ⟨(y 1).val, h⟩)
  else k0_pay28 (xbRows X ((y 0).val / 512)) C (ix2 ⟨(y 0).val % 512, Nat.mod_lt _ (by decide)⟩ ⟨(y 1).val - 512, by have : (y 1).val < 1024 := (y 1).isLt; omega⟩)

/-- One block of hop 0's result, and of hop 1's (added to the block `O` found there). -/
def oTile0 (k : Fin k0_t2_loop.trips) (Q : S2048x1024.Idx → F .bf16) (K V : S8x2048x128.Idx → F .f32) (W : S1024x1024.Idx → F .bf16) : Vec F S1x512x1024 .f32 :=
  k0_pay31 (k0_pay2 (F := F) 0#32 1#32 k)
    (k0_pay3 0#32 1#32 k (qHead Q k.val 0) (kHead K k.val 0) (kHead V k.val 0))
    (k0_pay4 (k0_pay2 (F := F) 0#32 1#32 k) (qHead Q k.val 1) (kHead K k.val 1) (kHead V k.val 1))
    (k0_pay5 (k0_pay2 (F := F) 0#32 1#32 k) (qHead Q k.val 2) (kHead K k.val 2) (kHead V k.val 2))
    (k0_pay6 (k0_pay2 (F := F) 0#32 1#32 k) (qHead Q k.val 3) (kHead K k.val 3) (kHead V k.val 3))
    (k0_pay7 (k0_pay2 (F := F) 0#32 1#32 k) (qHead Q k.val 4) (kHead K k.val 4) (kHead V k.val 4))
    (k0_pay9 (k0_pay2 (F := F) 0#32 1#32 k) (qHead Q k.val 5) (k0_pay8 (kHead K k.val 5)) (kHead V k.val 5))
    (k0_pay10 (k0_pay2 (F := F) 0#32 1#32 k) (qHead Q k.val 6) (kHead K k.val 6) (kHead V k.val 6))
    (qHead Q k.val 7) (k0_pay11 (kHead K k.val 7)) (kHead V k.val 7) W
def oTile1 (k : Fin k0_t4_loop.trips) (Q : S2048x1024.Idx → F .bf16) (K V : S8x2048x128.Idx → F .f32) (W : S1024x1024.Idx → F .bf16) (O : Vec F S1x512x1024 .f32) : Vec F S1x512x1024 .f32 :=
  k0_pay1 (k0_pay12 (F := F) 0#32 1#32 k)
    (k0_pay13 0#32 1#32 k (qHead Q k.val 0) (kHead K k.val 0) (kHead V k.val 0))
    (k0_pay14 (k0_pay12 (F := F) 0#32 1#32 k) (qHead Q k.val 1) (kHead K k.val 1) (kHead V k.val 1))
    (k0_pay15 (k0_pay12 (F := F) 0#32 1#32 k) (qHead Q k.val 2) (kHead K k.val 2) (kHead V k.val 2))
    (k0_pay16 (k0_pay12 (F := F) 0#32 1#32 k) (qHead Q k.val 3) (kHead K k.val 3) (kHead V k.val 3))
    (k0_pay17 (k0_pay12 (F := F) 0#32 1#32 k) (qHead Q k.val 4) (kHead K k.val 4) (kHead V k.val 4))
    (k0_pay19 (k0_pay12 (F := F) 0#32 1#32 k) (qHead Q k.val 5) (k0_pay18 (kHead K k.val 5)) (kHead V k.val 5))
    (k0_pay20 (k0_pay12 (F := F) 0#32 1#32 k) (qHead Q k.val 6) (kHead K k.val 6) (kHead V k.val 6))
    (qHead Q k.val 7) (k0_pay21 (kHead K k.val 7)) (kHead V k.val 7) W O

theorem trips2 : k0_t2_loop.trips = 4 := by decide
theorem trips4 : k0_t4_loop.trips = 4 := by decide

/-- The result after hop 0, and after hop 1 over what hop 0 left. -/
def oTgt0 (Q : S2048x1024.Idx → F .bf16) (K V : S8x2048x128.Idx → F .f32) (W : S1024x1024.Idx → F .bf16) : S1x2048x1024.Idx → F .f32 := fun y =>
  oTile0 ⟨(y 1).val / 512, by rw [trips2]; have : (y 1).val < 2048 := (y 1).isLt; omega⟩ Q K V W (ix3 0 ⟨(y 1).val % 512, Nat.mod_lt _ (by decide)⟩ (y 2))
def oTgt1 (Q : S2048x1024.Idx → F .bf16) (K V : S8x2048x128.Idx → F .f32) (W : S1024x1024.Idx → F .bf16) (O : S1x2048x1024.Idx → F .f32) : S1x2048x1024.Idx → F .f32 := fun y =>
  oTile1 ⟨(y 1).val / 512, by rw [trips4]; have : (y 1).val < 2048 := (y 1).isLt; omega⟩ Q K V W (oRows O ((y 1).val / 512)) (ix3 0 ⟨(y 1).val % 512, Nat.mod_lt _ (by decide)⟩ (y 2))

/-! ## What a trip's stores leave -/

/-- The two stores of a projection's trip: rows `512 t …` hold the target, the others are as they were. -/
theorem q_step (t : ℕ) (ht : t < 4) (X : S2048x1024.Idx → F .bf16) (A C : Vec F S1x1024x512 .bf16) (f : qM.view.ty.Contents (Elt F))
    (o1 o2 : Fin S2048x1024.rank → ℕ) (inb1 : ∀ a, o1 a + S512x512.size a ≤ S2048x1024.size a) (inb2 : ∀ a, o2 a + S512x512.size a ≤ S2048x1024.size a)
    (h1 : o1 = ![512 * t, 0]) (h2 : o2 = ![512 * t, 512]) (vx : Vec F S512x1024 .bf16) (hx : vx = xbRows X t) (va vc : Vec F S1x1024x512 .bf16) (ha : va = A) (hc : vc = C)
    (hf : ∀ y : S2048x1024.Idx, (y 0).val < 512 * t → f y = qTgt X A C y) :
    ∀ y : S2048x1024.Idx, (y 0).val < 512 * (t + 1) →
      qM.view.writes (Elt F) f [⟨Rect.unit (s := S2048x1024) o2 S512x512.size inb2, k0_pay28 vx vc⟩, ⟨Rect.unit (s := S2048x1024) o1 S512x512.size inb1, k0_pay27 vx va⟩] y = qTgt X A C y := by
  subst hx ha hc; intro y hy
  have hy0 : (y 0).val < 2048 := (y 0).isLt
  have hy1 : (y 1).val < 1024 := (y 1).isLt
  refine (congrFun (View.read_whole (Val := Elt F) cc0_scratch6 _) y).symm.trans ?_
  rcases Nat.lt_or_ge (y 0).val (512 * t) with hlt | hge
  · rw [View.read_writes_cons_unit_of_not_mem qM.view f inb2 _ _ y h2 0 (Or.inl hlt), View.read_writes_cons_unit_of_not_mem qM.view f inb1 _ _ y h1 0 (Or.inl hlt)]
    exact hf y hlt
  · have hq : (y 0).val / 512 = t := by omega
    rcases Nat.lt_or_ge (y 1).val 512 with hc | hc
    · rw [View.read_writes_cons_unit_of_not_mem qM.view f inb2 _ _ y h2 1 (Or.inl hc)]
      refine (View.read_writes_cons_unit_of_mem qM.view f inb1 _ _ y (ix2 ⟨(y 0).val % 512, Nat.mod_lt _ (by decide)⟩ ⟨(y 1).val, hc⟩) h1 (fun a => ?_)).trans ?_
      · match a with
        | ⟨0, _⟩ => show (y 0).val = 512 * t + (y 0).val % 512; omega
        | ⟨1, _⟩ => show (y 1).val = 0 + (y 1).val; omega
      · unfold qTgt; rw [dif_pos hc, hq]
    · refine (View.read_writes_cons_unit_of_mem qM.view f inb2 _ _ y (ix2 ⟨(y 0).val % 512, Nat.mod_lt _ (by decide)⟩ ⟨(y 1).val - 512, by omega⟩) h2 (fun a => ?_)).trans ?_
      · match a with
        | ⟨0, _⟩ => show (y 0).val = 512 * t + (y 0).val % 512; omega
        | ⟨1, _⟩ => show (y 1).val = 512 + ((y 1).val - 512); omega
      · unfold qTgt; rw [dif_neg (Nat.not_lt.mpr hc), hq]

/-- The one store of an attention trip: row `i` of block `t` holds the block's row, the others are as they were. -/
theorem o_step_mem (t : ℕ) (ht : t < 4) (w : Vec F S1x512x1024 .f32) (f : oM.view.ty.Contents (Elt F))
    (o1 : Fin S1x2048x1024.rank → ℕ) (inb1 : ∀ a, o1 a + S1x512x1024.size a ≤ S1x2048x1024.size a) (h1 : o1 = ![0, 512 * t, 0])
    (y : S1x2048x1024.Idx) (hy : (y 1).val / 512 = t) :
    oM.view.writes (Elt F) f [⟨Rect.unit (s := S1x2048x1024) o1 S1x512x1024.size inb1, w⟩] y = w (ix3 0 ⟨(y 1).val % 512, Nat.mod_lt _ (by decide)⟩ (y 2)) := by
  refine (congrFun (View.read_whole (Val := Elt F) cc0_stg3_0 _) y).symm.trans ?_
  refine View.read_writes_cons_unit_of_mem oM.view f inb1 _ _ y (ix3 0 ⟨(y 1).val % 512, Nat.mod_lt _ (by decide)⟩ (y 2)) h1 (fun a => ?_)
  match a with
  | ⟨0, _⟩ => show (y 0).val = 0 + 0; have : (y 0).val < 1 := (y 0).isLt; omega
  | ⟨1, _⟩ => show (y 1).val = 512 * t + (y 1).val % 512; omega
  | ⟨2, _⟩ => show (y 2).val = 0 + (y 2).val; omega
theorem o_step_not_mem (t : ℕ) (w : Vec F S1x512x1024 .f32) (f : oM.view.ty.Contents (Elt F))
    (o1 : Fin S1x2048x1024.rank → ℕ) (inb1 : ∀ a, o1 a + S1x512x1024.size a ≤ S1x2048x1024.size a) (h1 : o1 = ![0, 512 * t, 0])
    (y : S1x2048x1024.Idx) (hy : (y 1).val / 512 ≠ t) :
    oM.view.writes (Elt F) f [⟨Rect.unit (s := S1x2048x1024) o1 S1x512x1024.size inb1, w⟩] y = f y := by
  refine (congrFun (View.read_whole (Val := Elt F) cc0_stg3_0 _) y).symm.trans ?_
  refine (View.read_writes_cons_unit_of_not_mem oM.view f inb1 _ _ y h1 1 ?_).trans rfl
  show (y 1).val < 512 * t ∨ 512 * t + 512 ≤ (y 1).val
  omega

/-! ## The trips -/

/-- What the core holds of the buffers a projection reads and writes, before trip `k`: the activations, a slot of each
    half's weights (at any share), and the query buffer whose first `512 k` rows hold the target. -/
def projInv1 (c : Dev nD) (q : PosShare TreeShare) (X : S2048x1024.Idx → F .bf16) (A C : S2x1024x512.Idx → F .bf16) (k : ℕ) (_ : Unit) : sProp 𝕄 :=
  iprop((xbM.view.loc (c : Thread nD τ) ↦[xbM.view.set]{fullShare} X) ∗ winPts (F := F) aS0 c q A ∗ winPts (F := F) cS0 c q C
    ∗ (∃ f, (qM.view.loc (c : Thread nD τ) ↦[qM.view.set]{fullShare} f) ∗ ⌜∀ y : S2048x1024.Idx, (y 0).val < 512 * k → f y = qTgt X (slotQ A 1) (slotQ C 1) y⌝))
def projInv3 (c : Dev nD) (q : PosShare TreeShare) (X : S2048x1024.Idx → F .bf16) (A C : S2x1024x512.Idx → F .bf16) (k : ℕ) (_ : Unit) : sProp 𝕄 :=
  iprop((xbM.view.loc (c : Thread nD τ) ↦[xbM.view.set]{fullShare} X) ∗ winPts (F := F) aS1 c q A ∗ winPts (F := F) cS1 c q C
    ∗ (∃ f, (qM.view.loc (c : Thread nD τ) ↦[qM.view.set]{fullShare} f) ∗ ⌜∀ y : S2048x1024.Idx, (y 0).val < 512 * k → f y = qTgt X (slotQ A 0) (slotQ C 0) y⌝))
/-- The same for the attention blocks: queries, keys, values and output weights, and the result whose first `512 k` rows hold the target. -/
def attInv2 (c : Dev nD) (Q : S2048x1024.Idx → F .bf16) (K V : S8x2048x128.Idx → F .f32) (Wt : S1024x1024.Idx → F .bf16) (k : ℕ) (_ : Unit) : sProp 𝕄 :=
  iprop((wofM.view.loc (c : Thread nD τ) ↦[wofM.view.set]{fullShare} Wt) ∗ (qM.view.loc (c : Thread nD τ) ↦[qM.view.set]{fullShare} Q)
    ∗ (kbM.view.loc (c : Thread nD τ) ↦[kbM.view.set]{fullShare} K) ∗ (vbM.view.loc (c : Thread nD τ) ↦[vbM.view.set]{fullShare} V)
    ∗ (∃ f, (oM.view.loc (c : Thread nD τ) ↦[oM.view.set]{fullShare} f) ∗ ⌜∀ y : S1x2048x1024.Idx, (y 1).val < 512 * k → f y = oTgt0 Q K V Wt y⌝))
/-- On hop 1 the rows not yet reached still hold what hop 0 left, `O`. -/
def attInv4 (c : Dev nD) (Q : S2048x1024.Idx → F .bf16) (K V : S8x2048x128.Idx → F .f32) (Wt : S1024x1024.Idx → F .bf16) (O : S1x2048x1024.Idx → F .f32) (k : ℕ) (_ : Unit) : sProp 𝕄 :=
  iprop((wofM.view.loc (c : Thread nD τ) ↦[wofM.view.set]{fullShare} Wt) ∗ (qM.view.loc (c : Thread nD τ) ↦[qM.view.set]{fullShare} Q)
    ∗ (kbM.view.loc (c : Thread nD τ) ↦[kbM.view.set]{fullShare} K) ∗ (vbM.view.loc (c : Thread nD τ) ↦[vbM.view.set]{fullShare} V)
    ∗ (∃ f, (oM.view.loc (c : Thread nD τ) ↦[oM.view.set]{fullShare} f) ∗ ⌜∀ y : S1x2048x1024.Idx, f y = if (y 1).val < 512 * k then oTgt1 Q K V Wt O y else O y⌝))

theorem t1_trip (c d0 : Dev nD) (E : Set ℕ) (q : PosShare TreeShare) (X : S2048x1024.Idx → F .bf16) (A C : S2x1024x512.Idx → F .bf16) (k : Fin k0_t1_loop.trips) :
    projInv1 c q X A C k.val () ⊢ wp (M := 𝕄) frame (wpE (defs₀ (F := F)) 𝒱₀ (c : Thread nD τ) none) E (t1B d0 k ()) (projInv1 c q X A C (k.val + 1)) := by
  have hk : k.val < 4 := Nat.lt_of_lt_of_le k.isLt k0_t1_abs.2.1
  unfold t1B k0_t1_body projInv1
  iintro ⟨HX, HA, HC, %f, HQ, %hf⟩
  sl_exec
  sl_step
  isplitl [HX]; · iexact HX
  isplitl [HA]; · iexact HA
  isplitl [HC]; · iexact HC
  iexists _
  isplitl [HQ]; · iexact HQ
  ipureintro
  exact q_step k.val hk X (slotQ A 1) (slotQ C 1) f _ _ (k0_off3_inb k) (k0_off4_inb k) (k0_off3_eq k) (k0_off4_eq k)
    _ (read_x k.val hk _ (k0_off2_inb k) (k0_off2_eq k) X) _ _ (read_a1 _ inb_S2x1024x512_S1x1024x512_1_0_0 rfl A) (read_c1 _ inb_S2x1024x512_S1x1024x512_1_0_0 rfl C) hf

theorem t3_trip (c d0 : Dev nD) (E : Set ℕ) (q : PosShare TreeShare) (X : S2048x1024.Idx → F .bf16) (A C : S2x1024x512.Idx → F .bf16) (k : Fin k0_t3_loop.trips) :
    projInv3 c q X A C k.val () ⊢ wp (M := 𝕄) frame (wpE (defs₀ (F := F)) 𝒱₀ (c : Thread nD τ) none) E (t3B d0 k ()) (projInv3 c q X A C (k.val + 1)) := by
  have hk : k.val < 4 := Nat.lt_of_lt_of_le k.isLt k0_t3_abs.2.1
  unfold t3B k0_t3_body projInv3
  iintro ⟨HX, HA, HC, %f, HQ, %hf⟩
  sl_exec
  sl_step
  isplitl [HX]; · iexact HX
  isplitl [HA]; · iexact HA
  isplitl [HC]; · iexact HC
  iexists _
  isplitl [HQ]; · iexact HQ
  ipureintro
  exact q_step k.val hk X (slotQ A 0) (slotQ C 0) f _ _ (k0_off23_inb k) (k0_off24_inb k) (k0_off23_eq k) (k0_off24_eq k)
    _ (read_x k.val hk _ (k0_off22_inb k) (k0_off22_eq k) X) _ _ (read_a0 _ inb_S2x1024x512_S1x1024x512_0_0_0 rfl A) (read_c0 _ inb_S2x1024x512_S1x1024x512_0_0_0 rfl C) hf

theorem t2_trip (c : Dev nD) (d0 : Dev nD) (v7 : BitVec 32) (E : Set ℕ) (Q : S2048x1024.Idx → F .bf16) (K V : S8x2048x128.Idx → F .f32) (Wt : S1024x1024.Idx → F .bf16) (k : Fin k0_t2_loop.trips) :
    attInv2 c Q K V Wt k.val () ⊢ wp (M := 𝕄) frame (wpE (defs₀ (F := F)) 𝒱₀ (c : Thread nD τ) none) E (t2B d0 v7 k ()) (attInv2 c Q K V Wt (k.val + 1)) := by
  have hk : k.val < 4 := Nat.lt_of_lt_of_le k.isLt k0_t2_abs.2.1
  have e : oTile0 k Q K V Wt = oTile0 k Q K V Wt := rfl
  conv at e =>
    lhs
    unfold oTile0
    rw [← read_q k.val 0 hk (by decide) _ (k0_off5_inb k) (off_q2_0 k) Q,
      ← read_k k.val 0 _ (k0_off6_inb k) (off_k2_0 k) K,
      ← read_v k.val 0 _ (k0_off6_inb k) (off_k2_0 k) V,
      ← read_q k.val 1 hk (by decide) _ (k0_off7_inb k) (off_q2_1 k) Q,
      ← read_k k.val 1 _ (k0_off8_inb k) (off_k2_1 k) K,
      ← read_v k.val 1 _ (k0_off8_inb k) (off_k2_1 k) V,
      ← read_q k.val 2 hk (by decide) _ (k0_off9_inb k) (off_q2_2 k) Q,
      ← read_k k.val 2 _ (k0_off10_inb k) (off_k2_2 k) K,
      ← read_v k.val 2 _ (k0_off10_inb k) (off_k2_2 k) V,
      ← read_q k.val 3 hk (by decide) _ (k0_off11_inb k) (off_q2_3 k) Q,
      ← read_k k.val 3 _ (k0_off12_inb k) (off_k2_3 k) K,
      ← read_v k.val 3 _ (k0_off12_inb k) (off_k2_3 k) V,
      ← read_q k.val 4 hk (by decide) _ (k0_off13_inb k) (off_q2_4 k) Q,
      ← read_k k.val 4 _ (k0_off14_inb k) (off_k2_4 k) K,
      ← read_v k.val 4 _ (k0_off14_inb k) (off_k2_4 k) V,
      ← read_q k.val 5 hk (by decide) _ (k0_off15_inb k) (off_q2_5 k) Q,
      ← read_k k.val 5 _ (k0_off16_inb k) (off_k2_5 k) K,
      ← read_v k.val 5 _ (k0_off16_inb k) (off_k2_5 k) V,
      ← read_q k.val 6 hk (by decide) _ (k0_off17_inb k) (off_q2_6 k) Q,
      ← read_k k.val 6 _ (k0_off18_inb k) (off_k2_6 k) K,
      ← read_v k.val 6 _ (k0_off18_inb k) (off_k2_6 k) V,
      ← read_q k.val 7 hk (by decide) _ (k0_off19_inb k) (off_q2_7 k) Q,
      ← read_k k.val 7 _ (k0_off20_inb k) (off_k2_7 k) K,
      ← read_v k.val 7 _ (k0_off20_inb k) (off_k2_7 k) V,
      ← read_wof _ inb_S1024x1024_S1024x1024_0_0 rfl Wt]
  unfold t2B k0_t2_body attInv2
  iintro ⟨HW, HQ, HK, HV, %f, HO, %hf⟩
  sl_exec
  sl_step
  isplitl [HW]; · iexact HW
  isplitl [HQ]; · iexact HQ
  isplitl [HK]; · iexact HK
  isplitl [HV]; · iexact HV
  iexists _
  isplitl [HO]; · iexact HO
  ipureintro
  intro y hy
  by_cases hb : (y 1).val / 512 = k.val
  · refine (o_step_mem k.val hk _ f _ (k0_off21_inb k) (k0_off21_eq k) y hb).trans ?_
    have hk' : k = ⟨(y 1).val / 512, by rw [trips2]; have : (y 1).val < 2048 := (y 1).isLt; omega⟩ := Fin.ext hb.symm
    refine (congrFun e _).trans ?_
    unfold oTgt0
    rw [← hk']
  · refine (o_step_not_mem k.val _ f _ (k0_off21_inb k) (k0_off21_eq k) y hb).trans (hf y ?_)
    omega

theorem t4_trip (c : Dev nD) (E : Set ℕ) (Q : S2048x1024.Idx → F .bf16) (K V : S8x2048x128.Idx → F .f32) (Wt : S1024x1024.Idx → F .bf16) (O : S1x2048x1024.Idx → F .f32) (k : Fin k0_t4_loop.trips) :
    attInv4 c Q K V Wt O k.val () ⊢ wp (M := 𝕄) frame (wpE (defs₀ (F := F)) 𝒱₀ (c : Thread nD τ) none) E (t4B k ()) (attInv4 c Q K V Wt O (k.val + 1)) := by
  have hk : k.val < 4 := Nat.lt_of_lt_of_le k.isLt k0_t4_abs.2.1
  have e : oTile1 k Q K V Wt (oRows O k.val) = oTile1 k Q K V Wt (oRows O k.val) := rfl
  conv at e =>
    lhs
    unfold oTile1
    rw [← read_q k.val 0 hk (by decide) _ (k0_off25_inb k) (off_q4_0 k) Q,
      ← read_k k.val 0 _ (k0_off26_inb k) (off_k4_0 k) K,
      ← read_v k.val 0 _ (k0_off26_inb k) (off_k4_0 k) V,
      ← read_q k.val 1 hk (by decide) _ (k0_off27_inb k) (off_q4_1 k) Q,
      ← read_k k.val 1 _ (k0_off28_inb k) (off_k4_1 k) K,
      ← read_v k.val 1 _ (k0_off28_inb k) (off_k4_1 k) V,
      ← read_q k.val 2 hk (by decide) _ (k0_off29_inb k) (off_q4_2 k) Q,
      ← read_k k.val 2 _ (k0_off30_inb k) (off_k4_2 k) K,
      ← read_v k.val 2 _ (k0_off30_inb k) (off_k4_2 k) V,
      ← read_q k.val 3 hk (by decide) _ (k0_off31_inb k) (off_q4_3 k) Q,
      ← read_k k.val 3 _ (k0_off32_inb k) (off_k4_3 k) K,
      ← read_v k.val 3 _ (k0_off32_inb k) (off_k4_3 k) V,
      ← read_q k.val 4 hk (by decide) _ (k0_off33_inb k) (off_q4_4 k) Q,
      ← read_k k.val 4 _ (k0_off34_inb k) (off_k4_4 k) K,
      ← read_v k.val 4 _ (k0_off34_inb k) (off_k4_4 k) V,
      ← read_q k.val 5 hk (by decide) _ (k0_off35_inb k) (off_q4_5 k) Q,
      ← read_k k.val 5 _ (k0_off36_inb k) (off_k4_5 k) K,
      ← read_v k.val 5 _ (k0_off36_inb k) (off_k4_5 k) V,
      ← read_q k.val 6 hk (by decide) _ (k0_off37_inb k) (off_q4_6 k) Q,
      ← read_k k.val 6 _ (k0_off38_inb k) (off_k4_6 k) K,
      ← read_v k.val 6 _ (k0_off38_inb k) (off_k4_6 k) V,
      ← read_q k.val 7 hk (by decide) _ (k0_off39_inb k) (off_q4_7 k) Q,
      ← read_k k.val 7 _ (k0_off40_inb k) (off_k4_7 k) K,
      ← read_v k.val 7 _ (k0_off40_inb k) (off_k4_7 k) V,
      ← read_wof _ inb_S1024x1024_S1024x1024_0_0 rfl Wt]
  unfold t4B k0_t4_body attInv4
  iintro ⟨HW, HQ, HK, HV, %f, HO, %hf⟩
  sl_exec
  sl_step
  isplitl [HW]; · iexact HW
  isplitl [HQ]; · iexact HQ
  isplitl [HK]; · iexact HK
  isplitl [HV]; · iexact HV
  iexists _
  isplitl [HO]; · iexact HO
  ipureintro
  intro y
  by_cases hb : (y 1).val / 512 = k.val
  · have hrow : oRows f k.val = oRows O k.val := funext fun i => by
      refine (hf _).trans (if_neg ?_)
      have : (i 1).val < 512 := (i 1).isLt
      show ¬ (512 * k.val + (i 1).val) % 2048 < 512 * k.val
      omega
    rw [← hrow, ← read_o k.val hk _ (k0_off41_inb k) (k0_off41_eq k) f] at e
    refine (o_step_mem k.val hk _ f _ (k0_off41_inb k) (k0_off41_eq k) y hb).trans ?_
    have hk' : k = ⟨(y 1).val / 512, by rw [trips4]; have : (y 1).val < 2048 := (y 1).isLt; omega⟩ := Fin.ext hb.symm
    refine (congrFun e _).trans ?_
    rw [if_pos (by omega)]
    unfold oTgt1
    rw [← hk', hb, read_o k.val hk _ (k0_off41_inb k) (k0_off41_eq k) f, hrow]
  · refine (o_step_not_mem k.val _ f _ (k0_off41_inb k) (k0_off41_eq k) y hb).trans ((hf y).trans ?_)
    rcases Nat.lt_or_ge (y 1).val (512 * k.val) with h | h
    · rw [if_pos h, if_pos (by omega)]
    · rw [if_neg (by omega), if_neg (by omega)]

end Cert.MidIdeal.Slice

end
-- ==== Proof.Mid.Wins.lean ====
module

public import proofs.«01_k».proof.Proof.Mid.Trips
public import Idealize.ShloMosaic.Lib.Batch
public import Idealize.ShloMosaic.Lib.Writes
public import Idealize.ShloMosaic.Lib.WritesUnit
public import Idealize.ShloMosaic.Lib.WritesUnit
public import Idealize.ShloMosaic.Lib.WritesUnit

@[expose] public section

noncomputable section

namespace Cert.MidIdeal.Slice

open Cert.MidIdeal Cert.MidIdeal.Gen

open Idealize.ShloMosaic Idealize.ShloMosaic.Tactic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- The head windows of the two key and value buffers. -/
abbrev kbW0 : Memref sig .tc .vmem S2048x128 .f32 := (kbM.slice (Rect.unit (s := S8x2048x128) ![0, 0, 0] S1x2048x128.size inb_S8x2048x128_S1x2048x128_0_0_0) (fun _ => rfl)).squeeze S2048x128 squeezes_S1x2048x128_S2048x128
abbrev kbW1 : Memref sig .tc .vmem S2048x128 .f32 := (kbM.slice (Rect.unit (s := S8x2048x128) ![1, 0, 0] S1x2048x128.size inb_S8x2048x128_S1x2048x128_1_0_0) (fun _ => rfl)).squeeze S2048x128 squeezes_S1x2048x128_S2048x128
abbrev kbW2 : Memref sig .tc .vmem S2048x128 .f32 := (kbM.slice (Rect.unit (s := S8x2048x128) ![2, 0, 0] S1x2048x128.size inb_S8x2048x128_S1x2048x128_2_0_0) (fun _ => rfl)).squeeze S2048x128 squeezes_S1x2048x128_S2048x128
abbrev kbW3 : Memref sig .tc .vmem S2048x128 .f32 := (kbM.slice (Rect.unit (s := S8x2048x128) ![3, 0, 0] S1x2048x128.size inb_S8x2048x128_S1x2048x128_3_0_0) (fun _ => rfl)).squeeze S2048x128 squeezes_S1x2048x128_S2048x128
abbrev kbW4 : Memref sig .tc .vmem S2048x128 .f32 := (kbM.slice (Rect.unit (s := S8x2048x128) ![4, 0, 0] S1x2048x128.size inb_S8x2048x128_S1x2048x128_4_0_0) (fun _ => rfl)).squeeze S2048x128 squeezes_S1x2048x128_S2048x128
abbrev kbW5 : Memref sig .tc .vmem S2048x128 .f32 := (kbM.slice (Rect.unit (s := S8x2048x128) ![5, 0, 0] S1x2048x128.size inb_S8x2048x128_S1x2048x128_5_0_0) (fun _ => rfl)).squeeze S2048x128 squeezes_S1x2048x128_S2048x128
abbrev kbW6 : Memref sig .tc .vmem S2048x128 .f32 := (kbM.slice (Rect.unit (s := S8x2048x128) ![6, 0, 0] S1x2048x128.size inb_S8x2048x128_S1x2048x128_6_0_0) (fun _ => rfl)).squeeze S2048x128 squeezes_S1x2048x128_S2048x128
abbrev kbW7 : Memref sig .tc .vmem S2048x128 .f32 := (kbM.slice (Rect.unit (s := S8x2048x128) ![7, 0, 0] S1x2048x128.size inb_S8x2048x128_S1x2048x128_7_0_0) (fun _ => rfl)).squeeze S2048x128 squeezes_S1x2048x128_S2048x128
abbrev vbW0 : Memref sig .tc .vmem S2048x128 .f32 := (vbM.slice (Rect.unit (s := S8x2048x128) ![0, 0, 0] S1x2048x128.size inb_S8x2048x128_S1x2048x128_0_0_0) (fun _ => rfl)).squeeze S2048x128 squeezes_S1x2048x128_S2048x128
abbrev vbW1 : Memref sig .tc .vmem S2048x128 .f32 := (vbM.slice (Rect.unit (s := S8x2048x128) ![1, 0, 0] S1x2048x128.size inb_S8x2048x128_S1x2048x128_1_0_0) (fun _ => rfl)).squeeze S2048x128 squeezes_S1x2048x128_S2048x128
abbrev vbW2 : Memref sig .tc .vmem S2048x128 .f32 := (vbM.slice (Rect.unit (s := S8x2048x128) ![2, 0, 0] S1x2048x128.size inb_S8x2048x128_S1x2048x128_2_0_0) (fun _ => rfl)).squeeze S2048x128 squeezes_S1x2048x128_S2048x128
abbrev vbW3 : Memref sig .tc .vmem S2048x128 .f32 := (vbM.slice (Rect.unit (s := S8x2048x128) ![3, 0, 0] S1x2048x128.size inb_S8x2048x128_S1x2048x128_3_0_0) (fun _ => rfl)).squeeze S2048x128 squeezes_S1x2048x128_S2048x128
abbrev vbW4 : Memref sig .tc .vmem S2048x128 .f32 := (vbM.slice (Rect.unit (s := S8x2048x128) ![4, 0, 0] S1x2048x128.size inb_S8x2048x128_S1x2048x128_4_0_0) (fun _ => rfl)).squeeze S2048x128 squeezes_S1x2048x128_S2048x128
abbrev vbW5 : Memref sig .tc .vmem S2048x128 .f32 := (vbM.slice (Rect.unit (s := S8x2048x128) ![5, 0, 0] S1x2048x128.size inb_S8x2048x128_S1x2048x128_5_0_0) (fun _ => rfl)).squeeze S2048x128 squeezes_S1x2048x128_S2048x128
abbrev vbW6 : Memref sig .tc .vmem S2048x128 .f32 := (vbM.slice (Rect.unit (s := S8x2048x128) ![6, 0, 0] S1x2048x128.size inb_S8x2048x128_S1x2048x128_6_0_0) (fun _ => rfl)).squeeze S2048x128 squeezes_S1x2048x128_S2048x128
abbrev vbW7 : Memref sig .tc .vmem S2048x128 .f32 := (vbM.slice (Rect.unit (s := S8x2048x128) ![7, 0, 0] S1x2048x128.size inb_S8x2048x128_S1x2048x128_7_0_0) (fun _ => rfl)).squeeze S2048x128 squeezes_S1x2048x128_S2048x128

/-! ## Where the windows lie -/

/-- A matrix index behind a unit axis in front. -/
theorem resh3 {a b : ℕ} (h : (⟨2, ![a, b]⟩ : Shape).numel = (⟨3, ![1, a, b]⟩ : Shape).numel) (z : (⟨2, ![a, b]⟩ : Shape).Idx) :
    Shape.reshapeEquiv h z = ix3 (a := 1) (b := a) (c := b) ⟨0, Nat.one_pos⟩ (z 0) (z 1) :=
  Shape.reshapeEquiv_eq_of_rowMajor h (by
    rw [Shape.rowMajor_val_three, Shape.rowMajor_val_two]
    show ((0 * a + (z 0).val) * b + (z 1).val) = (z 0).val * b + (z 1).val
    rw [Nat.zero_mul, Nat.zero_add])

/-- An index of four coordinates. -/
def ix4 {a b c d : ℕ} (i : Fin a) (j : Fin b) (k : Fin c) (l : Fin d) : Shape.Idx ⟨4, ![a, b, c, d]⟩ :=
  fun | ⟨0, _⟩ => i | ⟨1, _⟩ => j | ⟨2, _⟩ => k | ⟨3, _⟩ => l

/-- A matrix index with unit axes in front of its row and of its column. -/
theorem resh4 {a b : ℕ} (h : (⟨2, ![a, b]⟩ : Shape).numel = (⟨4, ![1, a, 1, b]⟩ : Shape).numel) (z : (⟨2, ![a, b]⟩ : Shape).Idx) :
    Shape.reshapeEquiv h z = ix4 (a := 1) (b := a) (c := 1) (d := b) ⟨0, Nat.one_pos⟩ (z 0) ⟨0, Nat.one_pos⟩ (z 1) :=
  Shape.reshapeEquiv_eq_of_rowMajor h (by
    rw [Shape.rowMajor_val_four, Shape.rowMajor_val_two]
    show (((0 * a + (z 0).val) * 1 + 0) * b + (z 1).val) = (z 0).val * b + (z 1).val
    rw [Nat.zero_mul, Nat.zero_add, Nat.mul_one, Nat.add_zero])

/-- Slot `s` of a two-slot buffer, or head `s` of an eight-head one: the window's element at `z`. -/
theorem slot_emb {n a b : ℕ} {sp : Space} {e : EltTy} (M : Memref sig .tc sp ⟨3, ![n, a, b]⟩ e) (s : ℕ) (hs : s < n)
    (inb : ∀ x, (![s, 0, 0] : Fin 3 → ℕ) x + (⟨3, ![1, a, b]⟩ : Shape).size x ≤ (⟨3, ![n, a, b]⟩ : Shape).size x)
    (hr) (hq : (⟨3, ![1, a, b]⟩ : Shape).Squeezes ⟨2, ![a, b]⟩) (z : (⟨2, ![a, b]⟩ : Shape).Idx) :
    ((M.slice (Rect.unit (s := ⟨3, ![n, a, b]⟩) ![s, 0, 0] (⟨3, ![1, a, b]⟩ : Shape).size inb) hr).squeeze ⟨2, ![a, b]⟩ hq).view.emb z
      = M.view.emb (ix3 (a := n) (b := a) (c := b) ⟨s, hs⟩ (z 0) (z 1)) := by
  have h1 : ((M.slice (Rect.unit (s := ⟨3, ![n, a, b]⟩) ![s, 0, 0] (⟨3, ![1, a, b]⟩ : Shape).size inb) hr).squeeze ⟨2, ![a, b]⟩ hq).view.emb z
      = M.view.emb ((Rect.unit (s := ⟨3, ![n, a, b]⟩) ![s, 0, 0] (⟨3, ![1, a, b]⟩ : Shape).size inb).emb (Shape.reshapeEquiv hq.numel_eq z)) := rfl
  rw [h1, resh3]
  congr 1
  funext x
  apply Fin.ext
  rw [Rect.emb_apply]
  match x with
  | ⟨0, _⟩ => show s + 1 * 0 = s; omega
  | ⟨1, _⟩ => show 0 + 1 * (z 0).val = (z 0).val; omega
  | ⟨2, _⟩ => show 0 + 1 * (z 1).val = (z 1).val; omega

/-- One head of one batch of the keys or the values, read through its window. -/
theorem head_read {sp : Space} (M : Memref sig .tc sp S4x2048x32x128 .f32) (off : Fin 4 → ℕ) (i : Fin 4) (g : Fin 32)
    (ho : off = ![i.val, 0, g.val, 0]) (inb : ∀ x, off x + S1x2048x1x128.size x ≤ S4x2048x32x128.size x)
    (hr) (hq : S1x2048x1x128.Squeezes S2048x128) (f : M.view.ty.Contents (Elt F)) (z : S2048x128.Idx) :
    ((M.slice (Rect.unit (s := S4x2048x32x128) off S1x2048x1x128.size inb) hr).squeeze S2048x128 hq).view.read (Elt F) f z
      = M.view.read (Elt F) f (ix4 (a := 4) (b := 2048) (c := 32) (d := 128) i (z 0) g (z 1)) := by
  subst ho
  have h1 : ((M.slice (Rect.unit (s := S4x2048x32x128) ![i.val, 0, g.val, 0] S1x2048x1x128.size inb) hr).squeeze S2048x128 hq).view.read (Elt F) f z
      = M.view.read (Elt F) f ((Rect.unit (s := S4x2048x32x128) ![i.val, 0, g.val, 0] S1x2048x1x128.size inb).emb (Shape.reshapeEquiv hq.numel_eq z)) := rfl
  rw [h1]
  refine congrArg _ ?_
  rw [resh4 (a := 2048) (b := 128) hq.numel_eq z]
  funext x
  apply Fin.ext
  rw [Rect.emb_apply]
  match x with
  | ⟨0, _⟩ => show i.val + 1 * 0 = i.val; omega
  | ⟨1, _⟩ => show 0 + 1 * (z 0).val = (z 0).val; omega
  | ⟨2, _⟩ => show g.val + 1 * 0 = g.val; omega
  | ⟨3, _⟩ => show 0 + 1 * (z 1).val = (z 1).val; omega

/-- A window that a copy has filled holds any contents that agree with the copied vector on it. -/
theorem landed {s : Shape} {e : EltTy} (W : Memref sig .tc .vmem s e) (c : Dev nD) (q : PosShare TreeShare)
    (f G : W.view.ty.Contents (Elt F)) (v : s.Idx → Elt F e) (h : ∀ z, v z = W.view.read (Elt F) G z) :
    (W.view.loc (c : Thread nD τ) ↦[W.view.set]{q} W.view.writes (Elt F) f [⟨Rect.whole s, v⟩] : sProp 𝕄) ⊢ W.view.loc (c : Thread nD τ) ↦[W.view.set]{q} G := by
  refine Entails.of_eq (pointsTo_congr fun i hi => ?_)
  obtain ⟨z, _, rfl⟩ := Finset.mem_map.mp hi
  have h1 := h z
  have h2 := View.read_writes_cons_emb (Val := Elt F) W.view f (Rect.whole s) v [] z
  rw [Rect.emb_whole_apply] at h2
  rw [← h2] at h1
  exact (Equiv.cast (congrArg (Elt F) W.view.elt_eq)).injective h1

/-- The same of a copy's own write. -/
theorem landed' {s : Shape} {e : EltTy} (W : Memref sig .tc .vmem s e) (c : Dev nD) (q : PosShare TreeShare)
    (f G : W.view.ty.Contents (Elt F)) (v : s.Idx → Elt F e) (h : ∀ z, v z = W.view.read (Elt F) G z) :
    (W.view.loc (c : Thread nD τ) ↦[W.view.set]{q} W.view.write (Elt F) f v Finset.univ : sProp 𝕄) ⊢ W.view.loc (c : Thread nD τ) ↦[W.view.set]{q} G := by
  refine Entails.of_eq (pointsTo_congr fun i hi => ?_)
  obtain ⟨z, _, rfl⟩ := Finset.mem_map.mp hi
  have h1 := h z
  have h2 := congrFun (View.read_write_univ (Val := Elt F) (v := W.view) f v) z
  rw [← h2] at h1
  exact (Equiv.cast (congrArg (Elt F) W.view.elt_eq)).injective h1

/-! ## The head windows -/

/-- Heads of the key and value buffers, as sets of indices. -/
def headSet (i : Fin 8) : Finset S8x2048x128.Idx := Finset.univ.filter fun y => (y 0).val = i.val

theorem headSet_disj : ∀ t ∈ (Finset.univ : Finset (Fin 8)), ∀ t' ∈ (Finset.univ : Finset (Fin 8)), t ≠ t' → Disjoint (headSet t) (headSet t') := by
  intro t _ t' _ hne
  rw [Finset.disjoint_left]
  intro y h h'
  exact hne (Fin.ext ((Finset.mem_filter.mp h).2.symm.trans (Finset.mem_filter.mp h').2))

theorem headSet_union : (Finset.univ : Finset (Fin 8)).biUnion headSet = Finset.univ :=
  Finset.eq_univ_iff_forall.mpr fun y => Finset.mem_biUnion.mpr ⟨(⟨(y 0).val, (y 0).isLt⟩ : Fin 8), Finset.mem_univ _, Finset.mem_filter.mpr ⟨Finset.mem_univ _, rfl⟩⟩

/-- The window of head `i` is the head's elements. -/
theorem kb_set (i : ℕ) (hi : i < 8) (inb : ∀ x, (![i, 0, 0] : Fin 3 → ℕ) x + S1x2048x128.size x ≤ S8x2048x128.size x) (hr) (hq : S1x2048x128.Squeezes S2048x128) :
    ((kbM.slice (Rect.unit (s := S8x2048x128) ![i, 0, 0] S1x2048x128.size inb) hr).squeeze S2048x128 hq).view.set = headSet ⟨i, hi⟩ := by
  ext y
  constructor
  · intro h
    obtain ⟨z, _, rfl⟩ := Finset.mem_map.mp h
    rw [slot_emb (n := 8) (a := 2048) (b := 128) kbM i hi inb hr hq z]
    exact Finset.mem_filter.mpr ⟨Finset.mem_univ _, rfl⟩
  · intro h
    have h0 := (Finset.mem_filter.mp h).2
    refine Finset.mem_map.mpr ⟨ix2 (a := 2048) (b := 128) (y 1) (y 2), Finset.mem_univ _, ?_⟩
    rw [slot_emb (n := 8) (a := 2048) (b := 128) kbM i hi inb hr hq _]
    show ix3 (a := 8) (b := 2048) (c := 128) ⟨i, hi⟩ (y 1) (y 2) = y
    funext x
    match x with
    | ⟨0, _⟩ => exact Fin.ext h0.symm
    | ⟨1, _⟩ => rfl
    | ⟨2, _⟩ => rfl

/-- The buffer held whole is its eight head windows held. -/
theorem kb_split (c : Dev nD) (f : S8x2048x128.Idx → F .f32) :
    (kbM.view.loc (c : Thread nD τ) ↦[kbM.view.set]{fullShare} f : sProp 𝕄)
      = iprop(winPts kbW0 c fullShare f ∗ winPts kbW1 c fullShare f ∗ winPts kbW2 c fullShare f ∗ winPts kbW3 c fullShare f ∗ winPts kbW4 c fullShare f ∗ winPts kbW5 c fullShare f ∗ winPts kbW6 c fullShare f ∗ winPts kbW7 c fullShare f) := by
  have h0 : (kbM.view.set : Finset S8x2048x128.Idx) = (Finset.univ : Finset (Fin 8)).biUnion headSet := by
    rw [headSet_union]; exact (Memref.isWhole_whole _).set_eq_univ
  have h1 : (kbM.view.loc (c : Thread nD τ) ↦[kbM.view.set]{fullShare} f : sProp 𝕄)
      = bigSep Finset.univ fun t : Fin 8 => (kbM.view.loc (c : Thread nD τ) ↦[headSet t]{fullShare} f : sProp 𝕄) :=
    (congrArg (fun S => (kbM.view.loc (c : Thread nD τ) ↦[S]{fullShare} f : sProp 𝕄)) h0).trans (pointsTo_biUnion _ _ headSet_disj)
  rw [h1, bigSep_univ_eq_bigSepL [0, 1, 2, 3, 4, 5, 6, 7] (by decide) (by decide)]
  simp only [bigSepL_cons_cons, bigSepL_singleton]
  unfold winPts
  rw [kb_set 0 (by decide) inb_S8x2048x128_S1x2048x128_0_0_0 (fun _ => rfl) squeezes_S1x2048x128_S2048x128]
  rw [kb_set 1 (by decide) inb_S8x2048x128_S1x2048x128_1_0_0 (fun _ => rfl) squeezes_S1x2048x128_S2048x128]
  rw [kb_set 2 (by decide) inb_S8x2048x128_S1x2048x128_2_0_0 (fun _ => rfl) squeezes_S1x2048x128_S2048x128]
  rw [kb_set 3 (by decide) inb_S8x2048x128_S1x2048x128_3_0_0 (fun _ => rfl) squeezes_S1x2048x128_S2048x128]
  rw [kb_set 4 (by decide) inb_S8x2048x128_S1x2048x128_4_0_0 (fun _ => rfl) squeezes_S1x2048x128_S2048x128]
  rw [kb_set 5 (by decide) inb_S8x2048x128_S1x2048x128_5_0_0 (fun _ => rfl) squeezes_S1x2048x128_S2048x128]
  rw [kb_set 6 (by decide) inb_S8x2048x128_S1x2048x128_6_0_0 (fun _ => rfl) squeezes_S1x2048x128_S2048x128]
  rw [kb_set 7 (by decide) inb_S8x2048x128_S1x2048x128_7_0_0 (fun _ => rfl) squeezes_S1x2048x128_S2048x128]
  rfl

/-- The window of head `i` is the head's elements. -/
theorem vb_set (i : ℕ) (hi : i < 8) (inb : ∀ x, (![i, 0, 0] : Fin 3 → ℕ) x + S1x2048x128.size x ≤ S8x2048x128.size x) (hr) (hq : S1x2048x128.Squeezes S2048x128) :
    ((vbM.slice (Rect.unit (s := S8x2048x128) ![i, 0, 0] S1x2048x128.size inb) hr).squeeze S2048x128 hq).view.set = headSet ⟨i, hi⟩ := by
  ext y
  constructor
  · intro h
    obtain ⟨z, _, rfl⟩ := Finset.mem_map.mp h
    rw [slot_emb (n := 8) (a := 2048) (b := 128) vbM i hi inb hr hq z]
    exact Finset.mem_filter.mpr ⟨Finset.mem_univ _, rfl⟩
  · intro h
    have h0 := (Finset.mem_filter.mp h).2
    refine Finset.mem_map.mpr ⟨ix2 (a := 2048) (b := 128) (y 1) (y 2), Finset.mem_univ _, ?_⟩
    rw [slot_emb (n := 8) (a := 2048) (b := 128) vbM i hi inb hr hq _]
    show ix3 (a := 8) (b := 2048) (c := 128) ⟨i, hi⟩ (y 1) (y 2) = y
    funext x
    match x with
    | ⟨0, _⟩ => exact Fin.ext h0.symm
    | ⟨1, _⟩ => rfl
    | ⟨2, _⟩ => rfl

/-- The buffer held whole is its eight head windows held. -/
theorem vb_split (c : Dev nD) (f : S8x2048x128.Idx → F .f32) :
    (vbM.view.loc (c : Thread nD τ) ↦[vbM.view.set]{fullShare} f : sProp 𝕄)
      = iprop(winPts vbW0 c fullShare f ∗ winPts vbW1 c fullShare f ∗ winPts vbW2 c fullShare f ∗ winPts vbW3 c fullShare f ∗ winPts vbW4 c fullShare f ∗ winPts vbW5 c fullShare f ∗ winPts vbW6 c fullShare f ∗ winPts vbW7 c fullShare f) := by
  have h0 : (vbM.view.set : Finset S8x2048x128.Idx) = (Finset.univ : Finset (Fin 8)).biUnion headSet := by
    rw [headSet_union]; exact (Memref.isWhole_whole _).set_eq_univ
  have h1 : (vbM.view.loc (c : Thread nD τ) ↦[vbM.view.set]{fullShare} f : sProp 𝕄)
      = bigSep Finset.univ fun t : Fin 8 => (vbM.view.loc (c : Thread nD τ) ↦[headSet t]{fullShare} f : sProp 𝕄) :=
    (congrArg (fun S => (vbM.view.loc (c : Thread nD τ) ↦[S]{fullShare} f : sProp 𝕄)) h0).trans (pointsTo_biUnion _ _ headSet_disj)
  rw [h1, bigSep_univ_eq_bigSepL [0, 1, 2, 3, 4, 5, 6, 7] (by decide) (by decide)]
  simp only [bigSepL_cons_cons, bigSepL_singleton]
  unfold winPts
  rw [vb_set 0 (by decide) inb_S8x2048x128_S1x2048x128_0_0_0 (fun _ => rfl) squeezes_S1x2048x128_S2048x128]
  rw [vb_set 1 (by decide) inb_S8x2048x128_S1x2048x128_1_0_0 (fun _ => rfl) squeezes_S1x2048x128_S2048x128]
  rw [vb_set 2 (by decide) inb_S8x2048x128_S1x2048x128_2_0_0 (fun _ => rfl) squeezes_S1x2048x128_S2048x128]
  rw [vb_set 3 (by decide) inb_S8x2048x128_S1x2048x128_3_0_0 (fun _ => rfl) squeezes_S1x2048x128_S2048x128]
  rw [vb_set 4 (by decide) inb_S8x2048x128_S1x2048x128_4_0_0 (fun _ => rfl) squeezes_S1x2048x128_S2048x128]
  rw [vb_set 5 (by decide) inb_S8x2048x128_S1x2048x128_5_0_0 (fun _ => rfl) squeezes_S1x2048x128_S2048x128]
  rw [vb_set 6 (by decide) inb_S8x2048x128_S1x2048x128_6_0_0 (fun _ => rfl) squeezes_S1x2048x128_S2048x128]
  rw [vb_set 7 (by decide) inb_S8x2048x128_S1x2048x128_7_0_0 (fun _ => rfl) squeezes_S1x2048x128_S2048x128]
  rfl

/-! ## The slots of the ring's buffers -/

/-- Where the slots of `aM` lie. -/
theorem aS_set (i : ℕ) (hi : i < 2) (inb : ∀ x, (![i, 0, 0] : Fin 3 → ℕ) x + S1x1024x512.size x ≤ S2x1024x512.size x) (hr) (hq : S1x1024x512.Squeezes S1024x512) :
    ((aM.slice (Rect.unit (s := S2x1024x512) ![i, 0, 0] S1x1024x512.size inb) hr).squeeze S1024x512 hq).view.set = (Finset.univ.filter fun y : S2x1024x512.Idx => (y 0).val = i) := by
  ext y
  constructor
  · intro h
    obtain ⟨z, _, rfl⟩ := Finset.mem_map.mp h
    rw [slot_emb (n := 2) (a := 1024) (b := 512) aM i hi inb hr hq z]
    exact Finset.mem_filter.mpr ⟨Finset.mem_univ _, rfl⟩
  · intro h
    have h0 := (Finset.mem_filter.mp h).2
    refine Finset.mem_map.mpr ⟨ix2 (a := 1024) (b := 512) (y 1) (y 2), Finset.mem_univ _, ?_⟩
    rw [slot_emb (n := 2) (a := 1024) (b := 512) aM i hi inb hr hq _]
    show ix3 (a := 2) (b := 1024) (c := 512) ⟨i, hi⟩ (y 1) (y 2) = y
    funext x
    match x with
    | ⟨0, _⟩ => exact Fin.ext h0.symm
    | ⟨1, _⟩ => rfl
    | ⟨2, _⟩ => rfl

theorem aS0_mem (y : S2x1024x512.Idx) : y ∈ (aS0.view.set : Finset S2x1024x512.Idx) ↔ (y 0).val = 1 := by
  have h := aS_set 1 (by decide) inb_S2x1024x512_S1x1024x512_1_0_0 (fun _ => rfl) squeezes_S1x1024x512_S1024x512
  rw [show (aS0.view.set : Finset S2x1024x512.Idx) = _ from h]; simp

theorem aS1_mem (y : S2x1024x512.Idx) : y ∈ (aS1.view.set : Finset S2x1024x512.Idx) ↔ (y 0).val = 0 := by
  have h := aS_set 0 (by decide) inb_S2x1024x512_S1x1024x512_0_0_0 (fun _ => rfl) squeezes_S1x1024x512_S1024x512
  rw [show (aS1.view.set : Finset S2x1024x512.Idx) = _ from h]; simp

/-- The buffer held whole is its two slots held. -/
theorem a_split (c : Dev nD) (f : S2x1024x512.Idx → F .bf16) :
    (aM.view.loc (c : Thread nD τ) ↦[aM.view.set]{fullShare} f : sProp 𝕄) ⊣⊢ iprop(winPts aS0 c fullShare f ∗ winPts aS1 c fullShare f) := by
  have h0 : (aM.view.set : Finset S2x1024x512.Idx) = aS0.view.set ∪ aS1.view.set := by
    rw [(Memref.isWhole_whole _).set_eq_univ]
    refine (Finset.eq_univ_iff_forall.mpr fun y => Finset.mem_union.mpr ?_).symm
    rw [aS0_mem, aS1_mem]
    have : (y 0).val < 2 := (y 0).isLt
    omega
  rw [show (aM.view.loc (c : Thread nD τ) ↦[aM.view.set]{fullShare} f : sProp 𝕄) = (aM.view.loc (c : Thread nD τ) ↦[aS0.view.set ∪ aS1.view.set]{fullShare} f : sProp 𝕄) from
    congrArg (fun S => (aM.view.loc (c : Thread nD τ) ↦[S]{fullShare} f : sProp 𝕄)) h0]
  refine pointsTo_union ?_
  rw [Finset.disjoint_left]
  intro y h h'
  have e := (aS0_mem y).mp h
  have e' := (aS1_mem y).mp h'
  omega

/-- The two slots, at whatever contents, are the buffer at some contents. -/
theorem a_join (c : Dev nD) (f g : S2x1024x512.Idx → F .bf16) :
    iprop(winPts aS0 c fullShare f ∗ winPts aS1 c fullShare g) ⊢ (iprop(∃ h, aM.view.loc (c : Thread nD τ) ↦[aM.view.set]{fullShare} h) : sProp 𝕄) := by
  let h : S2x1024x512.Idx → F .bf16 := fun y => if (y 0).val = 1 then f y else g y
  have e0 : (winPts aS0 c fullShare f : sProp 𝕄) = winPts aS0 c fullShare h :=
    pointsTo_congr fun y hy => (if_pos ((aS0_mem y).mp hy)).symm
  have e1 : (winPts aS1 c fullShare g : sProp 𝕄) = winPts aS1 c fullShare h :=
    pointsTo_congr fun y hy => (if_neg (by have := (aS1_mem y).mp hy; omega)).symm
  rw [e0, e1]
  iintro H
  iexists h
  iapply (a_split c h).2 $$ H

/-- Where the slots of `bM` lie. -/
theorem bS_set (i : ℕ) (hi : i < 2) (inb : ∀ x, (![i, 0, 0] : Fin 3 → ℕ) x + S1x512x1024.size x ≤ S2x512x1024.size x) (hr) (hq : S1x512x1024.Squeezes S512x1024) :
    ((bM.slice (Rect.unit (s := S2x512x1024) ![i, 0, 0] S1x512x1024.size inb) hr).squeeze S512x1024 hq).view.set = (Finset.univ.filter fun y : S2x512x1024.Idx => (y 0).val = i) := by
  ext y
  constructor
  · intro h
    obtain ⟨z, _, rfl⟩ := Finset.mem_map.mp h
    rw [slot_emb (n := 2) (a := 512) (b := 1024) bM i hi inb hr hq z]
    exact Finset.mem_filter.mpr ⟨Finset.mem_univ _, rfl⟩
  · intro h
    have h0 := (Finset.mem_filter.mp h).2
    refine Finset.mem_map.mpr ⟨ix2 (a := 512) (b := 1024) (y 1) (y 2), Finset.mem_univ _, ?_⟩
    rw [slot_emb (n := 2) (a := 512) (b := 1024) bM i hi inb hr hq _]
    show ix3 (a := 2) (b := 512) (c := 1024) ⟨i, hi⟩ (y 1) (y 2) = y
    funext x
    match x with
    | ⟨0, _⟩ => exact Fin.ext h0.symm
    | ⟨1, _⟩ => rfl
    | ⟨2, _⟩ => rfl

theorem bS0_mem (y : S2x512x1024.Idx) : y ∈ (bS0.view.set : Finset S2x512x1024.Idx) ↔ (y 0).val = 1 := by
  have h := bS_set 1 (by decide) inb_S2x512x1024_S1x512x1024_1_0_0 (fun _ => rfl) squeezes_S1x512x1024_S512x1024
  rw [show (bS0.view.set : Finset S2x512x1024.Idx) = _ from h]; simp

theorem bS1_mem (y : S2x512x1024.Idx) : y ∈ (bS1.view.set : Finset S2x512x1024.Idx) ↔ (y 0).val = 0 := by
  have h := bS_set 0 (by decide) inb_S2x512x1024_S1x512x1024_0_0_0 (fun _ => rfl) squeezes_S1x512x1024_S512x1024
  rw [show (bS1.view.set : Finset S2x512x1024.Idx) = _ from h]; simp

/-- The buffer held whole is its two slots held. -/
theorem b_split (c : Dev nD) (f : S2x512x1024.Idx → F .bf16) :
    (bM.view.loc (c : Thread nD τ) ↦[bM.view.set]{fullShare} f : sProp 𝕄) ⊣⊢ iprop(winPts bS0 c fullShare f ∗ winPts bS1 c fullShare f) := by
  have h0 : (bM.view.set : Finset S2x512x1024.Idx) = bS0.view.set ∪ bS1.view.set := by
    rw [(Memref.isWhole_whole _).set_eq_univ]
    refine (Finset.eq_univ_iff_forall.mpr fun y => Finset.mem_union.mpr ?_).symm
    rw [bS0_mem, bS1_mem]
    have : (y 0).val < 2 := (y 0).isLt
    omega
  rw [show (bM.view.loc (c : Thread nD τ) ↦[bM.view.set]{fullShare} f : sProp 𝕄) = (bM.view.loc (c : Thread nD τ) ↦[bS0.view.set ∪ bS1.view.set]{fullShare} f : sProp 𝕄) from
    congrArg (fun S => (bM.view.loc (c : Thread nD τ) ↦[S]{fullShare} f : sProp 𝕄)) h0]
  refine pointsTo_union ?_
  rw [Finset.disjoint_left]
  intro y h h'
  have e := (bS0_mem y).mp h
  have e' := (bS1_mem y).mp h'
  omega

/-- The two slots, at whatever contents, are the buffer at some contents. -/
theorem b_join (c : Dev nD) (f g : S2x512x1024.Idx → F .bf16) :
    iprop(winPts bS0 c fullShare f ∗ winPts bS1 c fullShare g) ⊢ (iprop(∃ h, bM.view.loc (c : Thread nD τ) ↦[bM.view.set]{fullShare} h) : sProp 𝕄) := by
  let h : S2x512x1024.Idx → F .bf16 := fun y => if (y 0).val = 1 then f y else g y
  have e0 : (winPts bS0 c fullShare f : sProp 𝕄) = winPts bS0 c fullShare h :=
    pointsTo_congr fun y hy => (if_pos ((bS0_mem y).mp hy)).symm
  have e1 : (winPts bS1 c fullShare g : sProp 𝕄) = winPts bS1 c fullShare h :=
    pointsTo_congr fun y hy => (if_neg (by have := (bS1_mem y).mp hy; omega)).symm
  rw [e0, e1]
  iintro H
  iexists h
  iapply (b_split c h).2 $$ H

/-- Where the slots of `cM` lie. -/
theorem cS_set (i : ℕ) (hi : i < 2) (inb : ∀ x, (![i, 0, 0] : Fin 3 → ℕ) x + S1x1024x512.size x ≤ S2x1024x512.size x) (hr) (hq : S1x1024x512.Squeezes S1024x512) :
    ((cM.slice (Rect.unit (s := S2x1024x512) ![i, 0, 0] S1x1024x512.size inb) hr).squeeze S1024x512 hq).view.set = (Finset.univ.filter fun y : S2x1024x512.Idx => (y 0).val = i) := by
  ext y
  constructor
  · intro h
    obtain ⟨z, _, rfl⟩ := Finset.mem_map.mp h
    rw [slot_emb (n := 2) (a := 1024) (b := 512) cM i hi inb hr hq z]
    exact Finset.mem_filter.mpr ⟨Finset.mem_univ _, rfl⟩
  · intro h
    have h0 := (Finset.mem_filter.mp h).2
    refine Finset.mem_map.mpr ⟨ix2 (a := 1024) (b := 512) (y 1) (y 2), Finset.mem_univ _, ?_⟩
    rw [slot_emb (n := 2) (a := 1024) (b := 512) cM i hi inb hr hq _]
    show ix3 (a := 2) (b := 1024) (c := 512) ⟨i, hi⟩ (y 1) (y 2) = y
    funext x
    match x with
    | ⟨0, _⟩ => exact Fin.ext h0.symm
    | ⟨1, _⟩ => rfl
    | ⟨2, _⟩ => rfl

theorem cS0_mem (y : S2x1024x512.Idx) : y ∈ (cS0.view.set : Finset S2x1024x512.Idx) ↔ (y 0).val = 1 := by
  have h := cS_set 1 (by decide) inb_S2x1024x512_S1x1024x512_1_0_0 (fun _ => rfl) squeezes_S1x1024x512_S1024x512
  rw [show (cS0.view.set : Finset S2x1024x512.Idx) = _ from h]; simp

theorem cS1_mem (y : S2x1024x512.Idx) : y ∈ (cS1.view.set : Finset S2x1024x512.Idx) ↔ (y 0).val = 0 := by
  have h := cS_set 0 (by decide) inb_S2x1024x512_S1x1024x512_0_0_0 (fun _ => rfl) squeezes_S1x1024x512_S1024x512
  rw [show (cS1.view.set : Finset S2x1024x512.Idx) = _ from h]; simp

/-- The buffer held whole is its two slots held. -/
theorem c_split (c : Dev nD) (f : S2x1024x512.Idx → F .bf16) :
    (cM.view.loc (c : Thread nD τ) ↦[cM.view.set]{fullShare} f : sProp 𝕄) ⊣⊢ iprop(winPts cS0 c fullShare f ∗ winPts cS1 c fullShare f) := by
  have h0 : (cM.view.set : Finset S2x1024x512.Idx) = cS0.view.set ∪ cS1.view.set := by
    rw [(Memref.isWhole_whole _).set_eq_univ]
    refine (Finset.eq_univ_iff_forall.mpr fun y => Finset.mem_union.mpr ?_).symm
    rw [cS0_mem, cS1_mem]
    have : (y 0).val < 2 := (y 0).isLt
    omega
  rw [show (cM.view.loc (c : Thread nD τ) ↦[cM.view.set]{fullShare} f : sProp 𝕄) = (cM.view.loc (c : Thread nD τ) ↦[cS0.view.set ∪ cS1.view.set]{fullShare} f : sProp 𝕄) from
    congrArg (fun S => (cM.view.loc (c : Thread nD τ) ↦[S]{fullShare} f : sProp 𝕄)) h0]
  refine pointsTo_union ?_
  rw [Finset.disjoint_left]
  intro y h h'
  have e := (cS0_mem y).mp h
  have e' := (cS1_mem y).mp h'
  omega

/-- The two slots, at whatever contents, are the buffer at some contents. -/
theorem c_join (c : Dev nD) (f g : S2x1024x512.Idx → F .bf16) :
    iprop(winPts cS0 c fullShare f ∗ winPts cS1 c fullShare g) ⊢ (iprop(∃ h, cM.view.loc (c : Thread nD τ) ↦[cM.view.set]{fullShare} h) : sProp 𝕄) := by
  let h : S2x1024x512.Idx → F .bf16 := fun y => if (y 0).val = 1 then f y else g y
  have e0 : (winPts cS0 c fullShare f : sProp 𝕄) = winPts cS0 c fullShare h :=
    pointsTo_congr fun y hy => (if_pos ((cS0_mem y).mp hy)).symm
  have e1 : (winPts cS1 c fullShare g : sProp 𝕄) = winPts cS1 c fullShare h :=
    pointsTo_congr fun y hy => (if_neg (by have := (cS1_mem y).mp hy; omega)).symm
  rw [e0, e1]
  iintro H
  iexists h
  iapply (c_split c h).2 $$ H

/-- Where the slots of `dM` lie. -/
theorem dS_set (i : ℕ) (hi : i < 2) (inb : ∀ x, (![i, 0, 0] : Fin 3 → ℕ) x + S1x512x1024.size x ≤ S2x512x1024.size x) (hr) (hq : S1x512x1024.Squeezes S512x1024) :
    ((dM.slice (Rect.unit (s := S2x512x1024) ![i, 0, 0] S1x512x1024.size inb) hr).squeeze S512x1024 hq).view.set = (Finset.univ.filter fun y : S2x512x1024.Idx => (y 0).val = i) := by
  ext y
  constructor
  · intro h
    obtain ⟨z, _, rfl⟩ := Finset.mem_map.mp h
    rw [slot_emb (n := 2) (a := 512) (b := 1024) dM i hi inb hr hq z]
    exact Finset.mem_filter.mpr ⟨Finset.mem_univ _, rfl⟩
  · intro h
    have h0 := (Finset.mem_filter.mp h).2
    refine Finset.mem_map.mpr ⟨ix2 (a := 512) (b := 1024) (y 1) (y 2), Finset.mem_univ _, ?_⟩
    rw [slot_emb (n := 2) (a := 512) (b := 1024) dM i hi inb hr hq _]
    show ix3 (a := 2) (b := 512) (c := 1024) ⟨i, hi⟩ (y 1) (y 2) = y
    funext x
    match x with
    | ⟨0, _⟩ => exact Fin.ext h0.symm
    | ⟨1, _⟩ => rfl
    | ⟨2, _⟩ => rfl

theorem dS0_mem (y : S2x512x1024.Idx) : y ∈ (dS0.view.set : Finset S2x512x1024.Idx) ↔ (y 0).val = 1 := by
  have h := dS_set 1 (by decide) inb_S2x512x1024_S1x512x1024_1_0_0 (fun _ => rfl) squeezes_S1x512x1024_S512x1024
  rw [show (dS0.view.set : Finset S2x512x1024.Idx) = _ from h]; simp

theorem dS1_mem (y : S2x512x1024.Idx) : y ∈ (dS1.view.set : Finset S2x512x1024.Idx) ↔ (y 0).val = 0 := by
  have h := dS_set 0 (by decide) inb_S2x512x1024_S1x512x1024_0_0_0 (fun _ => rfl) squeezes_S1x512x1024_S512x1024
  rw [show (dS1.view.set : Finset S2x512x1024.Idx) = _ from h]; simp

/-- The buffer held whole is its two slots held. -/
theorem d_split (c : Dev nD) (f : S2x512x1024.Idx → F .bf16) :
    (dM.view.loc (c : Thread nD τ) ↦[dM.view.set]{fullShare} f : sProp 𝕄) ⊣⊢ iprop(winPts dS0 c fullShare f ∗ winPts dS1 c fullShare f) := by
  have h0 : (dM.view.set : Finset S2x512x1024.Idx) = dS0.view.set ∪ dS1.view.set := by
    rw [(Memref.isWhole_whole _).set_eq_univ]
    refine (Finset.eq_univ_iff_forall.mpr fun y => Finset.mem_union.mpr ?_).symm
    rw [dS0_mem, dS1_mem]
    have : (y 0).val < 2 := (y 0).isLt
    omega
  rw [show (dM.view.loc (c : Thread nD τ) ↦[dM.view.set]{fullShare} f : sProp 𝕄) = (dM.view.loc (c : Thread nD τ) ↦[dS0.view.set ∪ dS1.view.set]{fullShare} f : sProp 𝕄) from
    congrArg (fun S => (dM.view.loc (c : Thread nD τ) ↦[S]{fullShare} f : sProp 𝕄)) h0]
  refine pointsTo_union ?_
  rw [Finset.disjoint_left]
  intro y h h'
  have e := (dS0_mem y).mp h
  have e' := (dS1_mem y).mp h'
  omega

/-- The two slots, at whatever contents, are the buffer at some contents. -/
theorem d_join (c : Dev nD) (f g : S2x512x1024.Idx → F .bf16) :
    iprop(winPts dS0 c fullShare f ∗ winPts dS1 c fullShare g) ⊢ (iprop(∃ h, dM.view.loc (c : Thread nD τ) ↦[dM.view.set]{fullShare} h) : sProp 𝕄) := by
  let h : S2x512x1024.Idx → F .bf16 := fun y => if (y 0).val = 1 then f y else g y
  have e0 : (winPts dS0 c fullShare f : sProp 𝕄) = winPts dS0 c fullShare h :=
    pointsTo_congr fun y hy => (if_pos ((dS0_mem y).mp hy)).symm
  have e1 : (winPts dS1 c fullShare g : sProp 𝕄) = winPts dS1 c fullShare h :=
    pointsTo_congr fun y hy => (if_neg (by have := (dS1_mem y).mp hy; omega)).symm
  rw [e0, e1]
  iintro H
  iexists h
  iapply (d_split c h).2 $$ H

/-! ## The heads a hop takes -/

set_option backward.proofsInPublic true in
/-- The heads of hop `h` of this slice on device `c`: on its first the first four of the left neighbour's and the last four
    of the right neighbour's; on its second the eight of the device across. -/
def headOf (h : Fin 2) (c : Dev nD) (i : Fin 8) : Fin 32 :=
  if h = 1 then ⟨8 * (nxt (nxt c)).val + i.val, by have := (nxt (nxt c)).isLt; have := i.isLt; simp only [nD] at *; omega⟩
  else if i.val < 4 then ⟨8 * (prv c).val + i.val, by have := (prv c).isLt; have := i.isLt; simp only [nD] at *; omega⟩
  else ⟨8 * (nxt c).val + i.val, by have := (nxt c).isLt; have := i.isLt; simp only [nD] at *; omega⟩

/-- What the key buffer, or the value buffer, of device `c` holds on hop `h` when the array holds `A`. -/
def kvTgt (h : Fin 2) (c : Dev nD) (A : S4x2048x32x128.Idx → F .f32) : S8x2048x128.Idx → F .f32 :=
  fun y => A (ix4 (a := 4) (b := 2048) (c := 32) (d := 128) ⟨c.val, c.isLt⟩ (y 1) (headOf h c (y 0)) (y 2))

theorem off0_0 (c : Dev nD) : k0_off1 c 1#1 1#32 0#32 1#32 0#32 = ![c.val, 0, (headOf 0 c 0).val, 0] := by revert c; decide
theorem off0_1 (c : Dev nD) : k0_off1 c 1#1 1#32 1#32 1#32 1#32 = ![c.val, 0, (headOf 0 c 1).val, 0] := by revert c; decide
theorem off0_2 (c : Dev nD) : k0_off1 c 1#1 1#32 2#32 1#32 2#32 = ![c.val, 0, (headOf 0 c 2).val, 0] := by revert c; decide
theorem off0_3 (c : Dev nD) : k0_off1 c 1#1 1#32 3#32 1#32 3#32 = ![c.val, 0, (headOf 0 c 3).val, 0] := by revert c; decide
theorem off0_4 (c : Dev nD) : k0_off1 c 0#1 1#32 4#32 1#32 4#32 = ![c.val, 0, (headOf 0 c 4).val, 0] := by revert c; decide
theorem off0_5 (c : Dev nD) : k0_off1 c 0#1 1#32 5#32 1#32 5#32 = ![c.val, 0, (headOf 0 c 5).val, 0] := by revert c; decide
theorem off0_6 (c : Dev nD) : k0_off1 c 0#1 1#32 6#32 1#32 6#32 = ![c.val, 0, (headOf 0 c 6).val, 0] := by revert c; decide
theorem off0_7 (c : Dev nD) : k0_off1 c 0#1 1#32 7#32 1#32 7#32 = ![c.val, 0, (headOf 0 c 7).val, 0] := by revert c; decide
theorem off1_0 (c : Dev nD) : k0_off1 c 1#1 2#32 0#32 2#32 0#32 = ![c.val, 0, (headOf 1 c 0).val, 0] := by revert c; decide
theorem off1_1 (c : Dev nD) : k0_off1 c 1#1 2#32 1#32 2#32 1#32 = ![c.val, 0, (headOf 1 c 1).val, 0] := by revert c; decide
theorem off1_2 (c : Dev nD) : k0_off1 c 1#1 2#32 2#32 2#32 2#32 = ![c.val, 0, (headOf 1 c 2).val, 0] := by revert c; decide
theorem off1_3 (c : Dev nD) : k0_off1 c 1#1 2#32 3#32 2#32 3#32 = ![c.val, 0, (headOf 1 c 3).val, 0] := by revert c; decide
theorem off1_4 (c : Dev nD) : k0_off1 c 0#1 2#32 4#32 2#32 4#32 = ![c.val, 0, (headOf 1 c 4).val, 0] := by revert c; decide
theorem off1_5 (c : Dev nD) : k0_off1 c 0#1 2#32 5#32 2#32 5#32 = ![c.val, 0, (headOf 1 c 5).val, 0] := by revert c; decide
theorem off1_6 (c : Dev nD) : k0_off1 c 0#1 2#32 6#32 2#32 6#32 = ![c.val, 0, (headOf 1 c 6).val, 0] := by revert c; decide
theorem off1_7 (c : Dev nD) : k0_off1 c 0#1 2#32 7#32 2#32 7#32 = ![c.val, 0, (headOf 1 c 7).val, 0] := by revert c; decide

end Cert.MidIdeal.Slice

end
-- ==== Proof.Mid.Body.lean ====
module

public import proofs.«01_k».proof.Proof.Mid.Wins
public import Idealize.ShloMosaic.Lib.Batch
public import Idealize.ShloMosaic.Lib.Writes
public import Idealize.ShloMosaic.Lib.WritesUnit
public import Idealize.ShloMosaic.Lib.WritesUnit
public import Idealize.ShloMosaic.Lib.WritesUnit

@[expose] public section

noncomputable section

namespace Cert.MidIdeal.Slice

open Cert.MidIdeal Cert.MidIdeal.Gen

open Idealize.ShloMosaic Idealize.ShloMosaic.Tactic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! The parts of the body at this kernel's buffers. -/

abbrev p9  := k0_part9_skel (F := F) xM (Memref.isWhole_whole _) wqM (Memref.isWhole_whole _) woM (Memref.isWhole_whole _) kM (Memref.isWhole_whole _) vM (Memref.isWhole_whole _)
    oM (Memref.isWhole_whole _) aM (Memref.isWhole_whole _) bM (Memref.isWhole_whole _) cM (Memref.isWhole_whole _) dM (Memref.isWhole_whole _) wofM (Memref.isWhole_whole _)
    xbM (Memref.isWhole_whole _) qM (Memref.isWhole_whole _) kbM (Memref.isWhole_whole _) vbM (Memref.isWhole_whole _) cc0_scratch9 cc0_scratch10 cc0_scratch11 cc0_scratch12
abbrev p10 (d0 : Dev nD) (v2 v5 v7 : BitVec 32) := k0_part10_skel (F := F) xM (Memref.isWhole_whole _) wqM (Memref.isWhole_whole _) woM (Memref.isWhole_whole _) kM (Memref.isWhole_whole _) vM (Memref.isWhole_whole _)
    oM (Memref.isWhole_whole _) aM (Memref.isWhole_whole _) bM (Memref.isWhole_whole _) cM (Memref.isWhole_whole _) dM (Memref.isWhole_whole _) wofM (Memref.isWhole_whole _)
    xbM (Memref.isWhole_whole _) qM (Memref.isWhole_whole _) kbM (Memref.isWhole_whole _) vbM (Memref.isWhole_whole _) cc0_scratch9 cc0_scratch10 cc0_scratch11 cc0_scratch12 d0 v2 v5 v7
abbrev p11 (d0 : Dev nD) (v5 v7 : BitVec 32) := k0_part11_skel (F := F) xM (Memref.isWhole_whole _) wqM (Memref.isWhole_whole _) woM (Memref.isWhole_whole _) kM (Memref.isWhole_whole _) vM (Memref.isWhole_whole _)
    oM (Memref.isWhole_whole _) aM (Memref.isWhole_whole _) bM (Memref.isWhole_whole _) cM (Memref.isWhole_whole _) dM (Memref.isWhole_whole _) wofM (Memref.isWhole_whole _)
    xbM (Memref.isWhole_whole _) qM (Memref.isWhole_whole _) kbM (Memref.isWhole_whole _) vbM (Memref.isWhole_whole _) cc0_scratch9 cc0_scratch10 cc0_scratch11 cc0_scratch12 d0 v5 v7
abbrev p12 (d0 : Dev nD) (v5 v49 v51 : BitVec 32) := k0_part12_skel (F := F) xM (Memref.isWhole_whole _) wqM (Memref.isWhole_whole _) woM (Memref.isWhole_whole _) kM (Memref.isWhole_whole _) vM (Memref.isWhole_whole _)
    oM (Memref.isWhole_whole _) aM (Memref.isWhole_whole _) bM (Memref.isWhole_whole _) cM (Memref.isWhole_whole _) dM (Memref.isWhole_whole _) wofM (Memref.isWhole_whole _)
    xbM (Memref.isWhole_whole _) qM (Memref.isWhole_whole _) kbM (Memref.isWhole_whole _) vbM (Memref.isWhole_whole _) cc0_scratch9 cc0_scratch10 cc0_scratch11 cc0_scratch12 d0 v5 v49 v51
abbrev p13 (d0 : Dev nD) (v49 v51 : BitVec 32) := k0_part13_skel (F := F) xM (Memref.isWhole_whole _) wqM (Memref.isWhole_whole _) woM (Memref.isWhole_whole _) kM (Memref.isWhole_whole _) vM (Memref.isWhole_whole _)
    oM (Memref.isWhole_whole _) aM (Memref.isWhole_whole _) bM (Memref.isWhole_whole _) cM (Memref.isWhole_whole _) dM (Memref.isWhole_whole _) wofM (Memref.isWhole_whole _)
    xbM (Memref.isWhole_whole _) qM (Memref.isWhole_whole _) kbM (Memref.isWhole_whole _) vbM (Memref.isWhole_whole _) cc0_scratch9 cc0_scratch10 cc0_scratch11 cc0_scratch12 d0 v49 v51
abbrev p14 (d0 : Dev nD) := k0_part14_skel (F := F) xM (Memref.isWhole_whole _) wqM (Memref.isWhole_whole _) woM (Memref.isWhole_whole _) kM (Memref.isWhole_whole _) vM (Memref.isWhole_whole _)
    oM (Memref.isWhole_whole _) aM (Memref.isWhole_whole _) bM (Memref.isWhole_whole _) cM (Memref.isWhole_whole _) dM (Memref.isWhole_whole _) wofM (Memref.isWhole_whole _)
    xbM (Memref.isWhole_whole _) qM (Memref.isWhole_whole _) kbM (Memref.isWhole_whole _) vbM (Memref.isWhole_whole _) cc0_scratch9 cc0_scratch10 cc0_scratch11 cc0_scratch12 d0
abbrev p15 (d0 : Dev nD) := k0_part15_skel (F := F) xM (Memref.isWhole_whole _) wqM (Memref.isWhole_whole _) woM (Memref.isWhole_whole _) kM (Memref.isWhole_whole _) vM (Memref.isWhole_whole _)
    oM (Memref.isWhole_whole _) aM (Memref.isWhole_whole _) bM (Memref.isWhole_whole _) cM (Memref.isWhole_whole _) dM (Memref.isWhole_whole _) wofM (Memref.isWhole_whole _)
    xbM (Memref.isWhole_whole _) qM (Memref.isWhole_whole _) kbM (Memref.isWhole_whole _) vbM (Memref.isWhole_whole _) cc0_scratch9 cc0_scratch10 cc0_scratch11 cc0_scratch12 d0
abbrev p16 (d0 : Dev nD) := k0_part16_skel (F := F) xM (Memref.isWhole_whole _) wqM (Memref.isWhole_whole _) woM (Memref.isWhole_whole _) kM (Memref.isWhole_whole _) vM (Memref.isWhole_whole _)
    oM (Memref.isWhole_whole _) aM (Memref.isWhole_whole _) bM (Memref.isWhole_whole _) cM (Memref.isWhole_whole _) dM (Memref.isWhole_whole _) wofM (Memref.isWhole_whole _)
    xbM (Memref.isWhole_whole _) qM (Memref.isWhole_whole _) kbM (Memref.isWhole_whole _) vbM (Memref.isWhole_whole _) cc0_scratch9 cc0_scratch10 cc0_scratch11 cc0_scratch12 d0
abbrev p17 (d0 : Dev nD) := k0_part17_skel (F := F) xM (Memref.isWhole_whole _) wqM (Memref.isWhole_whole _) woM (Memref.isWhole_whole _) kM (Memref.isWhole_whole _) vM (Memref.isWhole_whole _)
    oM (Memref.isWhole_whole _) aM (Memref.isWhole_whole _) bM (Memref.isWhole_whole _) cM (Memref.isWhole_whole _) dM (Memref.isWhole_whole _) wofM (Memref.isWhole_whole _)
    xbM (Memref.isWhole_whole _) qM (Memref.isWhole_whole _) kbM (Memref.isWhole_whole _) vbM (Memref.isWhole_whole _) cc0_scratch9 cc0_scratch10 cc0_scratch11 cc0_scratch12 d0
abbrev p18 (d0 : Dev nD) := k0_part18_skel (F := F) xM (Memref.isWhole_whole _) wqM (Memref.isWhole_whole _) woM (Memref.isWhole_whole _) kM (Memref.isWhole_whole _) vM (Memref.isWhole_whole _)
    oM (Memref.isWhole_whole _) aM (Memref.isWhole_whole _) bM (Memref.isWhole_whole _) cM (Memref.isWhole_whole _) dM (Memref.isWhole_whole _) wofM (Memref.isWhole_whole _)
    xbM (Memref.isWhole_whole _) qM (Memref.isWhole_whole _) kbM (Memref.isWhole_whole _) vbM (Memref.isWhole_whole _) cc0_scratch9 cc0_scratch10 cc0_scratch11 cc0_scratch12 d0
abbrev p19 (d0 : Dev nD) (v7 : BitVec 32) := k0_part19_skel (F := F) xM (Memref.isWhole_whole _) wqM (Memref.isWhole_whole _) woM (Memref.isWhole_whole _) kM (Memref.isWhole_whole _) vM (Memref.isWhole_whole _)
    oM (Memref.isWhole_whole _) aM (Memref.isWhole_whole _) bM (Memref.isWhole_whole _) cM (Memref.isWhole_whole _) dM (Memref.isWhole_whole _) wofM (Memref.isWhole_whole _)
    xbM (Memref.isWhole_whole _) qM (Memref.isWhole_whole _) kbM (Memref.isWhole_whole _) vbM (Memref.isWhole_whole _) cc0_scratch9 cc0_scratch10 cc0_scratch11 cc0_scratch12 d0 v7
abbrev p20 (v7 v278 : BitVec 32) := k0_part20_skel (F := F) xM (Memref.isWhole_whole _) wqM (Memref.isWhole_whole _) woM (Memref.isWhole_whole _) kM (Memref.isWhole_whole _) vM (Memref.isWhole_whole _)
    oM (Memref.isWhole_whole _) aM (Memref.isWhole_whole _) bM (Memref.isWhole_whole _) cM (Memref.isWhole_whole _) dM (Memref.isWhole_whole _) wofM (Memref.isWhole_whole _)
    xbM (Memref.isWhole_whole _) qM (Memref.isWhole_whole _) kbM (Memref.isWhole_whole _) vbM (Memref.isWhole_whole _) cc0_scratch9 cc0_scratch10 cc0_scratch11 cc0_scratch12 v7 v278
abbrev p21 (v5 : BitVec 32) := k0_part21_skel (F := F) xM (Memref.isWhole_whole _) wqM (Memref.isWhole_whole _) woM (Memref.isWhole_whole _) kM (Memref.isWhole_whole _) vM (Memref.isWhole_whole _)
    oM (Memref.isWhole_whole _) aM (Memref.isWhole_whole _) bM (Memref.isWhole_whole _) cM (Memref.isWhole_whole _) dM (Memref.isWhole_whole _) wofM (Memref.isWhole_whole _)
    xbM (Memref.isWhole_whole _) qM (Memref.isWhole_whole _) kbM (Memref.isWhole_whole _) vbM (Memref.isWhole_whole _) cc0_scratch9 cc0_scratch10 cc0_scratch11 cc0_scratch12 v5
abbrev p22 (v2 : BitVec 32) := k0_part22_skel (F := F) xM (Memref.isWhole_whole _) wqM (Memref.isWhole_whole _) woM (Memref.isWhole_whole _) kM (Memref.isWhole_whole _) vM (Memref.isWhole_whole _)
    oM (Memref.isWhole_whole _) aM (Memref.isWhole_whole _) bM (Memref.isWhole_whole _) cM (Memref.isWhole_whole _) dM (Memref.isWhole_whole _) wofM (Memref.isWhole_whole _)
    xbM (Memref.isWhole_whole _) qM (Memref.isWhole_whole _) kbM (Memref.isWhole_whole _) vbM (Memref.isWhole_whole _) cc0_scratch9 cc0_scratch10 cc0_scratch11 cc0_scratch12 v2
abbrev p23 (d0 : Dev nD) (v330 v332 : BitVec 32) := k0_part23_skel (F := F) xM (Memref.isWhole_whole _) wqM (Memref.isWhole_whole _) woM (Memref.isWhole_whole _) kM (Memref.isWhole_whole _) vM (Memref.isWhole_whole _)
    oM (Memref.isWhole_whole _) aM (Memref.isWhole_whole _) bM (Memref.isWhole_whole _) cM (Memref.isWhole_whole _) dM (Memref.isWhole_whole _) wofM (Memref.isWhole_whole _)
    xbM (Memref.isWhole_whole _) qM (Memref.isWhole_whole _) kbM (Memref.isWhole_whole _) vbM (Memref.isWhole_whole _) cc0_scratch9 cc0_scratch10 cc0_scratch11 cc0_scratch12 d0 v330 v332
abbrev p24 (d0 : Dev nD) := k0_part24_skel (F := F) xM (Memref.isWhole_whole _) wqM (Memref.isWhole_whole _) woM (Memref.isWhole_whole _) kM (Memref.isWhole_whole _) vM (Memref.isWhole_whole _)
    oM (Memref.isWhole_whole _) aM (Memref.isWhole_whole _) bM (Memref.isWhole_whole _) cM (Memref.isWhole_whole _) dM (Memref.isWhole_whole _) wofM (Memref.isWhole_whole _)
    xbM (Memref.isWhole_whole _) qM (Memref.isWhole_whole _) kbM (Memref.isWhole_whole _) vbM (Memref.isWhole_whole _) cc0_scratch9 cc0_scratch10 cc0_scratch11 cc0_scratch12 d0
abbrev p25 (d0 : Dev nD) := k0_part25_skel (F := F) xM (Memref.isWhole_whole _) wqM (Memref.isWhole_whole _) woM (Memref.isWhole_whole _) kM (Memref.isWhole_whole _) vM (Memref.isWhole_whole _)
    oM (Memref.isWhole_whole _) aM (Memref.isWhole_whole _) bM (Memref.isWhole_whole _) cM (Memref.isWhole_whole _) dM (Memref.isWhole_whole _) wofM (Memref.isWhole_whole _)
    xbM (Memref.isWhole_whole _) qM (Memref.isWhole_whole _) kbM (Memref.isWhole_whole _) vbM (Memref.isWhole_whole _) cc0_scratch9 cc0_scratch10 cc0_scratch11 cc0_scratch12 d0
abbrev p26 (d0 : Dev nD) := k0_part26_skel (F := F) xM (Memref.isWhole_whole _) wqM (Memref.isWhole_whole _) woM (Memref.isWhole_whole _) kM (Memref.isWhole_whole _) vM (Memref.isWhole_whole _)
    oM (Memref.isWhole_whole _) aM (Memref.isWhole_whole _) bM (Memref.isWhole_whole _) cM (Memref.isWhole_whole _) dM (Memref.isWhole_whole _) wofM (Memref.isWhole_whole _)
    xbM (Memref.isWhole_whole _) qM (Memref.isWhole_whole _) kbM (Memref.isWhole_whole _) vbM (Memref.isWhole_whole _) cc0_scratch9 cc0_scratch10 cc0_scratch11 cc0_scratch12 d0
abbrev p27 (d0 : Dev nD) := k0_part27_skel (F := F) xM (Memref.isWhole_whole _) wqM (Memref.isWhole_whole _) woM (Memref.isWhole_whole _) kM (Memref.isWhole_whole _) vM (Memref.isWhole_whole _)
    oM (Memref.isWhole_whole _) aM (Memref.isWhole_whole _) bM (Memref.isWhole_whole _) cM (Memref.isWhole_whole _) dM (Memref.isWhole_whole _) wofM (Memref.isWhole_whole _)
    xbM (Memref.isWhole_whole _) qM (Memref.isWhole_whole _) kbM (Memref.isWhole_whole _) vbM (Memref.isWhole_whole _) cc0_scratch9 cc0_scratch10 cc0_scratch11 cc0_scratch12 d0
abbrev p28 (d0 : Dev nD) := k0_part28_skel (F := F) xM (Memref.isWhole_whole _) wqM (Memref.isWhole_whole _) woM (Memref.isWhole_whole _) kM (Memref.isWhole_whole _) vM (Memref.isWhole_whole _)
    oM (Memref.isWhole_whole _) aM (Memref.isWhole_whole _) bM (Memref.isWhole_whole _) cM (Memref.isWhole_whole _) dM (Memref.isWhole_whole _) wofM (Memref.isWhole_whole _)
    xbM (Memref.isWhole_whole _) qM (Memref.isWhole_whole _) kbM (Memref.isWhole_whole _) vbM (Memref.isWhole_whole _) cc0_scratch9 cc0_scratch10 cc0_scratch11 cc0_scratch12 d0

abbrev kSem : DmaSem sig := cc0_scratch11.sem
abbrev vSem : DmaSem sig := cc0_scratch12.sem

/-- The nine read shares of an array: one per head copy, and what is left. -/
def toks (c : Dev nD) (W : Memref sig .tc .hbm S4x2048x32x128 .f32) (f : Buf (Elt F) (W.view.loc (c : Thread nD τ))) : sProp 𝕄 :=
  iprop((W.view.loc (c : Thread nD τ) ↦[W.view.set]{Transfers.shareDrop fullShare 8} f)
    ∗ (W.view.loc (c : Thread nD τ) ↦[W.view.set]{Transfers.shareTok fullShare 8 0} f) ∗ (W.view.loc (c : Thread nD τ) ↦[W.view.set]{Transfers.shareTok fullShare 8 1} f)
    ∗ (W.view.loc (c : Thread nD τ) ↦[W.view.set]{Transfers.shareTok fullShare 8 2} f) ∗ (W.view.loc (c : Thread nD τ) ↦[W.view.set]{Transfers.shareTok fullShare 8 3} f)
    ∗ (W.view.loc (c : Thread nD τ) ↦[W.view.set]{Transfers.shareTok fullShare 8 4} f) ∗ (W.view.loc (c : Thread nD τ) ↦[W.view.set]{Transfers.shareTok fullShare 8 5} f)
    ∗ (W.view.loc (c : Thread nD τ) ↦[W.view.set]{Transfers.shareTok fullShare 8 6} f) ∗ (W.view.loc (c : Thread nD τ) ↦[W.view.set]{Transfers.shareTok fullShare 8 7} f))

theorem toks_eq (c : Dev nD) (W : Memref sig .tc .hbm S4x2048x32x128 .f32) (f : Buf (Elt F) (W.view.loc (c : Thread nD τ))) :
    (W.view.loc (c : Thread nD τ) ↦[W.view.set]{fullShare} f : sProp 𝕄) ⊣⊢ toks c W f := by
  have h := Transfers.pointsTo_toks (Ix := Unit) (Val := Elt F) (Name := ℕ) (U := UU) (Lvl := ℕ) (ℓ := W.view.loc (c : Thread nD τ)) (S := W.view.set) (f := f) fullShare 8
  rw [bigSep_univ_eq_bigSepL [0, 1, 2, 3, 4, 5, 6, 7] (by decide) (by decide)] at h
  simp only [bigSepL_cons_cons, bigSepL_singleton] at h
  exact h

/-- A copy's cell at its one round, as its owner waits on it: the invariant, the credit, the position. -/
def cellRes (m : (ℓ : Loc nD τ sig) → Buf (Elt F) ℓ) (ρ : Dev nD → PrngReg) (c : Dev nD) (k : Fin 9) (κ : ℕ) : sProp 𝕄 :=
  iprop(cellInv ER (rd m ρ) κ (kcell (c, k)) ∗ cred (tallyAt (kcell (c, k)) () (amt k)) ∗ atPos ER (kcell (c, k)) 0 ∅ 0)

/-- The wait on a copy's cell hands over what the cell's unit pays and leaves the cell closed at zero. -/
theorem wait_one {α : Type} (m : (ℓ : Loc nD τ sig) → Buf (Elt F) ℓ) (ρ : Dev nD → PrngReg) (c : Dev nD) (k : Fin 9) (hk : k ≠ 0) (κ : ℕ) (W : Waits sig Unit)
    (sem : DmaSem sig) (hs : csem k = .dma sem) {s s' : Shape} {e e' : EltTy} {sp sp' : Space} (src : Memref sig .tc sp' s' e') (dst : Memref sig .tc sp s e) (h1 : src.view.WordExact) (h2 : dst.view.WordExact)
    (hn : dst.view.dmaCredit = amt k) (kk : PUnit → Prog (TpuEff nD τ sig (Elt F) Λ₀ .tc) α) (Q : α → sProp 𝕄) :
    iprop(cellRes m ρ c k κ ∗ owes (c : Thread nD τ) 0 W)
      ⊢ iprop(((owes (c : Thread nD τ) 0 (insert (csem k, ()) W) ∗ semVal (kcell (c, k)) 0 ∗ pay m ρ k false c)
            -∗ wp (M := 𝕄) frame (wpE (defs₀ (F := F)) 𝒱₀ (c : Thread nD τ) none) Set.univ (kk ⟨⟩) Q)
          -∗ wp (M := 𝕄) frame (wpE (defs₀ (F := F)) 𝒱₀ (c : Thread nD τ) none) Set.univ (.op (.waitDma2 sem src dst h1 h2) kk) Q) := by
  unfold cellRes
  iintro ⟨⟨#HI, Hc, Hat⟩, HO⟩ Hk
  iapply (Rounds.wp_wait_rest_token 𝒱₀ ER (rd m ρ) (c : Thread nD τ) none (sm := csem k) (k' := amt k) (κ := κ)
      (by rw [hs, ← hn]; exact wpE_waitDma2_eq 𝒱₀ (c : Thread nD τ) none Set.univ) (Set.mem_univ _) () (O := 0) (W := W) (R := 0) (m := 0) (T := ∅)
      (by rw [Nat.zero_add]; exact (expect_cell m ρ c k hk).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hx := (Entails.of_eq (rest_cell m ρ c k hk)) $$ Hpay
  imod (Rounds.cell_close ER (rd m ρ) (Set.mem_univ κ) (fun h => h) (R := 0 + 1) (duties_later m ρ (kcell (c, k)))) $$ [Hat] with Hz
  · isplitr; · iexact HI
    iexact Hat
  iapply Hk
  isplitl [HO]; · iexact HO
  isplitl [Hz] <;> iassumption

/-- The output-weight buffer after both halves are stored. -/
def wTgt (p1 p2 : Vec F S512x1024 .bf16) : S1024x1024.Idx → F .bf16 :=
  fun y => if h : (y 0).val < 512 then p1 (ix2 ⟨(y 0).val, h⟩ (y 1))
    else p2 (ix2 ⟨(y 0).val - 512, by have : (y 0).val < 1024 := (y 0).isLt; omega⟩ (y 1))

theorem w_step (f : wofM.view.ty.Contents (Elt F)) (p1 p2 : Vec F S512x1024 .bf16) (y : S1024x1024.Idx) :
    wofM.view.writes (Elt F) f [⟨Rect.unit (s := S1024x1024) ![512, 0] S512x1024.size inb_S1024x1024_S512x1024_512_0, p2⟩, ⟨Rect.unit (s := S1024x1024) ![0, 0] S512x1024.size inb_S1024x1024_S512x1024_0_0, p1⟩] y
      = wTgt p1 p2 y := by
  have hy0 : (y 0).val < 1024 := (y 0).isLt
  refine (congrFun (View.read_whole (Val := Elt F) cc0_scratch4 _) y).symm.trans ?_
  rcases Nat.lt_or_ge (y 0).val 512 with hc | hc
  · rw [View.read_writes_cons_unit_of_not_mem wofM.view f _ _ _ y rfl 0 (Or.inl hc)]
    refine (View.read_writes_cons_unit_of_mem wofM.view f _ _ _ y (ix2 ⟨(y 0).val, hc⟩ (y 1)) rfl (fun a => ?_)).trans ?_
    · match a with
      | ⟨0, _⟩ => show (y 0).val = 0 + (y 0).val; omega
      | ⟨1, _⟩ => show (y 1).val = 0 + (y 1).val; omega
    · unfold wTgt; rw [dif_pos hc]; rfl
  · refine (View.read_writes_cons_unit_of_mem wofM.view f _ _ _ y (ix2 ⟨(y 0).val - 512, by omega⟩ (y 1)) rfl (fun a => ?_)).trans ?_
    · match a with
      | ⟨0, _⟩ => show (y 0).val = 512 + ((y 0).val - 512); omega
      | ⟨1, _⟩ => show (y 1).val = 0 + (y 1).val; omega
    · unfold wTgt; rw [dif_neg (Nat.not_lt.mpr hc)]; rfl

/-- Head slot `s` of the key buffer at its target is the head's rows of the array; -/
theorem kb_tgt (h : Fin 2) (c : Dev nD) (K : S4x2048x32x128.Idx → F .f32) (s : ℕ) (hs : s < 8)
    (inb : ∀ x, (![s, 0, 0] : Fin 3 → ℕ) x + S1x2048x128.size x ≤ S8x2048x128.size x) (hr) (hq : S1x2048x128.Squeezes S2048x128) (z : S2048x128.Idx) :
    ((kbM.slice (Rect.unit (s := S8x2048x128) ![s, 0, 0] S1x2048x128.size inb) hr).squeeze S2048x128 hq).view.read (Elt F) (kvTgt h c K) z
      = K (ix4 (a := 4) (b := 2048) (c := 32) (d := 128) ⟨c.val, c.isLt⟩ (z 0) (headOf h c ⟨s, hs⟩) (z 1)) :=
  congrArg (kvTgt h c K) (slot_emb kbM s hs inb hr hq z)
/-- the same of the value buffer. -/
theorem vb_tgt (h : Fin 2) (c : Dev nD) (K : S4x2048x32x128.Idx → F .f32) (s : ℕ) (hs : s < 8)
    (inb : ∀ x, (![s, 0, 0] : Fin 3 → ℕ) x + S1x2048x128.size x ≤ S8x2048x128.size x) (hr) (hq : S1x2048x128.Squeezes S2048x128) (z : S2048x128.Idx) :
    ((vbM.slice (Rect.unit (s := S8x2048x128) ![s, 0, 0] S1x2048x128.size inb) hr).squeeze S2048x128 hq).view.read (Elt F) (kvTgt h c K) z
      = K (ix4 (a := 4) (b := 2048) (c := 32) (d := 128) ⟨c.val, c.isLt⟩ (z 0) (headOf h c ⟨s, hs⟩) (z 1)) :=
  congrArg (kvTgt h c K) (slot_emb vbM s hs inb hr hq z)

/-- The body's last lines, after its last part. -/
def rootTail (d0 : Dev nD) : Prog (TpuEff nD τ sig (Elt F) Λ₀ .tc) PUnit := do
  let v500 : Memref sig .tc .vmem S1x2048x128 .f32 := vbM.slice (Rect.unit (s := S8x2048x128) ![6, 0, 0] S1x2048x128.size inb_S8x2048x128_S1x2048x128_6_0_0) (fun _ => rfl)
  let v501 : Memref sig .tc .vmem S2048x128 .f32 := v500.squeeze S2048x128 squeezes_S1x2048x128_S2048x128
  let v502 : Memref sig .tc .hbm S1x2048x1x128 .f32 := vM.slice (Rect.unit (s := S4x2048x32x128) (k0_off1 d0 0#1 2#32 6#32 2#32 6#32) S1x2048x1x128.size (k0_off1_inb d0 14)) (fun _ => rfl)
  let v503 : Memref sig .tc .hbm S2048x128 .f32 := v502.squeeze S2048x128 squeezes_S1x2048x1x128_S2048x128
  Prog.lift (.waitDma2 cc0_scratch12.sem v503 v501 ((View.wordExact_bits rfl).reshape _ _) ((View.wordExact_bits rfl).reshape _ _))
  let v504 : Memref sig .tc .vmem S1x2048x128 .f32 := kbM.slice (Rect.unit (s := S8x2048x128) ![7, 0, 0] S1x2048x128.size inb_S8x2048x128_S1x2048x128_7_0_0) (fun _ => rfl)
  let v505 : Memref sig .tc .vmem S2048x128 .f32 := v504.squeeze S2048x128 squeezes_S1x2048x128_S2048x128
  let v506 : Memref sig .tc .hbm S1x2048x1x128 .f32 := kM.slice (Rect.unit (s := S4x2048x32x128) (k0_off1 d0 0#1 2#32 7#32 2#32 7#32) S1x2048x1x128.size (k0_off1_inb d0 15)) (fun _ => rfl)
  let v507 : Memref sig .tc .hbm S2048x128 .f32 := v506.squeeze S2048x128 squeezes_S1x2048x1x128_S2048x128
  Prog.lift (.waitDma2 cc0_scratch11.sem v507 v505 ((View.wordExact_bits rfl).reshape _ _) ((View.wordExact_bits rfl).reshape _ _))
  let v508 : Memref sig .tc .vmem S1x2048x128 .f32 := vbM.slice (Rect.unit (s := S8x2048x128) ![7, 0, 0] S1x2048x128.size inb_S8x2048x128_S1x2048x128_7_0_0) (fun _ => rfl)
  let v509 : Memref sig .tc .vmem S2048x128 .f32 := v508.squeeze S2048x128 squeezes_S1x2048x128_S2048x128
  let v510 : Memref sig .tc .hbm S1x2048x1x128 .f32 := vM.slice (Rect.unit (s := S4x2048x32x128) (k0_off1 d0 0#1 2#32 7#32 2#32 7#32) S1x2048x1x128.size (k0_off1_inb d0 15)) (fun _ => rfl)
  let v511 : Memref sig .tc .hbm S2048x128 .f32 := v510.squeeze S2048x128 squeezes_S1x2048x1x128_S2048x128
  Prog.lift (.waitDma2 cc0_scratch12.sem v511 v509 ((View.wordExact_bits rfl).reshape _ _) ((View.wordExact_bits rfl).reshape _ _))
  Scf.Loop.for k0_t4_loop k0_t4_ok ⟨⟩ (k0_t4_body xM (Memref.isWhole_whole _) wqM (Memref.isWhole_whole _) woM (Memref.isWhole_whole _) kM (Memref.isWhole_whole _) vM (Memref.isWhole_whole _) oM (Memref.isWhole_whole _) aM (Memref.isWhole_whole _) bM (Memref.isWhole_whole _) cM (Memref.isWhole_whole _) dM (Memref.isWhole_whole _) wofM (Memref.isWhole_whole _) xbM (Memref.isWhole_whole _) qM (Memref.isWhole_whole _) kbM (Memref.isWhole_whole _) vbM (Memref.isWhole_whole _) cc0_scratch9 cc0_scratch10 cc0_scratch11 cc0_scratch12)
  pure ⟨⟩

set_option maxHeartbeats 4000000 in
/-- Hop 0's copies of the heads, query projection, output weights and attention. -/
theorem hop0 (m : (ℓ : Loc nD τ sig) → Buf (Elt F) ℓ) (ρ : Dev nD → PrngReg) (κ : ℕ) (c : Dev nD) (W : Waits sig Unit) (q : PosShare TreeShare) (X : S2048x1024.Idx → F .bf16) (A C : S2x1024x512.Idx → F .bf16) (B D : S2x512x1024.Idx → F .bf16)
    (KC VC : S4x2048x32x128.Idx → F .f32) (wf : S1024x1024.Idx → F .bf16) (qf : S2048x1024.Idx → F .bf16) (kf vf : S8x2048x128.Idx → F .f32) (of : S1x2048x1024.Idx → F .f32)
    (v7 v49 v51 : BitVec 32) {α : Type} (Q : α → sProp 𝕄) (kk : BitVec 32 → Prog (TpuEff nD τ sig (Elt F) Λ₀ .tc) α)
    (_plK : Transfers.BatchOf (c : Thread nD τ) (SemLoc.dma (sig := sig) kSem) 8)
    (_plV : Transfers.BatchOf (c : Thread nD τ) (SemLoc.dma (sig := sig) vSem) 8) :
    iprop(cellRes m ρ c 5 κ ∗ toks c kM KC ∗ toks c vM VC ∗ (xbM.view.loc (c : Thread nD τ) ↦[xbM.view.set]{fullShare} X) ∗ winPts (F := F) aS0 c q A ∗ winPts (F := F) cS0 c q C
      ∗ (qM.view.loc (c : Thread nD τ) ↦[qM.view.set]{fullShare} qf) ∗ winPts (F := F) bS0 c q B ∗ winPts (F := F) dS0 c q D
      ∗ (wofM.view.loc (c : Thread nD τ) ↦[wofM.view.set]{fullShare} wf)
      ∗ (kbM.view.loc (c : Thread nD τ) ↦[kbM.view.set]{fullShare} kf) ∗ (vbM.view.loc (c : Thread nD τ) ↦[vbM.view.set]{fullShare} vf)
      ∗ (oM.view.loc (c : Thread nD τ) ↦[oM.view.set]{fullShare} of)
      ∗ semVal ((c : Thread nD τ), SemLoc.dma kSem) 0 ∗ semVal ((c : Thread nD τ), SemLoc.dma vSem) 0 ∗ owes (c : Thread nD τ) 0 W
      ∗ (∀ v, (semVal (kcell (c, 5)) 0 ∗ pay m ρ 5 false c ∗ (∃ W', owes (c : Thread nD τ) 0 W') ∗ toks c kM KC ∗ toks c vM VC ∗ (xbM.view.loc (c : Thread nD τ) ↦[xbM.view.set]{fullShare} X) ∗ winPts (F := F) aS0 c q A ∗ winPts (F := F) cS0 c q C
      ∗ (qM.view.loc (c : Thread nD τ) ↦[qM.view.set]{fullShare} (qTgt X (slotQ A 1) (slotQ C 1))) ∗ winPts (F := F) bS0 c q B ∗ winPts (F := F) dS0 c q D
      ∗ (wofM.view.loc (c : Thread nD τ) ↦[wofM.view.set]{fullShare} (wTgt (k0_pay29 (slotO B 1)) (k0_pay30 (slotO D 1))))
      ∗ (kbM.view.loc (c : Thread nD τ) ↦[kbM.view.set]{fullShare} (kvTgt 0 c KC)) ∗ (vbM.view.loc (c : Thread nD τ) ↦[vbM.view.set]{fullShare} (kvTgt 0 c VC))
      ∗ (oM.view.loc (c : Thread nD τ) ↦[oM.view.set]{fullShare} (oTgt0 (qTgt X (slotQ A 1) (slotQ C 1)) (kvTgt 0 c KC) (kvTgt 0 c VC) (wTgt (k0_pay29 (slotO B 1)) (k0_pay30 (slotO D 1)))))
      ∗ semVal ((c : Thread nD τ), SemLoc.dma kSem) 0 ∗ semVal ((c : Thread nD τ), SemLoc.dma vSem) 0)
          -∗ wp (M := 𝕄) frame (wpE (defs₀ (F := F)) 𝒱₀ (c : Thread nD τ) none) Set.univ (kk v) Q))
    ⊢ wp (M := 𝕄) frame (wpE (defs₀ (F := F)) 𝒱₀ (c : Thread nD τ) none) Set.univ (do p13 (F := F) c v49 v51; p14 c; p15 c; p16 c; p17 c; p18 c; let v ← p19 c v7; kk v) Q := by
  rw [kb_split c kf, vb_split c vf]
  unfold toks
  iintro ⟨Hcell, ⟨HKr, HK0, HK1, HK2, HK3, HK4, HK5, HK6, HK7⟩, ⟨HVr, HV0, HV1, HV2, HV3, HV4, HV5, HV6, HV7⟩, HX, HA, HC, HQ, HB, HD, HW, ⟨Hkb0, Hkb1, Hkb2, Hkb3, Hkb4, Hkb5, Hkb6, Hkb7⟩, ⟨Hvb0, Hvb1, Hvb2, Hvb3, Hvb4, Hvb5, Hvb6, Hvb7⟩, Hout, HsK, HsV, HO, Hk⟩
  sl_exec
  sl_for (projInv1 c q X A C) $$ [HX HA HC HQ]
  case region => intro k _; exact t1_trip c c Set.univ q X A C k
  · unfold projInv1
    isplitl [HX]; · iexact HX
    isplitl [HA]; · iexact HA
    isplitl [HC]; · iexact HC
    iexists qf
    isplitl [HQ]; · iexact HQ
    ipureintro; intro y hy; exact absurd hy (by omega)
  iintro %u HP
  sl_exec
  ihave Hkb0 := (landed kbW0 c fullShare _ (kvTgt 0 c KC) (hop0.sl.dma0 c KC) (fun z => (head_read kM _ ⟨c.val, c.isLt⟩ (headOf 0 c 0) (off0_0 c) _ _ _ KC z).trans (kb_tgt 0 c KC 0 (by decide) _ _ _ z).symm)) $$ Hkb0
  ihave Hvb0 := (landed vbW0 c fullShare _ (kvTgt 0 c VC) (hop0.sl.dma1 c VC) (fun z => (head_read vM _ ⟨c.val, c.isLt⟩ (headOf 0 c 0) (off0_0 c) _ _ _ VC z).trans (vb_tgt 0 c VC 0 (by decide) _ _ _ z).symm)) $$ Hvb0
  ihave Hkb1 := (landed kbW1 c fullShare _ (kvTgt 0 c KC) (hop0.sl.dma2 c KC) (fun z => (head_read kM _ ⟨c.val, c.isLt⟩ (headOf 0 c 1) (off0_1 c) _ _ _ KC z).trans (kb_tgt 0 c KC 1 (by decide) _ _ _ z).symm)) $$ Hkb1
  ihave Hvb1 := (landed vbW1 c fullShare _ (kvTgt 0 c VC) (hop0.sl.dma3 c VC) (fun z => (head_read vM _ ⟨c.val, c.isLt⟩ (headOf 0 c 1) (off0_1 c) _ _ _ VC z).trans (vb_tgt 0 c VC 1 (by decide) _ _ _ z).symm)) $$ Hvb1
  ihave Hkb2 := (landed kbW2 c fullShare _ (kvTgt 0 c KC) (hop0.sl.dma4 c KC) (fun z => (head_read kM _ ⟨c.val, c.isLt⟩ (headOf 0 c 2) (off0_2 c) _ _ _ KC z).trans (kb_tgt 0 c KC 2 (by decide) _ _ _ z).symm)) $$ Hkb2
  ihave Hvb2 := (landed vbW2 c fullShare _ (kvTgt 0 c VC) (hop0.sl.dma5 c VC) (fun z => (head_read vM _ ⟨c.val, c.isLt⟩ (headOf 0 c 2) (off0_2 c) _ _ _ VC z).trans (vb_tgt 0 c VC 2 (by decide) _ _ _ z).symm)) $$ Hvb2
  ihave Hkb3 := (landed kbW3 c fullShare _ (kvTgt 0 c KC) (hop0.sl.dma6 c KC) (fun z => (head_read kM _ ⟨c.val, c.isLt⟩ (headOf 0 c 3) (off0_3 c) _ _ _ KC z).trans (kb_tgt 0 c KC 3 (by decide) _ _ _ z).symm)) $$ Hkb3
  ihave Hvb3 := (landed vbW3 c fullShare _ (kvTgt 0 c VC) (hop0.sl.dma7 c VC) (fun z => (head_read vM _ ⟨c.val, c.isLt⟩ (headOf 0 c 3) (off0_3 c) _ _ _ VC z).trans (vb_tgt 0 c VC 3 (by decide) _ _ _ z).symm)) $$ Hvb3
  ihave Hkb4 := (landed kbW4 c fullShare _ (kvTgt 0 c KC) (hop0.sl.dma8 c KC) (fun z => (head_read kM _ ⟨c.val, c.isLt⟩ (headOf 0 c 4) (off0_4 c) _ _ _ KC z).trans (kb_tgt 0 c KC 4 (by decide) _ _ _ z).symm)) $$ Hkb4
  ihave Hvb4 := (landed vbW4 c fullShare _ (kvTgt 0 c VC) (hop0.sl.dma9 c VC) (fun z => (head_read vM _ ⟨c.val, c.isLt⟩ (headOf 0 c 4) (off0_4 c) _ _ _ VC z).trans (vb_tgt 0 c VC 4 (by decide) _ _ _ z).symm)) $$ Hvb4
  ihave Hkb5 := (landed kbW5 c fullShare _ (kvTgt 0 c KC) (hop0.sl.dma10 c KC) (fun z => (head_read kM _ ⟨c.val, c.isLt⟩ (headOf 0 c 5) (off0_5 c) _ _ _ KC z).trans (kb_tgt 0 c KC 5 (by decide) _ _ _ z).symm)) $$ Hkb5
  ihave Hvb5 := (landed vbW5 c fullShare _ (kvTgt 0 c VC) (hop0.sl.dma11 c VC) (fun z => (head_read vM _ ⟨c.val, c.isLt⟩ (headOf 0 c 5) (off0_5 c) _ _ _ VC z).trans (vb_tgt 0 c VC 5 (by decide) _ _ _ z).symm)) $$ Hvb5
  ihave Hkb6 := (landed kbW6 c fullShare _ (kvTgt 0 c KC) (hop0.sl.dma12 c KC) (fun z => (head_read kM _ ⟨c.val, c.isLt⟩ (headOf 0 c 6) (off0_6 c) _ _ _ KC z).trans (kb_tgt 0 c KC 6 (by decide) _ _ _ z).symm)) $$ Hkb6
  ihave Hvb6 := (landed vbW6 c fullShare _ (kvTgt 0 c VC) (hop0.sl.dma13 c VC) (fun z => (head_read vM _ ⟨c.val, c.isLt⟩ (headOf 0 c 6) (off0_6 c) _ _ _ VC z).trans (vb_tgt 0 c VC 6 (by decide) _ _ _ z).symm)) $$ Hvb6
  ihave Hkb7 := (landed kbW7 c fullShare _ (kvTgt 0 c KC) (hop0.sl.dma14 c KC) (fun z => (head_read kM _ ⟨c.val, c.isLt⟩ (headOf 0 c 7) (off0_7 c) _ _ _ KC z).trans (kb_tgt 0 c KC 7 (by decide) _ _ _ z).symm)) $$ Hkb7
  ihave Hvb7 := (landed vbW7 c fullShare _ (kvTgt 0 c VC) (hop0.sl.dma15 c VC) (fun z => (head_read vM _ ⟨c.val, c.isLt⟩ (headOf 0 c 7) (off0_7 c) _ _ _ VC z).trans (vb_tgt 0 c VC 7 (by decide) _ _ _ z).symm)) $$ Hvb7
  ihave Hkb := (Entails.of_eq (kb_split c (kvTgt 0 c KC)).symm) $$ [Hkb0 Hkb1 Hkb2 Hkb3 Hkb4 Hkb5 Hkb6 Hkb7]
  · isplitl [Hkb0]; · iexact Hkb0
    isplitl [Hkb1]; · iexact Hkb1
    isplitl [Hkb2]; · iexact Hkb2
    isplitl [Hkb3]; · iexact Hkb3
    isplitl [Hkb4]; · iexact Hkb4
    isplitl [Hkb5]; · iexact Hkb5
    isplitl [Hkb6]; · iexact Hkb6
    iexact Hkb7
  ihave Hvb := (Entails.of_eq (vb_split c (kvTgt 0 c VC)).symm) $$ [Hvb0 Hvb1 Hvb2 Hvb3 Hvb4 Hvb5 Hvb6 Hvb7]
  · isplitl [Hvb0]; · iexact Hvb0
    isplitl [Hvb1]; · iexact Hvb1
    isplitl [Hvb2]; · iexact Hvb2
    isplitl [Hvb3]; · iexact Hvb3
    isplitl [Hvb4]; · iexact Hvb4
    isplitl [Hvb5]; · iexact Hvb5
    isplitl [Hvb6]; · iexact Hvb6
    iexact Hvb7
  unfold projInv1
  icases HP with ⟨HX, HA, HC, %qf', HQ, %hq⟩
  ihave HQ := (Entails.of_eq (pointsTo_congr (g := (qTgt X (slotQ A 1) (slotQ C 1))) fun y _ => hq y (lt_of_lt_of_le (y 0).isLt (by decide : 2048 ≤ 512 * k0_t1_loop.trips)))) $$ HQ
  ihave HW := (Entails.of_eq (pointsTo_congr (g := (wTgt (k0_pay29 (slotO B 1)) (k0_pay30 (slotO D 1)))) fun y _ => (w_step _ _ _ y).trans (congrArg₂ (fun u v => wTgt (k0_pay29 u) (k0_pay30 v) y) (read_b1 _ _ rfl B) (read_d1 _ _ rfl D)))) $$ HW
  sl_for (attInv2 c (qTgt X (slotQ A 1) (slotQ C 1)) (kvTgt 0 c KC) (kvTgt 0 c VC) (wTgt (k0_pay29 (slotO B 1)) (k0_pay30 (slotO D 1)))) $$ [HW HQ Hkb Hvb Hout]
  case region => intro k _; exact t2_trip c c v7 Set.univ (qTgt X (slotQ A 1) (slotQ C 1)) (kvTgt 0 c KC) (kvTgt 0 c VC) (wTgt (k0_pay29 (slotO B 1)) (k0_pay30 (slotO D 1))) k
  · unfold attInv2
    isplitl [HW]; · iexact HW
    isplitl [HQ]; · iexact HQ
    isplitl [Hkb]; · iexact Hkb
    isplitl [Hvb]; · iexact Hvb
    iexists of
    isplitl [Hout]; · iexact Hout
    ipureintro; intro y; exact fun hy => absurd hy (by omega)
  iintro %u2 HP2
  unfold attInv2
  icases HP2 with ⟨HW, HQ, Hkb, Hvb, %of', Hout, %ho⟩
  ihave Hout := (Entails.of_eq (pointsTo_congr (g := (oTgt0 (qTgt X (slotQ A 1) (slotQ C 1)) (kvTgt 0 c KC) (kvTgt 0 c VC) (wTgt (k0_pay29 (slotO B 1)) (k0_pay30 (slotO D 1))))) fun y _ => ho y (lt_of_lt_of_le (y 1).isLt (by decide : 2048 ≤ 512 * k0_t2_loop.trips)))) $$ Hout
  iapply (wait_one m ρ c 5 (by decide) κ _ sS0 rfl aS1 aS0 _ _ rfl (fun _ => Pure.pure (Scalar.muli v7 1#32)) _) $$ [Hcell HO]
  · isplitl [Hcell]; · iexact Hcell
    iexact HO
  iintro ⟨HO, Hz, Hpay⟩
  rw [wp_pure]; imodintro
  iapply Hk
  isplitl [Hz]; · iexact Hz
  isplitl [Hpay]; · iexact Hpay
  isplitl [HO]; · iexists _; iexact HO
  isplitl [HKr HK0 HK1 HK2 HK3 HK4 HK5 HK6 HK7]
  · isplitl [HKr]; · iexact HKr
    isplitl [HK0]; · iexact HK0
    isplitl [HK1]; · iexact HK1
    isplitl [HK2]; · iexact HK2
    isplitl [HK3]; · iexact HK3
    isplitl [HK4]; · iexact HK4
    isplitl [HK5]; · iexact HK5
    isplitl [HK6]; · iexact HK6
    iexact HK7
  isplitl [HVr HV0 HV1 HV2 HV3 HV4 HV5 HV6 HV7]
  · isplitl [HVr]; · iexact HVr
    isplitl [HV0]; · iexact HV0
    isplitl [HV1]; · iexact HV1
    isplitl [HV2]; · iexact HV2
    isplitl [HV3]; · iexact HV3
    isplitl [HV4]; · iexact HV4
    isplitl [HV5]; · iexact HV5
    isplitl [HV6]; · iexact HV6
    iexact HV7
  isplitl [HX]; · iexact HX
  isplitl [HA]; · iexact HA
  isplitl [HC]; · iexact HC
  isplitl [HQ]; · iexact HQ
  isplitl [HB]; · iexact HB
  isplitl [HD]; · iexact HD
  isplitl [HW]; · iexact HW
  isplitl [Hkb]; · iexact Hkb
  isplitl [Hvb]; · iexact Hvb
  isplitl [Hout]; · iexact Hout
  isplitl [HsK]; · iexact HsK
  iexact HsV

set_option maxHeartbeats 4000000 in
/-- Hop 1's copies of the heads, query projection, output weights and attention. -/
theorem hop1 (c : Dev nD) (W : Waits sig Unit) (q : PosShare TreeShare) (X : S2048x1024.Idx → F .bf16) (A C : S2x1024x512.Idx → F .bf16) (B D : S2x512x1024.Idx → F .bf16)
    (KC VC : S4x2048x32x128.Idx → F .f32) (wf : S1024x1024.Idx → F .bf16) (qf : S2048x1024.Idx → F .bf16) (kf vf : S8x2048x128.Idx → F .f32) (of : S1x2048x1024.Idx → F .f32)
    (v330 v332 : BitVec 32) (Q : PUnit → sProp 𝕄)
    (_plK : Transfers.BatchOf (c : Thread nD τ) (SemLoc.dma (sig := sig) kSem) 8)
    (_plV : Transfers.BatchOf (c : Thread nD τ) (SemLoc.dma (sig := sig) vSem) 8) :
    iprop(toks c kM KC ∗ toks c vM VC ∗ (xbM.view.loc (c : Thread nD τ) ↦[xbM.view.set]{fullShare} X) ∗ winPts (F := F) aS1 c q A ∗ winPts (F := F) cS1 c q C
      ∗ (qM.view.loc (c : Thread nD τ) ↦[qM.view.set]{fullShare} qf) ∗ winPts (F := F) bS1 c q B ∗ winPts (F := F) dS1 c q D
      ∗ (wofM.view.loc (c : Thread nD τ) ↦[wofM.view.set]{fullShare} wf)
      ∗ (kbM.view.loc (c : Thread nD τ) ↦[kbM.view.set]{fullShare} kf) ∗ (vbM.view.loc (c : Thread nD τ) ↦[vbM.view.set]{fullShare} vf)
      ∗ (oM.view.loc (c : Thread nD τ) ↦[oM.view.set]{fullShare} of)
      ∗ semVal ((c : Thread nD τ), SemLoc.dma kSem) 0 ∗ semVal ((c : Thread nD τ), SemLoc.dma vSem) 0 ∗ owes (c : Thread nD τ) 0 W
      ∗ (((∃ W', owes (c : Thread nD τ) 0 W') ∗ toks c kM KC ∗ toks c vM VC ∗ (xbM.view.loc (c : Thread nD τ) ↦[xbM.view.set]{fullShare} X) ∗ winPts (F := F) aS1 c q A ∗ winPts (F := F) cS1 c q C
      ∗ (qM.view.loc (c : Thread nD τ) ↦[qM.view.set]{fullShare} (qTgt X (slotQ A 0) (slotQ C 0))) ∗ winPts (F := F) bS1 c q B ∗ winPts (F := F) dS1 c q D
      ∗ (wofM.view.loc (c : Thread nD τ) ↦[wofM.view.set]{fullShare} (wTgt (k0_pay34 (slotO B 0)) (k0_pay35 (slotO D 0))))
      ∗ (kbM.view.loc (c : Thread nD τ) ↦[kbM.view.set]{fullShare} (kvTgt 1 c KC)) ∗ (vbM.view.loc (c : Thread nD τ) ↦[vbM.view.set]{fullShare} (kvTgt 1 c VC))
      ∗ (oM.view.loc (c : Thread nD τ) ↦[oM.view.set]{fullShare} (oTgt1 (qTgt X (slotQ A 0) (slotQ C 0)) (kvTgt 1 c KC) (kvTgt 1 c VC) (wTgt (k0_pay34 (slotO B 0)) (k0_pay35 (slotO D 0))) of))
      ∗ semVal ((c : Thread nD τ), SemLoc.dma kSem) 0 ∗ semVal ((c : Thread nD τ), SemLoc.dma vSem) 0)
          -∗ Q ⟨⟩))
    ⊢ wp (M := 𝕄) frame (wpE (defs₀ (F := F)) 𝒱₀ (c : Thread nD τ) none) Set.univ (do p23 (F := F) c v330 v332; p24 c; p25 c; p26 c; p27 c; p28 c; rootTail c) Q := by
  rw [kb_split c kf, vb_split c vf]
  unfold toks
  iintro ⟨⟨HKr, HK0, HK1, HK2, HK3, HK4, HK5, HK6, HK7⟩, ⟨HVr, HV0, HV1, HV2, HV3, HV4, HV5, HV6, HV7⟩, HX, HA, HC, HQ, HB, HD, HW, ⟨Hkb0, Hkb1, Hkb2, Hkb3, Hkb4, Hkb5, Hkb6, Hkb7⟩, ⟨Hvb0, Hvb1, Hvb2, Hvb3, Hvb4, Hvb5, Hvb6, Hvb7⟩, Hout, HsK, HsV, HO, Hk⟩
  sl_exec
  sl_for (projInv3 c q X A C) $$ [HX HA HC HQ]
  case region => intro k _; exact t3_trip c c Set.univ q X A C k
  · unfold projInv3
    isplitl [HX]; · iexact HX
    isplitl [HA]; · iexact HA
    isplitl [HC]; · iexact HC
    iexists qf
    isplitl [HQ]; · iexact HQ
    ipureintro; intro y hy; exact absurd hy (by omega)
  iintro %u HP
  sl_exec
  ihave Hkb0 := (landed kbW0 c fullShare _ (kvTgt 1 c KC) (hop1.sl.dma0 c KC) (fun z => (head_read kM _ ⟨c.val, c.isLt⟩ (headOf 1 c 0) (off1_0 c) _ _ _ KC z).trans (kb_tgt 1 c KC 0 (by decide) _ _ _ z).symm)) $$ Hkb0
  ihave Hvb0 := (landed vbW0 c fullShare _ (kvTgt 1 c VC) (hop1.sl.dma1 c VC) (fun z => (head_read vM _ ⟨c.val, c.isLt⟩ (headOf 1 c 0) (off1_0 c) _ _ _ VC z).trans (vb_tgt 1 c VC 0 (by decide) _ _ _ z).symm)) $$ Hvb0
  ihave Hkb1 := (landed kbW1 c fullShare _ (kvTgt 1 c KC) (hop1.sl.dma2 c KC) (fun z => (head_read kM _ ⟨c.val, c.isLt⟩ (headOf 1 c 1) (off1_1 c) _ _ _ KC z).trans (kb_tgt 1 c KC 1 (by decide) _ _ _ z).symm)) $$ Hkb1
  ihave Hvb1 := (landed vbW1 c fullShare _ (kvTgt 1 c VC) (hop1.sl.dma3 c VC) (fun z => (head_read vM _ ⟨c.val, c.isLt⟩ (headOf 1 c 1) (off1_1 c) _ _ _ VC z).trans (vb_tgt 1 c VC 1 (by decide) _ _ _ z).symm)) $$ Hvb1
  ihave Hkb2 := (landed kbW2 c fullShare _ (kvTgt 1 c KC) (hop1.sl.dma4 c KC) (fun z => (head_read kM _ ⟨c.val, c.isLt⟩ (headOf 1 c 2) (off1_2 c) _ _ _ KC z).trans (kb_tgt 1 c KC 2 (by decide) _ _ _ z).symm)) $$ Hkb2
  ihave Hvb2 := (landed vbW2 c fullShare _ (kvTgt 1 c VC) (hop1.sl.dma5 c VC) (fun z => (head_read vM _ ⟨c.val, c.isLt⟩ (headOf 1 c 2) (off1_2 c) _ _ _ VC z).trans (vb_tgt 1 c VC 2 (by decide) _ _ _ z).symm)) $$ Hvb2
  ihave Hkb3 := (landed kbW3 c fullShare _ (kvTgt 1 c KC) (hop1.sl.dma6 c KC) (fun z => (head_read kM _ ⟨c.val, c.isLt⟩ (headOf 1 c 3) (off1_3 c) _ _ _ KC z).trans (kb_tgt 1 c KC 3 (by decide) _ _ _ z).symm)) $$ Hkb3
  ihave Hvb3 := (landed vbW3 c fullShare _ (kvTgt 1 c VC) (hop1.sl.dma7 c VC) (fun z => (head_read vM _ ⟨c.val, c.isLt⟩ (headOf 1 c 3) (off1_3 c) _ _ _ VC z).trans (vb_tgt 1 c VC 3 (by decide) _ _ _ z).symm)) $$ Hvb3
  ihave Hkb4 := (landed kbW4 c fullShare _ (kvTgt 1 c KC) (hop1.sl.dma8 c KC) (fun z => (head_read kM _ ⟨c.val, c.isLt⟩ (headOf 1 c 4) (off1_4 c) _ _ _ KC z).trans (kb_tgt 1 c KC 4 (by decide) _ _ _ z).symm)) $$ Hkb4
  ihave Hvb4 := (landed vbW4 c fullShare _ (kvTgt 1 c VC) (hop1.sl.dma9 c VC) (fun z => (head_read vM _ ⟨c.val, c.isLt⟩ (headOf 1 c 4) (off1_4 c) _ _ _ VC z).trans (vb_tgt 1 c VC 4 (by decide) _ _ _ z).symm)) $$ Hvb4
  ihave Hkb5 := (landed kbW5 c fullShare _ (kvTgt 1 c KC) (hop1.sl.dma10 c KC) (fun z => (head_read kM _ ⟨c.val, c.isLt⟩ (headOf 1 c 5) (off1_5 c) _ _ _ KC z).trans (kb_tgt 1 c KC 5 (by decide) _ _ _ z).symm)) $$ Hkb5
  ihave Hvb5 := (landed vbW5 c fullShare _ (kvTgt 1 c VC) (hop1.sl.dma11 c VC) (fun z => (head_read vM _ ⟨c.val, c.isLt⟩ (headOf 1 c 5) (off1_5 c) _ _ _ VC z).trans (vb_tgt 1 c VC 5 (by decide) _ _ _ z).symm)) $$ Hvb5
  ihave Hkb6 := (landed kbW6 c fullShare _ (kvTgt 1 c KC) (hop1.sl.dma12 c KC) (fun z => (head_read kM _ ⟨c.val, c.isLt⟩ (headOf 1 c 6) (off1_6 c) _ _ _ KC z).trans (kb_tgt 1 c KC 6 (by decide) _ _ _ z).symm)) $$ Hkb6
  ihave Hvb6 := (landed vbW6 c fullShare _ (kvTgt 1 c VC) (hop1.sl.dma13 c VC) (fun z => (head_read vM _ ⟨c.val, c.isLt⟩ (headOf 1 c 6) (off1_6 c) _ _ _ VC z).trans (vb_tgt 1 c VC 6 (by decide) _ _ _ z).symm)) $$ Hvb6
  ihave Hkb7 := (landed kbW7 c fullShare _ (kvTgt 1 c KC) (hop1.sl.dma14 c KC) (fun z => (head_read kM _ ⟨c.val, c.isLt⟩ (headOf 1 c 7) (off1_7 c) _ _ _ KC z).trans (kb_tgt 1 c KC 7 (by decide) _ _ _ z).symm)) $$ Hkb7
  ihave Hvb7 := (landed vbW7 c fullShare _ (kvTgt 1 c VC) (hop1.sl.dma15 c VC) (fun z => (head_read vM _ ⟨c.val, c.isLt⟩ (headOf 1 c 7) (off1_7 c) _ _ _ VC z).trans (vb_tgt 1 c VC 7 (by decide) _ _ _ z).symm)) $$ Hvb7
  ihave Hkb := (Entails.of_eq (kb_split c (kvTgt 1 c KC)).symm) $$ [Hkb0 Hkb1 Hkb2 Hkb3 Hkb4 Hkb5 Hkb6 Hkb7]
  · isplitl [Hkb0]; · iexact Hkb0
    isplitl [Hkb1]; · iexact Hkb1
    isplitl [Hkb2]; · iexact Hkb2
    isplitl [Hkb3]; · iexact Hkb3
    isplitl [Hkb4]; · iexact Hkb4
    isplitl [Hkb5]; · iexact Hkb5
    isplitl [Hkb6]; · iexact Hkb6
    iexact Hkb7
  ihave Hvb := (Entails.of_eq (vb_split c (kvTgt 1 c VC)).symm) $$ [Hvb0 Hvb1 Hvb2 Hvb3 Hvb4 Hvb5 Hvb6 Hvb7]
  · isplitl [Hvb0]; · iexact Hvb0
    isplitl [Hvb1]; · iexact Hvb1
    isplitl [Hvb2]; · iexact Hvb2
    isplitl [Hvb3]; · iexact Hvb3
    isplitl [Hvb4]; · iexact Hvb4
    isplitl [Hvb5]; · iexact Hvb5
    isplitl [Hvb6]; · iexact Hvb6
    iexact Hvb7
  unfold projInv3
  icases HP with ⟨HX, HA, HC, %qf', HQ, %hq⟩
  ihave HQ := (Entails.of_eq (pointsTo_congr (g := (qTgt X (slotQ A 0) (slotQ C 0))) fun y _ => hq y (lt_of_lt_of_le (y 0).isLt (by decide : 2048 ≤ 512 * k0_t3_loop.trips)))) $$ HQ
  ihave HW := (Entails.of_eq (pointsTo_congr (g := (wTgt (k0_pay34 (slotO B 0)) (k0_pay35 (slotO D 0)))) fun y _ => (w_step _ _ _ y).trans (congrArg₂ (fun u v => wTgt (k0_pay34 u) (k0_pay35 v) y) (read_b0 _ _ rfl B) (read_d0 _ _ rfl D)))) $$ HW
  sl_for (attInv4 c (qTgt X (slotQ A 0) (slotQ C 0)) (kvTgt 1 c KC) (kvTgt 1 c VC) (wTgt (k0_pay34 (slotO B 0)) (k0_pay35 (slotO D 0))) of) $$ [HW HQ Hkb Hvb Hout]
  case region => intro k _; exact t4_trip c Set.univ (qTgt X (slotQ A 0) (slotQ C 0)) (kvTgt 1 c KC) (kvTgt 1 c VC) (wTgt (k0_pay34 (slotO B 0)) (k0_pay35 (slotO D 0))) of k
  · unfold attInv4
    isplitl [HW]; · iexact HW
    isplitl [HQ]; · iexact HQ
    isplitl [Hkb]; · iexact Hkb
    isplitl [Hvb]; · iexact Hvb
    iexists of
    isplitl [Hout]; · iexact Hout
    ipureintro; intro y; rw [if_neg (by omega)]
  iintro %u2 HP2
  unfold attInv4
  icases HP2 with ⟨HW, HQ, Hkb, Hvb, %of', Hout, %ho⟩
  ihave Hout := (Entails.of_eq (pointsTo_congr (g := (oTgt1 (qTgt X (slotQ A 0) (slotQ C 0)) (kvTgt 1 c KC) (kvTgt 1 c VC) (wTgt (k0_pay34 (slotO B 0)) (k0_pay35 (slotO D 0))) of)) fun y _ => (ho y).trans (if_pos (lt_of_lt_of_le (y 1).isLt (by decide : 2048 ≤ 512 * k0_t4_loop.trips))))) $$ Hout
  unfold hop1.sl.prog.cont_2
  rw [wp_pure]; imodintro
  iapply Hk
  isplitl [HO]; · iexists _; iexact HO
  isplitl [HKr HK0 HK1 HK2 HK3 HK4 HK5 HK6 HK7]
  · isplitl [HKr]; · iexact HKr
    isplitl [HK0]; · iexact HK0
    isplitl [HK1]; · iexact HK1
    isplitl [HK2]; · iexact HK2
    isplitl [HK3]; · iexact HK3
    isplitl [HK4]; · iexact HK4
    isplitl [HK5]; · iexact HK5
    isplitl [HK6]; · iexact HK6
    iexact HK7
  isplitl [HVr HV0 HV1 HV2 HV3 HV4 HV5 HV6 HV7]
  · isplitl [HVr]; · iexact HVr
    isplitl [HV0]; · iexact HV0
    isplitl [HV1]; · iexact HV1
    isplitl [HV2]; · iexact HV2
    isplitl [HV3]; · iexact HV3
    isplitl [HV4]; · iexact HV4
    isplitl [HV5]; · iexact HV5
    isplitl [HV6]; · iexact HV6
    iexact HV7
  isplitl [HX]; · iexact HX
  isplitl [HA]; · iexact HA
  isplitl [HC]; · iexact HC
  isplitl [HQ]; · iexact HQ
  isplitl [HB]; · iexact HB
  isplitl [HD]; · iexact HD
  isplitl [HW]; · iexact HW
  isplitl [Hkb]; · iexact Hkb
  isplitl [Hvb]; · iexact Hvb
  isplitl [Hout]; · iexact Hout
  isplitl [HsK]; · iexact HsK
  iexact HsV

end Cert.MidIdeal.Slice

end
-- ==== Proof.Mid.Exch.lean ====
module

public import proofs.«01_k».proof.Proof.Mid.Body
public import Idealize.ShloMosaic.Lib.Batch
public import Idealize.ShloMosaic.Lib.Writes
public import Idealize.ShloMosaic.Lib.WritesUnit
public import Idealize.ShloMosaic.Lib.WritesUnit
public import Idealize.ShloMosaic.Lib.WritesUnit

@[expose] public section

noncomputable section

namespace Cert.MidIdeal.Slice

open Cert.MidIdeal Cert.MidIdeal.Gen

open Idealize.ShloMosaic Idealize.ShloMosaic.Tactic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

/-- A whole buffer of device `c` at contents `f`. -/
abbrev bufPts {s : Shape} {e : EltTy} {sp : Space} (W : Memref sig .tc sp s e) (c : Dev nD) (f : Buf (Elt F) (W.view.loc (c : Thread nD τ))) : sProp 𝕄 :=
  W.view.loc (c : Thread nD τ) ↦[W.view.set]{fullShare} f

/-- The rows of `x` rounded, as the kernel keeps them. -/
def xbC (c : Dev nD) : S2048x1024.Idx → F .bf16 :=
  k0_pay26 (xM.view.readAt (Elt F) (Rect.unit (s := S1x2048x1024) ![0, 0, 0] S1x2048x1024.size inb_S1x2048x1024_S1x2048x1024_0_0_0).toLoadRect (xC m ρ c))

/-- Every cell's invariant, and that it has reached its round, under the names the launch allocated. -/
def allInv (K : Dev nD × Fin 9 → ℕ) : sProp 𝕄 :=
  bigSep Finset.univ fun ck : Dev nD × Fin 9 => iprop(cellInv ER (rd m ρ) (K ck) (kcell ck) ∗ reached ER (kcell ck) 0)

instance allInv_persistent (K : Dev nD × Fin 9 → ℕ) : BI.Persistent (allInv (F := F) m ρ K) := by unfold allInv; infer_instance

/-- One copy to a neighbour's slot: the source's share and the duty tokens of its two cells go in, the credit of the send cell comes out. -/
theorem send_one {α : Type} {s : Shape} {e : EltTy} (src dst : Memref sig .tc .vmem s e) (c n n' : Dev nD) (hn : n' = n) (k₁ k₂ : Fin 9) (hk₁ : k₁ ≠ 0) (hk₂ : k₂ ≠ 0)
    (sS rS : DmaSem sig) (h₁ : csem k₁ = .dma sS) (h₂ : csem k₂ = .dma rS) (hN : dst.view.amount (.dma rS) = amt k₂) (hA : amt k₁ = amt k₂) (κ₁ κ₂ : ℕ)
    (q : PosShare TreeShare) (fs : Buf (Elt F) (src.view.loc (c : Thread nD τ))) (fd : Buf (Elt F) (dst.view.loc (n : Thread nD τ)))
    {hsc : (dst : Memref sig (Dev.tc n' : Thread nD τ).2.kind .vmem s e).view.ref.isScScratch = false} {hsrc : src.view.WordExact} {hdst : dst.view.WordExact}
    {hsem : DmaTarget.Typed .vmem (.dma rS) (.remote (Dev.tc n' : Thread nD τ) (dst : Memref sig (Dev.tc n' : Thread nD τ).2.kind .vmem s e) (.dma sS) hsc)}
    (O : CellTallies nD τ sig Unit) (W : Waits sig Unit)
    (hp₁ : winPts (F := F) src c q fs ⊢ pay m ρ k₁ false c)
    (hp₂ : (dst.view.loc (n : Thread nD τ) ↦[dst.view.set]{fullShare} (dst.view.write (Elt F) fd (src.view.read (Elt F) fs) Finset.univ) : sProp 𝕄) ⊢ pay m ρ k₂ false n)
    (k : PUnit → Prog (TpuEff nD τ sig (Elt F) Λ₀ .tc) α) (Q : α → sProp 𝕄) :
    iprop(cellInv ER (rd m ρ) κ₁ (kcell (c, k₁)) ∗ cellInv ER (rd m ρ) κ₂ (kcell (n, k₂)) ∗ winPts (F := F) src c q fs ∗ winPts (F := F) dst n fullShare fd
        ∗ owes (c : Thread nD τ) (O + tallyAt (kcell (n, k₂)) () (amt k₂)) W
        ∗ dutyTok ER (kcell (c, k₁)) 0 false ∗ reached ER (kcell (c, k₁)) 0 ∗ dutyTok ER (kcell (n, k₂)) 0 false ∗ reached ER (kcell (n, k₂)) 0)
      ⊢ iprop(((cred (tallyAt (kcell (c, k₁)) () (amt k₁)) ∗ owes (c : Thread nD τ) O W) -∗ wp (M := 𝕄) frame (wpE (defs₀ (F := F)) 𝒱₀ (c : Thread nD τ) none) Set.univ (k ⟨⟩) Q)
          -∗ wp (M := 𝕄) frame (wpE (defs₀ (F := F)) 𝒱₀ (c : Thread nD τ) none) Set.univ
              (.op (.enqueueDma src (.remote (Dev.tc n' : Thread nD τ) dst (.dma sS) hsc) (.dma rS) hsrc hdst hsem) k) Q) := by
  subst hn
  have e₁ : kcell (c, k₁) = ((c : Thread nD τ), SemLoc.dma sS) := by show ((c : Thread nD τ), csem k₁) = _; rw [h₁]
  have e₂ : kcell (n', k₂) = ((n' : Thread nD τ), SemLoc.dma rS) := by show ((n' : Thread nD τ), csem k₂) = _; rw [h₂]
  have d₁ : false ∈ (rd (F := F) m ρ).duties ((c : Thread nD τ), SemLoc.dma sS) 0 := by rw [← e₁, duties_cell, duts, if_neg hk₁]; exact Finset.mem_singleton_self _
  have d₂ : false ∈ (rd (F := F) m ρ).duties ((n' : Thread nD τ), SemLoc.dma rS) 0 := by rw [← e₂, duties_cell, duts, if_neg hk₂]; exact Finset.mem_singleton_self _
  have a₁ : (rd (F := F) m ρ).amount ((c : Thread nD τ), SemLoc.dma sS) 0 false = amt k₂ := by rw [← e₁, amount_cell, hA]
  have a₂ : (rd (F := F) m ρ).amount ((n' : Thread nD τ), SemLoc.dma rS) 0 false = amt k₂ := by rw [← e₂, amount_cell]
  have p₁ := payload_cell (F := F) m ρ c k₁ false
  have p₂ := payload_cell (F := F) m ρ n' k₂ false
  rw [e₁] at p₁ ⊢
  rw [e₂] at p₂ ⊢
  rw [hA]
  exact Rounds.wp_send_pointsTo 𝒱₀ ER (rd m ρ) (c : Thread nD τ) none (κ₁ := κ₁) (κ₂ := κ₂)
    (r₁ := 0) (r₂ := 0) (d₁ := false) (d₂ := false) (fd := fd) d₁ d₂ () () (amt k₂) hN a₁ a₂ O rfl (W := W) (by rw [p₁]; exact hp₁) (by rw [p₂]; exact hp₂)

theorem inv_at (K : Dev nD × Fin 9 → ℕ) (ck : Dev nD × Fin 9) :
    allInv (F := F) m ρ K ⊢ iprop(cellInv ER (rd m ρ) (K ck) (kcell ck) ∗ reached ER (kcell ck) 0) := by
  unfold allInv
  rw [bigSep_univ_at _ ck]
  iintro ⟨H, -⟩; iexact H

theorem a_fill (f : aM.view.ty.Contents (Elt F)) (p : Vec F S1x1024x512 .bf16) (y : S2x1024x512.Idx) (hy : (y 0).val = 1) :
    aM.view.writes (Elt F) f [⟨Rect.unit (s := S2x1024x512) ![1, 0, 0] S1x1024x512.size inb_S2x1024x512_S1x1024x512_1_0_0, p⟩] y = bothQ p y := by
  refine (congrFun (View.read_whole (Val := Elt F) cc0_scratch0 _) y).symm.trans ?_
  refine (View.read_writes_cons_unit_of_mem aM.view f _ _ _ y (ix3 0 (y 1) (y 2)) rfl (fun a => ?_)).trans ?_
  · match a with
    | ⟨0, _⟩ => show (y 0).val = 1 + 0; omega
    | ⟨1, _⟩ => show (y 1).val = 0 + (y 1).val; omega
    | ⟨2, _⟩ => show (y 2).val = 0 + (y 2).val; omega
  · unfold bothQ
    refine congrArg p (funext fun a => ?_)
    match a with
    | ⟨0, _⟩ => rfl
    | ⟨1, _⟩ => rfl
    | ⟨2, _⟩ => rfl
/-- The landing in slot 0 of what slot 1 of the neighbour holds. -/
theorem a_land (c n : Dev nD) (fd : Buf (Elt F) (aS1.view.loc (n : Thread nD τ))) (p : Vec F S1x1024x512 .bf16) :
    (aS1.view.loc (n : Thread nD τ) ↦[aS1.view.set]{fullShare} (aS1.view.write (Elt F) fd (aS0.view.read (Elt F) (bothQ p)) Finset.univ) : sProp 𝕄)
      ⊢ winPts aS1 n fullShare (bothQ p) :=
  landed' aS1 n fullShare fd (bothQ p) (aS0.view.read (Elt F) (bothQ p)) (fun z =>
    (congrArg (bothQ p) (slot_emb aM 1 (by decide) inb_S2x1024x512_S1x1024x512_1_0_0 (fun _ => rfl) squeezes_S1x1024x512_S1024x512 z)).trans
      (congrArg (bothQ p) (slot_emb aM 0 (by decide) inb_S2x1024x512_S1x1024x512_0_0_0 (fun _ => rfl) squeezes_S1x1024x512_S1024x512 z)).symm)
theorem b_fill (f : bM.view.ty.Contents (Elt F)) (p : Vec F S1x512x1024 .bf16) (y : S2x512x1024.Idx) (hy : (y 0).val = 1) :
    bM.view.writes (Elt F) f [⟨Rect.unit (s := S2x512x1024) ![1, 0, 0] S1x512x1024.size inb_S2x512x1024_S1x512x1024_1_0_0, p⟩] y = bothO p y := by
  refine (congrFun (View.read_whole (Val := Elt F) cc0_scratch1 _) y).symm.trans ?_
  refine (View.read_writes_cons_unit_of_mem bM.view f _ _ _ y (ix3 0 (y 1) (y 2)) rfl (fun a => ?_)).trans ?_
  · match a with
    | ⟨0, _⟩ => show (y 0).val = 1 + 0; omega
    | ⟨1, _⟩ => show (y 1).val = 0 + (y 1).val; omega
    | ⟨2, _⟩ => show (y 2).val = 0 + (y 2).val; omega
  · unfold bothO
    refine congrArg p (funext fun a => ?_)
    match a with
    | ⟨0, _⟩ => rfl
    | ⟨1, _⟩ => rfl
    | ⟨2, _⟩ => rfl
/-- The landing in slot 0 of what slot 1 of the neighbour holds. -/
theorem b_land (c n : Dev nD) (fd : Buf (Elt F) (bS1.view.loc (n : Thread nD τ))) (p : Vec F S1x512x1024 .bf16) :
    (bS1.view.loc (n : Thread nD τ) ↦[bS1.view.set]{fullShare} (bS1.view.write (Elt F) fd (bS0.view.read (Elt F) (bothO p)) Finset.univ) : sProp 𝕄)
      ⊢ winPts bS1 n fullShare (bothO p) :=
  landed' bS1 n fullShare fd (bothO p) (bS0.view.read (Elt F) (bothO p)) (fun z =>
    (congrArg (bothO p) (slot_emb bM 1 (by decide) inb_S2x512x1024_S1x512x1024_1_0_0 (fun _ => rfl) squeezes_S1x512x1024_S512x1024 z)).trans
      (congrArg (bothO p) (slot_emb bM 0 (by decide) inb_S2x512x1024_S1x512x1024_0_0_0 (fun _ => rfl) squeezes_S1x512x1024_S512x1024 z)).symm)
theorem c_fill (f : cM.view.ty.Contents (Elt F)) (p : Vec F S1x1024x512 .bf16) (y : S2x1024x512.Idx) (hy : (y 0).val = 1) :
    cM.view.writes (Elt F) f [⟨Rect.unit (s := S2x1024x512) ![1, 0, 0] S1x1024x512.size inb_S2x1024x512_S1x1024x512_1_0_0, p⟩] y = bothQ p y := by
  refine (congrFun (View.read_whole (Val := Elt F) cc0_scratch2 _) y).symm.trans ?_
  refine (View.read_writes_cons_unit_of_mem cM.view f _ _ _ y (ix3 0 (y 1) (y 2)) rfl (fun a => ?_)).trans ?_
  · match a with
    | ⟨0, _⟩ => show (y 0).val = 1 + 0; omega
    | ⟨1, _⟩ => show (y 1).val = 0 + (y 1).val; omega
    | ⟨2, _⟩ => show (y 2).val = 0 + (y 2).val; omega
  · unfold bothQ
    refine congrArg p (funext fun a => ?_)
    match a with
    | ⟨0, _⟩ => rfl
    | ⟨1, _⟩ => rfl
    | ⟨2, _⟩ => rfl
/-- The landing in slot 0 of what slot 1 of the neighbour holds. -/
theorem c_land (c n : Dev nD) (fd : Buf (Elt F) (cS1.view.loc (n : Thread nD τ))) (p : Vec F S1x1024x512 .bf16) :
    (cS1.view.loc (n : Thread nD τ) ↦[cS1.view.set]{fullShare} (cS1.view.write (Elt F) fd (cS0.view.read (Elt F) (bothQ p)) Finset.univ) : sProp 𝕄)
      ⊢ winPts cS1 n fullShare (bothQ p) :=
  landed' cS1 n fullShare fd (bothQ p) (cS0.view.read (Elt F) (bothQ p)) (fun z =>
    (congrArg (bothQ p) (slot_emb cM 1 (by decide) inb_S2x1024x512_S1x1024x512_1_0_0 (fun _ => rfl) squeezes_S1x1024x512_S1024x512 z)).trans
      (congrArg (bothQ p) (slot_emb cM 0 (by decide) inb_S2x1024x512_S1x1024x512_0_0_0 (fun _ => rfl) squeezes_S1x1024x512_S1024x512 z)).symm)
theorem d_fill (f : dM.view.ty.Contents (Elt F)) (p : Vec F S1x512x1024 .bf16) (y : S2x512x1024.Idx) (hy : (y 0).val = 1) :
    dM.view.writes (Elt F) f [⟨Rect.unit (s := S2x512x1024) ![1, 0, 0] S1x512x1024.size inb_S2x512x1024_S1x512x1024_1_0_0, p⟩] y = bothO p y := by
  refine (congrFun (View.read_whole (Val := Elt F) cc0_scratch3 _) y).symm.trans ?_
  refine (View.read_writes_cons_unit_of_mem dM.view f _ _ _ y (ix3 0 (y 1) (y 2)) rfl (fun a => ?_)).trans ?_
  · match a with
    | ⟨0, _⟩ => show (y 0).val = 1 + 0; omega
    | ⟨1, _⟩ => show (y 1).val = 0 + (y 1).val; omega
    | ⟨2, _⟩ => show (y 2).val = 0 + (y 2).val; omega
  · unfold bothO
    refine congrArg p (funext fun a => ?_)
    match a with
    | ⟨0, _⟩ => rfl
    | ⟨1, _⟩ => rfl
    | ⟨2, _⟩ => rfl
/-- The landing in slot 0 of what slot 1 of the neighbour holds. -/
theorem d_land (c n : Dev nD) (fd : Buf (Elt F) (dS1.view.loc (n : Thread nD τ))) (p : Vec F S1x512x1024 .bf16) :
    (dS1.view.loc (n : Thread nD τ) ↦[dS1.view.set]{fullShare} (dS1.view.write (Elt F) fd (dS0.view.read (Elt F) (bothO p)) Finset.univ) : sProp 𝕄)
      ⊢ winPts dS1 n fullShare (bothO p) :=
  landed' dS1 n fullShare fd (bothO p) (dS0.view.read (Elt F) (bothO p)) (fun z =>
    (congrArg (bothO p) (slot_emb dM 1 (by decide) inb_S2x512x1024_S1x512x1024_1_0_0 (fun _ => rfl) squeezes_S1x512x1024_S512x1024 z)).trans
      (congrArg (bothO p) (slot_emb dM 0 (by decide) inb_S2x512x1024_S1x512x1024_0_0_0 (fun _ => rfl) squeezes_S1x512x1024_S512x1024 z)).symm)

theorem xb_fill (f : xbM.view.ty.Contents (Elt F)) (p : Vec F S2048x1024 .bf16) (y : S2048x1024.Idx) :
    xbM.view.writes (Elt F) f [⟨Rect.unit (s := S2048x1024) ![0, 0] S2048x1024.size inb_S2048x1024_S2048x1024_0_0, p⟩] y = p y := by
  refine (congrFun (View.read_whole (Val := Elt F) cc0_scratch5 _) y).symm.trans ?_
  refine View.read_writes_cons_unit_of_mem xbM.view f _ _ _ y y rfl (fun a => ?_)
  match a with
  | ⟨0, _⟩ => show (y 0).val = 0 + (y 0).val; omega
  | ⟨1, _⟩ => show (y 1).val = 0 + (y 1).val; omega

theorem pay_bar_false (c : Dev nD) : pay (F := F) m ρ 0 false (prv c) = iprop(someWin aS1 c ∗ someWin bS1 c) := by
  show iprop(someWin aS1 (nxt (prv c)) ∗ someWin bS1 (nxt (prv c))) = _
  rw [nxt_prv]
theorem pay_bar_true (c : Dev nD) : pay (F := F) m ρ 0 true (nxt c) = iprop(someWin cS1 c ∗ someWin dS1 c) := by
  show iprop(someWin cS1 (prv (nxt c)) ∗ someWin dS1 (prv (nxt c))) = _
  rw [prv_nxt]

/-- A signal to a neighbour's barrier: the unit's payload and duty token go in. -/
theorem signal_one {α : Type} (c n n' : Dev nD) (hn : n' = n) (d : Bool) (κ : ℕ) (O : CellTallies nD τ sig Unit) (W : Waits sig Unit) (sem : Sem sig) (hs : sem = barS)
    (k : PUnit → Prog (TpuEff nD τ sig (Elt F) Λ₀ .tc) α) (Q : α → sProp 𝕄) :
    iprop(cellInv ER (rd m ρ) κ (kcell (n, 0)) ∗ owes (c : Thread nD τ) (O + tallyAt (kcell (n, 0)) () 1) W ∗ dutyTok ER (kcell (n, 0)) 0 d
        ∗ pay m ρ 0 d n ∗ reached ER (kcell (n, 0)) 0)
      ⊢ iprop((owes (c : Thread nD τ) O W -∗ wp (M := 𝕄) frame (wpE (defs₀ (F := F)) 𝒱₀ (c : Thread nD τ) none) Set.univ (k ⟨⟩) Q)
          -∗ wp (M := 𝕄) frame (wpE (defs₀ (F := F)) 𝒱₀ (c : Thread nD τ) none) Set.univ (.op (.semSignal (n' : Thread nD τ) sem (1#32 : BitVec 32).toInt) k) Q) := by
  subst hn hs
  rw [← payload_cell (F := F) m ρ n' 0 d]
  exact Rounds.wp_signal 𝒱₀ ER (rd (F := F) m ρ) (c : Thread nD τ) none (dst := (n' : Thread nD τ)) (sem := barS) (r := 0) (κ := κ)
      (d := d) (k' := 1) (by show d ∈ (rd (F := F) m ρ).duties (kcell (n', 0)) 0; rw [duties_cell]; exact Finset.mem_univ _)
      (amount_cell m ρ n' 0 d) () (O₀ := O + tallyAt (kcell (n', 0)) () 1) O rfl

/-- The barrier wait: both neighbours' units, which hand over the slots the copies write. -/
theorem wait_bar {α : Type} (c : Dev nD) (κ : ℕ) (W : Waits sig Unit) (sem : Sem sig) (hs : sem = barS)
    (k : PUnit → Prog (TpuEff nD τ sig (Elt F) Λ₀ .tc) α) (Q : α → sProp 𝕄) :
    iprop(cellInv ER (rd m ρ) κ (kcell (c, 0)) ∗ levAts L lv ∗ cred (tallyAt (kcell (c, 0)) () 2) ∗ owes (c : Thread nD τ) (owe0 c) W ∗ atPos ER (kcell (c, 0)) 0 ∅ 0)
      ⊢ iprop(((owes (c : Thread nD τ) (owe0 c) (insert (csem 0, ()) W) ∗ semVal (kcell (c, 0)) 0 ∗ pay m ρ 0 false c ∗ pay m ρ 0 true c)
            -∗ wp (M := 𝕄) frame (wpE (defs₀ (F := F)) 𝒱₀ (c : Thread nD τ) none) Set.univ (k ⟨⟩) Q)
          -∗ wp (M := 𝕄) frame (wpE (defs₀ (F := F)) 𝒱₀ (c : Thread nD τ) none) Set.univ (.op (.semWait sem (2#32 : BitVec 32).toInt) k) Q) := by
  subst hs
  iintro ⟨#HI, #Hlev, Hc, HO, Hat⟩ Hk
  iapply (Rounds.wp_wait_rest_token 𝒱₀ ER (rd m ρ) (c : Thread nD τ) none (κ := κ)
      (wpE_semWait_eq 𝒱₀ (c : Thread nD τ) none Set.univ) (Set.mem_univ _) () (O := owe0 c) (W := W) (R := 0) (m := 0) (T := ∅)
      (by show _ = (rd (F := F) m ρ).expect (kcell (c, 0)) 0; rw [expect_bar]; decide)) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (rd m ρ) (Set.mem_univ κ) (fun h => h) (R := 0 + 1) (duties_later m ρ (kcell (c, 0)))) $$ [Hat] with Hz
  · isplitr; · iexact HI
    iexact Hat
  iapply Hk
  isplitl [HO]; · iexact HO
  isplitl [Hz] <;> iassumption

/-- The duty tokens device `c` pays with: its neighbours' barrier units, their receive cells, its own send cells. -/
def payToks (c : Dev nD) : sProp 𝕄 :=
  iprop(dutyTok ER (kcell (prv c, 0)) 0 false ∗ dutyTok ER (kcell (nxt c, 0)) 0 true
    ∗ dutyTok ER (kcell (nxt c, 1)) 0 false ∗ dutyTok ER (kcell (nxt c, 2)) 0 false ∗ dutyTok ER (kcell (prv c, 3)) 0 false ∗ dutyTok ER (kcell (prv c, 4)) 0 false
    ∗ dutyTok ER (kcell (c, 5)) 0 false ∗ dutyTok ER (kcell (c, 6)) 0 false ∗ dutyTok ER (kcell (c, 7)) 0 false ∗ dutyTok ER (kcell (c, 8)) 0 false)

set_option maxHeartbeats 2000000 in
/-- The start of the body: the stores into slot 0, the handshake, the four copies. -/
theorem exch (K : Dev nD × Fin 9 → ℕ) (c : Dev nD) (W : Waits sig Unit) (af cf : S2x1024x512.Idx → F .bf16) (bf df : S2x512x1024.Idx → F .bf16) (xf : S2048x1024.Idx → F .bf16)
    {α : Type} (Q : α → sProp 𝕄) (kk : Dev nD → BitVec 32 → BitVec 32 → BitVec 32 → BitVec 32 → BitVec 32 → Prog (TpuEff nD τ sig (Elt F) Λ₀ .tc) α) :
    iprop(allInv m ρ K ∗ levAts L lv ∗ payToks (F := F) c ∗ cred (tallyAt (kcell (c, 0)) () 2) ∗ atPos ER (kcell (c, 0)) 0 ∅ 0
      ∗ bufPts xM c (xC m ρ c) ∗ bufPts wqM c (wqC m ρ c) ∗ bufPts woM c (woC m ρ c)
      ∗ bufPts (F := F) aM c af ∗ bufPts (F := F) bM c bf ∗ bufPts (F := F) cM c cf ∗ bufPts (F := F) dM c df ∗ bufPts (F := F) xbM c xf
      ∗ owes (c : Thread nD τ) (O₀ c) W
      ∗ (∀ v2 v5 v7 v49 v51, ((∃ W', owes (c : Thread nD τ) 0 W') ∗ bufPts xM c (xC m ρ c) ∗ bufPts wqM c (wqC m ρ c) ∗ bufPts woM c (woC m ρ c) ∗ bufPts xbM c (xbC m ρ c)
        ∗ winPts aS0 c keptQ (aC m ρ c) ∗ winPts bS0 c keptQ (bC m ρ c) ∗ winPts cS0 c keptQ (cC m ρ c) ∗ winPts dS0 c keptQ (dC m ρ c)
        ∗ semVal (kcell (c, 0)) 0 ∗ cred (tallyAt (kcell (c, 5)) () (amt 5)) ∗ cred (tallyAt (kcell (c, 6)) () (amt 6)) ∗ cred (tallyAt (kcell (c, 7)) () (amt 7)) ∗ cred (tallyAt (kcell (c, 8)) () (amt 8)))
          -∗ wp (M := 𝕄) frame (wpE (defs₀ (F := F)) 𝒱₀ (c : Thread nD τ) none) Set.univ (kk c v2 v5 v7 v49 v51) Q))
    ⊢ wp (M := 𝕄) frame (wpE (defs₀ (F := F)) 𝒱₀ (c : Thread nD τ) none) Set.univ
        (do let ⟨d0, v2, v5, v7⟩ ← p9 (F := F); let ⟨v49, v51⟩ ← p10 d0 v2 v5 v7; p11 d0 v5 v7; p12 d0 v5 v49 v51; kk d0 v2 v5 v7 v49 v51) Q := by
  unfold payToks
  iintro ⟨#HI, #Hlev, ⟨HtP0, HtN0, HtN1, HtN2, HtP3, HtP4, Ht5, Ht6, Ht7, Ht8⟩, Hc0, Hat, Hx, Hwq, Hwo, HA, HB, HC, HD, HXB, HO, Hk⟩
  sl_exec
  ihave HXB := (Entails.of_eq (pointsTo_congr (g := xbC m ρ c) fun y _ => xb_fill _ _ y)) $$ HXB
  ihave HA := (a_split c _).1 $$ HA
  icases HA with ⟨HA, HA1⟩
  ihave HA := (Entails.of_eq (pointsTo_congr (g := aC m ρ c) fun y hy => a_fill _ _ y ((aS0_mem y).mp hy))) $$ HA
  ihave HA := (pointsTo_share (PosShare.mem_left_op_right fullShare)).1 $$ HA
  icases HA with ⟨HA, HAL⟩
  ihave HB := (b_split c _).1 $$ HB
  icases HB with ⟨HB, HB1⟩
  ihave HB := (Entails.of_eq (pointsTo_congr (g := bC m ρ c) fun y hy => b_fill _ _ y ((bS0_mem y).mp hy))) $$ HB
  ihave HB := (pointsTo_share (PosShare.mem_left_op_right fullShare)).1 $$ HB
  icases HB with ⟨HB, HBL⟩
  ihave HC := (c_split c _).1 $$ HC
  icases HC with ⟨HC, HC1⟩
  ihave HC := (Entails.of_eq (pointsTo_congr (g := cC m ρ c) fun y hy => c_fill _ _ y ((cS0_mem y).mp hy))) $$ HC
  ihave HC := (pointsTo_share (PosShare.mem_left_op_right fullShare)).1 $$ HC
  icases HC with ⟨HC, HCL⟩
  ihave HD := (d_split c _).1 $$ HD
  icases HD with ⟨HD, HD1⟩
  ihave HD := (Entails.of_eq (pointsTo_congr (g := dC m ρ c) fun y hy => d_fill _ _ y ((dS0_mem y).mp hy))) $$ HD
  ihave HD := (pointsTo_share (PosShare.mem_left_op_right fullShare)).1 $$ HD
  icases HD with ⟨HD, HDL⟩
  ihave #HIP0 := (inv_at m ρ K (prv c, 0)) $$ HI
  icases HIP0 with ⟨#HiP0, #HrP0⟩
  ihave #HIN0 := (inv_at m ρ K (nxt c, 0)) $$ HI
  icases HIN0 with ⟨#HiN0, #HrN0⟩
  ihave #HI0 := (inv_at m ρ K (c, 0)) $$ HI
  icases HI0 with ⟨#Hi0, -⟩
  iapply (signal_one m ρ c (prv c) _ (dev1_eq c) false (K (prv c, 0)) (oweB c) W _ rfl) $$ [HO HtP0 HA1 HB1]
  · isplitr; · iexact HiP0
    isplitl [HO]; · iexact HO
    isplitl [HtP0]; · iexact HtP0
    isplitl [HA1 HB1]
    · iapply (Entails.of_eq (pay_bar_false m ρ c).symm)
      unfold someWin
      isplitl [HA1]
      · iexists _; iexact HA1
      · iexists _; iexact HB1
    · iexact HrP0
  iintro HO
  sl_exec
  iapply (signal_one m ρ c (nxt c) _ (dev2_eq c) true (K (nxt c, 0)) (owe0 c) W _ rfl) $$ [HO HtN0 HC1 HD1]
  · isplitr; · iexact HiN0
    isplitl [HO]; · iexact HO
    isplitl [HtN0]; · iexact HtN0
    isplitl [HC1 HD1]
    · iapply (Entails.of_eq (pay_bar_true m ρ c).symm)
      unfold someWin
      isplitl [HC1]
      · iexists _; iexact HC1
      · iexists _; iexact HD1
    · iexact HrN0
  iintro HO
  sl_exec
  iapply (wait_bar m ρ c (K (c, 0)) W _ rfl) $$ [Hc0 HO Hat]
  · isplitr; · iexact Hi0
    isplitr; · iexact Hlev
    isplitl [Hc0]; · iexact Hc0
    isplitl [HO]; · iexact HO
    iexact Hat
  iintro ⟨HO, Hz, Hpf, Hpt⟩
  ihave Hpf := (show pay m ρ 0 false c ⊢ iprop(someWin aS1 (nxt c) ∗ someWin bS1 (nxt c)) from Entails.refl _) $$ Hpf
  ihave Hpt := (show pay m ρ 0 true c ⊢ iprop(someWin cS1 (prv c) ∗ someWin dS1 (prv c)) from Entails.refl _) $$ Hpt
  unfold someWin
  icases Hpf with ⟨⟨%fa, HA1⟩, ⟨%fb, HB1⟩⟩
  icases Hpt with ⟨⟨%fc, HC1⟩, ⟨%fd, HD1⟩⟩
  sl_exec
  ihave #HIs0 := (inv_at m ρ K (c, 5)) $$ HI
  icases HIs0 with ⟨#His0, #Hrs0⟩
  ihave #HIr0 := (inv_at m ρ K (nxt c, 1)) $$ HI
  icases HIr0 with ⟨#Hir0, #Hrr0⟩
  iapply (send_one m ρ aS0 aS1 c (nxt c) _ (dev3_eq c) 5 1 (by decide) (by decide) sS0 rS0 rfl rfl rfl rfl (K (c, 5)) (K (nxt c, 1)) lentQ (aC m ρ c) fa (owe1 c) (insert (csem 0, ()) W)
      (Entails.refl _) (by
        show _ ⊢ winPts aS1 (nxt c) fullShare (aC m ρ (prv (nxt c)))
        rw [prv_nxt]; exact a_land c (nxt c) fa _)) $$ [HAL HA1 HO Ht5 HtN1]
  · isplitr; · iexact His0
    isplitr; · iexact Hir0
    isplitl [HAL]; · iexact HAL
    isplitl [HA1]; · iexact HA1
    isplitl [HO]; · iexact HO
    isplitl [Ht5]; · iexact Ht5
    isplitr; · iexact Hrs0
    isplitl [HtN1]; · iexact HtN1
    iexact Hrr0
  iintro ⟨Hc5, HO⟩
  sl_exec
  ihave #HIs1 := (inv_at m ρ K (c, 6)) $$ HI
  icases HIs1 with ⟨#His1, #Hrs1⟩
  ihave #HIr1 := (inv_at m ρ K (nxt c, 2)) $$ HI
  icases HIr1 with ⟨#Hir1, #Hrr1⟩
  iapply (send_one m ρ bS0 bS1 c (nxt c) _ (dev4_eq c) 6 2 (by decide) (by decide) sS1 rS1 rfl rfl rfl rfl (K (c, 6)) (K (nxt c, 2)) lentQ (bC m ρ c) fb (owe2 c) (insert (csem 0, ()) W)
      (Entails.refl _) (by
        show _ ⊢ winPts bS1 (nxt c) fullShare (bC m ρ (prv (nxt c)))
        rw [prv_nxt]; exact b_land c (nxt c) fb _)) $$ [HBL HB1 HO Ht6 HtN2]
  · isplitr; · iexact His1
    isplitr; · iexact Hir1
    isplitl [HBL]; · iexact HBL
    isplitl [HB1]; · iexact HB1
    isplitl [HO]; · iexact HO
    isplitl [Ht6]; · iexact Ht6
    isplitr; · iexact Hrs1
    isplitl [HtN2]; · iexact HtN2
    iexact Hrr1
  iintro ⟨Hc6, HO⟩
  sl_exec
  ihave #HIs2 := (inv_at m ρ K (c, 7)) $$ HI
  icases HIs2 with ⟨#His2, #Hrs2⟩
  ihave #HIr2 := (inv_at m ρ K (prv c, 3)) $$ HI
  icases HIr2 with ⟨#Hir2, #Hrr2⟩
  iapply (send_one m ρ cS0 cS1 c (prv c) _ (dev5_eq c) 7 3 (by decide) (by decide) sS2 rS2 rfl rfl rfl rfl (K (c, 7)) (K (prv c, 3)) lentQ (cC m ρ c) fc (owe3 c) (insert (csem 0, ()) W)
      (Entails.refl _) (by
        show _ ⊢ winPts cS1 (prv c) fullShare (cC m ρ (nxt (prv c)))
        rw [nxt_prv]; exact c_land c (prv c) fc _)) $$ [HCL HC1 HO Ht7 HtP3]
  · isplitr; · iexact His2
    isplitr; · iexact Hir2
    isplitl [HCL]; · iexact HCL
    isplitl [HC1]; · iexact HC1
    isplitl [HO]; · iexact HO
    isplitl [Ht7]; · iexact Ht7
    isplitr; · iexact Hrs2
    isplitl [HtP3]; · iexact HtP3
    iexact Hrr2
  iintro ⟨Hc7, HO⟩
  sl_exec
  ihave #HIs3 := (inv_at m ρ K (c, 8)) $$ HI
  icases HIs3 with ⟨#His3, #Hrs3⟩
  ihave #HIr3 := (inv_at m ρ K (prv c, 4)) $$ HI
  icases HIr3 with ⟨#Hir3, #Hrr3⟩
  iapply (send_one m ρ dS0 dS1 c (prv c) _ (dev6_eq c) 8 4 (by decide) (by decide) sS3 rS3 rfl rfl rfl rfl (K (c, 8)) (K (prv c, 4)) lentQ (dC m ρ c) fd (0) (insert (csem 0, ()) W)
      (Entails.refl _) (by
        show _ ⊢ winPts dS1 (prv c) fullShare (dC m ρ (nxt (prv c)))
        rw [nxt_prv]; exact d_land c (prv c) fd _)) $$ [HDL HD1 HO Ht8 HtP4]
  · isplitr; · iexact His3
    isplitr; · iexact Hir3
    isplitl [HDL]; · iexact HDL
    isplitl [HD1]; · iexact HD1
    isplitl [HO]; · iexact HO
    isplitl [Ht8]; · iexact Ht8
    isplitr; · iexact Hrs3
    isplitl [HtP4]; · iexact HtP4
    iexact Hrr3
  iintro ⟨Hc8, HO⟩
  sl_exec
  iapply Hk
  isplitl [HO]; · iexists _; iexact HO
  isplitl [Hx]; · iexact Hx
  isplitl [Hwq]; · iexact Hwq
  isplitl [Hwo]; · iexact Hwo
  isplitl [HXB]; · iexact HXB
  isplitl [HA]; · iexact HA
  isplitl [HB]; · iexact HB
  isplitl [HC]; · iexact HC
  isplitl [HD]; · iexact HD
  isplitl [Hz]; · iexact Hz
  isplitl [Hc5]; · iexact Hc5
  isplitl [Hc6]; · iexact Hc6
  isplitl [Hc7]; · iexact Hc7
  iexact Hc8

end Cert.MidIdeal.Slice

end
-- ==== Proof.Mid.Whole.lean ====
module

public import proofs.«01_k».proof.Proof.Mid.Exch
public import Idealize.ShloMosaic.Lib.Batch
public import Idealize.ShloMosaic.Lib.Writes
public import Idealize.ShloMosaic.Lib.WritesUnit
public import Idealize.ShloMosaic.Lib.WritesUnit
public import Idealize.ShloMosaic.Lib.WritesUnit

@[expose] public section

noncomputable section

namespace Cert.MidIdeal.Slice

open Cert.MidIdeal Cert.MidIdeal.Gen

open Idealize.ShloMosaic Idealize.ShloMosaic.Tactic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

set_option maxHeartbeats 1000000 in
/-- The other seven waits of the exchange. -/
theorem waits7 (K : Fin 9 → ℕ) (c : Dev nD) (W : Waits sig Unit) (v2 v5 v7 v278 : BitVec 32) {α : Type} (Q : α → sProp 𝕄) (kk : BitVec 32 → BitVec 32 → Prog (TpuEff nD τ sig (Elt F) Λ₀ .tc) α) :
    iprop(cellRes m ρ c 1 (K 1) ∗ cellRes m ρ c 6 (K 6) ∗ cellRes m ρ c 2 (K 2) ∗ cellRes m ρ c 7 (K 7) ∗ cellRes m ρ c 3 (K 3) ∗ cellRes m ρ c 8 (K 8) ∗ cellRes m ρ c 4 (K 4) ∗ owes (c : Thread nD τ) 0 W
      ∗ (∀ v330 v332, ((∃ W', owes (c : Thread nD τ) 0 W') ∗ (semVal (kcell (c, 1)) 0 ∗ pay m ρ 1 false c) ∗ (semVal (kcell (c, 6)) 0 ∗ pay m ρ 6 false c) ∗ (semVal (kcell (c, 2)) 0 ∗ pay m ρ 2 false c) ∗ (semVal (kcell (c, 7)) 0 ∗ pay m ρ 7 false c) ∗ (semVal (kcell (c, 3)) 0 ∗ pay m ρ 3 false c) ∗ (semVal (kcell (c, 8)) 0 ∗ pay m ρ 8 false c) ∗ (semVal (kcell (c, 4)) 0 ∗ pay m ρ 4 false c))
          -∗ wp (M := 𝕄) frame (wpE (defs₀ (F := F)) 𝒱₀ (c : Thread nD τ) none) Set.univ (kk v330 v332) Q))
    ⊢ wp (M := 𝕄) frame (wpE (defs₀ (F := F)) 𝒱₀ (c : Thread nD τ) none) Set.univ (do p20 (F := F) v7 v278; p21 v5; let ⟨v330, v332⟩ ← p22 (F := F) v2; kk v330 v332) Q := by
  iintro ⟨H1, H6, H2, H7, H3, H8, H4, HO, Hk⟩
  sl_exec
  iapply (wait_one m ρ c 1 (by decide) (K 1) _ rS0 rfl aS0 aS1 _ _ rfl _ _) $$ [H1 HO]
  · isplitl [H1]; · iexact H1
    iexact HO
  iintro ⟨HO, Hz1, Hp1⟩
  sl_exec
  iapply (wait_one m ρ c 6 (by decide) (K 6) _ sS1 rfl bS1 bS0 _ _ rfl _ _) $$ [H6 HO]
  · isplitl [H6]; · iexact H6
    iexact HO
  iintro ⟨HO, Hz6, Hp6⟩
  sl_exec
  iapply (wait_one m ρ c 2 (by decide) (K 2) _ rS1 rfl bS0 bS1 _ _ rfl _ _) $$ [H2 HO]
  · isplitl [H2]; · iexact H2
    iexact HO
  iintro ⟨HO, Hz2, Hp2⟩
  sl_exec
  iapply (wait_one m ρ c 7 (by decide) (K 7) _ sS2 rfl cS1 cS0 _ _ rfl _ _) $$ [H7 HO]
  · isplitl [H7]; · iexact H7
    iexact HO
  iintro ⟨HO, Hz7, Hp7⟩
  sl_exec
  iapply (wait_one m ρ c 3 (by decide) (K 3) _ rS2 rfl cS0 cS1 _ _ rfl _ _) $$ [H3 HO]
  · isplitl [H3]; · iexact H3
    iexact HO
  iintro ⟨HO, Hz3, Hp3⟩
  sl_exec
  iapply (wait_one m ρ c 8 (by decide) (K 8) _ sS3 rfl dS1 dS0 _ _ rfl _ _) $$ [H8 HO]
  · isplitl [H8]; · iexact H8
    iexact HO
  iintro ⟨HO, Hz8, Hp8⟩
  sl_exec
  iapply (wait_one m ρ c 4 (by decide) (K 4) _ rS3 rfl dS0 dS1 _ _ rfl _ _) $$ [H4 HO]
  · isplitl [H4]; · iexact H4
    iexact HO
  iintro ⟨HO, Hz4, Hp4⟩
  sl_exec
  iapply Hk
  isplitl [HO]; · iexists _; iexact HO
  isplitl [Hz1 Hp1]; · isplitl [Hz1] <;> iassumption
  isplitl [Hz6 Hp6]; · isplitl [Hz6] <;> iassumption
  isplitl [Hz2 Hp2]; · isplitl [Hz2] <;> iassumption
  isplitl [Hz7 Hp7]; · isplitl [Hz7] <;> iassumption
  isplitl [Hz3 Hp3]; · isplitl [Hz3] <;> iassumption
  isplitl [Hz8 Hp8]; · isplitl [Hz8] <;> iassumption
  isplitl [Hz4] <;> iassumption

/-- Device `c`'s keys and values, as launched. -/
abbrev kC (c : Dev nD) : S4x2048x32x128.Idx → F .f32 := (s₀ m ρ).mem ((c : Thread nD τ).loc main_arg2)
abbrev vC (c : Dev nD) : S4x2048x32x128.Idx → F .f32 := (s₀ m ρ).mem ((c : Thread nD τ).loc main_arg3)

/-- The result after hop 0: the device's own eight heads; -/
def outC0 (c : Dev nD) : S1x2048x1024.Idx → F .f32 :=
  oTgt0 (qTgt (xbC m ρ c) (slotQ (aC m ρ c) 1) (slotQ (cC m ρ c) 1)) (kvTgt 0 c (kC m ρ c)) (kvTgt 0 c (vC m ρ c))
    (wTgt (k0_pay29 (slotO (bC m ρ c) 1)) (k0_pay30 (slotO (dC m ρ c) 1)))
/-- and after hop 1: four heads of the left neighbour's weights and four of the right neighbour's added. -/
def outC (c : Dev nD) : S1x2048x1024.Idx → F .f32 :=
  oTgt1 (qTgt (xbC m ρ c) (slotQ (aC m ρ (prv c)) 0) (slotQ (cC m ρ (nxt c)) 0)) (kvTgt 1 c (kC m ρ c)) (kvTgt 1 c (vC m ρ c))
    (wTgt (k0_pay34 (slotO (bC m ρ (prv c)) 0)) (k0_pay35 (slotO (dC m ρ (nxt c)) 0))) (outC0 m ρ c)

/-- The nine scratch buffers, at contents not said. -/
def scr (c : Dev nD) : sProp 𝕄 :=
  iprop((∃ f, bufPts (F := F) aM c f) ∗ (∃ f, bufPts (F := F) bM c f) ∗ (∃ f, bufPts (F := F) cM c f) ∗ (∃ f, bufPts (F := F) dM c f) ∗ (∃ f, bufPts (F := F) wofM c f) ∗ (∃ f, bufPts (F := F) xbM c f) ∗ (∃ f, bufPts (F := F) qM c f) ∗ (∃ f, bufPts (F := F) kbM c f) ∗ (∃ f, bufPts (F := F) vbM c f))
/-- The credits device `c` waits on: its barrier's two units and its four landings. -/
def creds (c : Dev nD) : sProp 𝕄 :=
  iprop(cred (tallyAt (kcell (c, 0)) () 2) ∗ cred (tallyAt (kcell (c, 1)) () (amt 1)) ∗ cred (tallyAt (kcell (c, 2)) () (amt 2)) ∗ cred (tallyAt (kcell (c, 3)) () (amt 3)) ∗ cred (tallyAt (kcell (c, 4)) () (amt 4)))
/-- Its positions at the start of its nine cells. -/
def starts (c : Dev nD) : sProp 𝕄 :=
  iprop(atPos ER (kcell (c, 0)) 0 ∅ 0 ∗ atPos ER (kcell (c, 1)) 0 ∅ 0 ∗ atPos ER (kcell (c, 2)) 0 ∅ 0 ∗ atPos ER (kcell (c, 3)) 0 ∅ 0 ∗ atPos ER (kcell (c, 4)) 0 ∅ 0 ∗ atPos ER (kcell (c, 5)) 0 ∅ 0 ∗ atPos ER (kcell (c, 6)) 0 ∅ 0 ∗ atPos ER (kcell (c, 7)) 0 ∅ 0 ∗ atPos ER (kcell (c, 8)) 0 ∅ 0)
/-- The counters of its nine cells at zero. -/
def zeros (c : Dev nD) : sProp 𝕄 :=
  iprop(semVal (kcell (c, 0)) 0 ∗ semVal (kcell (c, 1)) 0 ∗ semVal (kcell (c, 2)) 0 ∗ semVal (kcell (c, 3)) 0 ∗ semVal (kcell (c, 4)) 0 ∗ semVal (kcell (c, 5)) 0 ∗ semVal (kcell (c, 6)) 0 ∗ semVal (kcell (c, 7)) 0 ∗ semVal (kcell (c, 8)) 0)

/-- What the body leaves on device `c`. -/
def bodyRes (c : Dev nD) : sProp 𝕄 :=
  iprop(zeros (F := F) c ∗ semVal ((c : Thread nD τ), SemLoc.dma kSem) 0 ∗ semVal ((c : Thread nD τ), SemLoc.dma vSem) 0 ∗ scr (F := F) c ∗ bufPts kM c (kC m ρ c) ∗ bufPts vM c (vC m ρ c)
    ∗ (∃ W', owes (c : Thread nD τ) 0 W') ∗ bufPts xM c (xC m ρ c) ∗ bufPts wqM c (wqC m ρ c) ∗ bufPts woM c (woC m ρ c) ∗ bufPts oM c (outC m ρ c))

/-- The body's four stretches, each before what follows it: the exchange sent, -/
def exchP {α : Type} (kk : Dev nD → BitVec 32 → BitVec 32 → BitVec 32 → BitVec 32 → BitVec 32 → Prog (TpuEff nD τ sig (Elt F) Λ₀ .tc) α) : Prog (TpuEff nD τ sig (Elt F) Λ₀ .tc) α := do
  let ⟨d0, v2, v5, v7⟩ ← p9 (F := F)
  let ⟨v49, v51⟩ ← p10 d0 v2 v5 v7
  p11 d0 v5 v7; p12 d0 v5 v49 v51
  kk d0 v2 v5 v7 v49 v51
/-- hop 0, -/
def hop0P {α : Type} (c : Dev nD) (v7 v49 v51 : BitVec 32) (kk : BitVec 32 → Prog (TpuEff nD τ sig (Elt F) Λ₀ .tc) α) : Prog (TpuEff nD τ sig (Elt F) Λ₀ .tc) α := do
  p13 c v49 v51; p14 c; p15 c; p16 c; p17 c; p18 c
  let v278 ← p19 c v7
  kk v278
/-- the exchange waited for, -/
def waitsP {α : Type} (v2 v5 v7 v278 : BitVec 32) (kk : BitVec 32 → BitVec 32 → Prog (TpuEff nD τ sig (Elt F) Λ₀ .tc) α) : Prog (TpuEff nD τ sig (Elt F) Λ₀ .tc) α := do
  p20 v7 v278; p21 v5
  let ⟨v330, v332⟩ ← p22 (F := F) v2
  kk v330 v332
/-- and hop 1. -/
def hop1P (c : Dev nD) (v330 v332 : BitVec 32) : Prog (TpuEff nD τ sig (Elt F) Λ₀ .tc) PUnit := do
  p23 c v330 v332; p24 c; p25 c; p26 c; p27 c; p28 c; rootTail c
/-- The body. -/
def rootProg : Prog (TpuEff nD τ sig (Elt F) Λ₀ .tc) PUnit :=
  exchP fun d0 v2 v5 v7 v49 v51 => hop0P d0 v7 v49 v51 fun v278 => waitsP v2 v5 v7 v278 fun v330 v332 => hop1P d0 v330 v332

set_option maxRecDepth 65536 in
theorem body_eq_root : cc0_body (F := F) xM (Memref.isWhole_whole _) wqM (Memref.isWhole_whole _) woM (Memref.isWhole_whole _) kM (Memref.isWhole_whole _) vM (Memref.isWhole_whole _)
    oM (Memref.isWhole_whole _) aM (Memref.isWhole_whole _) bM (Memref.isWhole_whole _) cM (Memref.isWhole_whole _) dM (Memref.isWhole_whole _) wofM (Memref.isWhole_whole _)
    xbM (Memref.isWhole_whole _) qM (Memref.isWhole_whole _) kbM (Memref.isWhole_whole _) vbM (Memref.isWhole_whole _) cc0_scratch9 cc0_scratch10 cc0_scratch11 cc0_scratch12 = rootProg := by
  rw [cc0_body_eq_skeleton]; unfold cc0_body_skel
  simp only [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
  rfl

set_option maxHeartbeats 2000000 in
/-- The body of device `c`, from what the launch deals it to `bodyRes`. -/
theorem sound_body (K : Dev nD × Fin 9 → ℕ) (c : Dev nD) (W : Waits sig Unit) (of : S1x2048x1024.Idx → F .f32) (Kt : PUnit → sProp 𝕄) :
    iprop(allInv m ρ K ∗ levAts L lv ∗ payToks (F := F) c ∗ creds (F := F) c ∗ starts (F := F) c
      ∗ semVal ((c : Thread nD τ), SemLoc.dma kSem) 0 ∗ semVal ((c : Thread nD τ), SemLoc.dma vSem) 0
      ∗ bufPts xM c (xC m ρ c) ∗ bufPts wqM c (wqC m ρ c) ∗ bufPts woM c (woC m ρ c) ∗ bufPts kM c (kC m ρ c) ∗ bufPts vM c (vC m ρ c)
      ∗ scr (F := F) c ∗ bufPts (F := F) oM c of ∗ owes (c : Thread nD τ) (O₀ c) W ∗ (bodyRes m ρ c -∗ Kt ⟨⟩))
    ⊢ wp (M := 𝕄) frame (wpE (defs₀ (F := F)) 𝒱₀ (c : Thread nD τ) none) Set.univ (rootProg (F := F)) Kt := by
  unfold bodyRes scr creds starts rootProg
  iintro ⟨#HI, #Hlev, Htk, ⟨Hc0, Hc1, Hc2, Hc3, Hc4⟩, ⟨Hs0, Hs1, Hs2, Hs3, Hs4, Hs5, Hs6, Hs7, Hs8⟩, HsK, HsV, Hx, Hwq, Hwo, HK, HV,
    ⟨⟨%faM, HaM⟩, ⟨%fbM, HbM⟩, ⟨%fcM, HcM⟩, ⟨%fdM, HdM⟩, ⟨%fwofM, HwofM⟩, ⟨%fxbM, HxbM⟩, ⟨%fqM, HqM⟩, ⟨%fkbM, HkbM⟩, ⟨%fvbM, HvbM⟩⟩, Hout, HO, Hk⟩
  ihave #HIx1 := (inv_at m ρ K (c, 1)) $$ HI
  icases HIx1 with ⟨#Hi1, -⟩
  ihave #HIx2 := (inv_at m ρ K (c, 2)) $$ HI
  icases HIx2 with ⟨#Hi2, -⟩
  ihave #HIx3 := (inv_at m ρ K (c, 3)) $$ HI
  icases HIx3 with ⟨#Hi3, -⟩
  ihave #HIx4 := (inv_at m ρ K (c, 4)) $$ HI
  icases HIx4 with ⟨#Hi4, -⟩
  ihave #HIx5 := (inv_at m ρ K (c, 5)) $$ HI
  icases HIx5 with ⟨#Hi5, -⟩
  ihave #HIx6 := (inv_at m ρ K (c, 6)) $$ HI
  icases HIx6 with ⟨#Hi6, -⟩
  ihave #HIx7 := (inv_at m ρ K (c, 7)) $$ HI
  icases HIx7 with ⟨#Hi7, -⟩
  ihave #HIx8 := (inv_at m ρ K (c, 8)) $$ HI
  icases HIx8 with ⟨#Hi8, -⟩
  unfold exchP
  iapply (exch m ρ K c W faM fcM fbM fdM fxbM Kt (fun d0 v2 v5 v7 v49 v51 => hop0P d0 v7 v49 v51 fun v278 => waitsP v2 v5 v7 v278 fun v330 v332 => hop1P d0 v330 v332))
  isplitr; · iexact HI
  isplitr; · iexact Hlev
  isplitl [Htk]; · iexact Htk
  isplitl [Hc0]; · iexact Hc0
  isplitl [Hs0]; · iexact Hs0
  isplitl [Hx]; · iexact Hx
  isplitl [Hwq]; · iexact Hwq
  isplitl [Hwo]; · iexact Hwo
  isplitl [HaM]; · iexact HaM
  isplitl [HbM]; · iexact HbM
  isplitl [HcM]; · iexact HcM
  isplitl [HdM]; · iexact HdM
  isplitl [HxbM]; · iexact HxbM
  isplitl [HO]; · iexact HO
  iintro %v2 %v5 %v7 %v49 %v51 ⟨⟨%W1, HO⟩, Hx, Hwq, Hwo, HXB, HA, HB, HC, HD, Hz0, Hc5, Hc6, Hc7, Hc8⟩
  ihave HK := (toks_eq c kM (kC m ρ c)).1 $$ HK
  ihave HV := (toks_eq c vM (vC m ρ c)).1 $$ HV
  unfold hop0P
  iapply (hop0 m ρ (K (c, 5)) c W1 keptQ (xbC m ρ c) (aC m ρ c) (cC m ρ c) (bC m ρ c) (dC m ρ c) (kC m ρ c) (vC m ρ c) fwofM fqM fkbM fvbM of v7 v49 v51 Kt (fun v278 => waitsP v2 v5 v7 v278 fun v330 v332 => hop1P c v330 v332) trivial trivial)
  isplitl [Hs5 Hc5]
  · unfold cellRes
    isplitr; · iexact Hi5
    isplitl [Hc5] <;> iassumption
  isplitl [HK]; · iexact HK
  isplitl [HV]; · iexact HV
  isplitl [HXB]; · iexact HXB
  isplitl [HA]; · iexact HA
  isplitl [HC]; · iexact HC
  isplitl [HqM]; · iexact HqM
  isplitl [HB]; · iexact HB
  isplitl [HD]; · iexact HD
  isplitl [HwofM]; · iexact HwofM
  isplitl [HkbM]; · iexact HkbM
  isplitl [HvbM]; · iexact HvbM
  isplitl [Hout]; · iexact Hout
  isplitl [HsK]; · iexact HsK
  isplitl [HsV]; · iexact HsV
  isplitl [HO]; · iexact HO
  iintro %v278 ⟨Hz5, Hp5, ⟨%W2, HO⟩, HK, HV, HXB, HA, HC, HqM, HB, HD, HwofM, HkbM, HvbM, Hout, HsK, HsV⟩
  unfold waitsP
  iapply (waits7 m ρ (fun k => K (c, k)) c W2 v2 v5 v7 v278 Kt (fun v330 v332 => hop1P c v330 v332))
  isplitl [Hs1 Hc1]
  · unfold cellRes
    isplitr; · iexact Hi1
    isplitl [Hc1] <;> iassumption
  isplitl [Hs6 Hc6]
  · unfold cellRes
    isplitr; · iexact Hi6
    isplitl [Hc6] <;> iassumption
  isplitl [Hs2 Hc2]
  · unfold cellRes
    isplitr; · iexact Hi2
    isplitl [Hc2] <;> iassumption
  isplitl [Hs7 Hc7]
  · unfold cellRes
    isplitr; · iexact Hi7
    isplitl [Hc7] <;> iassumption
  isplitl [Hs3 Hc3]
  · unfold cellRes
    isplitr; · iexact Hi3
    isplitl [Hc3] <;> iassumption
  isplitl [Hs8 Hc8]
  · unfold cellRes
    isplitr; · iexact Hi8
    isplitl [Hc8] <;> iassumption
  isplitl [Hs4 Hc4]
  · unfold cellRes
    isplitr; · iexact Hi4
    isplitl [Hc4] <;> iassumption
  isplitl [HO]; · iexact HO
  iintro %v330 %v332 ⟨⟨%W3, HO⟩, ⟨Hz1, Hp1⟩, ⟨Hz6, Hp6⟩, ⟨Hz2, Hp2⟩, ⟨Hz7, Hp7⟩, ⟨Hz3, Hp3⟩, ⟨Hz8, Hp8⟩, ⟨Hz4, Hp4⟩⟩
  ihave HA := (show iprop(winPts aS0 c keptQ (aC m ρ c) ∗ pay m ρ 5 false c) ⊢ winPts aS0 c fullShare (aC m ρ c) from (pointsTo_share (PosShare.mem_left_op_right fullShare)).2) $$ [HA Hp5]
  · isplitl [HA] <;> iassumption
  ihave HB := (show iprop(winPts bS0 c keptQ (bC m ρ c) ∗ pay m ρ 6 false c) ⊢ winPts bS0 c fullShare (bC m ρ c) from (pointsTo_share (PosShare.mem_left_op_right fullShare)).2) $$ [HB Hp6]
  · isplitl [HB] <;> iassumption
  ihave HC := (show iprop(winPts cS0 c keptQ (cC m ρ c) ∗ pay m ρ 7 false c) ⊢ winPts cS0 c fullShare (cC m ρ c) from (pointsTo_share (PosShare.mem_left_op_right fullShare)).2) $$ [HC Hp7]
  · isplitl [HC] <;> iassumption
  ihave HD := (show iprop(winPts dS0 c keptQ (dC m ρ c) ∗ pay m ρ 8 false c) ⊢ winPts dS0 c fullShare (dC m ρ c) from (pointsTo_share (PosShare.mem_left_op_right fullShare)).2) $$ [HD Hp8]
  · isplitl [HD] <;> iassumption
  ihave Hp1 := (show pay m ρ 1 false c ⊢ winPts aS1 c fullShare (aC m ρ (prv c)) from .rfl) $$ Hp1
  ihave Hp2 := (show pay m ρ 2 false c ⊢ winPts bS1 c fullShare (bC m ρ (prv c)) from .rfl) $$ Hp2
  ihave Hp3 := (show pay m ρ 3 false c ⊢ winPts cS1 c fullShare (cC m ρ (nxt c)) from .rfl) $$ Hp3
  ihave Hp4 := (show pay m ρ 4 false c ⊢ winPts dS1 c fullShare (dC m ρ (nxt c)) from .rfl) $$ Hp4
  unfold hop1P
  iapply (hop1 c W3 fullShare (xbC m ρ c) (aC m ρ (prv c)) (cC m ρ (nxt c)) (bC m ρ (prv c)) (dC m ρ (nxt c)) (kC m ρ c) (vC m ρ c) _ _ _ _ (outC0 m ρ c) v330 v332 Kt trivial trivial)
  isplitl [HK]; · iexact HK
  isplitl [HV]; · iexact HV
  isplitl [HXB]; · iexact HXB
  isplitl [Hp1]; · iexact Hp1
  isplitl [Hp3]; · iexact Hp3
  isplitl [HqM]; · iexact HqM
  isplitl [Hp2]; · iexact Hp2
  isplitl [Hp4]; · iexact Hp4
  isplitl [HwofM]; · iexact HwofM
  isplitl [HkbM]; · iexact HkbM
  isplitl [HvbM]; · iexact HvbM
  isplitl [Hout]; · iexact Hout
  isplitl [HsK]; · iexact HsK
  isplitl [HsV]; · iexact HsV
  isplitl [HO]; · iexact HO
  iintro ⟨⟨%W4, HO⟩, HK, HV, HXB, HA1, HC1, HqM, HB1, HD1, HwofM, HkbM, HvbM, Hout, HsK, HsV⟩
  ihave HK := (toks_eq c kM (kC m ρ c)).2 $$ HK
  ihave HV := (toks_eq c vM (vC m ρ c)).2 $$ HV
  ihave HaM := (a_join c _ _) $$ [HA HA1]
  · isplitl [HA] <;> iassumption
  ihave HbM := (b_join c _ _) $$ [HB HB1]
  · isplitl [HB] <;> iassumption
  ihave HcM := (c_join c _ _) $$ [HC HC1]
  · isplitl [HC] <;> iassumption
  ihave HdM := (d_join c _ _) $$ [HD HD1]
  · isplitl [HD] <;> iassumption
  iapply Hk
  unfold zeros
  isplitl [Hz0 Hz1 Hz2 Hz3 Hz4 Hz5 Hz6 Hz7 Hz8]
  · isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    iexact Hz8
  isplitl [HsK]; · iexact HsK
  isplitl [HsV]; · iexact HsV
  isplitl [HaM HbM HcM HdM HwofM HXB HqM HkbM HvbM]
  · isplitl [HaM]; · iexact HaM
    isplitl [HbM]; · iexact HbM
    isplitl [HcM]; · iexact HcM
    isplitl [HdM]; · iexact HdM
    isplitl [HwofM]; · iexists _; iexact HwofM
    isplitl [HXB]; · iexists _; iexact HXB
    isplitl [HqM]; · iexists _; iexact HqM
    isplitl [HkbM]; · iexists _; iexact HkbM
    iexists _; iexact HvbM
  isplitl [HK]; · iexact HK
  isplitl [HV]; · iexact HV
  isplitl [HO]; · iexists _; iexact HO
  isplitl [Hx]; · iexact Hx
  isplitl [Hwq]; · iexact Hwq
  isplitl [Hwo]; · iexact Hwo
  iexact Hout

end Cert.MidIdeal.Slice

end
-- ==== Proof.Mid.Data.lean ====
module

public import proofs.«01_k».proof.Proof.Mid.Whole
public import Idealize.ShloMosaic.Lib.Batch
public import Idealize.ShloMosaic.Lib.Writes
public import proofs.«01_k».proof.Proof.Gen.MidIdeal.Points
public import Idealize.ShloMosaic.Lib.Pipeline.CollectiveSegs
public import Idealize.ShloMosaic.Lib.Pipeline.Launch

@[expose] public section

noncomputable section

namespace Cert.MidIdeal.Slice

open Cert.MidIdeal Cert.MidIdeal.Gen

open Idealize.ShloMosaic Idealize.ShloMosaic.Tactic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The proof data -/

/-- The kernel's own eighteen semaphores: the send and receive arrays', the two of the key and value copies. -/
def osem (i : Fin 18) : SemLoc sig := .dma ⟨i.val + 4, by have := i.isLt; show i.val + 4 < 22; omega⟩

/-- Those the two hops leave alone. -/
def idle (c : Dev nD) : sProp 𝕄 :=
  iprop(semVal ((c : Thread nD τ), osem 0) 0 ∗ semVal ((c : Thread nD τ), osem 2) 0 ∗ semVal ((c : Thread nD τ), osem 4) 0 ∗ semVal ((c : Thread nD τ), osem 6) 0 ∗ semVal ((c : Thread nD τ), osem 9) 0 ∗ semVal ((c : Thread nD τ), osem 11) 0 ∗ semVal ((c : Thread nD τ), osem 13) 0 ∗ semVal ((c : Thread nD τ), osem 15) 0)

/-- What device `c` starts from: the exchange's ghost state at some names, its credits, the levels, its idle semaphores and
    the two of the key and value copies, its keys and values. -/
def ghost (c : Dev nD) : sProp 𝕄 := iprop(∃ K, allInv m ρ K ∗ starts (F := F) c ∗ payToks (F := F) c
  ∗ semVal ((c : Thread nD τ), SemLoc.dma kSem) 0 ∗ semVal ((c : Thread nD τ), SemLoc.dma vSem) 0 ∗ idle (F := F) c)
def start (c : Dev nD) : sProp 𝕄 :=
  iprop(ghost m ρ c ∗ creds (F := F) c ∗ levAts L lv ∗ bufPts kM c (kC m ρ c) ∗ bufPts vM c (vC m ρ c))

def Φ₀ (c : Dev nD) : sProp 𝕄 := iprop(start m ρ c ∗ scr (F := F) c)
def Φ₁ (c : Dev nD) : sProp 𝕄 :=
  iprop(zeros (F := F) c ∗ semVal ((c : Thread nD τ), SemLoc.dma kSem) 0 ∗ semVal ((c : Thread nD τ), SemLoc.dma vSem) 0 ∗ idle (F := F) c ∗ scr (F := F) c ∗ bufPts kM c (kC m ρ c) ∗ bufPts vM c (vC m ρ c))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xC m ρ c
    | ⟨1, _⟩ => wqC m ρ c
    | ⟨2, _⟩ => woC m ρ c
    | ⟨3, _⟩ => outC m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A whole buffer through its own view is the buffer. -/
theorem buf_eq (c : Dev nD) (b : Ref sig .tc) (f : Buf (Elt F) (((c : Dev nD) : Thread nD τ).loc b)) :
    ((Memref.whole b).view.loc (c : Thread nD τ) ↦[(Memref.whole b).view.set]{fullShare} f : sProp 𝕄) = (((c : Thread nD τ).loc b) ↦{fullShare} f) := by
  simp only [Memref.view_whole, View.set_whole]

/-- A staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 4) t0_0 d)) ∗ (∃ d, stg c cc0_stg1_0 ((dats m ρ 0 c).before (1 : Fin 4) t0_0 d))
    ∗ (∃ d, stg c cc0_stg2_0 ((dats m ρ 0 c).before (2 : Fin 4) t0_0 d)) ∗ (∃ d, stg c cc0_stg3_0 ((dats m ρ 0 c).before (3 : Fin 4) t0_0 d)))

def bodyPost (c : Dev nD) : sProp 𝕄 :=
  iprop(Φ₁ m ρ c ∗ (dats m ρ 0 c).owesAt () t0_0.succ ∗ stg c cc0_stg0_0 (xC m ρ c) ∗ stg c cc0_stg1_0 (wqC m ρ c) ∗ stg c cc0_stg2_0 (woC m ρ c)
    ∗ stg c cc0_stg3_0 (outC m ρ c))

set_option maxRecDepth 4000 in
/-- The body between what the region hands it and what the region takes back. -/
theorem body_at (c : Dev nD) :
    bodyPre m ρ c ⊢ wp (M := 𝕄) frame (wpE (defs₀ (F := F)) 𝒱₀ (c : Thread nD τ) none) Set.univ (rootProg (F := F)) (fun _ => bodyPost m ρ c) := by
  unfold bodyPre Φ₀ start ghost
  iintro ⟨⟨⟨⟨%K, #HI, Hst, Htk, HsK, HsV, Hid⟩, Hcr, #Hlev, HK, HV⟩, Hscr⟩, Ho, ⟨%d0, %g0, %hg0, Hx⟩, ⟨%d1, %g1, %hg1, Hwq⟩, ⟨%d2, %g2, %hg2, Hwo⟩, ⟨%d3, %g3, %hg3, Hout⟩⟩
  have hx : g0 = xC m ρ c := by rw [hg0]; unfold Dat.before; rw [if_pos (fetch0_0 t0_0)]; rfl
  have hq : g1 = wqC m ρ c := by rw [hg1]; unfold Dat.before; rw [if_pos (fetch0_1 t0_0)]; rfl
  have ho : g2 = woC m ρ c := by rw [hg2]; unfold Dat.before; rw [if_pos (fetch0_2 t0_0)]; rfl
  subst hx hq ho
  unfold Dat.owesAt Pipeline.owesWithin
  icases Ho with ⟨%W, %hW, HO⟩
  rw [show (dats m ρ 0 c).owed t0_0.castSucc = O₀ c from rfl]
  ihave Hx := (Entails.of_eq (buf_eq c cc0_stg0_0 (xC m ρ c)).symm) $$ Hx
  ihave Hwq := (Entails.of_eq (buf_eq c cc0_stg1_0 (wqC m ρ c)).symm) $$ Hwq
  ihave Hwo := (Entails.of_eq (buf_eq c cc0_stg2_0 (woC m ρ c)).symm) $$ Hwo
  ihave Hout := (Entails.of_eq (buf_eq c cc0_stg3_0 g3).symm) $$ Hout
  iapply (sound_body m ρ K c W g3 _)
  isplitr; · iexact HI
  isplitr; · iexact Hlev
  isplitl [Htk]; · iexact Htk
  isplitl [Hcr]; · iexact Hcr
  isplitl [Hst]; · iexact Hst
  isplitl [HsK]; · iexact HsK
  isplitl [HsV]; · iexact HsV
  isplitl [Hx]; · iexact Hx
  isplitl [Hwq]; · iexact Hwq
  isplitl [Hwo]; · iexact Hwo
  isplitl [HK]; · iexact HK
  isplitl [HV]; · iexact HV
  isplitl [Hscr]; · iexact Hscr
  isplitl [Hout]; · iexact Hout
  isplitl [HO]; · iexact HO
  unfold bodyRes bodyPost Φ₁
  iintro ⟨Hz, HsK, HsV, Hscr, HK, HV, ⟨%W', HO⟩, Hx, Hwq, Hwo, Hout⟩
  isplitl [Hz HsK HsV Hid Hscr HK HV]
  · isplitl [Hz]; · iexact Hz
    isplitl [HsK]; · iexact HsK
    isplitl [HsV]; · iexact HsV
    isplitl [Hid]; · iexact Hid
    isplitl [Hscr]; · iexact Hscr
    isplitl [HK]; · iexact HK
    iexact HV
  isplitl [HO]
  · unfold Dat.owesAt Pipeline.owesWithin
    rw [show (dats m ρ 0 c).owed t0_0.succ = 0 from rfl]
    iexists W'; isplitr
    · ipureintro; exact fun _ _ => Or.inl trivial
    iexact HO
  ihave Hx := (Entails.of_eq (buf_eq c cc0_stg0_0 (xC m ρ c))) $$ Hx
  ihave Hwq := (Entails.of_eq (buf_eq c cc0_stg1_0 (wqC m ρ c))) $$ Hwq
  ihave Hwo := (Entails.of_eq (buf_eq c cc0_stg2_0 (woC m ρ c))) $$ Hwo
  ihave Hout := (Entails.of_eq (buf_eq c cc0_stg3_0 (outC m ρ c))) $$ Hout
  isplitl [Hx]
  · iexists _; isplitr; · (ipureintro; rfl)
    iexact Hx
  isplitl [Hwq]
  · iexists _; isplitr; · (ipureintro; rfl)
    iexact Hwq
  isplitl [Hwo]
  · iexists _; isplitr; · (ipureintro; rfl)
    iexact Hwo
  iexists _; isplitr; · (ipureintro; rfl)
  iexact Hout

set_option maxRecDepth 8000 in
/-- The region's obligation about the body on core `c`. -/
theorem body_obligation (c : Dev nD) : BodyObligation (dats (F := F) m ρ 0 c) (defs₀ (F := F)) 𝒱₀ () Set.univ := fun t => by
  rw [fin_N0 t]
  rw [show (bigSep Finset.univ : (Fin cfg0.W → sProp 𝕄) → sProp 𝕄) = fun Φ => iprop(Φ (0 : Fin 4) ∗ Φ (1 : Fin 4) ∗ Φ (2 : Fin 4) ∗ Φ (3 : Fin 4)) from funext bigSep_W0]
  simp only [owns_whole_eq]
  have hb := body_at m ρ c
  rw [← body_eq_root] at hb
  exact hb

end Cert.MidIdeal.Slice

end
-- ==== Proof.Mid.Launch.lean ====
module

public import proofs.«01_k».proof.Proof.Mid.Data
public import Idealize.ShloMosaic.Lib.Batch
public import Idealize.ShloMosaic.Lib.Writes
public import proofs.«01_k».proof.Proof.Gen.MidIdeal.Points
public import Idealize.ShloMosaic.Lib.Pipeline.CollectiveSegs
public import Idealize.ShloMosaic.Lib.Pipeline.Launch

@[expose] public section

noncomputable section

namespace Cert.MidIdeal.Slice

open Cert.MidIdeal Cert.MidIdeal.Gen

open Idealize.ShloMosaic Idealize.ShloMosaic.Tactic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 9 → GSem nD τ sig) := by
  rintro ⟨c, k⟩ ⟨c', k'⟩ h
  have h1 : c = c' := congrArg (fun g : GSem nD τ sig => g.1.1) h
  have h2 : k = k' := csem_injective (congrArg Prod.snd h)
  rw [h1, h2]
def ringCells : Finset (GSem nD τ sig) := Finset.univ.map ⟨kcell, kcell_injective⟩

/-- The duties of a device's own cells: the barrier's two, then one of each other cell. -/
def dutyOf (j : Fin 10) : Fin 9 × Bool := match j with
  | 0 => (0, false)
  | 1 => (0, true)
  | 2 => (1, false)
  | 3 => (2, false)
  | 4 => (3, false)
  | 5 => (4, false)
  | 6 => (5, false)
  | 7 => (6, false)
  | 8 => (7, false)
  | 9 => (8, false)

theorem dutyOf_injective : Function.Injective dutyOf := by decide
/-- A device's duty as the cell's, of its only round. -/
def tokOf (cj : Dev nD × Fin 10) : GSem nD τ sig × ℕ × Bool := (kcell (cj.1, (dutyOf cj.2).1), 0, (dutyOf cj.2).2)
theorem tokOf_injective : Function.Injective tokOf := by
  rintro ⟨c, j⟩ ⟨c', j'⟩ h
  have h1 := kcell_injective (congrArg Prod.fst h)
  have h2 : (dutyOf j).2 = (dutyOf j').2 := congrArg (fun x : GSem nD τ sig × ℕ × Bool => x.2.2) h
  have h3 : j = j' := dutyOf_injective (Prod.ext (congrArg Prod.snd h1) h2)
  have h4 : c = c' := congrArg Prod.fst h1
  rw [h3, h4]
def ringToks : Finset (GSem nD τ sig × ℕ × Bool) := Finset.univ.map ⟨tokOf, tokOf_injective⟩

def u₀ : UU := (initOf (Pipeline.cells cfgs cellOf_inj) (Pipeline.launchToks cfgs cellOf_inj), (initOf ringCells ringToks, 1))

/-- The duty tokens of device `c`'s own cells. -/
def ownToks (c : Dev nD) : sProp 𝕄 :=
  iprop(dutyTok ER (kcell (c, 0)) 0 false ∗ dutyTok ER (kcell (c, 0)) 0 true ∗ dutyTok ER (kcell (c, 1)) 0 false ∗ dutyTok ER (kcell (c, 2)) 0 false ∗ dutyTok ER (kcell (c, 3)) 0 false ∗ dutyTok ER (kcell (c, 4)) 0 false ∗ dutyTok ER (kcell (c, 5)) 0 false ∗ dutyTok ER (kcell (c, 6)) 0 false ∗ dutyTok ER (kcell (c, 7)) 0 false ∗ dutyTok ER (kcell (c, 8)) 0 false)

/-- What the launch element deals device `c`, -/
def G (c : Dev nD) : sProp 𝕄 :=
  iprop((bigSep Finset.univ fun k : Fin 9 => roundState ER (rd m ρ) (kcell (c, k)) 0)
    ∗ (bigSep Finset.univ fun k : Fin 9 => iprop(atPos ER (kcell (c, k)) 0 ∅ 0 ∗ reached ER (kcell (c, k)) 0)) ∗ ownToks (F := F) c)

theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ
theorem bigSep_fin10 (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 9 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => ownToks (F := F) c := by
    unfold ringToks; rw [bigSep_map, bigSep_univ_prod]
    exact bigSep_congr fun c _ => by unfold ownToks; rw [bigSep_fin10]; rfl
  iintro HX
  imod (Rounds.fund ER (rd m ρ) ringCells ringToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The own semaphores: the send and receive arrays' sixteen, the key copies' and the value copies'. -/
theorem ownSems0_eq (c : Dev nD) : (Pipeline.ownSems0 (Ix := Unit) (Name := ℕ) (U := UU) (Lvl := ℕ) (Val := Elt F) (τ := τ) osem c : sProp 𝕄)
    = iprop(semVal ((c : Thread nD τ), osem 0) 0 ∗ semVal ((c : Thread nD τ), osem 1) 0 ∗ semVal ((c : Thread nD τ), osem 2) 0 ∗ semVal ((c : Thread nD τ), osem 3) 0 ∗ semVal ((c : Thread nD τ), osem 4) 0 ∗ semVal ((c : Thread nD τ), osem 5) 0 ∗ semVal ((c : Thread nD τ), osem 6) 0 ∗ semVal ((c : Thread nD τ), osem 7) 0 ∗ semVal ((c : Thread nD τ), osem 8) 0 ∗ semVal ((c : Thread nD τ), osem 9) 0 ∗ semVal ((c : Thread nD τ), osem 10) 0 ∗ semVal ((c : Thread nD τ), osem 11) 0 ∗ semVal ((c : Thread nD τ), osem 12) 0 ∗ semVal ((c : Thread nD τ), osem 13) 0 ∗ semVal ((c : Thread nD τ), osem 14) 0 ∗ semVal ((c : Thread nD τ), osem 15) 0 ∗ semVal ((c : Thread nD τ), osem 16) 0 ∗ semVal ((c : Thread nD τ), osem 17) 0) := by
  rw [Pipeline.ownSems0_eq_of_list c osem [0, 1, 2, 3, 4, 5, 6, 7, 8, 9, 10, 11, 12, 13, 14, 15, 16, 17] (by decide) (by decide)]; rfl
/-- The barrier semaphore is the launch's one unscoped semaphore. -/
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

theorem cells_osem : osem 1 = csem 5 ∧ osem 3 = csem 6 ∧ osem 5 = csem 7 ∧ osem 7 = csem 8 ∧ osem 8 = csem 1 ∧ osem 10 = csem 2 ∧ osem 12 = csem 3 ∧ osem 14 = csem 4 ∧ osem 16 = SemLoc.dma kSem ∧ osem 17 = SemLoc.dma vSem := by decide

/-- All of them, sorted: the nine cells, the two of the local copies, the idle ones. -/
theorem sems_sort (c : Dev nD) :
    iprop(unscopedSems0 c ∗ Pipeline.ownSems0 (Ix := Unit) (Name := ℕ) (U := UU) (Lvl := ℕ) (Val := Elt F) (τ := τ) osem c)
      ⊣⊢ iprop(zeros (F := F) c ∗ semVal ((c : Thread nD τ), SemLoc.dma kSem) 0 ∗ semVal ((c : Thread nD τ), SemLoc.dma vSem) 0 ∗ idle (F := F) c) := by
  rw [unscopedSems0_eq, ownSems0_eq]
  obtain ⟨e0, e2, e4, e6, e9, e11, e13, e15, e16, e17⟩ := cells_osem
  rw [e0, e2, e4, e6, e9, e11, e13, e15, e16, e17]
  unfold zeros idle
  constructor
  · iintro ⟨Hb, H0, H1, H2, H3, H4, H5, H6, H7, H8, H9, H10, H11, H12, H13, H14, H15, H16, H17⟩
    isplitl [Hb H1 H3 H5 H7 H8 H10 H12 H14]
    · isplitl [Hb]; · iexact Hb
      isplitl [H8]; · iexact H8
      isplitl [H10]; · iexact H10
      isplitl [H12]; · iexact H12
      isplitl [H14]; · iexact H14
      isplitl [H1]; · iexact H1
      isplitl [H3]; · iexact H3
      isplitl [H5]; · iexact H5
      iexact H7
    isplitl [H16]; · iexact H16
    isplitl [H17]; · iexact H17
    isplitl [H0]; · iexact H0
    isplitl [H2]; · iexact H2
    isplitl [H4]; · iexact H4
    isplitl [H6]; · iexact H6
    isplitl [H9]; · iexact H9
    isplitl [H11]; · iexact H11
    isplitl [H13]; · iexact H13
    iexact H15
  · iintro ⟨⟨Hb, H8, H10, H12, H14, H1, H3, H5, H7⟩, H16, H17, H0, H2, H4, H6, H9, H11, H13, H15⟩
    isplitl [Hb]; · iexact Hb
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17

/-- What the global step leaves device `c` for itself. -/
def linear (c : Dev nD) : sProp 𝕄 :=
  iprop(semVal ((c : Thread nD τ), SemLoc.dma kSem) 0 ∗ semVal ((c : Thread nD τ), SemLoc.dma vSem) 0 ∗ idle (F := F) c)

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ ownToks (F := F) c ∗ linear (F := F) c) := by
  unfold G
  iintro ⟨Hos, Hus, Hst, Hat, Htok⟩
  ihave Hv := (sems_sort (F := F) c).1 $$ [Hos Hus]
  · isplitl [Hus] <;> iassumption
  icases Hv with ⟨Hz, Hlin⟩
  ihave Hz := (show zeros (F := F) c ⊢ (bigSep Finset.univ fun k : Fin 9 => semVal (kcell (c, k)) 0 : sProp 𝕄) from Entails.of_eq (by unfold zeros; rw [bigSep_fin9])) $$ Hz
  imod (show iprop((bigSep Finset.univ fun k : Fin 9 => semVal (kcell (c, k)) 0) ∗ bigSep Finset.univ fun k : Fin 9 => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hz Hst] with Hinv
  · isplitl [Hz] <;> iassumption
  imodintro
  isplitl [Hinv]; · iexact Hinv
  isplitl [Hat]; · iexact Hat
  isplitl [Htok]; · iexact Htok
  unfold linear; iexact Hlin

/-- The tokens dealt around the ring, each to the device that pays its duty. -/
theorem toks_around : (bigSep Finset.univ fun c : Dev nD => (ownToks (F := F) c : sProp 𝕄)) ⊢ bigSep Finset.univ fun c : Dev nD => payToks (F := F) c := by
  unfold ownToks payToks
  simp only [bigSep_sep']
  rw [bigSep_univ_equiv ring.symm (fun c : Dev nD => (dutyTok ER (kcell (c, 0)) 0 false : sProp 𝕄)),
    bigSep_univ_equiv ring (fun c : Dev nD => (dutyTok ER (kcell (c, 0)) 0 true : sProp 𝕄)),
    bigSep_univ_equiv ring (fun c : Dev nD => (dutyTok ER (kcell (c, 1)) 0 false : sProp 𝕄)),
    bigSep_univ_equiv ring (fun c : Dev nD => (dutyTok ER (kcell (c, 2)) 0 false : sProp 𝕄)),
    bigSep_univ_equiv ring.symm (fun c : Dev nD => (dutyTok ER (kcell (c, 3)) 0 false : sProp 𝕄)),
    bigSep_univ_equiv ring.symm (fun c : Dev nD => (dutyTok ER (kcell (c, 4)) 0 false : sProp 𝕄))]
  exact .rfl

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 9 → ℕ) (c : Dev nD) :
    iprop(allInv m ρ K ∗ ((bigSep Finset.univ fun k : Fin 9 => atPos ER (kcell (c, k)) 0 ∅ 0) ∗ payToks (F := F) c ∗ linear (F := F) c)) ⊢ ghost m ρ c := by
  rw [bigSep_fin9]
  unfold ghost starts linear
  iintro ⟨#HI, Hat, Htk, HK, HV, Hid⟩
  iexists K
  isplitr; · iexact HI
  isplitl [Hat]; · iexact Hat
  isplitl [Htk]; · iexact Htk
  isplitl [HK]; · iexact HK
  isplitl [HV] <;> iassumption

theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ ownToks (F := F) c ∗ linear (F := F) c) : sProp 𝕄)
      ⊢ bigSep Finset.univ (ghost m ρ) := by
  rw [bigSep_sep', bigSep_sep', bigSep_sep', ← bigSep_univ_prod (fun ck : Dev nD × Fin 9 => iprop(∃ κ : ℕ, cellInv ER (rd m ρ) κ (kcell ck))),
    bigSep_congr (s := Finset.univ) (fun (c : Dev nD) _ => bigSep_sep' Finset.univ (fun k : Fin 9 => (atPos ER (kcell (c, k)) 0 ∅ 0 : sProp 𝕄)) (fun k => reached ER (kcell (c, k)) 0)),
    bigSep_sep', ← bigSep_univ_prod (fun ck : Dev nD × Fin 9 => (reached ER (kcell ck) 0 : sProp 𝕄))]
  iintro ⟨HI, ⟨Hat, #HR⟩, Htok, Hlin⟩
  ihave HK := (BI.bigSep_exists_pi Finset.univ (fun (ck : Dev nD × Fin 9) (κ : ℕ) => (cellInv ER (rd m ρ) κ (kcell ck) : sProp 𝕄))) $$ HI
  icases HK with ⟨%K, #HI⟩
  ihave Htk := (toks_around (F := F)) $$ Htok
  iapply (bigSep_with_persistent (R := allInv m ρ K) fun c _ => ghost_intro m ρ K c)
  isplitr
  · unfold allInv; rw [bigSep_sep']; isplitl; · iexact HI
    iexact HR
  · rw [bigSep_sep', bigSep_sep']
    isplitl [Hat]; · iexact Hat
    isplitl [Htk] <;> iassumption

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (ghost m ρ) :=
  ((bigSep_mono fun c _ => core_alloc m ρ c).trans (bigSep_fupd _ _)).trans (BI.fupd_mono (regroup m ρ))

/-! ### The launch credit -/

theorem tally_cell (a c : Dev nD) (j k : Fin 9) (n : ℕ) :
    (tallyAt (kcell (a, j)) () n : CellTallies nD τ sig Unit) (kcell (c, k)) () = if a = c then (if j = k then n else 0) else 0 := by
  rw [tallyAt_apply]
  by_cases h : a = c
  · by_cases h' : j = k
    · subst h h'; rw [if_pos ⟨rfl, rfl⟩, if_pos rfl, if_pos rfl]
    · rw [if_neg fun e => h' (congrArg Prod.snd (kcell_injective e.1)).symm, if_pos h, if_neg h']
  · rw [if_neg fun e => h (congrArg Prod.fst (kcell_injective e.1)).symm, if_neg h]

/-- One device's turn of a unit per device around the ring. -/
theorem sum_turn (e : Dev nD ≃ Dev nD) (c : Dev nD) (n : ℕ) : ∑ d : Dev nD, (if e d = c then n else 0) = n := by
  rw [Finset.sum_congr rfl fun d _ => if_congr (e.apply_eq_iff_eq_symm_apply) rfl rfl, Finset.sum_ite_eq' Finset.univ, if_pos (Finset.mem_univ _)]

/-- What all devices owe a cell `k` together. -/
def tot (a b c d : ℕ) (k : Fin 9) : ℕ :=
  0 + (if 4 = k then d else 0) + (if 3 = k then c else 0) + (if 2 = k then b else 0) + (if 1 = k then a else 0) + (if 0 = k then 1 else 0) + (if 0 = k then 1 else 0)

theorem owed_sum (c : Dev nD) (k : Fin 9) : ∑ d : Dev nD, O₀ d (kcell (c, k)) () = tot NA NB NC ND k := by
  unfold tot O₀ oweB owe0 owe1 owe2 owe3
  simp only [Pi.add_apply, Finsupp.add_apply, Finset.sum_add_distrib, tally_cell]
  congr 1; congr 1; congr 1; congr 1; congr 1; congr 1
  · exact sum_turn ring.symm c _
  · exact sum_turn ring.symm c _
  · exact sum_turn ring c _
  · exact sum_turn ring c _
  · exact sum_turn ring c _
  · exact sum_turn ring.symm c _

theorem launch_cell (c : Dev nD) (k : Fin 9) :
    tallyOn (kcell (c, k)) (launchCredit (Pipeline.owing O₀) 0 (kcell (c, k))) = (tallyAt (kcell (c, k)) () (tot NA NB NC ND k) : CellTallies nD τ sig Unit) := by
  unfold tallyAt; refine congrArg _ (Finsupp.ext fun u => ?_); cases u
  rw [Pipeline.launchCredit_owing, Finsupp.single_eq_same, owed_sum]

theorem tot_eq (a b c d : ℕ) : tot a b c d 0 = 2 ∧ tot a b c d 1 = a ∧ tot a b c d 2 = b ∧ tot a b c d 3 = c ∧ tot a b c d 4 = d := by
  simp [tot]

theorem drop_right (P Q : sProp 𝕄) : iprop(P ∗ Q) ⊢ P := by
  iintro ⟨H, -⟩; iexact H

theorem creds_intro (c : Dev nD) : (Pipeline.launchCred O₀ c : sProp 𝕄) ⊢ creds (F := F) c := by
  unfold Pipeline.launchCred creds
  rw [bigSep_sdiff_split (t := [csem 0, csem 1, csem 2, csem 3, csem 4].toFinset) (Finset.subset_univ _)]
  refine (drop_right _ _).trans ?_
  rw [bigSep_eq_bigSepL_of_eq [csem 0, csem 1, csem 2, csem 3, csem 4] rfl (by decide)]
  obtain ⟨h0, h1, h2, h3, h4⟩ := tot_eq NA NB NC ND
  refine Entails.of_eq ?_
  simp only [bigSepL_cons_cons, bigSepL_singleton]
  have e (k : Fin 9) := launch_cell c k
  have e0 := e 0; have e1 := e 1; have e2 := e 2; have e3 := e 3; have e4 := e 4
  rw [h0] at e0; rw [h1] at e1; rw [h2] at e2; rw [h3] at e3; rw [h4] at e4
  show iprop(cred (tallyOn (kcell (c, 0)) _) ∗ cred (tallyOn (kcell (c, 1)) _) ∗ cred (tallyOn (kcell (c, 2)) _) ∗ cred (tallyOn (kcell (c, 3)) _) ∗ cred (tallyOn (kcell (c, 4)) _)) = _
  rw [e0, e1, e2, e3, e4]
  rfl

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m ρ c)
      ⊢ |={Set.univ}=> iprop(start m ρ c ∗ emp) := by
  rw [Pipeline.unscopedRestP_none, unscopedRest0_eq]
  iintro ⟨⟨HK, HV⟩, Hlev, Hcr, -, HG⟩
  ihave Hc := (creds_intro (F := F) c) $$ Hcr
  ihave HK := (Entails.of_eq (buf_eq c main_arg2 (m ((c : Thread nD τ).loc main_arg2))).symm) $$ HK
  ihave HV := (Entails.of_eq (buf_eq c main_arg3 (m ((c : Thread nD τ).loc main_arg3))).symm) $$ HV
  imodintro
  unfold start
  isplitl
  · isplitl [HG]; · iexact HG
    isplitl [Hc]; · iexact Hc
    isplitl [Hlev]; · iexact Hlev
    isplitl [HK]; · iexact HK
    iexact HV
  · iempintro

theorem ex_buf (c : Dev nD) (b : Ref sig .tc) :
    (iprop(∃ f : Buf (Elt F) (((c : Dev nD) : Thread nD τ).loc b), (((c : Thread nD τ).loc b) ↦{fullShare} f)) : sProp 𝕄)
      = iprop(∃ f, ((Memref.whole b).view.loc (c : Thread nD τ) ↦[(Memref.whole b).view.set]{fullShare} f)) := by
  simp only [Memref.view_whole, View.set_whole]

theorem scr_eq (c : Dev nD) : (Pipeline.scopedRest cfg0.spec c : sProp 𝕄) = scr (F := F) c := by
  rw [show (Pipeline.scopedRest cfg0.spec c : sProp 𝕄) = Pipeline.scopedRest spec0 c from rfl, scopedRest0_eq]
  unfold scr
  refine congrArg₂ (fun a b : sProp 𝕄 => iprop(a ∗ b)) (ex_buf c cc0_scratch0) ?_
  refine congrArg₂ (fun a b : sProp 𝕄 => iprop(a ∗ b)) (ex_buf c cc0_scratch1) ?_
  refine congrArg₂ (fun a b : sProp 𝕄 => iprop(a ∗ b)) (ex_buf c cc0_scratch2) ?_
  refine congrArg₂ (fun a b : sProp 𝕄 => iprop(a ∗ b)) (ex_buf c cc0_scratch3) ?_
  refine congrArg₂ (fun a b : sProp 𝕄 => iprop(a ∗ b)) (ex_buf c cc0_scratch4) ?_
  refine congrArg₂ (fun a b : sProp 𝕄 => iprop(a ∗ b)) (ex_buf c cc0_scratch5) ?_
  refine congrArg₂ (fun a b : sProp 𝕄 => iprop(a ∗ b)) (ex_buf c cc0_scratch6) ?_
  refine congrArg₂ (fun a b : sProp 𝕄 => iprop(a ∗ b)) (ex_buf c cc0_scratch7) ?_
  exact ex_buf c cc0_scratch8

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scr_eq]
  unfold Φ₀
  iintro ⟨Hs, -, Hr⟩
  isplitl [Hs] <;> iassumption

/-- What is left of device `c` when the region ends: its barrier's counter at zero, its keys and values as they were. -/
def leftover (c : Dev nD) : sProp 𝕄 := iprop(unscopedSems0 c ∗ bufPts kM c (kC m ρ c) ∗ bufPts vM c (vC m ρ c))

theorem phi1_exit (c : Dev nD) :
    (dats m ρ 0 c).Φ (Fin.last cfg0.N) ⊢ iprop(leftover m ρ c ∗ Pipeline.ownSems0 osem c ∗ Pipeline.scopedRest cfg0.spec c) := by
  rw [show (dats m ρ 0 c).Φ (Fin.last cfg0.N) = Φ₁ m ρ c from rfl, scr_eq]
  unfold Φ₁ leftover
  iintro ⟨Hz, HsK, HsV, Hid, Hscr, HK, HV⟩
  ihave Hs := (sems_sort (F := F) c).2 $$ [Hz HsK HsV Hid]
  · isplitl [Hz]; · iexact Hz
    isplitl [HsK]; · iexact HsK
    isplitl [HsV] <;> iassumption
  icases Hs with ⟨Hu, Ho⟩
  isplitl [Hu HK HV]
  · isplitl [Hu]; · iexact Hu
    isplitl [HK] <;> iassumption
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

/-- What the run ends in: every window's array at the computed contents, the keys and the values as they were. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg2) = m ((c : Thread nD τ).loc main_arg2) ∧ r.2.mem ((c : Thread nD τ).loc main_arg3) = m ((c : Thread nD τ).loc main_arg3)

/-- What is left says of the memory that the keys and the values are as they were and the barrier's counter is zero. -/
theorem leftover_read (c : Dev nD) (s' : Phys nD τ sig (Elt F)) :
    iprop(leftover m ρ c ∗ emp ∗ SI s') ⊢ |={Set.univ}=> iprop(⌜(s'.mem.mem ((c : Thread nD τ).loc main_arg2) = m ((c : Thread nD τ).loc main_arg2)
        ∧ s'.mem.mem ((c : Thread nD τ).loc main_arg3) = m ((c : Thread nD τ).loc main_arg3))
        ∧ ∀ sm : SemLoc sig, sm.isScoped .tc = false → s'.mem.sem ((c.tc : Thread nD τ), sm) = 0⌝ ∗ SI s' : sProp 𝕄) := by
  unfold leftover
  rw [show bufPts kM c (kC m ρ c) = _ from buf_eq c main_arg2 (kC m ρ c), show bufPts vM c (vC m ρ c) = _ from buf_eq c main_arg3 (vC m ρ c)]
  iintro ⟨⟨Hu, HK, HV⟩, -, HSI⟩
  icombine HSI HK gives %hk
  icombine HSI HV gives %hv
  imod (Pipeline.unscopedSems0_read (X := unscopedSems0 c) (c := c) fupd_intro s') $$ [Hu HSI] with ⟨%hs, HSI⟩
  · isplitl [Hu] <;> iassumption
  imodintro
  isplitr
  · ipureintro; exact ⟨⟨Buf.eq_of_forall_mem_univ hk, Buf.eq_of_forall_mem_univ hv⟩, hs⟩
  iexact HSI

set_option maxRecDepth 8000 in
/-- From any memory with zero counters every weakly fair execution of the four devices ends, the arrays at the computed
    contents, the keys and the values as they were, every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := ghost m ρ) (u₀ := u₀)
    (hu₀ := by
      unfold u₀
      iintro Hu
      ihave H := (ownU_pair _ _) $$ Hu
      icases H with ⟨HP, HX⟩
      ihave HX := (own_pair_emb embR (initOf ringCells ringToks) (1 : Counters)) $$ HX
      icases HX with ⟨HX, -⟩
      imod (show iprop(BI.own (((Emb.inl : Emb UB (UB × Counters)).trans embR) (initOf ringCells ringToks))) ⊢ (|==> bigSep Finset.univ (G m ρ) : sProp 𝕄) from fund_ring m ρ) $$ HX with HG
      imodintro
      isplitl [HP] <;> iassumption)
    (hglob := glob m ρ)
    (hA := fun _ _ => rfl) (hpf := fun _ k => k.elim0)
    (X := start m ρ) (Y := leftover m ρ) (Z := fun _ => iprop(emp))
    (hX := start_intro m ρ) (hin := phi0_intro m ρ) (hout := phi1_exit m ρ)
    (QY := fun c s => (s.mem ((c : Thread nD τ).loc main_arg2) = m ((c : Thread nD τ).loc main_arg2)
        ∧ s.mem ((c : Thread nD τ).loc main_arg3) = m ((c : Thread nD τ).loc main_arg3))
        ∧ ∀ sm : SemLoc sig, sm.isScoped .tc = false → s.sem ((c.tc : Thread nD τ), sm) = 0)
    (hY := leftover_read m ρ)
    (hQ := fun _ h hs => ⟨fun c => ⟨fun w => (h c).1 w, (h c).2.2.1⟩, sem_eq_zero hs fun c => (h c).2.2.2⟩)

/-- From any memory every execution of the four devices ends, the arguments as they were, the result of each device at
    `outC`, every counter at zero. -/
theorem run_out : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v1) = finalA m ρ c (3 : Fin 4)) ∧ r.2.sem = fun _ => 0) :=
  (θ_run defs _ _).mono (fun _ h => ⟨fun c => ⟨⟨((h.1 c).1 0).trans ((dats m ρ 0 c).arrAt_in 0 rfl _),
      ((h.1 c).1 1).trans ((dats m ρ 0 c).arrAt_in 1 rfl _), (h.1 c).2.1, (h.1 c).2.2, ((h.1 c).1 2).trans ((dats m ρ 0 c).arrAt_in 2 rfl _)⟩,
      (h.1 c).1 3⟩, h.2⟩) (run_main m ρ)

end Cert.MidIdeal.Slice

end
-- ==== Proof.Mid.Values.lean ====
module

public import proofs.«01_k».proof.Proof.Values
public import proofs.«01_k».proof.Proof.Mid.Launch

@[expose] public section

noncomputable section

namespace Cert.MidIdeal.Slice

open Cert.MidIdeal Cert.MidIdeal.Gen Idealize.ShloMosaic Idealize.ShloMosaic.TcCoe Idealize.SL.Sem Cert.Soft
open Cert.KernelIdeal.Slice (at8 side side_self xA wA oA kA vA)

variable (m : (ℓ : Loc nD τ sig) → Buf (Elt Ideal) ℓ) (ρ : Dev nD → PrngReg)

/-! # The slice between's result over the extended reals

Its payloads, blocks and buffers are those of the first slice; the heads are others. -/

/-- The result array ends holding what the body leaves. -/
theorem finalA_out (c : Dev nD) : finalA m ρ c (3 : Fin 4) = outC m ρ c := by
  unfold finalA
  refine (dats m ρ 0 c).arrAt_eq_of_after_last (3 : Fin cfg0.W) (⟨0, by decide⟩ : Fin cfg0.N) ⟨flush0_3 _, fun t _ => Subsingleton.elim (α := Fin 1) t 0, fun a => ⟨rfl, rfl⟩⟩ _ (fun j => ?_)
  rfl

theorem headOf_brought (c : Dev nD) : ∀ a, headOf 0 c a = brought c a := by revert c; decide
theorem headOf_across (c : Dev nD) : ∀ a, headOf 1 c a = across c a := by revert c; decide

/-- The device whose half brings head `a`, which was brought to it. -/
theorem across_eq (c : Dev nD) (a : Fin 8) (d : Fin 128) : across c a = brought (side (prv c) (nxt c) (at8 a d)) a := by
  have h : (at8 a d).val < 512 ↔ a.val < 4 := by show 128 * a.val + d.val < 512 ↔ _; omega
  unfold side
  by_cases ha : a.val < 4
  · rw [if_pos (h.mpr ha)]; clear h; revert c a; decide
  · rw [if_neg (fun q => ha (h.mp q))]; clear h; revert c a; decide

variable (X : Fin 4 → Fin 2048 → Fin 1024 → ℝ) (W : Fin 1024 → Fin 32 → Fin 128 → ℝ) (K : Fin 4 → Fin 2048 → Fin 32 → Fin 128 → ℝ)
  (V : Fin 4 → Fin 2048 → Fin 32 → Fin 128 → EReal) (O : Fin 32 → Fin 128 → Fin 1024 → EReal)

/-- An entry of the result: the parts of the heads brought and of those across the ring. -/
theorem outC_real (c : Dev nD)
    (hx : ∀ c i e, xA m c (ix3 0 i e) = (X c i e : EReal))
    (hw : ∀ (c : Dev nD) e a d, wA m c (ix2 e (at8 a d)) = (W e (brought c a) d : EReal))
    (hk : ∀ (c : Dev nD) j a d, kA m c (ix4 (a := 4) (b := 2048) (c := 32) (d := 128) ⟨c.val, c.isLt⟩ j a d) = (K c j a d : EReal))
    (hv : ∀ (c : Dev nD) j a d, vA m c (ix4 (a := 4) (b := 2048) (c := 32) (d := 128) ⟨c.val, c.isLt⟩ j a d) = V c j a d)
    (ho : ∀ (c : Dev nD) a d n, oA m c (ix2 (at8 a d) n) = O (brought c a) d n)
    (i : Fin 2048) (n : Fin 1024) :
    outC m ρ c (ix3 0 i n) = ∑ a, part X W K V O c i n (brought c a) + ∑ a, part X W K V O c i n (across c a) := by
  have h0 : outC0 m ρ c (ix3 0 i n) = ∑ a, part X W K V O c i n (brought c a) := by
    unfold outC0 oTgt0
    refine (Cert.KernelIdeal.Slice.tile0 _ _ _ _ _ _ _).trans ?_
    refine Cert.KernelIdeal.Slice.hop_real m ρ X W K V O c c c 1 (brought c) (kvTgt 0 c (kC m ρ c)) (kvTgt 0 c (vC m ρ c)) (hx c) (fun e a d => ?_) (fun j a d => (congrArg (fun h : Fin 32 => kA m c (ix4 (a := 4) (b := 2048) (c := 32) (d := 128) ⟨c.val, c.isLt⟩ j h d)) (headOf_brought c a)).trans (hk c j _ d))
      (fun j a d => (congrArg (fun h : Fin 32 => vA m c (ix4 (a := 4) (b := 2048) (c := 32) (d := 128) ⟨c.val, c.isLt⟩ j h d)) (headOf_brought c a)).trans (hv c j _ d)) (fun a d n => ?_) i n _ (fun j => Cert.KernelIdeal.Slice.bias0 _ _ j)
    · rw [side_self]; exact hw c e a d
    · rw [side_self]; exact ho c a d n
  have hr : row (512 * (i.val / 512) + i.val % 512) = i := Fin.ext (by show (512 * (i.val / 512) + i.val % 512) % 2048 = i.val; omega)
  unfold outC oTgt1
  refine (Cert.KernelIdeal.Slice.tile1 _ _ _ _ _ _ _ _).trans (congrArg₂ (fun u v : EReal => u + v) ?_ ?_)
  · rw [← h0]
    show outC0 m ρ c (ix3 0 (row (512 * (i.val / 512) + i.val % 512)) n) = _
    rw [hr]
  · refine Cert.KernelIdeal.Slice.hop_real m ρ X W K V O c (prv c) (nxt c) 0 (across c) (kvTgt 1 c (kC m ρ c)) (kvTgt 1 c (vC m ρ c)) (hx c) (fun e a d => ?_) (fun j a d => (congrArg (fun h : Fin 32 => kA m c (ix4 (a := 4) (b := 2048) (c := 32) (d := 128) ⟨c.val, c.isLt⟩ j h d)) (headOf_across c a)).trans (hk c j _ d))
      (fun j a d => (congrArg (fun h : Fin 32 => vA m c (ix4 (a := 4) (b := 2048) (c := 32) (d := 128) ⟨c.val, c.isLt⟩ j h d)) (headOf_across c a)).trans (hv c j _ d)) (fun a d n => ?_) i n _ (fun j => Cert.KernelIdeal.Slice.bias1 _ _ j)
    · rw [across_eq c a d]; exact hw _ e a d
    · rw [across_eq c a d]; exact ho _ a d n

end Cert.MidIdeal.Slice

end
-- ==== Proof.Mid.Ref.lean ====
module

public import proofs.«01_k».proof.Proof.Gen.MidReferenceIdeal.Run
public import proofs.«01_k».proof.Proof.Ref

@[expose] public section

noncomputable section

namespace Cert.MidReferenceIdeal.Slice

open Cert.MidReferenceIdeal Cert.MidReferenceIdeal.Gen Idealize.ShloMosaic Idealize.ShloMosaic.TcCoe Idealize.SL.Sem Idealize.ShloMosaic.StableHlo Cert.Soft
open Cert.ReferenceIdeal.Slice (at32 outOf outOf_real sum_cols)

/-! # The third reference's result, by the first one's steps -/

/-- Which heads a batch takes. -/
def headsV : IVec S4x1x32x1 1 :=
  shapeCast _ (ori (ori (broadcastInDim S4x4x8 ![0, 1, 2] bcast_S4x4x1_S4x4x8_0_1_2 (ori (cmpi .eq (broadcastInDim S4x4x1 ![0, 1, 2] bcast_S1x4x1_S4x4x1_0_1_2 (broadcastInDim S1x4x1 ![1] bcast_S4_S1x4x1_1 (iotaInDim S4 32 0))) (broadcastInDim S4x4x1 ![0, 1, 2] bcast_S4x1x1_S4x4x1_0_1_2 (addi (broadcastInDim S4x1x1 ![0] bcast_S4_S4x1x1_0 (iotaInDim S4 32 0)) (broadcastInDim S4x1x1 ![] bcast_S_S4x1x1 (constantI S_ 32 2#32))))) (cmpi .eq (broadcastInDim S4x4x1 ![0, 1, 2] bcast_S1x4x1_S4x4x1_0_1_2 (broadcastInDim S1x4x1 ![1] bcast_S4_S1x4x1_1 (iotaInDim S4 32 0))) (broadcastInDim S4x4x1 ![0, 1, 2] bcast_S4x1x1_S4x4x1_0_1_2 (subi (broadcastInDim S4x1x1 ![0] bcast_S4_S4x1x1_0 (iotaInDim S4 32 0)) (broadcastInDim S4x1x1 ![] bcast_S_S4x1x1 (constantI S_ 32 2#32))))))) (andi (broadcastInDim S4x4x8 ![0, 1, 2] bcast_S4x4x1_S4x4x8_0_1_2 (ori (cmpi .eq (broadcastInDim S4x4x1 ![0, 1, 2] bcast_S1x4x1_S4x4x1_0_1_2 (broadcastInDim S1x4x1 ![1] bcast_S4_S1x4x1_1 (iotaInDim S4 32 0))) (broadcastInDim S4x4x1 ![0, 1, 2] bcast_S4x1x1_S4x4x1_0_1_2 (subi (broadcastInDim S4x1x1 ![0] bcast_S4_S4x1x1_0 (iotaInDim S4 32 0)) (broadcastInDim S4x1x1 ![] bcast_S_S4x1x1 (constantI S_ 32 1#32))))) (cmpi .eq (broadcastInDim S4x4x1 ![0, 1, 2] bcast_S1x4x1_S4x4x1_0_1_2 (broadcastInDim S1x4x1 ![1] bcast_S4_S1x4x1_1 (iotaInDim S4 32 0))) (broadcastInDim S4x4x1 ![0, 1, 2] bcast_S4x1x1_S4x4x1_0_1_2 (addi (broadcastInDim S4x1x1 ![0] bcast_S4_S4x1x1_0 (iotaInDim S4 32 0)) (broadcastInDim S4x1x1 ![] bcast_S_S4x1x1 (constantI S_ 32 3#32))))))) (broadcastInDim S4x4x8 ![0, 1, 2] bcast_S1x1x8_S4x4x8_0_1_2 (cmpi .slt (broadcastInDim S1x1x8 ![2] bcast_S8_S1x1x8_2 (iotaInDim S8 32 0)) (broadcastInDim S1x1x8 ![] bcast_S_S1x1x8 (constantI S_ 32 4#32)))))) (andi (broadcastInDim S4x4x8 ![0, 1, 2] bcast_S4x4x1_S4x4x8_0_1_2 (ori (cmpi .eq (broadcastInDim S4x4x1 ![0, 1, 2] bcast_S1x4x1_S4x4x1_0_1_2 (broadcastInDim S1x4x1 ![1] bcast_S4_S1x4x1_1 (iotaInDim S4 32 0))) (broadcastInDim S4x4x1 ![0, 1, 2] bcast_S4x1x1_S4x4x1_0_1_2 (addi (broadcastInDim S4x1x1 ![0] bcast_S4_S4x1x1_0 (iotaInDim S4 32 0)) (broadcastInDim S4x1x1 ![] bcast_S_S4x1x1 (constantI S_ 32 1#32))))) (cmpi .eq (broadcastInDim S4x4x1 ![0, 1, 2] bcast_S1x4x1_S4x4x1_0_1_2 (broadcastInDim S1x4x1 ![1] bcast_S4_S1x4x1_1 (iotaInDim S4 32 0))) (broadcastInDim S4x4x1 ![0, 1, 2] bcast_S4x1x1_S4x4x1_0_1_2 (subi (broadcastInDim S4x1x1 ![0] bcast_S4_S4x1x1_0 (iotaInDim S4 32 0)) (broadcastInDim S4x1x1 ![] bcast_S_S4x1x1 (constantI S_ 32 3#32))))))) (broadcastInDim S4x4x8 ![0, 1, 2] bcast_S1x1x8_S4x4x8_0_1_2 (cmpi .sge (broadcastInDim S1x1x8 ![2] bcast_S8_S1x1x8_2 (iotaInDim S8 32 0)) (broadcastInDim S1x1x8 ![] bcast_S_S1x1x8 (constantI S_ 32 4#32)))))) shapeCasts_S4x4x8_S4x1x32x1

/-- The left and the right half of every device's columns; -/
def colsL (w : FVec Ideal S1024x4096 .f32) : FVec Ideal S1024x4x512 .f32 := shapeCast _ (extractStridedSlice S1024x4x1x512 ![0, 0, 0, 0] (shapeCast _ w shapeCasts_S1024x4096_S1024x4x2x512) slices_S1024x4x2x512_S1024x4x1x512_0_0_0_0) shapeCasts_S1024x4x1x512_S1024x4x512
def colsR (w : FVec Ideal S1024x4096 .f32) : FVec Ideal S1024x4x512 .f32 := shapeCast _ (extractStridedSlice S1024x4x1x512 ![0, 0, 1, 0] (shapeCast _ w shapeCasts_S1024x4096_S1024x4x2x512) slices_S1024x4x2x512_S1024x4x1x512_0_0_1_0) shapeCasts_S1024x4x1x512_S1024x4x512
/-- the left halves one device back and the right ones one on; -/
def backL (l : FVec Ideal S1024x4x512 .f32) : FVec Ideal S1024x4x512 .f32 :=
  concatenate S1024x4x512 1 [⟨S1024x3x512, (extractStridedSlice S1024x3x512 ![0, 1, 0] l slices_S1024x4x512_S1024x3x512_0_1_0)⟩, ⟨S1024x1x512, (extractStridedSlice S1024x1x512 ![0, 0, 0] l slices_S1024x4x512_S1024x1x512_0_0_0)⟩] concatenates_S1024x3x512_S1024x1x512_S1024x4x512_d1
def onR (l : FVec Ideal S1024x4x512 .f32) : FVec Ideal S1024x4x512 .f32 :=
  concatenate S1024x4x512 1 [⟨S1024x1x512, (extractStridedSlice S1024x1x512 ![0, 3, 0] l slices_S1024x4x512_S1024x1x512_0_3_0)⟩, ⟨S1024x3x512, (extractStridedSlice S1024x3x512 ![0, 0, 0] l slices_S1024x4x512_S1024x3x512_0_0_0)⟩] concatenates_S1024x1x512_S1024x3x512_S1024x4x512_d1
/-- the query weights with their columns put back by these. -/
def colsV (w : FVec Ideal S1024x4096 .f32) : FVec Ideal S1024x4096 .f32 :=
  shapeCast _ (concatenate S1024x4x2x512 2 [⟨S1024x4x1x512, (broadcastInDim S1024x4x1x512 ![0, 1, 3] bcast_S1024x4x512_S1024x4x1x512_0_1_3 (backL (colsL w)))⟩, ⟨S1024x4x1x512, (broadcastInDim S1024x4x1x512 ![0, 1, 3] bcast_S1024x4x512_S1024x4x1x512_0_1_3 (onR (colsR w)))⟩] concatenates_S1024x4x1x512_S1024x4x1x512_S1024x4x2x512_d2) shapeCasts_S1024x4x2x512_S1024x4096

/-- The same of the rows of the output weights. -/
def rowsL (w : FVec Ideal S4096x1024 .f32) : FVec Ideal S4x512x1024 .f32 := shapeCast _ (extractStridedSlice S4x1x512x1024 ![0, 0, 0, 0] (shapeCast _ w shapeCasts_S4096x1024_S4x2x512x1024) slices_S4x2x512x1024_S4x1x512x1024_0_0_0_0) shapeCasts_S4x1x512x1024_S4x512x1024
def rowsR (w : FVec Ideal S4096x1024 .f32) : FVec Ideal S4x512x1024 .f32 := shapeCast _ (extractStridedSlice S4x1x512x1024 ![0, 1, 0, 0] (shapeCast _ w shapeCasts_S4096x1024_S4x2x512x1024) slices_S4x2x512x1024_S4x1x512x1024_0_1_0_0) shapeCasts_S4x1x512x1024_S4x512x1024
def rowBackL (l : FVec Ideal S4x512x1024 .f32) : FVec Ideal S4x512x1024 .f32 :=
  concatenate S4x512x1024 0 [⟨S3x512x1024, (extractStridedSlice S3x512x1024 ![1, 0, 0] l slices_S4x512x1024_S3x512x1024_1_0_0)⟩, ⟨S1x512x1024, (extractStridedSlice S1x512x1024 ![0, 0, 0] l slices_S4x512x1024_S1x512x1024_0_0_0)⟩] concatenates_S3x512x1024_S1x512x1024_S4x512x1024_d0
def rowOnR (l : FVec Ideal S4x512x1024 .f32) : FVec Ideal S4x512x1024 .f32 :=
  concatenate S4x512x1024 0 [⟨S1x512x1024, (extractStridedSlice S1x512x1024 ![3, 0, 0] l slices_S4x512x1024_S1x512x1024_3_0_0)⟩, ⟨S3x512x1024, (extractStridedSlice S3x512x1024 ![0, 0, 0] l slices_S4x512x1024_S3x512x1024_0_0_0)⟩] concatenates_S1x512x1024_S3x512x1024_S4x512x1024_d0
def rowsV (w : FVec Ideal S4096x1024 .f32) : FVec Ideal S4096x1024 .f32 :=
  shapeCast _ (concatenate S4x2x512x1024 1 [⟨S4x1x512x1024, (broadcastInDim S4x1x512x1024 ![0, 2, 3] bcast_S4x512x1024_S4x1x512x1024_0_2_3 (rowBackL (rowsL w)))⟩, ⟨S4x1x512x1024, (broadcastInDim S4x1x512x1024 ![0, 2, 3] bcast_S4x512x1024_S4x1x512x1024_0_2_3 (rowOnR (rowsR w)))⟩] concatenates_S4x1x512x1024_S4x1x512x1024_S4x2x512x1024_d1) shapeCasts_S4x2x512x1024_S4096x1024

/-- The run's composed term is the first reference's steps over these heads and weights. -/
theorem res_eq (m : (ℓ : Loc nD τ sig) → Buf (Elt Ideal) ℓ) (c : Dev nD) :
    Value.res_main_v110 m c = outOf headsV (m ((c.tc : Thread nD τ).loc main_arg0)) (colsV (m ((c.tc : Thread nD τ).loc main_arg1))) (m ((c.tc : Thread nD τ).loc main_arg2))
      (m ((c.tc : Thread nD τ).loc main_arg3)) (rowsV (m ((c.tc : Thread nD τ).loc main_arg4))) := rfl

theorem heads_apply (b : Fin 4) (h : Fin 32) : headsV (ix4 b 0 h 0) = BitVec.ofBool (between b h) := by
  pointwise [headsV]
  revert b h
  decide

/-- The head whose columns the reference puts in place of head `h`'s. -/
def from1 (h : Fin 32) : Fin 32 := if h.val % 8 < 4 then ⟨8 * ((h.val / 8 + 1) % 4) + h.val % 8, by omega⟩ else ⟨8 * ((h.val / 8 + 3) % 4) + h.val % 8, by omega⟩

theorem from1_brought (c : Fin 4) (a : Fin 8) : from1 (brought c a) = own c a := by revert c a; decide

theorem colsL_apply (w : FVec Ideal S1024x4096 .f32) (e : Fin 1024) (g : Fin 4) (o : Fin 512) :
    colsL w (ix3 e g o) = w (ix2 e (⟨g.val * 1024 + o.val, by omega⟩ : Fin 4096)) := by
  pointwise [colsL]

theorem colsR_apply (w : FVec Ideal S1024x4096 .f32) (e : Fin 1024) (g : Fin 4) (o : Fin 512) :
    colsR w (ix3 e g o) = w (ix2 e (⟨g.val * 1024 + 512 + o.val, by omega⟩ : Fin 4096)) := by
  pointwise [colsR]

theorem backL_apply (l : FVec Ideal S1024x4x512 .f32) (e : Fin 1024) (g : Fin 4) (o : Fin 512) :
    backL l (ix3 e g o) = l (ix3 e (⟨(g.val + 1) % 4, by omega⟩ : Fin 4) o) := by
  pointwise [backL]
  split <;> exact congrArg (fun g : Fin 4 => l (ix3 e g o)) (Fin.ext (by show _ = (g.val + 1) % 4; simp only []; omega))

theorem onR_apply (l : FVec Ideal S1024x4x512 .f32) (e : Fin 1024) (g : Fin 4) (o : Fin 512) :
    onR l (ix3 e g o) = l (ix3 e (⟨(g.val + 3) % 4, by omega⟩ : Fin 4) o) := by
  pointwise [onR]
  split <;> exact congrArg (fun g : Fin 4 => l (ix3 e g o)) (Fin.ext (by show _ = (g.val + 3) % 4; simp only []; omega))

theorem cols_at (w : FVec Ideal S1024x4096 .f32) (e : Fin 1024) (f : Fin 4096) :
    colsV w (ix2 e f) = if f.val / 512 % 2 < 1 then backL (colsL w) (ix3 e (⟨f.val / 1024, by omega⟩ : Fin 4) (⟨f.val % 512, Nat.mod_lt _ (by decide)⟩ : Fin 512))
      else onR (colsR w) (ix3 e (⟨f.val / 1024, by omega⟩ : Fin 4) (⟨f.val % 512, Nat.mod_lt _ (by decide)⟩ : Fin 512)) := by
  pointwise [colsV]
  rfl

theorem rowsL_apply (w : FVec Ideal S4096x1024 .f32) (g : Fin 4) (o : Fin 512) (n : Fin 1024) :
    rowsL w (ix3 g o n) = w (ix2 (⟨g.val * 1024 + o.val, by omega⟩ : Fin 4096) n) := by
  pointwise [rowsL]

theorem rowsR_apply (w : FVec Ideal S4096x1024 .f32) (g : Fin 4) (o : Fin 512) (n : Fin 1024) :
    rowsR w (ix3 g o n) = w (ix2 (⟨g.val * 1024 + 512 + o.val, by omega⟩ : Fin 4096) n) := by
  pointwise [rowsR]

theorem rowBackL_apply (l : FVec Ideal S4x512x1024 .f32) (g : Fin 4) (o : Fin 512) (n : Fin 1024) :
    rowBackL l (ix3 g o n) = l (ix3 (⟨(g.val + 1) % 4, by omega⟩ : Fin 4) o n) := by
  pointwise [rowBackL]
  split <;> exact congrArg (fun g : Fin 4 => l (ix3 g o n)) (Fin.ext (by show _ = (g.val + 1) % 4; simp only []; omega))

theorem rowOnR_apply (l : FVec Ideal S4x512x1024 .f32) (g : Fin 4) (o : Fin 512) (n : Fin 1024) :
    rowOnR l (ix3 g o n) = l (ix3 (⟨(g.val + 3) % 4, by omega⟩ : Fin 4) o n) := by
  pointwise [rowOnR]
  split <;> exact congrArg (fun g : Fin 4 => l (ix3 g o n)) (Fin.ext (by show _ = (g.val + 3) % 4; simp only []; omega))

theorem rows_at (w : FVec Ideal S4096x1024 .f32) (f : Fin 4096) (n : Fin 1024) :
    rowsV w (ix2 f n) = if f.val / 512 % 2 < 1 then rowBackL (rowsL w) (ix3 (⟨f.val / 1024, by omega⟩ : Fin 4) (⟨f.val % 512, Nat.mod_lt _ (by decide)⟩ : Fin 512) n)
      else rowOnR (rowsR w) (ix3 (⟨f.val / 1024, by omega⟩ : Fin 4) (⟨f.val % 512, Nat.mod_lt _ (by decide)⟩ : Fin 512) n) := by
  pointwise [rowsV]
  rfl

/-- Where a column of head `h` lies, and where the one put there came from. -/
theorem half_of (h : Fin 32) (d : Fin 128) : (at32 h d).val / 512 % 2 < 1 ↔ h.val % 8 < 4 := by
  show (h.val * 128 + d.val) / 512 % 2 < 1 ↔ _
  omega

theorem from_left (h : Fin 32) (d : Fin 128) (q : h.val % 8 < 4) : ((at32 h d).val / 1024 + 1) % 4 * 1024 + (at32 h d).val % 512 = (at32 (from1 h) d).val := by
  unfold from1; rw [if_pos q]
  show ((h.val * 128 + d.val) / 1024 + 1) % 4 * 1024 + (h.val * 128 + d.val) % 512 = (8 * ((h.val / 8 + 1) % 4) + h.val % 8) * 128 + d.val
  omega

theorem from_right (h : Fin 32) (d : Fin 128) (q : ¬h.val % 8 < 4) : ((at32 h d).val / 1024 + 3) % 4 * 1024 + 512 + (at32 h d).val % 512 = (at32 (from1 h) d).val := by
  unfold from1; rw [if_neg q]
  show ((h.val * 128 + d.val) / 1024 + 3) % 4 * 1024 + 512 + (h.val * 128 + d.val) % 512 = (8 * ((h.val / 8 + 3) % 4) + h.val % 8) * 128 + d.val
  omega

theorem cols_apply (w : FVec Ideal S1024x4096 .f32) (e : Fin 1024) (h : Fin 32) (d : Fin 128) : colsV w (ix2 e (at32 h d)) = w (ix2 e (at32 (from1 h) d)) := by
  rw [cols_at]
  by_cases q : h.val % 8 < 4
  · rw [if_pos ((half_of h d).mpr q), backL_apply, colsL_apply]; exact congrArg (fun f : Fin 4096 => w (ix2 e f)) (Fin.ext (from_left h d q))
  · rw [if_neg (fun r => q ((half_of h d).mp r)), onR_apply, colsR_apply]; exact congrArg (fun f : Fin 4096 => w (ix2 e f)) (Fin.ext (from_right h d q))

theorem rows_apply (w : FVec Ideal S4096x1024 .f32) (h : Fin 32) (d : Fin 128) (n : Fin 1024) : rowsV w (ix2 (at32 h d) n) = w (ix2 (at32 (from1 h) d) n) := by
  rw [rows_at]
  by_cases q : h.val % 8 < 4
  · rw [if_pos ((half_of h d).mpr q), rowBackL_apply, rowsL_apply]; exact congrArg (fun f : Fin 4096 => w (ix2 f n)) (Fin.ext (from_left h d q))
  · rw [if_neg (fun r => q ((half_of h d).mp r)), rowOnR_apply, rowsR_apply]; exact congrArg (fun f : Fin 4096 => w (ix2 f n)) (Fin.ext (from_right h d q))

end Cert.MidReferenceIdeal.Slice

end
-- ==== Proof.Mid.Equal.lean ====
module

public import proofs.«01_k».proof.Proof.Equal
public import proofs.«01_k».proof.Proof.Mid.Values
public import proofs.«01_k».proof.Proof.Mid.Ref

@[expose] public section

noncomputable section

namespace Cert.MidIdeal.Slice

open Cert.MidIdeal Cert.MidIdeal.Gen Idealize Idealize.ShloMosaic Idealize.ShloMosaic.TcCoe Idealize.SL.Sem Cert.Soft
open Cert.KernelIdeal.Slice (at8 xA wA oA kA vA real_of_pre ix4_eq rows_idx cols_idx heads_idx)
open Cert.ReferenceIdeal.Slice (at32 outOf outOf_real)
open Cert.MidReferenceIdeal.Slice (from1_brought headsV colsV rowsV cols_apply rows_apply heads_apply)

/-! # The slice between's blocks are its reference's -/

/-- Every head is brought to some device. -/
theorem brought_onto (h : Fin 32) : ∃ (c : Fin 4) (a : Fin 8), h = brought c a := by revert h; decide

/-- Where every device holds its blocks of the reference's arrays, and the precondition holds, its result is its block of the reference's. -/
theorem result_block (m : (ℓ : Loc nD τ sig) → Buf (Elt Ideal) ℓ) (ρ : Dev nD → PrngReg)
    (x : FVec Ideal Cert.ReferenceIdeal.S4x2048x1024 .f32) (wq : FVec Ideal Cert.ReferenceIdeal.S1024x4096 .f32) (k v : FVec Ideal Cert.ReferenceIdeal.S4x2048x32x128 .f32) (wo : FVec Ideal Cert.ReferenceIdeal.S4096x1024 .f32)
    (hp : Cert.Pre_MidIdeal_finite_KernelIdeal m)
    (h0 : ∀ c, xA m c = Layout.block ⟨3, ![1, 2048, 1024]⟩ ⟨3, ![4, 2048, 1024]⟩ 0 4 c x)
    (h1 : ∀ c, wA m c = Layout.block ⟨2, ![1024, 1024]⟩ ⟨2, ![1024, 4096]⟩ 1 4 c wq)
    (h2 : ∀ c, kA m c = k) (h3 : ∀ c, vA m c = v)
    (h4 : ∀ c, oA m c = Layout.block ⟨2, ![1024, 1024]⟩ ⟨2, ![4096, 1024]⟩ 0 4 c wo) (c : Dev nD) :
    finalA m ρ c (3 : Fin 4) = Layout.block ⟨3, ![1, 2048, 1024]⟩ ⟨3, ![4, 2048, 1024]⟩ 0 4 c (outOf headsV x (colsV wq) k v (rowsV wo)) := by
  have hr := fun c => real_of_pre _ _ _ _ _ (hp c)
  have ex : ∀ (c : Dev nD) i e, xA m c (ix3 0 i e) = x (ShloMosaic.ix3 c i e) := fun c i e => by
    rw [h0 c, Layout.block_apply]; exact congrArg x (rows_idx _ c i e)
  have ew : ∀ (c : Dev nD) e a d, wA m c (ix2 e (at8 a d)) = colsV wq (ShloMosaic.ix2 e (at32 (brought c a) d)) := fun c e a d => by
    rw [h1 c, Layout.block_apply, cols_apply, from1_brought]; exact congrArg wq (cols_idx _ c e a d)
  have eo : ∀ (c : Dev nD) a d n, oA m c (ix2 (at8 a d) n) = rowsV wo (ShloMosaic.ix2 (at32 (brought c a) d) n) := fun c a d n => by
    rw [h4 c, Layout.block_apply, rows_apply, from1_brought]; exact congrArg wo (heads_idx _ c a d n)
  have rx : ∀ (b : Fin 4) i e, x (ShloMosaic.ix3 b i e) = ((x (ShloMosaic.ix3 b i e) : EReal).toReal : EReal) := fun b i e => by
    rw [← ex b i e]; exact (hr b).1 _
  have rw' : ∀ e h d, colsV wq (ShloMosaic.ix2 e (at32 h d)) = ((colsV wq (ShloMosaic.ix2 e (at32 h d)) : EReal).toReal : EReal) := fun e h d => by
    obtain ⟨b, a, rfl⟩ := brought_onto h
    rw [← ew b e a d]; exact (hr b).2.1 _
  have rk : ∀ y, k y = ((k y : EReal).toReal : EReal) := fun y => by
    rw [← h2 0]; exact (hr 0).2.2 _
  suffices key : ∀ (i : Fin 2048) (n : Fin 1024), outC m ρ c (ix3 0 i n) = outOf headsV x (colsV wq) k v (rowsV wo) (ShloMosaic.ix3 c i n) by
    refine (finalA_out m ρ c).trans (funext fun y => ?_)
    have hy : y = ix3 0 (y 1) (y 2) := by
      funext t; match t with
      | ⟨0, _⟩ => exact Subsingleton.elim (α := Fin 1) _ _
      | ⟨1, _⟩ => rfl
      | ⟨2, _⟩ => rfl
    refine (congrArg (outC m ρ c) hy).trans ((key (y 1) (y 2)).trans ?_)
    exact (congrArg (outOf headsV x (colsV wq) k v (rowsV wo)) ((congrArg (Layout.Tiles.idx (by decide) c) hy).trans (rows_idx _ c _ _))).symm
  intro i n
  refine (outC_real m ρ (fun b i e => (x (ShloMosaic.ix3 b i e) : EReal).toReal) (fun e h d => (colsV wq (ShloMosaic.ix2 e (at32 h d)) : EReal).toReal)
    (fun b j h d => (k (ShloMosaic.ix4 b j h d) : EReal).toReal) (fun b j h d => v (ShloMosaic.ix4 b j h d)) (fun h d n => rowsV wo (ShloMosaic.ix2 (at32 h d) n)) c
    (fun c i e => (ex c i e).trans (rx c i e)) (fun c e a d => (ew c e a d).trans (rw' _ _ _)) (fun c j a d => ?_) (fun c j a d => ?_) (fun c a d n => eo c a d n) i n).trans
    ((outOf_real x (colsV wq) k v (rowsV wo) _ _ _ rx rw' (fun b j h d => rk _) headsV _ heads_apply c i n).trans (sum_between _ _)).symm
  · rw [h2 c]; exact (congrArg k (ix4_eq _ _ _ _)).trans (rk _)
  · rw [h3 c]; exact congrArg v (ix4_eq _ _ _ _)

end Cert.MidIdeal.Slice

namespace Cert.Proof

open Idealize.ShloMosaic Idealize.SL.Sem

/-- Every device's result of the slice between is its block of its reference's, and the arguments of both end unchanged. -/
theorem algebraic_mid : Cert.algebraic_MidIdeal_MidReferenceIdeal_pre_finite_KernelIdeal := by
  intro m g m' g' hp hb
  refine ⟨Cert.MidReferenceIdeal.Value.res_main_v110 m' 0,
    (θ_run Cert.MidIdeal.defs _ _).mono (fun r h c => ?_) (Cert.MidIdeal.Slice.run_out m g),
    (θ_run Cert.MidReferenceIdeal.defs _ _).mono (fun r h => h 0) (Cert.MidReferenceIdeal.Value.run m' g')⟩
  refine ⟨((h.1 c).2).trans ?_, (h.1 c).1⟩
  rw [Cert.MidReferenceIdeal.Slice.res_eq]
  exact Cert.MidIdeal.Slice.result_block m g _ _ _ _ _ hp (fun c => (hb c).1) (fun c => (hb c).2.1) (fun c => (hb c).2.2.1) (fun c => (hb c).2.2.2.1) (fun c => (hb c).2.2.2.2) c

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Tail
public import proofs.«01_k».proof.Proof.Gen.Tail.Skeleton
public import proofs.«01_k».proof.Proof.Gen.Tail.Loops
public import proofs.«01_k».proof.Proof.Gen.Tail.Launch
public import proofs.«01_k».proof.Proof.Gen.Tail.Points
public import proofs.«01_k».proof.Proof.Gen.Tail.Frame
public import proofs.«01_k».proof.Proof.Gen.TailIdeal
public import proofs.«01_k».proof.Proof.Gen.TailIdeal.Skeleton
public import proofs.«01_k».proof.Proof.Gen.TailIdeal.Loops
public import proofs.«01_k».proof.Proof.Gen.TailIdeal.Launch
public import proofs.«01_k».proof.Proof.Gen.TailIdeal.Points
public import proofs.«01_k».proof.Proof.Gen.TailIdeal.Frame
public import proofs.«01_k».proof.Proof.Gen.TailReferenceIdeal
public import proofs.«01_k».proof.Proof.Gen.TailReferenceIdeal.Run
public import proofs.«01_k».proof.Proof.Gen.Mid
public import proofs.«01_k».proof.Proof.Gen.Mid.Skeleton
public import proofs.«01_k».proof.Proof.Gen.Mid.Loops
public import proofs.«01_k».proof.Proof.Gen.Mid.Launch
public import proofs.«01_k».proof.Proof.Gen.Mid.Points
public import proofs.«01_k».proof.Proof.Gen.Mid.Frame
public import proofs.«01_k».proof.Proof.Gen.MidIdeal
public import proofs.«01_k».proof.Proof.Gen.MidIdeal.Skeleton
public import proofs.«01_k».proof.Proof.Gen.MidIdeal.Loops
public import proofs.«01_k».proof.Proof.Gen.MidIdeal.Launch
public import proofs.«01_k».proof.Proof.Gen.MidIdeal.Points
public import proofs.«01_k».proof.Proof.Gen.MidIdeal.Frame
public import proofs.«01_k».proof.Proof.Gen.MidReferenceIdeal
public import proofs.«01_k».proof.Proof.Gen.MidReferenceIdeal.Run
public import proofs.«01_k».proof.Proof.Launch
public import proofs.«01_k».proof.Proof.Equal
public import proofs.«01_k».proof.Proof.Tail.Launch
public import proofs.«01_k».proof.Proof.Tail.Equal
public import proofs.«01_k».proof.Proof.Mid.Launch
public import proofs.«01_k».proof.Proof.Mid.Equal
public import Idealize.ShloMosaic.Lib.Quiescent
public import Idealize.ShloMosaic.Adequacy
public import Idealize.ShloMosaic.Init

@[expose] public section

noncomputable section

namespace Cert.Proof

open Idealize.ShloMosaic Idealize.SL.Sem

/-! ## The kernels as printed

The run of an ideal kernel is proved for any float values in which a constant may be named. Over words, where a named
constant is its own word, the ideal kernel's bodies are those of the kernel as printed. -/

/-- Over words a named constant is its word. -/
instance namedBits : Named Bits := ⟨fun _ _ {φ} b => FloatOps.ofBits (F := Bits) φ b⟩

theorem bodies_kernel : Cert.Kernel.defs (F := Bits) = Cert.KernelIdeal.defs (F := Bits) :=
  congrArg (Pipeline.defs (Cert.KernelIdeal.pcfgs (F := Bits))) (congrArg Defs.onTc (funext fun l => funext fun a => match l, a with
    | 0, (_, _) => rfl
    | ⟨_ + 1, h⟩, _ => absurd h (Nat.not_lt.2 (Nat.le_add_left _ _))) : Cert.Kernel.defs₀ (F := Bits) = Cert.KernelIdeal.defs₀ (F := Bits))

theorem bodies_tail : Cert.Tail.defs (F := Bits) = Cert.TailIdeal.defs (F := Bits) :=
  congrArg (Pipeline.defs (Cert.TailIdeal.pcfgs (F := Bits))) (congrArg Defs.onTc (funext fun l => funext fun a => match l, a with
    | 0, (_, _) => rfl
    | ⟨_ + 1, h⟩, _ => absurd h (Nat.not_lt.2 (Nat.le_add_left _ _))) : Cert.Tail.defs₀ (F := Bits) = Cert.TailIdeal.defs₀ (F := Bits))

theorem bodies_mid : Cert.Mid.defs (F := Bits) = Cert.MidIdeal.defs (F := Bits) :=
  congrArg (Pipeline.defs (Cert.MidIdeal.pcfgs (F := Bits))) (congrArg Defs.onTc (funext fun l => funext fun a => match l, a with
    | 0, (_, _) => rfl
    | ⟨_ + 1, h⟩, _ => absurd h (Nat.not_lt.2 (Nat.le_add_left _ _))) : Cert.Mid.defs₀ (F := Bits) = Cert.MidIdeal.defs₀ (F := Bits))

/-- The kernel ends with its arguments unchanged and every counter at zero: the run with the result dropped. -/
theorem frame_kernel : Cert.quiescent_Kernel := fun m ρ _ => by
  have h := Cert.KernelIdeal.Slice.run_out (F := Bits) m ρ
  rw [← bodies_kernel] at h
  exact (θ_run (Cert.Kernel.defs (F := Bits)) _ _).mono (fun _ h => ⟨fun c => (h.1 c).1, h.2⟩) h

/-- The same of the second slice. -/
theorem frame_tail : Cert.quiescent_Tail := fun m ρ _ => by
  have h := Cert.TailIdeal.Slice.run_out (F := Bits) m ρ
  rw [← bodies_tail] at h
  exact (θ_run (Cert.Tail.defs (F := Bits)) _ _).mono (fun _ h => ⟨fun c => (h.1 c).1, h.2⟩) h

/-- And of the slice between. -/
theorem frame_mid : Cert.quiescent_Mid := fun m ρ _ => by
  have h := Cert.MidIdeal.Slice.run_out (F := Bits) m ρ
  rw [← bodies_mid] at h
  exact (θ_run (Cert.Mid.defs (F := Bits)) _ _).mono (fun _ h => ⟨fun c => (h.1 c).1, h.2⟩) h

/-! ## The ideal kernels and the references -/

theorem frame_ideal : Cert.quiescent_KernelIdeal := fun m ρ _ =>
  (θ_run Cert.KernelIdeal.defs _ _).mono (fun _ h => ⟨fun c => (h.1 c).1, h.2⟩) (Cert.KernelIdeal.Slice.run_out m ρ)

theorem frame_tail_ideal : Cert.quiescent_TailIdeal := fun m ρ _ =>
  (θ_run Cert.TailIdeal.defs _ _).mono (fun _ h => ⟨fun c => (h.1 c).1, h.2⟩) (Cert.TailIdeal.Slice.run_out m ρ)

theorem frame_mid_ideal : Cert.quiescent_MidIdeal := fun m ρ _ =>
  (θ_run Cert.MidIdeal.defs _ _).mono (fun _ h => ⟨fun c => (h.1 c).1, h.2⟩) (Cert.MidIdeal.Slice.run_out m ρ)

/-- The reference ends with its arguments unchanged; it has no counters. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)

theorem frame_tail_reference : Cert.quiescent_TailReferenceIdeal := fun m ρ _ =>
  (θ_run Cert.TailReferenceIdeal.defs _ _).mono (fun r h => ⟨fun c => (h c).2, sem_eq_zero_of_no_sems (by decide) r.2⟩) (Cert.TailReferenceIdeal.Value.run m ρ)

theorem frame_mid_reference : Cert.quiescent_MidReferenceIdeal := fun m ρ _ =>
  (θ_run Cert.MidReferenceIdeal.defs _ _).mono (fun r h => ⟨fun c => (h c).2, sem_eq_zero_of_no_sems (by decide) r.2⟩) (Cert.MidReferenceIdeal.Value.run m ρ)

/-! ## The mask literal of the kernels stands for −∞ -/

theorem mask_named : Cert.preserves_Kernel_KernelIdeal :=
  IdealRules.named_const.statement Cert.KernelIdeal.κ "mask" .f32 0xCE6E6B28#32 ⊥ rfl

theorem mask_named_tail : Cert.preserves_Tail_TailIdeal :=
  IdealRules.named_const.statement Cert.TailIdeal.κ "mask" .f32 0xCE6E6B28#32 ⊥ rfl

theorem mask_named_mid : Cert.preserves_Mid_MidIdeal :=
  IdealRules.named_const.statement Cert.MidIdeal.κ "mask" .f32 0xCE6E6B28#32 ⊥ rfl

/-- Everything that the certificate states. -/
theorem claim : Cert.Claim := ⟨Cert.Kernel.Gen.facts, Cert.KernelIdeal.Gen.facts, Cert.ReferenceIdeal.Gen.facts,
  Cert.Tail.Gen.facts, Cert.TailIdeal.Gen.facts, Cert.TailReferenceIdeal.Gen.facts,
  Cert.Mid.Gen.facts, Cert.MidIdeal.Gen.facts, Cert.MidReferenceIdeal.Gen.facts,
  Cert.Pre_finite_KernelIdeal.facts, Cert.Pre_finite_ReferenceIdeal.facts,
  frame_kernel, frame_ideal, fun m ρ _ => frame_ideal m ρ trivial, frame_reference, fun m ρ _ => frame_reference m ρ trivial,
  frame_tail, frame_tail_ideal, fun m ρ _ => frame_tail_ideal m ρ trivial, frame_tail_reference, fun m ρ _ => frame_tail_reference m ρ trivial,
  frame_mid, frame_mid_ideal, fun m ρ _ => frame_mid_ideal m ρ trivial, frame_mid_reference, fun m ρ _ => frame_mid_reference m ρ trivial,
  mask_named, algebraic, mask_named_tail, algebraic_tail, mask_named_mid, algebraic_mid⟩

end Cert.Proof

end
